-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_WGuBwd (m : (ℓ : Loc Cert.WGuBwd.nD Cert.WGuBwd.τ Cert.WGuBwd.sig) → Buf (Elt Bits) ℓ) : Prop :=
  True

def Pre_WGuBwdIdeal (m : (ℓ : Loc Cert.WGuBwdIdeal.nD Cert.WGuBwdIdeal.τ Cert.WGuBwdIdeal.sig) → Buf (Elt Ideal) ℓ) : Prop :=
  True

def Pre_WGuRefIdeal (m : (ℓ : Loc Cert.WGuRefIdeal.nD Cert.WGuRefIdeal.τ Cert.WGuRefIdeal.sig) → Buf (Elt Ideal) ℓ) : Prop :=
  True

def Pre_WDownBwd (m : (ℓ : Loc Cert.WDownBwd.nD Cert.WDownBwd.τ Cert.WDownBwd.sig) → Buf (Elt Bits) ℓ) : Prop :=
  True

def Pre_WDownBwdIdeal (m : (ℓ : Loc Cert.WDownBwdIdeal.nD Cert.WDownBwdIdeal.τ Cert.WDownBwdIdeal.sig) → Buf (Elt Ideal) ℓ) : Prop :=
  True

def Pre_WDownRefIdeal (m : (ℓ : Loc Cert.WDownRefIdeal.nD Cert.WDownRefIdeal.τ Cert.WDownRefIdeal.sig) → Buf (Elt Ideal) ℓ) : Prop :=
  True

def Pre_WInBwd (m : (ℓ : Loc Cert.WInBwd.nD Cert.WInBwd.τ Cert.WInBwd.sig) → Buf (Elt Bits) ℓ) : Prop :=
  True

def Pre_WInBwdIdeal (m : (ℓ : Loc Cert.WInBwdIdeal.nD Cert.WInBwdIdeal.τ Cert.WInBwdIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_WOBwd (m : (ℓ : Loc Cert.WOBwd.nD Cert.WOBwd.τ Cert.WOBwd.sig) → Buf (Elt Bits) ℓ) : Prop :=
  True

def Pre_WOBwdIdeal (m : (ℓ : Loc Cert.WOBwdIdeal.nD Cert.WOBwdIdeal.τ Cert.WOBwdIdeal.sig) → Buf (Elt Ideal) ℓ) : Prop :=
  True

def Pre_WORefIdeal (m : (ℓ : Loc Cert.WORefIdeal.nD Cert.WORefIdeal.τ Cert.WORefIdeal.sig) → Buf (Elt Ideal) ℓ) : Prop :=
  True

def Pre_DxBwd (m : (ℓ : Loc Cert.DxBwd.nD Cert.DxBwd.τ Cert.DxBwd.sig) → Buf (Elt Bits) ℓ) : Prop :=
  True

def Pre_DxBwdIdeal (m : (ℓ : Loc Cert.DxBwdIdeal.nD Cert.DxBwdIdeal.τ Cert.DxBwdIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdIdeal_real_inputs [hPre_real_inputs : Cert.Pre_real_inputs.Facts] (m : (ℓ : Loc Cert.MlpBwdIdeal.nD Cert.MlpBwdIdeal.τ Cert.MlpBwdIdeal.sig) → Buf (Elt Ideal) ℓ) : Prop :=
  ∀ c : Dev Cert.MlpBwdIdeal.nD,
    (Cert.Pre_real_inputs.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_real_inputs [hPre_real_inputs : Cert.Pre_real_inputs.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_real_inputs.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9))) = (fun _ => 1#1)

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_WoLnFwd (m : (ℓ : Loc Cert.WoLnFwd.nD Cert.WoLnFwd.τ Cert.WoLnFwd.sig) → Buf (Elt Bits) ℓ) : Prop :=
  True

def Pre_WoLnFwdIdeal (m : (ℓ : Loc Cert.WoLnFwdIdeal.nD Cert.WoLnFwdIdeal.τ Cert.WoLnFwdIdeal.sig) → Buf (Elt Ideal) ℓ) : Prop :=
  True

def Pre_WoLnRefIdeal (m : (ℓ : Loc Cert.WoLnRefIdeal.nD Cert.WoLnRefIdeal.τ Cert.WoLnRefIdeal.sig) → Buf (Elt Ideal) ℓ) : Prop :=
  True

def Pre_MlpFFwd (m : (ℓ : Loc Cert.MlpFFwd.nD Cert.MlpFFwd.τ Cert.MlpFFwd.sig) → Buf (Elt Bits) ℓ) : Prop :=
  True

def Pre_MlpFFwdIdeal (m : (ℓ : Loc Cert.MlpFFwdIdeal.nD Cert.MlpFFwdIdeal.τ Cert.MlpFFwdIdeal.sig) → Buf (Elt Ideal) ℓ) : Prop :=
  True

def Pre_MlpFRefIdeal (m : (ℓ : Loc Cert.MlpFRefIdeal.nD Cert.MlpFRefIdeal.τ Cert.MlpFRefIdeal.sig) → Buf (Elt Ideal) ℓ) : Prop :=
  True

def Pre_ConvFFwd (m : (ℓ : Loc Cert.ConvFFwd.nD Cert.ConvFFwd.τ Cert.ConvFFwd.sig) → Buf (Elt Bits) ℓ) : Prop :=
  True

def Pre_ConvFFwdIdeal (m : (ℓ : Loc Cert.ConvFFwdIdeal.nD Cert.ConvFFwdIdeal.τ Cert.ConvFFwdIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_LossFwd (m : (ℓ : Loc Cert.LossFwd.nD Cert.LossFwd.τ Cert.LossFwd.sig) → Buf (Elt Bits) ℓ) : Prop :=
  True

def Pre_LossFwdIdeal (m : (ℓ : Loc Cert.LossFwdIdeal.nD Cert.LossFwdIdeal.τ Cert.LossFwdIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamLUpd (m : (ℓ : Loc Cert.AdamLUpd.nD Cert.AdamLUpd.τ Cert.AdamLUpd.sig) → Buf (Elt Bits) ℓ) : Prop :=
  True

def Pre_AdamLUpdIdeal (m : (ℓ : Loc Cert.AdamLUpdIdeal.nD Cert.AdamLUpdIdeal.τ Cert.AdamLUpdIdeal.sig) → Buf (Elt Ideal) ℓ) : Prop :=
  True

def Pre_AdamLRefIdeal (m : (ℓ : Loc Cert.AdamLRefIdeal.nD Cert.AdamLRefIdeal.τ Cert.AdamLRefIdeal.sig) → Buf (Elt Ideal) ℓ) : Prop :=
  True

def Pre_PoolFFwd (m : (ℓ : Loc Cert.PoolFFwd.nD Cert.PoolFFwd.τ Cert.PoolFFwd.sig) → Buf (Elt Bits) ℓ) : Prop :=
  True

def Pre_PoolFFwdIdeal (m : (ℓ : Loc Cert.PoolFFwdIdeal.nD Cert.PoolFFwdIdeal.τ Cert.PoolFFwdIdeal.sig) → Buf (Elt Ideal) ℓ) : Prop :=
  True

def Pre_PoolFFwdIdeal_real_pooled [hPre_real_pooled : Cert.Pre_real_pooled.Facts] (m : (ℓ : Loc Cert.PoolFFwdIdeal.nD Cert.PoolFFwdIdeal.τ Cert.PoolFFwdIdeal.sig) → Buf (Elt Ideal) ℓ) : Prop :=
  ∀ c : Dev Cert.PoolFFwdIdeal.nD,
    (Cert.Pre_real_pooled.fn (F := Ideal) (m ((c.tc : Thread Cert.PoolFFwdIdeal.nD Cert.PoolFFwdIdeal.τ).loc Cert.PoolFFwdIdeal.main_arg0)) (m ((c.tc : Thread Cert.PoolFFwdIdeal.nD Cert.PoolFFwdIdeal.τ).loc Cert.PoolFFwdIdeal.main_arg1)) (m ((c.tc : Thread Cert.PoolFFwdIdeal.nD Cert.PoolFFwdIdeal.τ).loc Cert.PoolFFwdIdeal.main_arg2))) = (fun _ => 1#1)

def Pre_PoolFRefIdeal (m : (ℓ : Loc Cert.PoolFRefIdeal.nD Cert.PoolFRefIdeal.τ Cert.PoolFRefIdeal.sig) → Buf (Elt Ideal) ℓ) : Prop :=
  True

def Pre_PoolFRefIdeal_real_pooled [hPre_real_pooled : Cert.Pre_real_pooled.Facts] (m : (ℓ : Loc Cert.PoolFRefIdeal.nD Cert.PoolFRefIdeal.τ Cert.PoolFRefIdeal.sig) → Buf (Elt Ideal) ℓ) : Prop :=
  ∀ c : Dev Cert.PoolFRefIdeal.nD,
    (Cert.Pre_real_pooled.fn (F := Ideal) (m ((c.tc : Thread Cert.PoolFRefIdeal.nD Cert.PoolFRefIdeal.τ).loc Cert.PoolFRefIdeal.main_arg0)) (m ((c.tc : Thread Cert.PoolFRefIdeal.nD Cert.PoolFRefIdeal.τ).loc Cert.PoolFRefIdeal.main_arg1)) (m ((c.tc : Thread Cert.PoolFRefIdeal.nD Cert.PoolFRefIdeal.τ).loc Cert.PoolFRefIdeal.main_arg2))) = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_real_pooled_back [hPre_real_pooled_back : Cert.Pre_real_pooled_back.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_real_pooled_back.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_real_pooled_back [hPre_real_pooled_back : Cert.Pre_real_pooled_back.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_real_pooled_back.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_WGuBwd [hWGuBwd : Cert.WGuBwd.Facts] : Prop :=
  ∀ (m : (ℓ : Loc Cert.WGuBwd.nD Cert.WGuBwd.τ Cert.WGuBwd.sig) → Buf (Elt Bits) ℓ) (g : Dev Cert.WGuBwd.nD → PrngReg), Pre_WGuBwd m →
    θ_run (Cert.WGuBwd.defs (F := Bits)) (onTc (τ := Cert.WGuBwd.τ) (Cert.WGuBwd.main (F := Bits))) ⟨m, fun _ => 0, g⟩ (fun r => (∀ c : Dev Cert.WGuBwd.nD,
      r.2.mem ((c.tc : Thread Cert.WGuBwd.nD Cert.WGuBwd.τ).loc Cert.WGuBwd.main_arg0) = m ((c.tc : Thread Cert.WGuBwd.nD Cert.WGuBwd.τ).loc Cert.WGuBwd.main_arg0)
      ∧ r.2.mem ((c.tc : Thread Cert.WGuBwd.nD Cert.WGuBwd.τ).loc Cert.WGuBwd.main_arg1) = m ((c.tc : Thread Cert.WGuBwd.nD Cert.WGuBwd.τ).loc Cert.WGuBwd.main_arg1)
      ∧ r.2.mem ((c.tc : Thread Cert.WGuBwd.nD Cert.WGuBwd.τ).loc Cert.WGuBwd.main_arg2) = m ((c.tc : Thread Cert.WGuBwd.nD Cert.WGuBwd.τ).loc Cert.WGuBwd.main_arg2))
      ∧ r.2.sem = fun _ => 0)

def quiescent_WGuBwdIdeal [hWGuBwdIdeal : Cert.WGuBwdIdeal.Facts] : Prop :=
  ∀ (m : (ℓ : Loc Cert.WGuBwdIdeal.nD Cert.WGuBwdIdeal.τ Cert.WGuBwdIdeal.sig) → Buf (Elt Ideal) ℓ) (g : Dev Cert.WGuBwdIdeal.nD → PrngReg), Pre_WGuBwdIdeal m →
    θ_run (Cert.WGuBwdIdeal.defs (F := Ideal)) (onTc (τ := Cert.WGuBwdIdeal.τ) (Cert.WGuBwdIdeal.main (F := Ideal))) ⟨m, fun _ => 0, g⟩ (fun r => (∀ c : Dev Cert.WGuBwdIdeal.nD,
      r.2.mem ((c.tc : Thread Cert.WGuBwdIdeal.nD Cert.WGuBwdIdeal.τ).loc Cert.WGuBwdIdeal.main_arg0) = m ((c.tc : Thread Cert.WGuBwdIdeal.nD Cert.WGuBwdIdeal.τ).loc Cert.WGuBwdIdeal.main_arg0)
      ∧ r.2.mem ((c.tc : Thread Cert.WGuBwdIdeal.nD Cert.WGuBwdIdeal.τ).loc Cert.WGuBwdIdeal.main_arg1) = m ((c.tc : Thread Cert.WGuBwdIdeal.nD Cert.WGuBwdIdeal.τ).loc Cert.WGuBwdIdeal.main_arg1)
      ∧ r.2.mem ((c.tc : Thread Cert.WGuBwdIdeal.nD Cert.WGuBwdIdeal.τ).loc Cert.WGuBwdIdeal.main_arg2) = m ((c.tc : Thread Cert.WGuBwdIdeal.nD Cert.WGuBwdIdeal.τ).loc Cert.WGuBwdIdeal.main_arg2))
      ∧ r.2.sem = fun _ => 0)

def quiescent_WGuRefIdeal [hWGuRefIdeal : Cert.WGuRefIdeal.Facts] : Prop :=
  ∀ (m : (ℓ : Loc Cert.WGuRefIdeal.nD Cert.WGuRefIdeal.τ Cert.WGuRefIdeal.sig) → Buf (Elt Ideal) ℓ) (g : Dev Cert.WGuRefIdeal.nD → PrngReg), Pre_WGuRefIdeal m →
    θ_run (Cert.WGuRefIdeal.defs (F := Ideal)) (onTc (τ := Cert.WGuRefIdeal.τ) (Cert.WGuRefIdeal.main (F := Ideal))) ⟨m, fun _ => 0, g⟩ (fun r => (∀ c : Dev Cert.WGuRefIdeal.nD,
      r.2.mem ((c.tc : Thread Cert.WGuRefIdeal.nD Cert.WGuRefIdeal.τ).loc Cert.WGuRefIdeal.main_arg0) = m ((c.tc : Thread Cert.WGuRefIdeal.nD Cert.WGuRefIdeal.τ).loc Cert.WGuRefIdeal.main_arg0)
      ∧ r.2.mem ((c.tc : Thread Cert.WGuRefIdeal.nD Cert.WGuRefIdeal.τ).loc Cert.WGuRefIdeal.main_arg1) = m ((c.tc : Thread Cert.WGuRefIdeal.nD Cert.WGuRefIdeal.τ).loc Cert.WGuRefIdeal.main_arg1)
      ∧ r.2.mem ((c.tc : Thread Cert.WGuRefIdeal.nD Cert.WGuRefIdeal.τ).loc Cert.WGuRefIdeal.main_arg2) = m ((c.tc : Thread Cert.WGuRefIdeal.nD Cert.WGuRefIdeal.τ).loc Cert.WGuRefIdeal.main_arg2))
      ∧ r.2.sem = fun _ => 0)

def quiescent_WDownBwd [hWDownBwd : Cert.WDownBwd.Facts] : Prop :=
  ∀ (m : (ℓ : Loc Cert.WDownBwd.nD Cert.WDownBwd.τ Cert.WDownBwd.sig) → Buf (Elt Bits) ℓ) (g : Dev Cert.WDownBwd.nD → PrngReg), Pre_WDownBwd m →
    θ_run (Cert.WDownBwd.defs (F := Bits)) (onTc (τ := Cert.WDownBwd.τ) (Cert.WDownBwd.main (F := Bits))) ⟨m, fun _ => 0, g⟩ (fun r => (∀ c : Dev Cert.WDownBwd.nD,
      r.2.mem ((c.tc : Thread Cert.WDownBwd.nD Cert.WDownBwd.τ).loc Cert.WDownBwd.main_arg0) = m ((c.tc : Thread Cert.WDownBwd.nD Cert.WDownBwd.τ).loc Cert.WDownBwd.main_arg0)
      ∧ r.2.mem ((c.tc : Thread Cert.WDownBwd.nD Cert.WDownBwd.τ).loc Cert.WDownBwd.main_arg1) = m ((c.tc : Thread Cert.WDownBwd.nD Cert.WDownBwd.τ).loc Cert.WDownBwd.main_arg1)
      ∧ r.2.mem ((c.tc : Thread Cert.WDownBwd.nD Cert.WDownBwd.τ).loc Cert.WDownBwd.main_arg2) = m ((c.tc : Thread Cert.WDownBwd.nD Cert.WDownBwd.τ).loc Cert.WDownBwd.main_arg2))
      ∧ r.2.sem = fun _ => 0)

def quiescent_WDownBwdIdeal [hWDownBwdIdeal : Cert.WDownBwdIdeal.Facts] : Prop :=
  ∀ (m : (ℓ : Loc Cert.WDownBwdIdeal.nD Cert.WDownBwdIdeal.τ Cert.WDownBwdIdeal.sig) → Buf (Elt Ideal) ℓ) (g : Dev Cert.WDownBwdIdeal.nD → PrngReg), Pre_WDownBwdIdeal m →
    θ_run (Cert.WDownBwdIdeal.defs (F := Ideal)) (onTc (τ := Cert.WDownBwdIdeal.τ) (Cert.WDownBwdIdeal.main (F := Ideal))) ⟨m, fun _ => 0, g⟩ (fun r => (∀ c : Dev Cert.WDownBwdIdeal.nD,
      r.2.mem ((c.tc : Thread Cert.WDownBwdIdeal.nD Cert.WDownBwdIdeal.τ).loc Cert.WDownBwdIdeal.main_arg0) = m ((c.tc : Thread Cert.WDownBwdIdeal.nD Cert.WDownBwdIdeal.τ).loc Cert.WDownBwdIdeal.main_arg0)
      ∧ r.2.mem ((c.tc : Thread Cert.WDownBwdIdeal.nD Cert.WDownBwdIdeal.τ).loc Cert.WDownBwdIdeal.main_arg1) = m ((c.tc : Thread Cert.WDownBwdIdeal.nD Cert.WDownBwdIdeal.τ).loc Cert.WDownBwdIdeal.main_arg1)
      ∧ r.2.mem ((c.tc : Thread Cert.WDownBwdIdeal.nD Cert.WDownBwdIdeal.τ).loc Cert.WDownBwdIdeal.main_arg2) = m ((c.tc : Thread Cert.WDownBwdIdeal.nD Cert.WDownBwdIdeal.τ).loc Cert.WDownBwdIdeal.main_arg2))
      ∧ r.2.sem = fun _ => 0)

def quiescent_WDownRefIdeal [hWDownRefIdeal : Cert.WDownRefIdeal.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1)
      ∧ r.2.mem ((c.tc : Thread Cert.WDownRefIdeal.nD Cert.WDownRefIdeal.τ).loc Cert.WDownRefIdeal.main_arg2) = m ((c.tc : Thread Cert.WDownRefIdeal.nD Cert.WDownRefIdeal.τ).loc Cert.WDownRefIdeal.main_arg2))
      ∧ r.2.sem = fun _ => 0)

def quiescent_WInBwd [hWInBwd : Cert.WInBwd.Facts] : Prop :=
  ∀ (m : (ℓ : Loc Cert.WInBwd.nD Cert.WInBwd.τ Cert.WInBwd.sig) → Buf (Elt Bits) ℓ) (g : Dev Cert.WInBwd.nD → PrngReg), Pre_WInBwd m →
    θ_run (Cert.WInBwd.defs (F := Bits)) (onTc (τ := Cert.WInBwd.τ) (Cert.WInBwd.main (F := Bits))) ⟨m, fun _ => 0, g⟩ (fun r => (∀ c : Dev Cert.WInBwd.nD,
      r.2.mem ((c.tc : Thread Cert.WInBwd.nD Cert.WInBwd.τ).loc Cert.WInBwd.main_arg0) = m ((c.tc : Thread Cert.WInBwd.nD Cert.WInBwd.τ).loc Cert.WInBwd.main_arg0)
      ∧ r.2.mem ((c.tc : Thread Cert.WInBwd.nD Cert.WInBwd.τ).loc Cert.WInBwd.main_arg1) = m ((c.tc : Thread Cert.WInBwd.nD Cert.WInBwd.τ).loc Cert.WInBwd.main_arg1)
      ∧ r.2.mem ((c.tc : Thread Cert.WInBwd.nD Cert.WInBwd.τ).loc Cert.WInBwd.main_arg2) = m ((c.tc : Thread Cert.WInBwd.nD Cert.WInBwd.τ).loc Cert.WInBwd.main_arg2)
      ∧ r.2.mem ((c.tc : Thread Cert.WInBwd.nD Cert.WInBwd.τ).loc Cert.WInBwd.main_arg3) = m ((c.tc : Thread Cert.WInBwd.nD Cert.WInBwd.τ).loc Cert.WInBwd.main_arg3)
      ∧ r.2.mem ((c.tc : Thread Cert.WInBwd.nD Cert.WInBwd.τ).loc Cert.WInBwd.main_arg4) = m ((c.tc : Thread Cert.WInBwd.nD Cert.WInBwd.τ).loc Cert.WInBwd.main_arg4)
      ∧ r.2.mem ((c.tc : Thread Cert.WInBwd.nD Cert.WInBwd.τ).loc Cert.WInBwd.main_arg5) = m ((c.tc : Thread Cert.WInBwd.nD Cert.WInBwd.τ).loc Cert.WInBwd.main_arg5)
      ∧ r.2.mem ((c.tc : Thread Cert.WInBwd.nD Cert.WInBwd.τ).loc Cert.WInBwd.main_arg6) = m ((c.tc : Thread Cert.WInBwd.nD Cert.WInBwd.τ).loc Cert.WInBwd.main_arg6))
      ∧ r.2.sem = fun _ => 0)

def quiescent_WInBwdIdeal [hWInBwdIdeal : Cert.WInBwdIdeal.Facts] : Prop :=
  ∀ (m : (ℓ : Loc Cert.WInBwdIdeal.nD Cert.WInBwdIdeal.τ Cert.WInBwdIdeal.sig) → Buf (Elt Ideal) ℓ) (g : Dev Cert.WInBwdIdeal.nD → PrngReg), Pre_WInBwdIdeal m →
    θ_run (Cert.WInBwdIdeal.defs (F := Ideal)) (onTc (τ := Cert.WInBwdIdeal.τ) (Cert.WInBwdIdeal.main (F := Ideal))) ⟨m, fun _ => 0, g⟩ (fun r => (∀ c : Dev Cert.WInBwdIdeal.nD,
      r.2.mem ((c.tc : Thread Cert.WInBwdIdeal.nD Cert.WInBwdIdeal.τ).loc Cert.WInBwdIdeal.main_arg0) = m ((c.tc : Thread Cert.WInBwdIdeal.nD Cert.WInBwdIdeal.τ).loc Cert.WInBwdIdeal.main_arg0)
      ∧ r.2.mem ((c.tc : Thread Cert.WInBwdIdeal.nD Cert.WInBwdIdeal.τ).loc Cert.WInBwdIdeal.main_arg1) = m ((c.tc : Thread Cert.WInBwdIdeal.nD Cert.WInBwdIdeal.τ).loc Cert.WInBwdIdeal.main_arg1)
      ∧ r.2.mem ((c.tc : Thread Cert.WInBwdIdeal.nD Cert.WInBwdIdeal.τ).loc Cert.WInBwdIdeal.main_arg2) = m ((c.tc : Thread Cert.WInBwdIdeal.nD Cert.WInBwdIdeal.τ).loc Cert.WInBwdIdeal.main_arg2)
      ∧ r.2.mem ((c.tc : Thread Cert.WInBwdIdeal.nD Cert.WInBwdIdeal.τ).loc Cert.WInBwdIdeal.main_arg3) = m ((c.tc : Thread Cert.WInBwdIdeal.nD Cert.WInBwdIdeal.τ).loc Cert.WInBwdIdeal.main_arg3)
      ∧ r.2.mem ((c.tc : Thread Cert.WInBwdIdeal.nD Cert.WInBwdIdeal.τ).loc Cert.WInBwdIdeal.main_arg4) = m ((c.tc : Thread Cert.WInBwdIdeal.nD Cert.WInBwdIdeal.τ).loc Cert.WInBwdIdeal.main_arg4)
      ∧ r.2.mem ((c.tc : Thread Cert.WInBwdIdeal.nD Cert.WInBwdIdeal.τ).loc Cert.WInBwdIdeal.main_arg5) = m ((c.tc : Thread Cert.WInBwdIdeal.nD Cert.WInBwdIdeal.τ).loc Cert.WInBwdIdeal.main_arg5)
      ∧ r.2.mem ((c.tc : Thread Cert.WInBwdIdeal.nD Cert.WInBwdIdeal.τ).loc Cert.WInBwdIdeal.main_arg6) = m ((c.tc : Thread Cert.WInBwdIdeal.nD Cert.WInBwdIdeal.τ).loc Cert.WInBwdIdeal.main_arg6))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1)
      ∧ r.2.mem ((c.tc : Thread Cert.WInRefIdeal.nD Cert.WInRefIdeal.τ).loc Cert.WInRefIdeal.main_arg2) = m ((c.tc : Thread Cert.WInRefIdeal.nD Cert.WInRefIdeal.τ).loc Cert.WInRefIdeal.main_arg2)
      ∧ r.2.mem ((c.tc : Thread Cert.WInRefIdeal.nD Cert.WInRefIdeal.τ).loc Cert.WInRefIdeal.main_arg3) = m ((c.tc : Thread Cert.WInRefIdeal.nD Cert.WInRefIdeal.τ).loc Cert.WInRefIdeal.main_arg3)
      ∧ r.2.mem ((c.tc : Thread Cert.WInRefIdeal.nD Cert.WInRefIdeal.τ).loc Cert.WInRefIdeal.main_arg4) = m ((c.tc : Thread Cert.WInRefIdeal.nD Cert.WInRefIdeal.τ).loc Cert.WInRefIdeal.main_arg4)
      ∧ r.2.mem ((c.tc : Thread Cert.WInRefIdeal.nD Cert.WInRefIdeal.τ).loc Cert.WInRefIdeal.main_arg5) = m ((c.tc : Thread Cert.WInRefIdeal.nD Cert.WInRefIdeal.τ).loc Cert.WInRefIdeal.main_arg5)
      ∧ r.2.mem ((c.tc : Thread Cert.WInRefIdeal.nD Cert.WInRefIdeal.τ).loc Cert.WInRefIdeal.main_arg6) = m ((c.tc : Thread Cert.WInRefIdeal.nD Cert.WInRefIdeal.τ).loc Cert.WInRefIdeal.main_arg6))
      ∧ r.2.sem = fun _ => 0)

def quiescent_WOBwd [hWOBwd : Cert.WOBwd.Facts] : Prop :=
  ∀ (m : (ℓ : Loc Cert.WOBwd.nD Cert.WOBwd.τ Cert.WOBwd.sig) → Buf (Elt Bits) ℓ) (g : Dev Cert.WOBwd.nD → PrngReg), Pre_WOBwd m →
    θ_run (Cert.WOBwd.defs (F := Bits)) (onTc (τ := Cert.WOBwd.τ) (Cert.WOBwd.main (F := Bits))) ⟨m, fun _ => 0, g⟩ (fun r => (∀ c : Dev Cert.WOBwd.nD,
      r.2.mem ((c.tc : Thread Cert.WOBwd.nD Cert.WOBwd.τ).loc Cert.WOBwd.main_arg0) = m ((c.tc : Thread Cert.WOBwd.nD Cert.WOBwd.τ).loc Cert.WOBwd.main_arg0)
      ∧ r.2.mem ((c.tc : Thread Cert.WOBwd.nD Cert.WOBwd.τ).loc Cert.WOBwd.main_arg1) = m ((c.tc : Thread Cert.WOBwd.nD Cert.WOBwd.τ).loc Cert.WOBwd.main_arg1)
      ∧ r.2.mem ((c.tc : Thread Cert.WOBwd.nD Cert.WOBwd.τ).loc Cert.WOBwd.main_arg2) = m ((c.tc : Thread Cert.WOBwd.nD Cert.WOBwd.τ).loc Cert.WOBwd.main_arg2)
      ∧ r.2.mem ((c.tc : Thread Cert.WOBwd.nD Cert.WOBwd.τ).loc Cert.WOBwd.main_arg3) = m ((c.tc : Thread Cert.WOBwd.nD Cert.WOBwd.τ).loc Cert.WOBwd.main_arg3))
      ∧ r.2.sem = fun _ => 0)

def quiescent_WOBwdIdeal [hWOBwdIdeal : Cert.WOBwdIdeal.Facts] : Prop :=
  ∀ (m : (ℓ : Loc Cert.WOBwdIdeal.nD Cert.WOBwdIdeal.τ Cert.WOBwdIdeal.sig) → Buf (Elt Ideal) ℓ) (g : Dev Cert.WOBwdIdeal.nD → PrngReg), Pre_WOBwdIdeal m →
    θ_run (Cert.WOBwdIdeal.defs (F := Ideal)) (onTc (τ := Cert.WOBwdIdeal.τ) (Cert.WOBwdIdeal.main (F := Ideal))) ⟨m, fun _ => 0, g⟩ (fun r => (∀ c : Dev Cert.WOBwdIdeal.nD,
      r.2.mem ((c.tc : Thread Cert.WOBwdIdeal.nD Cert.WOBwdIdeal.τ).loc Cert.WOBwdIdeal.main_arg0) = m ((c.tc : Thread Cert.WOBwdIdeal.nD Cert.WOBwdIdeal.τ).loc Cert.WOBwdIdeal.main_arg0)
      ∧ r.2.mem ((c.tc : Thread Cert.WOBwdIdeal.nD Cert.WOBwdIdeal.τ).loc Cert.WOBwdIdeal.main_arg1) = m ((c.tc : Thread Cert.WOBwdIdeal.nD Cert.WOBwdIdeal.τ).loc Cert.WOBwdIdeal.main_arg1)
      ∧ r.2.mem ((c.tc : Thread Cert.WOBwdIdeal.nD Cert.WOBwdIdeal.τ).loc Cert.WOBwdIdeal.main_arg2) = m ((c.tc : Thread Cert.WOBwdIdeal.nD Cert.WOBwdIdeal.τ).loc Cert.WOBwdIdeal.main_arg2)
      ∧ r.2.mem ((c.tc : Thread Cert.WOBwdIdeal.nD Cert.WOBwdIdeal.τ).loc Cert.WOBwdIdeal.main_arg3) = m ((c.tc : Thread Cert.WOBwdIdeal.nD Cert.WOBwdIdeal.τ).loc Cert.WOBwdIdeal.main_arg3))
      ∧ r.2.sem = fun _ => 0)

def quiescent_WORefIdeal [hWORefIdeal : Cert.WORefIdeal.Facts] : Prop :=
  ∀ (m : (ℓ : Loc Cert.WORefIdeal.nD Cert.WORefIdeal.τ Cert.WORefIdeal.sig) → Buf (Elt Ideal) ℓ) (g : Dev Cert.WORefIdeal.nD → PrngReg), Pre_WORefIdeal m →
    θ_run (Cert.WORefIdeal.defs (F := Ideal)) (onTc (τ := Cert.WORefIdeal.τ) (Cert.WORefIdeal.main (F := Ideal))) ⟨m, fun _ => 0, g⟩ (fun r => (∀ c : Dev Cert.WORefIdeal.nD,
      r.2.mem ((c.tc : Thread Cert.WORefIdeal.nD Cert.WORefIdeal.τ).loc Cert.WORefIdeal.main_arg0) = m ((c.tc : Thread Cert.WORefIdeal.nD Cert.WORefIdeal.τ).loc Cert.WORefIdeal.main_arg0)
      ∧ r.2.mem ((c.tc : Thread Cert.WORefIdeal.nD Cert.WORefIdeal.τ).loc Cert.WORefIdeal.main_arg1) = m ((c.tc : Thread Cert.WORefIdeal.nD Cert.WORefIdeal.τ).loc Cert.WORefIdeal.main_arg1)
      ∧ r.2.mem ((c.tc : Thread Cert.WORefIdeal.nD Cert.WORefIdeal.τ).loc Cert.WORefIdeal.main_arg2) = m ((c.tc : Thread Cert.WORefIdeal.nD Cert.WORefIdeal.τ).loc Cert.WORefIdeal.main_arg2)
      ∧ r.2.mem ((c.tc : Thread Cert.WORefIdeal.nD Cert.WORefIdeal.τ).loc Cert.WORefIdeal.main_arg3) = m ((c.tc : Thread Cert.WORefIdeal.nD Cert.WORefIdeal.τ).loc Cert.WORefIdeal.main_arg3))
      ∧ r.2.sem = fun _ => 0)

def quiescent_DxBwd [hDxBwd : Cert.DxBwd.Facts] : Prop :=
  ∀ (m : (ℓ : Loc Cert.DxBwd.nD Cert.DxBwd.τ Cert.DxBwd.sig) → Buf (Elt Bits) ℓ) (g : Dev Cert.DxBwd.nD → PrngReg), Pre_DxBwd m →
    θ_run (Cert.DxBwd.defs (F := Bits)) (onTc (τ := Cert.DxBwd.τ) (Cert.DxBwd.main (F := Bits))) ⟨m, fun _ => 0, g⟩ (fun r => (∀ c : Dev Cert.DxBwd.nD,
      r.2.mem ((c.tc : Thread Cert.DxBwd.nD Cert.DxBwd.τ).loc Cert.DxBwd.main_arg0) = m ((c.tc : Thread Cert.DxBwd.nD Cert.DxBwd.τ).loc Cert.DxBwd.main_arg0)
      ∧ r.2.mem ((c.tc : Thread Cert.DxBwd.nD Cert.DxBwd.τ).loc Cert.DxBwd.main_arg1) = m ((c.tc : Thread Cert.DxBwd.nD Cert.DxBwd.τ).loc Cert.DxBwd.main_arg1)
      ∧ r.2.mem ((c.tc : Thread Cert.DxBwd.nD Cert.DxBwd.τ).loc Cert.DxBwd.main_arg2) = m ((c.tc : Thread Cert.DxBwd.nD Cert.DxBwd.τ).loc Cert.DxBwd.main_arg2)
      ∧ r.2.mem ((c.tc : Thread Cert.DxBwd.nD Cert.DxBwd.τ).loc Cert.DxBwd.main_arg3) = m ((c.tc : Thread Cert.DxBwd.nD Cert.DxBwd.τ).loc Cert.DxBwd.main_arg3)
      ∧ r.2.mem ((c.tc : Thread Cert.DxBwd.nD Cert.DxBwd.τ).loc Cert.DxBwd.main_arg4) = m ((c.tc : Thread Cert.DxBwd.nD Cert.DxBwd.τ).loc Cert.DxBwd.main_arg4)
      ∧ r.2.mem ((c.tc : Thread Cert.DxBwd.nD Cert.DxBwd.τ).loc Cert.DxBwd.main_arg5) = m ((c.tc : Thread Cert.DxBwd.nD Cert.DxBwd.τ).loc Cert.DxBwd.main_arg5)
      ∧ r.2.mem ((c.tc : Thread Cert.DxBwd.nD Cert.DxBwd.τ).loc Cert.DxBwd.main_arg6) = m ((c.tc : Thread Cert.DxBwd.nD Cert.DxBwd.τ).loc Cert.DxBwd.main_arg6)
      ∧ r.2.mem ((c.tc : Thread Cert.DxBwd.nD Cert.DxBwd.τ).loc Cert.DxBwd.main_arg7) = m ((c.tc : Thread Cert.DxBwd.nD Cert.DxBwd.τ).loc Cert.DxBwd.main_arg7)
      ∧ r.2.mem ((c.tc : Thread Cert.DxBwd.nD Cert.DxBwd.τ).loc Cert.DxBwd.main_arg8) = m ((c.tc : Thread Cert.DxBwd.nD Cert.DxBwd.τ).loc Cert.DxBwd.main_arg8))
      ∧ r.2.sem = fun _ => 0)

def quiescent_DxBwdIdeal [hDxBwdIdeal : Cert.DxBwdIdeal.Facts] : Prop :=
  ∀ (m : (ℓ : Loc Cert.DxBwdIdeal.nD Cert.DxBwdIdeal.τ Cert.DxBwdIdeal.sig) → Buf (Elt Ideal) ℓ) (g : Dev Cert.DxBwdIdeal.nD → PrngReg), Pre_DxBwdIdeal m →
    θ_run (Cert.DxBwdIdeal.defs (F := Ideal)) (onTc (τ := Cert.DxBwdIdeal.τ) (Cert.DxBwdIdeal.main (F := Ideal))) ⟨m, fun _ => 0, g⟩ (fun r => (∀ c : Dev Cert.DxBwdIdeal.nD,
      r.2.mem ((c.tc : Thread Cert.DxBwdIdeal.nD Cert.DxBwdIdeal.τ).loc Cert.DxBwdIdeal.main_arg0) = m ((c.tc : Thread Cert.DxBwdIdeal.nD Cert.DxBwdIdeal.τ).loc Cert.DxBwdIdeal.main_arg0)
      ∧ r.2.mem ((c.tc : Thread Cert.DxBwdIdeal.nD Cert.DxBwdIdeal.τ).loc Cert.DxBwdIdeal.main_arg1) = m ((c.tc : Thread Cert.DxBwdIdeal.nD Cert.DxBwdIdeal.τ).loc Cert.DxBwdIdeal.main_arg1)
      ∧ r.2.mem ((c.tc : Thread Cert.DxBwdIdeal.nD Cert.DxBwdIdeal.τ).loc Cert.DxBwdIdeal.main_arg2) = m ((c.tc : Thread Cert.DxBwdIdeal.nD Cert.DxBwdIdeal.τ).loc Cert.DxBwdIdeal.main_arg2)
      ∧ r.2.mem ((c.tc : Thread Cert.DxBwdIdeal.nD Cert.DxBwdIdeal.τ).loc Cert.DxBwdIdeal.main_arg3) = m ((c.tc : Thread Cert.DxBwdIdeal.nD Cert.DxBwdIdeal.τ).loc Cert.DxBwdIdeal.main_arg3)
      ∧ r.2.mem ((c.tc : Thread Cert.DxBwdIdeal.nD Cert.DxBwdIdeal.τ).loc Cert.DxBwdIdeal.main_arg4) = m ((c.tc : Thread Cert.DxBwdIdeal.nD Cert.DxBwdIdeal.τ).loc Cert.DxBwdIdeal.main_arg4)
      ∧ r.2.mem ((c.tc : Thread Cert.DxBwdIdeal.nD Cert.DxBwdIdeal.τ).loc Cert.DxBwdIdeal.main_arg5) = m ((c.tc : Thread Cert.DxBwdIdeal.nD Cert.DxBwdIdeal.τ).loc Cert.DxBwdIdeal.main_arg5)
      ∧ r.2.mem ((c.tc : Thread Cert.DxBwdIdeal.nD Cert.DxBwdIdeal.τ).loc Cert.DxBwdIdeal.main_arg6) = m ((c.tc : Thread Cert.DxBwdIdeal.nD Cert.DxBwdIdeal.τ).loc Cert.DxBwdIdeal.main_arg6)
      ∧ r.2.mem ((c.tc : Thread Cert.DxBwdIdeal.nD Cert.DxBwdIdeal.τ).loc Cert.DxBwdIdeal.main_arg7) = m ((c.tc : Thread Cert.DxBwdIdeal.nD Cert.DxBwdIdeal.τ).loc Cert.DxBwdIdeal.main_arg7)
      ∧ r.2.mem ((c.tc : Thread Cert.DxBwdIdeal.nD Cert.DxBwdIdeal.τ).loc Cert.DxBwdIdeal.main_arg8) = m ((c.tc : Thread Cert.DxBwdIdeal.nD Cert.DxBwdIdeal.τ).loc Cert.DxBwdIdeal.main_arg8))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4)
      ∧ r.2.mem ((c.tc : Thread Cert.MlpBwd.nD Cert.MlpBwd.τ).loc Cert.MlpBwd.main_arg5) = m ((c.tc : Thread Cert.MlpBwd.nD Cert.MlpBwd.τ).loc Cert.MlpBwd.main_arg5)
      ∧ r.2.mem ((c.tc : Thread Cert.MlpBwd.nD Cert.MlpBwd.τ).loc Cert.MlpBwd.main_arg6) = m ((c.tc : Thread Cert.MlpBwd.nD Cert.MlpBwd.τ).loc Cert.MlpBwd.main_arg6)
      ∧ r.2.mem ((c.tc : Thread Cert.MlpBwd.nD Cert.MlpBwd.τ).loc Cert.MlpBwd.main_arg7) = m ((c.tc : Thread Cert.MlpBwd.nD Cert.MlpBwd.τ).loc Cert.MlpBwd.main_arg7)
      ∧ r.2.mem ((c.tc : Thread Cert.MlpBwd.nD Cert.MlpBwd.τ).loc Cert.MlpBwd.main_arg8) = m ((c.tc : Thread Cert.MlpBwd.nD Cert.MlpBwd.τ).loc Cert.MlpBwd.main_arg8)
      ∧ r.2.mem ((c.tc : Thread Cert.MlpBwd.nD Cert.MlpBwd.τ).loc Cert.MlpBwd.main_arg9) = m ((c.tc : Thread Cert.MlpBwd.nD Cert.MlpBwd.τ).loc Cert.MlpBwd.main_arg9))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5)
      ∧ r.2.mem ((c.tc : Thread Cert.MlpBwdIdeal.nD Cert.MlpBwdIdeal.τ).loc Cert.MlpBwdIdeal.main_arg6) = m ((c.tc : Thread Cert.MlpBwdIdeal.nD Cert.MlpBwdIdeal.τ).loc Cert.MlpBwdIdeal.main_arg6)
      ∧ r.2.mem ((c.tc : Thread Cert.MlpBwdIdeal.nD Cert.MlpBwdIdeal.τ).loc Cert.MlpBwdIdeal.main_arg7) = m ((c.tc : Thread Cert.MlpBwdIdeal.nD Cert.MlpBwdIdeal.τ).loc Cert.MlpBwdIdeal.main_arg7)
      ∧ r.2.mem ((c.tc : Thread Cert.MlpBwdIdeal.nD Cert.MlpBwdIdeal.τ).loc Cert.MlpBwdIdeal.main_arg8) = m ((c.tc : Thread Cert.MlpBwdIdeal.nD Cert.MlpBwdIdeal.τ).loc Cert.MlpBwdIdeal.main_arg8)
      ∧ r.2.mem ((c.tc : Thread Cert.MlpBwdIdeal.nD Cert.MlpBwdIdeal.τ).loc Cert.MlpBwdIdeal.main_arg9) = m ((c.tc : Thread Cert.MlpBwdIdeal.nD Cert.MlpBwdIdeal.τ).loc Cert.MlpBwdIdeal.main_arg9))
      ∧ r.2.sem = fun _ => 0)

def quiescent_MlpBwdIdeal_pre_real_inputs [hMlpBwdIdeal : Cert.MlpBwdIdeal.Facts] [hPre_real_inputs : Cert.Pre_real_inputs.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal_real_inputs m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5)
      ∧ r.2.mem ((c.tc : Thread Cert.MlpBwdIdeal.nD Cert.MlpBwdIdeal.τ).loc Cert.MlpBwdIdeal.main_arg6) = m ((c.tc : Thread Cert.MlpBwdIdeal.nD Cert.MlpBwdIdeal.τ).loc Cert.MlpBwdIdeal.main_arg6)
      ∧ r.2.mem ((c.tc : Thread Cert.MlpBwdIdeal.nD Cert.MlpBwdIdeal.τ).loc Cert.MlpBwdIdeal.main_arg7) = m ((c.tc : Thread Cert.MlpBwdIdeal.nD Cert.MlpBwdIdeal.τ).loc Cert.MlpBwdIdeal.main_arg7)
      ∧ r.2.mem ((c.tc : Thread Cert.MlpBwdIdeal.nD Cert.MlpBwdIdeal.τ).loc Cert.MlpBwdIdeal.main_arg8) = m ((c.tc : Thread Cert.MlpBwdIdeal.nD Cert.MlpBwdIdeal.τ).loc Cert.MlpBwdIdeal.main_arg8)
      ∧ r.2.mem ((c.tc : Thread Cert.MlpBwdIdeal.nD Cert.MlpBwdIdeal.τ).loc Cert.MlpBwdIdeal.main_arg9) = m ((c.tc : Thread Cert.MlpBwdIdeal.nD Cert.MlpBwdIdeal.τ).loc Cert.MlpBwdIdeal.main_arg9))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9))
      ∧ r.2.sem = fun _ => 0)

def quiescent_MlpRefIdeal_pre_real_inputs [hMlpRefIdeal : Cert.MlpRefIdeal.Facts] [hPre_real_inputs : Cert.Pre_real_inputs.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_real_inputs m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_WoLnFwd [hWoLnFwd : Cert.WoLnFwd.Facts] : Prop :=
  ∀ (m : (ℓ : Loc Cert.WoLnFwd.nD Cert.WoLnFwd.τ Cert.WoLnFwd.sig) → Buf (Elt Bits) ℓ) (g : Dev Cert.WoLnFwd.nD → PrngReg), Pre_WoLnFwd m →
    θ_run (Cert.WoLnFwd.defs (F := Bits)) (onTc (τ := Cert.WoLnFwd.τ) (Cert.WoLnFwd.main (F := Bits))) ⟨m, fun _ => 0, g⟩ (fun r => (∀ c : Dev Cert.WoLnFwd.nD,
      r.2.mem ((c.tc : Thread Cert.WoLnFwd.nD Cert.WoLnFwd.τ).loc Cert.WoLnFwd.main_arg0) = m ((c.tc : Thread Cert.WoLnFwd.nD Cert.WoLnFwd.τ).loc Cert.WoLnFwd.main_arg0)
      ∧ r.2.mem ((c.tc : Thread Cert.WoLnFwd.nD Cert.WoLnFwd.τ).loc Cert.WoLnFwd.main_arg1) = m ((c.tc : Thread Cert.WoLnFwd.nD Cert.WoLnFwd.τ).loc Cert.WoLnFwd.main_arg1)
      ∧ r.2.mem ((c.tc : Thread Cert.WoLnFwd.nD Cert.WoLnFwd.τ).loc Cert.WoLnFwd.main_arg2) = m ((c.tc : Thread Cert.WoLnFwd.nD Cert.WoLnFwd.τ).loc Cert.WoLnFwd.main_arg2)
      ∧ r.2.mem ((c.tc : Thread Cert.WoLnFwd.nD Cert.WoLnFwd.τ).loc Cert.WoLnFwd.main_arg3) = m ((c.tc : Thread Cert.WoLnFwd.nD Cert.WoLnFwd.τ).loc Cert.WoLnFwd.main_arg3)
      ∧ r.2.mem ((c.tc : Thread Cert.WoLnFwd.nD Cert.WoLnFwd.τ).loc Cert.WoLnFwd.main_arg4) = m ((c.tc : Thread Cert.WoLnFwd.nD Cert.WoLnFwd.τ).loc Cert.WoLnFwd.main_arg4)
      ∧ r.2.mem ((c.tc : Thread Cert.WoLnFwd.nD Cert.WoLnFwd.τ).loc Cert.WoLnFwd.main_arg5) = m ((c.tc : Thread Cert.WoLnFwd.nD Cert.WoLnFwd.τ).loc Cert.WoLnFwd.main_arg5)
      ∧ r.2.mem ((c.tc : Thread Cert.WoLnFwd.nD Cert.WoLnFwd.τ).loc Cert.WoLnFwd.main_arg6) = m ((c.tc : Thread Cert.WoLnFwd.nD Cert.WoLnFwd.τ).loc Cert.WoLnFwd.main_arg6))
      ∧ r.2.sem = fun _ => 0)

def quiescent_WoLnFwdIdeal [hWoLnFwdIdeal : Cert.WoLnFwdIdeal.Facts] : Prop :=
  ∀ (m : (ℓ : Loc Cert.WoLnFwdIdeal.nD Cert.WoLnFwdIdeal.τ Cert.WoLnFwdIdeal.sig) → Buf (Elt Ideal) ℓ) (g : Dev Cert.WoLnFwdIdeal.nD → PrngReg), Pre_WoLnFwdIdeal m →
    θ_run (Cert.WoLnFwdIdeal.defs (F := Ideal)) (onTc (τ := Cert.WoLnFwdIdeal.τ) (Cert.WoLnFwdIdeal.main (F := Ideal))) ⟨m, fun _ => 0, g⟩ (fun r => (∀ c : Dev Cert.WoLnFwdIdeal.nD,
      r.2.mem ((c.tc : Thread Cert.WoLnFwdIdeal.nD Cert.WoLnFwdIdeal.τ).loc Cert.WoLnFwdIdeal.main_arg0) = m ((c.tc : Thread Cert.WoLnFwdIdeal.nD Cert.WoLnFwdIdeal.τ).loc Cert.WoLnFwdIdeal.main_arg0)
      ∧ r.2.mem ((c.tc : Thread Cert.WoLnFwdIdeal.nD Cert.WoLnFwdIdeal.τ).loc Cert.WoLnFwdIdeal.main_arg1) = m ((c.tc : Thread Cert.WoLnFwdIdeal.nD Cert.WoLnFwdIdeal.τ).loc Cert.WoLnFwdIdeal.main_arg1)
      ∧ r.2.mem ((c.tc : Thread Cert.WoLnFwdIdeal.nD Cert.WoLnFwdIdeal.τ).loc Cert.WoLnFwdIdeal.main_arg2) = m ((c.tc : Thread Cert.WoLnFwdIdeal.nD Cert.WoLnFwdIdeal.τ).loc Cert.WoLnFwdIdeal.main_arg2)
      ∧ r.2.mem ((c.tc : Thread Cert.WoLnFwdIdeal.nD Cert.WoLnFwdIdeal.τ).loc Cert.WoLnFwdIdeal.main_arg3) = m ((c.tc : Thread Cert.WoLnFwdIdeal.nD Cert.WoLnFwdIdeal.τ).loc Cert.WoLnFwdIdeal.main_arg3)
      ∧ r.2.mem ((c.tc : Thread Cert.WoLnFwdIdeal.nD Cert.WoLnFwdIdeal.τ).loc Cert.WoLnFwdIdeal.main_arg4) = m ((c.tc : Thread Cert.WoLnFwdIdeal.nD Cert.WoLnFwdIdeal.τ).loc Cert.WoLnFwdIdeal.main_arg4)
      ∧ r.2.mem ((c.tc : Thread Cert.WoLnFwdIdeal.nD Cert.WoLnFwdIdeal.τ).loc Cert.WoLnFwdIdeal.main_arg5) = m ((c.tc : Thread Cert.WoLnFwdIdeal.nD Cert.WoLnFwdIdeal.τ).loc Cert.WoLnFwdIdeal.main_arg5)
      ∧ r.2.mem ((c.tc : Thread Cert.WoLnFwdIdeal.nD Cert.WoLnFwdIdeal.τ).loc Cert.WoLnFwdIdeal.main_arg6) = m ((c.tc : Thread Cert.WoLnFwdIdeal.nD Cert.WoLnFwdIdeal.τ).loc Cert.WoLnFwdIdeal.main_arg6))
      ∧ r.2.sem = fun _ => 0)

def quiescent_WoLnRefIdeal [hWoLnRefIdeal : Cert.WoLnRefIdeal.Facts] : Prop :=
  ∀ (m : (ℓ : Loc Cert.WoLnRefIdeal.nD Cert.WoLnRefIdeal.τ Cert.WoLnRefIdeal.sig) → Buf (Elt Ideal) ℓ) (g : Dev Cert.WoLnRefIdeal.nD → PrngReg), Pre_WoLnRefIdeal m →
    θ_run (Cert.WoLnRefIdeal.defs (F := Ideal)) (onTc (τ := Cert.WoLnRefIdeal.τ) (Cert.WoLnRefIdeal.main (F := Ideal))) ⟨m, fun _ => 0, g⟩ (fun r => (∀ c : Dev Cert.WoLnRefIdeal.nD,
      r.2.mem ((c.tc : Thread Cert.WoLnRefIdeal.nD Cert.WoLnRefIdeal.τ).loc Cert.WoLnRefIdeal.main_arg0) = m ((c.tc : Thread Cert.WoLnRefIdeal.nD Cert.WoLnRefIdeal.τ).loc Cert.WoLnRefIdeal.main_arg0)
      ∧ r.2.mem ((c.tc : Thread Cert.WoLnRefIdeal.nD Cert.WoLnRefIdeal.τ).loc Cert.WoLnRefIdeal.main_arg1) = m ((c.tc : Thread Cert.WoLnRefIdeal.nD Cert.WoLnRefIdeal.τ).loc Cert.WoLnRefIdeal.main_arg1)
      ∧ r.2.mem ((c.tc : Thread Cert.WoLnRefIdeal.nD Cert.WoLnRefIdeal.τ).loc Cert.WoLnRefIdeal.main_arg2) = m ((c.tc : Thread Cert.WoLnRefIdeal.nD Cert.WoLnRefIdeal.τ).loc Cert.WoLnRefIdeal.main_arg2)
      ∧ r.2.mem ((c.tc : Thread Cert.WoLnRefIdeal.nD Cert.WoLnRefIdeal.τ).loc Cert.WoLnRefIdeal.main_arg3) = m ((c.tc : Thread Cert.WoLnRefIdeal.nD Cert.WoLnRefIdeal.τ).loc Cert.WoLnRefIdeal.main_arg3)
      ∧ r.2.mem ((c.tc : Thread Cert.WoLnRefIdeal.nD Cert.WoLnRefIdeal.τ).loc Cert.WoLnRefIdeal.main_arg4) = m ((c.tc : Thread Cert.WoLnRefIdeal.nD Cert.WoLnRefIdeal.τ).loc Cert.WoLnRefIdeal.main_arg4)
      ∧ r.2.mem ((c.tc : Thread Cert.WoLnRefIdeal.nD Cert.WoLnRefIdeal.τ).loc Cert.WoLnRefIdeal.main_arg5) = m ((c.tc : Thread Cert.WoLnRefIdeal.nD Cert.WoLnRefIdeal.τ).loc Cert.WoLnRefIdeal.main_arg5)
      ∧ r.2.mem ((c.tc : Thread Cert.WoLnRefIdeal.nD Cert.WoLnRefIdeal.τ).loc Cert.WoLnRefIdeal.main_arg6) = m ((c.tc : Thread Cert.WoLnRefIdeal.nD Cert.WoLnRefIdeal.τ).loc Cert.WoLnRefIdeal.main_arg6))
      ∧ r.2.sem = fun _ => 0)

def quiescent_MlpFFwd [hMlpFFwd : Cert.MlpFFwd.Facts] : Prop :=
  ∀ (m : (ℓ : Loc Cert.MlpFFwd.nD Cert.MlpFFwd.τ Cert.MlpFFwd.sig) → Buf (Elt Bits) ℓ) (g : Dev Cert.MlpFFwd.nD → PrngReg), Pre_MlpFFwd m →
    θ_run (Cert.MlpFFwd.defs (F := Bits)) (onTc (τ := Cert.MlpFFwd.τ) (Cert.MlpFFwd.main (F := Bits))) ⟨m, fun _ => 0, g⟩ (fun r => (∀ c : Dev Cert.MlpFFwd.nD,
      r.2.mem ((c.tc : Thread Cert.MlpFFwd.nD Cert.MlpFFwd.τ).loc Cert.MlpFFwd.main_arg0) = m ((c.tc : Thread Cert.MlpFFwd.nD Cert.MlpFFwd.τ).loc Cert.MlpFFwd.main_arg0)
      ∧ r.2.mem ((c.tc : Thread Cert.MlpFFwd.nD Cert.MlpFFwd.τ).loc Cert.MlpFFwd.main_arg1) = m ((c.tc : Thread Cert.MlpFFwd.nD Cert.MlpFFwd.τ).loc Cert.MlpFFwd.main_arg1)
      ∧ r.2.mem ((c.tc : Thread Cert.MlpFFwd.nD Cert.MlpFFwd.τ).loc Cert.MlpFFwd.main_arg2) = m ((c.tc : Thread Cert.MlpFFwd.nD Cert.MlpFFwd.τ).loc Cert.MlpFFwd.main_arg2)
      ∧ r.2.mem ((c.tc : Thread Cert.MlpFFwd.nD Cert.MlpFFwd.τ).loc Cert.MlpFFwd.main_arg3) = m ((c.tc : Thread Cert.MlpFFwd.nD Cert.MlpFFwd.τ).loc Cert.MlpFFwd.main_arg3)
      ∧ r.2.mem ((c.tc : Thread Cert.MlpFFwd.nD Cert.MlpFFwd.τ).loc Cert.MlpFFwd.main_arg4) = m ((c.tc : Thread Cert.MlpFFwd.nD Cert.MlpFFwd.τ).loc Cert.MlpFFwd.main_arg4)
      ∧ r.2.mem ((c.tc : Thread Cert.MlpFFwd.nD Cert.MlpFFwd.τ).loc Cert.MlpFFwd.main_arg5) = m ((c.tc : Thread Cert.MlpFFwd.nD Cert.MlpFFwd.τ).loc Cert.MlpFFwd.main_arg5)
      ∧ r.2.mem ((c.tc : Thread Cert.MlpFFwd.nD Cert.MlpFFwd.τ).loc Cert.MlpFFwd.main_arg6) = m ((c.tc : Thread Cert.MlpFFwd.nD Cert.MlpFFwd.τ).loc Cert.MlpFFwd.main_arg6)
      ∧ r.2.mem ((c.tc : Thread Cert.MlpFFwd.nD Cert.MlpFFwd.τ).loc Cert.MlpFFwd.main_arg7) = m ((c.tc : Thread Cert.MlpFFwd.nD Cert.MlpFFwd.τ).loc Cert.MlpFFwd.main_arg7))
      ∧ r.2.sem = fun _ => 0)

def quiescent_MlpFFwdIdeal [hMlpFFwdIdeal : Cert.MlpFFwdIdeal.Facts] : Prop :=
  ∀ (m : (ℓ : Loc Cert.MlpFFwdIdeal.nD Cert.MlpFFwdIdeal.τ Cert.MlpFFwdIdeal.sig) → Buf (Elt Ideal) ℓ) (g : Dev Cert.MlpFFwdIdeal.nD → PrngReg), Pre_MlpFFwdIdeal m →
    θ_run (Cert.MlpFFwdIdeal.defs (F := Ideal)) (onTc (τ := Cert.MlpFFwdIdeal.τ) (Cert.MlpFFwdIdeal.main (F := Ideal))) ⟨m, fun _ => 0, g⟩ (fun r => (∀ c : Dev Cert.MlpFFwdIdeal.nD,
      r.2.mem ((c.tc : Thread Cert.MlpFFwdIdeal.nD Cert.MlpFFwdIdeal.τ).loc Cert.MlpFFwdIdeal.main_arg0) = m ((c.tc : Thread Cert.MlpFFwdIdeal.nD Cert.MlpFFwdIdeal.τ).loc Cert.MlpFFwdIdeal.main_arg0)
      ∧ r.2.mem ((c.tc : Thread Cert.MlpFFwdIdeal.nD Cert.MlpFFwdIdeal.τ).loc Cert.MlpFFwdIdeal.main_arg1) = m ((c.tc : Thread Cert.MlpFFwdIdeal.nD Cert.MlpFFwdIdeal.τ).loc Cert.MlpFFwdIdeal.main_arg1)
      ∧ r.2.mem ((c.tc : Thread Cert.MlpFFwdIdeal.nD Cert.MlpFFwdIdeal.τ).loc Cert.MlpFFwdIdeal.main_arg2) = m ((c.tc : Thread Cert.MlpFFwdIdeal.nD Cert.MlpFFwdIdeal.τ).loc Cert.MlpFFwdIdeal.main_arg2)
      ∧ r.2.mem ((c.tc : Thread Cert.MlpFFwdIdeal.nD Cert.MlpFFwdIdeal.τ).loc Cert.MlpFFwdIdeal.main_arg3) = m ((c.tc : Thread Cert.MlpFFwdIdeal.nD Cert.MlpFFwdIdeal.τ).loc Cert.MlpFFwdIdeal.main_arg3)
      ∧ r.2.mem ((c.tc : Thread Cert.MlpFFwdIdeal.nD Cert.MlpFFwdIdeal.τ).loc Cert.MlpFFwdIdeal.main_arg4) = m ((c.tc : Thread Cert.MlpFFwdIdeal.nD Cert.MlpFFwdIdeal.τ).loc Cert.MlpFFwdIdeal.main_arg4)
      ∧ r.2.mem ((c.tc : Thread Cert.MlpFFwdIdeal.nD Cert.MlpFFwdIdeal.τ).loc Cert.MlpFFwdIdeal.main_arg5) = m ((c.tc : Thread Cert.MlpFFwdIdeal.nD Cert.MlpFFwdIdeal.τ).loc Cert.MlpFFwdIdeal.main_arg5)
      ∧ r.2.mem ((c.tc : Thread Cert.MlpFFwdIdeal.nD Cert.MlpFFwdIdeal.τ).loc Cert.MlpFFwdIdeal.main_arg6) = m ((c.tc : Thread Cert.MlpFFwdIdeal.nD Cert.MlpFFwdIdeal.τ).loc Cert.MlpFFwdIdeal.main_arg6)
      ∧ r.2.mem ((c.tc : Thread Cert.MlpFFwdIdeal.nD Cert.MlpFFwdIdeal.τ).loc Cert.MlpFFwdIdeal.main_arg7) = m ((c.tc : Thread Cert.MlpFFwdIdeal.nD Cert.MlpFFwdIdeal.τ).loc Cert.MlpFFwdIdeal.main_arg7))
      ∧ r.2.sem = fun _ => 0)

def quiescent_MlpFRefIdeal [hMlpFRefIdeal : Cert.MlpFRefIdeal.Facts] : Prop :=
  ∀ (m : (ℓ : Loc Cert.MlpFRefIdeal.nD Cert.MlpFRefIdeal.τ Cert.MlpFRefIdeal.sig) → Buf (Elt Ideal) ℓ) (g : Dev Cert.MlpFRefIdeal.nD → PrngReg), Pre_MlpFRefIdeal m →
    θ_run (Cert.MlpFRefIdeal.defs (F := Ideal)) (onTc (τ := Cert.MlpFRefIdeal.τ) (Cert.MlpFRefIdeal.main (F := Ideal))) ⟨m, fun _ => 0, g⟩ (fun r => (∀ c : Dev Cert.MlpFRefIdeal.nD,
      r.2.mem ((c.tc : Thread Cert.MlpFRefIdeal.nD Cert.MlpFRefIdeal.τ).loc Cert.MlpFRefIdeal.main_arg0) = m ((c.tc : Thread Cert.MlpFRefIdeal.nD Cert.MlpFRefIdeal.τ).loc Cert.MlpFRefIdeal.main_arg0)
      ∧ r.2.mem ((c.tc : Thread Cert.MlpFRefIdeal.nD Cert.MlpFRefIdeal.τ).loc Cert.MlpFRefIdeal.main_arg1) = m ((c.tc : Thread Cert.MlpFRefIdeal.nD Cert.MlpFRefIdeal.τ).loc Cert.MlpFRefIdeal.main_arg1)
      ∧ r.2.mem ((c.tc : Thread Cert.MlpFRefIdeal.nD Cert.MlpFRefIdeal.τ).loc Cert.MlpFRefIdeal.main_arg2) = m ((c.tc : Thread Cert.MlpFRefIdeal.nD Cert.MlpFRefIdeal.τ).loc Cert.MlpFRefIdeal.main_arg2)
      ∧ r.2.mem ((c.tc : Thread Cert.MlpFRefIdeal.nD Cert.MlpFRefIdeal.τ).loc Cert.MlpFRefIdeal.main_arg3) = m ((c.tc : Thread Cert.MlpFRefIdeal.nD Cert.MlpFRefIdeal.τ).loc Cert.MlpFRefIdeal.main_arg3)
      ∧ r.2.mem ((c.tc : Thread Cert.MlpFRefIdeal.nD Cert.MlpFRefIdeal.τ).loc Cert.MlpFRefIdeal.main_arg4) = m ((c.tc : Thread Cert.MlpFRefIdeal.nD Cert.MlpFRefIdeal.τ).loc Cert.MlpFRefIdeal.main_arg4)
      ∧ r.2.mem ((c.tc : Thread Cert.MlpFRefIdeal.nD Cert.MlpFRefIdeal.τ).loc Cert.MlpFRefIdeal.main_arg5) = m ((c.tc : Thread Cert.MlpFRefIdeal.nD Cert.MlpFRefIdeal.τ).loc Cert.MlpFRefIdeal.main_arg5)
      ∧ r.2.mem ((c.tc : Thread Cert.MlpFRefIdeal.nD Cert.MlpFRefIdeal.τ).loc Cert.MlpFRefIdeal.main_arg6) = m ((c.tc : Thread Cert.MlpFRefIdeal.nD Cert.MlpFRefIdeal.τ).loc Cert.MlpFRefIdeal.main_arg6)
      ∧ r.2.mem ((c.tc : Thread Cert.MlpFRefIdeal.nD Cert.MlpFRefIdeal.τ).loc Cert.MlpFRefIdeal.main_arg7) = m ((c.tc : Thread Cert.MlpFRefIdeal.nD Cert.MlpFRefIdeal.τ).loc Cert.MlpFRefIdeal.main_arg7))
      ∧ r.2.sem = fun _ => 0)

def quiescent_ConvFFwd [hConvFFwd : Cert.ConvFFwd.Facts] : Prop :=
  ∀ (m : (ℓ : Loc Cert.ConvFFwd.nD Cert.ConvFFwd.τ Cert.ConvFFwd.sig) → Buf (Elt Bits) ℓ) (g : Dev Cert.ConvFFwd.nD → PrngReg), Pre_ConvFFwd m →
    θ_run (Cert.ConvFFwd.defs (F := Bits)) (onTc (τ := Cert.ConvFFwd.τ) (Cert.ConvFFwd.main (F := Bits))) ⟨m, fun _ => 0, g⟩ (fun r => (∀ c : Dev Cert.ConvFFwd.nD,
      r.2.mem ((c.tc : Thread Cert.ConvFFwd.nD Cert.ConvFFwd.τ).loc Cert.ConvFFwd.main_arg0) = m ((c.tc : Thread Cert.ConvFFwd.nD Cert.ConvFFwd.τ).loc Cert.ConvFFwd.main_arg0)
      ∧ r.2.mem ((c.tc : Thread Cert.ConvFFwd.nD Cert.ConvFFwd.τ).loc Cert.ConvFFwd.main_arg1) = m ((c.tc : Thread Cert.ConvFFwd.nD Cert.ConvFFwd.τ).loc Cert.ConvFFwd.main_arg1))
      ∧ r.2.sem = fun _ => 0)

def quiescent_ConvFFwdIdeal [hConvFFwdIdeal : Cert.ConvFFwdIdeal.Facts] : Prop :=
  ∀ (m : (ℓ : Loc Cert.ConvFFwdIdeal.nD Cert.ConvFFwdIdeal.τ Cert.ConvFFwdIdeal.sig) → Buf (Elt Ideal) ℓ) (g : Dev Cert.ConvFFwdIdeal.nD → PrngReg), Pre_ConvFFwdIdeal m →
    θ_run (Cert.ConvFFwdIdeal.defs (F := Ideal)) (onTc (τ := Cert.ConvFFwdIdeal.τ) (Cert.ConvFFwdIdeal.main (F := Ideal))) ⟨m, fun _ => 0, g⟩ (fun r => (∀ c : Dev Cert.ConvFFwdIdeal.nD,
      r.2.mem ((c.tc : Thread Cert.ConvFFwdIdeal.nD Cert.ConvFFwdIdeal.τ).loc Cert.ConvFFwdIdeal.main_arg0) = m ((c.tc : Thread Cert.ConvFFwdIdeal.nD Cert.ConvFFwdIdeal.τ).loc Cert.ConvFFwdIdeal.main_arg0)
      ∧ r.2.mem ((c.tc : Thread Cert.ConvFFwdIdeal.nD Cert.ConvFFwdIdeal.τ).loc Cert.ConvFFwdIdeal.main_arg1) = m ((c.tc : Thread Cert.ConvFFwdIdeal.nD Cert.ConvFFwdIdeal.τ).loc Cert.ConvFFwdIdeal.main_arg1))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1))
      ∧ r.2.sem = fun _ => 0)

def quiescent_LossFwd [hLossFwd : Cert.LossFwd.Facts] : Prop :=
  ∀ (m : (ℓ : Loc Cert.LossFwd.nD Cert.LossFwd.τ Cert.LossFwd.sig) → Buf (Elt Bits) ℓ) (g : Dev Cert.LossFwd.nD → PrngReg), Pre_LossFwd m →
    θ_run (Cert.LossFwd.defs (F := Bits)) (onTc (τ := Cert.LossFwd.τ) (Cert.LossFwd.main (F := Bits))) ⟨m, fun _ => 0, g⟩ (fun r => (∀ c : Dev Cert.LossFwd.nD,
      r.2.mem ((c.tc : Thread Cert.LossFwd.nD Cert.LossFwd.τ).loc Cert.LossFwd.main_arg0) = m ((c.tc : Thread Cert.LossFwd.nD Cert.LossFwd.τ).loc Cert.LossFwd.main_arg0)
      ∧ r.2.mem ((c.tc : Thread Cert.LossFwd.nD Cert.LossFwd.τ).loc Cert.LossFwd.main_arg1) = m ((c.tc : Thread Cert.LossFwd.nD Cert.LossFwd.τ).loc Cert.LossFwd.main_arg1))
      ∧ r.2.sem = fun _ => 0)

def quiescent_LossFwdIdeal [hLossFwdIdeal : Cert.LossFwdIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg), Pre_LossFwdIdeal m →
    θ_run (Cert.LossFwdIdeal.defs (F := Ideal)) (onTc (τ := Cert.LossFwdIdeal.τ) (Cert.LossFwdIdeal.main (F := Ideal))) ⟨m, fun _ => 0, g⟩ (fun r => (∀ c : Dev Cert.LossFwdIdeal.nD,
      r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
      ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_AdamLUpd [hAdamLUpd : Cert.AdamLUpd.Facts] : Prop :=
  ∀ (m : (ℓ : Loc Cert.AdamLUpd.nD Cert.AdamLUpd.τ Cert.AdamLUpd.sig) → Buf (Elt Bits) ℓ) (g : Dev Cert.AdamLUpd.nD → PrngReg), Pre_AdamLUpd m →
    θ_run (Cert.AdamLUpd.defs (F := Bits)) (onTc (τ := Cert.AdamLUpd.τ) (Cert.AdamLUpd.main (F := Bits))) ⟨m, fun _ => 0, g⟩ (fun r => (∀ c : Dev Cert.AdamLUpd.nD,
      r.2.mem ((c.tc : Thread Cert.AdamLUpd.nD Cert.AdamLUpd.τ).loc Cert.AdamLUpd.main_arg0) = m ((c.tc : Thread Cert.AdamLUpd.nD Cert.AdamLUpd.τ).loc Cert.AdamLUpd.main_arg0)
      ∧ r.2.mem ((c.tc : Thread Cert.AdamLUpd.nD Cert.AdamLUpd.τ).loc Cert.AdamLUpd.main_arg1) = m ((c.tc : Thread Cert.AdamLUpd.nD Cert.AdamLUpd.τ).loc Cert.AdamLUpd.main_arg1)
      ∧ r.2.mem ((c.tc : Thread Cert.AdamLUpd.nD Cert.AdamLUpd.τ).loc Cert.AdamLUpd.main_arg2) = m ((c.tc : Thread Cert.AdamLUpd.nD Cert.AdamLUpd.τ).loc Cert.AdamLUpd.main_arg2)
      ∧ r.2.mem ((c.tc : Thread Cert.AdamLUpd.nD Cert.AdamLUpd.τ).loc Cert.AdamLUpd.main_arg3) = m ((c.tc : Thread Cert.AdamLUpd.nD Cert.AdamLUpd.τ).loc Cert.AdamLUpd.main_arg3)
      ∧ r.2.mem ((c.tc : Thread Cert.AdamLUpd.nD Cert.AdamLUpd.τ).loc Cert.AdamLUpd.main_arg4) = m ((c.tc : Thread Cert.AdamLUpd.nD Cert.AdamLUpd.τ).loc Cert.AdamLUpd.main_arg4)
      ∧ r.2.mem ((c.tc : Thread Cert.AdamLUpd.nD Cert.AdamLUpd.τ).loc Cert.AdamLUpd.main_arg5) = m ((c.tc : Thread Cert.AdamLUpd.nD Cert.AdamLUpd.τ).loc Cert.AdamLUpd.main_arg5)
      ∧ r.2.mem ((c.tc : Thread Cert.AdamLUpd.nD Cert.AdamLUpd.τ).loc Cert.AdamLUpd.main_arg6) = m ((c.tc : Thread Cert.AdamLUpd.nD Cert.AdamLUpd.τ).loc Cert.AdamLUpd.main_arg6)
      ∧ r.2.mem ((c.tc : Thread Cert.AdamLUpd.nD Cert.AdamLUpd.τ).loc Cert.AdamLUpd.main_arg7) = m ((c.tc : Thread Cert.AdamLUpd.nD Cert.AdamLUpd.τ).loc Cert.AdamLUpd.main_arg7)
      ∧ r.2.mem ((c.tc : Thread Cert.AdamLUpd.nD Cert.AdamLUpd.τ).loc Cert.AdamLUpd.main_arg8) = m ((c.tc : Thread Cert.AdamLUpd.nD Cert.AdamLUpd.τ).loc Cert.AdamLUpd.main_arg8)
      ∧ r.2.mem ((c.tc : Thread Cert.AdamLUpd.nD Cert.AdamLUpd.τ).loc Cert.AdamLUpd.main_arg9) = m ((c.tc : Thread Cert.AdamLUpd.nD Cert.AdamLUpd.τ).loc Cert.AdamLUpd.main_arg9)
      ∧ r.2.mem ((c.tc : Thread Cert.AdamLUpd.nD Cert.AdamLUpd.τ).loc Cert.AdamLUpd.main_arg10) = m ((c.tc : Thread Cert.AdamLUpd.nD Cert.AdamLUpd.τ).loc Cert.AdamLUpd.main_arg10)
      ∧ r.2.mem ((c.tc : Thread Cert.AdamLUpd.nD Cert.AdamLUpd.τ).loc Cert.AdamLUpd.main_arg11) = m ((c.tc : Thread Cert.AdamLUpd.nD Cert.AdamLUpd.τ).loc Cert.AdamLUpd.main_arg11)
      ∧ r.2.mem ((c.tc : Thread Cert.AdamLUpd.nD Cert.AdamLUpd.τ).loc Cert.AdamLUpd.main_arg12) = m ((c.tc : Thread Cert.AdamLUpd.nD Cert.AdamLUpd.τ).loc Cert.AdamLUpd.main_arg12)
      ∧ r.2.mem ((c.tc : Thread Cert.AdamLUpd.nD Cert.AdamLUpd.τ).loc Cert.AdamLUpd.main_arg13) = m ((c.tc : Thread Cert.AdamLUpd.nD Cert.AdamLUpd.τ).loc Cert.AdamLUpd.main_arg13)
      ∧ r.2.mem ((c.tc : Thread Cert.AdamLUpd.nD Cert.AdamLUpd.τ).loc Cert.AdamLUpd.main_arg14) = m ((c.tc : Thread Cert.AdamLUpd.nD Cert.AdamLUpd.τ).loc Cert.AdamLUpd.main_arg14)
      ∧ r.2.mem ((c.tc : Thread Cert.AdamLUpd.nD Cert.AdamLUpd.τ).loc Cert.AdamLUpd.main_arg15) = m ((c.tc : Thread Cert.AdamLUpd.nD Cert.AdamLUpd.τ).loc Cert.AdamLUpd.main_arg15)
      ∧ r.2.mem ((c.tc : Thread Cert.AdamLUpd.nD Cert.AdamLUpd.τ).loc Cert.AdamLUpd.main_arg16) = m ((c.tc : Thread Cert.AdamLUpd.nD Cert.AdamLUpd.τ).loc Cert.AdamLUpd.main_arg16))
      ∧ r.2.sem = fun _ => 0)

def quiescent_AdamLUpdIdeal [hAdamLUpdIdeal : Cert.AdamLUpdIdeal.Facts] : Prop :=
  ∀ (m : (ℓ : Loc Cert.AdamLUpdIdeal.nD Cert.AdamLUpdIdeal.τ Cert.AdamLUpdIdeal.sig) → Buf (Elt Ideal) ℓ) (g : Dev Cert.AdamLUpdIdeal.nD → PrngReg), Pre_AdamLUpdIdeal m →
    θ_run (Cert.AdamLUpdIdeal.defs (F := Ideal)) (onTc (τ := Cert.AdamLUpdIdeal.τ) (Cert.AdamLUpdIdeal.main (F := Ideal))) ⟨m, fun _ => 0, g⟩ (fun r => (∀ c : Dev Cert.AdamLUpdIdeal.nD,
      r.2.mem ((c.tc : Thread Cert.AdamLUpdIdeal.nD Cert.AdamLUpdIdeal.τ).loc Cert.AdamLUpdIdeal.main_arg0) = m ((c.tc : Thread Cert.AdamLUpdIdeal.nD Cert.AdamLUpdIdeal.τ).loc Cert.AdamLUpdIdeal.main_arg0)
      ∧ r.2.mem ((c.tc : Thread Cert.AdamLUpdIdeal.nD Cert.AdamLUpdIdeal.τ).loc Cert.AdamLUpdIdeal.main_arg1) = m ((c.tc : Thread Cert.AdamLUpdIdeal.nD Cert.AdamLUpdIdeal.τ).loc Cert.AdamLUpdIdeal.main_arg1)
      ∧ r.2.mem ((c.tc : Thread Cert.AdamLUpdIdeal.nD Cert.AdamLUpdIdeal.τ).loc Cert.AdamLUpdIdeal.main_arg2) = m ((c.tc : Thread Cert.AdamLUpdIdeal.nD Cert.AdamLUpdIdeal.τ).loc Cert.AdamLUpdIdeal.main_arg2)
      ∧ r.2.mem ((c.tc : Thread Cert.AdamLUpdIdeal.nD Cert.AdamLUpdIdeal.τ).loc Cert.AdamLUpdIdeal.main_arg3) = m ((c.tc : Thread Cert.AdamLUpdIdeal.nD Cert.AdamLUpdIdeal.τ).loc Cert.AdamLUpdIdeal.main_arg3)
      ∧ r.2.mem ((c.tc : Thread Cert.AdamLUpdIdeal.nD Cert.AdamLUpdIdeal.τ).loc Cert.AdamLUpdIdeal.main_arg4) = m ((c.tc : Thread Cert.AdamLUpdIdeal.nD Cert.AdamLUpdIdeal.τ).loc Cert.AdamLUpdIdeal.main_arg4)
      ∧ r.2.mem ((c.tc : Thread Cert.AdamLUpdIdeal.nD Cert.AdamLUpdIdeal.τ).loc Cert.AdamLUpdIdeal.main_arg5) = m ((c.tc : Thread Cert.AdamLUpdIdeal.nD Cert.AdamLUpdIdeal.τ).loc Cert.AdamLUpdIdeal.main_arg5)
      ∧ r.2.mem ((c.tc : Thread Cert.AdamLUpdIdeal.nD Cert.AdamLUpdIdeal.τ).loc Cert.AdamLUpdIdeal.main_arg6) = m ((c.tc : Thread Cert.AdamLUpdIdeal.nD Cert.AdamLUpdIdeal.τ).loc Cert.AdamLUpdIdeal.main_arg6)
      ∧ r.2.mem ((c.tc : Thread Cert.AdamLUpdIdeal.nD Cert.AdamLUpdIdeal.τ).loc Cert.AdamLUpdIdeal.main_arg7) = m ((c.tc : Thread Cert.AdamLUpdIdeal.nD Cert.AdamLUpdIdeal.τ).loc Cert.AdamLUpdIdeal.main_arg7)
      ∧ r.2.mem ((c.tc : Thread Cert.AdamLUpdIdeal.nD Cert.AdamLUpdIdeal.τ).loc Cert.AdamLUpdIdeal.main_arg8) = m ((c.tc : Thread Cert.AdamLUpdIdeal.nD Cert.AdamLUpdIdeal.τ).loc Cert.AdamLUpdIdeal.main_arg8)
      ∧ r.2.mem ((c.tc : Thread Cert.AdamLUpdIdeal.nD Cert.AdamLUpdIdeal.τ).loc Cert.AdamLUpdIdeal.main_arg9) = m ((c.tc : Thread Cert.AdamLUpdIdeal.nD Cert.AdamLUpdIdeal.τ).loc Cert.AdamLUpdIdeal.main_arg9)
      ∧ r.2.mem ((c.tc : Thread Cert.AdamLUpdIdeal.nD Cert.AdamLUpdIdeal.τ).loc Cert.AdamLUpdIdeal.main_arg10) = m ((c.tc : Thread Cert.AdamLUpdIdeal.nD Cert.AdamLUpdIdeal.τ).loc Cert.AdamLUpdIdeal.main_arg10)
      ∧ r.2.mem ((c.tc : Thread Cert.AdamLUpdIdeal.nD Cert.AdamLUpdIdeal.τ).loc Cert.AdamLUpdIdeal.main_arg11) = m ((c.tc : Thread Cert.AdamLUpdIdeal.nD Cert.AdamLUpdIdeal.τ).loc Cert.AdamLUpdIdeal.main_arg11)
      ∧ r.2.mem ((c.tc : Thread Cert.AdamLUpdIdeal.nD Cert.AdamLUpdIdeal.τ).loc Cert.AdamLUpdIdeal.main_arg12) = m ((c.tc : Thread Cert.AdamLUpdIdeal.nD Cert.AdamLUpdIdeal.τ).loc Cert.AdamLUpdIdeal.main_arg12)
      ∧ r.2.mem ((c.tc : Thread Cert.AdamLUpdIdeal.nD Cert.AdamLUpdIdeal.τ).loc Cert.AdamLUpdIdeal.main_arg13) = m ((c.tc : Thread Cert.AdamLUpdIdeal.nD Cert.AdamLUpdIdeal.τ).loc Cert.AdamLUpdIdeal.main_arg13)
      ∧ r.2.mem ((c.tc : Thread Cert.AdamLUpdIdeal.nD Cert.AdamLUpdIdeal.τ).loc Cert.AdamLUpdIdeal.main_arg14) = m ((c.tc : Thread Cert.AdamLUpdIdeal.nD Cert.AdamLUpdIdeal.τ).loc Cert.AdamLUpdIdeal.main_arg14)
      ∧ r.2.mem ((c.tc : Thread Cert.AdamLUpdIdeal.nD Cert.AdamLUpdIdeal.τ).loc Cert.AdamLUpdIdeal.main_arg15) = m ((c.tc : Thread Cert.AdamLUpdIdeal.nD Cert.AdamLUpdIdeal.τ).loc Cert.AdamLUpdIdeal.main_arg15)
      ∧ r.2.mem ((c.tc : Thread Cert.AdamLUpdIdeal.nD Cert.AdamLUpdIdeal.τ).loc Cert.AdamLUpdIdeal.main_arg16) = m ((c.tc : Thread Cert.AdamLUpdIdeal.nD Cert.AdamLUpdIdeal.τ).loc Cert.AdamLUpdIdeal.main_arg16))
      ∧ r.2.sem = fun _ => 0)

def quiescent_AdamLRefIdeal [hAdamLRefIdeal : Cert.AdamLRefIdeal.Facts] : Prop :=
  ∀ (m : (ℓ : Loc Cert.AdamLRefIdeal.nD Cert.AdamLRefIdeal.τ Cert.AdamLRefIdeal.sig) → Buf (Elt Ideal) ℓ) (g : Dev Cert.AdamLRefIdeal.nD → PrngReg), Pre_AdamLRefIdeal m →
    θ_run (Cert.AdamLRefIdeal.defs (F := Ideal)) (onTc (τ := Cert.AdamLRefIdeal.τ) (Cert.AdamLRefIdeal.main (F := Ideal))) ⟨m, fun _ => 0, g⟩ (fun r => (∀ c : Dev Cert.AdamLRefIdeal.nD,
      r.2.mem ((c.tc : Thread Cert.AdamLRefIdeal.nD Cert.AdamLRefIdeal.τ).loc Cert.AdamLRefIdeal.main_arg0) = m ((c.tc : Thread Cert.AdamLRefIdeal.nD Cert.AdamLRefIdeal.τ).loc Cert.AdamLRefIdeal.main_arg0)
      ∧ r.2.mem ((c.tc : Thread Cert.AdamLRefIdeal.nD Cert.AdamLRefIdeal.τ).loc Cert.AdamLRefIdeal.main_arg1) = m ((c.tc : Thread Cert.AdamLRefIdeal.nD Cert.AdamLRefIdeal.τ).loc Cert.AdamLRefIdeal.main_arg1)
      ∧ r.2.mem ((c.tc : Thread Cert.AdamLRefIdeal.nD Cert.AdamLRefIdeal.τ).loc Cert.AdamLRefIdeal.main_arg2) = m ((c.tc : Thread Cert.AdamLRefIdeal.nD Cert.AdamLRefIdeal.τ).loc Cert.AdamLRefIdeal.main_arg2)
      ∧ r.2.mem ((c.tc : Thread Cert.AdamLRefIdeal.nD Cert.AdamLRefIdeal.τ).loc Cert.AdamLRefIdeal.main_arg3) = m ((c.tc : Thread Cert.AdamLRefIdeal.nD Cert.AdamLRefIdeal.τ).loc Cert.AdamLRefIdeal.main_arg3)
      ∧ r.2.mem ((c.tc : Thread Cert.AdamLRefIdeal.nD Cert.AdamLRefIdeal.τ).loc Cert.AdamLRefIdeal.main_arg4) = m ((c.tc : Thread Cert.AdamLRefIdeal.nD Cert.AdamLRefIdeal.τ).loc Cert.AdamLRefIdeal.main_arg4)
      ∧ r.2.mem ((c.tc : Thread Cert.AdamLRefIdeal.nD Cert.AdamLRefIdeal.τ).loc Cert.AdamLRefIdeal.main_arg5) = m ((c.tc : Thread Cert.AdamLRefIdeal.nD Cert.AdamLRefIdeal.τ).loc Cert.AdamLRefIdeal.main_arg5)
      ∧ r.2.mem ((c.tc : Thread Cert.AdamLRefIdeal.nD Cert.AdamLRefIdeal.τ).loc Cert.AdamLRefIdeal.main_arg6) = m ((c.tc : Thread Cert.AdamLRefIdeal.nD Cert.AdamLRefIdeal.τ).loc Cert.AdamLRefIdeal.main_arg6)
      ∧ r.2.mem ((c.tc : Thread Cert.AdamLRefIdeal.nD Cert.AdamLRefIdeal.τ).loc Cert.AdamLRefIdeal.main_arg7) = m ((c.tc : Thread Cert.AdamLRefIdeal.nD Cert.AdamLRefIdeal.τ).loc Cert.AdamLRefIdeal.main_arg7)
      ∧ r.2.mem ((c.tc : Thread Cert.AdamLRefIdeal.nD Cert.AdamLRefIdeal.τ).loc Cert.AdamLRefIdeal.main_arg8) = m ((c.tc : Thread Cert.AdamLRefIdeal.nD Cert.AdamLRefIdeal.τ).loc Cert.AdamLRefIdeal.main_arg8)
      ∧ r.2.mem ((c.tc : Thread Cert.AdamLRefIdeal.nD Cert.AdamLRefIdeal.τ).loc Cert.AdamLRefIdeal.main_arg9) = m ((c.tc : Thread Cert.AdamLRefIdeal.nD Cert.AdamLRefIdeal.τ).loc Cert.AdamLRefIdeal.main_arg9)
      ∧ r.2.mem ((c.tc : Thread Cert.AdamLRefIdeal.nD Cert.AdamLRefIdeal.τ).loc Cert.AdamLRefIdeal.main_arg10) = m ((c.tc : Thread Cert.AdamLRefIdeal.nD Cert.AdamLRefIdeal.τ).loc Cert.AdamLRefIdeal.main_arg10)
      ∧ r.2.mem ((c.tc : Thread Cert.AdamLRefIdeal.nD Cert.AdamLRefIdeal.τ).loc Cert.AdamLRefIdeal.main_arg11) = m ((c.tc : Thread Cert.AdamLRefIdeal.nD Cert.AdamLRefIdeal.τ).loc Cert.AdamLRefIdeal.main_arg11)
      ∧ r.2.mem ((c.tc : Thread Cert.AdamLRefIdeal.nD Cert.AdamLRefIdeal.τ).loc Cert.AdamLRefIdeal.main_arg12) = m ((c.tc : Thread Cert.AdamLRefIdeal.nD Cert.AdamLRefIdeal.τ).loc Cert.AdamLRefIdeal.main_arg12)
      ∧ r.2.mem ((c.tc : Thread Cert.AdamLRefIdeal.nD Cert.AdamLRefIdeal.τ).loc Cert.AdamLRefIdeal.main_arg13) = m ((c.tc : Thread Cert.AdamLRefIdeal.nD Cert.AdamLRefIdeal.τ).loc Cert.AdamLRefIdeal.main_arg13)
      ∧ r.2.mem ((c.tc : Thread Cert.AdamLRefIdeal.nD Cert.AdamLRefIdeal.τ).loc Cert.AdamLRefIdeal.main_arg14) = m ((c.tc : Thread Cert.AdamLRefIdeal.nD Cert.AdamLRefIdeal.τ).loc Cert.AdamLRefIdeal.main_arg14)
      ∧ r.2.mem ((c.tc : Thread Cert.AdamLRefIdeal.nD Cert.AdamLRefIdeal.τ).loc Cert.AdamLRefIdeal.main_arg15) = m ((c.tc : Thread Cert.AdamLRefIdeal.nD Cert.AdamLRefIdeal.τ).loc Cert.AdamLRefIdeal.main_arg15)
      ∧ r.2.mem ((c.tc : Thread Cert.AdamLRefIdeal.nD Cert.AdamLRefIdeal.τ).loc Cert.AdamLRefIdeal.main_arg16) = m ((c.tc : Thread Cert.AdamLRefIdeal.nD Cert.AdamLRefIdeal.τ).loc Cert.AdamLRefIdeal.main_arg16))
      ∧ r.2.sem = fun _ => 0)

def quiescent_PoolFFwd [hPoolFFwd : Cert.PoolFFwd.Facts] : Prop :=
  ∀ (m : (ℓ : Loc Cert.PoolFFwd.nD Cert.PoolFFwd.τ Cert.PoolFFwd.sig) → Buf (Elt Bits) ℓ) (g : Dev Cert.PoolFFwd.nD → PrngReg), Pre_PoolFFwd m →
    θ_run (Cert.PoolFFwd.defs (F := Bits)) (onTc (τ := Cert.PoolFFwd.τ) (Cert.PoolFFwd.main (F := Bits))) ⟨m, fun _ => 0, g⟩ (fun r => (∀ c : Dev Cert.PoolFFwd.nD,
      r.2.mem ((c.tc : Thread Cert.PoolFFwd.nD Cert.PoolFFwd.τ).loc Cert.PoolFFwd.main_arg0) = m ((c.tc : Thread Cert.PoolFFwd.nD Cert.PoolFFwd.τ).loc Cert.PoolFFwd.main_arg0)
      ∧ r.2.mem ((c.tc : Thread Cert.PoolFFwd.nD Cert.PoolFFwd.τ).loc Cert.PoolFFwd.main_arg1) = m ((c.tc : Thread Cert.PoolFFwd.nD Cert.PoolFFwd.τ).loc Cert.PoolFFwd.main_arg1)
      ∧ r.2.mem ((c.tc : Thread Cert.PoolFFwd.nD Cert.PoolFFwd.τ).loc Cert.PoolFFwd.main_arg2) = m ((c.tc : Thread Cert.PoolFFwd.nD Cert.PoolFFwd.τ).loc Cert.PoolFFwd.main_arg2))
      ∧ r.2.sem = fun _ => 0)

def quiescent_PoolFFwdIdeal [hPoolFFwdIdeal : Cert.PoolFFwdIdeal.Facts] : Prop :=
  ∀ (m : (ℓ : Loc Cert.PoolFFwdIdeal.nD Cert.PoolFFwdIdeal.τ Cert.PoolFFwdIdeal.sig) → Buf (Elt Ideal) ℓ) (g : Dev Cert.PoolFFwdIdeal.nD → PrngReg), Pre_PoolFFwdIdeal m →
    θ_run (Cert.PoolFFwdIdeal.defs (F := Ideal)) (onTc (τ := Cert.PoolFFwdIdeal.τ) (Cert.PoolFFwdIdeal.main (F := Ideal))) ⟨m, fun _ => 0, g⟩ (fun r => (∀ c : Dev Cert.PoolFFwdIdeal.nD,
      r.2.mem ((c.tc : Thread Cert.PoolFFwdIdeal.nD Cert.PoolFFwdIdeal.τ).loc Cert.PoolFFwdIdeal.main_arg0) = m ((c.tc : Thread Cert.PoolFFwdIdeal.nD Cert.PoolFFwdIdeal.τ).loc Cert.PoolFFwdIdeal.main_arg0)
      ∧ r.2.mem ((c.tc : Thread Cert.PoolFFwdIdeal.nD Cert.PoolFFwdIdeal.τ).loc Cert.PoolFFwdIdeal.main_arg1) = m ((c.tc : Thread Cert.PoolFFwdIdeal.nD Cert.PoolFFwdIdeal.τ).loc Cert.PoolFFwdIdeal.main_arg1)
      ∧ r.2.mem ((c.tc : Thread Cert.PoolFFwdIdeal.nD Cert.PoolFFwdIdeal.τ).loc Cert.PoolFFwdIdeal.main_arg2) = m ((c.tc : Thread Cert.PoolFFwdIdeal.nD Cert.PoolFFwdIdeal.τ).loc Cert.PoolFFwdIdeal.main_arg2))
      ∧ r.2.sem = fun _ => 0)

def quiescent_PoolFFwdIdeal_pre_real_pooled [hPoolFFwdIdeal : Cert.PoolFFwdIdeal.Facts] [hPre_real_pooled : Cert.Pre_real_pooled.Facts] : Prop :=
  ∀ (m : (ℓ : Loc Cert.PoolFFwdIdeal.nD Cert.PoolFFwdIdeal.τ Cert.PoolFFwdIdeal.sig) → Buf (Elt Ideal) ℓ) (g : Dev Cert.PoolFFwdIdeal.nD → PrngReg), Pre_PoolFFwdIdeal_real_pooled m →
    θ_run (Cert.PoolFFwdIdeal.defs (F := Ideal)) (onTc (τ := Cert.PoolFFwdIdeal.τ) (Cert.PoolFFwdIdeal.main (F := Ideal))) ⟨m, fun _ => 0, g⟩ (fun r => (∀ c : Dev Cert.PoolFFwdIdeal.nD,
      r.2.mem ((c.tc : Thread Cert.PoolFFwdIdeal.nD Cert.PoolFFwdIdeal.τ).loc Cert.PoolFFwdIdeal.main_arg0) = m ((c.tc : Thread Cert.PoolFFwdIdeal.nD Cert.PoolFFwdIdeal.τ).loc Cert.PoolFFwdIdeal.main_arg0)
      ∧ r.2.mem ((c.tc : Thread Cert.PoolFFwdIdeal.nD Cert.PoolFFwdIdeal.τ).loc Cert.PoolFFwdIdeal.main_arg1) = m ((c.tc : Thread Cert.PoolFFwdIdeal.nD Cert.PoolFFwdIdeal.τ).loc Cert.PoolFFwdIdeal.main_arg1)
      ∧ r.2.mem ((c.tc : Thread Cert.PoolFFwdIdeal.nD Cert.PoolFFwdIdeal.τ).loc Cert.PoolFFwdIdeal.main_arg2) = m ((c.tc : Thread Cert.PoolFFwdIdeal.nD Cert.PoolFFwdIdeal.τ).loc Cert.PoolFFwdIdeal.main_arg2))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def quiescent_PoolFRefIdeal_pre_real_pooled [hPoolFRefIdeal : Cert.PoolFRefIdeal.Facts] [hPre_real_pooled : Cert.Pre_real_pooled.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal_real_pooled m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_real_pooled_back [hPoolBwdIdeal : Cert.PoolBwdIdeal.Facts] [hPre_real_pooled_back : Cert.Pre_real_pooled_back.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_real_pooled_back m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_real_pooled_back [hPoolRefIdeal : Cert.PoolRefIdeal.Facts] [hPre_real_pooled_back : Cert.Pre_real_pooled_back.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_real_pooled_back m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)) (v3 : (c : Dev Cert.ConvBwdIdeal.nD) → Buf (Elt Ideal) ((c.tc : Thread Cert.ConvBwdIdeal.nD Cert.ConvBwdIdeal.τ).loc Cert.ConvBwdIdeal.main_v0_3)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_v0_3) = v3 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v66) = v0 c
          ∧ r.2.mem ((c.tc : Thread Cert.ConvRefIdeal.nD Cert.ConvRefIdeal.τ).loc Cert.ConvRefIdeal.main_v67) = v1 c
          ∧ r.2.mem ((c.tc : Thread Cert.ConvRefIdeal.nD Cert.ConvRefIdeal.τ).loc Cert.ConvRefIdeal.main_v68) = v2 c
          ∧ r.2.mem ((c.tc : Thread Cert.ConvRefIdeal.nD Cert.ConvRefIdeal.τ).loc Cert.ConvRefIdeal.main_v61) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_WGuBwd_WGuBwdIdeal : Prop :=
  True

def algebraic_WGuBwdIdeal_WGuRefIdeal [hWGuBwdIdeal : Cert.WGuBwdIdeal.Facts] [hWGuRefIdeal : Cert.WGuRefIdeal.Facts] : Prop :=
  ∀ (m : (ℓ : Loc Cert.WGuBwdIdeal.nD Cert.WGuBwdIdeal.τ Cert.WGuBwdIdeal.sig) → Buf (Elt Ideal) ℓ) (g : Dev Cert.WGuBwdIdeal.nD → PrngReg)
    (m' : (ℓ : Loc Cert.WGuRefIdeal.nD Cert.WGuRefIdeal.τ Cert.WGuRefIdeal.sig) → Buf (Elt Ideal) ℓ) (g' : Dev Cert.WGuRefIdeal.nD → PrngReg), Pre_WGuBwdIdeal m →
    (∀ c : Dev Cert.WGuBwdIdeal.nD,
      m' ((c.tc : Thread Cert.WGuRefIdeal.nD Cert.WGuRefIdeal.τ).loc Cert.WGuRefIdeal.main_arg0) = m ((c.tc : Thread Cert.WGuBwdIdeal.nD Cert.WGuBwdIdeal.τ).loc Cert.WGuBwdIdeal.main_arg0)
      ∧ m' ((c.tc : Thread Cert.WGuRefIdeal.nD Cert.WGuRefIdeal.τ).loc Cert.WGuRefIdeal.main_arg1) = m ((c.tc : Thread Cert.WGuBwdIdeal.nD Cert.WGuBwdIdeal.τ).loc Cert.WGuBwdIdeal.main_arg1)
      ∧ m' ((c.tc : Thread Cert.WGuRefIdeal.nD Cert.WGuRefIdeal.τ).loc Cert.WGuRefIdeal.main_arg2) = m ((c.tc : Thread Cert.WGuBwdIdeal.nD Cert.WGuBwdIdeal.τ).loc Cert.WGuBwdIdeal.main_arg2)) →
    ∃ (v0 : (c : Dev Cert.WGuBwdIdeal.nD) → Buf (Elt Ideal) ((c.tc : Thread Cert.WGuBwdIdeal.nD Cert.WGuBwdIdeal.τ).loc Cert.WGuBwdIdeal.main_v0)),
      θ_run (Cert.WGuBwdIdeal.defs (F := Ideal)) (onTc (τ := Cert.WGuBwdIdeal.τ) (Cert.WGuBwdIdeal.main (F := Ideal))) ⟨m, fun _ => 0, g⟩ (fun r => ∀ c : Dev Cert.WGuBwdIdeal.nD,
          r.2.mem ((c.tc : Thread Cert.WGuBwdIdeal.nD Cert.WGuBwdIdeal.τ).loc Cert.WGuBwdIdeal.main_v0) = v0 c
          ∧ r.2.mem ((c.tc : Thread Cert.WGuBwdIdeal.nD Cert.WGuBwdIdeal.τ).loc Cert.WGuBwdIdeal.main_arg0) = m ((c.tc : Thread Cert.WGuBwdIdeal.nD Cert.WGuBwdIdeal.τ).loc Cert.WGuBwdIdeal.main_arg0)
          ∧ r.2.mem ((c.tc : Thread Cert.WGuBwdIdeal.nD Cert.WGuBwdIdeal.τ).loc Cert.WGuBwdIdeal.main_arg1) = m ((c.tc : Thread Cert.WGuBwdIdeal.nD Cert.WGuBwdIdeal.τ).loc Cert.WGuBwdIdeal.main_arg1)
          ∧ r.2.mem ((c.tc : Thread Cert.WGuBwdIdeal.nD Cert.WGuBwdIdeal.τ).loc Cert.WGuBwdIdeal.main_arg2) = m ((c.tc : Thread Cert.WGuBwdIdeal.nD Cert.WGuBwdIdeal.τ).loc Cert.WGuBwdIdeal.main_arg2))
      ∧ θ_run (Cert.WGuRefIdeal.defs (F := Ideal)) (onTc (τ := Cert.WGuRefIdeal.τ) (Cert.WGuRefIdeal.main (F := Ideal))) ⟨m', fun _ => 0, g'⟩ (fun r => ∀ c : Dev Cert.WGuRefIdeal.nD,
          r.2.mem ((c.tc : Thread Cert.WGuRefIdeal.nD Cert.WGuRefIdeal.τ).loc Cert.WGuRefIdeal.main_v6) = v0 c
          ∧ r.2.mem ((c.tc : Thread Cert.WGuRefIdeal.nD Cert.WGuRefIdeal.τ).loc Cert.WGuRefIdeal.main_arg0) = m' ((c.tc : Thread Cert.WGuRefIdeal.nD Cert.WGuRefIdeal.τ).loc Cert.WGuRefIdeal.main_arg0)
          ∧ r.2.mem ((c.tc : Thread Cert.WGuRefIdeal.nD Cert.WGuRefIdeal.τ).loc Cert.WGuRefIdeal.main_arg1) = m' ((c.tc : Thread Cert.WGuRefIdeal.nD Cert.WGuRefIdeal.τ).loc Cert.WGuRefIdeal.main_arg1)
          ∧ r.2.mem ((c.tc : Thread Cert.WGuRefIdeal.nD Cert.WGuRefIdeal.τ).loc Cert.WGuRefIdeal.main_arg2) = m' ((c.tc : Thread Cert.WGuRefIdeal.nD Cert.WGuRefIdeal.τ).loc Cert.WGuRefIdeal.main_arg2))

def preserves_WDownBwd_WDownBwdIdeal : Prop :=
  True

def algebraic_WDownBwdIdeal_WDownRefIdeal [hWDownBwdIdeal : Cert.WDownBwdIdeal.Facts] [hWDownRefIdeal : Cert.WDownRefIdeal.Facts] : Prop :=
  ∀ (m : (ℓ : Loc Cert.WDownBwdIdeal.nD Cert.WDownBwdIdeal.τ Cert.WDownBwdIdeal.sig) → Buf (Elt Ideal) ℓ) (g : Dev Cert.WDownBwdIdeal.nD → PrngReg)
    (m' : (ℓ : Loc Cert.WDownRefIdeal.nD Cert.WDownRefIdeal.τ Cert.WDownRefIdeal.sig) → Buf (Elt Ideal) ℓ) (g' : Dev Cert.WDownRefIdeal.nD → PrngReg), Pre_WDownBwdIdeal m →
    (∀ c : Dev Cert.WDownBwdIdeal.nD,
      m' ((c.tc : Thread Cert.WDownRefIdeal.nD Cert.WDownRefIdeal.τ).loc Cert.WDownRefIdeal.main_arg0) = m ((c.tc : Thread Cert.WDownBwdIdeal.nD Cert.WDownBwdIdeal.τ).loc Cert.WDownBwdIdeal.main_arg0)
      ∧ m' ((c.tc : Thread Cert.WDownRefIdeal.nD Cert.WDownRefIdeal.τ).loc Cert.WDownRefIdeal.main_arg1) = m ((c.tc : Thread Cert.WDownBwdIdeal.nD Cert.WDownBwdIdeal.τ).loc Cert.WDownBwdIdeal.main_arg1)
      ∧ m' ((c.tc : Thread Cert.WDownRefIdeal.nD Cert.WDownRefIdeal.τ).loc Cert.WDownRefIdeal.main_arg2) = m ((c.tc : Thread Cert.WDownBwdIdeal.nD Cert.WDownBwdIdeal.τ).loc Cert.WDownBwdIdeal.main_arg2)) →
    ∃ (v0 : (c : Dev Cert.WDownBwdIdeal.nD) → Buf (Elt Ideal) ((c.tc : Thread Cert.WDownBwdIdeal.nD Cert.WDownBwdIdeal.τ).loc Cert.WDownBwdIdeal.main_v0)),
      θ_run (Cert.WDownBwdIdeal.defs (F := Ideal)) (onTc (τ := Cert.WDownBwdIdeal.τ) (Cert.WDownBwdIdeal.main (F := Ideal))) ⟨m, fun _ => 0, g⟩ (fun r => ∀ c : Dev Cert.WDownBwdIdeal.nD,
          r.2.mem ((c.tc : Thread Cert.WDownBwdIdeal.nD Cert.WDownBwdIdeal.τ).loc Cert.WDownBwdIdeal.main_v0) = v0 c
          ∧ r.2.mem ((c.tc : Thread Cert.WDownBwdIdeal.nD Cert.WDownBwdIdeal.τ).loc Cert.WDownBwdIdeal.main_arg0) = m ((c.tc : Thread Cert.WDownBwdIdeal.nD Cert.WDownBwdIdeal.τ).loc Cert.WDownBwdIdeal.main_arg0)
          ∧ r.2.mem ((c.tc : Thread Cert.WDownBwdIdeal.nD Cert.WDownBwdIdeal.τ).loc Cert.WDownBwdIdeal.main_arg1) = m ((c.tc : Thread Cert.WDownBwdIdeal.nD Cert.WDownBwdIdeal.τ).loc Cert.WDownBwdIdeal.main_arg1)
          ∧ r.2.mem ((c.tc : Thread Cert.WDownBwdIdeal.nD Cert.WDownBwdIdeal.τ).loc Cert.WDownBwdIdeal.main_arg2) = m ((c.tc : Thread Cert.WDownBwdIdeal.nD Cert.WDownBwdIdeal.τ).loc Cert.WDownBwdIdeal.main_arg2))
      ∧ θ_run (Cert.WDownRefIdeal.defs (F := Ideal)) (onTc (τ := Cert.WDownRefIdeal.τ) (Cert.WDownRefIdeal.main (F := Ideal))) ⟨m', fun _ => 0, g'⟩ (fun r => ∀ c : Dev Cert.WDownRefIdeal.nD,
          r.2.mem ((c.tc : Thread Cert.WDownRefIdeal.nD Cert.WDownRefIdeal.τ).loc Cert.WDownRefIdeal.main_v6) = v0 c
          ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
          ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1)
          ∧ r.2.mem ((c.tc : Thread Cert.WDownRefIdeal.nD Cert.WDownRefIdeal.τ).loc Cert.WDownRefIdeal.main_arg2) = m' ((c.tc : Thread Cert.WDownRefIdeal.nD Cert.WDownRefIdeal.τ).loc Cert.WDownRefIdeal.main_arg2))

def preserves_WInBwd_WInBwdIdeal : Prop :=
  True

def algebraic_WInBwdIdeal_WInRefIdeal [hWInBwdIdeal : Cert.WInBwdIdeal.Facts] [hWInRefIdeal : Cert.WInRefIdeal.Facts] : Prop :=
  ∀ (m : (ℓ : Loc Cert.WInBwdIdeal.nD Cert.WInBwdIdeal.τ Cert.WInBwdIdeal.sig) → Buf (Elt Ideal) ℓ) (g : Dev Cert.WInBwdIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInBwdIdeal m →
    (∀ c : Dev Cert.WInBwdIdeal.nD,
      m' ((c.tc : Thread Cert.WInRefIdeal.nD Cert.WInRefIdeal.τ).loc Cert.WInRefIdeal.main_arg0) = m ((c.tc : Thread Cert.WInBwdIdeal.nD Cert.WInBwdIdeal.τ).loc Cert.WInBwdIdeal.main_arg0)
      ∧ m' ((c.tc : Thread Cert.WInRefIdeal.nD Cert.WInRefIdeal.τ).loc Cert.WInRefIdeal.main_arg1) = m ((c.tc : Thread Cert.WInBwdIdeal.nD Cert.WInBwdIdeal.τ).loc Cert.WInBwdIdeal.main_arg1)
      ∧ m' ((c.tc : Thread Cert.WInRefIdeal.nD Cert.WInRefIdeal.τ).loc Cert.WInRefIdeal.main_arg2) = m ((c.tc : Thread Cert.WInBwdIdeal.nD Cert.WInBwdIdeal.τ).loc Cert.WInBwdIdeal.main_arg2)
      ∧ m' ((c.tc : Thread Cert.WInRefIdeal.nD Cert.WInRefIdeal.τ).loc Cert.WInRefIdeal.main_arg3) = m ((c.tc : Thread Cert.WInBwdIdeal.nD Cert.WInBwdIdeal.τ).loc Cert.WInBwdIdeal.main_arg3)
      ∧ m' ((c.tc : Thread Cert.WInRefIdeal.nD Cert.WInRefIdeal.τ).loc Cert.WInRefIdeal.main_arg4) = m ((c.tc : Thread Cert.WInBwdIdeal.nD Cert.WInBwdIdeal.τ).loc Cert.WInBwdIdeal.main_arg4)
      ∧ m' ((c.tc : Thread Cert.WInRefIdeal.nD Cert.WInRefIdeal.τ).loc Cert.WInRefIdeal.main_arg5) = m ((c.tc : Thread Cert.WInBwdIdeal.nD Cert.WInBwdIdeal.τ).loc Cert.WInBwdIdeal.main_arg5)
      ∧ m' ((c.tc : Thread Cert.WInRefIdeal.nD Cert.WInRefIdeal.τ).loc Cert.WInRefIdeal.main_arg6) = m ((c.tc : Thread Cert.WInBwdIdeal.nD Cert.WInBwdIdeal.τ).loc Cert.WInBwdIdeal.main_arg6)) →
    ∃ (v0 : (c : Dev Cert.WInBwdIdeal.nD) → Buf (Elt Ideal) ((c.tc : Thread Cert.WInBwdIdeal.nD Cert.WInBwdIdeal.τ).loc Cert.WInBwdIdeal.main_v0)),
      θ_run (Cert.WInBwdIdeal.defs (F := Ideal)) (onTc (τ := Cert.WInBwdIdeal.τ) (Cert.WInBwdIdeal.main (F := Ideal))) ⟨m, fun _ => 0, g⟩ (fun r => ∀ c : Dev Cert.WInBwdIdeal.nD,
          r.2.mem ((c.tc : Thread Cert.WInBwdIdeal.nD Cert.WInBwdIdeal.τ).loc Cert.WInBwdIdeal.main_v0) = v0 c
          ∧ r.2.mem ((c.tc : Thread Cert.WInBwdIdeal.nD Cert.WInBwdIdeal.τ).loc Cert.WInBwdIdeal.main_arg0) = m ((c.tc : Thread Cert.WInBwdIdeal.nD Cert.WInBwdIdeal.τ).loc Cert.WInBwdIdeal.main_arg0)
          ∧ r.2.mem ((c.tc : Thread Cert.WInBwdIdeal.nD Cert.WInBwdIdeal.τ).loc Cert.WInBwdIdeal.main_arg1) = m ((c.tc : Thread Cert.WInBwdIdeal.nD Cert.WInBwdIdeal.τ).loc Cert.WInBwdIdeal.main_arg1)
          ∧ r.2.mem ((c.tc : Thread Cert.WInBwdIdeal.nD Cert.WInBwdIdeal.τ).loc Cert.WInBwdIdeal.main_arg2) = m ((c.tc : Thread Cert.WInBwdIdeal.nD Cert.WInBwdIdeal.τ).loc Cert.WInBwdIdeal.main_arg2)
          ∧ r.2.mem ((c.tc : Thread Cert.WInBwdIdeal.nD Cert.WInBwdIdeal.τ).loc Cert.WInBwdIdeal.main_arg3) = m ((c.tc : Thread Cert.WInBwdIdeal.nD Cert.WInBwdIdeal.τ).loc Cert.WInBwdIdeal.main_arg3)
          ∧ r.2.mem ((c.tc : Thread Cert.WInBwdIdeal.nD Cert.WInBwdIdeal.τ).loc Cert.WInBwdIdeal.main_arg4) = m ((c.tc : Thread Cert.WInBwdIdeal.nD Cert.WInBwdIdeal.τ).loc Cert.WInBwdIdeal.main_arg4)
          ∧ r.2.mem ((c.tc : Thread Cert.WInBwdIdeal.nD Cert.WInBwdIdeal.τ).loc Cert.WInBwdIdeal.main_arg5) = m ((c.tc : Thread Cert.WInBwdIdeal.nD Cert.WInBwdIdeal.τ).loc Cert.WInBwdIdeal.main_arg5)
          ∧ r.2.mem ((c.tc : Thread Cert.WInBwdIdeal.nD Cert.WInBwdIdeal.τ).loc Cert.WInBwdIdeal.main_arg6) = m ((c.tc : Thread Cert.WInBwdIdeal.nD Cert.WInBwdIdeal.τ).loc Cert.WInBwdIdeal.main_arg6))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v14) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1)
          ∧ r.2.mem ((c.tc : Thread Cert.WInRefIdeal.nD Cert.WInRefIdeal.τ).loc Cert.WInRefIdeal.main_arg2) = m' ((c.tc : Thread Cert.WInRefIdeal.nD Cert.WInRefIdeal.τ).loc Cert.WInRefIdeal.main_arg2)
          ∧ r.2.mem ((c.tc : Thread Cert.WInRefIdeal.nD Cert.WInRefIdeal.τ).loc Cert.WInRefIdeal.main_arg3) = m' ((c.tc : Thread Cert.WInRefIdeal.nD Cert.WInRefIdeal.τ).loc Cert.WInRefIdeal.main_arg3)
          ∧ r.2.mem ((c.tc : Thread Cert.WInRefIdeal.nD Cert.WInRefIdeal.τ).loc Cert.WInRefIdeal.main_arg4) = m' ((c.tc : Thread Cert.WInRefIdeal.nD Cert.WInRefIdeal.τ).loc Cert.WInRefIdeal.main_arg4)
          ∧ r.2.mem ((c.tc : Thread Cert.WInRefIdeal.nD Cert.WInRefIdeal.τ).loc Cert.WInRefIdeal.main_arg5) = m' ((c.tc : Thread Cert.WInRefIdeal.nD Cert.WInRefIdeal.τ).loc Cert.WInRefIdeal.main_arg5)
          ∧ r.2.mem ((c.tc : Thread Cert.WInRefIdeal.nD Cert.WInRefIdeal.τ).loc Cert.WInRefIdeal.main_arg6) = m' ((c.tc : Thread Cert.WInRefIdeal.nD Cert.WInRefIdeal.τ).loc Cert.WInRefIdeal.main_arg6))

def preserves_WOBwd_WOBwdIdeal : Prop :=
  True

def algebraic_WOBwdIdeal_WORefIdeal [hWOBwdIdeal : Cert.WOBwdIdeal.Facts] [hWORefIdeal : Cert.WORefIdeal.Facts] : Prop :=
  ∀ (m : (ℓ : Loc Cert.WOBwdIdeal.nD Cert.WOBwdIdeal.τ Cert.WOBwdIdeal.sig) → Buf (Elt Ideal) ℓ) (g : Dev Cert.WOBwdIdeal.nD → PrngReg)
    (m' : (ℓ : Loc Cert.WORefIdeal.nD Cert.WORefIdeal.τ Cert.WORefIdeal.sig) → Buf (Elt Ideal) ℓ) (g' : Dev Cert.WORefIdeal.nD → PrngReg), Pre_WOBwdIdeal m →
    (∀ c : Dev Cert.WOBwdIdeal.nD,
      m' ((c.tc : Thread Cert.WORefIdeal.nD Cert.WORefIdeal.τ).loc Cert.WORefIdeal.main_arg0) = m ((c.tc : Thread Cert.WOBwdIdeal.nD Cert.WOBwdIdeal.τ).loc Cert.WOBwdIdeal.main_arg0)
      ∧ m' ((c.tc : Thread Cert.WORefIdeal.nD Cert.WORefIdeal.τ).loc Cert.WORefIdeal.main_arg1) = m ((c.tc : Thread Cert.WOBwdIdeal.nD Cert.WOBwdIdeal.τ).loc Cert.WOBwdIdeal.main_arg1)
      ∧ m' ((c.tc : Thread Cert.WORefIdeal.nD Cert.WORefIdeal.τ).loc Cert.WORefIdeal.main_arg2) = m ((c.tc : Thread Cert.WOBwdIdeal.nD Cert.WOBwdIdeal.τ).loc Cert.WOBwdIdeal.main_arg2)
      ∧ m' ((c.tc : Thread Cert.WORefIdeal.nD Cert.WORefIdeal.τ).loc Cert.WORefIdeal.main_arg3) = m ((c.tc : Thread Cert.WOBwdIdeal.nD Cert.WOBwdIdeal.τ).loc Cert.WOBwdIdeal.main_arg3)) →
    ∃ (v0 : (c : Dev Cert.WOBwdIdeal.nD) → Buf (Elt Ideal) ((c.tc : Thread Cert.WOBwdIdeal.nD Cert.WOBwdIdeal.τ).loc Cert.WOBwdIdeal.main_v0)),
      θ_run (Cert.WOBwdIdeal.defs (F := Ideal)) (onTc (τ := Cert.WOBwdIdeal.τ) (Cert.WOBwdIdeal.main (F := Ideal))) ⟨m, fun _ => 0, g⟩ (fun r => ∀ c : Dev Cert.WOBwdIdeal.nD,
          r.2.mem ((c.tc : Thread Cert.WOBwdIdeal.nD Cert.WOBwdIdeal.τ).loc Cert.WOBwdIdeal.main_v0) = v0 c
          ∧ r.2.mem ((c.tc : Thread Cert.WOBwdIdeal.nD Cert.WOBwdIdeal.τ).loc Cert.WOBwdIdeal.main_arg0) = m ((c.tc : Thread Cert.WOBwdIdeal.nD Cert.WOBwdIdeal.τ).loc Cert.WOBwdIdeal.main_arg0)
          ∧ r.2.mem ((c.tc : Thread Cert.WOBwdIdeal.nD Cert.WOBwdIdeal.τ).loc Cert.WOBwdIdeal.main_arg1) = m ((c.tc : Thread Cert.WOBwdIdeal.nD Cert.WOBwdIdeal.τ).loc Cert.WOBwdIdeal.main_arg1)
          ∧ r.2.mem ((c.tc : Thread Cert.WOBwdIdeal.nD Cert.WOBwdIdeal.τ).loc Cert.WOBwdIdeal.main_arg2) = m ((c.tc : Thread Cert.WOBwdIdeal.nD Cert.WOBwdIdeal.τ).loc Cert.WOBwdIdeal.main_arg2)
          ∧ r.2.mem ((c.tc : Thread Cert.WOBwdIdeal.nD Cert.WOBwdIdeal.τ).loc Cert.WOBwdIdeal.main_arg3) = m ((c.tc : Thread Cert.WOBwdIdeal.nD Cert.WOBwdIdeal.τ).loc Cert.WOBwdIdeal.main_arg3))
      ∧ θ_run (Cert.WORefIdeal.defs (F := Ideal)) (onTc (τ := Cert.WORefIdeal.τ) (Cert.WORefIdeal.main (F := Ideal))) ⟨m', fun _ => 0, g'⟩ (fun r => ∀ c : Dev Cert.WORefIdeal.nD,
          r.2.mem ((c.tc : Thread Cert.WORefIdeal.nD Cert.WORefIdeal.τ).loc Cert.WORefIdeal.main_v9) = v0 c
          ∧ r.2.mem ((c.tc : Thread Cert.WORefIdeal.nD Cert.WORefIdeal.τ).loc Cert.WORefIdeal.main_arg0) = m' ((c.tc : Thread Cert.WORefIdeal.nD Cert.WORefIdeal.τ).loc Cert.WORefIdeal.main_arg0)
          ∧ r.2.mem ((c.tc : Thread Cert.WORefIdeal.nD Cert.WORefIdeal.τ).loc Cert.WORefIdeal.main_arg1) = m' ((c.tc : Thread Cert.WORefIdeal.nD Cert.WORefIdeal.τ).loc Cert.WORefIdeal.main_arg1)
          ∧ r.2.mem ((c.tc : Thread Cert.WORefIdeal.nD Cert.WORefIdeal.τ).loc Cert.WORefIdeal.main_arg2) = m' ((c.tc : Thread Cert.WORefIdeal.nD Cert.WORefIdeal.τ).loc Cert.WORefIdeal.main_arg2)
          ∧ r.2.mem ((c.tc : Thread Cert.WORefIdeal.nD Cert.WORefIdeal.τ).loc Cert.WORefIdeal.main_arg3) = m' ((c.tc : Thread Cert.WORefIdeal.nD Cert.WORefIdeal.τ).loc Cert.WORefIdeal.main_arg3))

def preserves_DxBwd_DxBwdIdeal : Prop :=
  True

def algebraic_DxBwdIdeal_DxRefIdeal [hDxBwdIdeal : Cert.DxBwdIdeal.Facts] [hDxRefIdeal : Cert.DxRefIdeal.Facts] : Prop :=
  ∀ (m : (ℓ : Loc Cert.DxBwdIdeal.nD Cert.DxBwdIdeal.τ Cert.DxBwdIdeal.sig) → Buf (Elt Ideal) ℓ) (g : Dev Cert.DxBwdIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxBwdIdeal m →
    (∀ c : Dev Cert.DxBwdIdeal.nD,
      m' ((c.tc : Thread Cert.DxRefIdeal.nD Cert.DxRefIdeal.τ).loc Cert.DxRefIdeal.main_arg0) = m ((c.tc : Thread Cert.DxBwdIdeal.nD Cert.DxBwdIdeal.τ).loc Cert.DxBwdIdeal.main_arg0)
      ∧ m' ((c.tc : Thread Cert.DxRefIdeal.nD Cert.DxRefIdeal.τ).loc Cert.DxRefIdeal.main_arg1) = m ((c.tc : Thread Cert.DxBwdIdeal.nD Cert.DxBwdIdeal.τ).loc Cert.DxBwdIdeal.main_arg1)
      ∧ m' ((c.tc : Thread Cert.DxRefIdeal.nD Cert.DxRefIdeal.τ).loc Cert.DxRefIdeal.main_arg2) = m ((c.tc : Thread Cert.DxBwdIdeal.nD Cert.DxBwdIdeal.τ).loc Cert.DxBwdIdeal.main_arg2)
      ∧ m' ((c.tc : Thread Cert.DxRefIdeal.nD Cert.DxRefIdeal.τ).loc Cert.DxRefIdeal.main_arg3) = m ((c.tc : Thread Cert.DxBwdIdeal.nD Cert.DxBwdIdeal.τ).loc Cert.DxBwdIdeal.main_arg3)
      ∧ m' ((c.tc : Thread Cert.DxRefIdeal.nD Cert.DxRefIdeal.τ).loc Cert.DxRefIdeal.main_arg4) = m ((c.tc : Thread Cert.DxBwdIdeal.nD Cert.DxBwdIdeal.τ).loc Cert.DxBwdIdeal.main_arg4)
      ∧ m' ((c.tc : Thread Cert.DxRefIdeal.nD Cert.DxRefIdeal.τ).loc Cert.DxRefIdeal.main_arg5) = m ((c.tc : Thread Cert.DxBwdIdeal.nD Cert.DxBwdIdeal.τ).loc Cert.DxBwdIdeal.main_arg5)
      ∧ m' ((c.tc : Thread Cert.DxRefIdeal.nD Cert.DxRefIdeal.τ).loc Cert.DxRefIdeal.main_arg6) = m ((c.tc : Thread Cert.DxBwdIdeal.nD Cert.DxBwdIdeal.τ).loc Cert.DxBwdIdeal.main_arg6)
      ∧ m' ((c.tc : Thread Cert.DxRefIdeal.nD Cert.DxRefIdeal.τ).loc Cert.DxRefIdeal.main_arg7) = m ((c.tc : Thread Cert.DxBwdIdeal.nD Cert.DxBwdIdeal.τ).loc Cert.DxBwdIdeal.main_arg7)
      ∧ m' ((c.tc : Thread Cert.DxRefIdeal.nD Cert.DxRefIdeal.τ).loc Cert.DxRefIdeal.main_arg8) = m ((c.tc : Thread Cert.DxBwdIdeal.nD Cert.DxBwdIdeal.τ).loc Cert.DxBwdIdeal.main_arg8)) →
    ∃ (v0 : (c : Dev Cert.DxBwdIdeal.nD) → Buf (Elt Ideal) ((c.tc : Thread Cert.DxBwdIdeal.nD Cert.DxBwdIdeal.τ).loc Cert.DxBwdIdeal.main_v0)),
      θ_run (Cert.DxBwdIdeal.defs (F := Ideal)) (onTc (τ := Cert.DxBwdIdeal.τ) (Cert.DxBwdIdeal.main (F := Ideal))) ⟨m, fun _ => 0, g⟩ (fun r => ∀ c : Dev Cert.DxBwdIdeal.nD,
          r.2.mem ((c.tc : Thread Cert.DxBwdIdeal.nD Cert.DxBwdIdeal.τ).loc Cert.DxBwdIdeal.main_v0) = v0 c
          ∧ r.2.mem ((c.tc : Thread Cert.DxBwdIdeal.nD Cert.DxBwdIdeal.τ).loc Cert.DxBwdIdeal.main_arg0) = m ((c.tc : Thread Cert.DxBwdIdeal.nD Cert.DxBwdIdeal.τ).loc Cert.DxBwdIdeal.main_arg0)
          ∧ r.2.mem ((c.tc : Thread Cert.DxBwdIdeal.nD Cert.DxBwdIdeal.τ).loc Cert.DxBwdIdeal.main_arg1) = m ((c.tc : Thread Cert.DxBwdIdeal.nD Cert.DxBwdIdeal.τ).loc Cert.DxBwdIdeal.main_arg1)
          ∧ r.2.mem ((c.tc : Thread Cert.DxBwdIdeal.nD Cert.DxBwdIdeal.τ).loc Cert.DxBwdIdeal.main_arg2) = m ((c.tc : Thread Cert.DxBwdIdeal.nD Cert.DxBwdIdeal.τ).loc Cert.DxBwdIdeal.main_arg2)
          ∧ r.2.mem ((c.tc : Thread Cert.DxBwdIdeal.nD Cert.DxBwdIdeal.τ).loc Cert.DxBwdIdeal.main_arg3) = m ((c.tc : Thread Cert.DxBwdIdeal.nD Cert.DxBwdIdeal.τ).loc Cert.DxBwdIdeal.main_arg3)
          ∧ r.2.mem ((c.tc : Thread Cert.DxBwdIdeal.nD Cert.DxBwdIdeal.τ).loc Cert.DxBwdIdeal.main_arg4) = m ((c.tc : Thread Cert.DxBwdIdeal.nD Cert.DxBwdIdeal.τ).loc Cert.DxBwdIdeal.main_arg4)
          ∧ r.2.mem ((c.tc : Thread Cert.DxBwdIdeal.nD Cert.DxBwdIdeal.τ).loc Cert.DxBwdIdeal.main_arg5) = m ((c.tc : Thread Cert.DxBwdIdeal.nD Cert.DxBwdIdeal.τ).loc Cert.DxBwdIdeal.main_arg5)
          ∧ r.2.mem ((c.tc : Thread Cert.DxBwdIdeal.nD Cert.DxBwdIdeal.τ).loc Cert.DxBwdIdeal.main_arg6) = m ((c.tc : Thread Cert.DxBwdIdeal.nD Cert.DxBwdIdeal.τ).loc Cert.DxBwdIdeal.main_arg6)
          ∧ r.2.mem ((c.tc : Thread Cert.DxBwdIdeal.nD Cert.DxBwdIdeal.τ).loc Cert.DxBwdIdeal.main_arg7) = m ((c.tc : Thread Cert.DxBwdIdeal.nD Cert.DxBwdIdeal.τ).loc Cert.DxBwdIdeal.main_arg7)
          ∧ r.2.mem ((c.tc : Thread Cert.DxBwdIdeal.nD Cert.DxBwdIdeal.τ).loc Cert.DxBwdIdeal.main_arg8) = m ((c.tc : Thread Cert.DxBwdIdeal.nD Cert.DxBwdIdeal.τ).loc Cert.DxBwdIdeal.main_arg8))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v16) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7)
          ∧ r.2.mem ((c.tc : Thread Cert.DxRefIdeal.nD Cert.DxRefIdeal.τ).loc Cert.DxRefIdeal.main_arg8) = m' ((c.tc : Thread Cert.DxRefIdeal.nD Cert.DxRefIdeal.τ).loc Cert.DxRefIdeal.main_arg8))

def preserves_MlpBwd_MlpBwdIdeal : Prop :=
  True

def algebraic_MlpBwdIdeal_MlpRefIdeal_pre_real_inputs [hMlpBwdIdeal : Cert.MlpBwdIdeal.Facts] [hMlpRefIdeal : Cert.MlpRefIdeal.Facts] [hPre_real_inputs : Cert.Pre_real_inputs.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpBwdIdeal_real_inputs m →
    (∀ c : Dev Cert.MlpBwdIdeal.nD,
      m' ((c.tc : Thread Cert.MlpRefIdeal.nD Cert.MlpRefIdeal.τ).loc Cert.MlpRefIdeal.main_arg0) = m ((c.tc : Thread Cert.MlpBwdIdeal.nD Cert.MlpBwdIdeal.τ).loc Cert.MlpBwdIdeal.main_arg0)
      ∧ m' ((c.tc : Thread Cert.MlpRefIdeal.nD Cert.MlpRefIdeal.τ).loc Cert.MlpRefIdeal.main_arg1) = m ((c.tc : Thread Cert.MlpBwdIdeal.nD Cert.MlpBwdIdeal.τ).loc Cert.MlpBwdIdeal.main_arg1)
      ∧ m' ((c.tc : Thread Cert.MlpRefIdeal.nD Cert.MlpRefIdeal.τ).loc Cert.MlpRefIdeal.main_arg2) = m ((c.tc : Thread Cert.MlpBwdIdeal.nD Cert.MlpBwdIdeal.τ).loc Cert.MlpBwdIdeal.main_arg2)
      ∧ m' ((c.tc : Thread Cert.MlpRefIdeal.nD Cert.MlpRefIdeal.τ).loc Cert.MlpRefIdeal.main_arg3) = m ((c.tc : Thread Cert.MlpBwdIdeal.nD Cert.MlpBwdIdeal.τ).loc Cert.MlpBwdIdeal.main_arg3)
      ∧ m' ((c.tc : Thread Cert.MlpRefIdeal.nD Cert.MlpRefIdeal.τ).loc Cert.MlpRefIdeal.main_arg4) = m ((c.tc : Thread Cert.MlpBwdIdeal.nD Cert.MlpBwdIdeal.τ).loc Cert.MlpBwdIdeal.main_arg4)
      ∧ m' ((c.tc : Thread Cert.MlpRefIdeal.nD Cert.MlpRefIdeal.τ).loc Cert.MlpRefIdeal.main_arg5) = m ((c.tc : Thread Cert.MlpBwdIdeal.nD Cert.MlpBwdIdeal.τ).loc Cert.MlpBwdIdeal.main_arg5)
      ∧ m' ((c.tc : Thread Cert.MlpRefIdeal.nD Cert.MlpRefIdeal.τ).loc Cert.MlpRefIdeal.main_arg6) = m ((c.tc : Thread Cert.MlpBwdIdeal.nD Cert.MlpBwdIdeal.τ).loc Cert.MlpBwdIdeal.main_arg6)
      ∧ m' ((c.tc : Thread Cert.MlpRefIdeal.nD Cert.MlpRefIdeal.τ).loc Cert.MlpRefIdeal.main_arg7) = m ((c.tc : Thread Cert.MlpBwdIdeal.nD Cert.MlpBwdIdeal.τ).loc Cert.MlpBwdIdeal.main_arg7)
      ∧ m' ((c.tc : Thread Cert.MlpRefIdeal.nD Cert.MlpRefIdeal.τ).loc Cert.MlpRefIdeal.main_arg8) = m ((c.tc : Thread Cert.MlpBwdIdeal.nD Cert.MlpBwdIdeal.τ).loc Cert.MlpBwdIdeal.main_arg8)
      ∧ m' ((c.tc : Thread Cert.MlpRefIdeal.nD Cert.MlpRefIdeal.τ).loc Cert.MlpRefIdeal.main_arg9) = m ((c.tc : Thread Cert.MlpBwdIdeal.nD Cert.MlpBwdIdeal.τ).loc Cert.MlpBwdIdeal.main_arg9)) →
    ∃ (v0 : (c : Dev Cert.MlpBwdIdeal.nD) → Buf (Elt Ideal) ((c.tc : Thread Cert.MlpBwdIdeal.nD Cert.MlpBwdIdeal.τ).loc Cert.MlpBwdIdeal.main_v67_0)) (v1 : (c : Dev Cert.MlpBwdIdeal.nD) → Buf (Elt Ideal) ((c.tc : Thread Cert.MlpBwdIdeal.nD Cert.MlpBwdIdeal.τ).loc Cert.MlpBwdIdeal.main_v67_1)) (v2 : (c : Dev Cert.MlpBwdIdeal.nD) → Buf (Elt Ideal) ((c.tc : Thread Cert.MlpBwdIdeal.nD Cert.MlpBwdIdeal.τ).loc Cert.MlpBwdIdeal.main_v67_2)) (v3 : (c : Dev Cert.MlpBwdIdeal.nD) → Buf (Elt Ideal) ((c.tc : Thread Cert.MlpBwdIdeal.nD Cert.MlpBwdIdeal.τ).loc Cert.MlpBwdIdeal.main_v67_3)) (v4 : (c : Dev Cert.MlpBwdIdeal.nD) → Buf (Elt Ideal) ((c.tc : Thread Cert.MlpBwdIdeal.nD Cert.MlpBwdIdeal.τ).loc Cert.MlpBwdIdeal.main_v67_4)) (v5 : (c : Dev Cert.MlpBwdIdeal.nD) → Buf (Elt Ideal) ((c.tc : Thread Cert.MlpBwdIdeal.nD Cert.MlpBwdIdeal.τ).loc Cert.MlpBwdIdeal.main_v67_5)) (v6 : (c : Dev Cert.MlpBwdIdeal.nD) → Buf (Elt Ideal) ((c.tc : Thread Cert.MlpBwdIdeal.nD Cert.MlpBwdIdeal.τ).loc Cert.MlpBwdIdeal.main_v67_6)) (v7 : (c : Dev Cert.MlpBwdIdeal.nD) → Buf (Elt Ideal) ((c.tc : Thread Cert.MlpBwdIdeal.nD Cert.MlpBwdIdeal.τ).loc Cert.MlpBwdIdeal.main_v67_7)) (v8 : (c : Dev Cert.MlpBwdIdeal.nD) → Buf (Elt Ideal) ((c.tc : Thread Cert.MlpBwdIdeal.nD Cert.MlpBwdIdeal.τ).loc Cert.MlpBwdIdeal.main_v67_8)) (v9 : (c : Dev Cert.MlpBwdIdeal.nD) → Buf (Elt Ideal) ((c.tc : Thread Cert.MlpBwdIdeal.nD Cert.MlpBwdIdeal.τ).loc Cert.MlpBwdIdeal.main_v67_9)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v67_0) = v0 c
          ∧ r.2.mem ((c.tc : Thread Cert.MlpBwdIdeal.nD Cert.MlpBwdIdeal.τ).loc Cert.MlpBwdIdeal.main_v67_1) = v1 c
          ∧ r.2.mem ((c.tc : Thread Cert.MlpBwdIdeal.nD Cert.MlpBwdIdeal.τ).loc Cert.MlpBwdIdeal.main_v67_2) = v2 c
          ∧ r.2.mem ((c.tc : Thread Cert.MlpBwdIdeal.nD Cert.MlpBwdIdeal.τ).loc Cert.MlpBwdIdeal.main_v67_3) = v3 c
          ∧ r.2.mem ((c.tc : Thread Cert.MlpBwdIdeal.nD Cert.MlpBwdIdeal.τ).loc Cert.MlpBwdIdeal.main_v67_4) = v4 c
          ∧ r.2.mem ((c.tc : Thread Cert.MlpBwdIdeal.nD Cert.MlpBwdIdeal.τ).loc Cert.MlpBwdIdeal.main_v67_5) = v5 c
          ∧ r.2.mem ((c.tc : Thread Cert.MlpBwdIdeal.nD Cert.MlpBwdIdeal.τ).loc Cert.MlpBwdIdeal.main_v67_6) = v6 c
          ∧ r.2.mem ((c.tc : Thread Cert.MlpBwdIdeal.nD Cert.MlpBwdIdeal.τ).loc Cert.MlpBwdIdeal.main_v67_7) = v7 c
          ∧ r.2.mem ((c.tc : Thread Cert.MlpBwdIdeal.nD Cert.MlpBwdIdeal.τ).loc Cert.MlpBwdIdeal.main_v67_8) = v8 c
          ∧ r.2.mem ((c.tc : Thread Cert.MlpBwdIdeal.nD Cert.MlpBwdIdeal.τ).loc Cert.MlpBwdIdeal.main_v67_9) = v9 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
          ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5)
          ∧ r.2.mem ((c.tc : Thread Cert.MlpBwdIdeal.nD Cert.MlpBwdIdeal.τ).loc Cert.MlpBwdIdeal.main_arg6) = m ((c.tc : Thread Cert.MlpBwdIdeal.nD Cert.MlpBwdIdeal.τ).loc Cert.MlpBwdIdeal.main_arg6)
          ∧ r.2.mem ((c.tc : Thread Cert.MlpBwdIdeal.nD Cert.MlpBwdIdeal.τ).loc Cert.MlpBwdIdeal.main_arg7) = m ((c.tc : Thread Cert.MlpBwdIdeal.nD Cert.MlpBwdIdeal.τ).loc Cert.MlpBwdIdeal.main_arg7)
          ∧ r.2.mem ((c.tc : Thread Cert.MlpBwdIdeal.nD Cert.MlpBwdIdeal.τ).loc Cert.MlpBwdIdeal.main_arg8) = m ((c.tc : Thread Cert.MlpBwdIdeal.nD Cert.MlpBwdIdeal.τ).loc Cert.MlpBwdIdeal.main_arg8)
          ∧ r.2.mem ((c.tc : Thread Cert.MlpBwdIdeal.nD Cert.MlpBwdIdeal.τ).loc Cert.MlpBwdIdeal.main_arg9) = m ((c.tc : Thread Cert.MlpBwdIdeal.nD Cert.MlpBwdIdeal.τ).loc Cert.MlpBwdIdeal.main_arg9))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v151) = v0 c
          ∧ r.2.mem ((c.tc : Thread Cert.MlpRefIdeal.nD Cert.MlpRefIdeal.τ).loc Cert.MlpRefIdeal.main_v152) = v1 c
          ∧ r.2.mem ((c.tc : Thread Cert.MlpRefIdeal.nD Cert.MlpRefIdeal.τ).loc Cert.MlpRefIdeal.main_v153) = v2 c
          ∧ r.2.mem ((c.tc : Thread Cert.MlpRefIdeal.nD Cert.MlpRefIdeal.τ).loc Cert.MlpRefIdeal.main_v149) = v3 c
          ∧ r.2.mem ((c.tc : Thread Cert.MlpRefIdeal.nD Cert.MlpRefIdeal.τ).loc Cert.MlpRefIdeal.main_v154) = v4 c
          ∧ r.2.mem ((c.tc : Thread Cert.MlpRefIdeal.nD Cert.MlpRefIdeal.τ).loc Cert.MlpRefIdeal.main_v150) = v5 c
          ∧ r.2.mem ((c.tc : Thread Cert.MlpRefIdeal.nD Cert.MlpRefIdeal.τ).loc Cert.MlpRefIdeal.main_v155) = v6 c
          ∧ r.2.mem ((c.tc : Thread Cert.MlpRefIdeal.nD Cert.MlpRefIdeal.τ).loc Cert.MlpRefIdeal.main_v156) = v7 c
          ∧ r.2.mem ((c.tc : Thread Cert.MlpRefIdeal.nD Cert.MlpRefIdeal.τ).loc Cert.MlpRefIdeal.main_v157) = v8 c
          ∧ r.2.mem ((c.tc : Thread Cert.MlpRefIdeal.nD Cert.MlpRefIdeal.τ).loc Cert.MlpRefIdeal.main_v158) = v9 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9))

def preserves_ProjFwd_ProjFwdIdeal : Prop :=
  True

def algebraic_ProjFwdIdeal_ProjRefIdeal [hProjFwdIdeal : Cert.ProjFwdIdeal.Facts] [hProjRefIdeal : Cert.ProjRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjFwdIdeal m →
    (∀ c : Dev Cert.ProjFwdIdeal.nD,
      m' ((c.tc : Thread Cert.ProjRefIdeal.nD Cert.ProjRefIdeal.τ).loc Cert.ProjRefIdeal.main_arg0) = m ((c.tc : Thread Cert.ProjFwdIdeal.nD Cert.ProjFwdIdeal.τ).loc Cert.ProjFwdIdeal.main_arg0)
      ∧ m' ((c.tc : Thread Cert.ProjRefIdeal.nD Cert.ProjRefIdeal.τ).loc Cert.ProjRefIdeal.main_arg1) = m ((c.tc : Thread Cert.ProjFwdIdeal.nD Cert.ProjFwdIdeal.τ).loc Cert.ProjFwdIdeal.main_arg1)
      ∧ m' ((c.tc : Thread Cert.ProjRefIdeal.nD Cert.ProjRefIdeal.τ).loc Cert.ProjRefIdeal.main_arg2) = m ((c.tc : Thread Cert.ProjFwdIdeal.nD Cert.ProjFwdIdeal.τ).loc Cert.ProjFwdIdeal.main_arg2)) →
    ∃ (v0 : (c : Dev Cert.ProjFwdIdeal.nD) → Buf (Elt Ideal) ((c.tc : Thread Cert.ProjFwdIdeal.nD Cert.ProjFwdIdeal.τ).loc Cert.ProjFwdIdeal.main_v0_0)) (v1 : (c : Dev Cert.ProjFwdIdeal.nD) → Buf (Elt Ideal) ((c.tc : Thread Cert.ProjFwdIdeal.nD Cert.ProjFwdIdeal.τ).loc Cert.ProjFwdIdeal.main_v0_1)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v0_0) = v0 c
          ∧ r.2.mem ((c.tc : Thread Cert.ProjFwdIdeal.nD Cert.ProjFwdIdeal.τ).loc Cert.ProjFwdIdeal.main_v0_1) = v1 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_v3) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_WoLnFwd_WoLnFwdIdeal : Prop :=
  True

def algebraic_WoLnFwdIdeal_WoLnRefIdeal [hWoLnFwdIdeal : Cert.WoLnFwdIdeal.Facts] [hWoLnRefIdeal : Cert.WoLnRefIdeal.Facts] : Prop :=
  ∀ (m : (ℓ : Loc Cert.WoLnFwdIdeal.nD Cert.WoLnFwdIdeal.τ Cert.WoLnFwdIdeal.sig) → Buf (Elt Ideal) ℓ) (g : Dev Cert.WoLnFwdIdeal.nD → PrngReg)
    (m' : (ℓ : Loc Cert.WoLnRefIdeal.nD Cert.WoLnRefIdeal.τ Cert.WoLnRefIdeal.sig) → Buf (Elt Ideal) ℓ) (g' : Dev Cert.WoLnRefIdeal.nD → PrngReg), Pre_WoLnFwdIdeal m →
    (∀ c : Dev Cert.WoLnFwdIdeal.nD,
      m' ((c.tc : Thread Cert.WoLnRefIdeal.nD Cert.WoLnRefIdeal.τ).loc Cert.WoLnRefIdeal.main_arg0) = m ((c.tc : Thread Cert.WoLnFwdIdeal.nD Cert.WoLnFwdIdeal.τ).loc Cert.WoLnFwdIdeal.main_arg0)
      ∧ m' ((c.tc : Thread Cert.WoLnRefIdeal.nD Cert.WoLnRefIdeal.τ).loc Cert.WoLnRefIdeal.main_arg1) = m ((c.tc : Thread Cert.WoLnFwdIdeal.nD Cert.WoLnFwdIdeal.τ).loc Cert.WoLnFwdIdeal.main_arg1)
      ∧ m' ((c.tc : Thread Cert.WoLnRefIdeal.nD Cert.WoLnRefIdeal.τ).loc Cert.WoLnRefIdeal.main_arg2) = m ((c.tc : Thread Cert.WoLnFwdIdeal.nD Cert.WoLnFwdIdeal.τ).loc Cert.WoLnFwdIdeal.main_arg2)
      ∧ m' ((c.tc : Thread Cert.WoLnRefIdeal.nD Cert.WoLnRefIdeal.τ).loc Cert.WoLnRefIdeal.main_arg3) = m ((c.tc : Thread Cert.WoLnFwdIdeal.nD Cert.WoLnFwdIdeal.τ).loc Cert.WoLnFwdIdeal.main_arg3)
      ∧ m' ((c.tc : Thread Cert.WoLnRefIdeal.nD Cert.WoLnRefIdeal.τ).loc Cert.WoLnRefIdeal.main_arg4) = m ((c.tc : Thread Cert.WoLnFwdIdeal.nD Cert.WoLnFwdIdeal.τ).loc Cert.WoLnFwdIdeal.main_arg4)
      ∧ m' ((c.tc : Thread Cert.WoLnRefIdeal.nD Cert.WoLnRefIdeal.τ).loc Cert.WoLnRefIdeal.main_arg5) = m ((c.tc : Thread Cert.WoLnFwdIdeal.nD Cert.WoLnFwdIdeal.τ).loc Cert.WoLnFwdIdeal.main_arg5)
      ∧ m' ((c.tc : Thread Cert.WoLnRefIdeal.nD Cert.WoLnRefIdeal.τ).loc Cert.WoLnRefIdeal.main_arg6) = m ((c.tc : Thread Cert.WoLnFwdIdeal.nD Cert.WoLnFwdIdeal.τ).loc Cert.WoLnFwdIdeal.main_arg6)) →
    ∃ (v0 : (c : Dev Cert.WoLnFwdIdeal.nD) → Buf (Elt Ideal) ((c.tc : Thread Cert.WoLnFwdIdeal.nD Cert.WoLnFwdIdeal.τ).loc Cert.WoLnFwdIdeal.main_v0_0)) (v1 : (c : Dev Cert.WoLnFwdIdeal.nD) → Buf (Elt Ideal) ((c.tc : Thread Cert.WoLnFwdIdeal.nD Cert.WoLnFwdIdeal.τ).loc Cert.WoLnFwdIdeal.main_v0_1)) (v2 : (c : Dev Cert.WoLnFwdIdeal.nD) → Buf (Elt Ideal) ((c.tc : Thread Cert.WoLnFwdIdeal.nD Cert.WoLnFwdIdeal.τ).loc Cert.WoLnFwdIdeal.main_v0_2)),
      θ_run (Cert.WoLnFwdIdeal.defs (F := Ideal)) (onTc (τ := Cert.WoLnFwdIdeal.τ) (Cert.WoLnFwdIdeal.main (F := Ideal))) ⟨m, fun _ => 0, g⟩ (fun r => ∀ c : Dev Cert.WoLnFwdIdeal.nD,
          r.2.mem ((c.tc : Thread Cert.WoLnFwdIdeal.nD Cert.WoLnFwdIdeal.τ).loc Cert.WoLnFwdIdeal.main_v0_0) = v0 c
          ∧ r.2.mem ((c.tc : Thread Cert.WoLnFwdIdeal.nD Cert.WoLnFwdIdeal.τ).loc Cert.WoLnFwdIdeal.main_v0_1) = v1 c
          ∧ r.2.mem ((c.tc : Thread Cert.WoLnFwdIdeal.nD Cert.WoLnFwdIdeal.τ).loc Cert.WoLnFwdIdeal.main_v0_2) = v2 c
          ∧ r.2.mem ((c.tc : Thread Cert.WoLnFwdIdeal.nD Cert.WoLnFwdIdeal.τ).loc Cert.WoLnFwdIdeal.main_arg0) = m ((c.tc : Thread Cert.WoLnFwdIdeal.nD Cert.WoLnFwdIdeal.τ).loc Cert.WoLnFwdIdeal.main_arg0)
          ∧ r.2.mem ((c.tc : Thread Cert.WoLnFwdIdeal.nD Cert.WoLnFwdIdeal.τ).loc Cert.WoLnFwdIdeal.main_arg1) = m ((c.tc : Thread Cert.WoLnFwdIdeal.nD Cert.WoLnFwdIdeal.τ).loc Cert.WoLnFwdIdeal.main_arg1)
          ∧ r.2.mem ((c.tc : Thread Cert.WoLnFwdIdeal.nD Cert.WoLnFwdIdeal.τ).loc Cert.WoLnFwdIdeal.main_arg2) = m ((c.tc : Thread Cert.WoLnFwdIdeal.nD Cert.WoLnFwdIdeal.τ).loc Cert.WoLnFwdIdeal.main_arg2)
          ∧ r.2.mem ((c.tc : Thread Cert.WoLnFwdIdeal.nD Cert.WoLnFwdIdeal.τ).loc Cert.WoLnFwdIdeal.main_arg3) = m ((c.tc : Thread Cert.WoLnFwdIdeal.nD Cert.WoLnFwdIdeal.τ).loc Cert.WoLnFwdIdeal.main_arg3)
          ∧ r.2.mem ((c.tc : Thread Cert.WoLnFwdIdeal.nD Cert.WoLnFwdIdeal.τ).loc Cert.WoLnFwdIdeal.main_arg4) = m ((c.tc : Thread Cert.WoLnFwdIdeal.nD Cert.WoLnFwdIdeal.τ).loc Cert.WoLnFwdIdeal.main_arg4)
          ∧ r.2.mem ((c.tc : Thread Cert.WoLnFwdIdeal.nD Cert.WoLnFwdIdeal.τ).loc Cert.WoLnFwdIdeal.main_arg5) = m ((c.tc : Thread Cert.WoLnFwdIdeal.nD Cert.WoLnFwdIdeal.τ).loc Cert.WoLnFwdIdeal.main_arg5)
          ∧ r.2.mem ((c.tc : Thread Cert.WoLnFwdIdeal.nD Cert.WoLnFwdIdeal.τ).loc Cert.WoLnFwdIdeal.main_arg6) = m ((c.tc : Thread Cert.WoLnFwdIdeal.nD Cert.WoLnFwdIdeal.τ).loc Cert.WoLnFwdIdeal.main_arg6))
      ∧ θ_run (Cert.WoLnRefIdeal.defs (F := Ideal)) (onTc (τ := Cert.WoLnRefIdeal.τ) (Cert.WoLnRefIdeal.main (F := Ideal))) ⟨m', fun _ => 0, g'⟩ (fun r => ∀ c : Dev Cert.WoLnRefIdeal.nD,
          r.2.mem ((c.tc : Thread Cert.WoLnRefIdeal.nD Cert.WoLnRefIdeal.τ).loc Cert.WoLnRefIdeal.main_v26) = v0 c
          ∧ r.2.mem ((c.tc : Thread Cert.WoLnRefIdeal.nD Cert.WoLnRefIdeal.τ).loc Cert.WoLnRefIdeal.main_v22) = v1 c
          ∧ r.2.mem ((c.tc : Thread Cert.WoLnRefIdeal.nD Cert.WoLnRefIdeal.τ).loc Cert.WoLnRefIdeal.main_v31) = v2 c
          ∧ r.2.mem ((c.tc : Thread Cert.WoLnRefIdeal.nD Cert.WoLnRefIdeal.τ).loc Cert.WoLnRefIdeal.main_arg0) = m' ((c.tc : Thread Cert.WoLnRefIdeal.nD Cert.WoLnRefIdeal.τ).loc Cert.WoLnRefIdeal.main_arg0)
          ∧ r.2.mem ((c.tc : Thread Cert.WoLnRefIdeal.nD Cert.WoLnRefIdeal.τ).loc Cert.WoLnRefIdeal.main_arg1) = m' ((c.tc : Thread Cert.WoLnRefIdeal.nD Cert.WoLnRefIdeal.τ).loc Cert.WoLnRefIdeal.main_arg1)
          ∧ r.2.mem ((c.tc : Thread Cert.WoLnRefIdeal.nD Cert.WoLnRefIdeal.τ).loc Cert.WoLnRefIdeal.main_arg2) = m' ((c.tc : Thread Cert.WoLnRefIdeal.nD Cert.WoLnRefIdeal.τ).loc Cert.WoLnRefIdeal.main_arg2)
          ∧ r.2.mem ((c.tc : Thread Cert.WoLnRefIdeal.nD Cert.WoLnRefIdeal.τ).loc Cert.WoLnRefIdeal.main_arg3) = m' ((c.tc : Thread Cert.WoLnRefIdeal.nD Cert.WoLnRefIdeal.τ).loc Cert.WoLnRefIdeal.main_arg3)
          ∧ r.2.mem ((c.tc : Thread Cert.WoLnRefIdeal.nD Cert.WoLnRefIdeal.τ).loc Cert.WoLnRefIdeal.main_arg4) = m' ((c.tc : Thread Cert.WoLnRefIdeal.nD Cert.WoLnRefIdeal.τ).loc Cert.WoLnRefIdeal.main_arg4)
          ∧ r.2.mem ((c.tc : Thread Cert.WoLnRefIdeal.nD Cert.WoLnRefIdeal.τ).loc Cert.WoLnRefIdeal.main_arg5) = m' ((c.tc : Thread Cert.WoLnRefIdeal.nD Cert.WoLnRefIdeal.τ).loc Cert.WoLnRefIdeal.main_arg5)
          ∧ r.2.mem ((c.tc : Thread Cert.WoLnRefIdeal.nD Cert.WoLnRefIdeal.τ).loc Cert.WoLnRefIdeal.main_arg6) = m' ((c.tc : Thread Cert.WoLnRefIdeal.nD Cert.WoLnRefIdeal.τ).loc Cert.WoLnRefIdeal.main_arg6))

def preserves_MlpFFwd_MlpFFwdIdeal : Prop :=
  True

def algebraic_MlpFFwdIdeal_MlpFRefIdeal [hMlpFFwdIdeal : Cert.MlpFFwdIdeal.Facts] [hMlpFRefIdeal : Cert.MlpFRefIdeal.Facts] : Prop :=
  ∀ (m : (ℓ : Loc Cert.MlpFFwdIdeal.nD Cert.MlpFFwdIdeal.τ Cert.MlpFFwdIdeal.sig) → Buf (Elt Ideal) ℓ) (g : Dev Cert.MlpFFwdIdeal.nD → PrngReg)
    (m' : (ℓ : Loc Cert.MlpFRefIdeal.nD Cert.MlpFRefIdeal.τ Cert.MlpFRefIdeal.sig) → Buf (Elt Ideal) ℓ) (g' : Dev Cert.MlpFRefIdeal.nD → PrngReg), Pre_MlpFFwdIdeal m →
    (∀ c : Dev Cert.MlpFFwdIdeal.nD,
      m' ((c.tc : Thread Cert.MlpFRefIdeal.nD Cert.MlpFRefIdeal.τ).loc Cert.MlpFRefIdeal.main_arg0) = m ((c.tc : Thread Cert.MlpFFwdIdeal.nD Cert.MlpFFwdIdeal.τ).loc Cert.MlpFFwdIdeal.main_arg0)
      ∧ m' ((c.tc : Thread Cert.MlpFRefIdeal.nD Cert.MlpFRefIdeal.τ).loc Cert.MlpFRefIdeal.main_arg1) = m ((c.tc : Thread Cert.MlpFFwdIdeal.nD Cert.MlpFFwdIdeal.τ).loc Cert.MlpFFwdIdeal.main_arg1)
      ∧ m' ((c.tc : Thread Cert.MlpFRefIdeal.nD Cert.MlpFRefIdeal.τ).loc Cert.MlpFRefIdeal.main_arg2) = m ((c.tc : Thread Cert.MlpFFwdIdeal.nD Cert.MlpFFwdIdeal.τ).loc Cert.MlpFFwdIdeal.main_arg2)
      ∧ m' ((c.tc : Thread Cert.MlpFRefIdeal.nD Cert.MlpFRefIdeal.τ).loc Cert.MlpFRefIdeal.main_arg3) = m ((c.tc : Thread Cert.MlpFFwdIdeal.nD Cert.MlpFFwdIdeal.τ).loc Cert.MlpFFwdIdeal.main_arg3)
      ∧ m' ((c.tc : Thread Cert.MlpFRefIdeal.nD Cert.MlpFRefIdeal.τ).loc Cert.MlpFRefIdeal.main_arg4) = m ((c.tc : Thread Cert.MlpFFwdIdeal.nD Cert.MlpFFwdIdeal.τ).loc Cert.MlpFFwdIdeal.main_arg4)
      ∧ m' ((c.tc : Thread Cert.MlpFRefIdeal.nD Cert.MlpFRefIdeal.τ).loc Cert.MlpFRefIdeal.main_arg5) = m ((c.tc : Thread Cert.MlpFFwdIdeal.nD Cert.MlpFFwdIdeal.τ).loc Cert.MlpFFwdIdeal.main_arg5)
      ∧ m' ((c.tc : Thread Cert.MlpFRefIdeal.nD Cert.MlpFRefIdeal.τ).loc Cert.MlpFRefIdeal.main_arg6) = m ((c.tc : Thread Cert.MlpFFwdIdeal.nD Cert.MlpFFwdIdeal.τ).loc Cert.MlpFFwdIdeal.main_arg6)
      ∧ m' ((c.tc : Thread Cert.MlpFRefIdeal.nD Cert.MlpFRefIdeal.τ).loc Cert.MlpFRefIdeal.main_arg7) = m ((c.tc : Thread Cert.MlpFFwdIdeal.nD Cert.MlpFFwdIdeal.τ).loc Cert.MlpFFwdIdeal.main_arg7)) →
    ∃ (v0 : (c : Dev Cert.MlpFFwdIdeal.nD) → Buf (Elt Ideal) ((c.tc : Thread Cert.MlpFFwdIdeal.nD Cert.MlpFFwdIdeal.τ).loc Cert.MlpFFwdIdeal.main_v0_0)) (v1 : (c : Dev Cert.MlpFFwdIdeal.nD) → Buf (Elt Ideal) ((c.tc : Thread Cert.MlpFFwdIdeal.nD Cert.MlpFFwdIdeal.τ).loc Cert.MlpFFwdIdeal.main_v0_1)) (v2 : (c : Dev Cert.MlpFFwdIdeal.nD) → Buf (Elt Ideal) ((c.tc : Thread Cert.MlpFFwdIdeal.nD Cert.MlpFFwdIdeal.τ).loc Cert.MlpFFwdIdeal.main_v0_2)) (v3 : (c : Dev Cert.MlpFFwdIdeal.nD) → Buf (Elt Ideal) ((c.tc : Thread Cert.MlpFFwdIdeal.nD Cert.MlpFFwdIdeal.τ).loc Cert.MlpFFwdIdeal.main_v0_3)),
      θ_run (Cert.MlpFFwdIdeal.defs (F := Ideal)) (onTc (τ := Cert.MlpFFwdIdeal.τ) (Cert.MlpFFwdIdeal.main (F := Ideal))) ⟨m, fun _ => 0, g⟩ (fun r => ∀ c : Dev Cert.MlpFFwdIdeal.nD,
          r.2.mem ((c.tc : Thread Cert.MlpFFwdIdeal.nD Cert.MlpFFwdIdeal.τ).loc Cert.MlpFFwdIdeal.main_v0_0) = v0 c
          ∧ r.2.mem ((c.tc : Thread Cert.MlpFFwdIdeal.nD Cert.MlpFFwdIdeal.τ).loc Cert.MlpFFwdIdeal.main_v0_1) = v1 c
          ∧ r.2.mem ((c.tc : Thread Cert.MlpFFwdIdeal.nD Cert.MlpFFwdIdeal.τ).loc Cert.MlpFFwdIdeal.main_v0_2) = v2 c
          ∧ r.2.mem ((c.tc : Thread Cert.MlpFFwdIdeal.nD Cert.MlpFFwdIdeal.τ).loc Cert.MlpFFwdIdeal.main_v0_3) = v3 c
          ∧ r.2.mem ((c.tc : Thread Cert.MlpFFwdIdeal.nD Cert.MlpFFwdIdeal.τ).loc Cert.MlpFFwdIdeal.main_arg0) = m ((c.tc : Thread Cert.MlpFFwdIdeal.nD Cert.MlpFFwdIdeal.τ).loc Cert.MlpFFwdIdeal.main_arg0)
          ∧ r.2.mem ((c.tc : Thread Cert.MlpFFwdIdeal.nD Cert.MlpFFwdIdeal.τ).loc Cert.MlpFFwdIdeal.main_arg1) = m ((c.tc : Thread Cert.MlpFFwdIdeal.nD Cert.MlpFFwdIdeal.τ).loc Cert.MlpFFwdIdeal.main_arg1)
          ∧ r.2.mem ((c.tc : Thread Cert.MlpFFwdIdeal.nD Cert.MlpFFwdIdeal.τ).loc Cert.MlpFFwdIdeal.main_arg2) = m ((c.tc : Thread Cert.MlpFFwdIdeal.nD Cert.MlpFFwdIdeal.τ).loc Cert.MlpFFwdIdeal.main_arg2)
          ∧ r.2.mem ((c.tc : Thread Cert.MlpFFwdIdeal.nD Cert.MlpFFwdIdeal.τ).loc Cert.MlpFFwdIdeal.main_arg3) = m ((c.tc : Thread Cert.MlpFFwdIdeal.nD Cert.MlpFFwdIdeal.τ).loc Cert.MlpFFwdIdeal.main_arg3)
          ∧ r.2.mem ((c.tc : Thread Cert.MlpFFwdIdeal.nD Cert.MlpFFwdIdeal.τ).loc Cert.MlpFFwdIdeal.main_arg4) = m ((c.tc : Thread Cert.MlpFFwdIdeal.nD Cert.MlpFFwdIdeal.τ).loc Cert.MlpFFwdIdeal.main_arg4)
          ∧ r.2.mem ((c.tc : Thread Cert.MlpFFwdIdeal.nD Cert.MlpFFwdIdeal.τ).loc Cert.MlpFFwdIdeal.main_arg5) = m ((c.tc : Thread Cert.MlpFFwdIdeal.nD Cert.MlpFFwdIdeal.τ).loc Cert.MlpFFwdIdeal.main_arg5)
          ∧ r.2.mem ((c.tc : Thread Cert.MlpFFwdIdeal.nD Cert.MlpFFwdIdeal.τ).loc Cert.MlpFFwdIdeal.main_arg6) = m ((c.tc : Thread Cert.MlpFFwdIdeal.nD Cert.MlpFFwdIdeal.τ).loc Cert.MlpFFwdIdeal.main_arg6)
          ∧ r.2.mem ((c.tc : Thread Cert.MlpFFwdIdeal.nD Cert.MlpFFwdIdeal.τ).loc Cert.MlpFFwdIdeal.main_arg7) = m ((c.tc : Thread Cert.MlpFFwdIdeal.nD Cert.MlpFFwdIdeal.τ).loc Cert.MlpFFwdIdeal.main_arg7))
      ∧ θ_run (Cert.MlpFRefIdeal.defs (F := Ideal)) (onTc (τ := Cert.MlpFRefIdeal.τ) (Cert.MlpFRefIdeal.main (F := Ideal))) ⟨m', fun _ => 0, g'⟩ (fun r => ∀ c : Dev Cert.MlpFRefIdeal.nD,
          r.2.mem ((c.tc : Thread Cert.MlpFRefIdeal.nD Cert.MlpFRefIdeal.τ).loc Cert.MlpFRefIdeal.main_v5) = v0 c
          ∧ r.2.mem ((c.tc : Thread Cert.MlpFRefIdeal.nD Cert.MlpFRefIdeal.τ).loc Cert.MlpFRefIdeal.main_v32) = v1 c
          ∧ r.2.mem ((c.tc : Thread Cert.MlpFRefIdeal.nD Cert.MlpFRefIdeal.τ).loc Cert.MlpFRefIdeal.main_v28) = v2 c
          ∧ r.2.mem ((c.tc : Thread Cert.MlpFRefIdeal.nD Cert.MlpFRefIdeal.τ).loc Cert.MlpFRefIdeal.main_v36) = v3 c
          ∧ r.2.mem ((c.tc : Thread Cert.MlpFRefIdeal.nD Cert.MlpFRefIdeal.τ).loc Cert.MlpFRefIdeal.main_arg0) = m' ((c.tc : Thread Cert.MlpFRefIdeal.nD Cert.MlpFRefIdeal.τ).loc Cert.MlpFRefIdeal.main_arg0)
          ∧ r.2.mem ((c.tc : Thread Cert.MlpFRefIdeal.nD Cert.MlpFRefIdeal.τ).loc Cert.MlpFRefIdeal.main_arg1) = m' ((c.tc : Thread Cert.MlpFRefIdeal.nD Cert.MlpFRefIdeal.τ).loc Cert.MlpFRefIdeal.main_arg1)
          ∧ r.2.mem ((c.tc : Thread Cert.MlpFRefIdeal.nD Cert.MlpFRefIdeal.τ).loc Cert.MlpFRefIdeal.main_arg2) = m' ((c.tc : Thread Cert.MlpFRefIdeal.nD Cert.MlpFRefIdeal.τ).loc Cert.MlpFRefIdeal.main_arg2)
          ∧ r.2.mem ((c.tc : Thread Cert.MlpFRefIdeal.nD Cert.MlpFRefIdeal.τ).loc Cert.MlpFRefIdeal.main_arg3) = m' ((c.tc : Thread Cert.MlpFRefIdeal.nD Cert.MlpFRefIdeal.τ).loc Cert.MlpFRefIdeal.main_arg3)
          ∧ r.2.mem ((c.tc : Thread Cert.MlpFRefIdeal.nD Cert.MlpFRefIdeal.τ).loc Cert.MlpFRefIdeal.main_arg4) = m' ((c.tc : Thread Cert.MlpFRefIdeal.nD Cert.MlpFRefIdeal.τ).loc Cert.MlpFRefIdeal.main_arg4)
          ∧ r.2.mem ((c.tc : Thread Cert.MlpFRefIdeal.nD Cert.MlpFRefIdeal.τ).loc Cert.MlpFRefIdeal.main_arg5) = m' ((c.tc : Thread Cert.MlpFRefIdeal.nD Cert.MlpFRefIdeal.τ).loc Cert.MlpFRefIdeal.main_arg5)
          ∧ r.2.mem ((c.tc : Thread Cert.MlpFRefIdeal.nD Cert.MlpFRefIdeal.τ).loc Cert.MlpFRefIdeal.main_arg6) = m' ((c.tc : Thread Cert.MlpFRefIdeal.nD Cert.MlpFRefIdeal.τ).loc Cert.MlpFRefIdeal.main_arg6)
          ∧ r.2.mem ((c.tc : Thread Cert.MlpFRefIdeal.nD Cert.MlpFRefIdeal.τ).loc Cert.MlpFRefIdeal.main_arg7) = m' ((c.tc : Thread Cert.MlpFRefIdeal.nD Cert.MlpFRefIdeal.τ).loc Cert.MlpFRefIdeal.main_arg7))

def preserves_ConvFFwd_ConvFFwdIdeal : Prop :=
  True

def algebraic_ConvFFwdIdeal_ConvFRefIdeal [hConvFFwdIdeal : Cert.ConvFFwdIdeal.Facts] [hConvFRefIdeal : Cert.ConvFRefIdeal.Facts] : Prop :=
  ∀ (m : (ℓ : Loc Cert.ConvFFwdIdeal.nD Cert.ConvFFwdIdeal.τ Cert.ConvFFwdIdeal.sig) → Buf (Elt Ideal) ℓ) (g : Dev Cert.ConvFFwdIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFFwdIdeal m →
    (∀ c : Dev Cert.ConvFFwdIdeal.nD,
      m' ((c.tc : Thread Cert.ConvFRefIdeal.nD Cert.ConvFRefIdeal.τ).loc Cert.ConvFRefIdeal.main_arg0) = m ((c.tc : Thread Cert.ConvFFwdIdeal.nD Cert.ConvFFwdIdeal.τ).loc Cert.ConvFFwdIdeal.main_arg0)
      ∧ m' ((c.tc : Thread Cert.ConvFRefIdeal.nD Cert.ConvFRefIdeal.τ).loc Cert.ConvFRefIdeal.main_arg1) = m ((c.tc : Thread Cert.ConvFFwdIdeal.nD Cert.ConvFFwdIdeal.τ).loc Cert.ConvFFwdIdeal.main_arg1)) →
    ∃ (v0 : (c : Dev Cert.ConvFFwdIdeal.nD) → Buf (Elt Ideal) ((c.tc : Thread Cert.ConvFFwdIdeal.nD Cert.ConvFFwdIdeal.τ).loc Cert.ConvFFwdIdeal.main_v0)),
      θ_run (Cert.ConvFFwdIdeal.defs (F := Ideal)) (onTc (τ := Cert.ConvFFwdIdeal.τ) (Cert.ConvFFwdIdeal.main (F := Ideal))) ⟨m, fun _ => 0, g⟩ (fun r => ∀ c : Dev Cert.ConvFFwdIdeal.nD,
          r.2.mem ((c.tc : Thread Cert.ConvFFwdIdeal.nD Cert.ConvFFwdIdeal.τ).loc Cert.ConvFFwdIdeal.main_v0) = v0 c
          ∧ r.2.mem ((c.tc : Thread Cert.ConvFFwdIdeal.nD Cert.ConvFFwdIdeal.τ).loc Cert.ConvFFwdIdeal.main_arg0) = m ((c.tc : Thread Cert.ConvFFwdIdeal.nD Cert.ConvFFwdIdeal.τ).loc Cert.ConvFFwdIdeal.main_arg0)
          ∧ r.2.mem ((c.tc : Thread Cert.ConvFFwdIdeal.nD Cert.ConvFFwdIdeal.τ).loc Cert.ConvFFwdIdeal.main_arg1) = m ((c.tc : Thread Cert.ConvFFwdIdeal.nD Cert.ConvFFwdIdeal.τ).loc Cert.ConvFFwdIdeal.main_arg1))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v27) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1))

def preserves_LossFwd_LossFwdIdeal : Prop :=
  True

def algebraic_LossFwdIdeal_LossRefIdeal [hLossFwdIdeal : Cert.LossFwdIdeal.Facts] [hLossRefIdeal : Cert.LossRefIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossFwdIdeal m →
    (∀ c : Dev Cert.LossFwdIdeal.nD,
      m' ((c.tc : Thread Cert.LossRefIdeal.nD Cert.LossRefIdeal.τ).loc Cert.LossRefIdeal.main_arg0) = m ((c.tc : Thread Cert.LossFwdIdeal.nD Cert.LossFwdIdeal.τ).loc Cert.LossFwdIdeal.main_arg0)
      ∧ m' ((c.tc : Thread Cert.LossRefIdeal.nD Cert.LossRefIdeal.τ).loc Cert.LossRefIdeal.main_arg1) = m ((c.tc : Thread Cert.LossFwdIdeal.nD Cert.LossFwdIdeal.τ).loc Cert.LossFwdIdeal.main_arg1)) →
    ∃ (v0 : (c : Dev Cert.LossFwdIdeal.nD) → Buf (Elt Ideal) ((c.tc : Thread Cert.LossFwdIdeal.nD Cert.LossFwdIdeal.τ).loc Cert.LossFwdIdeal.main_v0_0)) (v1 : (c : Dev Cert.LossFwdIdeal.nD) → Buf (Elt Ideal) ((c.tc : Thread Cert.LossFwdIdeal.nD Cert.LossFwdIdeal.τ).loc Cert.LossFwdIdeal.main_v0_1)),
      θ_run (Cert.LossFwdIdeal.defs (F := Ideal)) (onTc (τ := Cert.LossFwdIdeal.τ) (Cert.LossFwdIdeal.main (F := Ideal))) ⟨m, fun _ => 0, g⟩ (fun r => ∀ c : Dev Cert.LossFwdIdeal.nD,
          r.2.mem ((c.tc : Thread Cert.LossFwdIdeal.nD Cert.LossFwdIdeal.τ).loc Cert.LossFwdIdeal.main_v0_0) = v0 c
          ∧ r.2.mem ((c.tc : Thread Cert.LossFwdIdeal.nD Cert.LossFwdIdeal.τ).loc Cert.LossFwdIdeal.main_v0_1) = v1 c
          ∧ r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
          ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v18) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_AdamLUpd_AdamLUpdIdeal : Prop :=
  True

def algebraic_AdamLUpdIdeal_AdamLRefIdeal [hAdamLUpdIdeal : Cert.AdamLUpdIdeal.Facts] [hAdamLRefIdeal : Cert.AdamLRefIdeal.Facts] : Prop :=
  ∀ (m : (ℓ : Loc Cert.AdamLUpdIdeal.nD Cert.AdamLUpdIdeal.τ Cert.AdamLUpdIdeal.sig) → Buf (Elt Ideal) ℓ) (g : Dev Cert.AdamLUpdIdeal.nD → PrngReg)
    (m' : (ℓ : Loc Cert.AdamLRefIdeal.nD Cert.AdamLRefIdeal.τ Cert.AdamLRefIdeal.sig) → Buf (Elt Ideal) ℓ) (g' : Dev Cert.AdamLRefIdeal.nD → PrngReg), Pre_AdamLUpdIdeal m →
    (∀ c : Dev Cert.AdamLUpdIdeal.nD,
      m' ((c.tc : Thread Cert.AdamLRefIdeal.nD Cert.AdamLRefIdeal.τ).loc Cert.AdamLRefIdeal.main_arg0) = m ((c.tc : Thread Cert.AdamLUpdIdeal.nD Cert.AdamLUpdIdeal.τ).loc Cert.AdamLUpdIdeal.main_arg0)
      ∧ m' ((c.tc : Thread Cert.AdamLRefIdeal.nD Cert.AdamLRefIdeal.τ).loc Cert.AdamLRefIdeal.main_arg1) = m ((c.tc : Thread Cert.AdamLUpdIdeal.nD Cert.AdamLUpdIdeal.τ).loc Cert.AdamLUpdIdeal.main_arg1)
      ∧ m' ((c.tc : Thread Cert.AdamLRefIdeal.nD Cert.AdamLRefIdeal.τ).loc Cert.AdamLRefIdeal.main_arg2) = m ((c.tc : Thread Cert.AdamLUpdIdeal.nD Cert.AdamLUpdIdeal.τ).loc Cert.AdamLUpdIdeal.main_arg2)
      ∧ m' ((c.tc : Thread Cert.AdamLRefIdeal.nD Cert.AdamLRefIdeal.τ).loc Cert.AdamLRefIdeal.main_arg3) = m ((c.tc : Thread Cert.AdamLUpdIdeal.nD Cert.AdamLUpdIdeal.τ).loc Cert.AdamLUpdIdeal.main_arg3)
      ∧ m' ((c.tc : Thread Cert.AdamLRefIdeal.nD Cert.AdamLRefIdeal.τ).loc Cert.AdamLRefIdeal.main_arg4) = m ((c.tc : Thread Cert.AdamLUpdIdeal.nD Cert.AdamLUpdIdeal.τ).loc Cert.AdamLUpdIdeal.main_arg4)
      ∧ m' ((c.tc : Thread Cert.AdamLRefIdeal.nD Cert.AdamLRefIdeal.τ).loc Cert.AdamLRefIdeal.main_arg5) = m ((c.tc : Thread Cert.AdamLUpdIdeal.nD Cert.AdamLUpdIdeal.τ).loc Cert.AdamLUpdIdeal.main_arg5)
      ∧ m' ((c.tc : Thread Cert.AdamLRefIdeal.nD Cert.AdamLRefIdeal.τ).loc Cert.AdamLRefIdeal.main_arg6) = m ((c.tc : Thread Cert.AdamLUpdIdeal.nD Cert.AdamLUpdIdeal.τ).loc Cert.AdamLUpdIdeal.main_arg6)
      ∧ m' ((c.tc : Thread Cert.AdamLRefIdeal.nD Cert.AdamLRefIdeal.τ).loc Cert.AdamLRefIdeal.main_arg7) = m ((c.tc : Thread Cert.AdamLUpdIdeal.nD Cert.AdamLUpdIdeal.τ).loc Cert.AdamLUpdIdeal.main_arg7)
      ∧ m' ((c.tc : Thread Cert.AdamLRefIdeal.nD Cert.AdamLRefIdeal.τ).loc Cert.AdamLRefIdeal.main_arg8) = m ((c.tc : Thread Cert.AdamLUpdIdeal.nD Cert.AdamLUpdIdeal.τ).loc Cert.AdamLUpdIdeal.main_arg8)
      ∧ m' ((c.tc : Thread Cert.AdamLRefIdeal.nD Cert.AdamLRefIdeal.τ).loc Cert.AdamLRefIdeal.main_arg9) = m ((c.tc : Thread Cert.AdamLUpdIdeal.nD Cert.AdamLUpdIdeal.τ).loc Cert.AdamLUpdIdeal.main_arg9)
      ∧ m' ((c.tc : Thread Cert.AdamLRefIdeal.nD Cert.AdamLRefIdeal.τ).loc Cert.AdamLRefIdeal.main_arg10) = m ((c.tc : Thread Cert.AdamLUpdIdeal.nD Cert.AdamLUpdIdeal.τ).loc Cert.AdamLUpdIdeal.main_arg10)
      ∧ m' ((c.tc : Thread Cert.AdamLRefIdeal.nD Cert.AdamLRefIdeal.τ).loc Cert.AdamLRefIdeal.main_arg11) = m ((c.tc : Thread Cert.AdamLUpdIdeal.nD Cert.AdamLUpdIdeal.τ).loc Cert.AdamLUpdIdeal.main_arg11)
      ∧ m' ((c.tc : Thread Cert.AdamLRefIdeal.nD Cert.AdamLRefIdeal.τ).loc Cert.AdamLRefIdeal.main_arg12) = m ((c.tc : Thread Cert.AdamLUpdIdeal.nD Cert.AdamLUpdIdeal.τ).loc Cert.AdamLUpdIdeal.main_arg12)
      ∧ m' ((c.tc : Thread Cert.AdamLRefIdeal.nD Cert.AdamLRefIdeal.τ).loc Cert.AdamLRefIdeal.main_arg13) = m ((c.tc : Thread Cert.AdamLUpdIdeal.nD Cert.AdamLUpdIdeal.τ).loc Cert.AdamLUpdIdeal.main_arg13)
      ∧ m' ((c.tc : Thread Cert.AdamLRefIdeal.nD Cert.AdamLRefIdeal.τ).loc Cert.AdamLRefIdeal.main_arg14) = m ((c.tc : Thread Cert.AdamLUpdIdeal.nD Cert.AdamLUpdIdeal.τ).loc Cert.AdamLUpdIdeal.main_arg14)
      ∧ m' ((c.tc : Thread Cert.AdamLRefIdeal.nD Cert.AdamLRefIdeal.τ).loc Cert.AdamLRefIdeal.main_arg15) = m ((c.tc : Thread Cert.AdamLUpdIdeal.nD Cert.AdamLUpdIdeal.τ).loc Cert.AdamLUpdIdeal.main_arg15)
      ∧ m' ((c.tc : Thread Cert.AdamLRefIdeal.nD Cert.AdamLRefIdeal.τ).loc Cert.AdamLRefIdeal.main_arg16) = m ((c.tc : Thread Cert.AdamLUpdIdeal.nD Cert.AdamLUpdIdeal.τ).loc Cert.AdamLUpdIdeal.main_arg16)) →
    ∃ (v0 : (c : Dev Cert.AdamLUpdIdeal.nD) → Buf (Elt Ideal) ((c.tc : Thread Cert.AdamLUpdIdeal.nD Cert.AdamLUpdIdeal.τ).loc Cert.AdamLUpdIdeal.main_v0_0)) (v1 : (c : Dev Cert.AdamLUpdIdeal.nD) → Buf (Elt Ideal) ((c.tc : Thread Cert.AdamLUpdIdeal.nD Cert.AdamLUpdIdeal.τ).loc Cert.AdamLUpdIdeal.main_v0_1)) (v2 : (c : Dev Cert.AdamLUpdIdeal.nD) → Buf (Elt Ideal) ((c.tc : Thread Cert.AdamLUpdIdeal.nD Cert.AdamLUpdIdeal.τ).loc Cert.AdamLUpdIdeal.main_v0_2)) (v3 : (c : Dev Cert.AdamLUpdIdeal.nD) → Buf (Elt Ideal) ((c.tc : Thread Cert.AdamLUpdIdeal.nD Cert.AdamLUpdIdeal.τ).loc Cert.AdamLUpdIdeal.main_v0_3)) (v4 : (c : Dev Cert.AdamLUpdIdeal.nD) → Buf (Elt Ideal) ((c.tc : Thread Cert.AdamLUpdIdeal.nD Cert.AdamLUpdIdeal.τ).loc Cert.AdamLUpdIdeal.main_v0_4)) (v5 : (c : Dev Cert.AdamLUpdIdeal.nD) → Buf (Elt Ideal) ((c.tc : Thread Cert.AdamLUpdIdeal.nD Cert.AdamLUpdIdeal.τ).loc Cert.AdamLUpdIdeal.main_v0_5)) (v6 : (c : Dev Cert.AdamLUpdIdeal.nD) → Buf (Elt Ideal) ((c.tc : Thread Cert.AdamLUpdIdeal.nD Cert.AdamLUpdIdeal.τ).loc Cert.AdamLUpdIdeal.main_v0_6)) (v7 : (c : Dev Cert.AdamLUpdIdeal.nD) → Buf (Elt Ideal) ((c.tc : Thread Cert.AdamLUpdIdeal.nD Cert.AdamLUpdIdeal.τ).loc Cert.AdamLUpdIdeal.main_v0_7)),
      θ_run (Cert.AdamLUpdIdeal.defs (F := Ideal)) (onTc (τ := Cert.AdamLUpdIdeal.τ) (Cert.AdamLUpdIdeal.main (F := Ideal))) ⟨m, fun _ => 0, g⟩ (fun r => ∀ c : Dev Cert.AdamLUpdIdeal.nD,
          r.2.mem ((c.tc : Thread Cert.AdamLUpdIdeal.nD Cert.AdamLUpdIdeal.τ).loc Cert.AdamLUpdIdeal.main_v0_0) = v0 c
          ∧ r.2.mem ((c.tc : Thread Cert.AdamLUpdIdeal.nD Cert.AdamLUpdIdeal.τ).loc Cert.AdamLUpdIdeal.main_v0_1) = v1 c
          ∧ r.2.mem ((c.tc : Thread Cert.AdamLUpdIdeal.nD Cert.AdamLUpdIdeal.τ).loc Cert.AdamLUpdIdeal.main_v0_2) = v2 c
          ∧ r.2.mem ((c.tc : Thread Cert.AdamLUpdIdeal.nD Cert.AdamLUpdIdeal.τ).loc Cert.AdamLUpdIdeal.main_v0_3) = v3 c
          ∧ r.2.mem ((c.tc : Thread Cert.AdamLUpdIdeal.nD Cert.AdamLUpdIdeal.τ).loc Cert.AdamLUpdIdeal.main_v0_4) = v4 c
          ∧ r.2.mem ((c.tc : Thread Cert.AdamLUpdIdeal.nD Cert.AdamLUpdIdeal.τ).loc Cert.AdamLUpdIdeal.main_v0_5) = v5 c
          ∧ r.2.mem ((c.tc : Thread Cert.AdamLUpdIdeal.nD Cert.AdamLUpdIdeal.τ).loc Cert.AdamLUpdIdeal.main_v0_6) = v6 c
          ∧ r.2.mem ((c.tc : Thread Cert.AdamLUpdIdeal.nD Cert.AdamLUpdIdeal.τ).loc Cert.AdamLUpdIdeal.main_v0_7) = v7 c
          ∧ r.2.mem ((c.tc : Thread Cert.AdamLUpdIdeal.nD Cert.AdamLUpdIdeal.τ).loc Cert.AdamLUpdIdeal.main_arg0) = m ((c.tc : Thread Cert.AdamLUpdIdeal.nD Cert.AdamLUpdIdeal.τ).loc Cert.AdamLUpdIdeal.main_arg0)
          ∧ r.2.mem ((c.tc : Thread Cert.AdamLUpdIdeal.nD Cert.AdamLUpdIdeal.τ).loc Cert.AdamLUpdIdeal.main_arg1) = m ((c.tc : Thread Cert.AdamLUpdIdeal.nD Cert.AdamLUpdIdeal.τ).loc Cert.AdamLUpdIdeal.main_arg1)
          ∧ r.2.mem ((c.tc : Thread Cert.AdamLUpdIdeal.nD Cert.AdamLUpdIdeal.τ).loc Cert.AdamLUpdIdeal.main_arg2) = m ((c.tc : Thread Cert.AdamLUpdIdeal.nD Cert.AdamLUpdIdeal.τ).loc Cert.AdamLUpdIdeal.main_arg2)
          ∧ r.2.mem ((c.tc : Thread Cert.AdamLUpdIdeal.nD Cert.AdamLUpdIdeal.τ).loc Cert.AdamLUpdIdeal.main_arg3) = m ((c.tc : Thread Cert.AdamLUpdIdeal.nD Cert.AdamLUpdIdeal.τ).loc Cert.AdamLUpdIdeal.main_arg3)
          ∧ r.2.mem ((c.tc : Thread Cert.AdamLUpdIdeal.nD Cert.AdamLUpdIdeal.τ).loc Cert.AdamLUpdIdeal.main_arg4) = m ((c.tc : Thread Cert.AdamLUpdIdeal.nD Cert.AdamLUpdIdeal.τ).loc Cert.AdamLUpdIdeal.main_arg4)
          ∧ r.2.mem ((c.tc : Thread Cert.AdamLUpdIdeal.nD Cert.AdamLUpdIdeal.τ).loc Cert.AdamLUpdIdeal.main_arg5) = m ((c.tc : Thread Cert.AdamLUpdIdeal.nD Cert.AdamLUpdIdeal.τ).loc Cert.AdamLUpdIdeal.main_arg5)
          ∧ r.2.mem ((c.tc : Thread Cert.AdamLUpdIdeal.nD Cert.AdamLUpdIdeal.τ).loc Cert.AdamLUpdIdeal.main_arg6) = m ((c.tc : Thread Cert.AdamLUpdIdeal.nD Cert.AdamLUpdIdeal.τ).loc Cert.AdamLUpdIdeal.main_arg6)
          ∧ r.2.mem ((c.tc : Thread Cert.AdamLUpdIdeal.nD Cert.AdamLUpdIdeal.τ).loc Cert.AdamLUpdIdeal.main_arg7) = m ((c.tc : Thread Cert.AdamLUpdIdeal.nD Cert.AdamLUpdIdeal.τ).loc Cert.AdamLUpdIdeal.main_arg7)
          ∧ r.2.mem ((c.tc : Thread Cert.AdamLUpdIdeal.nD Cert.AdamLUpdIdeal.τ).loc Cert.AdamLUpdIdeal.main_arg8) = m ((c.tc : Thread Cert.AdamLUpdIdeal.nD Cert.AdamLUpdIdeal.τ).loc Cert.AdamLUpdIdeal.main_arg8)
          ∧ r.2.mem ((c.tc : Thread Cert.AdamLUpdIdeal.nD Cert.AdamLUpdIdeal.τ).loc Cert.AdamLUpdIdeal.main_arg9) = m ((c.tc : Thread Cert.AdamLUpdIdeal.nD Cert.AdamLUpdIdeal.τ).loc Cert.AdamLUpdIdeal.main_arg9)
          ∧ r.2.mem ((c.tc : Thread Cert.AdamLUpdIdeal.nD Cert.AdamLUpdIdeal.τ).loc Cert.AdamLUpdIdeal.main_arg10) = m ((c.tc : Thread Cert.AdamLUpdIdeal.nD Cert.AdamLUpdIdeal.τ).loc Cert.AdamLUpdIdeal.main_arg10)
          ∧ r.2.mem ((c.tc : Thread Cert.AdamLUpdIdeal.nD Cert.AdamLUpdIdeal.τ).loc Cert.AdamLUpdIdeal.main_arg11) = m ((c.tc : Thread Cert.AdamLUpdIdeal.nD Cert.AdamLUpdIdeal.τ).loc Cert.AdamLUpdIdeal.main_arg11)
          ∧ r.2.mem ((c.tc : Thread Cert.AdamLUpdIdeal.nD Cert.AdamLUpdIdeal.τ).loc Cert.AdamLUpdIdeal.main_arg12) = m ((c.tc : Thread Cert.AdamLUpdIdeal.nD Cert.AdamLUpdIdeal.τ).loc Cert.AdamLUpdIdeal.main_arg12)
          ∧ r.2.mem ((c.tc : Thread Cert.AdamLUpdIdeal.nD Cert.AdamLUpdIdeal.τ).loc Cert.AdamLUpdIdeal.main_arg13) = m ((c.tc : Thread Cert.AdamLUpdIdeal.nD Cert.AdamLUpdIdeal.τ).loc Cert.AdamLUpdIdeal.main_arg13)
          ∧ r.2.mem ((c.tc : Thread Cert.AdamLUpdIdeal.nD Cert.AdamLUpdIdeal.τ).loc Cert.AdamLUpdIdeal.main_arg14) = m ((c.tc : Thread Cert.AdamLUpdIdeal.nD Cert.AdamLUpdIdeal.τ).loc Cert.AdamLUpdIdeal.main_arg14)
          ∧ r.2.mem ((c.tc : Thread Cert.AdamLUpdIdeal.nD Cert.AdamLUpdIdeal.τ).loc Cert.AdamLUpdIdeal.main_arg15) = m ((c.tc : Thread Cert.AdamLUpdIdeal.nD Cert.AdamLUpdIdeal.τ).loc Cert.AdamLUpdIdeal.main_arg15)
          ∧ r.2.mem ((c.tc : Thread Cert.AdamLUpdIdeal.nD Cert.AdamLUpdIdeal.τ).loc Cert.AdamLUpdIdeal.main_arg16) = m ((c.tc : Thread Cert.AdamLUpdIdeal.nD Cert.AdamLUpdIdeal.τ).loc Cert.AdamLUpdIdeal.main_arg16))
      ∧ θ_run (Cert.AdamLRefIdeal.defs (F := Ideal)) (onTc (τ := Cert.AdamLRefIdeal.τ) (Cert.AdamLRefIdeal.main (F := Ideal))) ⟨m', fun _ => 0, g'⟩ (fun r => ∀ c : Dev Cert.AdamLRefIdeal.nD,
          r.2.mem ((c.tc : Thread Cert.AdamLRefIdeal.nD Cert.AdamLRefIdeal.τ).loc Cert.AdamLRefIdeal.main_v62) = v0 c
          ∧ r.2.mem ((c.tc : Thread Cert.AdamLRefIdeal.nD Cert.AdamLRefIdeal.τ).loc Cert.AdamLRefIdeal.main_v65) = v1 c
          ∧ r.2.mem ((c.tc : Thread Cert.AdamLRefIdeal.nD Cert.AdamLRefIdeal.τ).loc Cert.AdamLRefIdeal.main_v68) = v2 c
          ∧ r.2.mem ((c.tc : Thread Cert.AdamLRefIdeal.nD Cert.AdamLRefIdeal.τ).loc Cert.AdamLRefIdeal.main_v71) = v3 c
          ∧ r.2.mem ((c.tc : Thread Cert.AdamLRefIdeal.nD Cert.AdamLRefIdeal.τ).loc Cert.AdamLRefIdeal.main_v74) = v4 c
          ∧ r.2.mem ((c.tc : Thread Cert.AdamLRefIdeal.nD Cert.AdamLRefIdeal.τ).loc Cert.AdamLRefIdeal.main_v77) = v5 c
          ∧ r.2.mem ((c.tc : Thread Cert.AdamLRefIdeal.nD Cert.AdamLRefIdeal.τ).loc Cert.AdamLRefIdeal.main_v80) = v6 c
          ∧ r.2.mem ((c.tc : Thread Cert.AdamLRefIdeal.nD Cert.AdamLRefIdeal.τ).loc Cert.AdamLRefIdeal.main_v83) = v7 c
          ∧ r.2.mem ((c.tc : Thread Cert.AdamLRefIdeal.nD Cert.AdamLRefIdeal.τ).loc Cert.AdamLRefIdeal.main_arg0) = m' ((c.tc : Thread Cert.AdamLRefIdeal.nD Cert.AdamLRefIdeal.τ).loc Cert.AdamLRefIdeal.main_arg0)
          ∧ r.2.mem ((c.tc : Thread Cert.AdamLRefIdeal.nD Cert.AdamLRefIdeal.τ).loc Cert.AdamLRefIdeal.main_arg1) = m' ((c.tc : Thread Cert.AdamLRefIdeal.nD Cert.AdamLRefIdeal.τ).loc Cert.AdamLRefIdeal.main_arg1)
          ∧ r.2.mem ((c.tc : Thread Cert.AdamLRefIdeal.nD Cert.AdamLRefIdeal.τ).loc Cert.AdamLRefIdeal.main_arg2) = m' ((c.tc : Thread Cert.AdamLRefIdeal.nD Cert.AdamLRefIdeal.τ).loc Cert.AdamLRefIdeal.main_arg2)
          ∧ r.2.mem ((c.tc : Thread Cert.AdamLRefIdeal.nD Cert.AdamLRefIdeal.τ).loc Cert.AdamLRefIdeal.main_arg3) = m' ((c.tc : Thread Cert.AdamLRefIdeal.nD Cert.AdamLRefIdeal.τ).loc Cert.AdamLRefIdeal.main_arg3)
          ∧ r.2.mem ((c.tc : Thread Cert.AdamLRefIdeal.nD Cert.AdamLRefIdeal.τ).loc Cert.AdamLRefIdeal.main_arg4) = m' ((c.tc : Thread Cert.AdamLRefIdeal.nD Cert.AdamLRefIdeal.τ).loc Cert.AdamLRefIdeal.main_arg4)
          ∧ r.2.mem ((c.tc : Thread Cert.AdamLRefIdeal.nD Cert.AdamLRefIdeal.τ).loc Cert.AdamLRefIdeal.main_arg5) = m' ((c.tc : Thread Cert.AdamLRefIdeal.nD Cert.AdamLRefIdeal.τ).loc Cert.AdamLRefIdeal.main_arg5)
          ∧ r.2.mem ((c.tc : Thread Cert.AdamLRefIdeal.nD Cert.AdamLRefIdeal.τ).loc Cert.AdamLRefIdeal.main_arg6) = m' ((c.tc : Thread Cert.AdamLRefIdeal.nD Cert.AdamLRefIdeal.τ).loc Cert.AdamLRefIdeal.main_arg6)
          ∧ r.2.mem ((c.tc : Thread Cert.AdamLRefIdeal.nD Cert.AdamLRefIdeal.τ).loc Cert.AdamLRefIdeal.main_arg7) = m' ((c.tc : Thread Cert.AdamLRefIdeal.nD Cert.AdamLRefIdeal.τ).loc Cert.AdamLRefIdeal.main_arg7)
          ∧ r.2.mem ((c.tc : Thread Cert.AdamLRefIdeal.nD Cert.AdamLRefIdeal.τ).loc Cert.AdamLRefIdeal.main_arg8) = m' ((c.tc : Thread Cert.AdamLRefIdeal.nD Cert.AdamLRefIdeal.τ).loc Cert.AdamLRefIdeal.main_arg8)
          ∧ r.2.mem ((c.tc : Thread Cert.AdamLRefIdeal.nD Cert.AdamLRefIdeal.τ).loc Cert.AdamLRefIdeal.main_arg9) = m' ((c.tc : Thread Cert.AdamLRefIdeal.nD Cert.AdamLRefIdeal.τ).loc Cert.AdamLRefIdeal.main_arg9)
          ∧ r.2.mem ((c.tc : Thread Cert.AdamLRefIdeal.nD Cert.AdamLRefIdeal.τ).loc Cert.AdamLRefIdeal.main_arg10) = m' ((c.tc : Thread Cert.AdamLRefIdeal.nD Cert.AdamLRefIdeal.τ).loc Cert.AdamLRefIdeal.main_arg10)
          ∧ r.2.mem ((c.tc : Thread Cert.AdamLRefIdeal.nD Cert.AdamLRefIdeal.τ).loc Cert.AdamLRefIdeal.main_arg11) = m' ((c.tc : Thread Cert.AdamLRefIdeal.nD Cert.AdamLRefIdeal.τ).loc Cert.AdamLRefIdeal.main_arg11)
          ∧ r.2.mem ((c.tc : Thread Cert.AdamLRefIdeal.nD Cert.AdamLRefIdeal.τ).loc Cert.AdamLRefIdeal.main_arg12) = m' ((c.tc : Thread Cert.AdamLRefIdeal.nD Cert.AdamLRefIdeal.τ).loc Cert.AdamLRefIdeal.main_arg12)
          ∧ r.2.mem ((c.tc : Thread Cert.AdamLRefIdeal.nD Cert.AdamLRefIdeal.τ).loc Cert.AdamLRefIdeal.main_arg13) = m' ((c.tc : Thread Cert.AdamLRefIdeal.nD Cert.AdamLRefIdeal.τ).loc Cert.AdamLRefIdeal.main_arg13)
          ∧ r.2.mem ((c.tc : Thread Cert.AdamLRefIdeal.nD Cert.AdamLRefIdeal.τ).loc Cert.AdamLRefIdeal.main_arg14) = m' ((c.tc : Thread Cert.AdamLRefIdeal.nD Cert.AdamLRefIdeal.τ).loc Cert.AdamLRefIdeal.main_arg14)
          ∧ r.2.mem ((c.tc : Thread Cert.AdamLRefIdeal.nD Cert.AdamLRefIdeal.τ).loc Cert.AdamLRefIdeal.main_arg15) = m' ((c.tc : Thread Cert.AdamLRefIdeal.nD Cert.AdamLRefIdeal.τ).loc Cert.AdamLRefIdeal.main_arg15)
          ∧ r.2.mem ((c.tc : Thread Cert.AdamLRefIdeal.nD Cert.AdamLRefIdeal.τ).loc Cert.AdamLRefIdeal.main_arg16) = m' ((c.tc : Thread Cert.AdamLRefIdeal.nD Cert.AdamLRefIdeal.τ).loc Cert.AdamLRefIdeal.main_arg16))

def preserves_PoolFFwd_PoolFFwdIdeal : Prop :=
  True

def algebraic_PoolFFwdIdeal_PoolFRefIdeal_pre_real_pooled [hPoolFFwdIdeal : Cert.PoolFFwdIdeal.Facts] [hPoolFRefIdeal : Cert.PoolFRefIdeal.Facts] [hPre_real_pooled : Cert.Pre_real_pooled.Facts] : Prop :=
  ∀ (m : (ℓ : Loc Cert.PoolFFwdIdeal.nD Cert.PoolFFwdIdeal.τ Cert.PoolFFwdIdeal.sig) → Buf (Elt Ideal) ℓ) (g : Dev Cert.PoolFFwdIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFFwdIdeal_real_pooled m →
    (∀ c : Dev Cert.PoolFFwdIdeal.nD,
      m' ((c.tc : Thread Cert.PoolFRefIdeal.nD Cert.PoolFRefIdeal.τ).loc Cert.PoolFRefIdeal.main_arg0) = m ((c.tc : Thread Cert.PoolFFwdIdeal.nD Cert.PoolFFwdIdeal.τ).loc Cert.PoolFFwdIdeal.main_arg0)
      ∧ m' ((c.tc : Thread Cert.PoolFRefIdeal.nD Cert.PoolFRefIdeal.τ).loc Cert.PoolFRefIdeal.main_arg1) = m ((c.tc : Thread Cert.PoolFFwdIdeal.nD Cert.PoolFFwdIdeal.τ).loc Cert.PoolFFwdIdeal.main_arg1)
      ∧ m' ((c.tc : Thread Cert.PoolFRefIdeal.nD Cert.PoolFRefIdeal.τ).loc Cert.PoolFRefIdeal.main_arg2) = m ((c.tc : Thread Cert.PoolFFwdIdeal.nD Cert.PoolFFwdIdeal.τ).loc Cert.PoolFFwdIdeal.main_arg2)) →
    ∃ (v0 : (c : Dev Cert.PoolFFwdIdeal.nD) → Buf (Elt Ideal) ((c.tc : Thread Cert.PoolFFwdIdeal.nD Cert.PoolFFwdIdeal.τ).loc Cert.PoolFFwdIdeal.main_v1)),
      θ_run (Cert.PoolFFwdIdeal.defs (F := Ideal)) (onTc (τ := Cert.PoolFFwdIdeal.τ) (Cert.PoolFFwdIdeal.main (F := Ideal))) ⟨m, fun _ => 0, g⟩ (fun r => ∀ c : Dev Cert.PoolFFwdIdeal.nD,
          r.2.mem ((c.tc : Thread Cert.PoolFFwdIdeal.nD Cert.PoolFFwdIdeal.τ).loc Cert.PoolFFwdIdeal.main_v1) = v0 c
          ∧ r.2.mem ((c.tc : Thread Cert.PoolFFwdIdeal.nD Cert.PoolFFwdIdeal.τ).loc Cert.PoolFFwdIdeal.main_arg0) = m ((c.tc : Thread Cert.PoolFFwdIdeal.nD Cert.PoolFFwdIdeal.τ).loc Cert.PoolFFwdIdeal.main_arg0)
          ∧ r.2.mem ((c.tc : Thread Cert.PoolFFwdIdeal.nD Cert.PoolFFwdIdeal.τ).loc Cert.PoolFFwdIdeal.main_arg1) = m ((c.tc : Thread Cert.PoolFFwdIdeal.nD Cert.PoolFFwdIdeal.τ).loc Cert.PoolFFwdIdeal.main_arg1)
          ∧ r.2.mem ((c.tc : Thread Cert.PoolFFwdIdeal.nD Cert.PoolFFwdIdeal.τ).loc Cert.PoolFFwdIdeal.main_arg2) = m ((c.tc : Thread Cert.PoolFFwdIdeal.nD Cert.PoolFFwdIdeal.τ).loc Cert.PoolFFwdIdeal.main_arg2))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v67) = v0 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0)
          ∧ r.2.mem ((c.tc : Thread Cert.PoolFRefIdeal.nD Cert.PoolFRefIdeal.τ).loc Cert.PoolFRefIdeal.main_arg1) = m' ((c.tc : Thread Cert.PoolFRefIdeal.nD Cert.PoolFRefIdeal.τ).loc Cert.PoolFRefIdeal.main_arg1)
          ∧ r.2.mem ((c.tc : Thread Cert.PoolFRefIdeal.nD Cert.PoolFRefIdeal.τ).loc Cert.PoolFRefIdeal.main_arg2) = m' ((c.tc : Thread Cert.PoolFRefIdeal.nD Cert.PoolFRefIdeal.τ).loc Cert.PoolFRefIdeal.main_arg2))

def preserves_PoolBwd_PoolBwdIdeal : Prop :=
  True

def algebraic_PoolBwdIdeal_PoolRefIdeal_pre_real_pooled_back [hPoolBwdIdeal : Cert.PoolBwdIdeal.Facts] [hPoolRefIdeal : Cert.PoolRefIdeal.Facts] [hPre_real_pooled_back : Cert.Pre_real_pooled_back.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolBwdIdeal_real_pooled_back m →
    (∀ c : Dev Cert.PoolBwdIdeal.nD,
      m' ((c.tc : Thread Cert.PoolRefIdeal.nD Cert.PoolRefIdeal.τ).loc Cert.PoolRefIdeal.main_arg0) = m ((c.tc : Thread Cert.PoolBwdIdeal.nD Cert.PoolBwdIdeal.τ).loc Cert.PoolBwdIdeal.main_arg0)
      ∧ m' ((c.tc : Thread Cert.PoolRefIdeal.nD Cert.PoolRefIdeal.τ).loc Cert.PoolRefIdeal.main_arg1) = m ((c.tc : Thread Cert.PoolBwdIdeal.nD Cert.PoolBwdIdeal.τ).loc Cert.PoolBwdIdeal.main_arg1)
      ∧ m' ((c.tc : Thread Cert.PoolRefIdeal.nD Cert.PoolRefIdeal.τ).loc Cert.PoolRefIdeal.main_arg2) = m ((c.tc : Thread Cert.PoolBwdIdeal.nD Cert.PoolBwdIdeal.τ).loc Cert.PoolBwdIdeal.main_arg2)
      ∧ m' ((c.tc : Thread Cert.PoolRefIdeal.nD Cert.PoolRefIdeal.τ).loc Cert.PoolRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v1_0)) (v1 : (c : Dev Cert.PoolBwdIdeal.nD) → Buf (Elt Ideal) ((c.tc : Thread Cert.PoolBwdIdeal.nD Cert.PoolBwdIdeal.τ).loc Cert.PoolBwdIdeal.main_v1_1)) (v2 : (c : Dev Cert.PoolBwdIdeal.nD) → Buf (Elt Ideal) ((c.tc : Thread Cert.PoolBwdIdeal.nD Cert.PoolBwdIdeal.τ).loc Cert.PoolBwdIdeal.main_v1_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v1_0) = v0 c
          ∧ r.2.mem ((c.tc : Thread Cert.PoolBwdIdeal.nD Cert.PoolBwdIdeal.τ).loc Cert.PoolBwdIdeal.main_v1_1) = v1 c
          ∧ r.2.mem ((c.tc : Thread Cert.PoolBwdIdeal.nD Cert.PoolBwdIdeal.τ).loc Cert.PoolBwdIdeal.main_v1_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v139) = v0 c
          ∧ r.2.mem ((c.tc : Thread Cert.PoolRefIdeal.nD Cert.PoolRefIdeal.τ).loc Cert.PoolRefIdeal.main_v83) = v1 c
          ∧ r.2.mem ((c.tc : Thread Cert.PoolRefIdeal.nD Cert.PoolRefIdeal.τ).loc Cert.PoolRefIdeal.main_v140) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def Claim : Prop :=
  ∃ (hConvBwd : Cert.ConvBwd.Facts) (hConvBwdIdeal : Cert.ConvBwdIdeal.Facts) (hConvRefIdeal : Cert.ConvRefIdeal.Facts) (hWGuBwd : Cert.WGuBwd.Facts) (hWGuBwdIdeal : Cert.WGuBwdIdeal.Facts) (hWGuRefIdeal : Cert.WGuRefIdeal.Facts) (hWDownBwd : Cert.WDownBwd.Facts) (hWDownBwdIdeal : Cert.WDownBwdIdeal.Facts) (hWDownRefIdeal : Cert.WDownRefIdeal.Facts) (hWInBwd : Cert.WInBwd.Facts) (hWInBwdIdeal : Cert.WInBwdIdeal.Facts) (hWInRefIdeal : Cert.WInRefIdeal.Facts) (hWOBwd : Cert.WOBwd.Facts) (hWOBwdIdeal : Cert.WOBwdIdeal.Facts) (hWORefIdeal : Cert.WORefIdeal.Facts) (hDxBwd : Cert.DxBwd.Facts) (hDxBwdIdeal : Cert.DxBwdIdeal.Facts) (hDxRefIdeal : Cert.DxRefIdeal.Facts) (hMlpBwd : Cert.MlpBwd.Facts) (hMlpBwdIdeal : Cert.MlpBwdIdeal.Facts) (hMlpRefIdeal : Cert.MlpRefIdeal.Facts) (hProjFwd : Cert.ProjFwd.Facts) (hProjFwdIdeal : Cert.ProjFwdIdeal.Facts) (hProjRefIdeal : Cert.ProjRefIdeal.Facts) (hWoLnFwd : Cert.WoLnFwd.Facts) (hWoLnFwdIdeal : Cert.WoLnFwdIdeal.Facts) (hWoLnRefIdeal : Cert.WoLnRefIdeal.Facts) (hMlpFFwd : Cert.MlpFFwd.Facts) (hMlpFFwdIdeal : Cert.MlpFFwdIdeal.Facts) (hMlpFRefIdeal : Cert.MlpFRefIdeal.Facts) (hConvFFwd : Cert.ConvFFwd.Facts) (hConvFFwdIdeal : Cert.ConvFFwdIdeal.Facts) (hConvFRefIdeal : Cert.ConvFRefIdeal.Facts) (hLossFwd : Cert.LossFwd.Facts) (hLossFwdIdeal : Cert.LossFwdIdeal.Facts) (hLossRefIdeal : Cert.LossRefIdeal.Facts) (hAdamLUpd : Cert.AdamLUpd.Facts) (hAdamLUpdIdeal : Cert.AdamLUpdIdeal.Facts) (hAdamLRefIdeal : Cert.AdamLRefIdeal.Facts) (hPoolFFwd : Cert.PoolFFwd.Facts) (hPoolFFwdIdeal : Cert.PoolFFwdIdeal.Facts) (hPoolFRefIdeal : Cert.PoolFRefIdeal.Facts) (hPoolBwd : Cert.PoolBwd.Facts) (hPoolBwdIdeal : Cert.PoolBwdIdeal.Facts) (hPoolRefIdeal : Cert.PoolRefIdeal.Facts) (hPre_real_inputs : Cert.Pre_real_inputs.Facts) (hPre_real_pooled : Cert.Pre_real_pooled.Facts) (hPre_real_pooled_back : Cert.Pre_real_pooled_back.Facts),
    quiescent_ConvBwd (hConvBwd := hConvBwd)
    ∧ quiescent_ConvBwdIdeal (hConvBwdIdeal := hConvBwdIdeal)
    ∧ quiescent_ConvRefIdeal (hConvRefIdeal := hConvRefIdeal)
    ∧ quiescent_WGuBwd (hWGuBwd := hWGuBwd)
    ∧ quiescent_WGuBwdIdeal (hWGuBwdIdeal := hWGuBwdIdeal)
    ∧ quiescent_WGuRefIdeal (hWGuRefIdeal := hWGuRefIdeal)
    ∧ quiescent_WDownBwd (hWDownBwd := hWDownBwd)
    ∧ quiescent_WDownBwdIdeal (hWDownBwdIdeal := hWDownBwdIdeal)
    ∧ quiescent_WDownRefIdeal (hWDownRefIdeal := hWDownRefIdeal)
    ∧ quiescent_WInBwd (hWInBwd := hWInBwd)
    ∧ quiescent_WInBwdIdeal (hWInBwdIdeal := hWInBwdIdeal)
    ∧ quiescent_WInRefIdeal (hWInRefIdeal := hWInRefIdeal)
    ∧ quiescent_WOBwd (hWOBwd := hWOBwd)
    ∧ quiescent_WOBwdIdeal (hWOBwdIdeal := hWOBwdIdeal)
    ∧ quiescent_WORefIdeal (hWORefIdeal := hWORefIdeal)
    ∧ quiescent_DxBwd (hDxBwd := hDxBwd)
    ∧ quiescent_DxBwdIdeal (hDxBwdIdeal := hDxBwdIdeal)
    ∧ quiescent_DxRefIdeal (hDxRefIdeal := hDxRefIdeal)
    ∧ quiescent_MlpBwd (hMlpBwd := hMlpBwd)
    ∧ quiescent_MlpBwdIdeal (hMlpBwdIdeal := hMlpBwdIdeal)
    ∧ quiescent_MlpBwdIdeal_pre_real_inputs (hMlpBwdIdeal := hMlpBwdIdeal) (hPre_real_inputs := hPre_real_inputs)
    ∧ quiescent_MlpRefIdeal (hMlpRefIdeal := hMlpRefIdeal)
    ∧ quiescent_MlpRefIdeal_pre_real_inputs (hMlpRefIdeal := hMlpRefIdeal) (hPre_real_inputs := hPre_real_inputs)
    ∧ quiescent_ProjFwd (hProjFwd := hProjFwd)
    ∧ quiescent_ProjFwdIdeal (hProjFwdIdeal := hProjFwdIdeal)
    ∧ quiescent_ProjRefIdeal (hProjRefIdeal := hProjRefIdeal)
    ∧ quiescent_WoLnFwd (hWoLnFwd := hWoLnFwd)
    ∧ quiescent_WoLnFwdIdeal (hWoLnFwdIdeal := hWoLnFwdIdeal)
    ∧ quiescent_WoLnRefIdeal (hWoLnRefIdeal := hWoLnRefIdeal)
    ∧ quiescent_MlpFFwd (hMlpFFwd := hMlpFFwd)
    ∧ quiescent_MlpFFwdIdeal (hMlpFFwdIdeal := hMlpFFwdIdeal)
    ∧ quiescent_MlpFRefIdeal (hMlpFRefIdeal := hMlpFRefIdeal)
    ∧ quiescent_ConvFFwd (hConvFFwd := hConvFFwd)
    ∧ quiescent_ConvFFwdIdeal (hConvFFwdIdeal := hConvFFwdIdeal)
    ∧ quiescent_ConvFRefIdeal (hConvFRefIdeal := hConvFRefIdeal)
    ∧ quiescent_LossFwd (hLossFwd := hLossFwd)
    ∧ quiescent_LossFwdIdeal (hLossFwdIdeal := hLossFwdIdeal)
    ∧ quiescent_LossRefIdeal (hLossRefIdeal := hLossRefIdeal)
    ∧ quiescent_AdamLUpd (hAdamLUpd := hAdamLUpd)
    ∧ quiescent_AdamLUpdIdeal (hAdamLUpdIdeal := hAdamLUpdIdeal)
    ∧ quiescent_AdamLRefIdeal (hAdamLRefIdeal := hAdamLRefIdeal)
    ∧ quiescent_PoolFFwd (hPoolFFwd := hPoolFFwd)
    ∧ quiescent_PoolFFwdIdeal (hPoolFFwdIdeal := hPoolFFwdIdeal)
    ∧ quiescent_PoolFFwdIdeal_pre_real_pooled (hPoolFFwdIdeal := hPoolFFwdIdeal) (hPre_real_pooled := hPre_real_pooled)
    ∧ quiescent_PoolFRefIdeal (hPoolFRefIdeal := hPoolFRefIdeal)
    ∧ quiescent_PoolFRefIdeal_pre_real_pooled (hPoolFRefIdeal := hPoolFRefIdeal) (hPre_real_pooled := hPre_real_pooled)
    ∧ quiescent_PoolBwd (hPoolBwd := hPoolBwd)
    ∧ quiescent_PoolBwdIdeal (hPoolBwdIdeal := hPoolBwdIdeal)
    ∧ quiescent_PoolBwdIdeal_pre_real_pooled_back (hPoolBwdIdeal := hPoolBwdIdeal) (hPre_real_pooled_back := hPre_real_pooled_back)
    ∧ quiescent_PoolRefIdeal (hPoolRefIdeal := hPoolRefIdeal)
    ∧ quiescent_PoolRefIdeal_pre_real_pooled_back (hPoolRefIdeal := hPoolRefIdeal) (hPre_real_pooled_back := hPre_real_pooled_back)
    ∧ preserves_ConvBwd_ConvBwdIdeal
    ∧ algebraic_ConvBwdIdeal_ConvRefIdeal (hConvBwdIdeal := hConvBwdIdeal) (hConvRefIdeal := hConvRefIdeal)
    ∧ preserves_WGuBwd_WGuBwdIdeal
    ∧ algebraic_WGuBwdIdeal_WGuRefIdeal (hWGuBwdIdeal := hWGuBwdIdeal) (hWGuRefIdeal := hWGuRefIdeal)
    ∧ preserves_WDownBwd_WDownBwdIdeal
    ∧ algebraic_WDownBwdIdeal_WDownRefIdeal (hWDownBwdIdeal := hWDownBwdIdeal) (hWDownRefIdeal := hWDownRefIdeal)
    ∧ preserves_WInBwd_WInBwdIdeal
    ∧ algebraic_WInBwdIdeal_WInRefIdeal (hWInBwdIdeal := hWInBwdIdeal) (hWInRefIdeal := hWInRefIdeal)
    ∧ preserves_WOBwd_WOBwdIdeal
    ∧ algebraic_WOBwdIdeal_WORefIdeal (hWOBwdIdeal := hWOBwdIdeal) (hWORefIdeal := hWORefIdeal)
    ∧ preserves_DxBwd_DxBwdIdeal
    ∧ algebraic_DxBwdIdeal_DxRefIdeal (hDxBwdIdeal := hDxBwdIdeal) (hDxRefIdeal := hDxRefIdeal)
    ∧ preserves_MlpBwd_MlpBwdIdeal
    ∧ algebraic_MlpBwdIdeal_MlpRefIdeal_pre_real_inputs (hMlpBwdIdeal := hMlpBwdIdeal) (hMlpRefIdeal := hMlpRefIdeal) (hPre_real_inputs := hPre_real_inputs)
    ∧ preserves_ProjFwd_ProjFwdIdeal
    ∧ algebraic_ProjFwdIdeal_ProjRefIdeal (hProjFwdIdeal := hProjFwdIdeal) (hProjRefIdeal := hProjRefIdeal)
    ∧ preserves_WoLnFwd_WoLnFwdIdeal
    ∧ algebraic_WoLnFwdIdeal_WoLnRefIdeal (hWoLnFwdIdeal := hWoLnFwdIdeal) (hWoLnRefIdeal := hWoLnRefIdeal)
    ∧ preserves_MlpFFwd_MlpFFwdIdeal
    ∧ algebraic_MlpFFwdIdeal_MlpFRefIdeal (hMlpFFwdIdeal := hMlpFFwdIdeal) (hMlpFRefIdeal := hMlpFRefIdeal)
    ∧ preserves_ConvFFwd_ConvFFwdIdeal
    ∧ algebraic_ConvFFwdIdeal_ConvFRefIdeal (hConvFFwdIdeal := hConvFFwdIdeal) (hConvFRefIdeal := hConvFRefIdeal)
    ∧ preserves_LossFwd_LossFwdIdeal
    ∧ algebraic_LossFwdIdeal_LossRefIdeal (hLossFwdIdeal := hLossFwdIdeal) (hLossRefIdeal := hLossRefIdeal)
    ∧ preserves_AdamLUpd_AdamLUpdIdeal
    ∧ algebraic_AdamLUpdIdeal_AdamLRefIdeal (hAdamLUpdIdeal := hAdamLUpdIdeal) (hAdamLRefIdeal := hAdamLRefIdeal)
    ∧ preserves_PoolFFwd_PoolFFwdIdeal
    ∧ algebraic_PoolFFwdIdeal_PoolFRefIdeal_pre_real_pooled (hPoolFFwdIdeal := hPoolFFwdIdeal) (hPoolFRefIdeal := hPoolFRefIdeal) (hPre_real_pooled := hPre_real_pooled)
    ∧ preserves_PoolBwd_PoolBwdIdeal
    ∧ algebraic_PoolBwdIdeal_PoolRefIdeal_pre_real_pooled_back (hPoolBwdIdeal := hPoolBwdIdeal) (hPoolRefIdeal := hPoolRefIdeal) (hPre_real_pooled_back := hPre_real_pooled_back)
-- ==== Pre_real_inputs.lean ====
abbrev S2048x1024 : Shape := ⟨2, ![2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S1024 .f32) (main_arg8 : FVec F S2048x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  main_v43

def fn_part1 {F : FTy → Type} [FloatOps F] (main_arg4 : FVec F S1024 .f32) (main_arg5 : FVec F S1024x5632 .f32) (main_arg6 : FVec F S2816x1024 .f32) (main_arg7 : FVec F S1024 .f32) (main_arg8 : FVec F S2048x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x5632 .f32 := Host.absf main_arg5
  let main_cst_8 : FVec F S_ .f32 := constant S_ .f32 0x7F800000#32
  let main_v25 : FVec F S1024x5632 .f32 := broadcastInDim S1024x5632 ![] bcast_S_S1024x5632 main_cst_8
  let main_v26 : IVec S1024x5632 1 := cmpf .olt main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  fn_part2 (F := F) main_arg7 main_arg8 main_v33

def fn {F : FTy → Type} [FloatOps F] (main_arg0 : FVec F S2048x1024 .f32) (main_arg1 : FVec F S2048x1024 .f32) (main_arg2 : FVec F S1024x1024 .f32) (main_arg3 : FVec F S1024 .f32) (main_arg4 : FVec F S1024 .f32) (main_arg5 : FVec F S1024x5632 .f32) (main_arg6 : FVec F S2816x1024 .f32) (main_arg7 : FVec F S1024 .f32) (main_arg8 : FVec F S2048x1024 .f32) (main_arg9 : FVec F S1x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Pre_real_pooled.lean ====
abbrev S2048x2176 : Shape := ⟨2, ![2048, 2176]⟩
abbrev S4x64x64 : Shape := ⟨3, ![4, 64, 64]⟩
abbrev S256 : Shape := ⟨1, ![256]⟩
abbrev S2048x256 : Shape := ⟨2, ![2048, 256]⟩
abbrev S_ : Shape := ⟨0, ![]⟩

class Facts : Prop where
  slices_S2048x2176_S2048x256_0_1152 : S2048x2176.Slices ![0, 1152] S2048x256
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x2176 .f32) (main_arg1 : FVec F S4x64x64 .f32) (main_arg2 : FVec F S256 .f32) : IVec S_ 1 :=
  let main_v0 : FVec F S2048x256 .f32 := (extractStridedSlice S2048x256 ![0, 1152] · slices_S2048x2176_S2048x256_0_1152) main_arg0
  let main_v1 : FVec F S2048x256 .f32 := Host.absf main_v0
  let main_cst : FVec F S_ .f32 := constant S_ .f32 0x7F800000#32
  let main_v2 : FVec F S2048x256 .f32 := broadcastInDim S2048x256 ![] bcast_S_S2048x256 main_cst
  let main_v3 : IVec S2048x256 1 := cmpf .olt main_v1 main_v2
  let main_c : IVec S_ 1 := constantI S_ 1 1#1
  let main_v4 : IVec S_ 1 := (fun x v => Host.reduce IntOp.andi x v reducesTo_S2048x256_S_d0_1 h_S_) main_v3 main_c
  main_v4
-- ==== Pre_real_pooled_back.lean ====
abbrev S2048x2176 : Shape := ⟨2, ![2048, 2176]⟩
abbrev S2048x1024 : Shape := ⟨2, ![2048, 1024]⟩
abbrev S4x64x64 : Shape := ⟨3, ![4, 64, 64]⟩
abbrev S256 : Shape := ⟨1, ![256]⟩
abbrev S2048x256 : Shape := ⟨2, ![2048, 256]⟩
abbrev S_ : Shape := ⟨0, ![]⟩

class Facts : Prop where
  slices_S2048x2176_S2048x256_0_1152 : S2048x2176.Slices ![0, 1152] S2048x256
  bcast_S_S2048x256 : S_.BroadcastsInDim S2048x256 (![] : Fin 0 → Fin S2048x256.rank)
  slices_S2048x1024_S2048x256_0_384 : S2048x1024.Slices ![0, 384] S2048x256
  reducesTo_S2048x256_S_d0_1 : S2048x256.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v15 : IVec S_ 1) (main_v16 : FVec F S256 .f32) (main_cst_4 : FVec F S_ .f32) : IVec S_ 1 :=
  let main_v17 : FVec F S256 .f32 := broadcastInDim S256 ![] bcast_S_S256 main_cst_4
  let main_v18 : IVec S256 1 := cmpf .olt main_v16 main_v17
  let main_c_5 : IVec S_ 1 := constantI S_ 1 1#1
  let main_v19 : IVec S_ 1 := (fun x v => Host.reduce IntOp.andi x v reducesTo_S256_S_d0 h_S_) main_v18 main_c_5
  let main_v20 : IVec S_ 1 := andi main_v15 main_v19
  main_v20

def fn {F : FTy → Type} [FloatOps F] (main_arg0 : FVec F S2048x2176 .f32) (main_arg1 : FVec F S2048x1024 .f32) (main_arg2 : FVec F S4x64x64 .f32) (main_arg3 : FVec F S256 .f32) : IVec S_ 1 :=
  let main_v0 : FVec F S2048x256 .f32 := (extractStridedSlice S2048x256 ![0, 1152] · slices_S2048x2176_S2048x256_0_1152) main_arg0
  let main_v1 : FVec F S2048x256 .f32 := Host.absf main_v0
  let main_cst : FVec F S_ .f32 := constant S_ .f32 0x7F800000#32
  let main_v2 : FVec F S2048x256 .f32 := broadcastInDim S2048x256 ![] bcast_S_S2048x256 main_cst
  let main_v3 : IVec S2048x256 1 := cmpf .olt main_v1 main_v2
  let main_v4 : FVec F S2048x256 .f32 := (extractStridedSlice S2048x256 ![0, 384] · slices_S2048x1024_S2048x256_0_384) main_arg1
  let main_v5 : FVec F S2048x256 .f32 := Host.absf main_v4
  let main_cst_0 : FVec F S_ .f32 := constant S_ .f32 0x7F800000#32
  let main_v6 : FVec F S2048x256 .f32 := broadcastInDim S2048x256 ![] bcast_S_S2048x256 main_cst_0
  let main_v7 : IVec S2048x256 1 := cmpf .olt main_v5 main_v6
  let main_c : IVec S_ 1 := constantI S_ 1 1#1
  let main_v8 : IVec S_ 1 := (fun x v => Host.reduce IntOp.andi x v reducesTo_S2048x256_S_d0_1 h_S_) main_v3 main_c
  let main_c_1 : IVec S_ 1 := constantI S_ 1 1#1
  let main_v9 : IVec S_ 1 := (fun x v => Host.reduce IntOp.andi x v reducesTo_S2048x256_S_d0_1 h_S_) main_v7 main_c_1
  let main_v10 : IVec S_ 1 := andi main_v8 main_v9
  let main_v11 : FVec F S4x64x64 .f32 := Host.absf main_arg2
  let main_cst_2 : FVec F S_ .f32 := constant S_ .f32 0x7F800000#32
  let main_v12 : FVec F S4x64x64 .f32 := broadcastInDim S4x64x64 ![] bcast_S_S4x64x64 main_cst_2
  let main_v13 : IVec S4x64x64 1 := cmpf .olt main_v11 main_v12
  let main_c_3 : IVec S_ 1 := constantI S_ 1 1#1
  let main_v14 : IVec S_ 1 := (fun x v => Host.reduce IntOp.andi x v reducesTo_S4x64x64_S_d0_1_2 h_S_) main_v13 main_c_3
  let main_v15 : IVec S_ 1 := andi main_v10 main_v14
  let main_v16 : FVec F S256 .f32 := Host.absf main_arg3
  let main_cst_4 : FVec F S_ .f32 := constant S_ .f32 0x7F800000#32
  fn_part1 (F := F) main_v15 main_v16 main_cst_4
-- ==== ConvBwd.lean ====
abbrev S2048x2176 : Shape := ⟨2, ![2048, 2176]⟩
abbrev S2048x1024 : Shape := ⟨2, ![2048, 1024]⟩
abbrev S3x384 : Shape := ⟨2, ![3, 384]⟩
abbrev S2048x384 : Shape := ⟨2, ![2048, 384]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 8
  | .vmem => 18
  | .smem => 0
  | _ => 0

abbrev bufTy : (tb : Table) → Fin (tcTables nBuf tb) → BufTy
  | .hbm, ⟨0, _⟩ => ⟨S2048x2176, .f32⟩
  | .hbm, ⟨1, _⟩ => ⟨S2048x1024, .f32⟩
  | .hbm, ⟨2, _⟩ => ⟨S3x384, .f32⟩
  | .hbm, ⟨3, _⟩ => ⟨S2048x1024, .f32⟩
  | .hbm, ⟨4, _⟩ => ⟨S2048x384, .bf16⟩
  | .hbm, ⟨5, _⟩ => ⟨S2048x384, .bf16⟩
  | .hbm, ⟨6, _⟩ => ⟨S2048x384, .bf16⟩
  | .hbm, ⟨7, _⟩ => ⟨S3x384, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S3x128, .f32⟩
  | .local _ .vmem, ⟨9, _⟩ => ⟨S3x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x128, .f32⟩
  | .local _ .vmem, ⟨17, _⟩ => ⟨S3x128, .f32⟩
  | _, _ => ⟨S2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S2048x2176 : Shape := ⟨2, ![2048, 2176]⟩
abbrev S2048x1024 : Shape := ⟨2, ![2048, 1024]⟩
abbrev S3x384 : Shape := ⟨2, ![3, 384]⟩
abbrev S2048x384 : Shape := ⟨2, ![2048, 384]⟩
abbrev S_ : Shape := ⟨0, ![]⟩
abbrev S2x384 : Shape := ⟨2, ![2, 384]⟩
abbrev S2050x384 : Shape := ⟨2, ![2050, 384]⟩
abbrev S1x384 : Shape := ⟨2, ![1, 384]⟩
abbrev S384 : Shape := ⟨1, ![384]⟩

abbrev nBuf : Space → Nat
  | .hbm => 87
  | .vmem => 0
  | .smem => 0
  | _ => 0

abbrev bufTy : (tb : Table) → Fin (tcTables nBuf tb) → BufTy
  | .hbm, ⟨0, _⟩ => ⟨S2048x2176, .f32⟩
  | .hbm, ⟨1, _⟩ => ⟨S2048x1024, .f32⟩
  | .hbm, ⟨2, _⟩ => ⟨S3x384, .f32⟩
  | .hbm, ⟨3, _⟩ => ⟨S2048x1024, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S_, .f32⟩
  | .hbm, ⟨9, _⟩ => ⟨S2x384, .f32⟩
  | .hbm, ⟨10, _⟩ => ⟨S2050x384, .f32⟩
  | .hbm, ⟨11, _⟩ => ⟨S_, .f32⟩
  | .hbm, ⟨12, _⟩ => ⟨S2x384, .f32⟩
  | .hbm, ⟨13, _⟩ => ⟨S1x384, .f32⟩
  | .hbm, ⟨14, _⟩ => ⟨S384, .f32⟩
  | .hbm, ⟨15, _⟩ => ⟨S2048x384, .f32⟩
  | .hbm, ⟨16, _⟩ => ⟨S1x384, .f32⟩
  | .hbm, ⟨17, _⟩ => ⟨S2048x384, .f32⟩
  | .hbm, ⟨18, _⟩ => ⟨S2048x384, .f32⟩
  | .hbm, ⟨19, _⟩ => ⟨S1x384, .f32⟩
  | .hbm, ⟨20, _⟩ => ⟨S384, .f32⟩
  | .hbm, ⟨21, _⟩ => ⟨S2048x384, .f32⟩
  | .hbm, ⟨22, _⟩ => ⟨S1x384, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S1x384, .f32⟩
  | .hbm, ⟨27, _⟩ => ⟨S384, .f32⟩
  | .hbm, ⟨28, _⟩ => ⟨S2048x384, .f32⟩
  | .hbm, ⟨29, _⟩ => ⟨S1x384, .f32⟩
  | .hbm, ⟨30, _⟩ => ⟨S2048x384, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S2048x384, .f32⟩
  | .hbm, ⟨35, _⟩ => ⟨S2048x384, .f32⟩
  | .hbm, ⟨36, _⟩ => ⟨S2048x384, .f32⟩
  | .hbm, ⟨37, _⟩ => ⟨S2048x384, .f32⟩
  | .hbm, ⟨38, _⟩ => ⟨S2048x384, .f32⟩
  | .hbm, ⟨39, _⟩ => ⟨S2048x384, .f32⟩
  | .hbm, ⟨40, _⟩ => ⟨S_, .f32⟩
  | .hbm, ⟨41, _⟩ => ⟨S384, .f32⟩
  | .hbm, ⟨42, _⟩ => ⟨S1x384, .f32⟩
  | .hbm, ⟨43, _⟩ => ⟨S_, .f32⟩
  | .hbm, ⟨44, _⟩ => ⟨S384, .f32⟩
  | .hbm, ⟨45, _⟩ => ⟨S_, .f32⟩
  | .hbm, ⟨46, _⟩ => ⟨S2050x384, .f32⟩
  | .hbm, ⟨47, _⟩ => ⟨S1x384, .f32⟩
  | .hbm, ⟨48, _⟩ => ⟨S_, .f32⟩
  | .hbm, ⟨49, _⟩ => ⟨S3x384, .f32⟩
  | .hbm, ⟨50, _⟩ => ⟨S2048x384, .f32⟩
  | .hbm, ⟨51, _⟩ => ⟨S2048x384, .f32⟩
  | .hbm, ⟨52, _⟩ => ⟨S2048x384, .f32⟩
  | .hbm, ⟨53, _⟩ => ⟨S_, .f32⟩
  | .hbm, ⟨54, _⟩ => ⟨S384, .f32⟩
  | .hbm, ⟨55, _⟩ => ⟨S1x384, .f32⟩
  | .hbm, ⟨56, _⟩ => ⟨S_, .f32⟩
  | .hbm, ⟨57, _⟩ => ⟨S384, .f32⟩
  | .hbm, ⟨58, _⟩ => ⟨S_, .f32⟩
  | .hbm, ⟨59, _⟩ => ⟨S2050x384, .f32⟩
  | .hbm, ⟨60, _⟩ => ⟨S2050x384, .f32⟩
  | .hbm, ⟨61, _⟩ => ⟨S1x384, .f32⟩
  | .hbm, ⟨62, _⟩ => ⟨S_, .f32⟩
  | .hbm, ⟨63, _⟩ => ⟨S3x384, .f32⟩
  | .hbm, ⟨64, _⟩ => ⟨S3x384, .f32⟩
  | .hbm, ⟨65, _⟩ => ⟨S2048x384, .f32⟩
  | .hbm, ⟨66, _⟩ => ⟨S2048x384, .f32⟩
  | .hbm, ⟨67, _⟩ => ⟨S2048x384, .f32⟩
  | .hbm, ⟨68, _⟩ => ⟨S_, .f32⟩
  | .hbm, ⟨69, _⟩ => ⟨S384, .f32⟩
  | .hbm, ⟨70, _⟩ => ⟨S1x384, .f32⟩
  | .hbm, ⟨71, _⟩ => ⟨S_, .f32⟩
  | .hbm, ⟨72, _⟩ => ⟨S384, .f32⟩
  | .hbm, ⟨73, _⟩ => ⟨S_, .f32⟩
  | .hbm, ⟨74, _⟩ => ⟨S2050x384, .f32⟩
  | .hbm, ⟨75, _⟩ => ⟨S2050x384, .f32⟩
  | .hbm, ⟨76, _⟩ => ⟨S1x384, .f32⟩
  | .hbm, ⟨77, _⟩ => ⟨S_, .f32⟩
  | .hbm, ⟨78, _⟩ => ⟨S3x384, .f32⟩
  | .hbm, ⟨79, _⟩ => ⟨S3x384, .f32⟩
  | .hbm, ⟨80, _⟩ => ⟨S2x384, .f32⟩
  | .hbm, ⟨81, _⟩ => ⟨S2048x384, .f32⟩
  | .hbm, ⟨82, _⟩ => ⟨S2048x384, .f32⟩
  | .hbm, ⟨83, _⟩ => ⟨S2048x384, .f32⟩
  | .hbm, ⟨84, _⟩ => ⟨S2048x384, .bf16⟩
  | .hbm, ⟨85, _⟩ => ⟨S2048x384, .bf16⟩
  | .hbm, ⟨86, _⟩ => ⟨S2048x384, .bf16⟩
  | _, _ => ⟨S2048x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== WGuBwd.lean ====
abbrev S2048x1024 : Shape := ⟨2, ![2048, 1024]⟩
abbrev S2048x5632 : Shape := ⟨2, ![2048, 5632]⟩
abbrev S1024x5632 : Shape := ⟨2, ![1024, 5632]⟩
abbrev S2048x1408 : Shape := ⟨2, ![2048, 1408]⟩
abbrev S1024x1408 : Shape := ⟨2, ![1024, 1408]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S2048x1024, .f32⟩
  | .hbm, ⟨3, _⟩ => ⟨S1024x5632, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1024x1408, .bf16⟩
  | .local _ .vmem, ⟨4, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WGuRefIdeal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S2048x1024, .f32⟩
  | .hbm, ⟨3, _⟩ => ⟨S2048x1024, .f32⟩
  | .hbm, ⟨4, _⟩ => ⟨S2048x5632, .f32⟩
  | .hbm, ⟨5, _⟩ => ⟨S_, .f32⟩
  | .hbm, ⟨6, _⟩ => ⟨S1024x5632, .f32⟩
  | .hbm, ⟨7, _⟩ => ⟨S2048x5632, .f32⟩
  | .hbm, ⟨8, _⟩ => ⟨S5632x1024, .f32⟩
  | .hbm, ⟨9, _⟩ => ⟨S1024x5632, .f32⟩
  | .hbm, ⟨10, _⟩ => ⟨S1024x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== WDownBwd.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x1024, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WDownRefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x1024, .f32⟩
  | .hbm, ⟨3, _⟩ => ⟨S2048x2816, .f32⟩
  | .hbm, ⟨4, _⟩ => ⟨S2048x1024, .f32⟩
  | .hbm, ⟨5, _⟩ => ⟨S_, .f32⟩
  | .hbm, ⟨6, _⟩ => ⟨S2816x1024, .f32⟩
  | .hbm, ⟨7, _⟩ => ⟨S2048x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== WInBwd.lean ====
abbrev S2048x384 : Shape := ⟨2, ![2048, 384]⟩
abbrev S2048x256 : Shape := ⟨2, ![2048, 256]⟩
abbrev S2048x1024 : Shape := ⟨2, ![2048, 1024]⟩
abbrev S2176x1024 : Shape := ⟨2, ![2176, 1024]⟩
abbrev S2048x512 : Shape := ⟨2, ![2048, 512]⟩
abbrev S2176x512 : Shape := ⟨2, ![2176, 512]⟩
abbrev S384x512 : Shape := ⟨2, ![384, 512]⟩
abbrev S256x512 : Shape := ⟨2, ![256, 512]⟩

abbrev nBuf : Space → Nat
  | .hbm => 8
  | .vmem => 10
  | .smem => 0
  | _ => 0

abbrev bufTy : (tb : Table) → Fin (tcTables nBuf tb) → BufTy
  | .hbm, ⟨0, _⟩ => ⟨S2048x384, .bf16⟩
  | .hbm, ⟨1, _⟩ => ⟨S2048x384, .bf16⟩
  | .hbm, ⟨2, _⟩ => ⟨S2048x384, .bf16⟩
  | .hbm, ⟨3, _⟩ => ⟨S2048x256, .bf16⟩
  | .hbm, ⟨4, _⟩ => ⟨S2048x384, .bf16⟩
  | .hbm, ⟨5, _⟩ => ⟨S2048x384, .bf16⟩
  | .hbm, ⟨6, _⟩ => ⟨S2048x1024, .bf16⟩
  | .hbm, ⟨7, _⟩ => ⟨S2176x1024, .bf16⟩
  | .local _ .vmem, ⟨0, _⟩ => ⟨S2048x384, .bf16⟩
  | .local _ .vmem, ⟨1, _⟩ => ⟨S2048x384, .bf16⟩
  | .local _ .vmem, ⟨2, _⟩ => ⟨S2048x384, .bf16⟩
  | .local _ .vmem, ⟨3, _⟩ => ⟨S2048x256, .bf16⟩
  | .local _ .vmem, ⟨4, _⟩ => ⟨S2048x384, .bf16⟩
  | .local _ .vmem, ⟨5, _⟩ => ⟨S2048x384, .bf16⟩
  | .local _ .vmem, ⟨6, _⟩ => ⟨S2048x512, .bf16⟩
  | .local _ .vmem, ⟨7, _⟩ => ⟨S2048x512, .bf16⟩
  | .local _ .vmem, ⟨8, _⟩ => ⟨S2176x512, .bf16⟩
  | .local _ .vmem, ⟨9, _⟩ => ⟨S2176x512, .bf16⟩
  | _, _ => ⟨S2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2176x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WInRefIdeal.lean ====
abbrev S2048x384 : Shape := ⟨2, ![2048, 384]⟩
abbrev S2048x256 : Shape := ⟨2, ![2048, 256]⟩
abbrev S2048x1024 : Shape := ⟨2, ![2048, 1024]⟩
abbrev S2048x2176 : Shape := ⟨2, ![2048, 2176]⟩
abbrev S_ : Shape := ⟨0, ![]⟩
abbrev S2176x1024 : Shape := ⟨2, ![2176, 1024]⟩
abbrev S1024x2176 : Shape := ⟨2, ![1024, 2176]⟩

abbrev nBuf : Space → Nat
  | .hbm => 23
  | .vmem => 0
  | .smem => 0
  | _ => 0

abbrev bufTy : (tb : Table) → Fin (tcTables nBuf tb) → BufTy
  | .hbm, ⟨0, _⟩ => ⟨S2048x384, .bf16⟩
  | .hbm, ⟨1, _⟩ => ⟨S2048x384, .bf16⟩
  | .hbm, ⟨2, _⟩ => ⟨S2048x384, .bf16⟩
  | .hbm, ⟨3, _⟩ => ⟨S2048x256, .bf16⟩
  | .hbm, ⟨4, _⟩ => ⟨S2048x384, .bf16⟩
  | .hbm, ⟨5, _⟩ => ⟨S2048x384, .bf16⟩
  | .hbm, ⟨6, _⟩ => ⟨S2048x1024, .bf16⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x256, .f32⟩
  | .hbm, ⟨11, _⟩ => ⟨S2048x384, .f32⟩
  | .hbm, ⟨12, _⟩ => ⟨S2048x384, .f32⟩
  | .hbm, ⟨13, _⟩ => ⟨S2048x2176, .f32⟩
  | .hbm, ⟨14, _⟩ => ⟨S2048x1024, .f32⟩
  | .hbm, ⟨15, _⟩ => ⟨S_, .f32⟩
  | .hbm, ⟨16, _⟩ => ⟨S2176x1024, .f32⟩
  | .hbm, ⟨17, _⟩ => ⟨S1024x2176, .f32⟩
  | .hbm, ⟨18, _⟩ => ⟨S2048x2176, .f32⟩
  | .hbm, ⟨19, _⟩ => ⟨S2176x1024, .f32⟩
  | .hbm, ⟨20, _⟩ => ⟨S1024x2176, .f32⟩
  | .hbm, ⟨21, _⟩ => ⟨S2176x1024, .f32⟩
  | .hbm, ⟨22, _⟩ => ⟨S2176x1024, .bf16⟩
  | _, _ => ⟨S2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== WOBwd.lean ====
abbrev S2048x384 : Shape := ⟨2, ![2048, 384]⟩
abbrev S2048x256 : Shape := ⟨2, ![2048, 256]⟩
abbrev S2048x1024 : Shape := ⟨2, ![2048, 1024]⟩
abbrev S1024x1024 : Shape := ⟨2, ![1024, 1024]⟩
abbrev S384x1024 : Shape := ⟨2, ![384, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x384, .bf16⟩
  | .hbm, ⟨1, _⟩ => ⟨S2048x256, .bf16⟩
  | .hbm, ⟨2, _⟩ => ⟨S2048x384, .bf16⟩
  | .hbm, ⟨3, _⟩ => ⟨S2048x1024, .bf16⟩
  | .hbm, ⟨4, _⟩ => ⟨S1024x1024, .bf16⟩
  | .local _ .vmem, ⟨0, _⟩ => ⟨S2048x384, .bf16⟩
  | .local _ .vmem, ⟨1, _⟩ => ⟨S2048x256, .bf16⟩
  | .local _ .vmem, ⟨2, _⟩ => ⟨S2048x384, .bf16⟩
  | .local _ .vmem, ⟨3, _⟩ => ⟨S2048x1024, .bf16⟩
  | .local _ .vmem, ⟨4, _⟩ => ⟨S1024x1024, .bf16⟩
  | _, _ => ⟨S2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== WORefIdeal.lean ====
abbrev S2048x384 : Shape := ⟨2, ![2048, 384]⟩
abbrev S2048x256 : Shape := ⟨2, ![2048, 256]⟩
abbrev S2048x1024 : Shape := ⟨2, ![2048, 1024]⟩
abbrev S_ : Shape := ⟨0, ![]⟩
abbrev S1024x1024 : Shape := ⟨2, ![1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x384, .bf16⟩
  | .hbm, ⟨1, _⟩ => ⟨S2048x256, .bf16⟩
  | .hbm, ⟨2, _⟩ => ⟨S2048x384, .bf16⟩
  | .hbm, ⟨3, _⟩ => ⟨S2048x1024, .bf16⟩
  | .hbm, ⟨4, _⟩ => ⟨S2048x384, .f32⟩
  | .hbm, ⟨5, _⟩ => ⟨S2048x256, .f32⟩
  | .hbm, ⟨6, _⟩ => ⟨S2048x384, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S1024x1024, .f32⟩
  | .hbm, ⟨11, _⟩ => ⟨S2048x1024, .f32⟩
  | .hbm, ⟨12, _⟩ => ⟨S1024x1024, .f32⟩
  | .hbm, ⟨13, _⟩ => ⟨S1024x1024, .f32⟩
  | .hbm, ⟨14, _⟩ => ⟨S1024x1024, .bf16⟩
  | _, _ => ⟨S2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== DxBwd.lean ====
abbrev S2048x1024 : Shape := ⟨2, ![2048, 1024]⟩
abbrev S2048x384 : Shape := ⟨2, ![2048, 384]⟩
abbrev S2048x256 : Shape := ⟨2, ![2048, 256]⟩
abbrev S2176x1024 : Shape := ⟨2, ![2176, 1024]⟩
abbrev S512x384 : Shape := ⟨2, ![512, 384]⟩
abbrev S512x256 : Shape := ⟨2, ![512, 256]⟩
abbrev S512x1024 : Shape := ⟨2, ![512, 1024]⟩
abbrev S384x1024 : Shape := ⟨2, ![384, 1024]⟩
abbrev S256x1024 : Shape := ⟨2, ![256, 1024]⟩

abbrev nBuf : Space → Nat
  | .hbm => 10
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x384, .bf16⟩
  | .hbm, ⟨2, _⟩ => ⟨S2048x384, .bf16⟩
  | .hbm, ⟨3, _⟩ => ⟨S2048x384, .bf16⟩
  | .hbm, ⟨4, _⟩ => ⟨S2048x256, .bf16⟩
  | .hbm, ⟨5, _⟩ => ⟨S2048x384, .bf16⟩
  | .hbm, ⟨6, _⟩ => ⟨S2048x384, .bf16⟩
  | .hbm, ⟨7, _⟩ => ⟨S2176x1024, .bf16⟩
  | .hbm, ⟨8, _⟩ => ⟨S2048x384, .bf16⟩
  | .hbm, ⟨9, _⟩ => ⟨S2048x1024, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x256, .bf16⟩
  | .local _ .vmem, ⟨7, _⟩ => ⟨S512x256, .bf16⟩
  | .local _ .vmem, ⟨8, _⟩ => ⟨S512x384, .bf16⟩
  | .local _ .vmem, ⟨9, _⟩ => ⟨S512x384, .bf16⟩
  | .local _ .vmem, ⟨10, _⟩ => ⟨S512x384, .bf16⟩
  | .local _ .vmem, ⟨11, _⟩ => ⟨S512x384, .bf16⟩
  | .local _ .vmem, ⟨12, _⟩ => ⟨S512x1024, .f32⟩
  | .local _ .vmem, ⟨13, _⟩ => ⟨S512x1024, .f32⟩
  | .local _ .vmem, ⟨14, _⟩ => ⟨S2176x1024, .bf16⟩
  | .local _ .vmem, ⟨15, _⟩ => ⟨S512x1024, .f32⟩
  | .local _ .vmem, ⟨16, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2176x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DxRefIdeal.lean ====
abbrev S2048x1024 : Shape := ⟨2, ![2048, 1024]⟩
abbrev S2048x384 : Shape := ⟨2, ![2048, 384]⟩
abbrev S2048x256 : Shape := ⟨2, ![2048, 256]⟩
abbrev S2176x1024 : Shape := ⟨2, ![2176, 1024]⟩
abbrev S2048x2176 : Shape := ⟨2, ![2048, 2176]⟩
abbrev S1024x2176 : Shape := ⟨2, ![1024, 2176]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x384, .bf16⟩
  | .hbm, ⟨2, _⟩ => ⟨S2048x384, .bf16⟩
  | .hbm, ⟨3, _⟩ => ⟨S2048x384, .bf16⟩
  | .hbm, ⟨4, _⟩ => ⟨S2048x256, .bf16⟩
  | .hbm, ⟨5, _⟩ => ⟨S2048x384, .bf16⟩
  | .hbm, ⟨6, _⟩ => ⟨S2048x384, .bf16⟩
  | .hbm, ⟨7, _⟩ => ⟨S2176x1024, .bf16⟩
  | .hbm, ⟨8, _⟩ => ⟨S2048x384, .bf16⟩
  | .hbm, ⟨9, _⟩ => ⟨S2048x384, .f32⟩
  | .hbm, ⟨10, _⟩ => ⟨S2048x384, .f32⟩
  | .hbm, ⟨11, _⟩ => ⟨S2048x384, .f32⟩
  | .hbm, ⟨12, _⟩ => ⟨S2048x256, .f32⟩
  | .hbm, ⟨13, _⟩ => ⟨S2048x384, .f32⟩
  | .hbm, ⟨14, _⟩ => ⟨S2048x384, .f32⟩
  | .hbm, ⟨15, _⟩ => ⟨S2048x2176, .f32⟩
  | .hbm, ⟨16, _⟩ => ⟨S2176x1024, .f32⟩
  | .hbm, ⟨17, _⟩ => ⟨S1024x2176, .f32⟩
  | .hbm, ⟨18, _⟩ => ⟨S_, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x2176, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== MlpBwd.lean ====
abbrev S2048x1024 : Shape := ⟨2, ![2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S256x1024 : Shape := ⟨2, ![256, 1024]⟩
abbrev S256x1 : Shape := ⟨2, ![256, 1]⟩
abbrev S256x5632 : Shape := ⟨2, ![256, 5632]⟩
abbrev S256x2816 : Shape := ⟨2, ![256, 2816]⟩
abbrev S256 : Shape := ⟨1, ![256]⟩

abbrev nBuf : Space → Nat
  | .hbm => 101
  | .vmem => 33
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S2048x1024, .f32⟩
  | .hbm, ⟨9, _⟩ => ⟨S1x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x5632, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S_, .f32⟩
  | .hbm, ⟨50, _⟩ => ⟨S2048x2816, .f32⟩
  | .hbm, ⟨51, _⟩ => ⟨S2048x2816, .f32⟩
  | .hbm, ⟨52, _⟩ => ⟨S_, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S_, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S2048x1, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S1x1024, .f32⟩
  | .hbm, ⟨87, _⟩ => ⟨S1024x5632, .bf16⟩
  | .hbm, ⟨88, _⟩ => ⟨S2816x1024, .bf16⟩
  | .hbm, ⟨89, _⟩ => ⟨S1x1024, .f32⟩
  | .hbm, ⟨90, _⟩ => ⟨S1024x1024, .bf16⟩
  | .hbm, ⟨91, _⟩ => ⟨S2048x1024, .bf16⟩
  | .hbm, ⟨92, _⟩ => ⟨S2048x2816, .bf16⟩
  | .hbm, ⟨93, _⟩ => ⟨S2048x5632, .bf16⟩
  | .hbm, ⟨94, _⟩ => ⟨S2048x1024, .f32⟩
  | .hbm, ⟨95, _⟩ => ⟨S2048x1024, .bf16⟩
  | .hbm, ⟨96, _⟩ => ⟨S2048x1024, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S1x1024, .f32⟩
  | .local _ .vmem, ⟨7, _⟩ => ⟨S256x5632, .f32⟩
  | .local _ .vmem, ⟨8, _⟩ => ⟨S256x5632, .f32⟩
  | .local _ .vmem, ⟨9, _⟩ => ⟨S1024x5632, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S256x1, .f32⟩
  | .local _ .vmem, ⟨14, _⟩ => ⟨S256x1, .f32⟩
  | .local _ .vmem, ⟨15, _⟩ => ⟨S1x1024, .f32⟩
  | .local _ .vmem, ⟨16, _⟩ => ⟨S1024x1024, .bf16⟩
  | .local _ .vmem, ⟨17, _⟩ => ⟨S256x1024, .bf16⟩
  | .local _ .vmem, ⟨18, _⟩ => ⟨S256x1024, .bf16⟩
  | .local _ .vmem, ⟨19, _⟩ => ⟨S256x2816, .bf16⟩
  | .local _ .vmem, ⟨20, _⟩ => ⟨S256x2816, .bf16⟩
  | .local _ .vmem, ⟨21, _⟩ => ⟨S256x5632, .bf16⟩
  | .local _ .vmem, ⟨22, _⟩ => ⟨S256x5632, .bf16⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S256x1024, .f32⟩
  | .local _ .vmem, ⟨28, _⟩ => ⟨S256x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67_0 : Ref sig .tc := ⟨.hbm, 91, rfl⟩
abbrev main_v67_1 : Ref sig .tc := ⟨.hbm, 92, rfl⟩
abbrev main_v67_2 : Ref sig .tc := ⟨.hbm, 93, rfl⟩
abbrev main_v67_3 : Ref sig .tc := ⟨.hbm, 94, rfl⟩
abbrev main_v67_4 : Ref sig .tc := ⟨.hbm, 95, rfl⟩
abbrev main_v67_5 : Ref sig .tc := ⟨.hbm, 96, rfl⟩
abbrev main_v67_6 : Ref sig .tc := ⟨.hbm, 97, rfl⟩
abbrev main_v67_7 : Ref sig .tc := ⟨.hbm, 98, rfl⟩
abbrev main_v67_8 : Ref sig .tc := ⟨.hbm, 99, rfl⟩
abbrev main_v67_9 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30
abbrev cc0_sem19_0 : DmaSem sig := 31
abbrev cc0_sem20_0 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MlpRefIdeal.lean ====
abbrev S2048x1024 : Shape := ⟨2, ![2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩

abbrev nBuf : Space → Nat
  | .hbm => 226
  | .vmem => 0
  | .smem => 0
  | _ => 0

abbrev hbmTy0_0 (i : Nat) : BufTy := match i % 128 with
  | 0 => ⟨S2048x1024, .f32⟩
  | 1 => ⟨S2048x1024, .f32⟩
  | 2 => ⟨S1024x1024, .f32⟩
  | 3 => ⟨S1024, .f32⟩
  | 4 => ⟨S1024, .f32⟩
  | 5 => ⟨S1024x5632, .f32⟩
  | 6 => ⟨S2816x1024, .f32⟩
  | 7 => ⟨S1024, .f32⟩
  | 8 => ⟨S2048x1024, .f32⟩
  | 9 => ⟨S1x1024, .f32⟩
  | 10 => ⟨S2048x1024, .f32⟩
  | 11 => ⟨S_, .f32⟩
  | 12 => ⟨S2048x1024, .f32⟩
  | 13 => ⟨S2048x1024, .f32⟩
  | 14 => ⟨S2048x1024, .f32⟩
  | 15 => ⟨S_, .f32⟩
  | 16 => ⟨S2048, .f32⟩
  | 17 => ⟨S2048x1, .f32⟩
  | 18 => ⟨S_, .f32⟩
  | 19 => ⟨S2048x1, .f32⟩
  | 20 => ⟨S2048x1, .f32⟩
  | 21 => ⟨S2048x1024, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S_, .f32⟩
  | 28 => ⟨S2048, .f32⟩
  | 29 => ⟨S2048x1, .f32⟩
  | 30 => ⟨S_, .f32⟩
  | 31 => ⟨S2048x1, .f32⟩
  | 32 => ⟨S2048x1, .f32⟩
  | 33 => ⟨S2048x1024, .f32⟩
  | 34 => ⟨S2048x1024, .f32⟩
  | 35 => ⟨S_, .f32⟩
  | 36 => ⟨S2048x1, .f32⟩
  | 37 => ⟨S2048x1, .f32⟩
  | 38 => ⟨S2048x1, .f32⟩
  | 39 => ⟨S2048x1, .f32⟩
  | 40 => ⟨S_, .f32⟩
  | 41 => ⟨S2048x1, .f32⟩
  | 42 => ⟨S2048x1, .f32⟩
  | 43 => ⟨S2048x1024, .f32⟩
  | 44 => ⟨S2048x1024, .f32⟩
  | 45 => ⟨S1x1024, .f32⟩
  | 46 => ⟨S2048x1024, .f32⟩
  | 47 => ⟨S2048x1024, .f32⟩
  | 48 => ⟨S1x1024, .f32⟩
  | 49 => ⟨S2048x1024, .f32⟩
  | 50 => ⟨S2048x1024, .f32⟩
  | 51 => ⟨S2048x5632, .f32⟩
  | 52 => ⟨S2048x2816, .f32⟩
  | 53 => ⟨S2048x2816, .f32⟩
  | 54 => ⟨S2048x2816, .f32⟩
  | 55 => ⟨S2048x2816, .f32⟩
  | 56 => ⟨S_, .f32⟩
  | 57 => ⟨S2048x2816, .f32⟩
  | 58 => ⟨S2048x2816, .f32⟩
  | 59 => ⟨S_, .f32⟩
  | 60 => ⟨S2048x2816, .f32⟩
  | 61 => ⟨S2048x2816, .f32⟩
  | 62 => ⟨S_, .f32⟩
  | 63 => ⟨S2048x2816, .f32⟩
  | 64 => ⟨S2048x2816, .f32⟩
  | 65 => ⟨S2048x2816, .f32⟩
  | 66 => ⟨S2048x2816, .f32⟩
  | 67 => ⟨S2048x2816, .f32⟩
  | 68 => ⟨S2048x1024, .f32⟩
  | 69 => ⟨S_, .f32⟩
  | 70 => ⟨S2048x1024, .f32⟩
  | 71 => ⟨S2048x1024, .f32⟩
  | 72 => ⟨S2048x1024, .f32⟩
  | 73 => ⟨S_, .f32⟩
  | 74 => ⟨S1024, .f32⟩
  | 75 => ⟨S_, .f32⟩
  | 76 => ⟨S2048, .f32⟩
  | 77 => ⟨S2048x1, .f32⟩
  | 78 => ⟨S_, .f32⟩
  | 79 => ⟨S2048x1, .f32⟩
  | 80 => ⟨S2048x1, .f32⟩
  | 81 => ⟨S2048x1024, .f32⟩
  | 82 => ⟨S2048x1024, .f32⟩
  | 83 => ⟨S2048x1024, .f32⟩
  | 84 => ⟨S_, .f32⟩
  | 85 => ⟨S2048x1024, .f32⟩
  | 86 => ⟨S2048x1024, .f32⟩
  | 87 => ⟨S_, .f32⟩
  | 88 => ⟨S2048, .f32⟩
  | 89 => ⟨S2048x1, .f32⟩
  | 90 => ⟨S_, .f32⟩
  | 91 => ⟨S2048x1, .f32⟩
  | 92 => ⟨S2048x1, .f32⟩
  | 93 => ⟨S2048x1024, .f32⟩
  | 94 => ⟨S2048x1024, .f32⟩
  | 95 => ⟨S_, .f32⟩
  | 96 => ⟨S2048x1, .f32⟩
  | 97 => ⟨S2048x1, .f32⟩
  | 98 => ⟨S2048x1, .f32⟩
  | 99 => ⟨S2048x1, .f32⟩
  | 100 => ⟨S_, .f32⟩
  | 101 => ⟨S2048x1, .f32⟩
  | 102 => ⟨S2048x1, .f32⟩
  | 103 => ⟨S2048x1024, .f32⟩
  | 104 => ⟨S2048x1024, .f32⟩
  | 105 => ⟨S1x1024, .f32⟩
  | 106 => ⟨S2048x1024, .f32⟩
  | 107 => ⟨S2048x1024, .f32⟩
  | 108 => ⟨S1x1024, .f32⟩
  | 109 => ⟨S2048x1024, .f32⟩
  | 110 => ⟨S2048x1024, .f32⟩
  | 111 => ⟨S2048x1024, .f32⟩
  | 112 => ⟨S_, .f32⟩
  | 113 => ⟨S1024, .f32⟩
  | 114 => ⟨S1x1024, .f32⟩
  | 115 => ⟨S_, .f32⟩
  | 116 => ⟨S1024, .f32⟩
  | 117 => ⟨S2048x1024, .f32⟩
  | 118 => ⟨S_, .f32⟩
  | 119 => ⟨S1024, .f32⟩
  | 120 => ⟨S1x1024, .f32⟩
  | 121 => ⟨S2048x1024, .f32⟩
  | 122 => ⟨S2048x1024, .f32⟩
  | 123 => ⟨S_, .f32⟩
  | 124 => ⟨S1024, .f32⟩
  | 125 => ⟨S2048x1024, .f32⟩
  | 126 => ⟨S_, .f32⟩
  | 127 => ⟨S2048, .f32⟩
  | _ => ⟨S2048x1024, .f32⟩

abbrev hbmTy0_1 (i : Nat) : BufTy := match i % 128 with
  | 0 => ⟨S2048x1, .f32⟩
  | 1 => ⟨S2048x1024, .f32⟩
  | 2 => ⟨S2048x1024, .f32⟩
  | 3 => ⟨S2048x1, .f32⟩
  | 4 => ⟨S2048x1024, .f32⟩
  | 5 => ⟨S_, .f32⟩
  | 6 => ⟨S2048, .f32⟩
  | 7 => ⟨S2048x1, .f32⟩
  | 8 => ⟨S_, .f32⟩
  | 9 => ⟨S2048x1, .f32⟩
  | 10 => ⟨S2048x1, .f32⟩
  | 11 => ⟨S_, .f32⟩
  | 12 => ⟨S2048, .f32⟩
  | 13 => ⟨S2048x1024, .f32⟩
  | 14 => ⟨S2048x1024, .f32⟩
  | 15 => ⟨S2048x1024, .f32⟩
  | 16 => ⟨S_, .f32⟩
  | 17 => ⟨S2048, .f32⟩
  | 18 => ⟨S2048x1, .f32⟩
  | 19 => ⟨S2048x1024, .f32⟩
  | 20 => ⟨S2048x1, .f32⟩
  | 21 => ⟨S_, .f32⟩
  | 22 => ⟨S2048x1, .f32⟩
  | 23 => ⟨S2048x1, .f32⟩
  | 24 => ⟨S_, .f32⟩
  | 25 => ⟨S2048, .f32⟩
  | 26 => ⟨S2048x1024, .f32⟩
  | 27 => ⟨S2048x1024, .f32⟩
  | 28 => ⟨S2048x2816, .f32⟩
  | 29 => ⟨S2048x2816, .f32⟩
  | 30 => ⟨S2048x2816, .f32⟩
  | 31 => ⟨S2048x2816, .f32⟩
  | 32 => ⟨S2048x2816, .f32⟩
  | 33 => ⟨S2048x2816, .f32⟩
  | 34 => ⟨S2048x2816, .f32⟩
  | 35 => ⟨S_, .f32⟩
  | 36 => ⟨S2048x5632, .f32⟩
  | 37 => ⟨S_, .f32⟩
  | 38 => ⟨S2048x5632, .f32⟩
  | 39 => ⟨S2048x5632, .f32⟩
  | 40 => ⟨S_, .f32⟩
  | 41 => ⟨S2048x1024, .f32⟩
  | 42 => ⟨S2048x1024, .f32⟩
  | 43 => ⟨S2048x1024, .f32⟩
  | 44 => ⟨S2048x1024, .f32⟩
  | 45 => ⟨S_, .f32⟩
  | 46 => ⟨S1024, .f32⟩
  | 47 => ⟨S1x1024, .f32⟩
  | 48 => ⟨S_, .f32⟩
  | 49 => ⟨S1024, .f32⟩
  | 50 => ⟨S2048x1024, .f32⟩
  | 51 => ⟨S_, .f32⟩
  | 52 => ⟨S1024, .f32⟩
  | 53 => ⟨S1x1024, .f32⟩
  | 54 => ⟨S2048x1024, .f32⟩
  | 55 => ⟨S2048x1024, .f32⟩
  | 56 => ⟨S_, .f32⟩
  | 57 => ⟨S1024, .f32⟩
  | 58 => ⟨S2048x1024, .f32⟩
  | 59 => ⟨S_, .f32⟩
  | 60 => ⟨S2048, .f32⟩
  | 61 => ⟨S2048x1, .f32⟩
  | 62 => ⟨S2048x1024, .f32⟩
  | 63 => ⟨S2048x1024, .f32⟩
  | 64 => ⟨S2048x1, .f32⟩
  | 65 => ⟨S2048x1024, .f32⟩
  | 66 => ⟨S_, .f32⟩
  | 67 => ⟨S2048, .f32⟩
  | 68 => ⟨S2048x1, .f32⟩
  | 69 => ⟨S_, .f32⟩
  | 70 => ⟨S2048x1, .f32⟩
  | 71 => ⟨S2048x1, .f32⟩
  | 72 => ⟨S_, .f32⟩
  | 73 => ⟨S2048, .f32⟩
  | 74 => ⟨S2048x1024, .f32⟩
  | 75 => ⟨S2048x1024, .f32⟩
  | 76 => ⟨S2048x1024, .f32⟩
  | 77 => ⟨S_, .f32⟩
  | 78 => ⟨S2048, .f32⟩
  | 79 => ⟨S2048x1, .f32⟩
  | 80 => ⟨S2048x1024, .f32⟩
  | 81 => ⟨S2048x1, .f32⟩
  | 82 => ⟨S_, .f32⟩
  | 83 => ⟨S2048x1, .f32⟩
  | 84 => ⟨S2048x1, .f32⟩
  | 85 => ⟨S_, .f32⟩
  | 86 => ⟨S2048, .f32⟩
  | 87 => ⟨S2048x1024, .f32⟩
  | 88 => ⟨S2048x1024, .f32⟩
  | 89 => ⟨S2048x1024, .f32⟩
  | 90 => ⟨S2048x1024, .bf16⟩
  | 91 => ⟨S2048x2816, .bf16⟩
  | 92 => ⟨S2048x5632, .bf16⟩
  | 93 => ⟨S2048x1024, .bf16⟩
  | 94 => ⟨S1x1024, .f32⟩
  | 95 => ⟨S1x1024, .f32⟩
  | 96 => ⟨S1x1024, .f32⟩
  | 97 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v36_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v36_1 : Ref sig .tc := ⟨.hbm, 65, rfl⟩
abbrev main_v36_0 : Ref sig .tc := ⟨.hbm, 66, rfl⟩
abbrev main_v37 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_8 : Ref sig .tc := ⟨.hbm, 73, rfl⟩
abbrev main_v42 : Ref sig .tc := ⟨.hbm, 74, rfl⟩
abbrev main_cst_9 : Ref sig .tc := ⟨.hbm, 75, rfl⟩
abbrev main_v43 : Ref sig .tc := ⟨.hbm, 76, rfl⟩
abbrev main_v44 : Ref sig .tc := ⟨.hbm, 77, rfl⟩
abbrev main_cst_10 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_11 : Ref sig .tc := ⟨.hbm, 84, rfl⟩
abbrev main_v50 : Ref sig .tc := ⟨.hbm, 85, rfl⟩
abbrev main_v51 : Ref sig .tc := ⟨.hbm, 86, rfl⟩
abbrev main_cst_12 : Ref sig .tc := ⟨.hbm, 87, rfl⟩
abbrev main_v52 : Ref sig .tc := ⟨.hbm, 88, rfl⟩
abbrev main_v53 : Ref sig .tc := ⟨.hbm, 89, rfl⟩
abbrev main_cst_13 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_14 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_15 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_16 : Ref sig .tc := ⟨.hbm, 112, rfl⟩
abbrev main_v73 : Ref sig .tc := ⟨.hbm, 113, rfl⟩
abbrev main_v74 : Ref sig .tc := ⟨.hbm, 114, rfl⟩
abbrev main_cst_17 : Ref sig .tc := ⟨.hbm, 115, rfl⟩
abbrev main_v75 : Ref sig .tc := ⟨.hbm, 116, rfl⟩
abbrev main_v76 : Ref sig .tc := ⟨.hbm, 117, rfl⟩
abbrev main_cst_18 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_19 : Ref sig .tc := ⟨.hbm, 123, rfl⟩
abbrev main_v81 : Ref sig .tc := ⟨.hbm, 124, rfl⟩
abbrev main_v82 : Ref sig .tc := ⟨.hbm, 125, rfl⟩
abbrev main_cst_20 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_21 : Ref sig .tc := ⟨.hbm, 133, rfl⟩
abbrev main_v89 : Ref sig .tc := ⟨.hbm, 134, rfl⟩
abbrev main_v90 : Ref sig .tc := ⟨.hbm, 135, rfl⟩
abbrev main_cst_22 : Ref sig .tc := ⟨.hbm, 136, rfl⟩
abbrev main_v91 : Ref sig .tc := ⟨.hbm, 137, rfl⟩
abbrev main_v92 : Ref sig .tc := ⟨.hbm, 138, rfl⟩
abbrev main_cst_23 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_24 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_25 : Ref sig .tc := ⟨.hbm, 149, rfl⟩
abbrev main_v101 : Ref sig .tc := ⟨.hbm, 150, rfl⟩
abbrev main_v102 : Ref sig .tc := ⟨.hbm, 151, rfl⟩
abbrev main_cst_26 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_call1_v0 : Ref sig .tc := ⟨.hbm, 159, rfl⟩
abbrev main_call1_v1 : Ref sig .tc := ⟨.hbm, 160, rfl⟩
abbrev main_call1_v2 : Ref sig .tc := ⟨.hbm, 161, rfl⟩
abbrev main_v109 : Ref sig .tc := ⟨.hbm, 162, rfl⟩
abbrev main_cst_27 : Ref sig .tc := ⟨.hbm, 163, rfl⟩
abbrev main_v110 : Ref sig .tc := ⟨.hbm, 164, rfl⟩
abbrev main_cst_28 : Ref sig .tc := ⟨.hbm, 165, rfl⟩
abbrev main_v111 : Ref sig .tc := ⟨.hbm, 166, rfl⟩
abbrev main_v112 : Ref sig .tc := ⟨.hbm, 167, rfl⟩
abbrev main_cst_29 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_30 : Ref sig .tc := ⟨.hbm, 173, rfl⟩
abbrev main_v117 : Ref sig .tc := ⟨.hbm, 174, rfl⟩
abbrev main_v118 : Ref sig .tc := ⟨.hbm, 175, rfl⟩
abbrev main_cst_31 : Ref sig .tc := ⟨.hbm, 176, rfl⟩
abbrev main_v119 : Ref sig .tc := ⟨.hbm, 177, rfl⟩
abbrev main_v120 : Ref sig .tc := ⟨.hbm, 178, rfl⟩
abbrev main_cst_32 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_cst_33 : Ref sig .tc := ⟨.hbm, 184, rfl⟩
abbrev main_v125 : Ref sig .tc := ⟨.hbm, 185, rfl⟩
abbrev main_v126 : Ref sig .tc := ⟨.hbm, 186, rfl⟩
abbrev main_cst_34 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_cst_35 : Ref sig .tc := ⟨.hbm, 194, rfl⟩
abbrev main_v133 : Ref sig .tc := ⟨.hbm, 195, rfl⟩
abbrev main_v134 : Ref sig .tc := ⟨.hbm, 196, rfl⟩
abbrev main_cst_36 : Ref sig .tc := ⟨.hbm, 197, rfl⟩
abbrev main_v135 : Ref sig .tc := ⟨.hbm, 198, rfl⟩
abbrev main_v136 : Ref sig .tc := ⟨.hbm, 199, rfl⟩
abbrev main_cst_37 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_cst_38 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_cst_39 : Ref sig .tc := ⟨.hbm, 210, rfl⟩
abbrev main_v145 : Ref sig .tc := ⟨.hbm, 211, rfl⟩
abbrev main_v146 : Ref sig .tc := ⟨.hbm, 212, rfl⟩
abbrev main_cst_40 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩

abbrev nD : Nat := 1
abbrev τ : Topo := Topo.v7x

variable {F : FTy → Type} [FloatOps F]
-- ==== ProjFwd.lean ====
abbrev S2048x1024 : Shape := ⟨2, ![2048, 1024]⟩
abbrev S2176x1024 : Shape := ⟨2, ![2176, 1024]⟩
abbrev S2048x2176 : Shape := ⟨2, ![2048, 2176]⟩
abbrev S512x1024 : Shape := ⟨2, ![512, 1024]⟩
abbrev S512x2176 : Shape := ⟨2, ![512, 2176]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2176x1024, .bf16⟩
  | .hbm, ⟨2, _⟩ => ⟨S2048x1024, .f32⟩
  | .hbm, ⟨3, _⟩ => ⟨S2048x2176, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S2176x1024, .bf16⟩
  | .local _ .vmem, ⟨3, _⟩ => ⟨S512x2176, .f32⟩
  | .local _ .vmem, ⟨4, _⟩ => ⟨S512x2176, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S2048x1024 : Shape := ⟨2, ![2048, 1024]⟩
abbrev S2176x1024 : Shape := ⟨2, ![2176, 1024]⟩
abbrev S1024x2176 : Shape := ⟨2, ![1024, 2176]⟩
abbrev S2048x2176 : Shape := ⟨2, ![2048, 2176]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2176x1024, .bf16⟩
  | .hbm, ⟨2, _⟩ => ⟨S2048x1024, .f32⟩
  | .hbm, ⟨3, _⟩ => ⟨S2176x1024, .f32⟩
  | .hbm, ⟨4, _⟩ => ⟨S1024x2176, .f32⟩
  | .hbm, ⟨5, _⟩ => ⟨S2048x2176, .f32⟩
  | .hbm, ⟨6, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WoLnFwd.lean ====
abbrev S2048x384 : Shape := ⟨2, ![2048, 384]⟩
abbrev S2048x256 : Shape := ⟨2, ![2048, 256]⟩
abbrev S2048x1024 : Shape := ⟨2, ![2048, 1024]⟩
abbrev S1024x1024 : Shape := ⟨2, ![1024, 1024]⟩
abbrev S1x1024 : Shape := ⟨2, ![1, 1024]⟩
abbrev S2048x1 : Shape := ⟨2, ![2048, 1]⟩
abbrev S512x384 : Shape := ⟨2, ![512, 384]⟩
abbrev S512x256 : Shape := ⟨2, ![512, 256]⟩
abbrev S512x1024 : Shape := ⟨2, ![512, 1024]⟩
abbrev S512x1 : Shape := ⟨2, ![512, 1]⟩
abbrev S384x1024 : Shape := ⟨2, ![384, 1024]⟩
abbrev S256x1024 : Shape := ⟨2, ![256, 1024]⟩
abbrev S512 : Shape := ⟨1, ![512]⟩

abbrev nBuf : Space → Nat
  | .hbm => 10
  | .vmem => 17
  | .smem => 0
  | _ => 0

abbrev bufTy : (tb : Table) → Fin (tcTables nBuf tb) → BufTy
  | .hbm, ⟨0, _⟩ => ⟨S2048x384, .bf16⟩
  | .hbm, ⟨1, _⟩ => ⟨S2048x256, .bf16⟩
  | .hbm, ⟨2, _⟩ => ⟨S2048x384, .bf16⟩
  | .hbm, ⟨3, _⟩ => ⟨S2048x1024, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1, .f32⟩
  | .hbm, ⟨9, _⟩ => ⟨S2048x1024, .bf16⟩
  | .local _ .vmem, ⟨0, _⟩ => ⟨S512x384, .bf16⟩
  | .local _ .vmem, ⟨1, _⟩ => ⟨S512x384, .bf16⟩
  | .local _ .vmem, ⟨2, _⟩ => ⟨S512x256, .bf16⟩
  | .local _ .vmem, ⟨3, _⟩ => ⟨S512x256, .bf16⟩
  | .local _ .vmem, ⟨4, _⟩ => ⟨S512x384, .bf16⟩
  | .local _ .vmem, ⟨5, _⟩ => ⟨S512x384, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1024, .bf16⟩
  | .local _ .vmem, ⟨16, _⟩ => ⟨S512x1024, .bf16⟩
  | _, _ => ⟨S2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== WoLnRefIdeal.lean ====
abbrev S2048x384 : Shape := ⟨2, ![2048, 384]⟩
abbrev S2048x256 : Shape := ⟨2, ![2048, 256]⟩
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S2048x384, .bf16⟩
  | .hbm, ⟨1, _⟩ => ⟨S2048x256, .bf16⟩
  | .hbm, ⟨2, _⟩ => ⟨S2048x384, .bf16⟩
  | .hbm, ⟨3, _⟩ => ⟨S2048x1024, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S2048x384, .f32⟩
  | .hbm, ⟨8, _⟩ => ⟨S2048x256, .f32⟩
  | .hbm, ⟨9, _⟩ => ⟨S2048x384, .f32⟩
  | .hbm, ⟨10, _⟩ => ⟨S2048x1024, .f32⟩
  | .hbm, ⟨11, _⟩ => ⟨S1024x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .bf16⟩
  | _, _ => ⟨S2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== MlpFFwd.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S2048x5632 : Shape := ⟨2, ![2048, 5632]⟩
abbrev S2048x1 : Shape := ⟨2, ![2048, 1]⟩
abbrev S256x1024 : Shape := ⟨2, ![256, 1024]⟩
abbrev S256x5632 : Shape := ⟨2, ![256, 5632]⟩
abbrev S256x1 : Shape := ⟨2, ![256, 1]⟩
abbrev S256x2816 : Shape := ⟨2, ![256, 2816]⟩
abbrev S256 : Shape := ⟨1, ![256]⟩

abbrev nBuf : Space → Nat
  | .hbm => 12
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x5632, .f32⟩
  | .hbm, ⟨9, _⟩ => ⟨S2048x1024, .f32⟩
  | .hbm, ⟨10, _⟩ => ⟨S2048x1, .f32⟩
  | .hbm, ⟨11, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S256x5632, .f32⟩
  | .local _ .vmem, ⟨9, _⟩ => ⟨S256x5632, .f32⟩
  | .local _ .vmem, ⟨10, _⟩ => ⟨S256x1024, .f32⟩
  | .local _ .vmem, ⟨11, _⟩ => ⟨S256x1024, .f32⟩
  | .local _ .vmem, ⟨12, _⟩ => ⟨S256x1, .f32⟩
  | .local _ .vmem, ⟨13, _⟩ => ⟨S256x1, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlpFRefIdeal.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S1024x5632, .f32⟩
  | .hbm, ⟨13, _⟩ => ⟨S2048x5632, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S_, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2816x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== ConvFFwd.lean ====
abbrev S2048x2176 : Shape := ⟨2, ![2048, 2176]⟩
abbrev S3x384 : Shape := ⟨2, ![3, 384]⟩
abbrev S2048x384 : Shape := ⟨2, ![2048, 384]⟩
abbrev S2048x128 : Shape := ⟨2, ![2048, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S2048x2176, .f32⟩
  | .hbm, ⟨1, _⟩ => ⟨S3x384, .f32⟩
  | .hbm, ⟨2, _⟩ => ⟨S2048x384, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | _, _ => ⟨S2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFRefIdeal.lean ====
abbrev S2048x2176 : Shape := ⟨2, ![2048, 2176]⟩
abbrev S3x384 : Shape := ⟨2, ![3, 384]⟩
abbrev S2048x384 : Shape := ⟨2, ![2048, 384]⟩
abbrev S_ : Shape := ⟨0, ![]⟩
abbrev S2x384 : Shape := ⟨2, ![2, 384]⟩
abbrev S2050x384 : Shape := ⟨2, ![2050, 384]⟩
abbrev S1x384 : Shape := ⟨2, ![1, 384]⟩
abbrev S384 : Shape := ⟨1, ![384]⟩

abbrev nBuf : Space → Nat
  | .hbm => 31
  | .vmem => 0
  | .smem => 0
  | _ => 0

abbrev bufTy : (tb : Table) → Fin (tcTables nBuf tb) → BufTy
  | .hbm, ⟨0, _⟩ => ⟨S2048x2176, .f32⟩
  | .hbm, ⟨1, _⟩ => ⟨S3x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S_, .f32⟩
  | .hbm, ⟨7, _⟩ => ⟨S2x384, .f32⟩
  | .hbm, ⟨8, _⟩ => ⟨S2050x384, .f32⟩
  | .hbm, ⟨9, _⟩ => ⟨S1x384, .f32⟩
  | .hbm, ⟨10, _⟩ => ⟨S384, .f32⟩
  | .hbm, ⟨11, _⟩ => ⟨S2048x384, .f32⟩
  | .hbm, ⟨12, _⟩ => ⟨S1x384, .f32⟩
  | .hbm, ⟨13, _⟩ => ⟨S2048x384, .f32⟩
  | .hbm, ⟨14, _⟩ => ⟨S2048x384, .f32⟩
  | .hbm, ⟨15, _⟩ => ⟨S1x384, .f32⟩
  | .hbm, ⟨16, _⟩ => ⟨S384, .f32⟩
  | .hbm, ⟨17, _⟩ => ⟨S2048x384, .f32⟩
  | .hbm, ⟨18, _⟩ => ⟨S1x384, .f32⟩
  | .hbm, ⟨19, _⟩ => ⟨S2048x384, .f32⟩
  | .hbm, ⟨20, _⟩ => ⟨S2048x384, .f32⟩
  | .hbm, ⟨21, _⟩ => ⟨S2048x384, .f32⟩
  | .hbm, ⟨22, _⟩ => ⟨S1x384, .f32⟩
  | .hbm, ⟨23, _⟩ => ⟨S384, .f32⟩
  | .hbm, ⟨24, _⟩ => ⟨S2048x384, .f32⟩
  | .hbm, ⟨25, _⟩ => ⟨S1x384, .f32⟩
  | .hbm, ⟨26, _⟩ => ⟨S2048x384, .f32⟩
  | .hbm, ⟨27, _⟩ => ⟨S2048x384, .f32⟩
  | .hbm, ⟨28, _⟩ => ⟨S2048x384, .f32⟩
  | .hbm, ⟨29, _⟩ => ⟨S2048x384, .f32⟩
  | .hbm, ⟨30, _⟩ => ⟨S2048x384, .bf16⟩
  | _, _ => ⟨S2048x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== LossFwd.lean ====
abbrev S2048x1024 : Shape := ⟨2, ![2048, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2048x1024 : Shape := ⟨2, ![2048, 1024]⟩
abbrev S_ : Shape := ⟨0, ![]⟩
abbrev S2048 : Shape := ⟨1, ![2048]⟩
abbrev S1024 : Shape := ⟨1, ![1024]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== AdamLUpd.lean ====
abbrev S4x1024x1408 : Shape := ⟨3, ![4, 1024, 1408]⟩
abbrev S4x704x1024 : Shape := ⟨3, ![4, 704, 1024]⟩
abbrev S1024x1408 : Shape := ⟨2, ![1024, 1408]⟩
abbrev S704x1024 : Shape := ⟨2, ![704, 1024]⟩
abbrev S8x128 : Shape := ⟨2, ![8, 128]⟩
abbrev S1x256x1408 : Shape := ⟨3, ![1, 256, 1408]⟩
abbrev S256x1408 : Shape := ⟨2, ![256, 1408]⟩
abbrev S1x176x1024 : Shape := ⟨3, ![1, 176, 1024]⟩
abbrev S176x1024 : Shape := ⟨2, ![176, 1024]⟩

abbrev nBuf : Space → Nat
  | .hbm => 25
  | .vmem => 32
  | .smem => 0
  | _ => 0

abbrev bufTy : (tb : Table) → Fin (tcTables nBuf tb) → BufTy
  | .hbm, ⟨0, _⟩ => ⟨S4x1024x1408, .f32⟩
  | .hbm, ⟨1, _⟩ => ⟨S4x704x1024, .f32⟩
  | .hbm, ⟨2, _⟩ => ⟨S4x1024x1408, .f32⟩
  | .hbm, ⟨3, _⟩ => ⟨S4x704x1024, .f32⟩
  | .hbm, ⟨4, _⟩ => ⟨S4x1024x1408, .f32⟩
  | .hbm, ⟨5, _⟩ => ⟨S4x704x1024, .f32⟩
  | .hbm, ⟨6, _⟩ => ⟨S1024x1408, .f32⟩
  | .hbm, ⟨7, _⟩ => ⟨S704x1024, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S4x1024x1408, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S4x704x1024, .f32⟩
  | .hbm, ⟨16, _⟩ => ⟨S8x128, .f32⟩
  | .hbm, ⟨17, _⟩ => ⟨S4x1024x1408, .f32⟩
  | .hbm, ⟨18, _⟩ => ⟨S4x1024x1408, .f32⟩
  | .hbm, ⟨19, _⟩ => ⟨S4x1024x1408, .f32⟩
  | .hbm, ⟨20, _⟩ => ⟨S4x1024x1408, .f32⟩
  | .hbm, ⟨21, _⟩ => ⟨S4x704x1024, .f32⟩
  | .hbm, ⟨22, _⟩ => ⟨S4x704x1024, .f32⟩
  | .hbm, ⟨23, _⟩ => ⟨S4x704x1024, .f32⟩
  | .hbm, ⟨24, _⟩ => ⟨S4x704x1024, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S176x1024, .f32⟩
  | .local _ .vmem, ⟨15, _⟩ => ⟨S176x1024, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | .local _ .vmem, ⟨22, _⟩ => ⟨S1x256x1408, .f32⟩
  | .local _ .vmem, ⟨23, _⟩ => ⟨S1x256x1408, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .vmem, ⟨30, _⟩ => ⟨S1x176x1024, .f32⟩
  | .local _ .vmem, ⟨31, _⟩ => ⟨S1x176x1024, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev main_v0_4 : Ref sig .tc := ⟨.hbm, 21, rfl⟩
abbrev main_v0_5 : Ref sig .tc := ⟨.hbm, 22, rfl⟩
abbrev main_v0_6 : Ref sig .tc := ⟨.hbm, 23, rfl⟩
abbrev main_v0_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_18 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_19 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_20 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_21 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_22 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_23 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_24 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AdamLRefIdeal.lean ====
abbrev S4x1024x1408 : Shape := ⟨3, ![4, 1024, 1408]⟩
abbrev S4x704x1024 : Shape := ⟨3, ![4, 704, 1024]⟩
abbrev S1024x1408 : Shape := ⟨2, ![1024, 1408]⟩
abbrev S704x1024 : Shape := ⟨2, ![704, 1024]⟩
abbrev S8x128 : Shape := ⟨2, ![8, 128]⟩
abbrev S1x1024x1408 : Shape := ⟨3, ![1, 1024, 1408]⟩
abbrev S_ : Shape := ⟨0, ![]⟩
abbrev S1x704x1024 : Shape := ⟨3, ![1, 704, 1024]⟩
abbrev S3x1024x1408 : Shape := ⟨3, ![3, 1024, 1408]⟩
abbrev S3x704x1024 : Shape := ⟨3, ![3, 704, 1024]⟩

abbrev nBuf : Space → Nat
  | .hbm => 119
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x704x1024, .f32⟩
  | .hbm, ⟨2, _⟩ => ⟨S4x1024x1408, .f32⟩
  | .hbm, ⟨3, _⟩ => ⟨S4x704x1024, .f32⟩
  | .hbm, ⟨4, _⟩ => ⟨S4x1024x1408, .f32⟩
  | .hbm, ⟨5, _⟩ => ⟨S4x704x1024, .f32⟩
  | .hbm, ⟨6, _⟩ => ⟨S1024x1408, .f32⟩
  | .hbm, ⟨7, _⟩ => ⟨S704x1024, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S4x1024x1408, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S4x704x1024, .f32⟩
  | .hbm, ⟨16, _⟩ => ⟨S8x128, .f32⟩
  | .hbm, ⟨17, _⟩ => ⟨S1x1024x1408, .f32⟩
  | .hbm, ⟨18, _⟩ => ⟨S1024x1408, .f32⟩
  | .hbm, ⟨19, _⟩ => ⟨S1x1024x1408, .f32⟩
  | .hbm, ⟨20, _⟩ => ⟨S1024x1408, .f32⟩
  | .hbm, ⟨21, _⟩ => ⟨S1x1024x1408, .f32⟩
  | .hbm, ⟨22, _⟩ => ⟨S1024x1408, .f32⟩
  | .hbm, ⟨23, _⟩ => ⟨S_, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | .hbm, ⟨37, _⟩ => ⟨S1024x1408, .f32⟩
  | .hbm, ⟨38, _⟩ => ⟨S_, .f32⟩
  | .hbm, ⟨39, _⟩ => ⟨S1024x1408, .f32⟩
  | .hbm, ⟨40, _⟩ => ⟨S1024x1408, .f32⟩
  | .hbm, ⟨41, _⟩ => ⟨S_, .f32⟩
  | .hbm, ⟨42, _⟩ => ⟨S1024x1408, .f32⟩
  | .hbm, ⟨43, _⟩ => ⟨S1024x1408, .f32⟩
  | .hbm, ⟨44, _⟩ => ⟨S1024x1408, .f32⟩
  | .hbm, ⟨45, _⟩ => ⟨S_, .f32⟩
  | .hbm, ⟨46, _⟩ => ⟨S1024x1408, .f32⟩
  | .hbm, ⟨47, _⟩ => ⟨S1024x1408, .f32⟩
  | .hbm, ⟨48, _⟩ => ⟨S1024x1408, .f32⟩
  | .hbm, ⟨49, _⟩ => ⟨S_, .f32⟩
  | .hbm, ⟨50, _⟩ => ⟨S1024x1408, .f32⟩
  | .hbm, ⟨51, _⟩ => ⟨S1024x1408, .f32⟩
  | .hbm, ⟨52, _⟩ => ⟨S1024x1408, .f32⟩
  | .hbm, ⟨53, _⟩ => ⟨S_, .f32⟩
  | .hbm, ⟨54, _⟩ => ⟨S1024x1408, .f32⟩
  | .hbm, ⟨55, _⟩ => ⟨S1024x1408, .f32⟩
  | .hbm, ⟨56, _⟩ => ⟨S1x704x1024, .f32⟩
  | .hbm, ⟨57, _⟩ => ⟨S704x1024, .f32⟩
  | .hbm, ⟨58, _⟩ => ⟨S1x704x1024, .f32⟩
  | .hbm, ⟨59, _⟩ => ⟨S704x1024, .f32⟩
  | .hbm, ⟨60, _⟩ => ⟨S1x704x1024, .f32⟩
  | .hbm, ⟨61, _⟩ => ⟨S704x1024, .f32⟩
  | .hbm, ⟨62, _⟩ => ⟨S_, .f32⟩
  | .hbm, ⟨63, _⟩ => ⟨S704x1024, .f32⟩
  | .hbm, ⟨64, _⟩ => ⟨S704x1024, .f32⟩
  | .hbm, ⟨65, _⟩ => ⟨S_, .f32⟩
  | .hbm, ⟨66, _⟩ => ⟨S704x1024, .f32⟩
  | .hbm, ⟨67, _⟩ => ⟨S704x1024, .f32⟩
  | .hbm, ⟨68, _⟩ => ⟨S704x1024, .f32⟩
  | .hbm, ⟨69, _⟩ => ⟨S_, .f32⟩
  | .hbm, ⟨70, _⟩ => ⟨S704x1024, .f32⟩
  | .hbm, ⟨71, _⟩ => ⟨S704x1024, .f32⟩
  | .hbm, ⟨72, _⟩ => ⟨S704x1024, .f32⟩
  | .hbm, ⟨73, _⟩ => ⟨S_, .f32⟩
  | .hbm, ⟨74, _⟩ => ⟨S704x1024, .f32⟩
  | .hbm, ⟨75, _⟩ => ⟨S704x1024, .f32⟩
  | .hbm, ⟨76, _⟩ => ⟨S704x1024, .f32⟩
  | .hbm, ⟨77, _⟩ => ⟨S_, .f32⟩
  | .hbm, ⟨78, _⟩ => ⟨S704x1024, .f32⟩
  | .hbm, ⟨79, _⟩ => ⟨S704x1024, .f32⟩
  | .hbm, ⟨80, _⟩ => ⟨S_, .f32⟩
  | .hbm, ⟨81, _⟩ => ⟨S704x1024, .f32⟩
  | .hbm, ⟨82, _⟩ => ⟨S704x1024, .f32⟩
  | .hbm, ⟨83, _⟩ => ⟨S704x1024, .f32⟩
  | .hbm, ⟨84, _⟩ => ⟨S_, .f32⟩
  | .hbm, ⟨85, _⟩ => ⟨S704x1024, .f32⟩
  | .hbm, ⟨86, _⟩ => ⟨S704x1024, .f32⟩
  | .hbm, ⟨87, _⟩ => ⟨S704x1024, .f32⟩
  | .hbm, ⟨88, _⟩ => ⟨S_, .f32⟩
  | .hbm, ⟨89, _⟩ => ⟨S704x1024, .f32⟩
  | .hbm, ⟨90, _⟩ => ⟨S704x1024, .f32⟩
  | .hbm, ⟨91, _⟩ => ⟨S704x1024, .f32⟩
  | .hbm, ⟨92, _⟩ => ⟨S_, .f32⟩
  | .hbm, ⟨93, _⟩ => ⟨S704x1024, .f32⟩
  | .hbm, ⟨94, _⟩ => ⟨S704x1024, .f32⟩
  | .hbm, ⟨95, _⟩ => ⟨S3x1024x1408, .f32⟩
  | .hbm, ⟨96, _⟩ => ⟨S1x1024x1408, .f32⟩
  | .hbm, ⟨97, _⟩ => ⟨S4x1024x1408, .f32⟩
  | .hbm, ⟨98, _⟩ => ⟨S3x1024x1408, .f32⟩
  | .hbm, ⟨99, _⟩ => ⟨S1x1024x1408, .f32⟩
  | .hbm, ⟨100, _⟩ => ⟨S4x1024x1408, .f32⟩
  | .hbm, ⟨101, _⟩ => ⟨S3x1024x1408, .f32⟩
  | .hbm, ⟨102, _⟩ => ⟨S1x1024x1408, .f32⟩
  | .hbm, ⟨103, _⟩ => ⟨S4x1024x1408, .f32⟩
  | .hbm, ⟨104, _⟩ => ⟨S3x1024x1408, .f32⟩
  | .hbm, ⟨105, _⟩ => ⟨S1x1024x1408, .f32⟩
  | .hbm, ⟨106, _⟩ => ⟨S4x1024x1408, .f32⟩
  | .hbm, ⟨107, _⟩ => ⟨S3x704x1024, .f32⟩
  | .hbm, ⟨108, _⟩ => ⟨S1x704x1024, .f32⟩
  | .hbm, ⟨109, _⟩ => ⟨S4x704x1024, .f32⟩
  | .hbm, ⟨110, _⟩ => ⟨S3x704x1024, .f32⟩
  | .hbm, ⟨111, _⟩ => ⟨S1x704x1024, .f32⟩
  | .hbm, ⟨112, _⟩ => ⟨S4x704x1024, .f32⟩
  | .hbm, ⟨113, _⟩ => ⟨S3x704x1024, .f32⟩
  | .hbm, ⟨114, _⟩ => ⟨S1x704x1024, .f32⟩
  | .hbm, ⟨115, _⟩ => ⟨S4x704x1024, .f32⟩
  | .hbm, ⟨116, _⟩ => ⟨S3x704x1024, .f32⟩
  | .hbm, ⟨117, _⟩ => ⟨S1x704x1024, .f32⟩
  | .hbm, ⟨118, _⟩ => ⟨S4x704x1024, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_10 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_12 : Ref sig .tc := ⟨.hbm, 77, rfl⟩
abbrev main_v47 : Ref sig .tc := ⟨.hbm, 78, rfl⟩
abbrev main_v48 : Ref sig .tc := ⟨.hbm, 79, rfl⟩
abbrev main_cst_13 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_14 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_15 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_16 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]
-- ==== PoolFFwd.lean ====
abbrev S2048x2176 : Shape := ⟨2, ![2048, 2176]⟩
abbrev S4x64x64 : Shape := ⟨3, ![4, 64, 64]⟩
abbrev S256 : Shape := ⟨1, ![256]⟩
abbrev S1x256 : Shape := ⟨2, ![1, 256]⟩
abbrev S2048x256 : Shape := ⟨2, ![2048, 256]⟩
abbrev S2048x128 : Shape := ⟨2, ![2048, 128]⟩
abbrev S2x64x64 : Shape := ⟨3, ![2, 64, 64]⟩
abbrev S1x128 : Shape := ⟨2, ![1, 128]⟩
abbrev S64x64 : Shape := ⟨2, ![64, 64]⟩
abbrev S1x64x64 : Shape := ⟨3, ![1, 64, 64]⟩
abbrev S64x128 : Shape := ⟨2, ![64, 128]⟩
abbrev S128x128 : Shape := ⟨2, ![128, 128]⟩

abbrev nBuf : Space → Nat
  | .hbm => 5
  | .vmem => 8
  | .smem => 0
  | _ => 0

abbrev bufTy : (tb : Table) → Fin (tcTables nBuf tb) → BufTy
  | .hbm, ⟨0, _⟩ => ⟨S2048x2176, .f32⟩
  | .hbm, ⟨1, _⟩ => ⟨S4x64x64, .f32⟩
  | .hbm, ⟨2, _⟩ => ⟨S256, .f32⟩
  | .hbm, ⟨3, _⟩ => ⟨S1x256, .f32⟩
  | .hbm, ⟨4, _⟩ => ⟨S2048x256, .bf16⟩
  | .local _ .vmem, ⟨0, _⟩ => ⟨S2048x128, .f32⟩
  | .local _ .vmem, ⟨1, _⟩ => ⟨S2048x128, .f32⟩
  | .local _ .vmem, ⟨2, _⟩ => ⟨S2x64x64, .f32⟩
  | .local _ .vmem, ⟨3, _⟩ => ⟨S2x64x64, .f32⟩
  | .local _ .vmem, ⟨4, _⟩ => ⟨S1x128, .f32⟩
  | .local _ .vmem, ⟨5, _⟩ => ⟨S1x128, .f32⟩
  | .local _ .vmem, ⟨6, _⟩ => ⟨S2048x128, .bf16⟩
  | .local _ .vmem, ⟨7, _⟩ => ⟨S2048x128, .bf16⟩
  | _, _ => ⟨S2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolFRefIdeal.lean ====
abbrev S2048x2176 : Shape := ⟨2, ![2048, 2176]⟩
abbrev S4x64x64 : Shape := ⟨3, ![4, 64, 64]⟩
abbrev S256 : Shape := ⟨1, ![256]⟩
abbrev S2048x256 : Shape := ⟨2, ![2048, 256]⟩
abbrev S2048x4x64 : Shape := ⟨3, ![2048, 4, 64]⟩
abbrev S_ : Shape := ⟨0, ![]⟩
abbrev S2048 : Shape := ⟨1, ![2048]⟩
abbrev S2048x1x64 : Shape := ⟨3, ![2048, 1, 64]⟩
abbrev S2048x64 : Shape := ⟨2, ![2048, 64]⟩
abbrev S2x64 : Shape := ⟨2, ![2, 64]⟩
abbrev S2050x64 : Shape := ⟨2, ![2050, 64]⟩
abbrev S2048x1 : Shape := ⟨2, ![2048, 1]⟩
abbrev S4x64 : Shape := ⟨2, ![4, 64]⟩
abbrev S2052x64 : Shape := ⟨2, ![2052, 64]⟩
abbrev S8x64 : Shape := ⟨2, ![8, 64]⟩
abbrev S2056x64 : Shape := ⟨2, ![2056, 64]⟩
abbrev S16x64 : Shape := ⟨2, ![16, 64]⟩
abbrev S2064x64 : Shape := ⟨2, ![2064, 64]⟩
abbrev S4x64x2048 : Shape := ⟨3, ![4, 64, 2048]⟩
abbrev S1x256 : Shape := ⟨2, ![1, 256]⟩

abbrev nBuf : Space → Nat
  | .hbm => 82
  | .vmem => 0
  | .smem => 0
  | _ => 0

abbrev bufTy : (tb : Table) → Fin (tcTables nBuf tb) → BufTy
  | .hbm, ⟨0, _⟩ => ⟨S2048x2176, .f32⟩
  | .hbm, ⟨1, _⟩ => ⟨S4x64x64, .f32⟩
  | .hbm, ⟨2, _⟩ => ⟨S256, .f32⟩
  | .hbm, ⟨3, _⟩ => ⟨S2048x256, .f32⟩
  | .hbm, ⟨4, _⟩ => ⟨S2048x4x64, .f32⟩
  | .hbm, ⟨5, _⟩ => ⟨S_, .f32⟩
  | .hbm, ⟨6, _⟩ => ⟨S_, .f32⟩
  | .hbm, ⟨7, _⟩ => ⟨S2048x4x64, .f32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .f32⟩
  | .hbm, ⟨13, _⟩ => ⟨S2048x1x64, .f32⟩
  | .hbm, ⟨14, _⟩ => ⟨S2048x64, .f32⟩
  | .hbm, ⟨15, _⟩ => ⟨S_, .f32⟩
  | .hbm, ⟨16, _⟩ => ⟨S2x64, .f32⟩
  | .hbm, ⟨17, _⟩ => ⟨S2050x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S2048x1, .f32⟩
  | .hbm, ⟨25, _⟩ => ⟨S2048x64, .f32⟩
  | .hbm, ⟨26, _⟩ => ⟨S2048x64, .f32⟩
  | .hbm, ⟨27, _⟩ => ⟨S2048x1x64, .f32⟩
  | .hbm, ⟨28, _⟩ => ⟨S2048x64, .f32⟩
  | .hbm, ⟨29, _⟩ => ⟨S_, .f32⟩
  | .hbm, ⟨30, _⟩ => ⟨S4x64, .f32⟩
  | .hbm, ⟨31, _⟩ => ⟨S2052x64, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048x1, .f32⟩
  | .hbm, ⟨39, _⟩ => ⟨S2048x64, .f32⟩
  | .hbm, ⟨40, _⟩ => ⟨S2048x64, .f32⟩
  | .hbm, ⟨41, _⟩ => ⟨S2048x1x64, .f32⟩
  | .hbm, ⟨42, _⟩ => ⟨S2048x64, .f32⟩
  | .hbm, ⟨43, _⟩ => ⟨S_, .f32⟩
  | .hbm, ⟨44, _⟩ => ⟨S8x64, .f32⟩
  | .hbm, ⟨45, _⟩ => ⟨S2056x64, .f32⟩
  | .hbm, ⟨46, _⟩ => ⟨S2048x64, .f32⟩
  | .hbm, ⟨47, _⟩ => ⟨S2048x64, .f32⟩
  | .hbm, ⟨48, _⟩ => ⟨S2048x64, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048x1, .f32⟩
  | .hbm, ⟨53, _⟩ => ⟨S2048x64, .f32⟩
  | .hbm, ⟨54, _⟩ => ⟨S2048x64, .f32⟩
  | .hbm, ⟨55, _⟩ => ⟨S2048x1x64, .f32⟩
  | .hbm, ⟨56, _⟩ => ⟨S2048x64, .f32⟩
  | .hbm, ⟨57, _⟩ => ⟨S_, .f32⟩
  | .hbm, ⟨58, _⟩ => ⟨S16x64, .f32⟩
  | .hbm, ⟨59, _⟩ => ⟨S2064x64, .f32⟩
  | .hbm, ⟨60, _⟩ => ⟨S2048x64, .f32⟩
  | .hbm, ⟨61, _⟩ => ⟨S2048x64, .f32⟩
  | .hbm, ⟨62, _⟩ => ⟨S2048x64, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S2048x1, .f32⟩
  | .hbm, ⟨67, _⟩ => ⟨S2048x64, .f32⟩
  | .hbm, ⟨68, _⟩ => ⟨S2048x64, .f32⟩
  | .hbm, ⟨69, _⟩ => ⟨S2048x1x64, .f32⟩
  | .hbm, ⟨70, _⟩ => ⟨S2048x1x64, .f32⟩
  | .hbm, ⟨71, _⟩ => ⟨S2048x1x64, .f32⟩
  | .hbm, ⟨72, _⟩ => ⟨S2048x1x64, .f32⟩
  | .hbm, ⟨73, _⟩ => ⟨S2048x4x64, .f32⟩
  | .hbm, ⟨74, _⟩ => ⟨S2048x4x64, .f32⟩
  | .hbm, ⟨75, _⟩ => ⟨S4x64x2048, .f32⟩
  | .hbm, ⟨76, _⟩ => ⟨S2048x4x64, .f32⟩
  | .hbm, ⟨77, _⟩ => ⟨S2048x256, .f32⟩
  | .hbm, ⟨78, _⟩ => ⟨S1x256, .f32⟩
  | .hbm, ⟨79, _⟩ => ⟨S2048x256, .f32⟩
  | .hbm, ⟨80, _⟩ => ⟨S2048x256, .f32⟩
  | .hbm, ⟨81, _⟩ => ⟨S2048x256, .bf16⟩
  | _, _ => ⟨S2048x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩

abbrev nD : Nat := 1
abbrev τ : Topo := Topo.v7x

variable {F : FTy → Type} [FloatOps F]
-- ==== PoolBwd.lean ====
abbrev S2048x2176 : Shape := ⟨2, ![2048, 2176]⟩
abbrev S2048x1024 : Shape := ⟨2, ![2048, 1024]⟩
abbrev S4x64x64 : Shape := ⟨3, ![4, 64, 64]⟩
abbrev S256 : Shape := ⟨1, ![256]⟩
abbrev S1x256 : Shape := ⟨2, ![1, 256]⟩
abbrev S2048x256 : Shape := ⟨2, ![2048, 256]⟩
abbrev S2048x128 : Shape := ⟨2, ![2048, 128]⟩
abbrev S2x64x64 : Shape := ⟨3, ![2, 64, 64]⟩
abbrev S1x128 : Shape := ⟨2, ![1, 128]⟩
abbrev S64x64 : Shape := ⟨2, ![64, 64]⟩
abbrev S1x64x64 : Shape := ⟨3, ![1, 64, 64]⟩
abbrev S64x128 : Shape := ⟨2, ![64, 128]⟩
abbrev S128x128 : Shape := ⟨2, ![128, 128]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S2048x2176, .f32⟩
  | .hbm, ⟨1, _⟩ => ⟨S2048x1024, .f32⟩
  | .hbm, ⟨2, _⟩ => ⟨S4x64x64, .f32⟩
  | .hbm, ⟨3, _⟩ => ⟨S256, .f32⟩
  | .hbm, ⟨4, _⟩ => ⟨S1x256, .f32⟩
  | .hbm, ⟨5, _⟩ => ⟨S2048x256, .bf16⟩
  | .hbm, ⟨6, _⟩ => ⟨S4x64x64, .f32⟩
  | .hbm, ⟨7, _⟩ => ⟨S1x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2x64x64, .f32⟩
  | .local _ .vmem, ⟨5, _⟩ => ⟨S2x64x64, .f32⟩
  | .local _ .vmem, ⟨6, _⟩ => ⟨S1x128, .f32⟩
  | .local _ .vmem, ⟨7, _⟩ => ⟨S1x128, .f32⟩
  | .local _ .vmem, ⟨8, _⟩ => ⟨S2048x128, .bf16⟩
  | .local _ .vmem, ⟨9, _⟩ => ⟨S2048x128, .bf16⟩
  | .local _ .vmem, ⟨10, _⟩ => ⟨S2x64x64, .f32⟩
  | .local _ .vmem, ⟨11, _⟩ => ⟨S2x64x64, .f32⟩
  | .local _ .vmem, ⟨12, _⟩ => ⟨S1x128, .f32⟩
  | .local _ .vmem, ⟨13, _⟩ => ⟨S1x128, .f32⟩
  | _, _ => ⟨S2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolRefIdeal.lean ====
abbrev S2048x2176 : Shape := ⟨2, ![2048, 2176]⟩
abbrev S2048x1024 : Shape := ⟨2, ![2048, 1024]⟩
abbrev S4x64x64 : Shape := ⟨3, ![4, 64, 64]⟩
abbrev S256 : Shape := ⟨1, ![256]⟩
abbrev S2048x256 : Shape := ⟨2, ![2048, 256]⟩
abbrev S2048x4x64 : Shape := ⟨3, ![2048, 4, 64]⟩
abbrev S_ : Shape := ⟨0, ![]⟩
abbrev S2048 : Shape := ⟨1, ![2048]⟩
abbrev S2048x1x64 : Shape := ⟨3, ![2048, 1, 64]⟩
abbrev S2048x64 : Shape := ⟨2, ![2048, 64]⟩
abbrev S2x64 : Shape := ⟨2, ![2, 64]⟩
abbrev S2050x64 : Shape := ⟨2, ![2050, 64]⟩
abbrev S2048x1 : Shape := ⟨2, ![2048, 1]⟩
abbrev S4x64 : Shape := ⟨2, ![4, 64]⟩
abbrev S2052x64 : Shape := ⟨2, ![2052, 64]⟩
abbrev S8x64 : Shape := ⟨2, ![8, 64]⟩
abbrev S2056x64 : Shape := ⟨2, ![2056, 64]⟩
abbrev S16x64 : Shape := ⟨2, ![16, 64]⟩
abbrev S2064x64 : Shape := ⟨2, ![2064, 64]⟩
abbrev S4x64x2048 : Shape := ⟨3, ![4, 64, 2048]⟩
abbrev S1x256 : Shape := ⟨2, ![1, 256]⟩
abbrev S4x2048x64 : Shape := ⟨3, ![4, 2048, 64]⟩

abbrev nBuf : Space → Nat
  | .hbm => 176
  | .vmem => 0
  | .smem => 0
  | _ => 0

abbrev hbmTy0_0 (i : Nat) : BufTy := match i % 128 with
  | 0 => ⟨S2048x2176, .f32⟩
  | 1 => ⟨S2048x1024, .f32⟩
  | 2 => ⟨S4x64x64, .f32⟩
  | 3 => ⟨S256, .f32⟩
  | 4 => ⟨S2048x256, .f32⟩
  | 5 => ⟨S2048x4x64, .f32⟩
  | 6 => ⟨S_, .f32⟩
  | 7 => ⟨S_, .f32⟩
  | 8 => ⟨S2048x4x64, .f32⟩
  | 9 => ⟨S2048, .i32⟩
  | 10 => ⟨S_, .i32⟩
  | 11 => ⟨S2048, .i32⟩
  | 12 => ⟨S2048, .i32⟩
  | 13 => ⟨S2048, .f32⟩
  | 14 => ⟨S2048x1x64, .f32⟩
  | 15 => ⟨S2048x64, .f32⟩
  | 16 => ⟨S_, .f32⟩
  | 17 => ⟨S2x64, .f32⟩
  | 18 => ⟨S2050x64, .f32⟩
  | 19 => ⟨S_, .f32⟩
  | 20 => ⟨S2x64, .f32⟩
  | 21 => ⟨S2048x64, .f32⟩
  | 22 => ⟨S2048x64, .f32⟩
  | 23 => ⟨S2048x64, .f32⟩
  | 24 => ⟨S_, .f32⟩
  | 25 => ⟨S2048, .f32⟩
  | 26 => ⟨S2048, .f32⟩
  | 27 => ⟨S2048x1, .f32⟩
  | 28 => ⟨S2048x64, .f32⟩
  | 29 => ⟨S2048x64, .f32⟩
  | 30 => ⟨S2048x1x64, .f32⟩
  | 31 => ⟨S2048x64, .f32⟩
  | 32 => ⟨S_, .f32⟩
  | 33 => ⟨S4x64, .f32⟩
  | 34 => ⟨S2052x64, .f32⟩
  | 35 => ⟨S_, .f32⟩
  | 36 => ⟨S4x64, .f32⟩
  | 37 => ⟨S2048x64, .f32⟩
  | 38 => ⟨S2048x64, .f32⟩
  | 39 => ⟨S2048x64, .f32⟩
  | 40 => ⟨S_, .f32⟩
  | 41 => ⟨S2048, .f32⟩
  | 42 => ⟨S2048, .f32⟩
  | 43 => ⟨S2048x1, .f32⟩
  | 44 => ⟨S2048x64, .f32⟩
  | 45 => ⟨S2048x64, .f32⟩
  | 46 => ⟨S2048x1x64, .f32⟩
  | 47 => ⟨S2048x64, .f32⟩
  | 48 => ⟨S_, .f32⟩
  | 49 => ⟨S8x64, .f32⟩
  | 50 => ⟨S2056x64, .f32⟩
  | 51 => ⟨S_, .f32⟩
  | 52 => ⟨S8x64, .f32⟩
  | 53 => ⟨S2048x64, .f32⟩
  | 54 => ⟨S2048x64, .f32⟩
  | 55 => ⟨S2048x64, .f32⟩
  | 56 => ⟨S_, .f32⟩
  | 57 => ⟨S2048, .f32⟩
  | 58 => ⟨S2048, .f32⟩
  | 59 => ⟨S2048x1, .f32⟩
  | 60 => ⟨S2048x64, .f32⟩
  | 61 => ⟨S2048x64, .f32⟩
  | 62 => ⟨S2048x1x64, .f32⟩
  | 63 => ⟨S2048x64, .f32⟩
  | 64 => ⟨S_, .f32⟩
  | 65 => ⟨S16x64, .f32⟩
  | 66 => ⟨S2064x64, .f32⟩
  | 67 => ⟨S_, .f32⟩
  | 68 => ⟨S16x64, .f32⟩
  | 69 => ⟨S2048x64, .f32⟩
  | 70 => ⟨S2048x64, .f32⟩
  | 71 => ⟨S2048x64, .f32⟩
  | 72 => ⟨S_, .f32⟩
  | 73 => ⟨S2048, .f32⟩
  | 74 => ⟨S2048, .f32⟩
  | 75 => ⟨S2048x1, .f32⟩
  | 76 => ⟨S2048x64, .f32⟩
  | 77 => ⟨S2048x64, .f32⟩
  | 78 => ⟨S2048x1x64, .f32⟩
  | 79 => ⟨S2048x1x64, .f32⟩
  | 80 => ⟨S2048x1x64, .f32⟩
  | 81 => ⟨S2048x1x64, .f32⟩
  | 82 => ⟨S2048x4x64, .f32⟩
  | 83 => ⟨S2048x4x64, .f32⟩
  | 84 => ⟨S4x64x2048, .f32⟩
  | 85 => ⟨S2048x4x64, .f32⟩
  | 86 => ⟨S2048x256, .f32⟩
  | 87 => ⟨S1x256, .f32⟩
  | 88 => ⟨S2048x256, .f32⟩
  | 89 => ⟨S2048x256, .f32⟩
  | 90 => ⟨S2048x256, .f32⟩
  | 91 => ⟨S2048x256, .f32⟩
  | 92 => ⟨S_, .f32⟩
  | 93 => ⟨S256, .f32⟩
  | 94 => ⟨S1x256, .f32⟩
  | 95 => ⟨S2048x256, .f32⟩
  | 96 => ⟨S2048x256, .f32⟩
  | 97 => ⟨S_, .f32⟩
  | 98 => ⟨S256, .f32⟩
  | 99 => ⟨S2048x4x64, .f32⟩
  | 100 => ⟨S4x64x2048, .f32⟩
  | 101 => ⟨S4x2048x64, .f32⟩
  | 102 => ⟨S2048x4x64, .f32⟩
  | 103 => ⟨S4x64x64, .f32⟩
  | 104 => ⟨S4x64x64, .f32⟩
  | 105 => ⟨S2048x4x64, .f32⟩
  | 106 => ⟨S2048x1x64, .f32⟩
  | 107 => ⟨S2048x64, .f32⟩
  | 108 => ⟨S2048x1x64, .f32⟩
  | 109 => ⟨S2048x64, .f32⟩
  | 110 => ⟨S2048x1x64, .f32⟩
  | 111 => ⟨S2048x64, .f32⟩
  | 112 => ⟨S2048x1x64, .f32⟩
  | 113 => ⟨S2048x64, .f32⟩
  | 114 => ⟨S2048x64, .f32⟩
  | 115 => ⟨S2048x64, .f32⟩
  | 116 => ⟨S2048x64, .f32⟩
  | 117 => ⟨S_, .f32⟩
  | 118 => ⟨S2064x64, .f32⟩
  | 119 => ⟨S_, .f32⟩
  | 120 => ⟨S2064x64, .f32⟩
  | 121 => ⟨S2064x64, .f32⟩
  | 122 => ⟨S16x64, .f32⟩
  | 123 => ⟨S2048x64, .f32⟩
  | 124 => ⟨S2048x1x64, .f32⟩
  | 125 => ⟨S_, .f32⟩
  | 126 => ⟨S2048x4x64, .f32⟩
  | 127 => ⟨S2048x64, .f32⟩
  | _ => ⟨S2048x2176, .f32⟩

abbrev hbmTy0_1 (i : Nat) : BufTy := match i % 128 with
  | 0 => ⟨S2048x64, .f32⟩
  | 1 => ⟨S2048x64, .f32⟩
  | 2 => ⟨S_, .f32⟩
  | 3 => ⟨S2056x64, .f32⟩
  | 4 => ⟨S_, .f32⟩
  | 5 => ⟨S2056x64, .f32⟩
  | 6 => ⟨S2056x64, .f32⟩
  | 7 => ⟨S8x64, .f32⟩
  | 8 => ⟨S2048x64, .f32⟩
  | 9 => ⟨S2048x1x64, .f32⟩
  | 10 => ⟨S_, .f32⟩
  | 11 => ⟨S2048x4x64, .f32⟩
  | 12 => ⟨S2048x4x64, .f32⟩
  | 13 => ⟨S2048x64, .f32⟩
  | 14 => ⟨S2048x64, .f32⟩
  | 15 => ⟨S2048x64, .f32⟩
  | 16 => ⟨S_, .f32⟩
  | 17 => ⟨S2052x64, .f32⟩
  | 18 => ⟨S_, .f32⟩
  | 19 => ⟨S2052x64, .f32⟩
  | 20 => ⟨S2052x64, .f32⟩
  | 21 => ⟨S4x64, .f32⟩
  | 22 => ⟨S2048x64, .f32⟩
  | 23 => ⟨S2048x1x64, .f32⟩
  | 24 => ⟨S_, .f32⟩
  | 25 => ⟨S2048x4x64, .f32⟩
  | 26 => ⟨S2048x4x64, .f32⟩
  | 27 => ⟨S2048x64, .f32⟩
  | 28 => ⟨S2048x64, .f32⟩
  | 29 => ⟨S2048x64, .f32⟩
  | 30 => ⟨S_, .f32⟩
  | 31 => ⟨S2050x64, .f32⟩
  | 32 => ⟨S_, .f32⟩
  | 33 => ⟨S2050x64, .f32⟩
  | 34 => ⟨S2050x64, .f32⟩
  | 35 => ⟨S2x64, .f32⟩
  | 36 => ⟨S2048x64, .f32⟩
  | 37 => ⟨S2048x1x64, .f32⟩
  | 38 => ⟨S_, .f32⟩
  | 39 => ⟨S2048x4x64, .f32⟩
  | 40 => ⟨S2048x4x64, .f32⟩
  | 41 => ⟨S_, .f32⟩
  | 42 => ⟨S_, .f32⟩
  | 43 => ⟨S2048x4x64, .f32⟩
  | 44 => ⟨S2048x4x64, .f32⟩
  | 45 => ⟨S2048x256, .f32⟩
  | 46 => ⟨S2048x256, .bf16⟩
  | 47 => ⟨S1x256, .f32⟩
  | _ => ⟨S2048x2176, .f32⟩

abbrev hbmTy (i : Nat) : BufTy := match i / 128 with
  | 0 => hbmTy0_0 i
  | 1 => hbmTy0_1 i
  | _ => ⟨S2048x2176, .f32⟩

abbrev bufTy : (tb : Table) → Fin (tcTables nBuf tb) → BufTy
  | .hbm, ⟨i, _⟩ => hbmTy i
  | _, _ => ⟨S2048x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_12 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_13 : Ref sig .tc := ⟨.hbm, 117, rfl⟩
abbrev main_v96 : Ref sig .tc := ⟨.hbm, 118, rfl⟩
abbrev main_cst_14 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_15 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_16 : Ref sig .tc := ⟨.hbm, 130, rfl⟩
abbrev main_v106 : Ref sig .tc := ⟨.hbm, 131, rfl⟩
abbrev main_cst_17 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_18 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_19 : Ref sig .tc := ⟨.hbm, 144, rfl⟩
abbrev main_v117 : Ref sig .tc := ⟨.hbm, 145, rfl⟩
abbrev main_cst_20 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_21 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_cst_22 : Ref sig .tc := ⟨.hbm, 158, rfl⟩
abbrev main_v128 : Ref sig .tc := ⟨.hbm, 159, rfl⟩
abbrev main_cst_23 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_24 : Ref sig .tc := ⟨.hbm, 166, rfl⟩
abbrev main_v134 : Ref sig .tc := ⟨.hbm, 167, rfl⟩
abbrev main_v135 : Ref sig .tc := ⟨.hbm, 168, rfl⟩
abbrev main_call1_call0_cst : Ref sig .tc := ⟨.hbm, 169, rfl⟩
abbrev main_call1_call0_v0 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩

abbrev nD : Nat := 1
abbrev τ : Topo := Topo.v7x

variable {F : FTy → Type} [FloatOps F]
-- ==== Proof.ConvBlock.lean ====
module

public import proofs.«01_k».proof.Proof.Gen.ConvBwdIdeal.Skeleton
public import proofs.«01_k».proof.Proof.Gen.ConvRefIdeal.Read
public import Idealize.ShloMosaic.Lib.Pointwise
public import Idealize.ShloMosaic.Lib.ValueIdx

@[expose] public section

set_option maxRecDepth 16384

noncomputable section

namespace Cert.Proof.Conv

open Idealize.ShloMosaic

theorem toInt_small (r : Nat) (h : r < 2048) : (BitVec.ofNat 32 r).toInt = r := by
  rw [BitVec.toInt_ofNat', Int.bmod_def]; omega

/-- A select on "row at least `k`" at row `r`. -/
theorem select_sge (r k : Nat) (hr : r < 2048) (hk : k < 2048) (A B : EReal) :
    Scalar.select (IntOp.cmpi .sge (BitVec.ofNat 32 r) (BitVec.ofNat 32 k)) A B = if k ≤ r then A else B := by
  have h1 : (BitVec.ofNat 32 r).toInt = r := toInt_small r (by omega)
  have h2 : (BitVec.ofNat 32 k).toInt = k := toInt_small k (by omega)
  simp only [Scalar.select, IntOp.cmpi, BitVec.sle, h1, h2]
  by_cases h : k ≤ r <;> simp [h]

/-- A select on "row below `k`" at row `r`. -/
theorem select_slt (r k : Nat) (hr : r < 2048) (hk : k < 2048) (A B : EReal) :
    Scalar.select (IntOp.cmpi .slt (BitVec.ofNat 32 r) (BitVec.ofNat 32 k)) A B = if r < k then A else B := by
  have h1 : (BitVec.ofNat 32 r).toInt = r := toInt_small r (by omega)
  have h2 : (BitVec.ofNat 32 k).toInt = k := toInt_small k (by omega)
  simp only [Scalar.select, IntOp.cmpi, BitVec.slt, h1, h2]
  by_cases h : r < k <;> simp [h]

/-- A column moved down by `k` rows, zeros coming in at the top. -/
def down (k : Nat) (f : Fin 2048 → EReal) (r : Fin 2048) : EReal :=
  if k ≤ r.val then f ⟨r.val - k, by omega⟩ else 0

/-- A column moved up by `k` rows, zeros coming in at the bottom. -/
def up (k : Nat) (f : Fin 2048 → EReal) (r : Fin 2048) : EReal :=
  if h : r.val + k < 2048 then f ⟨r.val + k, h⟩ else 0

/-- The three-tap causal convolution of one column. -/
def conv (w : Fin 3 → EReal) (f : Fin 2048 → EReal) (r : Fin 2048) : EReal :=
  down 2 (fun s => w 0 * f s) r + down 1 (fun s => w 1 * f s) r + w 2 * f r

/-- Its transpose. -/
def convT (w : Fin 3 → EReal) (f : Fin 2048 → EReal) (r : Fin 2048) : EReal :=
  w 2 * f r + up 1 (fun s => w 1 * f s) r + up 2 (fun s => w 0 * f s) r

/-- The gradient of the tap that reads the column `k` rows above. -/
def corr (k : Nat) (g f : Fin 2048 → EReal) : EReal :=
  ∑ r : Fin 2048, if k ≤ r.val then g r * f ⟨r.val - k, by omega⟩ else 0

theorem down_rot (k : Nat) (f : Fin 2048 → EReal) (r : Fin 2048) (m : Fin 2048) (hm : m.val = (r.val + 2048 - k) % 2048) (hk : k < 2048) :
    (if k ≤ r.val then f m else 0) = down k f r := by
  unfold down
  split
  · congr 1; apply Fin.ext; show m.val = r.val - k; omega
  · rfl

theorem up_rot (k : Nat) (f : Fin 2048 → EReal) (r : Fin 2048) (m : Fin 2048) (hm : m.val = (r.val + k) % 2048) (hk : k < 2048) :
    (if r.val < 2048 - k then f m else 0) = up k f r := by
  unfold up
  by_cases h : r.val + k < 2048
  · rw [dif_pos h, if_pos (by omega)]; congr 1; apply Fin.ext; show m.val = r.val + k; omega
  · rw [dif_neg h, if_neg (by omega)]

theorem down_of (k : Nat) (f : Fin 2048 → EReal) (r s : Fin 2048) (h : s.val + k = r.val) : down k f r = f s := by
  unfold down; rw [if_pos (by omega)]; congr 1; apply Fin.ext; show r.val - k = s.val; omega

theorem down_top (k : Nat) (f : Fin 2048 → EReal) (r : Fin 2048) (h : r.val < k) : down k f r = 0 := if_neg (by omega)

theorem up_of (k : Nat) (f : Fin 2048 → EReal) (r s : Fin 2048) (h : r.val + k = s.val) : up k f r = f s := by
  unfold up; rw [dif_pos (by omega)]; congr 1; apply Fin.ext; exact h

theorem up_bottom (k : Nat) (f : Fin 2048 → EReal) (r : Fin 2048) (h : 2048 ≤ r.val + k) : up k f r = 0 := dif_neg (by omega)

theorem down_rot' (k : Nat) (g f : Fin 2048 → EReal) (r m : Fin 2048) (hm : m.val = (r.val + 2048 - k) % 2048) :
    (if k ≤ r.val then g r * f m else 0) = if k ≤ r.val then g r * f ⟨r.val - k, by omega⟩ else 0 := by
  split
  · rw [show m = ⟨r.val - k, by omega⟩ from Fin.ext (by show m.val = r.val - k; omega)]
  · rfl

section Kernel

open Cert.ConvBwdIdeal Cert.ConvBwdIdeal.Gen

/-- The block written for the gate's gradient: the convolution of the gated input, times the output's gradient. -/
theorem pay4_apply (v0 v1 v4 : Vec Ideal S2048x128 .f32) (v2 : Vec Ideal S3x128 .f32) (r : Fin 2048) (l : Fin 128) :
    k0_pay4 (F := Ideal) v0 v1 v2 v4 (ix2 r l)
      = v4 (ix2 r l) * conv (fun k => v2 (ix2 k l)) (fun s => v1 (ix2 s l) * v0 (ix2 s l)) r := by
  unfold k0_pay4 k0_pay3 conv
  pointwise
  rw [select_sge _ 1 r.isLt (by omega), select_sge _ 2 r.isLt (by omega),
    down_rot 2 (fun s => v2 (ix2 0 l) * (v1 (ix2 s l) * v0 (ix2 s l))) r ⟨_, _⟩ rfl (by omega),
    down_rot 1 (fun s => v2 (ix2 1 l) * (v1 (ix2 s l) * v0 (ix2 s l))) r ⟨_, _⟩ rfl (by omega)]

/-- The transposed convolution of the gradient at the convolution's output. -/
theorem pay9_apply (v4 v31 : Vec Ideal S2048x128 .f32) (v2 : Vec Ideal S3x128 .f32) (r : Fin 2048) (l : Fin 128) :
    k0_pay9 (F := Ideal) v2 (k0_pay5 v4 v31) (k0_pay6 v2 v4 v31) (k0_pay7 v2) (iota .tc S2048x128 32 [0] iota_S2048x128_d0_w32) k0_pay8
        (ix2 r l)
      = convT (fun k => v2 (ix2 k l)) (fun s => v4 (ix2 s l) * v31 (ix2 s l)) r := by
  unfold k0_pay9 k0_pay7 k0_pay6 k0_pay5 k0_pay8 convT
  pointwise
  rw [select_slt _ 2047 r.isLt (by omega), select_slt _ 2046 r.isLt (by omega),
    up_rot 1 (fun s => v2 (ix2 1 l) * (v4 (ix2 s l) * v31 (ix2 s l))) r ⟨_, _⟩ (by show (r.val + 2048 - 2047) % 2048 = _; omega) (by omega),
    up_rot 2 (fun s => v2 (ix2 0 l) * (v4 (ix2 s l) * v31 (ix2 s l))) r ⟨_, _⟩ (by show (r.val + 2048 - 2046) % 2048 = _; omega) (by omega)]

theorem pay3_col (v0 v1 : Vec Ideal S2048x128 .f32) (l : Fin 128) :
    (fun s : Fin 2048 => (k0_pay3 (F := Ideal) v0 v1 (ix2 s l) : EReal)) = fun s => v1 (ix2 s l) * v0 (ix2 s l) := rfl

/-- The blocks written for the gradients of the convolution's two factors. -/
theorem pay10_apply (v1 v4 v31 : Vec Ideal S2048x128 .f32) (v2 : Vec Ideal S3x128 .f32) (r : Fin 2048) (l : Fin 128) :
    k0_pay10 (F := Ideal) v1 v2 (k0_pay5 v4 v31) (k0_pay6 v2 v4 v31) (k0_pay7 v2) (iota .tc S2048x128 32 [0] iota_S2048x128_d0_w32) k0_pay8
        (ix2 r l)
      = convT (fun k => v2 (ix2 k l)) (fun s => v4 (ix2 s l) * v31 (ix2 s l)) r * v1 (ix2 r l) := by
  unfold k0_pay10
  pointwise
  rw [pay9_apply]

theorem pay11_apply (v0 v4 v31 : Vec Ideal S2048x128 .f32) (v2 : Vec Ideal S3x128 .f32) (r : Fin 2048) (l : Fin 128) :
    k0_pay11 (F := Ideal) v0 v2 (k0_pay5 v4 v31) (k0_pay6 v2 v4 v31) (k0_pay7 v2) (iota .tc S2048x128 32 [0] iota_S2048x128_d0_w32) k0_pay8
        (ix2 r l)
      = convT (fun k => v2 (ix2 k l)) (fun s => v4 (ix2 s l) * v31 (ix2 s l)) r * v0 (ix2 r l) := by
  unfold k0_pay11
  pointwise
  rw [pay9_apply]

/-- The block of the first row of the taps' gradient. -/
theorem pay12_apply (v4 v31 v3 : Vec Ideal S2048x128 .f32) (l : Fin 128) :
    k0_pay12 (F := Ideal) v3 (k0_pay5 v4 v31) (ix2 0 l)
      = corr 2 (fun s => v4 (ix2 s l) * v31 (ix2 s l)) (fun s => v3 (ix2 s l)) := by
  unfold k0_pay12 k0_pay5
  pointwise
  unfold corr
  apply Finset.sum_congr rfl; intro r _
  rw [select_sge _ 2 r.isLt (by omega)]
  exact down_rot' 2 (fun s => v4 (ix2 s l) * v31 (ix2 s l)) (fun s => v3 (ix2 s l)) r ⟨_, _⟩ rfl

/-- The block of its middle row. -/
theorem pay1_apply (v4 v31 v3 : Vec Ideal S2048x128 .f32) (l : Fin 128) :
    k0_pay1 (F := Ideal) (k0_pay5 v4 v31) (k0_pay13 v3) (ix2 0 l)
      = corr 1 (fun s => v4 (ix2 s l) * v31 (ix2 s l)) (fun s => v3 (ix2 s l)) := by
  unfold k0_pay1 k0_pay13 k0_pay5
  pointwise
  unfold corr
  apply Finset.sum_congr rfl; intro r _
  rw [select_sge _ 1 r.isLt (by omega)]
  exact down_rot' 1 (fun s => v4 (ix2 s l) * v31 (ix2 s l)) (fun s => v3 (ix2 s l)) r ⟨_, _⟩ rfl

/-- The block of its last row. -/
theorem pay2_apply (v4 v31 v3 : Vec Ideal S2048x128 .f32) (l : Fin 128) :
    k0_pay2 (F := Ideal) v3 (k0_pay5 v4 v31) (ix2 0 l)
      = corr 0 (fun s => v4 (ix2 s l) * v31 (ix2 s l)) (fun s => v3 (ix2 s l)) := by
  unfold k0_pay2 k0_pay5 corr
  pointwise

end Kernel

section Reference

open Cert.ConvRefIdeal Cert.ConvRefIdeal.Gen Cert.ConvRefIdeal.Read

variable (x0 : FVec Ideal S2048x2176 .f32) (x1 : FVec Ideal S2048x1024 .f32) (x2 : FVec Ideal S3x384 .f32)

/-- Column `l` of the gradient at the convolution's output. -/
def gcol (l : Fin 384) (s : Fin 2048) : EReal := x0 (ix2 s ⟨384 + l.val, by omega⟩) * x1 (ix2 s ⟨l.val, by omega⟩)

/-- Column `l` of the convolution's input. -/
def zcol (l : Fin 384) (s : Fin 2048) : EReal := x0 (ix2 s ⟨768 + l.val, by omega⟩) * x0 (ix2 s ⟨l.val, by omega⟩)

/-- The padded input read from its top: the input two rows above. -/
theorem v9_apply (r : Fin 2048) (l : Fin 384) : val_main_v9 (F := Ideal) x0 (ix2 r l) = down 2 (zcol x0 l) r := by
  unfold val_main_v9 val_main_v5 val_main_v4 val_main_v3 val_main_v2 val_main_v0 val_main_cst
  pointwise
  by_cases h : r.val < 2
  · exact (dif_pos h).trans (down_top 2 _ r (by omega)).symm
  · exact (dif_neg h).trans (down_of 2 (zcol x0 l) r ⟨r.val - 2, by omega⟩ (by show r.val - 2 + 2 = _; omega)).symm

/-- Read from its second row: the input one row above. -/
theorem v15_apply (r : Fin 2048) (l : Fin 384) : val_main_v15 (F := Ideal) x0 (ix2 r l) = down 1 (zcol x0 l) r := by
  unfold val_main_v15 val_main_v5 val_main_v4 val_main_v3 val_main_v2 val_main_v0 val_main_cst
  pointwise
  by_cases h : 1 + r.val < 2
  · exact (dif_pos h).trans (down_top 1 _ r (by omega)).symm
  · exact (dif_neg h).trans (down_of 1 (zcol x0 l) r ⟨1 + r.val - 2, by omega⟩ (by show 1 + r.val - 2 + 1 = _; omega)).symm

/-- Read from its third row: the input itself. -/
theorem v22_apply (r : Fin 2048) (l : Fin 384) : val_main_v22 (F := Ideal) x0 (ix2 r l) = zcol x0 l r := by
  unfold val_main_v22 val_main_v5 val_main_v4 val_main_v3 val_main_v2 val_main_v0 val_main_cst zcol
  pointwise

theorem mul_down (a : EReal) (k : Nat) (f : Fin 2048 → EReal) (r : Fin 2048) :
    a * down k f r = down k (fun s => a * f s) r := by
  unfold down; split
  · rfl
  · exact mul_zero a

/-- The forward convolution of the reference. -/
theorem ref_conv_apply (r : Fin 2048) (l : Fin 384) :
    val_main_v26 (F := Ideal) x0 x2 (ix2 r l) = conv (fun k => x2 (ix2 k l)) (zcol x0 l) r := by
  unfold val_main_v26 val_main_v25 val_main_v24 val_main_v23 val_main_v21 val_main_v20 val_main_v19 val_main_v18 val_main_v17 val_main_v16 val_main_v14 val_main_v13 val_main_v12 val_main_v11 val_main_v10 val_main_v8 val_main_v7
  pointwise
  rw [v9_apply, v15_apply, v22_apply, mul_down, mul_down]
  rfl

/-- The transposed convolution of the reference. -/
theorem ref_convT_apply (r : Fin 2048) (l : Fin 384) :
    val_main_v63 (F := Ideal) x0 x1 x2 (ix2 r l) = convT (fun k => x2 (ix2 k l)) (gcol x0 x1 l) r := by
  unfold val_main_v63 val_main_v58 val_main_v57 val_main_v47 val_main_v37 val_main_v46 val_main_v52 val_main_v51 val_main_v41 val_main_v32 val_main_v31 val_main_v40 val_main_v29 val_main_v28 val_main_v1 val_main_v23 val_main_v21 val_main_v20 val_main_v16 val_main_v14 val_main_v13 val_main_v10 val_main_v8 val_main_v7 val_main_cst_3 val_main_cst_7 val_main_cst_11 convT
  pointwise
  refine congrArg₂ (fun a b : EReal => a + b) (congrArg₂ (fun a b : EReal => a + b) rfl ?_) ?_
  · by_cases h : r.val + 1 < 2048
    · exact (dif_pos ⟨by omega, by omega⟩).trans (up_of 1 (fun s => x2 (ix2 1 l) * gcol x0 x1 l s) r ⟨2 + r.val - 1, by omega⟩ (by show _ = 2 + r.val - 1; omega)).symm
    · exact (dif_neg (by omega)).trans (up_bottom 1 _ r (by omega)).symm
  · by_cases h : r.val + 2 < 2048
    · exact (dif_pos (by omega)).trans (up_of 2 (fun s => x2 (ix2 0 l) * gcol x0 x1 l s) r ⟨2 + r.val, by omega⟩ (by show _ = 2 + r.val; omega)).symm
    · exact (dif_neg (by omega)).trans (up_bottom 2 _ r (by omega)).symm

/-- The gradient of the taps in the reference. -/
theorem ref_taps_apply (k : Fin 3) (l : Fin 384) :
    val_main_v61 (F := Ideal) x0 x1 (ix2 k l) = corr (2 - k.val) (gcol x0 x1 l) (zcol x0 l) := by
  unfold val_main_v61 val_main_v50 val_main_v39 val_main_v49 val_main_v60 val_main_v38 val_main_v48 val_main_v59 val_main_v36 val_main_v45 val_main_v56 val_main_v35 val_main_v44 val_main_v55 val_main_v34 val_main_v43 val_main_v54 val_main_v33 val_main_v42 val_main_v53 val_main_v29 val_main_v28 val_main_v1 val_main_cst_1 val_main_cst_2 val_main_cst_4 val_main_cst_5 val_main_cst_6 val_main_cst_8 val_main_cst_9 val_main_cst_10 val_main_cst_12
  pointwise
  simp only [v9_apply, v15_apply, v22_apply]
  unfold corr
  match k with
  | ⟨0, _⟩ => simp [down, gcol]
  | ⟨1, _⟩ => simp [down, gcol]
  | ⟨2, _⟩ => simp [down, gcol]

/-- The four results of the reference at an index. -/
theorem ref_dxa_apply (r : Fin 2048) (l : Fin 384) : val_main_v66 (F := Ideal) x0 x1 x2 (ix2 r l)
    = x0 (ix2 r ⟨768 + l.val, by omega⟩) * convT (fun k => x2 (ix2 k l)) (gcol x0 x1 l) r := by
  unfold val_main_v66 val_main_v64 val_main_v2
  pointwise
  rw [ref_convT_apply]

theorem ref_dgc_apply (r : Fin 2048) (l : Fin 384) : val_main_v68 (F := Ideal) x0 x1 x2 (ix2 r l)
    = convT (fun k => x2 (ix2 k l)) (gcol x0 x1 l) r * x0 (ix2 r ⟨l.val, by omega⟩) := by
  unfold val_main_v68 val_main_v65 val_main_v0
  pointwise
  rw [ref_convT_apply]

theorem ref_dgb_apply (r : Fin 2048) (l : Fin 384) : val_main_v67 (F := Ideal) x0 x1 x2 (ix2 r l)
    = x1 (ix2 r ⟨l.val, by omega⟩) * conv (fun k => x2 (ix2 k l)) (zcol x0 l) r := by
  unfold val_main_v67 val_main_v30 val_main_v28
  pointwise
  rw [ref_conv_apply]

end Reference

end Cert.Proof.Conv
-- ==== Proof.ConvRun.lean ====
module

public import proofs.«01_k».proof.Proof.Gen.ConvBwdIdeal.Value
public import proofs.«01_k».proof.Proof.ConvBlock
public import Idealize.ShloMosaic.Lib.Pipeline.ValueKit

@[expose] public section

set_option maxRecDepth 16384

noncomputable section

namespace Cert.Proof.Conv

open Cert.ConvBwdIdeal Cert.ConvBwdIdeal.Gen Cert.ConvBwdIdeal.Value Idealize.ShloMosaic Idealize.ShloMosaic.TcCoe Idealize.SL.Sem
open Idealize.ShloMosaic.Tactic
open Cert.ConvRefIdeal.Read (val_main_v66 val_main_v67 val_main_v68 val_main_v61)

variable (m : (ℓ : Loc nD τ sig) → Buf (Elt Ideal) ℓ) (ρ : Dev nD → PrngReg)

/-- The columns each window's block starts at, in blocks of 128. -/
theorem idx_in : ∀ t : Fin cfg0.N, win0_0.index t (0 : Fin 2) = 0 ∧ win0_0.index t (1 : Fin 2) = t.val
    ∧ win0_1.index t (0 : Fin 2) = 0 ∧ win0_1.index t (1 : Fin 2) = 3 + t.val
    ∧ win0_2.index t (0 : Fin 2) = 0 ∧ win0_2.index t (1 : Fin 2) = 6 + t.val
    ∧ win0_3.index t (0 : Fin 2) = 0 ∧ win0_3.index t (1 : Fin 2) = t.val
    ∧ win0_4.index t (0 : Fin 2) = 0 ∧ win0_4.index t (1 : Fin 2) = t.val ∧ t.val < 3 :=
  (by decide +kernel : ∀ t : Fin grid0.N, _)

theorem idx_out : ∀ t : Fin cfg0.N, win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val ∧ t.val < 3 :=
  (by decide +kernel : ∀ t : Fin grid0.N, _)

/-- Column `l` of the block that point `t` works on, as a column of the 384. -/
def lane (t : Fin cfg0.N) (l : Fin 128) : Fin 384 := ⟨t.val * 128 + l.val, by have := (idx_in t).2.2.2.2.2.2.2.2.2.2; omega⟩

theorem iblk0_apply (c : Dev nD) (t : Fin cfg0.N) (r : Fin 2048) (l : Fin 128) :
    iblk m c 0 t (ix2 r l) = m ((c : Thread nD τ).loc main_arg0) (ix2 r ⟨(lane t l).val, by have := (lane t l).isLt; omega⟩) := by
  show V m c main_arg0 (((cfg0.win 0).blk t).view.emb (ix2 r l)) = _
  rw [V_main_arg0]
  obtain ⟨e0, e1, -⟩ := idx_in t
  congr 1; funext a; apply Fin.ext
  match a with
  | ⟨0, _⟩ => show win0_0.index t (0 : Fin 2) * 2048 + 1 * r.val = r.val; omega
  | ⟨1, _⟩ => show win0_0.index t (1 : Fin 2) * 128 + 1 * l.val = t.val * 128 + l.val; omega

theorem iblk1_apply (c : Dev nD) (t : Fin cfg0.N) (r : Fin 2048) (l : Fin 128) :
    iblk m c 1 t (ix2 r l) = m ((c : Thread nD τ).loc main_arg0) (ix2 r ⟨384 + (lane t l).val, by have := (lane t l).isLt; omega⟩) := by
  show V m c main_arg0 (((cfg0.win 1).blk t).view.emb (ix2 r l)) = _
  rw [V_main_arg0]
  obtain ⟨-, -, e0, e1, -⟩ := idx_in t
  congr 1; funext a; apply Fin.ext
  match a with
  | ⟨0, _⟩ => show win0_1.index t (0 : Fin 2) * 2048 + 1 * r.val = r.val; omega
  | ⟨1, _⟩ => show win0_1.index t (1 : Fin 2) * 128 + 1 * l.val = 384 + (t.val * 128 + l.val); omega

theorem iblk2_apply (c : Dev nD) (t : Fin cfg0.N) (r : Fin 2048) (l : Fin 128) :
    iblk m c 2 t (ix2 r l) = m ((c : Thread nD τ).loc main_arg0) (ix2 r ⟨768 + (lane t l).val, by have := (lane t l).isLt; omega⟩) := by
  show V m c main_arg0 (((cfg0.win 2).blk t).view.emb (ix2 r l)) = _
  rw [V_main_arg0]
  obtain ⟨-, -, -, -, e0, e1, -⟩ := idx_in t
  congr 1; funext a; apply Fin.ext
  match a with
  | ⟨0, _⟩ => show win0_2.index t (0 : Fin 2) * 2048 + 1 * r.val = r.val; omega
  | ⟨1, _⟩ => show win0_2.index t (1 : Fin 2) * 128 + 1 * l.val = 768 + (t.val * 128 + l.val); omega

theorem iblk3_apply (c : Dev nD) (t : Fin cfg0.N) (r : Fin 2048) (l : Fin 128) :
    iblk m c 3 t (ix2 r l) = m ((c : Thread nD τ).loc main_arg1) (ix2 r ⟨(lane t l).val, by have := (lane t l).isLt; omega⟩) := by
  show V m c main_arg1 (((cfg0.win 3).blk t).view.emb (ix2 r l)) = _
  rw [V_main_arg1]
  obtain ⟨-, -, -, -, -, -, e0, e1, -⟩ := idx_in t
  congr 1; funext a; apply Fin.ext
  match a with
  | ⟨0, _⟩ => show win0_3.index t (0 : Fin 2) * 2048 + 1 * r.val = r.val; omega
  | ⟨1, _⟩ => show win0_3.index t (1 : Fin 2) * 128 + 1 * l.val = t.val * 128 + l.val; omega

theorem iblk4_apply (c : Dev nD) (t : Fin cfg0.N) (k : Fin 3) (l : Fin 128) :
    iblk m c 4 t (ix2 k l) = m ((c : Thread nD τ).loc main_arg2) (ix2 k (lane t l)) := by
  show V m c main_arg2 (((cfg0.win 4).blk t).view.emb (ix2 k l)) = _
  rw [V_main_arg2]
  obtain ⟨-, -, -, -, -, -, -, -, e0, e1, -⟩ := idx_in t
  congr 1; funext a; apply Fin.ext
  match a with
  | ⟨0, _⟩ => show win0_4.index t (0 : Fin 2) * 3 + 1 * k.val = k.val; omega
  | ⟨1, _⟩ => show win0_4.index t (1 : Fin 2) * 128 + 1 * l.val = t.val * 128 + l.val; omega

/-- The three arguments. -/
abbrev A0 (c : Dev nD) := m ((c : Thread nD τ).loc main_arg0)
abbrev A1 (c : Dev nD) := m ((c : Thread nD τ).loc main_arg1)
abbrev A2 (c : Dev nD) := m ((c : Thread nD τ).loc main_arg2)

/-- Column `l` of the gated input that point `t` works on. -/
theorem zcol_eq (c : Dev nD) (t : Fin cfg0.N) (l : Fin 128) :
    (fun s : Fin 2048 => HMul.hMul (α := EReal) (β := EReal) (γ := EReal) (iblk m c 2 t (ix2 s l)) (iblk m c 0 t (ix2 s l))) = zcol (A0 m c) (lane t l) := by
  funext s; rw [iblk2_apply, iblk0_apply]; rfl

/-- Column `l` of the gradient at the convolution's output. -/
theorem gcol_eq (c : Dev nD) (t : Fin cfg0.N) (l : Fin 128) :
    (fun s : Fin 2048 => HMul.hMul (α := EReal) (β := EReal) (γ := EReal) (iblk m c 3 t (ix2 s l)) (iblk m c 1 t (ix2 s l))) = gcol (A0 m c) (A1 m c) (lane t l) := by
  funext s; rw [iblk3_apply, iblk1_apply, mul_comm]; rfl

theorem taps_eq (c : Dev nD) (t : Fin cfg0.N) (l : Fin 128) :
    (fun k => iblk m c 4 t (ix2 k l)) = fun k => A2 m c (ix2 k (lane t l)) := by
  funext k; rw [iblk4_apply]

/-- Where an element of the block of the first factor's gradient lies in the array. -/
theorem emb5 (t : Fin cfg0.N) (r : Fin 2048) (l : Fin 128) :
    ((cfg0.win 5).blk t).view.emb (ix2 r l) = (ix2 r (lane t l) : S2048x384.Idx) := by
  obtain ⟨e0, e1, -⟩ := idx_out t
  funext a; apply Fin.ext
  match a with
  | ⟨0, _⟩ => show win0_5.index t (0 : Fin 2) * 2048 + 1 * r.val = r.val; omega
  | ⟨1, _⟩ => show win0_5.index t (1 : Fin 2) * 128 + 1 * l.val = t.val * 128 + l.val; omega

theorem cut5 (t : Fin cfg0.N) (X : Vec Ideal S2048x128 .bf16) (j : S2048x128.Idx) : (cfg0.win 5).cut (grid0.coords t) X j = X j := rfl

/-- What point `t` writes back of it is the block of the reference's. -/
theorem flushed5_eq (c : Dev nD) (t : Fin cfg0.N) :
    (dats m 0 c).flushed 5 t = ((cfg0.win 5).blk t).view.read (Elt Ideal) (val_main_v66 (F := Ideal) (A0 m c) (A1 m c) (A2 m c)) := by
  rw [flushed5_A]
  frame_out
  funext j
  obtain ⟨r, l, rfl⟩ : ∃ (r : Fin 2048) (l : Fin 128), j = ix2 r l := ⟨j 0, j 1, eq_ix2 j⟩
  refine Eq.trans ?_ (congrArg (val_main_v66 (F := Ideal) (A0 m c) (A1 m c) (A2 m c)) (emb5 t r l)).symm
  refine (cut5 t _ _).trans ?_
  rw [pay10_apply, ref_dxa_apply, gcol_eq, taps_eq, iblk2_apply, mul_comm]

/-- Every element of the array is in some point's block. -/
theorem cover5 (i : S2048x384.Idx) : ∃ t : Fin cfg0.N, (cfg0.win 5).flush t = true ∧ i ∈ ((cfg0.win 5).blk t).view.set := by
  obtain ⟨r, l, rfl⟩ : ∃ (r : Fin 2048) (l : Fin 384), i = ix2 r l := ⟨i 0, i 1, eq_ix2 i⟩
  have hl := l.isLt
  refine ⟨(⟨l.val / 128, by show l.val / 128 < 3; omega⟩ : Fin cfg0.N), flush0_5 _, ?_⟩
  have h := ((cfg0.win 5).blk (⟨l.val / 128, by show l.val / 128 < 3; omega⟩ : Fin cfg0.N)).view.emb_mem_set (ix2 r ⟨l.val % 128, by omega⟩)
  rw [emb5] at h
  rwa [show lane ⟨l.val / 128, _⟩ ⟨l.val % 128, _⟩ = l from Fin.ext (by show l.val / 128 * 128 + l.val % 128 = l.val; omega)] at h

/-- The array of the first factor's gradient after the run is the reference's. -/
theorem final5 (c : Dev nD) : (dats m 0 c).arrAt 5 cfg0.N = val_main_v66 (F := Ideal) (A0 m c) (A1 m c) (A2 m c) :=
  (dats m 0 c).arrAt_eq_of_cover 5 _ (fun t _ => flushed5_eq m c t) cover5

/-- Where an element of the block of the gate's gradient lies in the array. -/
theorem emb6 (t : Fin cfg0.N) (r : Fin 2048) (l : Fin 128) :
    ((cfg0.win 6).blk t).view.emb (ix2 r l) = (ix2 r (lane t l) : S2048x384.Idx) := by
  obtain ⟨-, -, e0, e1, -⟩ := idx_out t
  funext a; apply Fin.ext
  match a with
  | ⟨0, _⟩ => show win0_6.index t (0 : Fin 2) * 2048 + 1 * r.val = r.val; omega
  | ⟨1, _⟩ => show win0_6.index t (1 : Fin 2) * 128 + 1 * l.val = t.val * 128 + l.val; omega

theorem cut6 (t : Fin cfg0.N) (X : Vec Ideal S2048x128 .bf16) (j : S2048x128.Idx) : (cfg0.win 6).cut (grid0.coords t) X j = X j := rfl

/-- What point `t` writes back of it is the block of the reference's. -/
theorem flushed6_eq (c : Dev nD) (t : Fin cfg0.N) :
    (dats m 0 c).flushed 6 t = ((cfg0.win 6).blk t).view.read (Elt Ideal) (val_main_v67 (F := Ideal) (A0 m c) (A1 m c) (A2 m c)) := by
  rw [flushed6_A]
  frame_out
  funext j
  obtain ⟨r, l, rfl⟩ : ∃ (r : Fin 2048) (l : Fin 128), j = ix2 r l := ⟨j 0, j 1, eq_ix2 j⟩
  refine Eq.trans ?_ (congrArg (val_main_v67 (F := Ideal) (A0 m c) (A1 m c) (A2 m c)) (emb6 t r l)).symm
  refine (cut6 t _ _).trans ?_
  rw [pay4_apply, ref_dgb_apply, zcol_eq, taps_eq, iblk3_apply]

/-- Every element of the array is in some point's block. -/
theorem cover6 (i : S2048x384.Idx) : ∃ t : Fin cfg0.N, (cfg0.win 6).flush t = true ∧ i ∈ ((cfg0.win 6).blk t).view.set := by
  obtain ⟨r, l, rfl⟩ : ∃ (r : Fin 2048) (l : Fin 384), i = ix2 r l := ⟨i 0, i 1, eq_ix2 i⟩
  have hl := l.isLt
  refine ⟨(⟨l.val / 128, by show l.val / 128 < 3; omega⟩ : Fin cfg0.N), flush0_6 _, ?_⟩
  have h := ((cfg0.win 6).blk (⟨l.val / 128, by show l.val / 128 < 3; omega⟩ : Fin cfg0.N)).view.emb_mem_set (ix2 r ⟨l.val % 128, by omega⟩)
  rw [emb6] at h
  rwa [show lane ⟨l.val / 128, _⟩ ⟨l.val % 128, _⟩ = l from Fin.ext (by show l.val / 128 * 128 + l.val % 128 = l.val; omega)] at h

/-- The array of the gate's gradient after the run is the reference's. -/
theorem final6 (c : Dev nD) : (dats m 0 c).arrAt 6 cfg0.N = val_main_v67 (F := Ideal) (A0 m c) (A1 m c) (A2 m c) :=
  (dats m 0 c).arrAt_eq_of_cover 6 _ (fun t _ => flushed6_eq m c t) cover6

/-- Where an element of the block of the second factor's gradient lies in the array. -/
theorem emb7 (t : Fin cfg0.N) (r : Fin 2048) (l : Fin 128) :
    ((cfg0.win 7).blk t).view.emb (ix2 r l) = (ix2 r (lane t l) : S2048x384.Idx) := by
  obtain ⟨-, -, -, -, e0, e1, -⟩ := idx_out t
  funext a; apply Fin.ext
  match a with
  | ⟨0, _⟩ => show win0_7.index t (0 : Fin 2) * 2048 + 1 * r.val = r.val; omega
  | ⟨1, _⟩ => show win0_7.index t (1 : Fin 2) * 128 + 1 * l.val = t.val * 128 + l.val; omega

theorem cut7 (t : Fin cfg0.N) (X : Vec Ideal S2048x128 .bf16) (j : S2048x128.Idx) : (cfg0.win 7).cut (grid0.coords t) X j = X j := rfl

/-- What point `t` writes back of it is the block of the reference's. -/
theorem flushed7_eq (c : Dev nD) (t : Fin cfg0.N) :
    (dats m 0 c).flushed 7 t = ((cfg0.win 7).blk t).view.read (Elt Ideal) (val_main_v68 (F := Ideal) (A0 m c) (A1 m c) (A2 m c)) := by
  rw [flushed7_A]
  frame_out
  funext j
  obtain ⟨r, l, rfl⟩ : ∃ (r : Fin 2048) (l : Fin 128), j = ix2 r l := ⟨j 0, j 1, eq_ix2 j⟩
  refine Eq.trans ?_ (congrArg (val_main_v68 (F := Ideal) (A0 m c) (A1 m c) (A2 m c)) (emb7 t r l)).symm
  refine (cut7 t _ _).trans ?_
  rw [pay11_apply, ref_dgc_apply, gcol_eq, taps_eq, iblk0_apply]

/-- Every element of the array is in some point's block. -/
theorem cover7 (i : S2048x384.Idx) : ∃ t : Fin cfg0.N, (cfg0.win 7).flush t = true ∧ i ∈ ((cfg0.win 7).blk t).view.set := by
  obtain ⟨r, l, rfl⟩ : ∃ (r : Fin 2048) (l : Fin 384), i = ix2 r l := ⟨i 0, i 1, eq_ix2 i⟩
  have hl := l.isLt
  refine ⟨(⟨l.val / 128, by show l.val / 128 < 3; omega⟩ : Fin cfg0.N), flush0_7 _, ?_⟩
  have h := ((cfg0.win 7).blk (⟨l.val / 128, by show l.val / 128 < 3; omega⟩ : Fin cfg0.N)).view.emb_mem_set (ix2 r ⟨l.val % 128, by omega⟩)
  rw [emb7] at h
  rwa [show lane ⟨l.val / 128, _⟩ ⟨l.val % 128, _⟩ = l from Fin.ext (by show l.val / 128 * 128 + l.val % 128 = l.val; omega)] at h

/-- The array of the second factor's gradient after the run is the reference's. -/
theorem final7 (c : Dev nD) : (dats m 0 c).arrAt 7 cfg0.N = val_main_v68 (F := Ideal) (A0 m c) (A1 m c) (A2 m c) :=
  (dats m 0 c).arrAt_eq_of_cover 7 _ (fun t _ => flushed7_eq m c t) cover7

theorem emb8 (t : Fin cfg0.N) (k : Fin 3) (l : Fin 128) :
    ((cfg0.win 8).blk t).view.emb (ix2 k l) = (ix2 k (lane t l) : S3x384.Idx) := by
  obtain ⟨-, -, -, -, -, -, e0, e1, -⟩ := idx_out t
  funext a; apply Fin.ext
  match a with
  | ⟨0, _⟩ => show win0_8.index t (0 : Fin 2) * 3 + 1 * k.val = k.val; omega
  | ⟨1, _⟩ => show win0_8.index t (1 : Fin 2) * 128 + 1 * l.val = t.val * 128 + l.val; omega

/-- The block of the taps' gradient, stored row by row. -/
theorem flushed8_eq (c : Dev nD) (t : Fin cfg0.N) :
    (dats m 0 c).flushed 8 t = ((cfg0.win 8).blk t).view.read (Elt Ideal) (val_main_v61 (F := Ideal) (A0 m c) (A1 m c)) := by
  rw [flushed8_A]
  frame_out
  funext j
  obtain ⟨k, l, rfl⟩ : ∃ (k : Fin 3) (l : Fin 128), j = ix2 k l := ⟨j 0, j 1, eq_ix2 j⟩
  refine Eq.trans ?_ (congrArg (val_main_v61 (F := Ideal) (A0 m c) (A1 m c)) (emb8 t k l)).symm
  refine View.canon_eq_of_allAt _ (ix2 k l) _ (View.cover_of_tiled_head _ _ _ rfl _) ?_
  rw [ref_taps_apply, ← gcol_eq, ← zcol_eq]
  refine View.allAt_cons_unit _ _ _ _ _ (fun x hx => ?_) (View.allAt_cons_unit _ _ _ _ _ (fun x hx => ?_)
    (View.allAt_cons_unit _ _ _ _ _ (fun x hx => ?_) (View.allAt_nil _ _)))
  · have h0 : k.val = 2 + (x 0).val := hx 0
    have h1 : l.val = 0 + (x 1).val := hx 1
    have hx0 : (x 0).val < 1 := (x 0).isLt
    rw [show x = (ix2 0 l : S1x128.Idx) from funext fun a => Fin.ext (by match a with | ⟨0, _⟩ => show (x 0).val = 0; omega | ⟨1, _⟩ => show (x 1).val = l.val; omega), show 2 - k.val = 0 by omega]
    rw [pay2_apply, pay3_col]
  · have h0 : k.val = 1 + (x 0).val := hx 0
    have h1 : l.val = 0 + (x 1).val := hx 1
    have hx0 : (x 0).val < 1 := (x 0).isLt
    rw [show x = (ix2 0 l : S1x128.Idx) from funext fun a => Fin.ext (by match a with | ⟨0, _⟩ => show (x 0).val = 0; omega | ⟨1, _⟩ => show (x 1).val = l.val; omega), show 2 - k.val = 1 by omega]
    rw [pay1_apply, pay3_col]
  · have h0 : k.val = 0 + (x 0).val := hx 0
    have h1 : l.val = 0 + (x 1).val := hx 1
    have hx0 : (x 0).val < 1 := (x 0).isLt
    rw [show x = (ix2 0 l : S1x128.Idx) from funext fun a => Fin.ext (by match a with | ⟨0, _⟩ => show (x 0).val = 0; omega | ⟨1, _⟩ => show (x 1).val = l.val; omega), show 2 - k.val = 2 by omega]
    rw [pay12_apply, pay3_col]

theorem cover8 (i : S3x384.Idx) : ∃ t : Fin cfg0.N, (cfg0.win 8).flush t = true ∧ i ∈ ((cfg0.win 8).blk t).view.set := by
  obtain ⟨r, l, rfl⟩ : ∃ (r : Fin 3) (l : Fin 384), i = ix2 r l := ⟨i 0, i 1, eq_ix2 i⟩
  have hl := l.isLt
  refine ⟨(⟨l.val / 128, by show l.val / 128 < 3; omega⟩ : Fin cfg0.N), flush0_8 _, ?_⟩
  have h := ((cfg0.win 8).blk (⟨l.val / 128, by show l.val / 128 < 3; omega⟩ : Fin cfg0.N)).view.emb_mem_set (ix2 r ⟨l.val % 128, by omega⟩)
  rw [emb8] at h
  rwa [show lane ⟨l.val / 128, _⟩ ⟨l.val % 128, _⟩ = l from Fin.ext (by show l.val / 128 * 128 + l.val % 128 = l.val; omega)] at h

theorem final8 (c : Dev nD) : (dats m 0 c).arrAt 8 cfg0.N = val_main_v61 (F := Ideal) (A0 m c) (A1 m c) :=
  (dats m 0 c).arrAt_eq_of_cover 8 _ (fun t _ => flushed8_eq m c t) cover8

end Cert.Proof.Conv
-- ==== Proof.WGu.lean ====
module

public import proofs.«01_k».proof.Proof.Gen.WGuBwdIdeal.Value
public import proofs.«01_k».proof.Proof.Gen.WGuRefIdeal.Read
public import Idealize.ShloMosaic.Lib.Pipeline.ValueKit
public import Idealize.ShloMosaic.Lib.Pointwise

@[expose] public section

set_option maxRecDepth 16384

noncomputable section

namespace Cert.Proof.WGu

open Cert.WGuBwdIdeal Cert.WGuBwdIdeal.Gen Cert.WGuBwdIdeal.Value Idealize.ShloMosaic Idealize.ShloMosaic.TcCoe Idealize.SL.Sem
open Idealize.ShloMosaic.Tactic
open Cert.WGuRefIdeal.Read (val_main_v6 val_main_v5 val_main_v4 val_main_v1 val_main_v0)

variable (m : (ℓ : Loc nD τ sig) → Buf (Elt Ideal) ℓ) (ρ : Dev nD → PrngReg)
/-- The block that each window works on at a grid point, in blocks along each axis. -/
theorem idx : ∀ t : Fin cfg0.N, win0_0.index t (0 : Fin 2) = 0
    ∧ win0_0.index t (1 : Fin 2) = 0
    ∧ win0_1.index t (0 : Fin 2) = 0
    ∧ win0_1.index t (1 : Fin 2) = t.val
    ∧ win0_2.index t (0 : Fin 2) = 0
    ∧ win0_2.index t (1 : Fin 2) = t.val
    ∧ t.val < 4 :=
  (by decide +kernel : ∀ t : Fin grid0.N, _)

/-- The left factor, the same whole array at every point. -/
theorem iblk0_apply (c : Dev nD) (t : Fin cfg0.N) (r : Fin 2048) (l : Fin 1024) :
    iblk m c 0 t (ix2 r l) = m ((c : Thread nD τ).loc main_arg0) (ix2 r l) := by
  show V m c main_arg0 (((cfg0.win 0).blk t).view.emb (ix2 r l)) = _
  rw [V_main_arg0]
  obtain ⟨e0, e1, -⟩ := idx t
  congr 1; funext a; apply Fin.ext
  match a with
  | ⟨0, _⟩ => show win0_0.index t (0 : Fin 2) * 2048 + 1 * r.val = r.val; omega
  | ⟨1, _⟩ => show win0_0.index t (1 : Fin 2) * 1024 + 1 * l.val = l.val; omega

/-- The columns of the right factor that the point works on. -/
theorem iblk1_apply (c : Dev nD) (t : Fin cfg0.N) (r : Fin 2048) (l : Fin 1408) :
    iblk m c 1 t (ix2 r l) = m ((c : Thread nD τ).loc main_arg1) (ix2 r ⟨t.val * 1408 + l.val, by have := (idx t).2.2.2.2.2.2; omega⟩) := by
  show V m c main_arg1 (((cfg0.win 1).blk t).view.emb (ix2 r l)) = _
  rw [V_main_arg1]
  obtain ⟨-, -, e0, e1, -⟩ := idx t
  congr 1; funext a; apply Fin.ext
  match a with
  | ⟨0, _⟩ => show win0_1.index t (0 : Fin 2) * 2048 + 1 * r.val = r.val; omega
  | ⟨1, _⟩ => show win0_1.index t (1 : Fin 2) * 1408 + 1 * l.val = t.val * 1408 + l.val; omega

/-- What a point computes: the product of the transposed left factor with its columns. -/
theorem pay1_apply (x : Vec Ideal S2048x1024 .bf16) (y : Vec Ideal S2048x1408 .bf16) (r : Fin 1024) (l : Fin 1408) :
    k0_pay1 (F := Ideal) x y (ix2 r l) = ∑ k : Fin 2048, (HMul.hMul (α := EReal) (β := EReal) (γ := EReal) (x (ix2 k r)) (y (ix2 k l))) := by
  unfold k0_pay1; pointwise

/-- The reference's array: the transpose of the product that the derivative of `a @ w` with respect to `w` prints. -/
theorem ref_apply (x : Vec Ideal S2048x1024 .bf16) (y : Vec Ideal S2048x5632 .bf16) (r : Fin 1024) (l : Fin 5632) :
    val_main_v6 (F := Ideal) x y (ix2 r l) = ∑ k : Fin 2048, (HMul.hMul (α := EReal) (β := EReal) (γ := EReal) (y (ix2 k l)) (x (ix2 k r))) := by
  unfold val_main_v6 val_main_v5 val_main_v4 val_main_v1 val_main_v0; pointwise

/-- The arguments. -/
abbrev A0 (c : Dev nD) := m ((c : Thread nD τ).loc main_arg0)
abbrev A1 (c : Dev nD) := m ((c : Thread nD τ).loc main_arg1)

/-- Where an element of a block of the gradient lies in the array. -/
theorem emb2 (t : Fin cfg0.N) (r : Fin 1024) (l : Fin 1408) :
    ((cfg0.win 2).blk t).view.emb (ix2 r l) = (ix2 r ⟨t.val * 1408 + l.val, by have := (idx t).2.2.2.2.2.2; omega⟩ : S1024x5632.Idx) := by
  obtain ⟨-, -, -, -, e0, e1, -⟩ := idx t
  funext a; apply Fin.ext
  match a with
  | ⟨0, _⟩ => show win0_2.index t (0 : Fin 2) * 1024 + 1 * r.val = r.val; omega
  | ⟨1, _⟩ => show win0_2.index t (1 : Fin 2) * 1408 + 1 * l.val = t.val * 1408 + l.val; omega

/-- No block sticks out of the array: a block is written back whole. -/
theorem cut2 (t : Fin cfg0.N) (X : Vec Ideal S1024x1408 .bf16) (j : S1024x1408.Idx) : (cfg0.win 2).cut (grid0.coords t) X j = X j := rfl

/-- What point `t` writes back of the gradient is that block of the reference's array. -/
theorem flushed2_eq (c : Dev nD) (t : Fin cfg0.N) :
    (dats m 0 c).flushed 2 t = ((cfg0.win 2).blk t).view.read (Elt Ideal) (val_main_v6 (F := Ideal) (A0 m c) (A1 m c)) := by
  rw [flushed2_A]
  frame_out
  funext j
  obtain ⟨r, l, rfl⟩ : ∃ (r : Fin 1024) (l : Fin 1408), j = ix2 r l := ⟨j 0, j 1, eq_ix2 j⟩
  refine Eq.trans ?_ (congrArg (val_main_v6 (F := Ideal) (A0 m c) (A1 m c)) (emb2 t r l)).symm
  refine (cut2 t _ _).trans ?_
  rw [pay1_apply, ref_apply]
  apply Finset.sum_congr rfl; intro k _
  rw [iblk0_apply, iblk1_apply, mul_comm]

/-- Every element of the array is in some point's block. -/
theorem cover2 (i : S1024x5632.Idx) : ∃ t : Fin cfg0.N, (cfg0.win 2).flush t = true ∧ i ∈ ((cfg0.win 2).blk t).view.set := by
  obtain ⟨r, l, rfl⟩ : ∃ (r : Fin 1024) (l : Fin 5632), i = ix2 r l := ⟨i 0, i 1, eq_ix2 i⟩
  have hv := l.isLt
  refine ⟨(⟨l.val / 1408, by show l.val / 1408 < 4; omega⟩ : Fin cfg0.N), flush0_2 _, ?_⟩
  have h := ((cfg0.win 2).blk (⟨l.val / 1408, by show l.val / 1408 < 4; omega⟩ : Fin cfg0.N)).view.emb_mem_set (ix2 r ⟨l.val % 1408, by omega⟩)
  rw [emb2] at h
  have e : ∀ p, (⟨l.val / 1408 * 1408 + l.val % 1408, p⟩ : Fin 5632) = l := fun p => Fin.ext (by show l.val / 1408 * 1408 + l.val % 1408 = l.val; omega)
  simpa only [e] using h

/-- The array of the gradient after the run is the reference's. -/
theorem final2 (c : Dev nD) : (dats m 0 c).arrAt 2 cfg0.N = val_main_v6 (F := Ideal) (A0 m c) (A1 m c) :=
  (dats m 0 c).arrAt_eq_of_cover 2 _ (fun t _ => flushed2_eq m c t) cover2

end Cert.Proof.WGu
-- ==== Proof.WDown.lean ====
module

public import proofs.«01_k».proof.Proof.Gen.WDownBwdIdeal.Value
public import proofs.«01_k».proof.Proof.Gen.WDownRefIdeal.Read
public import Idealize.ShloMosaic.Lib.Pipeline.ValueKit
public import Idealize.ShloMosaic.Lib.Pointwise

@[expose] public section

set_option maxRecDepth 16384

noncomputable section

namespace Cert.Proof.WDown

open Cert.WDownBwdIdeal Cert.WDownBwdIdeal.Gen Cert.WDownBwdIdeal.Value Idealize.ShloMosaic Idealize.ShloMosaic.TcCoe Idealize.SL.Sem
open Idealize.ShloMosaic.Tactic
open Cert.WDownRefIdeal.Read (val_main_v6 val_main_v5 val_main_v4 val_main_v1 val_main_v0)

variable (m : (ℓ : Loc nD τ sig) → Buf (Elt Ideal) ℓ) (ρ : Dev nD → PrngReg)
/-- The block that each window works on at a grid point, in blocks along each axis. -/
theorem idx : ∀ t : Fin cfg0.N, win0_0.index t (0 : Fin 2) = 0
    ∧ win0_0.index t (1 : Fin 2) = t.val
    ∧ win0_1.index t (0 : Fin 2) = 0
    ∧ win0_1.index t (1 : Fin 2) = 0
    ∧ win0_2.index t (0 : Fin 2) = t.val
    ∧ win0_2.index t (1 : Fin 2) = 0
    ∧ t.val < 2 :=
  (by decide +kernel : ∀ t : Fin grid0.N, _)

/-- The columns of the left factor that the point works on. -/
theorem iblk0_apply (c : Dev nD) (t : Fin cfg0.N) (r : Fin 2048) (l : Fin 1408) :
    iblk m c 0 t (ix2 r l) = m ((c : Thread nD τ).loc main_arg0) (ix2 r ⟨t.val * 1408 + l.val, by have := (idx t).2.2.2.2.2.2; omega⟩) := by
  show V m c main_arg0 (((cfg0.win 0).blk t).view.emb (ix2 r l)) = _
  rw [V_main_arg0]
  obtain ⟨e0, e1, -⟩ := idx t
  congr 1; funext a; apply Fin.ext
  match a with
  | ⟨0, _⟩ => show win0_0.index t (0 : Fin 2) * 2048 + 1 * r.val = r.val; omega
  | ⟨1, _⟩ => show win0_0.index t (1 : Fin 2) * 1408 + 1 * l.val = t.val * 1408 + l.val; omega

/-- The right factor, the same whole array at every point. -/
theorem iblk1_apply (c : Dev nD) (t : Fin cfg0.N) (r : Fin 2048) (l : Fin 1024) :
    iblk m c 1 t (ix2 r l) = m ((c : Thread nD τ).loc main_arg1) (ix2 r l) := by
  show V m c main_arg1 (((cfg0.win 1).blk t).view.emb (ix2 r l)) = _
  rw [V_main_arg1]
  obtain ⟨-, -, e0, e1, -⟩ := idx t
  congr 1; funext a; apply Fin.ext
  match a with
  | ⟨0, _⟩ => show win0_1.index t (0 : Fin 2) * 2048 + 1 * r.val = r.val; omega
  | ⟨1, _⟩ => show win0_1.index t (1 : Fin 2) * 1024 + 1 * l.val = l.val; omega

/-- What a point computes: the product of its columns, transposed, with the right factor. -/
theorem pay1_apply (x : Vec Ideal S2048x1408 .bf16) (y : Vec Ideal S2048x1024 .bf16) (r : Fin 1408) (l : Fin 1024) :
    k0_pay1 (F := Ideal) x y (ix2 r l) = ∑ k : Fin 2048, (HMul.hMul (α := EReal) (β := EReal) (γ := EReal) (x (ix2 k r)) (y (ix2 k l))) := by
  unfold k0_pay1; pointwise

/-- The reference's array: the transpose of the product that the derivative of `a @ w` with respect to `w` prints. -/
theorem ref_apply (x : Vec Ideal S2048x2816 .bf16) (y : Vec Ideal S2048x1024 .bf16) (r : Fin 2816) (l : Fin 1024) :
    val_main_v6 (F := Ideal) x y (ix2 r l) = ∑ k : Fin 2048, (HMul.hMul (α := EReal) (β := EReal) (γ := EReal) (y (ix2 k l)) (x (ix2 k r))) := by
  unfold val_main_v6 val_main_v5 val_main_v4 val_main_v1 val_main_v0; pointwise

/-- The arguments. -/
abbrev A0 (c : Dev nD) := m ((c : Thread nD τ).loc main_arg0)
abbrev A1 (c : Dev nD) := m ((c : Thread nD τ).loc main_arg1)

/-- Where an element of a block of the gradient lies in the array. -/
theorem emb2 (t : Fin cfg0.N) (r : Fin 1408) (l : Fin 1024) :
    ((cfg0.win 2).blk t).view.emb (ix2 r l) = (ix2 ⟨t.val * 1408 + r.val, by have := (idx t).2.2.2.2.2.2; omega⟩ l : S2816x1024.Idx) := by
  obtain ⟨-, -, -, -, e0, e1, -⟩ := idx t
  funext a; apply Fin.ext
  match a with
  | ⟨0, _⟩ => show win0_2.index t (0 : Fin 2) * 1408 + 1 * r.val = t.val * 1408 + r.val; omega
  | ⟨1, _⟩ => show win0_2.index t (1 : Fin 2) * 1024 + 1 * l.val = l.val; omega

/-- No block sticks out of the array: a block is written back whole. -/
theorem cut2 (t : Fin cfg0.N) (X : Vec Ideal S1408x1024 .bf16) (j : S1408x1024.Idx) : (cfg0.win 2).cut (grid0.coords t) X j = X j := rfl

/-- What point `t` writes back of the gradient is that block of the reference's array. -/
theorem flushed2_eq (c : Dev nD) (t : Fin cfg0.N) :
    (dats m 0 c).flushed 2 t = ((cfg0.win 2).blk t).view.read (Elt Ideal) (val_main_v6 (F := Ideal) (A0 m c) (A1 m c)) := by
  rw [flushed2_A]
  frame_out
  funext j
  obtain ⟨r, l, rfl⟩ : ∃ (r : Fin 1408) (l : Fin 1024), j = ix2 r l := ⟨j 0, j 1, eq_ix2 j⟩
  refine Eq.trans ?_ (congrArg (val_main_v6 (F := Ideal) (A0 m c) (A1 m c)) (emb2 t r l)).symm
  refine (cut2 t _ _).trans ?_
  rw [pay1_apply, ref_apply]
  apply Finset.sum_congr rfl; intro k _
  rw [iblk0_apply, iblk1_apply, mul_comm]

/-- Every element of the array is in some point's block. -/
theorem cover2 (i : S2816x1024.Idx) : ∃ t : Fin cfg0.N, (cfg0.win 2).flush t = true ∧ i ∈ ((cfg0.win 2).blk t).view.set := by
  obtain ⟨r, l, rfl⟩ : ∃ (r : Fin 2816) (l : Fin 1024), i = ix2 r l := ⟨i 0, i 1, eq_ix2 i⟩
  have hv := r.isLt
  refine ⟨(⟨r.val / 1408, by show r.val / 1408 < 2; omega⟩ : Fin cfg0.N), flush0_2 _, ?_⟩
  have h := ((cfg0.win 2).blk (⟨r.val / 1408, by show r.val / 1408 < 2; omega⟩ : Fin cfg0.N)).view.emb_mem_set (ix2 ⟨r.val % 1408, by omega⟩ l)
  rw [emb2] at h
  have e : ∀ p, (⟨r.val / 1408 * 1408 + r.val % 1408, p⟩ : Fin 2816) = r := fun p => Fin.ext (by show r.val / 1408 * 1408 + r.val % 1408 = r.val; omega)
  simpa only [e] using h

/-- The array of the gradient after the run is the reference's. -/
theorem final2 (c : Dev nD) : (dats m 0 c).arrAt 2 cfg0.N = val_main_v6 (F := Ideal) (A0 m c) (A1 m c) :=
  (dats m 0 c).arrAt_eq_of_cover 2 _ (fun t _ => flushed2_eq m c t) cover2

end Cert.Proof.WDown
-- ==== Proof.WIn.lean ====
module

public import proofs.«01_k».proof.Proof.Gen.WInBwdIdeal.Value
public import proofs.«01_k».proof.Proof.Gen.WInRefIdeal.Read
public import Idealize.ShloMosaic.Lib.Pipeline.ValueKit
public import Idealize.ShloMosaic.Lib.Pointwise

@[expose] public section

set_option maxRecDepth 16384

noncomputable section

namespace Cert.Proof.WIn

open Cert.WInBwdIdeal Cert.WInBwdIdeal.Gen Cert.WInBwdIdeal.Value Idealize.ShloMosaic Idealize.ShloMosaic.TcCoe Idealize.SL.Sem
open Idealize.ShloMosaic.Tactic
open Cert.WInRefIdeal.Read (val_main_v14 val_main_v13 val_main_v12 val_main_v11 val_main_v7 val_main_v6 val_main_v5 val_main_v4 val_main_v3 val_main_v2 val_main_v1 val_main_v0)

variable (m : (ℓ : Loc nD τ sig) → Buf (Elt Ideal) ℓ) (ρ : Dev nD → PrngReg)
/-- The block that each window works on at a grid point, in blocks along each axis. -/
theorem idx : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = t.val
    ∧ win0_7.index t (0 : Fin 2) = 0
    ∧ win0_7.index t (1 : Fin 2) = t.val
    ∧ t.val < 2 :=
  (by decide +kernel : ∀ t : Fin grid0.N, _)

/-- One of the six gradients, the same whole array at every point. -/
theorem iblk0_apply (c : Dev nD) (t : Fin cfg0.N) (r : Fin 2048) (l : Fin 384) :
    iblk m c 0 t (ix2 r l) = m ((c : Thread nD τ).loc main_arg0) (ix2 r l) := by
  show V m c main_arg0 (((cfg0.win 0).blk t).view.emb (ix2 r l)) = _
  rw [V_main_arg0]
  obtain ⟨e0, e1, -⟩ := idx t
  congr 1; funext a; apply Fin.ext
  match a with
  | ⟨0, _⟩ => show win0_0.index t (0 : Fin 2) * 2048 + 1 * r.val = r.val; omega
  | ⟨1, _⟩ => show win0_0.index t (1 : Fin 2) * 384 + 1 * l.val = l.val; omega

/-- One of the six gradients, the same whole array at every point. -/
theorem iblk1_apply (c : Dev nD) (t : Fin cfg0.N) (r : Fin 2048) (l : Fin 384) :
    iblk m c 1 t (ix2 r l) = m ((c : Thread nD τ).loc main_arg1) (ix2 r l) := by
  show V m c main_arg1 (((cfg0.win 1).blk t).view.emb (ix2 r l)) = _
  rw [V_main_arg1]
  obtain ⟨-, -, e0, e1, -⟩ := idx t
  congr 1; funext a; apply Fin.ext
  match a with
  | ⟨0, _⟩ => show win0_1.index t (0 : Fin 2) * 2048 + 1 * r.val = r.val; omega
  | ⟨1, _⟩ => show win0_1.index t (1 : Fin 2) * 384 + 1 * l.val = l.val; omega

/-- One of the six gradients, the same whole array at every point. -/
theorem iblk2_apply (c : Dev nD) (t : Fin cfg0.N) (r : Fin 2048) (l : Fin 384) :
    iblk m c 2 t (ix2 r l) = m ((c : Thread nD τ).loc main_arg2) (ix2 r l) := by
  show V m c main_arg2 (((cfg0.win 2).blk t).view.emb (ix2 r l)) = _
  rw [V_main_arg2]
  obtain ⟨-, -, -, -, e0, e1, -⟩ := idx t
  congr 1; funext a; apply Fin.ext
  match a with
  | ⟨0, _⟩ => show win0_2.index t (0 : Fin 2) * 2048 + 1 * r.val = r.val; omega
  | ⟨1, _⟩ => show win0_2.index t (1 : Fin 2) * 384 + 1 * l.val = l.val; omega

/-- One of the six gradients, the same whole array at every point. -/
theorem iblk3_apply (c : Dev nD) (t : Fin cfg0.N) (r : Fin 2048) (l : Fin 256) :
    iblk m c 3 t (ix2 r l) = m ((c : Thread nD τ).loc main_arg3) (ix2 r l) := by
  show V m c main_arg3 (((cfg0.win 3).blk t).view.emb (ix2 r l)) = _
  rw [V_main_arg3]
  obtain ⟨-, -, -, -, -, -, e0, e1, -⟩ := idx t
  congr 1; funext a; apply Fin.ext
  match a with
  | ⟨0, _⟩ => show win0_3.index t (0 : Fin 2) * 2048 + 1 * r.val = r.val; omega
  | ⟨1, _⟩ => show win0_3.index t (1 : Fin 2) * 256 + 1 * l.val = l.val; omega

/-- One of the six gradients, the same whole array at every point. -/
theorem iblk4_apply (c : Dev nD) (t : Fin cfg0.N) (r : Fin 2048) (l : Fin 384) :
    iblk m c 4 t (ix2 r l) = m ((c : Thread nD τ).loc main_arg4) (ix2 r l) := by
  show V m c main_arg4 (((cfg0.win 4).blk t).view.emb (ix2 r l)) = _
  rw [V_main_arg4]
  obtain ⟨-, -, -, -, -, -, -, -, e0, e1, -⟩ := idx t
  congr 1; funext a; apply Fin.ext
  match a with
  | ⟨0, _⟩ => show win0_4.index t (0 : Fin 2) * 2048 + 1 * r.val = r.val; omega
  | ⟨1, _⟩ => show win0_4.index t (1 : Fin 2) * 384 + 1 * l.val = l.val; omega

/-- One of the six gradients, the same whole array at every point. -/
theorem iblk5_apply (c : Dev nD) (t : Fin cfg0.N) (r : Fin 2048) (l : Fin 384) :
    iblk m c 5 t (ix2 r l) = m ((c : Thread nD τ).loc main_arg5) (ix2 r l) := by
  show V m c main_arg5 (((cfg0.win 5).blk t).view.emb (ix2 r l)) = _
  rw [V_main_arg5]
  obtain ⟨-, -, -, -, -, -, -, -, -, -, e0, e1, -⟩ := idx t
  congr 1; funext a; apply Fin.ext
  match a with
  | ⟨0, _⟩ => show win0_5.index t (0 : Fin 2) * 2048 + 1 * r.val = r.val; omega
  | ⟨1, _⟩ => show win0_5.index t (1 : Fin 2) * 384 + 1 * l.val = l.val; omega

/-- The columns of the right factor that the point works on. -/
theorem iblk6_apply (c : Dev nD) (t : Fin cfg0.N) (r : Fin 2048) (l : Fin 512) :
    iblk m c 6 t (ix2 r l) = m ((c : Thread nD τ).loc main_arg6) (ix2 r ⟨t.val * 512 + l.val, by have := (idx t).2.2.2.2.2.2.2.2.2.2.2.2.2.2.2.2; omega⟩) := by
  show V m c main_arg6 (((cfg0.win 6).blk t).view.emb (ix2 r l)) = _
  rw [V_main_arg6]
  obtain ⟨-, -, -, -, -, -, -, -, -, -, -, -, e0, e1, -⟩ := idx t
  congr 1; funext a; apply Fin.ext
  match a with
  | ⟨0, _⟩ => show win0_6.index t (0 : Fin 2) * 2048 + 1 * r.val = r.val; omega
  | ⟨1, _⟩ => show win0_6.index t (1 : Fin 2) * 512 + 1 * l.val = t.val * 512 + l.val; omega

/-- The block of rows of the result that belongs to one gradient: the product of its transpose with the columns. -/
def prod {n w : ℕ} (x : Fin 2048 → Fin n → EReal) (y : Fin 2048 → Fin w → EReal) (r : Fin n) (l : Fin w) : EReal :=
  ∑ k : Fin 2048, x k r * y k l

/-- What a point stores for one gradient. -/
theorem pay2_apply (x : Vec Ideal S2048x384 .bf16) (y : Vec Ideal S2048x512 .bf16) (r : Fin 384) (l : Fin 512) :
    k0_pay2 (F := Ideal) x y (ix2 r l) = prod (fun k r => x (ix2 k r)) (fun k l => y (ix2 k l)) r l := by
  unfold k0_pay2; pointwise; unfold prod; rfl

/-- What a point stores for one gradient. -/
theorem pay3_apply (x : Vec Ideal S2048x384 .bf16) (y : Vec Ideal S2048x512 .bf16) (r : Fin 384) (l : Fin 512) :
    k0_pay3 (F := Ideal) x y (ix2 r l) = prod (fun k r => x (ix2 k r)) (fun k l => y (ix2 k l)) r l := by
  unfold k0_pay3; pointwise; unfold prod; rfl

/-- What a point stores for one gradient. -/
theorem pay4_apply (x : Vec Ideal S2048x384 .bf16) (y : Vec Ideal S2048x512 .bf16) (r : Fin 384) (l : Fin 512) :
    k0_pay4 (F := Ideal) x y (ix2 r l) = prod (fun k r => x (ix2 k r)) (fun k l => y (ix2 k l)) r l := by
  unfold k0_pay4; pointwise; unfold prod; rfl

/-- What a point stores for one gradient. -/
theorem pay5_apply (x : Vec Ideal S2048x384 .bf16) (y : Vec Ideal S2048x512 .bf16) (r : Fin 384) (l : Fin 512) :
    k0_pay5 (F := Ideal) x y (ix2 r l) = prod (fun k r => x (ix2 k r)) (fun k l => y (ix2 k l)) r l := by
  unfold k0_pay5; pointwise; unfold prod; rfl

/-- What a point stores for one gradient. -/
theorem pay6_apply (x : Vec Ideal S2048x256 .bf16) (y : Vec Ideal S2048x512 .bf16) (r : Fin 256) (l : Fin 512) :
    k0_pay6 (F := Ideal) x y (ix2 r l) = prod (fun k r => x (ix2 k r)) (fun k l => y (ix2 k l)) r l := by
  unfold k0_pay6; pointwise; unfold prod; rfl

/-- What a point stores for the fifth gradient. -/
theorem pay1_apply (x : Vec Ideal S2048x384 .bf16) (y : Vec Ideal S2048x512 .bf16) (r : Fin 384) (l : Fin 512) :
    k0_pay1 (F := Ideal) x y (constant S384x512 .f32 0x00000000#32) (ix2 r l) = prod (fun k r => x (ix2 k r)) (fun k l => y (ix2 k l)) r l := by
  unfold k0_pay1; pointwise; unfold prod; rfl

/-- The reference's rows that belong to gradient 0. -/
theorem ref0_apply (x0 x1 x2 x4 x5 : Vec Ideal S2048x384 .bf16) (x3 : Vec Ideal S2048x256 .bf16) (y : Vec Ideal S2048x1024 .bf16) (r : Fin 384) (l : Fin 1024)
    (R : Fin 2176) (hR : R.val = 0 + r.val) :
    val_main_v14 (F := Ideal) x0 x1 x2 x3 x4 x5 y (ix2 R l) = prod (fun k r => x0 (ix2 k r)) (fun k l => y (ix2 k l)) r l := by
  unfold val_main_v14 val_main_v13 val_main_v12 val_main_v11 val_main_v7 val_main_v6 val_main_v5 val_main_v4 val_main_v3 val_main_v2 val_main_v1 val_main_v0; pointwise
  have hr := r.isLt
  apply Finset.sum_congr rfl; intro k _
  refine congrArg (fun z : EReal => z * y (ix2 k l)) ?_
  refine (dif_pos (by omega)).trans ?_; exact congrArg (fun i => x0 (ix2 k i)) (Fin.ext (by dsimp only; omega))

/-- The reference's rows that belong to gradient 1. -/
theorem ref1_apply (x0 x1 x2 x4 x5 : Vec Ideal S2048x384 .bf16) (x3 : Vec Ideal S2048x256 .bf16) (y : Vec Ideal S2048x1024 .bf16) (r : Fin 384) (l : Fin 1024)
    (R : Fin 2176) (hR : R.val = 384 + r.val) :
    val_main_v14 (F := Ideal) x0 x1 x2 x3 x4 x5 y (ix2 R l) = prod (fun k r => x1 (ix2 k r)) (fun k l => y (ix2 k l)) r l := by
  unfold val_main_v14 val_main_v13 val_main_v12 val_main_v11 val_main_v7 val_main_v6 val_main_v5 val_main_v4 val_main_v3 val_main_v2 val_main_v1 val_main_v0; pointwise
  have hr := r.isLt
  apply Finset.sum_congr rfl; intro k _
  refine congrArg (fun z : EReal => z * y (ix2 k l)) ?_
  refine (dif_neg (by omega)).trans ?_; refine (dif_pos (by omega)).trans ?_; exact congrArg (fun i => x1 (ix2 k i)) (Fin.ext (by dsimp only; omega))

/-- The reference's rows that belong to gradient 2. -/
theorem ref2_apply (x0 x1 x2 x4 x5 : Vec Ideal S2048x384 .bf16) (x3 : Vec Ideal S2048x256 .bf16) (y : Vec Ideal S2048x1024 .bf16) (r : Fin 384) (l : Fin 1024)
    (R : Fin 2176) (hR : R.val = 768 + r.val) :
    val_main_v14 (F := Ideal) x0 x1 x2 x3 x4 x5 y (ix2 R l) = prod (fun k r => x2 (ix2 k r)) (fun k l => y (ix2 k l)) r l := by
  unfold val_main_v14 val_main_v13 val_main_v12 val_main_v11 val_main_v7 val_main_v6 val_main_v5 val_main_v4 val_main_v3 val_main_v2 val_main_v1 val_main_v0; pointwise
  have hr := r.isLt
  apply Finset.sum_congr rfl; intro k _
  refine congrArg (fun z : EReal => z * y (ix2 k l)) ?_
  refine (dif_neg (by omega)).trans ?_; refine (dif_neg (by omega)).trans ?_; refine (dif_pos (by omega)).trans ?_; exact congrArg (fun i => x2 (ix2 k i)) (Fin.ext (by dsimp only; omega))

/-- The reference's rows that belong to gradient 3. -/
theorem ref3_apply (x0 x1 x2 x4 x5 : Vec Ideal S2048x384 .bf16) (x3 : Vec Ideal S2048x256 .bf16) (y : Vec Ideal S2048x1024 .bf16) (r : Fin 256) (l : Fin 1024)
    (R : Fin 2176) (hR : R.val = 1152 + r.val) :
    val_main_v14 (F := Ideal) x0 x1 x2 x3 x4 x5 y (ix2 R l) = prod (fun k r => x3 (ix2 k r)) (fun k l => y (ix2 k l)) r l := by
  unfold val_main_v14 val_main_v13 val_main_v12 val_main_v11 val_main_v7 val_main_v6 val_main_v5 val_main_v4 val_main_v3 val_main_v2 val_main_v1 val_main_v0; pointwise
  have hr := r.isLt
  apply Finset.sum_congr rfl; intro k _
  refine congrArg (fun z : EReal => z * y (ix2 k l)) ?_
  refine (dif_neg (by omega)).trans ?_; refine (dif_neg (by omega)).trans ?_; refine (dif_neg (by omega)).trans ?_; refine (dif_pos (by omega)).trans ?_; exact congrArg (fun i => x3 (ix2 k i)) (Fin.ext (by dsimp only; omega))

/-- The reference's rows that belong to gradient 4. -/
theorem ref4_apply (x0 x1 x2 x4 x5 : Vec Ideal S2048x384 .bf16) (x3 : Vec Ideal S2048x256 .bf16) (y : Vec Ideal S2048x1024 .bf16) (r : Fin 384) (l : Fin 1024)
    (R : Fin 2176) (hR : R.val = 1408 + r.val) :
    val_main_v14 (F := Ideal) x0 x1 x2 x3 x4 x5 y (ix2 R l) = prod (fun k r => x4 (ix2 k r)) (fun k l => y (ix2 k l)) r l := by
  unfold val_main_v14 val_main_v13 val_main_v12 val_main_v11 val_main_v7 val_main_v6 val_main_v5 val_main_v4 val_main_v3 val_main_v2 val_main_v1 val_main_v0; pointwise
  have hr := r.isLt
  apply Finset.sum_congr rfl; intro k _
  refine congrArg (fun z : EReal => z * y (ix2 k l)) ?_
  refine (dif_neg (by omega)).trans ?_; refine (dif_neg (by omega)).trans ?_; refine (dif_neg (by omega)).trans ?_; refine (dif_neg (by omega)).trans ?_; refine (dif_pos (by omega)).trans ?_; exact congrArg (fun i => x4 (ix2 k i)) (Fin.ext (by dsimp only; omega))

/-- The reference's rows that belong to gradient 5. -/
theorem ref5_apply (x0 x1 x2 x4 x5 : Vec Ideal S2048x384 .bf16) (x3 : Vec Ideal S2048x256 .bf16) (y : Vec Ideal S2048x1024 .bf16) (r : Fin 384) (l : Fin 1024)
    (R : Fin 2176) (hR : R.val = 1792 + r.val) :
    val_main_v14 (F := Ideal) x0 x1 x2 x3 x4 x5 y (ix2 R l) = prod (fun k r => x5 (ix2 k r)) (fun k l => y (ix2 k l)) r l := by
  unfold val_main_v14 val_main_v13 val_main_v12 val_main_v11 val_main_v7 val_main_v6 val_main_v5 val_main_v4 val_main_v3 val_main_v2 val_main_v1 val_main_v0; pointwise
  have hr := r.isLt
  apply Finset.sum_congr rfl; intro k _
  refine congrArg (fun z : EReal => z * y (ix2 k l)) ?_
  refine (dif_neg (by omega)).trans ?_; refine (dif_neg (by omega)).trans ?_; refine (dif_neg (by omega)).trans ?_; refine (dif_neg (by omega)).trans ?_; refine (dif_neg (by omega)).trans ?_; exact congrArg (fun i => x5 (ix2 k i)) (Fin.ext (by dsimp only; omega))

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)

/-- Where an element of a block of the gradient lies in the array. -/
theorem emb7 (t : Fin cfg0.N) (r : Fin 2176) (l : Fin 512) :
    ((cfg0.win 7).blk t).view.emb (ix2 r l) = (ix2 r ⟨t.val * 512 + l.val, by have := (idx t).2.2.2.2.2.2.2.2.2.2.2.2.2.2.2.2; omega⟩ : S2176x1024.Idx) := by
  obtain ⟨-, -, -, -, -, -, -, -, -, -, -, -, -, -, e0, e1, -⟩ := idx t
  funext a; apply Fin.ext
  match a with
  | ⟨0, _⟩ => show win0_7.index t (0 : Fin 2) * 2176 + 1 * r.val = r.val; omega
  | ⟨1, _⟩ => show win0_7.index t (1 : Fin 2) * 512 + 1 * l.val = t.val * 512 + l.val; omega

/-- No block sticks out of the array: a block is written back whole. -/
theorem cut7 (t : Fin cfg0.N) (X : Vec Ideal S2176x512 .bf16) (j : S2176x512.Idx) : (cfg0.win 7).cut (grid0.coords t) X j = X j := rfl

/-- What point `t` writes back of the gradient is that block of the reference's array. -/
theorem flushed7_eq (c : Dev nD) (t : Fin cfg0.N) :
    (dats m 0 c).flushed 7 t = ((cfg0.win 7).blk t).view.read (Elt Ideal) (val_main_v14 (F := Ideal) (A0 m c) (A1 m c) (A2 m c) (A3 m c) (A4 m c) (A5 m c) (A6 m c)) := by
  rw [flushed7_A]
  frame_out
  funext j
  obtain ⟨r, l, rfl⟩ : ∃ (r : Fin 2176) (l : Fin 512), j = ix2 r l := ⟨j 0, j 1, eq_ix2 j⟩
  refine Eq.trans ?_ (congrArg (val_main_v14 (F := Ideal) (A0 m c) (A1 m c) (A2 m c) (A3 m c) (A4 m c) (A5 m c) (A6 m c)) (emb7 t r l)).symm
  refine View.canon_eq_of_allAt _ (ix2 r l) _ (View.cover_of_tiledBy _ ![128, 512] (by sl_kernel_rfl) _) ?_
  refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))))
  · have h0 : r.val = 1792 + (x 0).val := hx 0
    have h1 : l.val = 0 + (x 1).val := hx 1
    obtain ⟨r', l', rfl⟩ : ∃ (r' : Fin 384) (l' : Fin 512), x = (ix2 r' l' : S384x512.Idx) := ⟨x 0, x 1, eq_ix2 x⟩
    change r.val = 1792 + r'.val at h0
    change l.val = 0 + l'.val at h1
    obtain rfl : l' = l := Fin.ext (by omega)
    refine (pay2_apply _ _ r' l').trans ?_
    rw [ref5_apply _ _ _ _ _ _ _ r' _ _ (by omega)]
    unfold prod
    apply Finset.sum_congr rfl; intro k _
    dsimp only
    rw [iblk5_apply, iblk6_apply]
  · have h0 : r.val = 1408 + (x 0).val := hx 0
    have h1 : l.val = 0 + (x 1).val := hx 1
    obtain ⟨r', l', rfl⟩ : ∃ (r' : Fin 384) (l' : Fin 512), x = (ix2 r' l' : S384x512.Idx) := ⟨x 0, x 1, eq_ix2 x⟩
    change r.val = 1408 + r'.val at h0
    change l.val = 0 + l'.val at h1
    obtain rfl : l' = l := Fin.ext (by omega)
    refine (pay1_apply _ _ r' l').trans ?_
    rw [ref4_apply _ _ _ _ _ _ _ r' _ _ (by omega)]
    unfold prod
    apply Finset.sum_congr rfl; intro k _
    dsimp only
    rw [iblk4_apply, iblk6_apply]
  · have h0 : r.val = 1152 + (x 0).val := hx 0
    have h1 : l.val = 0 + (x 1).val := hx 1
    obtain ⟨r', l', rfl⟩ : ∃ (r' : Fin 256) (l' : Fin 512), x = (ix2 r' l' : S256x512.Idx) := ⟨x 0, x 1, eq_ix2 x⟩
    change r.val = 1152 + r'.val at h0
    change l.val = 0 + l'.val at h1
    obtain rfl : l' = l := Fin.ext (by omega)
    refine (pay6_apply _ _ r' l').trans ?_
    rw [ref3_apply _ _ _ _ _ _ _ r' _ _ (by omega)]
    unfold prod
    apply Finset.sum_congr rfl; intro k _
    dsimp only
    rw [iblk3_apply, iblk6_apply]
  · have h0 : r.val = 768 + (x 0).val := hx 0
    have h1 : l.val = 0 + (x 1).val := hx 1
    obtain ⟨r', l', rfl⟩ : ∃ (r' : Fin 384) (l' : Fin 512), x = (ix2 r' l' : S384x512.Idx) := ⟨x 0, x 1, eq_ix2 x⟩
    change r.val = 768 + r'.val at h0
    change l.val = 0 + l'.val at h1
    obtain rfl : l' = l := Fin.ext (by omega)
    refine (pay5_apply _ _ r' l').trans ?_
    rw [ref2_apply _ _ _ _ _ _ _ r' _ _ (by omega)]
    unfold prod
    apply Finset.sum_congr rfl; intro k _
    dsimp only
    rw [iblk2_apply, iblk6_apply]
  · have h0 : r.val = 384 + (x 0).val := hx 0
    have h1 : l.val = 0 + (x 1).val := hx 1
    obtain ⟨r', l', rfl⟩ : ∃ (r' : Fin 384) (l' : Fin 512), x = (ix2 r' l' : S384x512.Idx) := ⟨x 0, x 1, eq_ix2 x⟩
    change r.val = 384 + r'.val at h0
    change l.val = 0 + l'.val at h1
    obtain rfl : l' = l := Fin.ext (by omega)
    refine (pay4_apply _ _ r' l').trans ?_
    rw [ref1_apply _ _ _ _ _ _ _ r' _ _ (by omega)]
    unfold prod
    apply Finset.sum_congr rfl; intro k _
    dsimp only
    rw [iblk1_apply, iblk6_apply]
  · have h0 : r.val = 0 + (x 0).val := hx 0
    have h1 : l.val = 0 + (x 1).val := hx 1
    obtain ⟨r', l', rfl⟩ : ∃ (r' : Fin 384) (l' : Fin 512), x = (ix2 r' l' : S384x512.Idx) := ⟨x 0, x 1, eq_ix2 x⟩
    change r.val = 0 + r'.val at h0
    change l.val = 0 + l'.val at h1
    obtain rfl : l' = l := Fin.ext (by omega)
    refine (pay3_apply _ _ r' l').trans ?_
    rw [ref0_apply _ _ _ _ _ _ _ r' _ _ (by omega)]
    unfold prod
    apply Finset.sum_congr rfl; intro k _
    dsimp only
    rw [iblk0_apply, iblk6_apply]

/-- Every element of the array is in some point's block. -/
theorem cover7 (i : S2176x1024.Idx) : ∃ t : Fin cfg0.N, (cfg0.win 7).flush t = true ∧ i ∈ ((cfg0.win 7).blk t).view.set := by
  obtain ⟨r, l, rfl⟩ : ∃ (r : Fin 2176) (l : Fin 1024), i = ix2 r l := ⟨i 0, i 1, eq_ix2 i⟩
  have hv := l.isLt
  refine ⟨(⟨l.val / 512, by show l.val / 512 < 2; omega⟩ : Fin cfg0.N), flush0_7 _, ?_⟩
  have h := ((cfg0.win 7).blk (⟨l.val / 512, by show l.val / 512 < 2; omega⟩ : Fin cfg0.N)).view.emb_mem_set (ix2 r ⟨l.val % 512, by omega⟩)
  rw [emb7] at h
  have e : ∀ p, (⟨l.val / 512 * 512 + l.val % 512, p⟩ : Fin 1024) = l := fun p => Fin.ext (by show l.val / 512 * 512 + l.val % 512 = l.val; omega)
  simpa only [e] using h

/-- The array of the gradient after the run is the reference's. -/
theorem final7 (c : Dev nD) : (dats m 0 c).arrAt 7 cfg0.N = val_main_v14 (F := Ideal) (A0 m c) (A1 m c) (A2 m c) (A3 m c) (A4 m c) (A5 m c) (A6 m c) :=
  (dats m 0 c).arrAt_eq_of_cover 7 _ (fun t _ => flushed7_eq m c t) cover7

end Cert.Proof.WIn
-- ==== Proof.WO.lean ====
module

public import proofs.«01_k».proof.Proof.Gen.WOBwdIdeal.Value
public import proofs.«01_k».proof.Proof.Gen.WORefIdeal.Read
public import Idealize.ShloMosaic.Lib.Pipeline.ValueKit
public import Idealize.ShloMosaic.Lib.Pointwise

@[expose] public section

set_option maxRecDepth 16384

noncomputable section

namespace Cert.Proof.WO

open Cert.WOBwdIdeal Cert.WOBwdIdeal.Gen Cert.WOBwdIdeal.Value Idealize.ShloMosaic Idealize.ShloMosaic.TcCoe Idealize.SL.Sem
open Idealize.ShloMosaic.Tactic
open Cert.WORefIdeal.Read (val_main_v9 val_main_v8 val_main_v7 val_main_v4 val_main_v3 val_main_v2 val_main_v1 val_main_v0)

variable (m : (ℓ : Loc nD τ sig) → Buf (Elt Ideal) ℓ) (ρ : Dev nD → PrngReg)
/-- The block that each window works on at a grid point, in blocks along each axis. -/
theorem idx : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ t.val < 1 :=
  (by decide +kernel : ∀ t : Fin grid0.N, _)

/-- One of the three mixers' outputs, the whole array. -/
theorem iblk0_apply (c : Dev nD) (t : Fin cfg0.N) (r : Fin 2048) (l : Fin 384) :
    iblk m c 0 t (ix2 r l) = m ((c : Thread nD τ).loc main_arg0) (ix2 r l) := by
  show V m c main_arg0 (((cfg0.win 0).blk t).view.emb (ix2 r l)) = _
  rw [V_main_arg0]
  obtain ⟨e0, e1, -⟩ := idx t
  congr 1; funext a; apply Fin.ext
  match a with
  | ⟨0, _⟩ => show win0_0.index t (0 : Fin 2) * 2048 + 1 * r.val = r.val; omega
  | ⟨1, _⟩ => show win0_0.index t (1 : Fin 2) * 384 + 1 * l.val = l.val; omega

/-- One of the three mixers' outputs, the whole array. -/
theorem iblk1_apply (c : Dev nD) (t : Fin cfg0.N) (r : Fin 2048) (l : Fin 256) :
    iblk m c 1 t (ix2 r l) = m ((c : Thread nD τ).loc main_arg1) (ix2 r l) := by
  show V m c main_arg1 (((cfg0.win 1).blk t).view.emb (ix2 r l)) = _
  rw [V_main_arg1]
  obtain ⟨-, -, e0, e1, -⟩ := idx t
  congr 1; funext a; apply Fin.ext
  match a with
  | ⟨0, _⟩ => show win0_1.index t (0 : Fin 2) * 2048 + 1 * r.val = r.val; omega
  | ⟨1, _⟩ => show win0_1.index t (1 : Fin 2) * 256 + 1 * l.val = l.val; omega

/-- One of the three mixers' outputs, the whole array. -/
theorem iblk2_apply (c : Dev nD) (t : Fin cfg0.N) (r : Fin 2048) (l : Fin 384) :
    iblk m c 2 t (ix2 r l) = m ((c : Thread nD τ).loc main_arg2) (ix2 r l) := by
  show V m c main_arg2 (((cfg0.win 2).blk t).view.emb (ix2 r l)) = _
  rw [V_main_arg2]
  obtain ⟨-, -, -, -, e0, e1, -⟩ := idx t
  congr 1; funext a; apply Fin.ext
  match a with
  | ⟨0, _⟩ => show win0_2.index t (0 : Fin 2) * 2048 + 1 * r.val = r.val; omega
  | ⟨1, _⟩ => show win0_2.index t (1 : Fin 2) * 384 + 1 * l.val = l.val; omega

/-- The right factor, the whole array. -/
theorem iblk3_apply (c : Dev nD) (t : Fin cfg0.N) (r : Fin 2048) (l : Fin 1024) :
    iblk m c 3 t (ix2 r l) = m ((c : Thread nD τ).loc main_arg3) (ix2 r l) := by
  show V m c main_arg3 (((cfg0.win 3).blk t).view.emb (ix2 r l)) = _
  rw [V_main_arg3]
  obtain ⟨-, -, -, -, -, -, e0, e1, -⟩ := idx t
  congr 1; funext a; apply Fin.ext
  match a with
  | ⟨0, _⟩ => show win0_3.index t (0 : Fin 2) * 2048 + 1 * r.val = r.val; omega
  | ⟨1, _⟩ => show win0_3.index t (1 : Fin 2) * 1024 + 1 * l.val = l.val; omega

/-- The block of rows of the result that belongs to one mixer: the product of its transpose with the right factor. -/
def prod {n w : ℕ} (x : Fin 2048 → Fin n → EReal) (y : Fin 2048 → Fin w → EReal) (r : Fin n) (l : Fin w) : EReal :=
  ∑ k : Fin 2048, x k r * y k l

/-- What the point stores for one mixer. -/
theorem pay1_apply (x : Vec Ideal S2048x384 .bf16) (y : Vec Ideal S2048x1024 .bf16) (r : Fin 384) (l : Fin 1024) :
    k0_pay1 (F := Ideal) x y (ix2 r l) = prod (fun k r => x (ix2 k r)) (fun k l => y (ix2 k l)) r l := by
  unfold k0_pay1; pointwise; unfold prod; rfl

/-- What the point stores for one mixer. -/
theorem pay2_apply (x : Vec Ideal S2048x256 .bf16) (y : Vec Ideal S2048x1024 .bf16) (r : Fin 256) (l : Fin 1024) :
    k0_pay2 (F := Ideal) x y (ix2 r l) = prod (fun k r => x (ix2 k r)) (fun k l => y (ix2 k l)) r l := by
  unfold k0_pay2; pointwise; unfold prod; rfl

/-- What the point stores for one mixer. -/
theorem pay3_apply (x : Vec Ideal S2048x384 .bf16) (y : Vec Ideal S2048x1024 .bf16) (r : Fin 384) (l : Fin 1024) :
    k0_pay3 (F := Ideal) x y (ix2 r l) = prod (fun k r => x (ix2 k r)) (fun k l => y (ix2 k l)) r l := by
  unfold k0_pay3; pointwise; unfold prod; rfl

/-- The reference's rows that belong to mixer 0. -/
theorem ref0_apply (x0 x2 : Vec Ideal S2048x384 .bf16) (x1 : Vec Ideal S2048x256 .bf16) (y : Vec Ideal S2048x1024 .bf16) (r : Fin 384) (l : Fin 1024)
    (R : Fin 1024) (hR : R.val = 0 + r.val) :
    val_main_v9 (F := Ideal) x0 x1 x2 y (ix2 R l) = prod (fun k r => x0 (ix2 k r)) (fun k l => y (ix2 k l)) r l := by
  unfold val_main_v9 val_main_v8 val_main_v7 val_main_v4 val_main_v3 val_main_v2 val_main_v1 val_main_v0; pointwise
  have hr := r.isLt
  apply Finset.sum_congr rfl; intro k _
  refine (mul_comm _ _).trans ?_
  refine congrArg (fun z : EReal => z * y (ix2 k l)) ?_
  refine (dif_pos (by omega)).trans ?_; exact congrArg (fun i => x0 (ix2 k i)) (Fin.ext (by dsimp only; omega))

/-- The reference's rows that belong to mixer 1. -/
theorem ref1_apply (x0 x2 : Vec Ideal S2048x384 .bf16) (x1 : Vec Ideal S2048x256 .bf16) (y : Vec Ideal S2048x1024 .bf16) (r : Fin 256) (l : Fin 1024)
    (R : Fin 1024) (hR : R.val = 384 + r.val) :
    val_main_v9 (F := Ideal) x0 x1 x2 y (ix2 R l) = prod (fun k r => x1 (ix2 k r)) (fun k l => y (ix2 k l)) r l := by
  unfold val_main_v9 val_main_v8 val_main_v7 val_main_v4 val_main_v3 val_main_v2 val_main_v1 val_main_v0; pointwise
  have hr := r.isLt
  apply Finset.sum_congr rfl; intro k _
  refine (mul_comm _ _).trans ?_
  refine congrArg (fun z : EReal => z * y (ix2 k l)) ?_
  refine (dif_neg (by omega)).trans ?_; refine (dif_pos (by omega)).trans ?_; exact congrArg (fun i => x1 (ix2 k i)) (Fin.ext (by dsimp only; omega))

/-- The reference's rows that belong to mixer 2. -/
theorem ref2_apply (x0 x2 : Vec Ideal S2048x384 .bf16) (x1 : Vec Ideal S2048x256 .bf16) (y : Vec Ideal S2048x1024 .bf16) (r : Fin 384) (l : Fin 1024)
    (R : Fin 1024) (hR : R.val = 640 + r.val) :
    val_main_v9 (F := Ideal) x0 x1 x2 y (ix2 R l) = prod (fun k r => x2 (ix2 k r)) (fun k l => y (ix2 k l)) r l := by
  unfold val_main_v9 val_main_v8 val_main_v7 val_main_v4 val_main_v3 val_main_v2 val_main_v1 val_main_v0; pointwise
  have hr := r.isLt
  apply Finset.sum_congr rfl; intro k _
  refine (mul_comm _ _).trans ?_
  refine congrArg (fun z : EReal => z * y (ix2 k l)) ?_
  refine (dif_neg (by omega)).trans ?_; refine (dif_neg (by omega)).trans ?_; exact congrArg (fun i => x2 (ix2 k i)) (Fin.ext (by dsimp only; omega))

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)

/-- Where an element of a block of the gradient lies in the array. -/
theorem emb4 (t : Fin cfg0.N) (r : Fin 1024) (l : Fin 1024) :
    ((cfg0.win 4).blk t).view.emb (ix2 r l) = (ix2 r l : S1024x1024.Idx) := by
  obtain ⟨-, -, -, -, -, -, -, -, e0, e1, -⟩ := idx t
  funext a; apply Fin.ext
  match a with
  | ⟨0, _⟩ => show win0_4.index t (0 : Fin 2) * 1024 + 1 * r.val = r.val; omega
  | ⟨1, _⟩ => show win0_4.index t (1 : Fin 2) * 1024 + 1 * l.val = l.val; omega

/-- No block sticks out of the array: a block is written back whole. -/
theorem cut4 (t : Fin cfg0.N) (X : Vec Ideal S1024x1024 .bf16) (j : S1024x1024.Idx) : (cfg0.win 4).cut (grid0.coords t) X j = X j := rfl

/-- What point `t` writes back of the gradient is that block of the reference's array. -/
theorem flushed4_eq (c : Dev nD) (t : Fin cfg0.N) :
    (dats m 0 c).flushed 4 t = ((cfg0.win 4).blk t).view.read (Elt Ideal) (val_main_v9 (F := Ideal) (A0 m c) (A1 m c) (A2 m c) (A3 m c)) := by
  rw [flushed4_A]
  frame_out
  funext j
  obtain ⟨r, l, rfl⟩ : ∃ (r : Fin 1024) (l : Fin 1024), j = ix2 r l := ⟨j 0, j 1, eq_ix2 j⟩
  refine Eq.trans ?_ (congrArg (val_main_v9 (F := Ideal) (A0 m c) (A1 m c) (A2 m c) (A3 m c)) (emb4 t r l)).symm
  refine View.canon_eq_of_allAt _ (ix2 r l) _ (View.cover_of_tiledBy _ ![128, 1024] (by sl_kernel_rfl) _) ?_
  refine View.allAt_cons_unit _ _ _ _ _ (fun x hx => ?_) (View.allAt_cons_unit _ _ _ _ _ (fun x hx => ?_) (View.allAt_cons_unit _ _ _ _ _ (fun x hx => ?_) (View.allAt_nil _ _)))
  · have h0 : r.val = 640 + (x 0).val := hx 0
    have h1 : l.val = 0 + (x 1).val := hx 1
    obtain ⟨r', l', rfl⟩ : ∃ (r' : Fin 384) (l' : Fin 1024), x = (ix2 r' l' : S384x1024.Idx) := ⟨x 0, x 1, eq_ix2 x⟩
    change r.val = 640 + r'.val at h0
    change l.val = 0 + l'.val at h1
    obtain rfl : l' = l := Fin.ext (by omega)
    refine (pay3_apply _ _ r' l').trans ?_
    rw [ref2_apply _ _ _ _ r' _ _ (by omega)]
    unfold prod
    apply Finset.sum_congr rfl; intro k _
    dsimp only
    rw [iblk2_apply, iblk3_apply]
  · have h0 : r.val = 384 + (x 0).val := hx 0
    have h1 : l.val = 0 + (x 1).val := hx 1
    obtain ⟨r', l', rfl⟩ : ∃ (r' : Fin 256) (l' : Fin 1024), x = (ix2 r' l' : S256x1024.Idx) := ⟨x 0, x 1, eq_ix2 x⟩
    change r.val = 384 + r'.val at h0
    change l.val = 0 + l'.val at h1
    obtain rfl : l' = l := Fin.ext (by omega)
    refine (pay2_apply _ _ r' l').trans ?_
    rw [ref1_apply _ _ _ _ r' _ _ (by omega)]
    unfold prod
    apply Finset.sum_congr rfl; intro k _
    dsimp only
    rw [iblk1_apply, iblk3_apply]
  · have h0 : r.val = 0 + (x 0).val := hx 0
    have h1 : l.val = 0 + (x 1).val := hx 1
    obtain ⟨r', l', rfl⟩ : ∃ (r' : Fin 384) (l' : Fin 1024), x = (ix2 r' l' : S384x1024.Idx) := ⟨x 0, x 1, eq_ix2 x⟩
    change r.val = 0 + r'.val at h0
    change l.val = 0 + l'.val at h1
    obtain rfl : l' = l := Fin.ext (by omega)
    refine (pay1_apply _ _ r' l').trans ?_
    rw [ref0_apply _ _ _ _ r' _ _ (by omega)]
    unfold prod
    apply Finset.sum_congr rfl; intro k _
    dsimp only
    rw [iblk0_apply, iblk3_apply]

/-- Every element of the array is in some point's block. -/
theorem cover4 (i : S1024x1024.Idx) : ∃ t : Fin cfg0.N, (cfg0.win 4).flush t = true ∧ i ∈ ((cfg0.win 4).blk t).view.set := by
  obtain ⟨r, l, rfl⟩ : ∃ (r : Fin 1024) (l : Fin 1024), i = ix2 r l := ⟨i 0, i 1, eq_ix2 i⟩
  have h := ((cfg0.win 4).blk (⟨0, by decide⟩ : Fin cfg0.N)).view.emb_mem_set (ix2 r l)
  rw [emb4] at h
  exact ⟨_, flush0_4 _, h⟩

/-- The array of the gradient after the run is the reference's. -/
theorem final4 (c : Dev nD) : (dats m 0 c).arrAt 4 cfg0.N = val_main_v9 (F := Ideal) (A0 m c) (A1 m c) (A2 m c) (A3 m c) :=
  (dats m 0 c).arrAt_eq_of_cover 4 _ (fun t _ => flushed4_eq m c t) cover4

end Cert.Proof.WO
-- ==== Proof.Dx.lean ====
module

public import proofs.«01_k».proof.Proof.Gen.DxBwdIdeal.Value
public import proofs.«01_k».proof.Proof.Gen.DxRefIdeal.Read
public import Idealize.ShloMosaic.Lib.Pipeline.ValueKit
public import Idealize.ShloMosaic.Lib.Pointwise

@[expose] public section

set_option maxRecDepth 16384

noncomputable section

namespace Cert.Proof.Dx

open Cert.DxBwdIdeal Cert.DxBwdIdeal.Gen Cert.DxBwdIdeal.Value Idealize.ShloMosaic Idealize.ShloMosaic.TcCoe Idealize.SL.Sem
open Idealize.ShloMosaic.Tactic
open Cert.DxRefIdeal.Read (val_main_v16 val_main_v15 val_main_v14 val_main_cst_1 val_main_v13 val_main_v8 val_main_v7 val_main_v6 val_main_v5 val_main_v4 val_main_v3 val_main_v2 val_main_v1 val_main_v0)

variable (m : (ℓ : Loc nD τ sig) → Buf (Elt Ideal) ℓ) (ρ : Dev nD → PrngReg)
/-- The block that each window works on at a grid point, in blocks along each axis. -/
theorem idx : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = 0
    ∧ win0_7.index t (1 : Fin 2) = 0
    ∧ win0_8.index t (0 : Fin 2) = t.val
    ∧ win0_8.index t (1 : Fin 2) = 0
    ∧ t.val < 4 :=
  (by decide +kernel : ∀ t : Fin grid0.N, _)

/-- The rows of one of the six gradients that the point works on. -/
theorem iblk0_apply (c : Dev nD) (t : Fin cfg0.N) (r : Fin 512) (l : Fin 384) :
    iblk m c 0 t (ix2 r l) = m ((c : Thread nD τ).loc main_arg1) (ix2 ⟨t.val * 512 + r.val, by have := (idx t).2.2.2.2.2.2.2.2.2.2.2.2.2.2.2.2.2.2; omega⟩ l) := by
  show V m c main_arg1 (((cfg0.win 0).blk t).view.emb (ix2 r l)) = _
  rw [V_main_arg1]
  obtain ⟨e0, e1, -⟩ := idx t
  congr 1; funext a; apply Fin.ext
  match a with
  | ⟨0, _⟩ => show win0_0.index t (0 : Fin 2) * 512 + 1 * r.val = t.val * 512 + r.val; omega
  | ⟨1, _⟩ => show win0_0.index t (1 : Fin 2) * 384 + 1 * l.val = l.val; omega

/-- The rows of one of the six gradients that the point works on. -/
theorem iblk1_apply (c : Dev nD) (t : Fin cfg0.N) (r : Fin 512) (l : Fin 384) :
    iblk m c 1 t (ix2 r l) = m ((c : Thread nD τ).loc main_arg2) (ix2 ⟨t.val * 512 + r.val, by have := (idx t).2.2.2.2.2.2.2.2.2.2.2.2.2.2.2.2.2.2; omega⟩ l) := by
  show V m c main_arg2 (((cfg0.win 1).blk t).view.emb (ix2 r l)) = _
  rw [V_main_arg2]
  obtain ⟨-, -, e0, e1, -⟩ := idx t
  congr 1; funext a; apply Fin.ext
  match a with
  | ⟨0, _⟩ => show win0_1.index t (0 : Fin 2) * 512 + 1 * r.val = t.val * 512 + r.val; omega
  | ⟨1, _⟩ => show win0_1.index t (1 : Fin 2) * 384 + 1 * l.val = l.val; omega

/-- The rows of one of the six gradients that the point works on. -/
theorem iblk2_apply (c : Dev nD) (t : Fin cfg0.N) (r : Fin 512) (l : Fin 384) :
    iblk m c 2 t (ix2 r l) = m ((c : Thread nD τ).loc main_arg3) (ix2 ⟨t.val * 512 + r.val, by have := (idx t).2.2.2.2.2.2.2.2.2.2.2.2.2.2.2.2.2.2; omega⟩ l) := by
  show V m c main_arg3 (((cfg0.win 2).blk t).view.emb (ix2 r l)) = _
  rw [V_main_arg3]
  obtain ⟨-, -, -, -, e0, e1, -⟩ := idx t
  congr 1; funext a; apply Fin.ext
  match a with
  | ⟨0, _⟩ => show win0_2.index t (0 : Fin 2) * 512 + 1 * r.val = t.val * 512 + r.val; omega
  | ⟨1, _⟩ => show win0_2.index t (1 : Fin 2) * 384 + 1 * l.val = l.val; omega

/-- The rows of one of the six gradients that the point works on. -/
theorem iblk3_apply (c : Dev nD) (t : Fin cfg0.N) (r : Fin 512) (l : Fin 256) :
    iblk m c 3 t (ix2 r l) = m ((c : Thread nD τ).loc main_arg4) (ix2 ⟨t.val * 512 + r.val, by have := (idx t).2.2.2.2.2.2.2.2.2.2.2.2.2.2.2.2.2.2; omega⟩ l) := by
  show V m c main_arg4 (((cfg0.win 3).blk t).view.emb (ix2 r l)) = _
  rw [V_main_arg4]
  obtain ⟨-, -, -, -, -, -, e0, e1, -⟩ := idx t
  congr 1; funext a; apply Fin.ext
  match a with
  | ⟨0, _⟩ => show win0_3.index t (0 : Fin 2) * 512 + 1 * r.val = t.val * 512 + r.val; omega
  | ⟨1, _⟩ => show win0_3.index t (1 : Fin 2) * 256 + 1 * l.val = l.val; omega

/-- The rows of one of the six gradients that the point works on. -/
theorem iblk4_apply (c : Dev nD) (t : Fin cfg0.N) (r : Fin 512) (l : Fin 384) :
    iblk m c 4 t (ix2 r l) = m ((c : Thread nD τ).loc main_arg5) (ix2 ⟨t.val * 512 + r.val, by have := (idx t).2.2.2.2.2.2.2.2.2.2.2.2.2.2.2.2.2.2; omega⟩ l) := by
  show V m c main_arg5 (((cfg0.win 4).blk t).view.emb (ix2 r l)) = _
  rw [V_main_arg5]
  obtain ⟨-, -, -, -, -, -, -, -, e0, e1, -⟩ := idx t
  congr 1; funext a; apply Fin.ext
  match a with
  | ⟨0, _⟩ => show win0_4.index t (0 : Fin 2) * 512 + 1 * r.val = t.val * 512 + r.val; omega
  | ⟨1, _⟩ => show win0_4.index t (1 : Fin 2) * 384 + 1 * l.val = l.val; omega

/-- The rows of one of the six gradients that the point works on. -/
theorem iblk5_apply (c : Dev nD) (t : Fin cfg0.N) (r : Fin 512) (l : Fin 384) :
    iblk m c 5 t (ix2 r l) = m ((c : Thread nD τ).loc main_arg6) (ix2 ⟨t.val * 512 + r.val, by have := (idx t).2.2.2.2.2.2.2.2.2.2.2.2.2.2.2.2.2.2; omega⟩ l) := by
  show V m c main_arg6 (((cfg0.win 5).blk t).view.emb (ix2 r l)) = _
  rw [V_main_arg6]
  obtain ⟨-, -, -, -, -, -, -, -, -, -, e0, e1, -⟩ := idx t
  congr 1; funext a; apply Fin.ext
  match a with
  | ⟨0, _⟩ => show win0_5.index t (0 : Fin 2) * 512 + 1 * r.val = t.val * 512 + r.val; omega
  | ⟨1, _⟩ => show win0_5.index t (1 : Fin 2) * 384 + 1 * l.val = l.val; omega

/-- The rows of the residual's gradient that the point works on. -/
theorem iblk6_apply (c : Dev nD) (t : Fin cfg0.N) (r : Fin 512) (l : Fin 1024) :
    iblk m c 6 t (ix2 r l) = m ((c : Thread nD τ).loc main_arg0) (ix2 ⟨t.val * 512 + r.val, by have := (idx t).2.2.2.2.2.2.2.2.2.2.2.2.2.2.2.2.2.2; omega⟩ l) := by
  show V m c main_arg0 (((cfg0.win 6).blk t).view.emb (ix2 r l)) = _
  rw [V_main_arg0]
  obtain ⟨-, -, -, -, -, -, -, -, -, -, -, -, e0, e1, -⟩ := idx t
  congr 1; funext a; apply Fin.ext
  match a with
  | ⟨0, _⟩ => show win0_6.index t (0 : Fin 2) * 512 + 1 * r.val = t.val * 512 + r.val; omega
  | ⟨1, _⟩ => show win0_6.index t (1 : Fin 2) * 1024 + 1 * l.val = l.val; omega

/-- The weights, the same whole array at every point. -/
theorem iblk7_apply (c : Dev nD) (t : Fin cfg0.N) (r : Fin 2176) (l : Fin 1024) :
    iblk m c 7 t (ix2 r l) = m ((c : Thread nD τ).loc main_arg7) (ix2 r l) := by
  show V m c main_arg7 (((cfg0.win 7).blk t).view.emb (ix2 r l)) = _
  rw [V_main_arg7]
  obtain ⟨-, -, -, -, -, -, -, -, -, -, -, -, -, -, e0, e1, -⟩ := idx t
  congr 1; funext a; apply Fin.ext
  match a with
  | ⟨0, _⟩ => show win0_7.index t (0 : Fin 2) * 2176 + 1 * r.val = r.val; omega
  | ⟨1, _⟩ => show win0_7.index t (1 : Fin 2) * 1024 + 1 * l.val = l.val; omega

/-- One gradient's part: its rows times its rows of the weights. -/
def part {n : ℕ} (x : Fin n → EReal) (y : Fin n → EReal) : EReal := ∑ k : Fin n, x k * y k

/-- A sum over a range of numbers is the sum over its first part and over the rest. -/
theorem sum_cut (a b : ℕ) (f : ℕ → EReal) : ∑ i ∈ Finset.range (a + b), f i = ∑ i : Fin a, f i.val + ∑ i ∈ Finset.range b, f (a + i) := by
  rw [Finset.sum_range_add, Finset.sum_range]

/-- The sum over the 2176 columns, cut where one gradient ends and the next begins. -/
theorem sum_parts (f : Fin 2176 → EReal) : ∑ i, f i =
    ∑ i : Fin 384, f ⟨i.val, by omega⟩ + (∑ i : Fin 384, f ⟨384 + i.val, by omega⟩ + (∑ i : Fin 384, f ⟨768 + i.val, by omega⟩
      + (∑ i : Fin 256, f ⟨1152 + i.val, by omega⟩ + (∑ i : Fin 384, f ⟨1408 + i.val, by omega⟩ + ∑ i : Fin 384, f ⟨1792 + i.val, by omega⟩)))) := by
  have e : ∀ i : Fin 2176, f i = (fun n : ℕ => if h : n < 2176 then f ⟨n, h⟩ else 0) i.val := fun i => by simp only [i.isLt, dif_pos]
  generalize (fun n : ℕ => if h : n < 2176 then f ⟨n, h⟩ else 0) = g at e
  simp only [e]
  rw [← Finset.sum_range, sum_cut 384 1792, sum_cut 384 1408, sum_cut 384 1024, sum_cut 256 768, sum_cut 384 384, Finset.sum_range]
  simp only [← add_assoc, Nat.reduceAdd]

/-- What a point stores: the residual's gradient times the residual's weight, and the six parts. -/
theorem pay_apply (v0 : Vec Ideal S512x1024 .f32) (v3 : Vec Ideal S512x384 .bf16) (v4 : Vec Ideal S384x1024 .bf16) (v7 : Vec Ideal S512x384 .bf16) (v8 : Vec Ideal S384x1024 .bf16)
    (v11 : Vec Ideal S512x384 .bf16) (v12 : Vec Ideal S384x1024 .bf16) (v15 : Vec Ideal S512x256 .bf16) (v16 : Vec Ideal S256x1024 .bf16) (v19 : Vec Ideal S512x384 .bf16) (v20 : Vec Ideal S384x1024 .bf16)
    (v23 : Vec Ideal S512x384 .bf16) (v24 : Vec Ideal S384x1024 .bf16) (r : Fin 512) (l : Fin 1024) :
    k0_pay1 (F := Ideal) (k0_pay2 v0 v3 v4 v7 v8 v11 v12 v15 v16 v19 v20) (k0_pay3 v23 v24) (ix2 r l)
      = HMul.hMul (α := EReal) (β := EReal) (γ := EReal) (Ideal.ofBits FTy.f32 1071072509#32) (v0 (ix2 r l))
        + part (fun k => v3 (ix2 r k)) (fun k => v4 (ix2 k l)) + part (fun k => v7 (ix2 r k)) (fun k => v8 (ix2 k l))
        + part (fun k => v11 (ix2 r k)) (fun k => v12 (ix2 k l)) + part (fun k => v15 (ix2 r k)) (fun k => v16 (ix2 k l))
        + part (fun k => v19 (ix2 r k)) (fun k => v20 (ix2 k l)) + part (fun k => v23 (ix2 r k)) (fun k => v24 (ix2 k l)) := by
  unfold k0_pay1 k0_pay2 k0_pay3; pointwise; rfl

/-- The reference's array, with the product over the 2176 columns cut into the six parts. -/
theorem ref_apply (x0 : Vec Ideal S2048x1024 .f32) (x1 x2 x3 x5 x6 : Vec Ideal S2048x384 .bf16) (x4 : Vec Ideal S2048x256 .bf16) (y : Vec Ideal S2176x1024 .bf16) (r : Fin 2048) (l : Fin 1024) :
    val_main_v16 (F := Ideal) x0 x1 x2 x3 x4 x5 x6 y (ix2 r l)
      = HMul.hMul (α := EReal) (β := EReal) (γ := EReal) (Ideal.ofBits FTy.f32 1071072509#32) (x0 (ix2 r l))
        + part (fun k : Fin 384 => x1 (ix2 r k)) (fun k => y (ix2 ⟨k.val, by omega⟩ l))
        + part (fun k : Fin 384 => x2 (ix2 r k)) (fun k => y (ix2 ⟨384 + k.val, by omega⟩ l))
        + part (fun k : Fin 384 => x3 (ix2 r k)) (fun k => y (ix2 ⟨768 + k.val, by omega⟩ l))
        + part (fun k : Fin 256 => x4 (ix2 r k)) (fun k => y (ix2 ⟨1152 + k.val, by omega⟩ l))
        + part (fun k : Fin 384 => x5 (ix2 r k)) (fun k => y (ix2 ⟨1408 + k.val, by omega⟩ l))
        + part (fun k : Fin 384 => x6 (ix2 r k)) (fun k => y (ix2 ⟨1792 + k.val, by omega⟩ l)) := by
  unfold val_main_v16 val_main_v15 val_main_v14 val_main_cst_1 val_main_v13 val_main_v8 val_main_v7 val_main_v6 val_main_v5 val_main_v4 val_main_v3 val_main_v2 val_main_v1 val_main_v0; pointwise
  rw [sum_parts, add_comm]
  simp only [← add_assoc]
  unfold part
  refine congrArg₂ (HAdd.hAdd (α := EReal) (β := EReal) (γ := EReal)) (congrArg₂ (HAdd.hAdd (α := EReal) (β := EReal) (γ := EReal)) (congrArg₂ (HAdd.hAdd (α := EReal) (β := EReal) (γ := EReal)) (congrArg₂ (HAdd.hAdd (α := EReal) (β := EReal) (γ := EReal)) (congrArg₂ (HAdd.hAdd (α := EReal) (β := EReal) (γ := EReal)) (congrArg₂ (HAdd.hAdd (α := EReal) (β := EReal) (γ := EReal)) (rfl) ?_) ?_) ?_) ?_) ?_) ?_
  · apply Finset.sum_congr rfl; intro k _
    have hk := k.isLt
    refine congrArg (fun z : EReal => z * y (ix2 ⟨k.val, by omega⟩ l)) ?_
    refine (dif_pos (by omega)).trans ?_; exact congrArg (fun i => x1 (ix2 r i)) (Fin.ext (by first | rfl | (dsimp only; omega)))
  · apply Finset.sum_congr rfl; intro k _
    have hk := k.isLt
    refine congrArg (fun z : EReal => z * y (ix2 ⟨384 + k.val, by omega⟩ l)) ?_
    refine (dif_neg (by omega)).trans ?_; refine (dif_pos (by omega)).trans ?_; exact congrArg (fun i => x2 (ix2 r i)) (Fin.ext (by first | rfl | (dsimp only; omega)))
  · apply Finset.sum_congr rfl; intro k _
    have hk := k.isLt
    refine congrArg (fun z : EReal => z * y (ix2 ⟨768 + k.val, by omega⟩ l)) ?_
    refine (dif_neg (by omega)).trans ?_; refine (dif_neg (by omega)).trans ?_; refine (dif_pos (by omega)).trans ?_; exact congrArg (fun i => x3 (ix2 r i)) (Fin.ext (by first | rfl | (dsimp only; omega)))
  · apply Finset.sum_congr rfl; intro k _
    have hk := k.isLt
    refine congrArg (fun z : EReal => z * y (ix2 ⟨1152 + k.val, by omega⟩ l)) ?_
    refine (dif_neg (by omega)).trans ?_; refine (dif_neg (by omega)).trans ?_; refine (dif_neg (by omega)).trans ?_; refine (dif_pos (by omega)).trans ?_; exact congrArg (fun i => x4 (ix2 r i)) (Fin.ext (by first | rfl | (dsimp only; omega)))
  · apply Finset.sum_congr rfl; intro k _
    have hk := k.isLt
    refine congrArg (fun z : EReal => z * y (ix2 ⟨1408 + k.val, by omega⟩ l)) ?_
    refine (dif_neg (by omega)).trans ?_; refine (dif_neg (by omega)).trans ?_; refine (dif_neg (by omega)).trans ?_; refine (dif_neg (by omega)).trans ?_; refine (dif_pos (by omega)).trans ?_; exact congrArg (fun i => x5 (ix2 r i)) (Fin.ext (by first | rfl | (dsimp only; omega)))
  · apply Finset.sum_congr rfl; intro k _
    have hk := k.isLt
    refine congrArg (fun z : EReal => z * y (ix2 ⟨1792 + k.val, by omega⟩ l)) ?_
    refine (dif_neg (by omega)).trans ?_; refine (dif_neg (by omega)).trans ?_; refine (dif_neg (by omega)).trans ?_; refine (dif_neg (by omega)).trans ?_; refine (dif_neg (by omega)).trans ?_; exact congrArg (fun i => x6 (ix2 r i)) (Fin.ext (by first | rfl | (dsimp only; omega)))

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)

/-- A load of some rows of the weights, read at an index. -/
theorem ld_rows (n o : ℕ) (ho : o + n ≤ 2176) (inb) (X : Vec Ideal S2176x1024 .bf16) (k : Fin n) (l : Fin 1024) :
    View.ld (Val := Elt Ideal) (e' := .bf16) X (Rect.unit (s := S2176x1024) ![o, 0] ![n, 1024] inb) (ix2 k l) = X (ix2 ⟨o + k.val, by omega⟩ l) :=
  congrArg X (funext fun a => Fin.ext (by
    match a with
    | ⟨0, _⟩ => show o + 1 * k.val = o + k.val; omega
    | ⟨1, _⟩ => show 0 + 1 * l.val = l.val; omega))

/-- Where an element of a block of the gradient lies in the array. -/
theorem emb8 (t : Fin cfg0.N) (r : Fin 512) (l : Fin 1024) :
    ((cfg0.win 8).blk t).view.emb (ix2 r l) = (ix2 ⟨t.val * 512 + r.val, by have := (idx t).2.2.2.2.2.2.2.2.2.2.2.2.2.2.2.2.2.2; omega⟩ l : S2048x1024.Idx) := by
  obtain ⟨-, -, -, -, -, -, -, -, -, -, -, -, -, -, -, -, e0, e1, -⟩ := idx t
  funext a; apply Fin.ext
  match a with
  | ⟨0, _⟩ => show win0_8.index t (0 : Fin 2) * 512 + 1 * r.val = t.val * 512 + r.val; omega
  | ⟨1, _⟩ => show win0_8.index t (1 : Fin 2) * 1024 + 1 * l.val = l.val; omega

/-- No block sticks out of the array: a block is written back whole. -/
theorem cut8 (t : Fin cfg0.N) (X : Vec Ideal S512x1024 .f32) (j : S512x1024.Idx) : (cfg0.win 8).cut (grid0.coords t) X j = X j := rfl

/-- What point `t` writes back of the gradient is that block of the reference's array. -/
theorem flushed8_eq (c : Dev nD) (t : Fin cfg0.N) :
    (dats m 0 c).flushed 8 t = ((cfg0.win 8).blk t).view.read (Elt Ideal) (val_main_v16 (F := Ideal) (A0 m c) (A1 m c) (A2 m c) (A3 m c) (A4 m c) (A5 m c) (A6 m c) (A7 m c)) := by
  rw [flushed8_A]
  frame_out
  funext j
  obtain ⟨r, l, rfl⟩ : ∃ (r : Fin 512) (l : Fin 1024), j = ix2 r l := ⟨j 0, j 1, eq_ix2 j⟩
  refine Eq.trans ?_ (congrArg (val_main_v16 (F := Ideal) (A0 m c) (A1 m c) (A2 m c) (A3 m c) (A4 m c) (A5 m c) (A6 m c) (A7 m c)) (emb8 t r l)).symm
  refine (cut8 t _ _).trans ?_
  refine (pay_apply _ _ _ _ _ _ _ _ _ _ _ _ _ r l).trans ?_
  rw [ref_apply]
  refine congrArg₂ (HAdd.hAdd (α := EReal) (β := EReal) (γ := EReal)) (congrArg₂ (HAdd.hAdd (α := EReal) (β := EReal) (γ := EReal)) (congrArg₂ (HAdd.hAdd (α := EReal) (β := EReal) (γ := EReal)) (congrArg₂ (HAdd.hAdd (α := EReal) (β := EReal) (γ := EReal)) (congrArg₂ (HAdd.hAdd (α := EReal) (β := EReal) (γ := EReal)) (congrArg₂ (HAdd.hAdd (α := EReal) (β := EReal) (γ := EReal)) (?_) ?_) ?_) ?_) ?_) ?_) ?_
  · rw [iblk6_apply]
  · refine congrArg₂ part (funext fun k => ?_) (funext fun k => ?_)
    · rw [iblk0_apply]
    · refine (ld_rows 384 0 (by decide) _ _ k l).trans ?_
      rw [iblk7_apply]; simp only [Nat.zero_add]
  · refine congrArg₂ part (funext fun k => ?_) (funext fun k => ?_)
    · rw [iblk1_apply]
    · refine (ld_rows 384 384 (by decide) _ _ k l).trans ?_
      rw [iblk7_apply]
  · refine congrArg₂ part (funext fun k => ?_) (funext fun k => ?_)
    · rw [iblk2_apply]
    · refine (ld_rows 384 768 (by decide) _ _ k l).trans ?_
      rw [iblk7_apply]
  · refine congrArg₂ part (funext fun k => ?_) (funext fun k => ?_)
    · rw [iblk3_apply]
    · refine (ld_rows 256 1152 (by decide) _ _ k l).trans ?_
      rw [iblk7_apply]
  · refine congrArg₂ part (funext fun k => ?_) (funext fun k => ?_)
    · rw [iblk4_apply]
    · refine (ld_rows 384 1408 (by decide) _ _ k l).trans ?_
      rw [iblk7_apply]
  · refine congrArg₂ part (funext fun k => ?_) (funext fun k => ?_)
    · rw [iblk5_apply]
    · refine (ld_rows 384 1792 (by decide) _ _ k l).trans ?_
      rw [iblk7_apply]

/-- Every element of the array is in some point's block. -/
theorem cover8 (i : S2048x1024.Idx) : ∃ t : Fin cfg0.N, (cfg0.win 8).flush t = true ∧ i ∈ ((cfg0.win 8).blk t).view.set := by
  obtain ⟨r, l, rfl⟩ : ∃ (r : Fin 2048) (l : Fin 1024), i = ix2 r l := ⟨i 0, i 1, eq_ix2 i⟩
  have hv := r.isLt
  refine ⟨(⟨r.val / 512, by show r.val / 512 < 4; omega⟩ : Fin cfg0.N), flush0_8 _, ?_⟩
  have h := ((cfg0.win 8).blk (⟨r.val / 512, by show r.val / 512 < 4; omega⟩ : Fin cfg0.N)).view.emb_mem_set (ix2 ⟨r.val % 512, by omega⟩ l)
  rw [emb8] at h
  have e : ∀ p, (⟨r.val / 512 * 512 + r.val % 512, p⟩ : Fin 2048) = r := fun p => Fin.ext (by show r.val / 512 * 512 + r.val % 512 = r.val; omega)
  simpa only [e] using h

/-- The array of the gradient after the run is the reference's. -/
theorem final8 (c : Dev nD) : (dats m 0 c).arrAt 8 cfg0.N = val_main_v16 (F := Ideal) (A0 m c) (A1 m c) (A2 m c) (A3 m c) (A4 m c) (A5 m c) (A6 m c) (A7 m c) :=
  (dats m 0 c).arrAt_eq_of_cover 8 _ (fun t _ => flushed8_eq m c t) cover8

end Cert.Proof.Dx
-- ==== Proof.MlpHost.lean ====
module

public import proofs.«01_k».proof.Proof.Gen.MlpBwdIdeal.Frame.Runs
public import proofs.«01_k».proof.Proof.Gen.MlpRefIdeal.Read
public import Idealize.ShloMosaic.Lib.StableHlo.Run

@[expose] public section
set_option maxRecDepth 16384
noncomputable section

namespace Cert.Proof.MlpHost

open Cert.MlpBwdIdeal Cert.MlpBwdIdeal.Gen Idealize.ShloMosaic Idealize.ShloMosaic.TcCoe Idealize.SL.Sem
open Idealize.ShloMosaic.StableHlo Idealize.ShloMosaic.Tactic

variable {F : FTy → Type} [FloatOps F]
variable (m : (ℓ : Loc nD τ sig) → Buf (Elt F) ℓ)

/-- The mixers' output. -/
abbrev A0 (c : Dev nD) := m ((c : Thread nD τ).loc main_arg0)
/-- The residual input. -/
abbrev A1 (c : Dev nD) := m ((c : Thread nD τ).loc main_arg1)
/-- The output projection. -/
abbrev A2 (c : Dev nD) := m ((c : Thread nD τ).loc main_arg2)
/-- The first scale. -/
abbrev A3 (c : Dev nD) := m ((c : Thread nD τ).loc main_arg3)
/-- The first shift. -/
abbrev A4 (c : Dev nD) := m ((c : Thread nD τ).loc main_arg4)
/-- The gate and value projection. -/
abbrev A5 (c : Dev nD) := m ((c : Thread nD τ).loc main_arg5)
/-- The down projection. -/
abbrev A6 (c : Dev nD) := m ((c : Thread nD τ).loc main_arg6)
/-- The second scale. -/
abbrev A7 (c : Dev nD) := m ((c : Thread nD τ).loc main_arg7)
/-- The gradient of the output. -/
abbrev A8 (c : Dev nD) := m ((c : Thread nD τ).loc main_arg8)

set_option maxHeartbeats 4000000 in
/-- The reciprocal deviation of the first layer norm is the reference's. -/
theorem V_rstd1 (c : Dev nD) : V m c main_v17 = Cert.MlpRefIdeal.Read.val_main_v21 (F := F) (A0 m c) (A1 m c) (A2 m c) := by
  show StableHlo.after hostOps0 _ _ = _
  unfold hostOps0
  after_results_simp
  rfl

set_option maxHeartbeats 4000000 in
/-- The normalised rows of the first layer norm are the reference's. -/
theorem V_xhat1 (c : Dev nD) : V m c main_v21 = Cert.MlpRefIdeal.Read.val_main_v26 (F := F) (A0 m c) (A1 m c) (A2 m c) := by
  show StableHlo.after hostOps0 _ _ = _
  unfold hostOps0
  after_results_simp
  rfl

set_option maxHeartbeats 4000000 in
/-- The gates and the values are the reference's. -/
theorem V_gu (c : Dev nD) : V m c main_v28 = Cert.MlpRefIdeal.Read.val_main_v33 (F := F) (A0 m c) (A1 m c) (A2 m c) (A3 m c) (A4 m c) (A5 m c) := by
  show StableHlo.after hostOps0 _ _ = _
  unfold hostOps0
  after_results_simp
  rfl

set_option maxHeartbeats 4000000 in
/-- The reciprocal deviation of the second layer norm is the reference's. -/
theorem V_rstd2 (c : Dev nD) : V m c main_v57 = Cert.MlpRefIdeal.Read.val_main_v60 (F := F) (A0 m c) (A1 m c) (A2 m c) (A3 m c) (A4 m c) (A5 m c) (A6 m c) := by
  show StableHlo.after hostOps0 _ _ = _
  unfold hostOps0
  after_results_simp
  rfl

set_option maxHeartbeats 4000000 in
/-- The normalised rows of the second layer norm are the reference's. -/
theorem V_xhat2 (c : Dev nD) : V m c main_v61 = Cert.MlpRefIdeal.Read.val_main_v65 (F := F) (A0 m c) (A1 m c) (A2 m c) (A3 m c) (A4 m c) (A5 m c) (A6 m c) := by
  show StableHlo.after hostOps0 _ _ = _
  unfold hostOps0
  after_results_simp
  rfl

/-- The scale of the second layer norm as a row. -/
theorem V_g2 (c : Dev nD) : V m c main_v62 = broadcastInDim S1x1024 ![1] bcast_S1024_S1x1024_1 (A7 m c) := by
  show StableHlo.after hostOps0 _ _ = _
  unfold hostOps0
  after_results_simp

/-- The gate and value projection as the kernel receives it. -/
theorem V_wgu (c : Dev nD) : V m c main_v63 = truncf FTy.bf16 (A5 m c) bitsLt_bf16_f32 := by
  show StableHlo.after hostOps0 _ _ = _
  unfold hostOps0
  after_results_simp

/-- The down projection as the kernel receives it. -/
theorem V_wd (c : Dev nD) : V m c main_v64 = truncf FTy.bf16 (A6 m c) bitsLt_bf16_f32 := by
  show StableHlo.after hostOps0 _ _ = _
  unfold hostOps0
  after_results_simp

/-- The scale of the first layer norm as a row. -/
theorem V_g1 (c : Dev nD) : V m c main_v65 = broadcastInDim S1x1024 ![1] bcast_S1024_S1x1024_1 (A3 m c) := by
  show StableHlo.after hostOps0 _ _ = _
  unfold hostOps0
  after_results_simp

/-- The output projection as the kernel receives it. -/
theorem V_wo (c : Dev nD) : V m c main_v66 = truncf FTy.bf16 (A2 m c) bitsLt_bf16_f32 := by
  show StableHlo.after hostOps0 _ _ = _
  unfold hostOps0
  after_results_simp

end Cert.Proof.MlpHost
end
-- ==== Proof.RealMath.lean ====
module

public import Idealize.ShloMosaic.Lib.IdealHost

@[expose] public section

noncomputable section

namespace Cert.Proof.RealMath

open Idealize.ShloMosaic

/-- An extended real that is a real number. -/
def IsR (x : EReal) : Prop := ∃ r : ℝ, x = (r : EReal)

/-- An extended real other than the two infinities is a real number. -/
theorem isR_of_ne {x : EReal} (h : x ≠ ⊤) (h' : x ≠ ⊥) : IsR x := ⟨x.toReal, (EReal.coe_toReal h h').symm⟩
/-- A real number is a real number. -/
theorem isR_coe (r : ℝ) : IsR (r : EReal) := ⟨r, rfl⟩
/-- A sum of two real numbers is a real number. -/
theorem IsR.add {x y : EReal} (hx : IsR x) (hy : IsR y) : IsR (x + y) := by
  obtain ⟨a, rfl⟩ := hx; obtain ⟨b, rfl⟩ := hy; exact ⟨a + b, (EReal.coe_add a b).symm⟩
/-- A difference of two real numbers is a real number. -/
theorem IsR.sub {x y : EReal} (hx : IsR x) (hy : IsR y) : IsR (x - y) := by
  obtain ⟨a, rfl⟩ := hx; obtain ⟨b, rfl⟩ := hy; exact ⟨a - b, (EReal.coe_sub a b).symm⟩
/-- A product of two real numbers is a real number. -/
theorem IsR.mul {x y : EReal} (hx : IsR x) (hy : IsR y) : IsR (x * y) := by
  obtain ⟨a, rfl⟩ := hx; obtain ⟨b, rfl⟩ := hy; exact ⟨a * b, (EReal.coe_mul a b).symm⟩

/-- A finite sum of real numbers, taken among the extended reals, is the sum of the reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real numbers is a real number. -/
theorem isR_sum {ι : Type} (s : Finset ι) (f : ι → EReal) (h : ∀ i, IsR (f i)) : IsR (∑ i ∈ s, f i) := by
  choose g hg using h
  exact ⟨∑ i ∈ s, g i, by rw [← coe_sum]; exact Finset.sum_congr rfl fun i _ => hg i⟩

/-- The quotient of two reals, the divisor not zero. -/
theorem div_coe_coe (a b : ℝ) (h : b ≠ 0) : Ideal.div (a : EReal) (b : EReal) = ((a / b : ℝ) : EReal) := by
  rw [Ideal.div_coe h, ← EReal.coe_mul]; congr 1; ring

/-- The f32 constant 1024. -/
theorem c1024 : Ideal.ofBits .f32 1149239296#32 = ((1024 : ℝ) : EReal) := by
  simp [Ideal.ofBits, Ideal.ieee, -EReal.coe_mul, -EReal.coe_neg]; norm_num
/-- The f32 constant minus one half. -/
theorem cneghalf : Ideal.ofBits .f32 3204448256#32 = ((-(1 / 2) : ℝ) : EReal) := by
  simp [Ideal.ofBits, Ideal.ieee, -EReal.coe_mul, -EReal.coe_neg]; norm_num
/-- The f32 constant two. -/
theorem c2 : Ideal.ofBits .f32 1073741824#32 = ((2 : ℝ) : EReal) := by
  simp [Ideal.ofBits, Ideal.ieee, -EReal.coe_mul, -EReal.coe_neg]; norm_num
/-- The f32 constant one. -/
theorem c1 : Ideal.ofBits .f32 1065353216#32 = ((1 : ℝ) : EReal) := by
  rw [show (1065353216#32 : BitVec 32) = 0x3F800000#32 from rfl, Ideal.ofBits_one_f32, EReal.coe_one]
/-- The layer norm's epsilon is a positive real. -/
theorem ceps : ∃ e : ℝ, 0 < e ∧ Ideal.ofBits .f32 925353388#32 = (e : EReal) := by
  refine ⟨_, ?_, by simp only [Ideal.ofBits, Ideal.ieee]; rfl⟩
  simp
/-- The deep-norm factor is a real. -/
theorem calpha : IsR (Ideal.ofBits .f32 1071072509#32) := by
  refine ⟨_, by simp only [Ideal.ofBits, Ideal.ieee]; rfl⟩

/-- The reciprocal square root of a positive real. -/
theorem rsqrt_pos (d : ℝ) (h : 0 < d) : Ideal.rsqrt (d : EReal) = (((Real.sqrt d)⁻¹ : ℝ) : EReal) := by
  rw [Ideal.rsqrt_coe, if_neg (not_lt.mpr h.le), if_neg h.ne']

/-- The logistic function of a real. -/
theorem logistic_coe (x : ℝ) : Ideal.div 1 (1 + Ideal.exp (-(x : EReal))) = ((1 / (1 + Real.exp (-x)) : ℝ) : EReal) := by
  have h : (1 : ℝ) + Real.exp (-x) ≠ 0 := by positivity
  rw [← EReal.coe_neg, Ideal.exp_coe, ← EReal.coe_one, ← EReal.coe_add, div_coe_coe _ _ h]

/-- The statistics of a row of reals: the deviations from the mean are reals that sum to zero, the variance with the
epsilon added is a positive real, and its reciprocal square root is the real one. -/
theorem stats (z : Fin 1024 → EReal) (hz : ∀ j, IsR (z j)) (c e : EReal) (hc : c = ((1024 : ℝ) : EReal))
    (he : ∃ e' : ℝ, 0 < e' ∧ e = (e' : EReal)) :
    ∃ (w : Fin 1024 → ℝ) (d : ℝ), (∀ j, z j - Ideal.div (∑ x, z x) c = (w j : EReal)) ∧ ∑ j, w j = 0 ∧ 0 < d ∧
      Ideal.div (∑ x, (z x - Ideal.div (∑ x, z x) c) * (z x - Ideal.div (∑ x, z x) c)) c + e = (d : EReal) ∧
      Ideal.rsqrt (Ideal.div (∑ x, (z x - Ideal.div (∑ x, z x) c) * (z x - Ideal.div (∑ x, z x) c)) c + e)
        = (((Real.sqrt d)⁻¹ : ℝ) : EReal) := by
  subst hc
  obtain ⟨e', he', rfl⟩ := he
  choose y hy using hz
  have n0 : (1024 : ℝ) ≠ 0 := by norm_num
  have hmu : Ideal.div (∑ x, z x) ((1024 : ℝ) : EReal) = ((((∑ x, y x) / 1024 : ℝ)) : EReal) := by
    rw [show (∑ x, z x) = ((∑ x, y x : ℝ) : EReal) from by rw [← coe_sum]; exact Finset.sum_congr rfl fun i _ => hy i, div_coe_coe _ _ n0]
  have hw : ∀ j, z j - Ideal.div (∑ x, z x) ((1024 : ℝ) : EReal) = ((y j - (∑ x, y x) / 1024 : ℝ) : EReal) := by
    intro j; rw [hmu, hy j, EReal.coe_sub]
  have hd : Ideal.div (∑ x, (z x - Ideal.div (∑ x, z x) ((1024 : ℝ) : EReal)) * (z x - Ideal.div (∑ x, z x) ((1024 : ℝ) : EReal))) ((1024 : ℝ) : EReal) + (e' : EReal)
      = (((∑ j, (y j - (∑ x, y x) / 1024) * (y j - (∑ x, y x) / 1024)) / 1024 + e' : ℝ) : EReal) := by
    rw [EReal.coe_add, ← div_coe_coe _ _ n0, ← coe_sum]
    refine congrArg (fun u : EReal => Ideal.div u ((1024 : ℝ) : EReal) + (e' : EReal)) ?_
    exact Finset.sum_congr rfl fun i _ => by rw [hw i, EReal.coe_mul]
  have hpos : 0 < (∑ j, (y j - (∑ x, y x) / 1024) * (y j - (∑ x, y x) / 1024)) / 1024 + e' := by
    have : 0 ≤ ∑ j, (y j - (∑ x, y x) / 1024) * (y j - (∑ x, y x) / 1024) := Finset.sum_nonneg fun i _ => mul_self_nonneg _
    positivity
  refine ⟨fun j => y j - (∑ x, y x) / 1024, _, hw, ?_, hpos, hd, ?_⟩
  · rw [Finset.sum_sub_distrib, Finset.sum_const, Finset.card_univ, Fintype.card_fin, nsmul_eq_mul]
    push_cast; ring
  · rw [hd, rsqrt_pos _ hpos]

/-- The gradient of a layer norm, row by row: the short form by the normalised row equals the one that goes through the
variance and the mean. -/
theorem norm_bwd (w t : Fin 1024 → ℝ) (d : ℝ) (hw : ∑ j, w j = 0) (hd : 0 < d) (l : Fin 1024) :
    (Real.sqrt d)⁻¹ * (t l - (∑ x, t x) / 1024 - (w l * (Real.sqrt d)⁻¹) * ((∑ x, t x * (w x * (Real.sqrt d)⁻¹)) / 1024))
      = t l * (Real.sqrt d)⁻¹ + (((∑ x, w x * t x) * (-(1 / 2) * ((Real.sqrt d)⁻¹ / d))) / 1024) * (2 * w l)
        + (∑ x, -(t x * (Real.sqrt d)⁻¹) + ∑ x, -((((∑ x, w x * t x) * (-(1 / 2) * ((Real.sqrt d)⁻¹ / d))) / 1024) * (2 * w x))) / 1024 := by
  have hs : 0 < Real.sqrt d := Real.sqrt_pos.mpr hd
  have hdd : d = Real.sqrt d * Real.sqrt d := (Real.mul_self_sqrt hd.le).symm
  generalize Real.sqrt d = s at *
  subst hdd
  have e1 : ∑ x, t x * (w x * s⁻¹) = (∑ x, w x * t x) * s⁻¹ := by
    rw [Finset.sum_mul]; exact Finset.sum_congr rfl fun i _ => by ring
  have e2 : ∑ x, -(t x * s⁻¹) = -((∑ x, t x) * s⁻¹) := by
    rw [Finset.sum_neg_distrib, Finset.sum_mul]
  generalize (∑ x, w x * t x) = P at *
  have e3 : ∑ x, -((P * (-(1 / 2) * (s⁻¹ / (s * s)))) / 1024 * (2 * w x)) = 0 := by
    rw [Finset.sum_neg_distrib, ← Finset.mul_sum, ← Finset.mul_sum, hw]; ring
  rw [e1, e2, e3]
  field_simp
  ring

/-- The same among the extended reals, in the two shapes in which the programs compute it. -/
theorem norm_bwd_ereal (zc t : Fin 1024 → EReal) (w : Fin 1024 → ℝ) (d : ℝ) (s D c q : EReal) (hzc : ∀ j, zc j = (w j : EReal))
    (hw : ∑ j, w j = 0) (hd : 0 < d) (hD : D = (d : EReal)) (hs : s = (((Real.sqrt d)⁻¹ : ℝ) : EReal)) (ht : ∀ j, IsR (t j))
    (hc : c = ((1024 : ℝ) : EReal)) (hq : q = ((2 : ℝ) : EReal)) (h : EReal) (hh : h = ((-(1 / 2) : ℝ) : EReal)) (l : Fin 1024) :
    s * (t l - Ideal.div (∑ x, t x) c - (zc l * s) * Ideal.div (∑ x, t x * (zc x * s)) c)
      = t l * s + Ideal.div ((∑ x, zc x * t x) * (h * Ideal.div s D)) c * (q * zc l)
        + Ideal.div (∑ x, -(t x * s)
          + ∑ x, -(Ideal.div ((∑ x, zc x * t x) * (h * Ideal.div s D)) c * (q * zc x))) c
    ∧ IsR (s * (t l - Ideal.div (∑ x, t x) c - (zc l * s) * Ideal.div (∑ x, t x * (zc x * s)) c)) := by
  choose u hu using ht
  obtain rfl : zc = fun j => (w j : EReal) := funext hzc
  obtain rfl : t = fun j => (u j : EReal) := funext hu
  subst hD hs hc hq hh
  have n0 : (1024 : ℝ) ≠ 0 := by norm_num
  simp only [← EReal.coe_mul, ← EReal.coe_neg, coe_sum, div_coe_coe _ _ hd.ne', div_coe_coe _ _ n0,
    ← EReal.coe_sub, ← EReal.coe_add]
  exact ⟨congrArg _ (norm_bwd w u d hw hd l), _, rfl⟩

/-- The gradient of the gate: `d/dx (x σ(x)) = σ(x) (1 + x (1 - σ(x)))`, in the two shapes in which the programs compute it. -/
theorem gate_bwd (a x s : EReal) (ha : IsR a) (hx : IsR x) (hs : IsR s) (o : EReal) (ho : o = ((1 : ℝ) : EReal)) :
    a * (s * (o + x * (o - s))) = a * s + x * a * (s * (o - s)) := by
  obtain ⟨a, rfl⟩ := ha; obtain ⟨x, rfl⟩ := hx; obtain ⟨s, rfl⟩ := hs; subst ho
  simp only [← EReal.coe_mul, ← EReal.coe_sub, ← EReal.coe_add]
  congr 1; ring

end Cert.Proof.RealMath
end
-- ==== Proof.MlpRef.lean ====
module

public import proofs.«01_k».proof.Proof.Gen.MlpRefIdeal.Read
public import proofs.«01_k».proof.Proof.RealMath
public import Idealize.ShloMosaic.Lib.Pipeline.ValueKit
public import Idealize.ShloMosaic.Lib.Pointwise

@[expose] public section

set_option maxRecDepth 16384

noncomputable section

namespace Cert.Proof.MlpRef

open Cert.MlpRefIdeal Cert.MlpRefIdeal.Read Idealize.ShloMosaic Idealize.ShloMosaic.TcCoe Idealize.SL.Sem
open Idealize.ShloMosaic.Tactic
open Cert.Proof.RealMath

/-- The ten arguments of the reference, all but the last of real numbers. -/
structure Args where
  x0 : (⟨S2048x1024, .f32⟩ : BufTy).Contents (Elt Ideal)
  x1 : (⟨S2048x1024, .f32⟩ : BufTy).Contents (Elt Ideal)
  x2 : (⟨S1024x1024, .f32⟩ : BufTy).Contents (Elt Ideal)
  x3 : (⟨S1024, .f32⟩ : BufTy).Contents (Elt Ideal)
  x4 : (⟨S1024, .f32⟩ : BufTy).Contents (Elt Ideal)
  x5 : (⟨S1024x5632, .f32⟩ : BufTy).Contents (Elt Ideal)
  x6 : (⟨S2816x1024, .f32⟩ : BufTy).Contents (Elt Ideal)
  x7 : (⟨S1024, .f32⟩ : BufTy).Contents (Elt Ideal)
  x8 : (⟨S2048x1024, .f32⟩ : BufTy).Contents (Elt Ideal)
  h0 : ∀ i, IsR (x0 i)
  h1 : ∀ i, IsR (x1 i)
  h2 : ∀ i, IsR (x2 i)
  h3 : ∀ i, IsR (x3 i)
  h4 : ∀ i, IsR (x4 i)
  h5 : ∀ i, IsR (x5 i)
  h6 : ∀ i, IsR (x6 i)
  h7 : ∀ i, IsR (x7 i)
  h8 : ∀ i, IsR (x8 i)

variable (a : Args)

/-- The input of the first layer norm. -/
def z1 := val_main_v3 (F := Ideal) a.x0 a.x1 a.x2
/-- Its deviation from the mean. -/
def zc1 := val_main_v18 (F := Ideal) a.x0 a.x1 a.x2
/-- Its variance with the epsilon. -/
def d1 := val_main_v20 (F := Ideal) a.x0 a.x1 a.x2
/-- The reciprocal deviation. -/
def s1 := val_main_v21 (F := Ideal) a.x0 a.x1 a.x2
/-- The normalised row. -/
def n1 := val_main_v26 (F := Ideal) a.x0 a.x1 a.x2
/-- The output of the first layer norm. -/
def hh := val_main_v32 (F := Ideal) a.x0 a.x1 a.x2 a.x3 a.x4
/-- The gates and the values. -/
def gu := val_main_v33 (F := Ideal) a.x0 a.x1 a.x2 a.x3 a.x4 a.x5
/-- The logistic function of the gates. -/
def sg := val_main_v36_2 (F := Ideal) a.x0 a.x1 a.x2 a.x3 a.x4 a.x5
/-- The gated values. -/
def act := val_main_v37 (F := Ideal) a.x0 a.x1 a.x2 a.x3 a.x4 a.x5
/-- The input of the second layer norm. -/
def z2 := val_main_v41 (F := Ideal) a.x0 a.x1 a.x2 a.x3 a.x4 a.x5 a.x6
/-- Its deviation from the mean. -/
def zc2 := val_main_v57 (F := Ideal) a.x0 a.x1 a.x2 a.x3 a.x4 a.x5 a.x6
/-- Its variance with the epsilon. -/
def d2 := val_main_v59 (F := Ideal) a.x0 a.x1 a.x2 a.x3 a.x4 a.x5 a.x6
/-- The reciprocal deviation. -/
def s2 := val_main_v60 (F := Ideal) a.x0 a.x1 a.x2 a.x3 a.x4 a.x5 a.x6
/-- The normalised row. -/
def n2 := val_main_v65 (F := Ideal) a.x0 a.x1 a.x2 a.x3 a.x4 a.x5 a.x6
/-- The gradient with respect to the normalised row of the second layer norm. -/
def t2 := val_main_v80 (F := Ideal) a.x7 a.x8
/-- The gradient with respect to the input of the second layer norm. -/
def dz2 := val_main_v105 (F := Ideal) a.x0 a.x1 a.x2 a.x3 a.x4 a.x5 a.x6 a.x7 a.x8
/-- The gradient with respect to the gated values. -/
def dact := val_main_v106 (F := Ideal) a.x0 a.x1 a.x2 a.x3 a.x4 a.x5 a.x6 a.x7 a.x8
/-- The gradient with respect to the gates and the values. -/
def dgu := val_main_v112 (F := Ideal) a.x0 a.x1 a.x2 a.x3 a.x4 a.x5 a.x6 a.x7 a.x8
/-- The gradient with respect to the output of the first layer norm. -/
def dh := val_main_v116 (F := Ideal) a.x0 a.x1 a.x2 a.x3 a.x4 a.x5 a.x6 a.x7 a.x8
/-- The gradient with respect to the normalised row of the first layer norm. -/
def t1 := val_main_v124 (F := Ideal) a.x0 a.x1 a.x2 a.x3 a.x4 a.x5 a.x6 a.x7 a.x8
/-- The gradient with respect to the input of the first layer norm. -/
def dz1 := val_main_v149 (F := Ideal) a.x0 a.x1 a.x2 a.x3 a.x4 a.x5 a.x6 a.x7 a.x8

/-- The input of the first layer norm is real. -/
theorem z1_real (r : Fin 2048) (l : Fin 1024) : IsR (z1 a (ix2 r l)) := by
  unfold z1 val_main_v3 val_main_v2 val_main_v1 val_main_cst val_main_v0
  pointwise
  exact (calpha.mul (a.h1 _)).add (isR_sum _ _ fun k => (a.h0 _).mul (a.h2 _))

/-- The statistics of the first layer norm. -/
theorem stats1 (r : Fin 2048) : ∃ (w : Fin 1024 → ℝ) (d : ℝ), (∀ j, zc1 a (ix2 r j) = (w j : EReal)) ∧ ∑ j, w j = 0 ∧ 0 < d ∧
    d1 a (ix2 r 0) = (d : EReal) ∧ s1 a (ix2 r 0) = (((Real.sqrt d)⁻¹ : ℝ) : EReal) := by
  obtain ⟨w, d, e1, e2, e3, e4, e5⟩ := stats (fun j => z1 a (ix2 r j)) (z1_real a r) _ _ c1024 ceps
  refine ⟨w, d, fun j => ?_, e2, e3, ?_, ?_⟩
  · rw [← e1 j]
    unfold zc1 val_main_v18 val_main_v17 val_main_v7 val_main_v6 val_main_v5 val_main_v4 val_main_cst_0 val_main_cst_1
    pointwise; rfl
  · rw [← e4]
    unfold d1 val_main_v20 val_main_v19 val_main_cst_5 val_main_v16 val_main_v15 val_main_cst_4 val_main_v14 val_main_v13 val_main_cst_3 val_main_v10 val_main_v9 val_main_v8 val_main_v7 val_main_v6 val_main_v5 val_main_v4 val_main_cst_0 val_main_cst_1
    pointwise; rfl
  · rw [← e5]
    unfold s1 val_main_v21 val_main_v20 val_main_v19 val_main_cst_5 val_main_v16 val_main_v15 val_main_cst_4 val_main_v14 val_main_v13 val_main_cst_3 val_main_v10 val_main_v9 val_main_v8 val_main_v7 val_main_v6 val_main_v5 val_main_v4 val_main_cst_0 val_main_cst_1
    pointwise; rfl

/-- The normalised row is the deviation times the reciprocal deviation. -/
theorem n1_eq (r : Fin 2048) (l : Fin 1024) : n1 a (ix2 r l) = HMul.hMul (α := EReal) (β := EReal) (γ := EReal) (zc1 a (ix2 r l)) (s1 a (ix2 r 0)) := by
  unfold n1 val_main_v26 val_main_v25
  pointwise; rfl

/-- The normalised row is real. -/
theorem n1_real (r : Fin 2048) (l : Fin 1024) : IsR (n1 a (ix2 r l)) := by
  obtain ⟨w, d, e1, -, -, -, e5⟩ := stats1 a r
  rw [n1_eq, e1, e5]; exact (isR_coe _).mul (isR_coe _)

/-- The output of the first layer norm is real. -/
theorem hh_real (r : Fin 2048) (l : Fin 1024) : IsR (hh a (ix2 r l)) := by
  unfold hh val_main_v32 val_main_v31 val_main_v30 val_main_v29 val_main_v28 val_main_v27
  pointwise
  exact ((n1_real a r l).mul (a.h3 _)).add (a.h4 _)

/-- The gates and the values are real. -/
theorem gu_real (r : Fin 2048) (l : Fin 5632) : IsR (gu a (ix2 r l)) := by
  unfold gu val_main_v33
  pointwise
  exact isR_sum _ _ fun k => (hh_real a r k).mul (a.h5 _)

/-- The column of a gate. -/
def lo (l : Fin 2816) : Fin 5632 := ⟨l.val, by omega⟩
/-- The column of a value. -/
def hi (l : Fin 2816) : Fin 5632 := ⟨2816 + l.val, by omega⟩

/-- The logistic function of the gates, read at an index. -/
theorem sg_eq (r : Fin 2048) (l : Fin 2816) :
    sg a (ix2 r l) = Ideal.logistic (gu a (ix2 r (lo l))) := by
  unfold sg val_main_v36_2 val_main_call0_v4 val_main_call0_v3 val_main_call0_v2 val_main_call0_v1 val_main_call0_v0 val_main_call0_cst val_main_call0_cst_0 val_main_v34
  pointwise
  rfl

/-- The logistic function of the gates is real. -/
theorem sg_real (r : Fin 2048) (l : Fin 2816) : IsR (sg a (ix2 r l)) := by
  rw [sg_eq a r l]
  obtain ⟨x, hx⟩ := gu_real a r (lo l)
  rw [hx]; exact ⟨_, logistic_coe x⟩

/-- The gated values, read at an index. -/
theorem act_eq (r : Fin 2048) (l : Fin 2816) :
    act a (ix2 r l) = HMul.hMul (α := EReal) (β := EReal) (γ := EReal)
      (HMul.hMul (α := EReal) (β := EReal) (γ := EReal) (gu a (ix2 r (lo l))) (sg a (ix2 r l))) (gu a (ix2 r (hi l))) := by
  unfold act val_main_v37 val_main_v36_0 val_main_v35 val_main_v34
  pointwise
  rfl

/-- The gated values are real. -/
theorem act_real (r : Fin 2048) (l : Fin 2816) : IsR (act a (ix2 r l)) := by
  rw [act_eq a r l]
  exact ((gu_real a _ _).mul (sg_real a _ _)).mul (gu_real a _ _)

/-- The input of the second layer norm is real. -/
theorem z2_real (r : Fin 2048) (l : Fin 1024) : IsR (z2 a (ix2 r l)) := by
  unfold z2 val_main_v41 val_main_v40 val_main_v39 val_main_cst_7 val_main_v38
  pointwise
  exact (calpha.mul (hh_real a r l)).add (isR_sum _ _ fun k => (act_real a r k).mul (a.h6 _))

/-- The statistics of the second layer norm. -/
theorem stats2 (r : Fin 2048) : ∃ (w : Fin 1024 → ℝ) (d : ℝ), (∀ j, zc2 a (ix2 r j) = (w j : EReal)) ∧ ∑ j, w j = 0 ∧ 0 < d ∧
    d2 a (ix2 r 0) = (d : EReal) ∧ s2 a (ix2 r 0) = (((Real.sqrt d)⁻¹ : ℝ) : EReal) := by
  obtain ⟨w, d, e1, e2, e3, e4, e5⟩ := stats (fun j => z2 a (ix2 r j)) (z2_real a r) _ _ c1024 ceps
  refine ⟨w, d, fun j => ?_, e2, e3, ?_, ?_⟩
  · rw [← e1 j]
    unfold zc2 val_main_v57 val_main_v56 val_main_v46 val_main_v45 val_main_v44 val_main_v43 val_main_cst_9 val_main_cst_10
    pointwise; rfl
  · rw [← e4]
    unfold d2 val_main_v59 val_main_v58 val_main_cst_14 val_main_v55 val_main_v54 val_main_cst_13 val_main_v53 val_main_v52 val_main_cst_12 val_main_v49 val_main_v48 val_main_v47 val_main_v46 val_main_v45 val_main_cst_10 val_main_v44 val_main_v43 val_main_cst_9
    pointwise; rfl
  · rw [← e5]
    unfold s2 val_main_v60 val_main_v59 val_main_v58 val_main_cst_14 val_main_v55 val_main_v54 val_main_cst_13 val_main_v53 val_main_v52 val_main_cst_12 val_main_v49 val_main_v48 val_main_v47 val_main_v46 val_main_v45 val_main_cst_10 val_main_v44 val_main_v43 val_main_cst_9
    pointwise; rfl

/-- The normalised row is the deviation times the reciprocal deviation. -/
theorem n2_eq (r : Fin 2048) (l : Fin 1024) : n2 a (ix2 r l) = HMul.hMul (α := EReal) (β := EReal) (γ := EReal) (zc2 a (ix2 r l)) (s2 a (ix2 r 0)) := by
  unfold n2 val_main_v65 val_main_v64
  pointwise; rfl

/-- The gradient with respect to the normalised row of the second layer norm, read at an index. -/
theorem t2_eq (r : Fin 2048) (l : Fin 1024) : t2 a (ix2 r l) = HMul.hMul (α := EReal) (β := EReal) (γ := EReal) (a.x8 (ix2 r l)) (a.x7 (ix1 l)) := by
  unfold t2 val_main_v80 val_main_v79 val_main_v72 val_main_v66
  pointwise

/-- The gradient with respect to the normalised row of the second layer norm is real. -/
theorem t2_real (r : Fin 2048) (l : Fin 1024) : IsR (t2 a (ix2 r l)) := by
  rw [t2_eq]; exact (a.h8 _).mul (a.h7 _)

/-- The gradient of a layer norm for one row, by its normalised row `n`, its reciprocal deviation `s` and the gradient
`t` with respect to the normalised row. -/
def nb (t n : Fin 1024 → EReal) (s : EReal) (l : Fin 1024) : EReal :=
  s * (t l - Ideal.div (∑ x, t x) (Ideal.ofBits .f32 1149239296#32) - n l * Ideal.div (∑ x, t x * n x) (Ideal.ofBits .f32 1149239296#32))

/-- The deviation from the mean, computed a second time. -/
theorem v48_eq (r : Fin 2048) (l : Fin 1024) : val_main_v48 (F := Ideal) a.x0 a.x1 a.x2 a.x3 a.x4 a.x5 a.x6 (ix2 r l) = zc2 a (ix2 r l) := by
  unfold zc2 val_main_v57 val_main_v56 val_main_v48 val_main_v47
  pointwise

/-- The reference's gradient of the second layer norm, read at an index. -/
theorem dz2_at (r : Fin 2048) (l : Fin 1024) (zc t : Fin 1024 → EReal) (s D : EReal) (hzc : ∀ j, zc2 a (ix2 r j) = zc j) (ht : ∀ j, t2 a (ix2 r j) = t j)
    (hs : s2 a (ix2 r 0) = s) (hD : d2 a (ix2 r 0) = D) :
    dz2 a (ix2 r l) = t l * s + Ideal.div ((∑ x, zc x * t x) * (Ideal.ofBits .f32 3204448256#32 * Ideal.div s D)) (Ideal.ofBits .f32 1149239296#32) * (Ideal.ofBits .f32 1073741824#32 * zc l)
        + Ideal.div (∑ x, -(t x * s) + ∑ x, -(Ideal.div ((∑ x, zc x * t x) * (Ideal.ofBits .f32 3204448256#32 * Ideal.div s D)) (Ideal.ofBits .f32 1149239296#32) * (Ideal.ofBits .f32 1073741824#32 * zc x))) (Ideal.ofBits .f32 1149239296#32) := by
  unfold dz2 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_cst_20 val_main_cst_21 val_main_cst_22 val_main_cst_23 val_main_cst_24 val_main_cst_25 val_main_cst_26 val_main_v63 val_main_v62 val_main_cst_15 val_main_v61 val_main_v51 val_main_v50 val_main_cst_11
  pointwise
  simp only [Fin.sum_univ_one, v48_eq]
  unfold zc2 t2 s2 d2 at *
  simp only [hzc, ht, hs, hD]

/-- The reference's gradient of the second layer norm is the short form, and real. -/
theorem dz2_nb (r : Fin 2048) (l : Fin 1024) :
    nb (fun j => t2 a (ix2 r j)) (fun j => n2 a (ix2 r j)) (s2 a (ix2 r 0)) l = dz2 a (ix2 r l) ∧ IsR (dz2 a (ix2 r l)) := by
  obtain ⟨w, d, e1, e2, e3, e4, e5⟩ := stats2 a r
  have h := norm_bwd_ereal (fun j => zc2 a (ix2 r j)) (fun j => t2 a (ix2 r j)) w d _ _ _ _ e1 e2 e3 e4 e5 (t2_real a r) c1024 c2 _ cneghalf l
  have k := dz2_at a r l _ _ _ _ (fun _ => rfl) (fun _ => rfl) rfl rfl
  have n : nb (fun j => t2 a (ix2 r j)) (fun j => n2 a (ix2 r j)) (s2 a (ix2 r 0)) l
      = s2 a (ix2 r 0) * (t2 a (ix2 r l) - Ideal.div (∑ x, t2 a (ix2 r x)) (Ideal.ofBits .f32 1149239296#32)
        - (zc2 a (ix2 r l) * s2 a (ix2 r 0)) * Ideal.div (∑ x, t2 a (ix2 r x) * (zc2 a (ix2 r x) * s2 a (ix2 r 0))) (Ideal.ofBits .f32 1149239296#32)) := by
    unfold nb; simp only [n2_eq]
  have e := n.trans (h.1.trans k.symm)
  exact ⟨e, by rw [← e, n]; exact h.2⟩

/-- The gradient with respect to the gated values, read at an index. -/
theorem dact_eq (r : Fin 2048) (l : Fin 2816) :
    dact a (ix2 r l) = ∑ k : Fin 1024, HMul.hMul (α := EReal) (β := EReal) (γ := EReal) (dz2 a (ix2 r k)) (a.x6 (ix2 l k)) := by
  unfold dact val_main_v106
  pointwise; rfl

/-- The gradient with respect to the gated values is real. -/
theorem dact_real (r : Fin 2048) (l : Fin 2816) : IsR (dact a (ix2 r l)) := by
  rw [dact_eq]; exact isR_sum _ _ fun k => (dz2_nb a r k).2.mul (a.h6 _)

/-- The gradient with respect to the gates: the kernel's form. -/
theorem dgu_lo (r : Fin 2048) (l : Fin 2816) :
    HMul.hMul (α := EReal) (β := EReal) (γ := EReal) (HMul.hMul (α := EReal) (β := EReal) (γ := EReal) (dact a (ix2 r l)) (gu a (ix2 r (hi l))))
      (HMul.hMul (α := EReal) (β := EReal) (γ := EReal) (sg a (ix2 r l)) (HAdd.hAdd (α := EReal) (β := EReal) (γ := EReal) 1
        (HMul.hMul (α := EReal) (β := EReal) (γ := EReal) (gu a (ix2 r (lo l))) (HSub.hSub (α := EReal) (β := EReal) (γ := EReal) 1 (sg a (ix2 r l))))))
      = dgu a (ix2 r (lo l)) := by
  have h := gate_bwd _ _ _ ((dact_real a r l).mul (gu_real a r (hi l))) (gu_real a r (lo l)) (sg_real a r l) 1 EReal.coe_one.symm
  refine h.trans ?_
  unfold dgu val_main_v112 val_main_v111 val_main_v110 val_main_cst_27 val_main_cst_28 val_main_v109 val_main_call1_v2 val_main_call1_v1 val_main_call1_v0 val_main_v108 val_main_v36_1 val_main_call0_v7 val_main_call0_v6 val_main_call0_cst_1 val_main_v35 val_main_v34
  pointwise
  have hl := l.isLt
  have h0 : (lo l).val = l.val := rfl
  rw [dif_neg (by omega), dif_pos (by omega), zero_add]
  rfl

/-- The gradient with respect to the values: the kernel's form. -/
theorem dgu_hi (r : Fin 2048) (l : Fin 2816) :
    HMul.hMul (α := EReal) (β := EReal) (γ := EReal) (dact a (ix2 r l)) (HMul.hMul (α := EReal) (β := EReal) (γ := EReal) (gu a (ix2 r (lo l))) (sg a (ix2 r l)))
      = dgu a (ix2 r (hi l)) := by
  unfold dgu val_main_v112 val_main_v111 val_main_v110 val_main_cst_27 val_main_cst_28 val_main_v107 val_main_v36_0 val_main_v34
  pointwise
  have hl := l.isLt
  have h0 : (hi l).val = 2816 + l.val := rfl
  rw [dif_pos (by omega), dif_neg (by omega), add_zero]
  have e : ∀ h, (⟨(hi l).val - 2816, h⟩ : Fin 2816) = l := fun h => Fin.ext (by dsimp only; omega)
  have e' : ∀ h, (⟨(hi l).val - 2816, h⟩ : Fin 5632) = lo l := fun h => Fin.ext (by show (hi l).val - 2816 = l.val; omega)
  simp only [e, e']
  exact mul_comm (G := EReal) (dact a (ix2 r l)) (HMul.hMul (α := EReal) (β := EReal) (γ := EReal) (gu a (ix2 r (lo l))) (sg a (ix2 r l)))

/-- The gradient with respect to the gates and the values is real. -/
theorem dgu_real (r : Fin 2048) (l : Fin 5632) : IsR (dgu a (ix2 r l)) := by
  rcases Nat.lt_or_ge l.val 2816 with h | h
  · have e : l = lo ⟨l.val, h⟩ := rfl
    rw [e, ← dgu_lo]
    have o : IsR 1 := ⟨1, EReal.coe_one.symm⟩
    exact ((dact_real a _ _).mul (gu_real a _ _)).mul ((sg_real a _ _).mul (o.add ((gu_real a _ _).mul (o.sub (sg_real a _ _)))))
  · have e : l = hi ⟨l.val - 2816, by have := l.isLt; omega⟩ := Fin.ext (by unfold hi; dsimp only; omega)
    rw [e, ← dgu_hi]
    exact (dact_real a _ _).mul ((gu_real a _ _).mul (sg_real a _ _))

/-- The gradient with respect to the output of the first layer norm, read at an index. -/
theorem dh_eq (r : Fin 2048) (l : Fin 1024) :
    dh a (ix2 r l) = HAdd.hAdd (α := EReal) (β := EReal) (γ := EReal) (HMul.hMul (α := EReal) (β := EReal) (γ := EReal) (Ideal.ofBits .f32 1071072509#32) (dz2 a (ix2 r l)))
      (∑ k : Fin 5632, HMul.hMul (α := EReal) (β := EReal) (γ := EReal) (dgu a (ix2 r k)) (a.x5 (ix2 l k))) := by
  unfold dh val_main_v116 val_main_v114 val_main_v113 val_main_cst_29 val_main_v115
  pointwise; rfl

/-- It is real. -/
theorem dh_real (r : Fin 2048) (l : Fin 1024) : IsR (dh a (ix2 r l)) := by
  rw [dh_eq]; exact (calpha.mul (dz2_nb a r l).2).add (isR_sum _ _ fun k => (dgu_real a r k).mul (a.h5 _))

/-- The gradient with respect to the normalised row of the first layer norm, read at an index. -/
theorem t1_eq (r : Fin 2048) (l : Fin 1024) : t1 a (ix2 r l) = HMul.hMul (α := EReal) (β := EReal) (γ := EReal) (dh a (ix2 r l)) (a.x3 (ix1 l)) := by
  unfold t1 val_main_v124 val_main_v123 val_main_v27
  pointwise; rfl

/-- It is real. -/
theorem t1_real (r : Fin 2048) (l : Fin 1024) : IsR (t1 a (ix2 r l)) := by
  rw [t1_eq]; exact (dh_real a r l).mul (a.h3 _)

/-- The deviation from the mean, computed a second time. -/
theorem v9_eq (r : Fin 2048) (l : Fin 1024) : val_main_v9 (F := Ideal) a.x0 a.x1 a.x2 (ix2 r l) = zc1 a (ix2 r l) := by
  unfold zc1 val_main_v18 val_main_v17 val_main_v9 val_main_v8
  pointwise

/-- The reference's gradient of the first layer norm, read at an index. -/
theorem dz1_at (r : Fin 2048) (l : Fin 1024) (zc t : Fin 1024 → EReal) (s D : EReal) (hzc : ∀ j, zc1 a (ix2 r j) = zc j) (ht : ∀ j, t1 a (ix2 r j) = t j)
    (hs : s1 a (ix2 r 0) = s) (hD : d1 a (ix2 r 0) = D) :
    dz1 a (ix2 r l) = t l * s + Ideal.div ((∑ x, zc x * t x) * (Ideal.ofBits .f32 3204448256#32 * Ideal.div s D)) (Ideal.ofBits .f32 1149239296#32) * (Ideal.ofBits .f32 1073741824#32 * zc l)
        + Ideal.div (∑ x, -(t x * s) + ∑ x, -(Ideal.div ((∑ x, zc x * t x) * (Ideal.ofBits .f32 3204448256#32 * Ideal.div s D)) (Ideal.ofBits .f32 1149239296#32) * (Ideal.ofBits .f32 1073741824#32 * zc x))) (Ideal.ofBits .f32 1149239296#32) := by
  unfold dz1 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_cst_34 val_main_cst_35 val_main_cst_36 val_main_cst_37 val_main_cst_38 val_main_cst_39 val_main_cst_40 val_main_v24 val_main_v23 val_main_cst_6 val_main_v22 val_main_v12 val_main_v11 val_main_cst_2
  pointwise
  simp only [Fin.sum_univ_one, v9_eq]
  unfold zc1 t1 s1 d1 at *
  simp only [hzc, ht, hs, hD]

/-- The reference's gradient of the first layer norm is the short form, and real. -/
theorem dz1_nb (r : Fin 2048) (l : Fin 1024) :
    nb (fun j => t1 a (ix2 r j)) (fun j => n1 a (ix2 r j)) (s1 a (ix2 r 0)) l = dz1 a (ix2 r l) ∧ IsR (dz1 a (ix2 r l)) := by
  obtain ⟨w, d, e1, e2, e3, e4, e5⟩ := stats1 a r
  have h := norm_bwd_ereal (fun j => zc1 a (ix2 r j)) (fun j => t1 a (ix2 r j)) w d _ _ _ _ e1 e2 e3 e4 e5 (t1_real a r) c1024 c2 _ cneghalf l
  have k := dz1_at a r l _ _ _ _ (fun _ => rfl) (fun _ => rfl) rfl rfl
  have n : nb (fun j => t1 a (ix2 r j)) (fun j => n1 a (ix2 r j)) (s1 a (ix2 r 0)) l
      = s1 a (ix2 r 0) * (t1 a (ix2 r l) - Ideal.div (∑ x, t1 a (ix2 r x)) (Ideal.ofBits .f32 1149239296#32)
        - (zc1 a (ix2 r l) * s1 a (ix2 r 0)) * Ideal.div (∑ x, t1 a (ix2 r x) * (zc1 a (ix2 r x) * s1 a (ix2 r 0))) (Ideal.ofBits .f32 1149239296#32)) := by
    unfold nb; simp only [n1_eq]
  have e := n.trans (h.1.trans k.symm)
  exact ⟨e, by rw [← e, n]; exact h.2⟩

/-- The gradient with respect to the mixers' output, read at an index. -/
theorem dmix_eq (r : Fin 2048) (l : Fin 1024) : val_main_v150 (F := Ideal) a.x0 a.x1 a.x2 a.x3 a.x4 a.x5 a.x6 a.x7 a.x8 (ix2 r l)
    = ∑ k : Fin 1024, HMul.hMul (α := EReal) (β := EReal) (γ := EReal) (dz1 a (ix2 r k)) (a.x2 (ix2 l k)) := by
  unfold val_main_v150
  pointwise; rfl

/-- The gradient of the second scale, read at an index. -/
theorem g2_eq (o : Fin 1) (l : Fin 1024) : val_main_v155 (F := Ideal) a.x0 a.x1 a.x2 a.x3 a.x4 a.x5 a.x6 a.x8 (ix2 o l)
    = ∑ k : Fin 2048, HMul.hMul (α := EReal) (β := EReal) (γ := EReal) (a.x8 (ix2 k l)) (n2 a (ix2 k l)) := by
  unfold val_main_v155 val_main_v81 val_main_v78 val_main_v77 val_main_v76 val_main_v72 val_main_cst_18 val_main_cst_19
  pointwise
  simp only [Fin.sum_univ_one]
  exact Finset.sum_congr rfl fun k _ => mul_comm _ _

/-- The gradient of the second shift, read at an index. -/
theorem b2_eq (o : Fin 1) (l : Fin 1024) : val_main_v156 (F := Ideal) a.x8 (ix2 o l) = ∑ k : Fin 2048, a.x8 (ix2 k l) := by
  unfold val_main_v156 val_main_v75 val_main_v74 val_main_v73 val_main_cst_16 val_main_cst_17
  pointwise
  simp only [Fin.sum_univ_one]

/-- The gradient of the first scale, read at an index. -/
theorem g1_eq (o : Fin 1) (l : Fin 1024) : val_main_v157 (F := Ideal) a.x0 a.x1 a.x2 a.x3 a.x4 a.x5 a.x6 a.x7 a.x8 (ix2 o l)
    = ∑ k : Fin 2048, HMul.hMul (α := EReal) (β := EReal) (γ := EReal) (dh a (ix2 k l)) (n1 a (ix2 k l)) := by
  unfold val_main_v157 val_main_v125 val_main_v122 val_main_v121 val_main_v120 val_main_cst_32 val_main_cst_33
  pointwise
  simp only [Fin.sum_univ_one]
  exact Finset.sum_congr rfl fun k _ => mul_comm _ _

/-- The gradient of the first shift, read at an index. -/
theorem b1_eq (o : Fin 1) (l : Fin 1024) : val_main_v158 (F := Ideal) a.x0 a.x1 a.x2 a.x3 a.x4 a.x5 a.x6 a.x7 a.x8 (ix2 o l)
    = ∑ k : Fin 2048, dh a (ix2 k l) := by
  unfold val_main_v158 val_main_v119 val_main_v118 val_main_v117 val_main_cst_30 val_main_cst_31
  pointwise
  simp only [Fin.sum_univ_one]
  rfl

end Cert.Proof.MlpRef
end
-- ==== Proof.MlpPay.lean ====
module

public import proofs.«01_k».proof.Proof.Gen.MlpBwdIdeal.Skeleton
public import proofs.«01_k».proof.Proof.MlpRef

@[expose] public section

set_option maxRecDepth 16384

noncomputable section

namespace Cert.Proof.MlpPay

open Cert.MlpBwdIdeal Cert.MlpBwdIdeal.Gen Idealize.ShloMosaic Idealize.ShloMosaic.TcCoe Idealize.SL.Sem
open Idealize.ShloMosaic.Tactic
open Cert.Proof.RealMath Cert.Proof.MlpRef

/-- What the kernel's body reads at one grid point: rows `R` of the reference's arrays, and the weights. -/
structure Blk (a : Args) (R : Fin 256 → Fin 2048) where
  b0 : Vec Ideal S256x1024 .f32
  b1 : Vec Ideal S256x1024 .f32
  b2 : Vec Ideal S256x1 .f32
  b3 : Vec Ideal S1x1024 .f32
  b4 : Vec Ideal S256x5632 .f32
  b5 : Vec Ideal S1024x5632 .bf16
  b6 : Vec Ideal S2816x1024 .bf16
  b7 : Vec Ideal S256x1024 .f32
  b8 : Vec Ideal S256x1 .f32
  b9 : Vec Ideal S1x1024 .f32
  b10 : Vec Ideal S1024x1024 .bf16
  e0 : ∀ r l, b0 (ix2 r l) = a.x8 (ix2 (R r) l)
  e1 : ∀ r l, b1 (ix2 r l) = n2 a (ix2 (R r) l)
  e2 : ∀ r l, b2 (ix2 r l) = s2 a (ix2 (R r) l)
  e3 : ∀ r l, b3 (ix2 r l) = a.x7 (ix1 l)
  e4 : ∀ r l, b4 (ix2 r l) = gu a (ix2 (R r) l)
  e5 : ∀ r l, b5 (ix2 r l) = a.x5 (ix2 r l)
  e6 : ∀ r l, b6 (ix2 r l) = a.x6 (ix2 r l)
  e7 : ∀ r l, b7 (ix2 r l) = n1 a (ix2 (R r) l)
  e8 : ∀ r l, b8 (ix2 r l) = s1 a (ix2 (R r) l)
  e9 : ∀ r l, b9 (ix2 r l) = a.x3 (ix1 l)
  e10 : ∀ r l, b10 (ix2 r l) = a.x2 (ix2 r l)

variable {a : Args} {R : Fin 256 → Fin 2048} (B : Blk a R)

/-- The constant 1024 that the body divides by. -/
abbrev c0 : Ideal .f32 := FloatOps.ofBits FTy.f32 1149239296#32

/-- A load of some columns of a block of gates and values, read at an index. -/
theorem ld_cols (o : ℕ) (ho : o + 2816 ≤ 5632) (inb) (X : Vec Ideal S256x5632 .f32) (r : Fin 256) (l : Fin 2816) :
    View.ld (Val := Elt Ideal) (e' := .f32) X (Rect.unit (s := S256x5632) ![0, o] ![256, 2816] inb) (ix2 r l) = X (ix2 r ⟨o + l.val, by omega⟩) :=
  congrArg X (funext fun a => Fin.ext (by
    match a with
    | ⟨0, _⟩ => show 0 + 1 * r.val = r.val; omega
    | ⟨1, _⟩ => show o + 1 * l.val = o + l.val; omega))

/-- The gates of a block. -/
abbrev ldg (X : Vec Ideal S256x5632 .f32) : Vec Ideal S256x2816 .f32 := View.ld (Val := Elt Ideal) (e' := .f32) X (Rect.unit (s := S256x5632) ![0, 0] ![256, 2816] inb_S256x5632_S256x2816_0_0)
/-- The values of a block. -/
abbrev ldu (X : Vec Ideal S256x5632 .f32) : Vec Ideal S256x2816 .f32 := View.ld (Val := Elt Ideal) (e' := .f32) X (Rect.unit (s := S256x5632) ![0, 2816] ![256, 2816] inb_S256x5632_S256x2816_0_2816)

/-- The gates of a block are the reference's. -/
theorem ldg_eq (r : Fin 256) (l : Fin 2816) : ldg B.b4 (ix2 r l) = gu a (ix2 (R r) (lo l)) := by
  refine (ld_cols 0 (by decide) _ _ r l).trans ((B.e4 _ _).trans ?_)
  exact congrArg (fun i => gu a (ix2 (R r) i)) (Fin.ext (by show 0 + l.val = l.val; omega))

/-- The values of a block are the reference's. -/
theorem ldu_eq (r : Fin 256) (l : Fin 2816) : ldu B.b4 (ix2 r l) = gu a (ix2 (R r) (hi l)) :=
  (ld_cols 2816 (by decide) _ _ r l).trans (B.e4 _ _)

/-- The block's gradient with respect to the normalised row of the second layer norm. -/
theorem pay11_eq (x : Vec Ideal S256x1024 .f32) (y : Vec Ideal S1x1024 .f32) (r : Fin 256) (l : Fin 1024) :
    k0_pay11 (F := Ideal) x y (ix2 r l) = HMul.hMul (α := EReal) (β := EReal) (γ := EReal) (x (ix2 r l)) (y (ix2 0 l)) := by
  unfold k0_pay11
  pointwise

/-- The block's normalised rows of the second layer norm, as read. -/
theorem pay8_eq (x : Vec Ideal S256x1024 .f32) (r : Fin 256) (l : Fin 1024) : k0_pay8 (F := Ideal) x (ix2 r l) = x (ix2 r l) := by
  unfold k0_pay8
  pointwise

/-- The block's gradient with respect to the input of the second layer norm. -/
theorem pay15_eq (r : Fin 256) (l : Fin 1024) :
    k0_pay15 (F := Ideal) (k0_pay8 B.b1) (k0_pay11 B.b0 B.b3) (k0_pay12 B.b2) (k0_pay13 B.b0 B.b3) (k0_pay14 B.b0 B.b1 B.b3) c0 (ix2 r l) = dz2 a (ix2 (R r) l) := by
  rw [← (dz2_nb a (R r) l).1]
  unfold nb k0_pay15 k0_pay12 k0_pay13 k0_pay14
  pointwise
  simp only [pay11_eq, pay8_eq, t2_eq, ← B.e0, ← B.e1, ← B.e2, ← B.e3 0]

/-- The block stored of the gradient with respect to the input of the second layer norm. -/
theorem pay16_eq (r : Fin 256) (l : Fin 1024) :
    k0_pay16 (F := Ideal) (k0_pay8 B.b1) (k0_pay11 B.b0 B.b3) (k0_pay12 B.b2) (k0_pay13 B.b0 B.b3) (k0_pay14 B.b0 B.b1 B.b3) c0 (ix2 r l) = dz2 a (ix2 (R r) l) :=
  pay15_eq B r l

/-- The block's gradient with respect to the gated values. -/
theorem pay17_eq (r : Fin 256) (l : Fin 2816) :
    k0_pay17 (F := Ideal) (k0_pay8 B.b1) (k0_pay11 B.b0 B.b3) (k0_pay12 B.b2) (k0_pay13 B.b0 B.b3) (k0_pay14 B.b0 B.b1 B.b3) c0 B.b6 (ix2 r l) = dact a (ix2 (R r) l) := by
  unfold k0_pay17
  pointwise
  rw [dact_eq]
  refine Finset.sum_congr rfl fun k _ => ?_
  exact congrArg₂ (HMul.hMul (α := EReal) (β := EReal) (γ := EReal)) (pay16_eq B r k) (B.e6 _ _)

/-- The logistic function of the block's gates. -/
theorem pay20_eq (r : Fin 256) (l : Fin 2816) : k0_pay20 (F := Ideal) (ldg B.b4) (ix2 r l) = sg a (ix2 (R r) l) := by
  rw [sg_eq, ← ldg_eq B r l]
  generalize ldg B.b4 = X
  unfold k0_pay20 k0_pay18
  pointwise

/-- The block stored of the gated values. -/
theorem pay22_eq (r : Fin 256) (l : Fin 2816) : k0_pay22 (F := Ideal) (ldg B.b4) (ldu B.b4) (ix2 r l) = act a (ix2 (R r) l) := by
  rw [act_eq, ← pay20_eq B r l, ← ldg_eq B r l, ← ldu_eq B r l]
  generalize ldg B.b4 = X
  generalize ldu B.b4 = Y
  unfold k0_pay22 k0_pay21 k0_pay19 k0_pay18
  pointwise

/-- The block stored of the gradient with respect to the gates. -/
theorem pay23_eq (r : Fin 256) (l : Fin 2816) :
    k0_pay23 (F := Ideal) (k0_pay8 B.b1) (k0_pay11 B.b0 B.b3) (k0_pay12 B.b2) (k0_pay13 B.b0 B.b3) (k0_pay14 B.b0 B.b1 B.b3) c0 B.b6 (ldg B.b4) (ldu B.b4) (ix2 r l) = dgu a (ix2 (R r) (lo l)) := by
  rw [← dgu_lo, ← pay17_eq B r l, ← pay20_eq B r l, ← ldg_eq B r l, ← ldu_eq B r l]
  generalize ldg B.b4 = X
  generalize ldu B.b4 = Y
  unfold k0_pay23 k0_pay19 k0_pay18
  pointwise

/-- The block stored of the gradient with respect to the values. -/
theorem pay24_eq (r : Fin 256) (l : Fin 2816) :
    k0_pay24 (F := Ideal) (k0_pay8 B.b1) (k0_pay11 B.b0 B.b3) (k0_pay12 B.b2) (k0_pay13 B.b0 B.b3) (k0_pay14 B.b0 B.b1 B.b3) c0 B.b6 (ldg B.b4) (ix2 r l) = dgu a (ix2 (R r) (hi l)) := by
  rw [← dgu_hi, ← pay17_eq B r l, ← pay20_eq B r l, ← ldg_eq B r l]
  generalize ldg B.b4 = X
  unfold k0_pay24 k0_pay21 k0_pay18
  pointwise

/-- What a point stores of the gradient with respect to the gates and the values: two halves. -/
abbrev dguP (B : Blk a R) : List (View.Piece (Elt Ideal) S256x5632 .bf16) :=
  [⟨Rect.unit ![0, 2816] ![256, 2816] inb_S256x5632_S256x2816_0_2816,
    k0_pay24 (F := Ideal) (k0_pay8 B.b1) (k0_pay11 B.b0 B.b3) (k0_pay12 B.b2) (k0_pay13 B.b0 B.b3) (k0_pay14 B.b0 B.b1 B.b3) c0 B.b6 (ldg B.b4)⟩,
   ⟨Rect.unit ![0, 0] ![256, 2816] inb_S256x5632_S256x2816_0_0,
    k0_pay23 (F := Ideal) (k0_pay8 B.b1) (k0_pay11 B.b0 B.b3) (k0_pay12 B.b2) (k0_pay13 B.b0 B.b3) (k0_pay14 B.b0 B.b1 B.b3) c0 B.b6 (ldg B.b4) (ldu B.b4)⟩]

/-- Read at an index, it is the reference's gradient. -/
theorem dguB_eq (r : Fin 256) (l : Fin 5632) : View.canon (Val := Elt Ideal) (dguP B) (ix2 r l) = dgu a (ix2 (R r) l) := by
  refine View.canon_eq_of_allAt _ (ix2 r l) _ (View.cover_of_tiled_head _ _ _ rfl _) ?_
  refine View.allAt_cons_unit _ _ _ _ _ (fun x hx => ?_) (View.allAt_cons_unit _ _ _ _ _ (fun x hx => ?_) (View.allAt_nil _ _))
  · have h0 : r.val = 0 + (x 0).val := hx 0
    have h1 : l.val = 2816 + (x 1).val := hx 1
    obtain ⟨r', l', rfl⟩ : ∃ (r' : Fin 256) (l' : Fin 2816), x = (ix2 r' l' : S256x2816.Idx) := ⟨x 0, x 1, eq_ix2 x⟩
    change r.val = 0 + r'.val at h0
    change l.val = 2816 + l'.val at h1
    obtain rfl : r = r' := Fin.ext (by omega)
    obtain rfl : l = hi l' := Fin.ext (by show l.val = 2816 + l'.val; omega)
    exact pay24_eq B r l'
  · have h0 : r.val = 0 + (x 0).val := hx 0
    have h1 : l.val = 0 + (x 1).val := hx 1
    obtain ⟨r', l', rfl⟩ : ∃ (r' : Fin 256) (l' : Fin 2816), x = (ix2 r' l' : S256x2816.Idx) := ⟨x 0, x 1, eq_ix2 x⟩
    change r.val = 0 + r'.val at h0
    change l.val = 0 + l'.val at h1
    obtain rfl : r = r' := Fin.ext (by omega)
    obtain rfl : l = lo l' := Fin.ext (by show l.val = l'.val; omega)
    exact pay23_eq B r l'

/-- A read of the whole block after the two stores gives what they stored. -/
theorem readBack {sig : RefSig} {κ : Kind} {sp : Space} (v : View sig κ sp S256x5632 .bf16) (L : List (View.Piece (Elt Ideal) S256x5632 .bf16)) (inb) (r : Fin 256) (l : Fin 5632) :
    v.readCov (Val := Elt Ideal) L (Rect.unit (s := S256x5632) ![0, 0] ![256, 5632] inb).toLoadRect (ix2 r l) = View.canon (Val := Elt Ideal) L (ix2 r l) := by
  rw [View.readCov_eq_canon']
  refine congrArg (View.canon (Val := Elt Ideal) L) (funext fun a => Fin.ext ?_)
  match a with
  | ⟨0, _⟩ => show 0 + 1 * r.val = r.val; omega
  | ⟨1, _⟩ => show 0 + 1 * l.val = l.val; omega

/-- The residual part of the gradient with respect to the output of the first layer norm. -/
theorem pay25_eq (r : Fin 256) (l : Fin 1024) :
    k0_pay25 (F := Ideal) (k0_pay8 B.b1) (k0_pay11 B.b0 B.b3) (k0_pay12 B.b2) (k0_pay13 B.b0 B.b3) (k0_pay14 B.b0 B.b1 B.b3) c0 (ix2 r l)
      = HMul.hMul (α := EReal) (β := EReal) (γ := EReal) (Ideal.ofBits .f32 1071072509#32) (dz2 a (ix2 (R r) l)) := by
  rw [← pay15_eq B r l]
  unfold k0_pay25
  pointwise

/-- The block's normalised rows of the first layer norm. -/
theorem pay27_eq (x : Vec Ideal S256x1024 .f32) (r : Fin 256) (l : Fin 1024) : k0_pay27 (F := Ideal) x (ix2 r l) = x (ix2 r l) := by
  unfold k0_pay27
  pointwise

section Second

variable (v69 : FVec Ideal S256x1024 .f32) (v70 : Vec Ideal S256x5632 .bf16)
  (h69 : ∀ r l, v69 (ix2 r l) = HMul.hMul (α := EReal) (β := EReal) (γ := EReal) (Ideal.ofBits .f32 1071072509#32) (dz2 a (ix2 (R r) l)))
  (h70 : ∀ r l, v70 (ix2 r l) = dgu a (ix2 (R r) l))

include h69 h70

/-- The block's gradient with respect to the output of the first layer norm. -/
theorem pay26_eq (r : Fin 256) (l : Fin 1024) : k0_pay26 (F := Ideal) v69 v70 B.b5 (ix2 r l) = dh a (ix2 (R r) l) := by
  unfold k0_pay26
  pointwise
  rw [dh_eq, h69]
  simp only [h70, B.e5]

/-- The block's gradient with respect to the normalised row of the first layer norm. -/
theorem pay30_eq (r : Fin 256) (l : Fin 1024) : k0_pay30 (F := Ideal) v69 v70 B.b5 B.b9 (ix2 r l) = t1 a (ix2 (R r) l) := by
  rw [t1_eq, ← pay26_eq B v69 v70 h69 h70 r l, ← B.e9 0]
  unfold k0_pay30
  pointwise

/-- The block's gradient with respect to the input of the first layer norm. -/
theorem pay1_eq (r : Fin 256) (l : Fin 1024) :
    k0_pay1 (F := Ideal) (k0_pay27 B.b7) (k0_pay30 v69 v70 B.b5 B.b9) (k0_pay31 B.b8) (k0_pay32 v69 v70 B.b5 B.b9) (k0_pay33 v69 v70 B.b5 B.b7 B.b9) (ix2 r l) = dz1 a (ix2 (R r) l) := by
  rw [← (dz1_nb a (R r) l).1]
  unfold nb k0_pay1 k0_pay31 k0_pay32 k0_pay33
  pointwise
  simp only [pay30_eq B v69 v70 h69 h70, pay27_eq, ← B.e7, ← B.e8]

/-- The block stored of the gradient with respect to the mixers' output. -/
theorem pay3_eq (r : Fin 256) (l : Fin 1024) :
    k0_pay3 (F := Ideal) (k0_pay27 B.b7) (k0_pay30 v69 v70 B.b5 B.b9) (k0_pay31 B.b8) (k0_pay32 v69 v70 B.b5 B.b9) (k0_pay33 v69 v70 B.b5 B.b7 B.b9) B.b10 (ix2 r l)
      = Cert.MlpRefIdeal.Read.val_main_v150 (F := Ideal) a.x0 a.x1 a.x2 a.x3 a.x4 a.x5 a.x6 a.x7 a.x8 (ix2 (R r) l) := by
  unfold k0_pay3
  pointwise
  rw [dmix_eq]
  refine Finset.sum_congr rfl fun k _ => ?_
  exact congrArg₂ (HMul.hMul (α := EReal) (β := EReal) (γ := EReal)) (pay1_eq B v69 v70 h69 h70 r k) (B.e10 _ _)

/-- The running sum for the first layer norm's scale. -/
theorem pay28_eq (acc : Vec Ideal S1x1024 .f32) (o : Fin 1) (l : Fin 1024) : k0_pay28 (F := Ideal) v69 v70 B.b5 B.b7 acc (ix2 o l)
    = HAdd.hAdd (α := EReal) (β := EReal) (γ := EReal) (acc (ix2 o l)) (∑ k : Fin 256, HMul.hMul (α := EReal) (β := EReal) (γ := EReal) (dh a (ix2 (R k) l)) (n1 a (ix2 (R k) l))) := by
  simp only [← B.e7, ← pay26_eq B v69 v70 h69 h70]
  unfold k0_pay28 k0_pay27
  pointwise

/-- The running sum for the first layer norm's shift. -/
theorem pay29_eq (acc : Vec Ideal S1x1024 .f32) (o : Fin 1) (l : Fin 1024) : k0_pay29 (F := Ideal) v69 v70 B.b5 acc (ix2 o l)
    = HAdd.hAdd (α := EReal) (β := EReal) (γ := EReal) (acc (ix2 o l)) (∑ k : Fin 256, dh a (ix2 (R k) l)) := by
  simp only [← pay26_eq B v69 v70 h69 h70]
  unfold k0_pay29
  pointwise

end Second

/-- The running sum for the second layer norm's scale. -/
theorem pay9_eq (acc : Vec Ideal S1x1024 .f32) (o : Fin 1) (l : Fin 1024) : k0_pay9 (F := Ideal) B.b0 B.b1 acc (ix2 o l)
    = HAdd.hAdd (α := EReal) (β := EReal) (γ := EReal) (acc (ix2 o l)) (∑ k : Fin 256, HMul.hMul (α := EReal) (β := EReal) (γ := EReal) (a.x8 (ix2 (R k) l)) (n2 a (ix2 (R k) l))) := by
  simp only [← B.e0, ← B.e1]
  unfold k0_pay9
  pointwise
  simp only [pay8_eq]

/-- The running sum for the second layer norm's shift. -/
theorem pay10_eq (acc : Vec Ideal S1x1024 .f32) (o : Fin 1) (l : Fin 1024) : k0_pay10 (F := Ideal) B.b0 acc (ix2 o l)
    = HAdd.hAdd (α := EReal) (β := EReal) (γ := EReal) (acc (ix2 o l)) (∑ k : Fin 256, a.x8 (ix2 (R k) l)) := by
  simp only [← B.e0]
  unfold k0_pay10
  pointwise

end Cert.Proof.MlpPay
end
-- ==== Proof.MlpRunB.lean ====
/- What the body of the MLP backward kernel leaves in its output blocks at every grid point but the first. -/
module

public import proofs.«01_k».proof.Proof.Gen.MlpBwdIdeal.Frame.RunA

@[expose] public section

-- membership in a rectangle of production extents (`View.cover_of_tiled`): the elaborator's structural look
-- recurses once per coordinate of the long axes
set_option maxRecDepth 16384

noncomputable section

namespace Cert.Proof.MlpRun

open Cert.MlpBwdIdeal Cert.MlpBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE B (`scf.if` 0 not taken: points 1, 2, … 7: 7 of 8), WITH the
    proof that on whole staging memrefs — the inputs' at their contents, the outputs it reads before covering (17, 18, 19, 20) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1 .f32) (harg3 : arg3.IsWhole) (arg4 : Memref sig .tc .vmem S1x1024 .f32) (harg4 : arg4.IsWhole) (arg5 : Memref sig .tc .vmem S256x5632 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1 .f32) (harg9 : arg9.IsWhole) (arg10 : Memref sig .tc .vmem S1x1024 .f32) (harg10 : arg10.IsWhole) (arg11 : Memref sig .tc .vmem S1024x1024 .bf16) (harg11 : arg11.IsWhole) (arg13 : Memref sig .tc .vmem S256x1024 .bf16) (harg13 : arg13.IsWhole) (arg14 : Memref sig .tc .vmem S256x2816 .bf16) (harg14 : arg14.IsWhole) (arg15 : Memref sig .tc .vmem S256x5632 .bf16) (harg15 : arg15.IsWhole) (arg16 : Memref sig .tc .vmem S256x1024 .f32) (harg16 : arg16.IsWhole) (arg17 : Memref sig .tc .vmem S256x1024 .bf16) (harg17 : arg17.IsWhole) (arg18 : Memref sig .tc .vmem S256x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (hc0 : ¬cond0_0 i)
    (x0 : Vec F S256x1024 .f32) (x1 : Vec F S256x1024 .f32) (x2 : Vec F S256x1 .f32) (x3 : Vec F S1x1024 .f32) (x4 : Vec F S256x5632 .f32) (x5 : Vec F S1024x5632 .bf16) (x6 : Vec F S2816x1024 .bf16) (x7 : Vec F S256x1024 .f32) (x8 : Vec F S256x1 .f32) (x9 : Vec F S1x1024 .f32) (x10 : Vec F S1024x1024 .bf16) (xo17 : Vec F S1x1024 .f32) (xo18 : Vec F S1x1024 .f32) (xo19 : Vec F S1x1024 .f32) (xo20 : Vec F S1x1024 .f32) :
    Σ' (L11 : List (View.Piece (Elt F) S256x1024 .bf16)), Σ' (L12 : List (View.Piece (Elt F) S256x2816 .bf16)), Σ' (L13 : List (View.Piece (Elt F) S256x5632 .bf16)), Σ' (L14 : List (View.Piece (Elt F) S256x1024 .f32)), Σ' (L15 : List (View.Piece (Elt F) S256x1024 .bf16)), Σ' (L16 : List (View.Piece (Elt F) S256x1024 .f32)), Σ' (L17 : List (View.Piece (Elt F) S1x1024 .f32)), Σ' (L18 : List (View.Piece (Elt F) S1x1024 .f32)), Σ' (L19 : List (View.Piece (Elt F) S1x1024 .f32)), { L20 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xo17 ∗ owns (c : Thread nD τ) arg20 fullShare xo18 ∗ owns (c : Thread nD τ) arg21 fullShare xo19 ∗ owns (c : Thread nD τ) arg22 fullShare xo20
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20)) -∗ K ⟨⟩))
          ⊢ wp frame (wpE (defs₀ (F := F)) Variants.none c none) E (cc0_mlp_bwd i arg1 harg1 arg2 harg2 arg3 harg3 arg4 harg4 arg5 harg5 arg6 harg6 arg7 harg7 arg8 harg8 arg9 harg9 arg10 harg10 arg11 harg11 (Memref.whole main_arg9) (Memref.isWhole_whole _) arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, fun E K => ?run⟩
  case run =>
    simp only [cc0_mlp_bwd_eq_skeleton]; unfold cc0_mlp_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%f19, %hf19, H19⟩, ⟨%f20, %hf20, H20⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg19.eq_unread hf17; obtain rfl := harg20.eq_unread hf18; obtain rfl := harg21.eq_unread hf19; obtain rfl := harg22.eq_unread hf20
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.Proof.MlpRun

end
-- ==== Proof.MlpCovA.lean ====
/- What the output blocks of the MLP backward kernel hold after the first grid point. -/
module

public import proofs.«01_k».proof.Proof.MlpRunB
public import Idealize.ShloMosaic.Lib.Claim

@[expose] public section

-- membership in a rectangle of production extents (`View.cover_of_tiled`): the elaborator's structural look
-- recurses once per coordinate of the long axes
set_option maxRecDepth 16384

noncomputable section

namespace Cert.Proof.MlpRun

open Cert.MlpBwdIdeal Cert.MlpBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section CaseA

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1 .f32) (harg3 : arg3.IsWhole) (arg4 : Memref sig .tc .vmem S1x1024 .f32) (harg4 : arg4.IsWhole) (arg5 : Memref sig .tc .vmem S256x5632 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1 .f32) (harg9 : arg9.IsWhole) (arg10 : Memref sig .tc .vmem S1x1024 .f32) (harg10 : arg10.IsWhole) (arg11 : Memref sig .tc .vmem S1024x1024 .bf16) (harg11 : arg11.IsWhole) (arg13 : Memref sig .tc .vmem S256x1024 .bf16) (harg13 : arg13.IsWhole) (arg14 : Memref sig .tc .vmem S256x2816 .bf16) (harg14 : arg14.IsWhole) (arg15 : Memref sig .tc .vmem S256x5632 .bf16) (harg15 : arg15.IsWhole) (arg16 : Memref sig .tc .vmem S256x1024 .f32) (harg16 : arg16.IsWhole) (arg17 : Memref sig .tc .vmem S256x1024 .bf16) (harg17 : arg17.IsWhole) (arg18 : Memref sig .tc .vmem S256x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (hc0 : cond0_0 i)
    (x0 : Vec F S256x1024 .f32) (x1 : Vec F S256x1024 .f32) (x2 : Vec F S256x1 .f32) (x3 : Vec F S1x1024 .f32) (x4 : Vec F S256x5632 .f32) (x5 : Vec F S1024x5632 .bf16) (x6 : Vec F S2816x1024 .bf16) (x7 : Vec F S256x1024 .f32) (x8 : Vec F S256x1 .f32) (x9 : Vec F S1x1024 .f32) (x10 : Vec F S1024x1024 .bf16)

/-- Case A's pieces cover output 11's block. -/
theorem cover0_A_11 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).1 S256x1024.size (by sl_kernel_rfl) y

/-- What case A leaves in output 11's buffer. -/
def out0_A_11 : Vec F S256x1024 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).1)

/-- Case A's pieces cover output 12's block. -/
theorem cover0_A_12 (y : S256x2816.Idx) :
    ∃ pc ∈ (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.1 S256x2816.size (by sl_kernel_rfl) y

/-- What case A leaves in output 12's buffer. -/
def out0_A_12 : Vec F S256x2816 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.1)

/-- Case A's pieces cover output 13's block. -/
theorem cover0_A_13 (y : S256x5632.Idx) :
    ∃ pc ∈ (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.1 S256x2816.size (by sl_kernel_rfl) y

/-- What case A leaves in output 13's buffer. -/
def out0_A_13 : Vec F S256x5632 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.1)

/-- Case A's pieces cover output 14's block. -/
theorem cover0_A_14 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.1 S256x1024.size (by sl_kernel_rfl) y

/-- What case A leaves in output 14's buffer. -/
def out0_A_14 : Vec F S256x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.1)

/-- Case A's pieces cover output 15's block. -/
theorem cover0_A_15 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.1 S256x1024.size (by sl_kernel_rfl) y

/-- What case A leaves in output 15's buffer. -/
def out0_A_15 : Vec F S256x1024 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.1)

/-- Case A's pieces cover output 16's block. -/
theorem cover0_A_16 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.1 S256x1024.size (by sl_kernel_rfl) y

/-- What case A leaves in output 16's buffer. -/
def out0_A_16 : Vec F S256x1024 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.1)

/-- Case A's pieces cover output 17's block. -/
theorem cover0_A_17 (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.2.1 S1x1024.size (by sl_kernel_rfl) y

/-- What case A leaves in output 17's buffer. -/
def out0_A_17 : Vec F S1x1024 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.2.1)

/-- Case A's pieces cover output 18's block. -/
theorem cover0_A_18 (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.2.2.1 S1x1024.size (by sl_kernel_rfl) y

/-- What case A leaves in output 18's buffer. -/
def out0_A_18 : Vec F S1x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.2.2.1)

/-- Case A's pieces cover output 19's block. -/
theorem cover0_A_19 (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.2.2.2.1 S1x1024.size (by sl_kernel_rfl) y

/-- What case A leaves in output 19's buffer. -/
def out0_A_19 : Vec F S1x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.2.2.2.1)

/-- Case A's pieces cover output 20's block. -/
theorem cover0_A_20 (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.2.2.2.2.1 S1x1024.size (by sl_kernel_rfl) y

/-- What case A leaves in output 20's buffer. -/
def out0_A_20 : Vec F S1x1024 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.2.2.2.2.1)

end CaseA

end Cert.Proof.MlpRun
-- ==== Proof.MlpCov.lean ====
/- What the output blocks of the MLP backward kernel hold after each grid point. -/
module

public import proofs.«01_k».proof.Proof.MlpCovA
public import Idealize.ShloMosaic.Lib.Claim

@[expose] public section

-- membership in a rectangle of production extents (`View.cover_of_tiled`): the elaborator's structural look
-- recurses once per coordinate of the long axes
set_option maxRecDepth 16384

noncomputable section

namespace Cert.Proof.MlpRun

open Cert.MlpBwdIdeal Cert.MlpBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section CaseB

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1 .f32) (harg3 : arg3.IsWhole) (arg4 : Memref sig .tc .vmem S1x1024 .f32) (harg4 : arg4.IsWhole) (arg5 : Memref sig .tc .vmem S256x5632 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1 .f32) (harg9 : arg9.IsWhole) (arg10 : Memref sig .tc .vmem S1x1024 .f32) (harg10 : arg10.IsWhole) (arg11 : Memref sig .tc .vmem S1024x1024 .bf16) (harg11 : arg11.IsWhole) (arg13 : Memref sig .tc .vmem S256x1024 .bf16) (harg13 : arg13.IsWhole) (arg14 : Memref sig .tc .vmem S256x2816 .bf16) (harg14 : arg14.IsWhole) (arg15 : Memref sig .tc .vmem S256x5632 .bf16) (harg15 : arg15.IsWhole) (arg16 : Memref sig .tc .vmem S256x1024 .f32) (harg16 : arg16.IsWhole) (arg17 : Memref sig .tc .vmem S256x1024 .bf16) (harg17 : arg17.IsWhole) (arg18 : Memref sig .tc .vmem S256x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (hc0 : ¬cond0_0 i)
    (x0 : Vec F S256x1024 .f32) (x1 : Vec F S256x1024 .f32) (x2 : Vec F S256x1 .f32) (x3 : Vec F S1x1024 .f32) (x4 : Vec F S256x5632 .f32) (x5 : Vec F S1024x5632 .bf16) (x6 : Vec F S2816x1024 .bf16) (x7 : Vec F S256x1024 .f32) (x8 : Vec F S256x1 .f32) (x9 : Vec F S1x1024 .f32) (x10 : Vec F S1024x1024 .bf16) (xo17 : Vec F S1x1024 .f32) (xo18 : Vec F S1x1024 .f32) (xo19 : Vec F S1x1024 .f32) (xo20 : Vec F S1x1024 .f32)

/-- Case B's pieces cover output 11's block. -/
theorem cover0_B_11 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).1 S256x1024.size (by sl_kernel_rfl) y

/-- What case B leaves in output 11's buffer. -/
def out0_B_11 : Vec F S256x1024 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).1)

/-- Case B's pieces cover output 12's block. -/
theorem cover0_B_12 (y : S256x2816.Idx) :
    ∃ pc ∈ (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.1 S256x2816.size (by sl_kernel_rfl) y

/-- What case B leaves in output 12's buffer. -/
def out0_B_12 : Vec F S256x2816 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.1)

/-- Case B's pieces cover output 13's block. -/
theorem cover0_B_13 (y : S256x5632.Idx) :
    ∃ pc ∈ (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.1 S256x2816.size (by sl_kernel_rfl) y

/-- What case B leaves in output 13's buffer. -/
def out0_B_13 : Vec F S256x5632 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.1)

/-- Case B's pieces cover output 14's block. -/
theorem cover0_B_14 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.1 S256x1024.size (by sl_kernel_rfl) y

/-- What case B leaves in output 14's buffer. -/
def out0_B_14 : Vec F S256x1024 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.1)

/-- Case B's pieces cover output 15's block. -/
theorem cover0_B_15 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.1 S256x1024.size (by sl_kernel_rfl) y

/-- What case B leaves in output 15's buffer. -/
def out0_B_15 : Vec F S256x1024 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.1)

/-- Case B's pieces cover output 16's block. -/
theorem cover0_B_16 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.1 S256x1024.size (by sl_kernel_rfl) y

/-- What case B leaves in output 16's buffer. -/
def out0_B_16 : Vec F S256x1024 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.1)

/-- Case B's pieces cover output 17's block. -/
theorem cover0_B_17 (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.2.1 S1x1024.size (by sl_kernel_rfl) y

/-- What case B leaves in output 17's buffer. -/
def out0_B_17 : Vec F S1x1024 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.2.1)

/-- Case B's pieces cover output 18's block. -/
theorem cover0_B_18 (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.2.2.1 S1x1024.size (by sl_kernel_rfl) y

/-- What case B leaves in output 18's buffer. -/
def out0_B_18 : Vec F S1x1024 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.2.2.1)

/-- Case B's pieces cover output 19's block. -/
theorem cover0_B_19 (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.2.2.2.1 S1x1024.size (by sl_kernel_rfl) y

/-- What case B leaves in output 19's buffer. -/
def out0_B_19 : Vec F S1x1024 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.2.2.2.1)

/-- Case B's pieces cover output 20's block. -/
theorem cover0_B_20 (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.2.2.2.2.1 S1x1024.size (by sl_kernel_rfl) y

/-- What case B leaves in output 20's buffer. -/
def out0_B_20 : Vec F S1x1024 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 x0 x1 x2 x3 x4 x5 x6 x7 x8 x9 x10 xo17 xo18 xo19 xo20).2.2.2.2.2.2.2.2.2.1)

end CaseB

/-! ## What the outputs hold after each point -/

/-- The ten results' contents after a point of case A. -/
def caseA (c : Dev nD) (t : Fin cfg0.N) (h0 : t.val % 8 = 0) : Vec F S256x1024 .bf16 × Vec F S256x2816 .bf16 × Vec F S256x5632 .bf16 × Vec F S256x1024 .f32 × Vec F S256x1024 .bf16 × Vec F S256x1024 .f32 × Vec F S1x1024 .f32 × Vec F S1x1024 .f32 × Vec F S1x1024 .f32 × Vec F S1x1024 .f32 :=
  (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t))

/-- The ten results' contents after a point of case B, over the contents `p` that the point before left. -/
def caseB (c : Dev nD) (t : Fin cfg0.N) (h0 : ¬t.val % 8 = 0) (p : Vec F S256x1024 .bf16 × Vec F S256x2816 .bf16 × Vec F S256x5632 .bf16 × Vec F S256x1024 .f32 × Vec F S256x1024 .bf16 × Vec F S256x1024 .f32 × Vec F S1x1024 .f32 × Vec F S1x1024 .f32 × Vec F S1x1024 .f32 × Vec F S1x1024 .f32) : Vec F S256x1024 .bf16 × Vec F S256x2816 .bf16 × Vec F S256x5632 .bf16 × Vec F S256x1024 .f32 × Vec F S256x1024 .bf16 × Vec F S256x1024 .f32 × Vec F S1x1024 .f32 × Vec F S1x1024 .f32 × Vec F S1x1024 .f32 × Vec F S1x1024 .f32 :=
  (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2.1 p.2.2.2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2.1 p.2.2.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2.1 p.2.2.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2.1 p.2.2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2.1 p.2.2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2.1 p.2.2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2.1 p.2.2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2.1 p.2.2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2.1 p.2.2.2.2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2.1 p.2.2.2.2.2.2.2.2.2)

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .bf16 × Vec F S256x2816 .bf16 × Vec F S256x5632 .bf16 × Vec F S256x1024 .f32 × Vec F S256x1024 .bf16 × Vec F S256x1024 .f32 × Vec F S1x1024 .f32 × Vec F S1x1024 .f32 × Vec F S1x1024 .f32 × Vec F S1x1024 .f32
  | 0, hn => caseA m c ⟨0, hn⟩ (Nat.zero_mod _)
  | n + 1, hn =>
    if h0 : (n + 1) % 8 = 0 then caseA m c ⟨n + 1, hn⟩ h0
    else caseB m c ⟨n + 1, hn⟩ h0 (outsAt0 c n (Nat.lt_of_succ_lt hn))

/-- `outsAt0` at a point of case A: that case's contents. -/
theorem outsAt0_A (c : Dev nD) (t : Fin cfg0.N) (h0 : t.val % 8 = 0) :
    outsAt0 m c t.val t.isLt = caseA m c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = caseB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

end Cert.Proof.MlpRun
-- ==== Proof.MlpFrame.lean ====
/- The frame of the MLP backward call: it ends, and keeps every buffer it does not write. -/
module

public import proofs.«01_k».proof.Proof.MlpCov
public import Idealize.ShloMosaic.Lib.Claim

@[expose] public section

-- membership in a rectangle of production extents (`View.cover_of_tiled`): the elaborator's structural look
-- recurses once per coordinate of the long axes
set_option maxRecDepth 16384

noncomputable section

namespace Cert.Proof.MlpRun

open Cert.MlpBwdIdeal Cert.MlpBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨16, _⟩ => (outsAt0 m c t.val t.isLt).2.2.2.2.2.1
    | ⟨17, _⟩ => (outsAt0 m c t.val t.isLt).2.2.2.2.2.2.1
    | ⟨18, _⟩ => (outsAt0 m c t.val t.isLt).2.2.2.2.2.2.2.1
    | ⟨19, _⟩ => (outsAt0 m c t.val t.isLt).2.2.2.2.2.2.2.2.1
    | ⟨20, _⟩ => (outsAt0 m c t.val t.isLt).2.2.2.2.2.2.2.2.2
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]
theorem after0_16 (c : Dev nD) (t : Fin cfg0.N) : (dats m 0 c).after 16 t = (outsAt0 m c t.val t.isLt).2.2.2.2.2.1 := by dsimp only [dats]
theorem after0_17 (c : Dev nD) (t : Fin cfg0.N) : (dats m 0 c).after 17 t = (outsAt0 m c t.val t.isLt).2.2.2.2.2.2.1 := by dsimp only [dats]
theorem after0_18 (c : Dev nD) (t : Fin cfg0.N) : (dats m 0 c).after 18 t = (outsAt0 m c t.val t.isLt).2.2.2.2.2.2.2.1 := by dsimp only [dats]
theorem after0_19 (c : Dev nD) (t : Fin cfg0.N) : (dats m 0 c).after 19 t = (outsAt0 m c t.val t.isLt).2.2.2.2.2.2.2.2.1 := by dsimp only [dats]
theorem after0_20 (c : Dev nD) (t : Fin cfg0.N) : (dats m 0 c).after 20 t = (outsAt0 m c t.val t.isLt).2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 8 = 0) (d) :
    (dats m 0 c).before 17 t d = (outsAt0 m c (t.val - 1) (Nat.lt_of_le_of_lt (Nat.sub_le _ _) t.isLt)).2.2.2.2.2.2.1 := by
  have hN : t.val < 8 := lt_of_lt_of_eq t.isLt (show cfg0.N = 8 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 8 = 0) (d) :
    (dats m 0 c).before 18 t d = (outsAt0 m c (t.val - 1) (Nat.lt_of_le_of_lt (Nat.sub_le _ _) t.isLt)).2.2.2.2.2.2.2.1 := by
  have hN : t.val < 8 := lt_of_lt_of_eq t.isLt (show cfg0.N = 8 from N_0)
  rw [Dat.before_out_kept _ 18 rfl t (by omega) (Bool.eq_false_iff.mpr fun h => by have := (flush0_18 _).mp h; dsimp only at this; omega)
    (fun _ => rfl) (fun _ _ => rfl)]
  dsimp only [dats]
/-- At a point of case B output 19's current staging buffer holds what the body left at the point before: the point is
    not the first, the buffer was not written back between (`flush0_19`), the window is live and uncut (Lib/Pipeline/Frame.lean
    `Dat.before_out_kept`). -/
theorem before0_19_B (c : Dev nD) (t : Fin cfg0.N) (h0 : ¬t.val % 8 = 0) (d) :
    (dats m 0 c).before 19 t d = (outsAt0 m c (t.val - 1) (Nat.lt_of_le_of_lt (Nat.sub_le _ _) t.isLt)).2.2.2.2.2.2.2.2.1 := by
  have hN : t.val < 8 := lt_of_lt_of_eq t.isLt (show cfg0.N = 8 from N_0)
  rw [Dat.before_out_kept _ 19 rfl t (by omega) (Bool.eq_false_iff.mpr fun h => by have := (flush0_19 _).mp h; dsimp only at this; omega)
    (fun _ => rfl) (fun _ _ => rfl)]
  dsimp only [dats]
/-- At a point of case B output 20's current staging buffer holds what the body left at the point before: the point is
    not the first, the buffer was not written back between (`flush0_20`), the window is live and uncut (Lib/Pipeline/Frame.lean
    `Dat.before_out_kept`). -/
theorem before0_20_B (c : Dev nD) (t : Fin cfg0.N) (h0 : ¬t.val % 8 = 0) (d) :
    (dats m 0 c).before 20 t d = (outsAt0 m c (t.val - 1) (Nat.lt_of_le_of_lt (Nat.sub_le _ _) t.isLt)).2.2.2.2.2.2.2.2.2 := by
  have hN : t.val < 8 := lt_of_lt_of_eq t.isLt (show cfg0.N = 8 from N_0)
  rw [Dat.before_out_kept _ 20 rfl t (by omega) (Bool.eq_false_iff.mpr fun h => by have := (flush0_20 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 4000000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  have hN : t.val < 8 := lt_of_lt_of_eq t.isLt (show cfg0.N = 8 from N_0)
  by_cases h0 : t.val % 8 = 0
  · rw [outsAt0_A m c t h0]
    unfold caseA out0_A_11 out0_A_12 out0_A_13 out0_A_14 out0_A_15 out0_A_16 out0_A_17 out0_A_18 out0_A_19 out0_A_20; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _)
    isplitl [H19]
    · unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_17_B m c t h0, before0_18_B m c t h0, before0_19_B m c t h0, before0_20_B m c t h0]
    unfold caseB out0_B_11 out0_B_12 out0_B_13 out0_B_14 out0_B_15 out0_B_16 out0_B_17 out0_B_18 out0_B_19 out0_B_20; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexact H17
    isplitl [H18]; · iexact H18
    isplitl [H19]; · iexact H19
    isplitl [H20]; · iexact H20
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H19]
    · unfold owns; iexists _; isplitr
      swap; · iexact H19
      ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H20
    ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 4000000 in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 4000000 in
-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_MlpBwdIdeal`'s statement (Defs.lean) at any `F` — Proof.lean cites it at `Bits`:
    `theorem Cert.Proof.claim : Cert.Claim := ⟨Cert.MlpBwdIdeal.Gen.facts, fun m ρ _ => Cert.MlpBwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Proof.MlpRun

end
-- ==== Proof.MlpValue.lean ====
/- The outputs of the MLP backward call after its run, block by block. -/
module

public import proofs.«01_k».proof.Proof.MlpFrame
public import Idealize.ShloMosaic.Lib.Pipeline.Value

@[expose] public section

noncomputable section

namespace Cert.Proof.MlpRun

open Cert.MlpBwdIdeal Cert.MlpBwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output window 11's array. -/
theorem flushed11 (c : Dev nD) (t : Fin cfg0.N) :
    (dats m 0 c).flushed 11 t = (cfg0.win 11).cut (grid0.coords t) ((outsAt0 m c t.val t.isLt).1) := by
  show (cfg0.win 11).cut (grid0.coords t) ((dats m 0 c).after 11 t) = _
  rw [after0_11]

/-- … at a point of case A. -/
theorem flushed11_A (c : Dev nD) (t : Fin cfg0.N) (h0 : t.val % 8 = 0) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed11, outsAt0_A m c t h0, caseA]

/-- … at a point of case B. -/
theorem flushed11_B (c : Dev nD) (t : Fin cfg0.N) (h0 : ¬t.val % 8 = 0) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  simp only [flushed11, outsAt0_B m c t h0, caseB]

/-- Distinct grid points have distinct blocks. -/
theorem idx_inj11 : ∀ t t' : Fin cfg0.N, win0_11.index t = win0_11.index t' → t = t' :=
  (by decide +kernel : ∀ t t' : Fin grid0.N, win0_11.index t = win0_11.index t' → t = t')

/-- So two such points' blocks share no array index. -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- Block `t` of the final array is what point `t` wrote back. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no such block covers keeps its entry contents. -/
theorem entry11 (c : Dev nD) (i : S2048x1024.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- What point `t` writes back to output window 12's array. -/
theorem flushed12 (c : Dev nD) (t : Fin cfg0.N) :
    (dats m 0 c).flushed 12 t = (cfg0.win 12).cut (grid0.coords t) ((outsAt0 m c t.val t.isLt).2.1) := by
  show (cfg0.win 12).cut (grid0.coords t) ((dats m 0 c).after 12 t) = _
  rw [after0_12]

/-- … at a point of case A. -/
theorem flushed12_A (c : Dev nD) (t : Fin cfg0.N) (h0 : t.val % 8 = 0) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed12, outsAt0_A m c t h0, caseA]

/-- … at a point of case B. -/
theorem flushed12_B (c : Dev nD) (t : Fin cfg0.N) (h0 : ¬t.val % 8 = 0) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  simp only [flushed12, outsAt0_B m c t h0, caseB]

/-- Distinct grid points have distinct blocks. -/
theorem idx_inj12 : ∀ t t' : Fin cfg0.N, win0_12.index t = win0_12.index t' → t = t' :=
  (by decide +kernel : ∀ t t' : Fin grid0.N, win0_12.index t = win0_12.index t' → t = t')

/-- So two such points' blocks share no array index. -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- Block `t` of the final array is what point `t` wrote back. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no such block covers keeps its entry contents. -/
theorem entry12 (c : Dev nD) (i : S2048x2816.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- What point `t` writes back to output window 13's array. -/
theorem flushed13 (c : Dev nD) (t : Fin cfg0.N) :
    (dats m 0 c).flushed 13 t = (cfg0.win 13).cut (grid0.coords t) ((outsAt0 m c t.val t.isLt).2.2.1) := by
  show (cfg0.win 13).cut (grid0.coords t) ((dats m 0 c).after 13 t) = _
  rw [after0_13]

/-- … at a point of case A. -/
theorem flushed13_A (c : Dev nD) (t : Fin cfg0.N) (h0 : t.val % 8 = 0) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed13, outsAt0_A m c t h0, caseA]

/-- … at a point of case B. -/
theorem flushed13_B (c : Dev nD) (t : Fin cfg0.N) (h0 : ¬t.val % 8 = 0) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  simp only [flushed13, outsAt0_B m c t h0, caseB]

/-- Distinct grid points have distinct blocks. -/
theorem idx_inj13 : ∀ t t' : Fin cfg0.N, win0_13.index t = win0_13.index t' → t = t' :=
  (by decide +kernel : ∀ t t' : Fin grid0.N, win0_13.index t = win0_13.index t' → t = t')

/-- So two such points' blocks share no array index. -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- Block `t` of the final array is what point `t` wrote back. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no such block covers keeps its entry contents. -/
theorem entry13 (c : Dev nD) (i : S2048x5632.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- What point `t` writes back to output window 14's array. -/
theorem flushed14 (c : Dev nD) (t : Fin cfg0.N) :
    (dats m 0 c).flushed 14 t = (cfg0.win 14).cut (grid0.coords t) ((outsAt0 m c t.val t.isLt).2.2.2.1) := by
  show (cfg0.win 14).cut (grid0.coords t) ((dats m 0 c).after 14 t) = _
  rw [after0_14]

/-- … at a point of case A. -/
theorem flushed14_A (c : Dev nD) (t : Fin cfg0.N) (h0 : t.val % 8 = 0) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed14, outsAt0_A m c t h0, caseA]

/-- … at a point of case B. -/
theorem flushed14_B (c : Dev nD) (t : Fin cfg0.N) (h0 : ¬t.val % 8 = 0) :
    (dats m 0 c).flushed 14 t = (cfg0.win 14).cut (grid0.coords t) (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  simp only [flushed14, outsAt0_B m c t h0, caseB]

/-- Distinct grid points have distinct blocks. -/
theorem idx_inj14 : ∀ t t' : Fin cfg0.N, win0_14.index t = win0_14.index t' → t = t' :=
  (by decide +kernel : ∀ t t' : Fin grid0.N, win0_14.index t = win0_14.index t' → t = t')

/-- So two such points' blocks share no array index. -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- Block `t` of the final array is what point `t` wrote back. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no such block covers keeps its entry contents. -/
theorem entry14 (c : Dev nD) (i : S2048x1024.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- What point `t` writes back to output window 15's array. -/
theorem flushed15 (c : Dev nD) (t : Fin cfg0.N) :
    (dats m 0 c).flushed 15 t = (cfg0.win 15).cut (grid0.coords t) ((outsAt0 m c t.val t.isLt).2.2.2.2.1) := by
  show (cfg0.win 15).cut (grid0.coords t) ((dats m 0 c).after 15 t) = _
  rw [after0_15]

/-- … at a point of case A. -/
theorem flushed15_A (c : Dev nD) (t : Fin cfg0.N) (h0 : t.val % 8 = 0) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed15, outsAt0_A m c t h0, caseA]

/-- … at a point of case B. -/
theorem flushed15_B (c : Dev nD) (t : Fin cfg0.N) (h0 : ¬t.val % 8 = 0) :
    (dats m 0 c).flushed 15 t = (cfg0.win 15).cut (grid0.coords t) (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  simp only [flushed15, outsAt0_B m c t h0, caseB]

/-- Distinct grid points have distinct blocks. -/
theorem idx_inj15 : ∀ t t' : Fin cfg0.N, win0_15.index t = win0_15.index t' → t = t' :=
  (by decide +kernel : ∀ t t' : Fin grid0.N, win0_15.index t = win0_15.index t' → t = t')

/-- So two such points' blocks share no array index. -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- Block `t` of the final array is what point `t` wrote back. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no such block covers keeps its entry contents. -/
theorem entry15 (c : Dev nD) (i : S2048x1024.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- What point `t` writes back to output window 16's array. -/
theorem flushed16 (c : Dev nD) (t : Fin cfg0.N) :
    (dats m 0 c).flushed 16 t = (cfg0.win 16).cut (grid0.coords t) ((outsAt0 m c t.val t.isLt).2.2.2.2.2.1) := by
  show (cfg0.win 16).cut (grid0.coords t) ((dats m 0 c).after 16 t) = _
  rw [after0_16]

/-- … at a point of case A. -/
theorem flushed16_A (c : Dev nD) (t : Fin cfg0.N) (h0 : t.val % 8 = 0) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed16, outsAt0_A m c t h0, caseA]

/-- … at a point of case B. -/
theorem flushed16_B (c : Dev nD) (t : Fin cfg0.N) (h0 : ¬t.val % 8 = 0) :
    (dats m 0 c).flushed 16 t = (cfg0.win 16).cut (grid0.coords t) (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  simp only [flushed16, outsAt0_B m c t h0, caseB]

/-- Distinct grid points have distinct blocks. -/
theorem idx_inj16 : ∀ t t' : Fin cfg0.N, win0_16.index t = win0_16.index t' → t = t' :=
  (by decide +kernel : ∀ t t' : Fin grid0.N, win0_16.index t = win0_16.index t' → t = t')

/-- So two such points' blocks share no array index. -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- Block `t` of the final array is what point `t` wrote back. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no such block covers keeps its entry contents. -/
theorem entry16 (c : Dev nD) (i : S2048x1024.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- What point `t` writes back to output window 17's array. -/
theorem flushed17 (c : Dev nD) (t : Fin cfg0.N) :
    (dats m 0 c).flushed 17 t = (cfg0.win 17).cut (grid0.coords t) ((outsAt0 m c t.val t.isLt).2.2.2.2.2.2.1) := by
  show (cfg0.win 17).cut (grid0.coords t) ((dats m 0 c).after 17 t) = _
  rw [after0_17]

/-- … at a point of case A. -/
theorem flushed17_A (c : Dev nD) (t : Fin cfg0.N) (h0 : t.val % 8 = 0) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed17, outsAt0_A m c t h0, caseA]

/-- … at a point of case B. -/
theorem flushed17_B (c : Dev nD) (t : Fin cfg0.N) (h0 : ¬t.val % 8 = 0) :
    (dats m 0 c).flushed 17 t = (cfg0.win 17).cut (grid0.coords t) (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  simp only [flushed17, outsAt0_B m c t h0, caseB]

-- no `blocks17`: window 17's index map revisits a block index, or its points could not be enumerated here;
-- the final array is still the frame's `arrAt`, to read with Lib/Pipeline/Value.lean's lemmas by hand

/-- An index that no such block covers keeps its entry contents. -/
theorem entry17 (c : Dev nD) (i : S1x1024.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- What point `t` writes back to output window 18's array. -/
theorem flushed18 (c : Dev nD) (t : Fin cfg0.N) :
    (dats m 0 c).flushed 18 t = (cfg0.win 18).cut (grid0.coords t) ((outsAt0 m c t.val t.isLt).2.2.2.2.2.2.2.1) := by
  show (cfg0.win 18).cut (grid0.coords t) ((dats m 0 c).after 18 t) = _
  rw [after0_18]

/-- … at a point of case A. -/
theorem flushed18_A (c : Dev nD) (t : Fin cfg0.N) (h0 : t.val % 8 = 0) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed18, outsAt0_A m c t h0, caseA]

/-- … at a point of case B. -/
theorem flushed18_B (c : Dev nD) (t : Fin cfg0.N) (h0 : ¬t.val % 8 = 0) :
    (dats m 0 c).flushed 18 t = (cfg0.win 18).cut (grid0.coords t) (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  simp only [flushed18, outsAt0_B m c t h0, caseB]

-- no `blocks18`: window 18's index map revisits a block index, or its points could not be enumerated here;
-- the final array is still the frame's `arrAt`, to read with Lib/Pipeline/Value.lean's lemmas by hand

/-- An index that no such block covers keeps its entry contents. -/
theorem entry18 (c : Dev nD) (i : S1x1024.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- What point `t` writes back to output window 19's array. -/
theorem flushed19 (c : Dev nD) (t : Fin cfg0.N) :
    (dats m 0 c).flushed 19 t = (cfg0.win 19).cut (grid0.coords t) ((outsAt0 m c t.val t.isLt).2.2.2.2.2.2.2.2.1) := by
  show (cfg0.win 19).cut (grid0.coords t) ((dats m 0 c).after 19 t) = _
  rw [after0_19]

/-- … at a point of case A. -/
theorem flushed19_A (c : Dev nD) (t : Fin cfg0.N) (h0 : t.val % 8 = 0) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed19, outsAt0_A m c t h0, caseA]

/-- … at a point of case B. -/
theorem flushed19_B (c : Dev nD) (t : Fin cfg0.N) (h0 : ¬t.val % 8 = 0) :
    (dats m 0 c).flushed 19 t = (cfg0.win 19).cut (grid0.coords t) (out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  simp only [flushed19, outsAt0_B m c t h0, caseB]

-- no `blocks19`: window 19's index map revisits a block index, or its points could not be enumerated here;
-- the final array is still the frame's `arrAt`, to read with Lib/Pipeline/Value.lean's lemmas by hand

/-- An index that no such block covers keeps its entry contents. -/
theorem entry19 (c : Dev nD) (i : S1x1024.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- What point `t` writes back to output window 20's array. -/
theorem flushed20 (c : Dev nD) (t : Fin cfg0.N) :
    (dats m 0 c).flushed 20 t = (cfg0.win 20).cut (grid0.coords t) ((outsAt0 m c t.val t.isLt).2.2.2.2.2.2.2.2.2) := by
  show (cfg0.win 20).cut (grid0.coords t) ((dats m 0 c).after 20 t) = _
  rw [after0_20]

/-- … at a point of case A. -/
theorem flushed20_A (c : Dev nD) (t : Fin cfg0.N) (h0 : t.val % 8 = 0) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed20, outsAt0_A m c t h0, caseA]

/-- … at a point of case B. -/
theorem flushed20_B (c : Dev nD) (t : Fin cfg0.N) (h0 : ¬t.val % 8 = 0) :
    (dats m 0 c).flushed 20 t = (cfg0.win 20).cut (grid0.coords t) (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  simp only [flushed20, outsAt0_B m c t h0, caseB]

-- no `blocks20`: window 20's index map revisits a block index, or its points could not be enumerated here;
-- the final array is still the frame's `arrAt`, to read with Lib/Pipeline/Value.lean's lemmas by hand

/-- An index that no such block covers keeps its entry contents. -/
theorem entry20 (c : Dev nD) (i : S1x1024.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v67_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v67_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v67_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v67_3) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v67_4) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v67_5) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v67_6) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v67_7) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v67_8) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v67_9) = (dats m 0 c).arrAt 20 cfg0.N :=
  (h c).1 20

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: input window 0 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 0).trans (((dats m 0 c).arrAt_in 0 rfl _).trans ((A_eq m c 0).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

set_option maxHeartbeats 302800 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v67_0) = (dats m 0 c).arrAt 11 cfg0.N
      ∧ r.2.mem ((c : Thread nD τ).loc main_v67_1) = (dats m 0 c).arrAt 12 cfg0.N
      ∧ r.2.mem ((c : Thread nD τ).loc main_v67_2) = (dats m 0 c).arrAt 13 cfg0.N
      ∧ r.2.mem ((c : Thread nD τ).loc main_v67_3) = (dats m 0 c).arrAt 14 cfg0.N
      ∧ r.2.mem ((c : Thread nD τ).loc main_v67_4) = (dats m 0 c).arrAt 15 cfg0.N
      ∧ r.2.mem ((c : Thread nD τ).loc main_v67_5) = (dats m 0 c).arrAt 16 cfg0.N
      ∧ r.2.mem ((c : Thread nD τ).loc main_v67_6) = (dats m 0 c).arrAt 17 cfg0.N
      ∧ r.2.mem ((c : Thread nD τ).loc main_v67_7) = (dats m 0 c).arrAt 18 cfg0.N
      ∧ r.2.mem ((c : Thread nD τ).loc main_v67_8) = (dats m 0 c).arrAt 19 cfg0.N
      ∧ r.2.mem ((c : Thread nD τ).loc main_v67_9) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post11 m r h c,
      post12 m r h c,
      post13 m r h c,
      post14 m r h c,
      post15 m r h c,
      post16 m r h c,
      post17 m r h c,
      post18 m r h c,
      post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.Proof.MlpRun

end
-- ==== Proof.MlpBlk.lean ====
module

public import proofs.«01_k».proof.Proof.MlpHost
public import proofs.«01_k».proof.Proof.MlpPay
public import proofs.«01_k».proof.Proof.MlpValue
public import Idealize.ShloMosaic.Lib.Pipeline.ValueKit
public import Idealize.ShloMosaic.Lib.Pointwise

@[expose] public section

set_option maxRecDepth 16384

noncomputable section

namespace Cert.Proof.Mlp

open Cert.MlpBwdIdeal Cert.MlpBwdIdeal.Gen Cert.Proof.MlpRun Cert.Proof.MlpHost Idealize.ShloMosaic Idealize.ShloMosaic.TcCoe Idealize.SL.Sem
open Idealize.ShloMosaic.Tactic
open Cert.Proof.RealMath Cert.Proof.MlpRef Cert.Proof.MlpPay

variable (m : (ℓ : Loc nD τ sig) → Buf (Elt Ideal) ℓ)

/-- The nine arrays that the gradients depend on hold real numbers. -/
structure Reals (c : Dev nD) : Prop where
  h0 : ∀ i, IsR (A0 m c i)
  h1 : ∀ i, IsR (A1 m c i)
  h2 : ∀ i, IsR (A2 m c i)
  h3 : ∀ i, IsR (A3 m c i)
  h4 : ∀ i, IsR (A4 m c i)
  h5 : ∀ i, IsR (A5 m c i)
  h6 : ∀ i, IsR (A6 m c i)
  h7 : ∀ i, IsR (A7 m c i)
  h8 : ∀ i, IsR (A8 m c i)

/-- The call's arguments, as the reference takes them. -/
def args (c : Dev nD) (h : Reals m c) : Args :=
  ⟨A0 m c, A1 m c, A2 m c, A3 m c, A4 m c, A5 m c, A6 m c, A7 m c, A8 m c, h.h0, h.h1, h.h2, h.h3, h.h4, h.h5, h.h6, h.h7, h.h8⟩

/-- The block that each window works on at a grid point, in blocks along each axis. -/
theorem idx : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0
    ∧ win0_12.index t (0 : Fin 2) = t.val
    ∧ win0_12.index t (1 : Fin 2) = 0
    ∧ win0_13.index t (0 : Fin 2) = t.val
    ∧ win0_13.index t (1 : Fin 2) = 0
    ∧ win0_14.index t (0 : Fin 2) = t.val
    ∧ win0_14.index t (1 : Fin 2) = 0
    ∧ win0_15.index t (0 : Fin 2) = t.val
    ∧ win0_15.index t (1 : Fin 2) = 0
    ∧ win0_16.index t (0 : Fin 2) = t.val
    ∧ win0_16.index t (1 : Fin 2) = 0
    ∧ win0_17.index t (0 : Fin 2) = 0
    ∧ win0_17.index t (1 : Fin 2) = 0
    ∧ win0_18.index t (0 : Fin 2) = 0
    ∧ win0_18.index t (1 : Fin 2) = 0
    ∧ win0_19.index t (0 : Fin 2) = 0
    ∧ win0_19.index t (1 : Fin 2) = 0
    ∧ win0_20.index t (0 : Fin 2) = 0
    ∧ win0_20.index t (1 : Fin 2) = 0
    ∧ t.val < 8 :=
  (by decide +kernel : ∀ t : Fin grid0.N, _)

/-- A point is one of the eight. -/
theorem lt8 (t : Fin cfg0.N) : t.val < 8 := t.isLt

/-- The row of the array that row `r` of the point's block is. -/
def row (t : Fin cfg0.N) (r : Fin 256) : Fin 2048 := ⟨t.val * 256 + r.val, by have := lt8 t; omega⟩

/-- Where an element of the point's block of the rows of the gradient of the output lies. -/
theorem emb0 (t : Fin cfg0.N) (r : Fin 256) (l : Fin 1024) :
    ((cfg0.win 0).blk t).view.emb (ix2 r l) = (ix2 (row t r) l : S2048x1024.Idx) := by
  obtain ⟨e0, e1, -⟩ := idx t
  funext a; apply Fin.ext
  match a with
  | ⟨0, _⟩ => show win0_0.index t (0 : Fin 2) * 256 + 1 * r.val = t.val * 256 + r.val; omega
  | ⟨1, _⟩ => show win0_0.index t (1 : Fin 2) * 1024 + 1 * l.val = l.val; omega

/-- The point's block of the rows of the gradient of the output. -/
theorem iblk0 (c : Dev nD) (t : Fin cfg0.N) (r : Fin 256) (l : Fin 1024) :
    iblk m c 0 t (ix2 r l) = A8 m c (ix2 (row t r) l) := by
  show V m c main_arg8 (((cfg0.win 0).blk t).view.emb (ix2 r l)) = _
  rw [emb0, V_main_arg8]

/-- Where an element of the point's block of the normalised rows of the second layer norm lies. -/
theorem emb1 (t : Fin cfg0.N) (r : Fin 256) (l : Fin 1024) :
    ((cfg0.win 1).blk t).view.emb (ix2 r l) = (ix2 (row t r) l : S2048x1024.Idx) := by
  obtain ⟨-, -, e0, e1, -⟩ := idx t
  funext a; apply Fin.ext
  match a with
  | ⟨0, _⟩ => show win0_1.index t (0 : Fin 2) * 256 + 1 * r.val = t.val * 256 + r.val; omega
  | ⟨1, _⟩ => show win0_1.index t (1 : Fin 2) * 1024 + 1 * l.val = l.val; omega

/-- The point's block of the normalised rows of the second layer norm. -/
theorem iblk1 (c : Dev nD) (h : Reals m c) (t : Fin cfg0.N) (r : Fin 256) (l : Fin 1024) :
    iblk m c 1 t (ix2 r l) = n2 (args m c h) (ix2 (row t r) l) := by
  show V m c main_v61 (((cfg0.win 1).blk t).view.emb (ix2 r l)) = _
  rw [emb1, V_xhat2]
  rfl

/-- Where an element of the point's block of the reciprocal deviations of the second layer norm lies. -/
theorem emb2 (t : Fin cfg0.N) (r : Fin 256) (l : Fin 1) :
    ((cfg0.win 2).blk t).view.emb (ix2 r l) = (ix2 (row t r) l : S2048x1.Idx) := by
  obtain ⟨-, -, -, -, e0, e1, -⟩ := idx t
  funext a; apply Fin.ext
  match a with
  | ⟨0, _⟩ => show win0_2.index t (0 : Fin 2) * 256 + 1 * r.val = t.val * 256 + r.val; omega
  | ⟨1, _⟩ => show win0_2.index t (1 : Fin 2) * 1 + 1 * l.val = l.val; omega

/-- The point's block of the reciprocal deviations of the second layer norm. -/
theorem iblk2 (c : Dev nD) (h : Reals m c) (t : Fin cfg0.N) (r : Fin 256) (l : Fin 1) :
    iblk m c 2 t (ix2 r l) = s2 (args m c h) (ix2 (row t r) l) := by
  show V m c main_v57 (((cfg0.win 2).blk t).view.emb (ix2 r l)) = _
  rw [emb2, V_rstd2]
  rfl

/-- Where an element of the point's block of the scale of the second layer norm lies. -/
theorem emb3 (t : Fin cfg0.N) (r : Fin 1) (l : Fin 1024) :
    ((cfg0.win 3).blk t).view.emb (ix2 r l) = (ix2 r l : S1x1024.Idx) := by
  obtain ⟨-, -, -, -, -, -, e0, e1, -⟩ := idx t
  funext a; apply Fin.ext
  match a with
  | ⟨0, _⟩ => show win0_3.index t (0 : Fin 2) * 1 + 1 * r.val = r.val; omega
  | ⟨1, _⟩ => show win0_3.index t (1 : Fin 2) * 1024 + 1 * l.val = l.val; omega

/-- The point's block of the scale of the second layer norm. -/
theorem iblk3 (c : Dev nD) (t : Fin cfg0.N) (r : Fin 1) (l : Fin 1024) :
    iblk m c 3 t (ix2 r l) = A7 m c (ix1 l) := by
  show V m c main_v62 (((cfg0.win 3).blk t).view.emb (ix2 r l)) = _
  rw [emb3, V_g2]
  exact congrArg (A7 m c) (funext fun a => by match a with | ⟨0, _⟩ => rfl)

/-- Where an element of the point's block of the rows of gates and values lies. -/
theorem emb4 (t : Fin cfg0.N) (r : Fin 256) (l : Fin 5632) :
    ((cfg0.win 4).blk t).view.emb (ix2 r l) = (ix2 (row t r) l : S2048x5632.Idx) := by
  obtain ⟨-, -, -, -, -, -, -, -, e0, e1, -⟩ := idx t
  funext a; apply Fin.ext
  match a with
  | ⟨0, _⟩ => show win0_4.index t (0 : Fin 2) * 256 + 1 * r.val = t.val * 256 + r.val; omega
  | ⟨1, _⟩ => show win0_4.index t (1 : Fin 2) * 5632 + 1 * l.val = l.val; omega

/-- The point's block of the rows of gates and values. -/
theorem iblk4 (c : Dev nD) (h : Reals m c) (t : Fin cfg0.N) (r : Fin 256) (l : Fin 5632) :
    iblk m c 4 t (ix2 r l) = gu (args m c h) (ix2 (row t r) l) := by
  show V m c main_v28 (((cfg0.win 4).blk t).view.emb (ix2 r l)) = _
  rw [emb4, V_gu]
  rfl

/-- Where an element of the point's block of the gate and value projection lies. -/
theorem emb5 (t : Fin cfg0.N) (r : Fin 1024) (l : Fin 5632) :
    ((cfg0.win 5).blk t).view.emb (ix2 r l) = (ix2 r l : S1024x5632.Idx) := by
  obtain ⟨-, -, -, -, -, -, -, -, -, -, e0, e1, -⟩ := idx t
  funext a; apply Fin.ext
  match a with
  | ⟨0, _⟩ => show win0_5.index t (0 : Fin 2) * 1024 + 1 * r.val = r.val; omega
  | ⟨1, _⟩ => show win0_5.index t (1 : Fin 2) * 5632 + 1 * l.val = l.val; omega

/-- The point's block of the gate and value projection. -/
theorem iblk5 (c : Dev nD) (t : Fin cfg0.N) (r : Fin 1024) (l : Fin 5632) :
    iblk m c 5 t (ix2 r l) = A5 m c (ix2 r l) := by
  show V m c main_v63 (((cfg0.win 5).blk t).view.emb (ix2 r l)) = _
  rw [emb5, V_wgu]
  rfl

/-- Where an element of the point's block of the down projection lies. -/
theorem emb6 (t : Fin cfg0.N) (r : Fin 2816) (l : Fin 1024) :
    ((cfg0.win 6).blk t).view.emb (ix2 r l) = (ix2 r l : S2816x1024.Idx) := by
  obtain ⟨-, -, -, -, -, -, -, -, -, -, -, -, e0, e1, -⟩ := idx t
  funext a; apply Fin.ext
  match a with
  | ⟨0, _⟩ => show win0_6.index t (0 : Fin 2) * 2816 + 1 * r.val = r.val; omega
  | ⟨1, _⟩ => show win0_6.index t (1 : Fin 2) * 1024 + 1 * l.val = l.val; omega

/-- The point's block of the down projection. -/
theorem iblk6 (c : Dev nD) (t : Fin cfg0.N) (r : Fin 2816) (l : Fin 1024) :
    iblk m c 6 t (ix2 r l) = A6 m c (ix2 r l) := by
  show V m c main_v64 (((cfg0.win 6).blk t).view.emb (ix2 r l)) = _
  rw [emb6, V_wd]
  rfl

/-- Where an element of the point's block of the normalised rows of the first layer norm lies. -/
theorem emb7 (t : Fin cfg0.N) (r : Fin 256) (l : Fin 1024) :
    ((cfg0.win 7).blk t).view.emb (ix2 r l) = (ix2 (row t r) l : S2048x1024.Idx) := by
  obtain ⟨-, -, -, -, -, -, -, -, -, -, -, -, -, -, e0, e1, -⟩ := idx t
  funext a; apply Fin.ext
  match a with
  | ⟨0, _⟩ => show win0_7.index t (0 : Fin 2) * 256 + 1 * r.val = t.val * 256 + r.val; omega
  | ⟨1, _⟩ => show win0_7.index t (1 : Fin 2) * 1024 + 1 * l.val = l.val; omega

/-- The point's block of the normalised rows of the first layer norm. -/
theorem iblk7 (c : Dev nD) (h : Reals m c) (t : Fin cfg0.N) (r : Fin 256) (l : Fin 1024) :
    iblk m c 7 t (ix2 r l) = n1 (args m c h) (ix2 (row t r) l) := by
  show V m c main_v21 (((cfg0.win 7).blk t).view.emb (ix2 r l)) = _
  rw [emb7, V_xhat1]
  rfl

/-- Where an element of the point's block of the reciprocal deviations of the first layer norm lies. -/
theorem emb8 (t : Fin cfg0.N) (r : Fin 256) (l : Fin 1) :
    ((cfg0.win 8).blk t).view.emb (ix2 r l) = (ix2 (row t r) l : S2048x1.Idx) := by
  obtain ⟨-, -, -, -, -, -, -, -, -, -, -, -, -, -, -, -, e0, e1, -⟩ := idx t
  funext a; apply Fin.ext
  match a with
  | ⟨0, _⟩ => show win0_8.index t (0 : Fin 2) * 256 + 1 * r.val = t.val * 256 + r.val; omega
  | ⟨1, _⟩ => show win0_8.index t (1 : Fin 2) * 1 + 1 * l.val = l.val; omega

/-- The point's block of the reciprocal deviations of the first layer norm. -/
theorem iblk8 (c : Dev nD) (h : Reals m c) (t : Fin cfg0.N) (r : Fin 256) (l : Fin 1) :
    iblk m c 8 t (ix2 r l) = s1 (args m c h) (ix2 (row t r) l) := by
  show V m c main_v17 (((cfg0.win 8).blk t).view.emb (ix2 r l)) = _
  rw [emb8, V_rstd1]
  rfl

/-- Where an element of the point's block of the scale of the first layer norm lies. -/
theorem emb9 (t : Fin cfg0.N) (r : Fin 1) (l : Fin 1024) :
    ((cfg0.win 9).blk t).view.emb (ix2 r l) = (ix2 r l : S1x1024.Idx) := by
  obtain ⟨-, -, -, -, -, -, -, -, -, -, -, -, -, -, -, -, -, -, e0, e1, -⟩ := idx t
  funext a; apply Fin.ext
  match a with
  | ⟨0, _⟩ => show win0_9.index t (0 : Fin 2) * 1 + 1 * r.val = r.val; omega
  | ⟨1, _⟩ => show win0_9.index t (1 : Fin 2) * 1024 + 1 * l.val = l.val; omega

/-- The point's block of the scale of the first layer norm. -/
theorem iblk9 (c : Dev nD) (t : Fin cfg0.N) (r : Fin 1) (l : Fin 1024) :
    iblk m c 9 t (ix2 r l) = A3 m c (ix1 l) := by
  show V m c main_v65 (((cfg0.win 9).blk t).view.emb (ix2 r l)) = _
  rw [emb9, V_g1]
  exact congrArg (A3 m c) (funext fun a => by match a with | ⟨0, _⟩ => rfl)

/-- Where an element of the point's block of the output projection lies. -/
theorem emb10 (t : Fin cfg0.N) (r : Fin 1024) (l : Fin 1024) :
    ((cfg0.win 10).blk t).view.emb (ix2 r l) = (ix2 r l : S1024x1024.Idx) := by
  obtain ⟨-, -, -, -, -, -, -, -, -, -, -, -, -, -, -, -, -, -, -, -, e0, e1, -⟩ := idx t
  funext a; apply Fin.ext
  match a with
  | ⟨0, _⟩ => show win0_10.index t (0 : Fin 2) * 1024 + 1 * r.val = r.val; omega
  | ⟨1, _⟩ => show win0_10.index t (1 : Fin 2) * 1024 + 1 * l.val = l.val; omega

/-- The point's block of the output projection. -/
theorem iblk10 (c : Dev nD) (t : Fin cfg0.N) (r : Fin 1024) (l : Fin 1024) :
    iblk m c 10 t (ix2 r l) = A2 m c (ix2 r l) := by
  show V m c main_v66 (((cfg0.win 10).blk t).view.emb (ix2 r l)) = _
  rw [emb10, V_wo]
  rfl

/-- What the kernel's body reads at a point is the reference's rows. -/
def blk (c : Dev nD) (h : Reals m c) (t : Fin cfg0.N) : Blk (args m c h) (row t) where
  b0 := iblk m c 0 t
  b1 := iblk m c 1 t
  b2 := iblk m c 2 t
  b3 := iblk m c 3 t
  b4 := iblk m c 4 t
  b5 := iblk m c 5 t
  b6 := iblk m c 6 t
  b7 := iblk m c 7 t
  b8 := iblk m c 8 t
  b9 := iblk m c 9 t
  b10 := iblk m c 10 t
  e0 := fun r l => iblk0 m c t r l
  e1 := fun r l => iblk1 m c h t r l
  e2 := fun r l => iblk2 m c h t r l
  e3 := fun r l => iblk3 m c t r l
  e4 := fun r l => iblk4 m c h t r l
  e5 := fun r l => iblk5 m c t r l
  e6 := fun r l => iblk6 m c t r l
  e7 := fun r l => iblk7 m c h t r l
  e8 := fun r l => iblk8 m c h t r l
  e9 := fun r l => iblk9 m c t r l
  e10 := fun r l => iblk10 m c t r l

end Cert.Proof.Mlp
end
-- ==== Proof.Mlp.lean ====
module

public import proofs.«01_k».proof.Proof.MlpBlk
public import Idealize.ShloMosaic.Lib.Pipeline.ValueKit
public import Idealize.ShloMosaic.Lib.Pointwise

@[expose] public section

set_option maxRecDepth 16384

noncomputable section

namespace Cert.Proof.Mlp

open Cert.MlpBwdIdeal Cert.MlpBwdIdeal.Gen Cert.Proof.MlpRun Cert.Proof.MlpHost Idealize.ShloMosaic Idealize.ShloMosaic.TcCoe Idealize.SL.Sem
open Idealize.ShloMosaic.Tactic
open Cert.Proof.RealMath Cert.Proof.MlpRef Cert.Proof.MlpPay

variable (m : (ℓ : Loc nD τ sig) → Buf (Elt Ideal) ℓ)

/-- The block of gradients with respect to the gates and the values, read back after its two halves were stored. -/
def whole (c : Dev nD) (h : Reals m c) (t : Fin cfg0.N) : Vec Ideal S256x5632 .bf16 :=
  (ms0_13 t).view.readCov (Val := Elt Ideal) (dguP (blk m c h t)) (Rect.unit (s := S256x5632) ![0, 0] ![256, 5632] inb_S256x5632_S256x5632_0_0).toLoadRect

/-- The gradient with respect to the input of the second layer norm: the reference's array, read at an index. -/
theorem val11 (c : Dev nD) (h : Reals m c) (r : Fin 2048) (l : Fin 1024) : Cert.MlpRefIdeal.Read.val_main_v151 (F := Ideal) (A0 m c) (A1 m c) (A2 m c) (A3 m c) (A4 m c) (A5 m c) (A6 m c) (A7 m c) (A8 m c) (ix2 r l) = dz2 (args m c h) (ix2 r l) := by
  unfold Cert.MlpRefIdeal.Read.val_main_v151
  pointwise
  rfl

/-- Where an element of a block of the gradient with respect to the input of the second layer norm lies. -/
theorem emb11 (t : Fin cfg0.N) (r : Fin 256) (l : Fin 1024) :
    ((cfg0.win 11).blk t).view.emb (ix2 r l) = (ix2 (row t r) l : S2048x1024.Idx) := by
  obtain ⟨-, -, -, -, -, -, -, -, -, -, -, -, -, -, -, -, -, -, -, -, -, -, e0, e1, -⟩ := idx t
  funext a; apply Fin.ext
  match a with
  | ⟨0, _⟩ => show win0_11.index t (0 : Fin 2) * 256 + 1 * r.val = t.val * 256 + r.val; omega
  | ⟨1, _⟩ => show win0_11.index t (1 : Fin 2) * 1024 + 1 * l.val = l.val; omega

/-- No block sticks out of the array: a block is written back whole. -/
theorem cut11 (t : Fin cfg0.N) (X : Vec Ideal S256x1024 .bf16) (j : S256x1024.Idx) : (cfg0.win 11).cut (grid0.coords t) X j = X j := rfl

/-- What point `t` writes back of the gradient with respect to the input of the second layer norm, read at an index. -/
theorem at11 (c : Dev nD) (h : Reals m c) (t : Fin cfg0.N) (r : Fin 256) (l : Fin 1024) :
    (dats m 0 c).flushed 11 t (ix2 r l : S256x1024.Idx) = dz2 (args m c h) (ix2 (row t r) l) := by
  by_cases h0 : t.val % 8 = 0
  · rw [flushed11_A m c t h0]
    obtain ⟨X, hX⟩ : ∃ X, X = dz2 (args m c h) (ix2 (row t r) l) := ⟨_, rfl⟩
    rw [← hX]
    frame_out
    rw [hX]
    refine (cut11 t _ _).trans ?_
    have e := pay16_eq (blk m c h t) r l
    dsimp only [blk, dguP, ldg, ldu, whole] at e
    exact e
  · rw [flushed11_B m c t h0]
    obtain ⟨X, hX⟩ : ∃ X, X = dz2 (args m c h) (ix2 (row t r) l) := ⟨_, rfl⟩
    rw [← hX]
    frame_out
    rw [hX]
    refine (cut11 t _ _).trans ?_
    have e := pay16_eq (blk m c h t) r l
    dsimp only [blk, dguP, ldg, ldu, whole] at e
    exact e

/-- What point `t` writes back of the gradient with respect to the input of the second layer norm is that block of the reference's array. -/
theorem flushed11_eq (c : Dev nD) (h : Reals m c) (t : Fin cfg0.N) :
    (dats m 0 c).flushed 11 t = ((cfg0.win 11).blk t).view.read (Elt Ideal) (Cert.MlpRefIdeal.Read.val_main_v151 (F := Ideal) (A0 m c) (A1 m c) (A2 m c) (A3 m c) (A4 m c) (A5 m c) (A6 m c) (A7 m c) (A8 m c)) := by
  funext j
  obtain ⟨r, l, rfl⟩ : ∃ (r : Fin 256) (l : Fin 1024), j = ix2 r l := ⟨j 0, j 1, eq_ix2 j⟩
  refine Eq.trans ?_ (congrArg (Cert.MlpRefIdeal.Read.val_main_v151 (F := Ideal) (A0 m c) (A1 m c) (A2 m c) (A3 m c) (A4 m c) (A5 m c) (A6 m c) (A7 m c) (A8 m c)) (emb11 t r l)).symm
  refine (at11 m c h t r l).trans ?_
  exact (val11 m c h _ _).symm

/-- Every element of the array is in some point's block. -/
theorem cover11 (i : S2048x1024.Idx) : ∃ t : Fin cfg0.N, (cfg0.win 11).flush t = true ∧ i ∈ ((cfg0.win 11).blk t).view.set := by
  obtain ⟨r, l, rfl⟩ : ∃ (r : Fin 2048) (l : Fin 1024), i = ix2 r l := ⟨i 0, i 1, eq_ix2 i⟩
  have hv := r.isLt
  refine ⟨(⟨r.val / 256, by show r.val / 256 < 8; omega⟩ : Fin cfg0.N), flush0_11 _, ?_⟩
  have h := ((cfg0.win 11).blk (⟨r.val / 256, by show r.val / 256 < 8; omega⟩ : Fin cfg0.N)).view.emb_mem_set (ix2 ⟨r.val % 256, by omega⟩ l)
  rw [emb11] at h
  have e : row (⟨r.val / 256, by show r.val / 256 < 8; omega⟩ : Fin cfg0.N) ⟨r.val % 256, by omega⟩ = r := Fin.ext (by show r.val / 256 * 256 + r.val % 256 = r.val; omega)
  rw [e] at h
  exact h

/-- The array of the gradient with respect to the input of the second layer norm after the run is the reference's. -/
theorem final11 (c : Dev nD) (h : Reals m c) : (dats m 0 c).arrAt 11 cfg0.N = Cert.MlpRefIdeal.Read.val_main_v151 (F := Ideal) (A0 m c) (A1 m c) (A2 m c) (A3 m c) (A4 m c) (A5 m c) (A6 m c) (A7 m c) (A8 m c) :=
  (dats m 0 c).arrAt_eq_of_cover 11 _ (fun t _ => flushed11_eq m c h t) cover11

/-- The gated values: the reference's array, read at an index. -/
theorem val12 (c : Dev nD) (h : Reals m c) (r : Fin 2048) (l : Fin 2816) : Cert.MlpRefIdeal.Read.val_main_v152 (F := Ideal) (A0 m c) (A1 m c) (A2 m c) (A3 m c) (A4 m c) (A5 m c) (ix2 r l) = act (args m c h) (ix2 r l) := by
  unfold Cert.MlpRefIdeal.Read.val_main_v152
  pointwise
  rfl

/-- Where an element of a block of the gated values lies. -/
theorem emb12 (t : Fin cfg0.N) (r : Fin 256) (l : Fin 2816) :
    ((cfg0.win 12).blk t).view.emb (ix2 r l) = (ix2 (row t r) l : S2048x2816.Idx) := by
  obtain ⟨-, -, -, -, -, -, -, -, -, -, -, -, -, -, -, -, -, -, -, -, -, -, -, -, e0, e1, -⟩ := idx t
  funext a; apply Fin.ext
  match a with
  | ⟨0, _⟩ => show win0_12.index t (0 : Fin 2) * 256 + 1 * r.val = t.val * 256 + r.val; omega
  | ⟨1, _⟩ => show win0_12.index t (1 : Fin 2) * 2816 + 1 * l.val = l.val; omega

/-- No block sticks out of the array: a block is written back whole. -/
theorem cut12 (t : Fin cfg0.N) (X : Vec Ideal S256x2816 .bf16) (j : S256x2816.Idx) : (cfg0.win 12).cut (grid0.coords t) X j = X j := rfl

/-- What point `t` writes back of the gated values, read at an index. -/
theorem at12 (c : Dev nD) (h : Reals m c) (t : Fin cfg0.N) (r : Fin 256) (l : Fin 2816) :
    (dats m 0 c).flushed 12 t (ix2 r l : S256x2816.Idx) = act (args m c h) (ix2 (row t r) l) := by
  by_cases h0 : t.val % 8 = 0
  · rw [flushed12_A m c t h0]
    obtain ⟨X, hX⟩ : ∃ X, X = act (args m c h) (ix2 (row t r) l) := ⟨_, rfl⟩
    rw [← hX]
    frame_out
    rw [hX]
    refine (cut12 t _ _).trans ?_
    have e := pay22_eq (blk m c h t) r l
    dsimp only [blk, dguP, ldg, ldu, whole] at e
    exact e
  · rw [flushed12_B m c t h0]
    obtain ⟨X, hX⟩ : ∃ X, X = act (args m c h) (ix2 (row t r) l) := ⟨_, rfl⟩
    rw [← hX]
    frame_out
    rw [hX]
    refine (cut12 t _ _).trans ?_
    have e := pay22_eq (blk m c h t) r l
    dsimp only [blk, dguP, ldg, ldu, whole] at e
    exact e

/-- What point `t` writes back of the gated values is that block of the reference's array. -/
theorem flushed12_eq (c : Dev nD) (h : Reals m c) (t : Fin cfg0.N) :
    (dats m 0 c).flushed 12 t = ((cfg0.win 12).blk t).view.read (Elt Ideal) (Cert.MlpRefIdeal.Read.val_main_v152 (F := Ideal) (A0 m c) (A1 m c) (A2 m c) (A3 m c) (A4 m c) (A5 m c)) := by
  funext j
  obtain ⟨r, l, rfl⟩ : ∃ (r : Fin 256) (l : Fin 2816), j = ix2 r l := ⟨j 0, j 1, eq_ix2 j⟩
  refine Eq.trans ?_ (congrArg (Cert.MlpRefIdeal.Read.val_main_v152 (F := Ideal) (A0 m c) (A1 m c) (A2 m c) (A3 m c) (A4 m c) (A5 m c)) (emb12 t r l)).symm
  refine (at12 m c h t r l).trans ?_
  exact (val12 m c h _ _).symm

/-- Every element of the array is in some point's block. -/
theorem cover12 (i : S2048x2816.Idx) : ∃ t : Fin cfg0.N, (cfg0.win 12).flush t = true ∧ i ∈ ((cfg0.win 12).blk t).view.set := by
  obtain ⟨r, l, rfl⟩ : ∃ (r : Fin 2048) (l : Fin 2816), i = ix2 r l := ⟨i 0, i 1, eq_ix2 i⟩
  have hv := r.isLt
  refine ⟨(⟨r.val / 256, by show r.val / 256 < 8; omega⟩ : Fin cfg0.N), flush0_12 _, ?_⟩
  have h := ((cfg0.win 12).blk (⟨r.val / 256, by show r.val / 256 < 8; omega⟩ : Fin cfg0.N)).view.emb_mem_set (ix2 ⟨r.val % 256, by omega⟩ l)
  rw [emb12] at h
  have e : row (⟨r.val / 256, by show r.val / 256 < 8; omega⟩ : Fin cfg0.N) ⟨r.val % 256, by omega⟩ = r := Fin.ext (by show r.val / 256 * 256 + r.val % 256 = r.val; omega)
  rw [e] at h
  exact h

/-- The array of the gated values after the run is the reference's. -/
theorem final12 (c : Dev nD) (h : Reals m c) : (dats m 0 c).arrAt 12 cfg0.N = Cert.MlpRefIdeal.Read.val_main_v152 (F := Ideal) (A0 m c) (A1 m c) (A2 m c) (A3 m c) (A4 m c) (A5 m c) :=
  (dats m 0 c).arrAt_eq_of_cover 12 _ (fun t _ => flushed12_eq m c h t) cover12

/-- The gradient with respect to the gates and the values: the reference's array, read at an index. -/
theorem val13 (c : Dev nD) (h : Reals m c) (r : Fin 2048) (l : Fin 5632) : Cert.MlpRefIdeal.Read.val_main_v153 (F := Ideal) (A0 m c) (A1 m c) (A2 m c) (A3 m c) (A4 m c) (A5 m c) (A6 m c) (A7 m c) (A8 m c) (ix2 r l) = dgu (args m c h) (ix2 r l) := by
  unfold Cert.MlpRefIdeal.Read.val_main_v153
  pointwise
  rfl

/-- Where an element of a block of the gradient with respect to the gates and the values lies. -/
theorem emb13 (t : Fin cfg0.N) (r : Fin 256) (l : Fin 5632) :
    ((cfg0.win 13).blk t).view.emb (ix2 r l) = (ix2 (row t r) l : S2048x5632.Idx) := by
  obtain ⟨-, -, -, -, -, -, -, -, -, -, -, -, -, -, -, -, -, -, -, -, -, -, -, -, -, -, e0, e1, -⟩ := idx t
  funext a; apply Fin.ext
  match a with
  | ⟨0, _⟩ => show win0_13.index t (0 : Fin 2) * 256 + 1 * r.val = t.val * 256 + r.val; omega
  | ⟨1, _⟩ => show win0_13.index t (1 : Fin 2) * 5632 + 1 * l.val = l.val; omega

/-- No block sticks out of the array: a block is written back whole. -/
theorem cut13 (t : Fin cfg0.N) (X : Vec Ideal S256x5632 .bf16) (j : S256x5632.Idx) : (cfg0.win 13).cut (grid0.coords t) X j = X j := rfl

/-- What point `t` writes back of the gradient with respect to the gates and the values, read at an index. -/
theorem at13 (c : Dev nD) (h : Reals m c) (t : Fin cfg0.N) (r : Fin 256) (l : Fin 5632) :
    (dats m 0 c).flushed 13 t (ix2 r l : S256x5632.Idx) = dgu (args m c h) (ix2 (row t r) l) := by
  by_cases h0 : t.val % 8 = 0
  · rw [flushed13_A m c t h0]
    obtain ⟨X, hX⟩ : ∃ X, X = dgu (args m c h) (ix2 (row t r) l) := ⟨_, rfl⟩
    rw [← hX]
    frame_out
    rw [hX]
    refine (cut13 t _ _).trans ?_
    have e := dguB_eq (blk m c h t) r l
    dsimp only [blk, dguP, ldg, ldu, whole] at e
    exact e
  · rw [flushed13_B m c t h0]
    obtain ⟨X, hX⟩ : ∃ X, X = dgu (args m c h) (ix2 (row t r) l) := ⟨_, rfl⟩
    rw [← hX]
    frame_out
    rw [hX]
    refine (cut13 t _ _).trans ?_
    have e := dguB_eq (blk m c h t) r l
    dsimp only [blk, dguP, ldg, ldu, whole] at e
    exact e

/-- What point `t` writes back of the gradient with respect to the gates and the values is that block of the reference's array. -/
theorem flushed13_eq (c : Dev nD) (h : Reals m c) (t : Fin cfg0.N) :
    (dats m 0 c).flushed 13 t = ((cfg0.win 13).blk t).view.read (Elt Ideal) (Cert.MlpRefIdeal.Read.val_main_v153 (F := Ideal) (A0 m c) (A1 m c) (A2 m c) (A3 m c) (A4 m c) (A5 m c) (A6 m c) (A7 m c) (A8 m c)) := by
  funext j
  obtain ⟨r, l, rfl⟩ : ∃ (r : Fin 256) (l : Fin 5632), j = ix2 r l := ⟨j 0, j 1, eq_ix2 j⟩
  refine Eq.trans ?_ (congrArg (Cert.MlpRefIdeal.Read.val_main_v153 (F := Ideal) (A0 m c) (A1 m c) (A2 m c) (A3 m c) (A4 m c) (A5 m c) (A6 m c) (A7 m c) (A8 m c)) (emb13 t r l)).symm
  refine (at13 m c h t r l).trans ?_
  exact (val13 m c h _ _).symm

/-- Every element of the array is in some point's block. -/
theorem cover13 (i : S2048x5632.Idx) : ∃ t : Fin cfg0.N, (cfg0.win 13).flush t = true ∧ i ∈ ((cfg0.win 13).blk t).view.set := by
  obtain ⟨r, l, rfl⟩ : ∃ (r : Fin 2048) (l : Fin 5632), i = ix2 r l := ⟨i 0, i 1, eq_ix2 i⟩
  have hv := r.isLt
  refine ⟨(⟨r.val / 256, by show r.val / 256 < 8; omega⟩ : Fin cfg0.N), flush0_13 _, ?_⟩
  have h := ((cfg0.win 13).blk (⟨r.val / 256, by show r.val / 256 < 8; omega⟩ : Fin cfg0.N)).view.emb_mem_set (ix2 ⟨r.val % 256, by omega⟩ l)
  rw [emb13] at h
  have e : row (⟨r.val / 256, by show r.val / 256 < 8; omega⟩ : Fin cfg0.N) ⟨r.val % 256, by omega⟩ = r := Fin.ext (by show r.val / 256 * 256 + r.val % 256 = r.val; omega)
  rw [e] at h
  exact h

/-- The array of the gradient with respect to the gates and the values after the run is the reference's. -/
theorem final13 (c : Dev nD) (h : Reals m c) : (dats m 0 c).arrAt 13 cfg0.N = Cert.MlpRefIdeal.Read.val_main_v153 (F := Ideal) (A0 m c) (A1 m c) (A2 m c) (A3 m c) (A4 m c) (A5 m c) (A6 m c) (A7 m c) (A8 m c) :=
  (dats m 0 c).arrAt_eq_of_cover 13 _ (fun t _ => flushed13_eq m c h t) cover13

/-- The gradient with respect to the input of the first layer norm: the reference's array, read at an index. -/
theorem val14 (c : Dev nD) (h : Reals m c) (r : Fin 2048) (l : Fin 1024) : Cert.MlpRefIdeal.Read.val_main_v149 (F := Ideal) (A0 m c) (A1 m c) (A2 m c) (A3 m c) (A4 m c) (A5 m c) (A6 m c) (A7 m c) (A8 m c) (ix2 r l) = dz1 (args m c h) (ix2 r l) := by
  rfl

/-- Where an element of a block of the gradient with respect to the input of the first layer norm lies. -/
theorem emb14 (t : Fin cfg0.N) (r : Fin 256) (l : Fin 1024) :
    ((cfg0.win 14).blk t).view.emb (ix2 r l) = (ix2 (row t r) l : S2048x1024.Idx) := by
  obtain ⟨-, -, -, -, -, -, -, -, -, -, -, -, -, -, -, -, -, -, -, -, -, -, -, -, -, -, -, -, e0, e1, -⟩ := idx t
  funext a; apply Fin.ext
  match a with
  | ⟨0, _⟩ => show win0_14.index t (0 : Fin 2) * 256 + 1 * r.val = t.val * 256 + r.val; omega
  | ⟨1, _⟩ => show win0_14.index t (1 : Fin 2) * 1024 + 1 * l.val = l.val; omega

/-- No block sticks out of the array: a block is written back whole. -/
theorem cut14 (t : Fin cfg0.N) (X : Vec Ideal S256x1024 .f32) (j : S256x1024.Idx) : (cfg0.win 14).cut (grid0.coords t) X j = X j := rfl

/-- What point `t` writes back of the gradient with respect to the input of the first layer norm, read at an index. -/
theorem at14 (c : Dev nD) (h : Reals m c) (t : Fin cfg0.N) (r : Fin 256) (l : Fin 1024) :
    (dats m 0 c).flushed 14 t (ix2 r l : S256x1024.Idx) = dz1 (args m c h) (ix2 (row t r) l) := by
  by_cases h0 : t.val % 8 = 0
  · rw [flushed14_A m c t h0]
    obtain ⟨X, hX⟩ : ∃ X, X = dz1 (args m c h) (ix2 (row t r) l) := ⟨_, rfl⟩
    rw [← hX]
    frame_out
    rw [hX]
    refine (cut14 t _ _).trans ?_
    have e := pay1_eq (blk m c h t) _ (whole m c h t) (pay25_eq (blk m c h t)) (fun r l => (readBack _ _ _ r l).trans (dguB_eq (blk m c h t) r l)) r l
    dsimp only [blk, dguP, ldg, ldu, whole] at e
    exact e
  · rw [flushed14_B m c t h0]
    obtain ⟨X, hX⟩ : ∃ X, X = dz1 (args m c h) (ix2 (row t r) l) := ⟨_, rfl⟩
    rw [← hX]
    frame_out
    rw [hX]
    refine (cut14 t _ _).trans ?_
    have e := pay1_eq (blk m c h t) _ (whole m c h t) (pay25_eq (blk m c h t)) (fun r l => (readBack _ _ _ r l).trans (dguB_eq (blk m c h t) r l)) r l
    dsimp only [blk, dguP, ldg, ldu, whole] at e
    exact e

/-- What point `t` writes back of the gradient with respect to the input of the first layer norm is that block of the reference's array. -/
theorem flushed14_eq (c : Dev nD) (h : Reals m c) (t : Fin cfg0.N) :
    (dats m 0 c).flushed 14 t = ((cfg0.win 14).blk t).view.read (Elt Ideal) (Cert.MlpRefIdeal.Read.val_main_v149 (F := Ideal) (A0 m c) (A1 m c) (A2 m c) (A3 m c) (A4 m c) (A5 m c) (A6 m c) (A7 m c) (A8 m c)) := by
  funext j
  obtain ⟨r, l, rfl⟩ : ∃ (r : Fin 256) (l : Fin 1024), j = ix2 r l := ⟨j 0, j 1, eq_ix2 j⟩
  refine Eq.trans ?_ (congrArg (Cert.MlpRefIdeal.Read.val_main_v149 (F := Ideal) (A0 m c) (A1 m c) (A2 m c) (A3 m c) (A4 m c) (A5 m c) (A6 m c) (A7 m c) (A8 m c)) (emb14 t r l)).symm
  refine (at14 m c h t r l).trans ?_
  exact (val14 m c h _ _).symm

/-- Every element of the array is in some point's block. -/
theorem cover14 (i : S2048x1024.Idx) : ∃ t : Fin cfg0.N, (cfg0.win 14).flush t = true ∧ i ∈ ((cfg0.win 14).blk t).view.set := by
  obtain ⟨r, l, rfl⟩ : ∃ (r : Fin 2048) (l : Fin 1024), i = ix2 r l := ⟨i 0, i 1, eq_ix2 i⟩
  have hv := r.isLt
  refine ⟨(⟨r.val / 256, by show r.val / 256 < 8; omega⟩ : Fin cfg0.N), flush0_14 _, ?_⟩
  have h := ((cfg0.win 14).blk (⟨r.val / 256, by show r.val / 256 < 8; omega⟩ : Fin cfg0.N)).view.emb_mem_set (ix2 ⟨r.val % 256, by omega⟩ l)
  rw [emb14] at h
  have e : row (⟨r.val / 256, by show r.val / 256 < 8; omega⟩ : Fin cfg0.N) ⟨r.val % 256, by omega⟩ = r := Fin.ext (by show r.val / 256 * 256 + r.val % 256 = r.val; omega)
  rw [e] at h
  exact h

/-- The array of the gradient with respect to the input of the first layer norm after the run is the reference's. -/
theorem final14 (c : Dev nD) (h : Reals m c) : (dats m 0 c).arrAt 14 cfg0.N = Cert.MlpRefIdeal.Read.val_main_v149 (F := Ideal) (A0 m c) (A1 m c) (A2 m c) (A3 m c) (A4 m c) (A5 m c) (A6 m c) (A7 m c) (A8 m c) :=
  (dats m 0 c).arrAt_eq_of_cover 14 _ (fun t _ => flushed14_eq m c h t) cover14

/-- The rounded gradient with respect to the input of the first layer norm: the reference's array, read at an index. -/
theorem val15 (c : Dev nD) (h : Reals m c) (r : Fin 2048) (l : Fin 1024) : Cert.MlpRefIdeal.Read.val_main_v154 (F := Ideal) (A0 m c) (A1 m c) (A2 m c) (A3 m c) (A4 m c) (A5 m c) (A6 m c) (A7 m c) (A8 m c) (ix2 r l) = dz1 (args m c h) (ix2 r l) := by
  unfold Cert.MlpRefIdeal.Read.val_main_v154
  pointwise
  rfl

/-- Where an element of a block of the rounded gradient with respect to the input of the first layer norm lies. -/
theorem emb15 (t : Fin cfg0.N) (r : Fin 256) (l : Fin 1024) :
    ((cfg0.win 15).blk t).view.emb (ix2 r l) = (ix2 (row t r) l : S2048x1024.Idx) := by
  obtain ⟨-, -, -, -, -, -, -, -, -, -, -, -, -, -, -, -, -, -, -, -, -, -, -, -, -, -, -, -, -, -, e0, e1, -⟩ := idx t
  funext a; apply Fin.ext
  match a with
  | ⟨0, _⟩ => show win0_15.index t (0 : Fin 2) * 256 + 1 * r.val = t.val * 256 + r.val; omega
  | ⟨1, _⟩ => show win0_15.index t (1 : Fin 2) * 1024 + 1 * l.val = l.val; omega

/-- No block sticks out of the array: a block is written back whole. -/
theorem cut15 (t : Fin cfg0.N) (X : Vec Ideal S256x1024 .bf16) (j : S256x1024.Idx) : (cfg0.win 15).cut (grid0.coords t) X j = X j := rfl

/-- What point `t` writes back of the rounded gradient with respect to the input of the first layer norm, read at an index. -/
theorem at15 (c : Dev nD) (h : Reals m c) (t : Fin cfg0.N) (r : Fin 256) (l : Fin 1024) :
    (dats m 0 c).flushed 15 t (ix2 r l : S256x1024.Idx) = dz1 (args m c h) (ix2 (row t r) l) := by
  by_cases h0 : t.val % 8 = 0
  · rw [flushed15_A m c t h0]
    obtain ⟨X, hX⟩ : ∃ X, X = dz1 (args m c h) (ix2 (row t r) l) := ⟨_, rfl⟩
    rw [← hX]
    frame_out
    rw [hX]
    refine (cut15 t _ _).trans ?_
    have e := pay1_eq (blk m c h t) _ (whole m c h t) (pay25_eq (blk m c h t)) (fun r l => (readBack _ _ _ r l).trans (dguB_eq (blk m c h t) r l)) r l
    dsimp only [blk, dguP, ldg, ldu, whole] at e
    exact e
  · rw [flushed15_B m c t h0]
    obtain ⟨X, hX⟩ : ∃ X, X = dz1 (args m c h) (ix2 (row t r) l) := ⟨_, rfl⟩
    rw [← hX]
    frame_out
    rw [hX]
    refine (cut15 t _ _).trans ?_
    have e := pay1_eq (blk m c h t) _ (whole m c h t) (pay25_eq (blk m c h t)) (fun r l => (readBack _ _ _ r l).trans (dguB_eq (blk m c h t) r l)) r l
    dsimp only [blk, dguP, ldg, ldu, whole] at e
    exact e

/-- What point `t` writes back of the rounded gradient with respect to the input of the first layer norm is that block of the reference's array. -/
theorem flushed15_eq (c : Dev nD) (h : Reals m c) (t : Fin cfg0.N) :
    (dats m 0 c).flushed 15 t = ((cfg0.win 15).blk t).view.read (Elt Ideal) (Cert.MlpRefIdeal.Read.val_main_v154 (F := Ideal) (A0 m c) (A1 m c) (A2 m c) (A3 m c) (A4 m c) (A5 m c) (A6 m c) (A7 m c) (A8 m c)) := by
  funext j
  obtain ⟨r, l, rfl⟩ : ∃ (r : Fin 256) (l : Fin 1024), j = ix2 r l := ⟨j 0, j 1, eq_ix2 j⟩
  refine Eq.trans ?_ (congrArg (Cert.MlpRefIdeal.Read.val_main_v154 (F := Ideal) (A0 m c) (A1 m c) (A2 m c) (A3 m c) (A4 m c) (A5 m c) (A6 m c) (A7 m c) (A8 m c)) (emb15 t r l)).symm
  refine (at15 m c h t r l).trans ?_
  exact (val15 m c h _ _).symm

/-- Every element of the array is in some point's block. -/
theorem cover15 (i : S2048x1024.Idx) : ∃ t : Fin cfg0.N, (cfg0.win 15).flush t = true ∧ i ∈ ((cfg0.win 15).blk t).view.set := by
  obtain ⟨r, l, rfl⟩ : ∃ (r : Fin 2048) (l : Fin 1024), i = ix2 r l := ⟨i 0, i 1, eq_ix2 i⟩
  have hv := r.isLt
  refine ⟨(⟨r.val / 256, by show r.val / 256 < 8; omega⟩ : Fin cfg0.N), flush0_15 _, ?_⟩
  have h := ((cfg0.win 15).blk (⟨r.val / 256, by show r.val / 256 < 8; omega⟩ : Fin cfg0.N)).view.emb_mem_set (ix2 ⟨r.val % 256, by omega⟩ l)
  rw [emb15] at h
  have e : row (⟨r.val / 256, by show r.val / 256 < 8; omega⟩ : Fin cfg0.N) ⟨r.val % 256, by omega⟩ = r := Fin.ext (by show r.val / 256 * 256 + r.val % 256 = r.val; omega)
  rw [e] at h
  exact h

/-- The array of the rounded gradient with respect to the input of the first layer norm after the run is the reference's. -/
theorem final15 (c : Dev nD) (h : Reals m c) : (dats m 0 c).arrAt 15 cfg0.N = Cert.MlpRefIdeal.Read.val_main_v154 (F := Ideal) (A0 m c) (A1 m c) (A2 m c) (A3 m c) (A4 m c) (A5 m c) (A6 m c) (A7 m c) (A8 m c) :=
  (dats m 0 c).arrAt_eq_of_cover 15 _ (fun t _ => flushed15_eq m c h t) cover15

/-- Where an element of a block of the gradient with respect to the mixers' output lies. -/
theorem emb16 (t : Fin cfg0.N) (r : Fin 256) (l : Fin 1024) :
    ((cfg0.win 16).blk t).view.emb (ix2 r l) = (ix2 (row t r) l : S2048x1024.Idx) := by
  obtain ⟨-, -, -, -, -, -, -, -, -, -, -, -, -, -, -, -, -, -, -, -, -, -, -, -, -, -, -, -, -, -, -, -, e0, e1, -⟩ := idx t
  funext a; apply Fin.ext
  match a with
  | ⟨0, _⟩ => show win0_16.index t (0 : Fin 2) * 256 + 1 * r.val = t.val * 256 + r.val; omega
  | ⟨1, _⟩ => show win0_16.index t (1 : Fin 2) * 1024 + 1 * l.val = l.val; omega

/-- No block sticks out of the array: a block is written back whole. -/
theorem cut16 (t : Fin cfg0.N) (X : Vec Ideal S256x1024 .f32) (j : S256x1024.Idx) : (cfg0.win 16).cut (grid0.coords t) X j = X j := rfl

/-- What point `t` writes back of the gradient with respect to the mixers' output, read at an index. -/
theorem at16 (c : Dev nD) (h : Reals m c) (t : Fin cfg0.N) (r : Fin 256) (l : Fin 1024) :
    (dats m 0 c).flushed 16 t (ix2 r l : S256x1024.Idx) = Cert.MlpRefIdeal.Read.val_main_v150 (F := Ideal) (A0 m c) (A1 m c) (A2 m c) (A3 m c) (A4 m c) (A5 m c) (A6 m c) (A7 m c) (A8 m c) (ix2 (row t r) l) := by
  by_cases h0 : t.val % 8 = 0
  · rw [flushed16_A m c t h0]
    obtain ⟨X, hX⟩ : ∃ X, X = Cert.MlpRefIdeal.Read.val_main_v150 (F := Ideal) (A0 m c) (A1 m c) (A2 m c) (A3 m c) (A4 m c) (A5 m c) (A6 m c) (A7 m c) (A8 m c) (ix2 (row t r) l) := ⟨_, rfl⟩
    rw [← hX]
    frame_out
    rw [hX]
    refine (cut16 t _ _).trans ?_
    have e := pay3_eq (blk m c h t) _ (whole m c h t) (pay25_eq (blk m c h t)) (fun r l => (readBack _ _ _ r l).trans (dguB_eq (blk m c h t) r l)) r l
    dsimp only [blk, dguP, ldg, ldu, whole] at e
    exact e
  · rw [flushed16_B m c t h0]
    obtain ⟨X, hX⟩ : ∃ X, X = Cert.MlpRefIdeal.Read.val_main_v150 (F := Ideal) (A0 m c) (A1 m c) (A2 m c) (A3 m c) (A4 m c) (A5 m c) (A6 m c) (A7 m c) (A8 m c) (ix2 (row t r) l) := ⟨_, rfl⟩
    rw [← hX]
    frame_out
    rw [hX]
    refine (cut16 t _ _).trans ?_
    have e := pay3_eq (blk m c h t) _ (whole m c h t) (pay25_eq (blk m c h t)) (fun r l => (readBack _ _ _ r l).trans (dguB_eq (blk m c h t) r l)) r l
    dsimp only [blk, dguP, ldg, ldu, whole] at e
    exact e

/-- What point `t` writes back of the gradient with respect to the mixers' output is that block of the reference's array. -/
theorem flushed16_eq (c : Dev nD) (h : Reals m c) (t : Fin cfg0.N) :
    (dats m 0 c).flushed 16 t = ((cfg0.win 16).blk t).view.read (Elt Ideal) (Cert.MlpRefIdeal.Read.val_main_v150 (F := Ideal) (A0 m c) (A1 m c) (A2 m c) (A3 m c) (A4 m c) (A5 m c) (A6 m c) (A7 m c) (A8 m c)) := by
  funext j
  obtain ⟨r, l, rfl⟩ : ∃ (r : Fin 256) (l : Fin 1024), j = ix2 r l := ⟨j 0, j 1, eq_ix2 j⟩
  refine Eq.trans ?_ (congrArg (Cert.MlpRefIdeal.Read.val_main_v150 (F := Ideal) (A0 m c) (A1 m c) (A2 m c) (A3 m c) (A4 m c) (A5 m c) (A6 m c) (A7 m c) (A8 m c)) (emb16 t r l)).symm
  refine (at16 m c h t r l).trans ?_
  exact rfl

/-- Every element of the array is in some point's block. -/
theorem cover16 (i : S2048x1024.Idx) : ∃ t : Fin cfg0.N, (cfg0.win 16).flush t = true ∧ i ∈ ((cfg0.win 16).blk t).view.set := by
  obtain ⟨r, l, rfl⟩ : ∃ (r : Fin 2048) (l : Fin 1024), i = ix2 r l := ⟨i 0, i 1, eq_ix2 i⟩
  have hv := r.isLt
  refine ⟨(⟨r.val / 256, by show r.val / 256 < 8; omega⟩ : Fin cfg0.N), flush0_16 _, ?_⟩
  have h := ((cfg0.win 16).blk (⟨r.val / 256, by show r.val / 256 < 8; omega⟩ : Fin cfg0.N)).view.emb_mem_set (ix2 ⟨r.val % 256, by omega⟩ l)
  rw [emb16] at h
  have e : row (⟨r.val / 256, by show r.val / 256 < 8; omega⟩ : Fin cfg0.N) ⟨r.val % 256, by omega⟩ = r := Fin.ext (by show r.val / 256 * 256 + r.val % 256 = r.val; omega)
  rw [e] at h
  exact h

/-- The array of the gradient with respect to the mixers' output after the run is the reference's. -/
theorem final16 (c : Dev nD) (h : Reals m c) : (dats m 0 c).arrAt 16 cfg0.N = Cert.MlpRefIdeal.Read.val_main_v150 (F := Ideal) (A0 m c) (A1 m c) (A2 m c) (A3 m c) (A4 m c) (A5 m c) (A6 m c) (A7 m c) (A8 m c) :=
  (dats m 0 c).arrAt_eq_of_cover 16 _ (fun t _ => flushed16_eq m c h t) cover16

/-- A value that starts as one block's sum and gains a block's sum at every later point ends as the sum over all rows. -/
theorem acc_sum (f : Fin 2048 → EReal) (z : Fin cfg0.N → EReal)
    (h0 : ∀ t : Fin cfg0.N, t.val % 8 = 0 → z t = ∑ k : Fin 256, f (row t k))
    (h1 : ∀ t : Fin cfg0.N, ¬t.val % 8 = 0 → ∀ p, z t = z ⟨t.val - 1, p⟩ + ∑ k : Fin 256, f (row t k))
    (t : Fin cfg0.N) (ht : t.val % 8 = 7) : z t = ∑ i, f i := by
  have key : ∀ n : ℕ, ∀ hn : n < cfg0.N, z ⟨n, hn⟩ = ∑ j ∈ Finset.range (n + 1), (if h : j < cfg0.N then ∑ k : Fin 256, f (row ⟨j, h⟩ k) else 0) := by
    intro n
    induction n with
    | zero => intro hn; rw [Finset.sum_range_one, dif_pos hn, h0 _ rfl]
    | succ n ih =>
      intro hn
      have h8 : n + 1 < 8 := hn
      rw [Finset.sum_range_succ, dif_pos hn, ← ih (Nat.lt_of_succ_lt hn), h1 ⟨n + 1, hn⟩ (by show ¬(n + 1) % 8 = 0; omega) (Nat.lt_of_succ_lt hn)]
      rfl
  have h8 := lt8 t
  have e : t = ⟨7, by decide⟩ := Fin.ext (by show t.val = 7; omega)
  rw [e, key 7, Finset.sum_range]
  rw [← Equiv.sum_comp (finProdFinEquiv (m := 8) (n := 256)) f, Fintype.sum_prod_type]
  refine Finset.sum_congr rfl fun j _ => ?_
  have hj : j.val < cfg0.N := j.isLt
  rw [dif_pos hj]
  refine Finset.sum_congr rfl fun k _ => congrArg f (Fin.ext ?_)
  show j.val * 256 + k.val = k.val + 256 * j.val
  omega

/-- Where an element of the block of the gradient of the second layer norm's scale lies. -/
theorem emb17 (t : Fin cfg0.N) (r : Fin 1) (l : Fin 1024) :
    ((cfg0.win 17).blk t).view.emb (ix2 r l) = (ix2 r l : S1x1024.Idx) := by
  obtain ⟨-, -, -, -, -, -, -, -, -, -, -, -, -, -, -, -, -, -, -, -, -, -, -, -, -, -, -, -, -, -, -, -, -, -, e0, e1, -⟩ := idx t
  funext a; apply Fin.ext
  match a with
  | ⟨0, _⟩ => show win0_17.index t (0 : Fin 2) * 1 + 1 * r.val = r.val; omega
  | ⟨1, _⟩ => show win0_17.index t (1 : Fin 2) * 1024 + 1 * l.val = l.val; omega

/-- The block is written back whole. -/
theorem cut17 (t : Fin cfg0.N) (X : Vec Ideal S1x1024 .f32) (j : S1x1024.Idx) : (cfg0.win 17).cut (grid0.coords t) X j = X j := rfl

/-- The running sum starts from zero. -/
theorem zero17 (l : Fin 1024) : k0_pay4 (F := Ideal) (ix2 0 l) = 0 := by
  unfold k0_pay4
  pointwise

/-- The first point leaves its own rows' sum. -/
theorem first17 (c : Dev nD) (h : Reals m c) (l : Fin 1024) (t : Fin cfg0.N) (h0 : t.val % 8 = 0) :
    (dats m 0 c).flushed 17 t (ix2 (0 : Fin 1) l : S1x1024.Idx) = (∑ k : Fin 256, (fun k : Fin 2048 => HMul.hMul (α := EReal) (β := EReal) (γ := EReal) (A8 m c (ix2 k l)) (n2 (args m c h) (ix2 k l))) (row t k) : EReal) := by
  obtain ⟨X, hX⟩ : ∃ X : EReal, X = (∑ k : Fin 256, (fun k : Fin 2048 => HMul.hMul (α := EReal) (β := EReal) (γ := EReal) (A8 m c (ix2 k l)) (n2 (args m c h) (ix2 k l))) (row t k) : EReal) := ⟨_, rfl⟩
  rw [← hX, flushed17_A m c t h0]
  frame_out
  rw [hX]
  refine (cut17 t _ _).trans ?_
  have e := pay9_eq (blk m c h t) (k0_pay4 (F := Ideal)) 0 l
  dsimp only [blk, dguP, ldg, ldu, whole] at e
  refine Eq.trans e ?_
  rw [zero17, zero_add]
  rfl

/-- Every later point adds its rows' sum. -/
theorem next17 (c : Dev nD) (h : Reals m c) (l : Fin 1024) (t : Fin cfg0.N) (h0 : ¬t.val % 8 = 0) (p : t.val - 1 < cfg0.N) :
    (dats m 0 c).flushed 17 t (ix2 (0 : Fin 1) l : S1x1024.Idx)
      = HAdd.hAdd (α := EReal) (β := EReal) (γ := EReal) ((dats m 0 c).flushed 17 ⟨t.val - 1, p⟩ (ix2 (0 : Fin 1) l : S1x1024.Idx)) (∑ k : Fin 256, (fun k : Fin 2048 => HMul.hMul (α := EReal) (β := EReal) (γ := EReal) (A8 m c (ix2 k l)) (n2 (args m c h) (ix2 k l))) (row t k) : EReal) := by
  have e := congrFun (flushed17 m c ⟨t.val - 1, p⟩) (ix2 (0 : Fin 1) l : S1x1024.Idx)
  rw [e]
  obtain ⟨X, hX⟩ : ∃ X : EReal, X = HAdd.hAdd (α := EReal) (β := EReal) (γ := EReal) ((cfg0.win 17).cut (grid0.coords ⟨t.val - 1, p⟩) ((outsAt0 m c (t.val - 1) p).2.2.2.2.2.2.1) (ix2 (0 : Fin 1) l : S1x1024.Idx)) (∑ k : Fin 256, (fun k : Fin 2048 => HMul.hMul (α := EReal) (β := EReal) (γ := EReal) (A8 m c (ix2 k l)) (n2 (args m c h) (ix2 k l))) (row t k) : EReal) := ⟨_, rfl⟩
  refine Eq.trans ?_ hX
  rw [flushed17_B m c t h0]
  frame_out
  rw [hX]
  refine (cut17 t _ _).trans ?_
  have e := pay9_eq (blk m c h t) ((outsAt0 m c (t.val - 1) p).2.2.2.2.2.2.1) 0 l
  dsimp only [blk, dguP, ldg, ldu, whole] at e
  refine Eq.trans e ?_
  rfl

/-- What is written back of the gradient of the second layer norm's scale is the reference's array. -/
theorem flushed17_eq (c : Dev nD) (h : Reals m c) (t : Fin cfg0.N) (hf : (cfg0.win 17).flush t = true) :
    (dats m 0 c).flushed 17 t = ((cfg0.win 17).blk t).view.read (Elt Ideal) (Cert.MlpRefIdeal.Read.val_main_v155 (F := Ideal) (A0 m c) (A1 m c) (A2 m c) (A3 m c) (A4 m c) (A5 m c) (A6 m c) (A8 m c)) := by
  funext j
  obtain ⟨r, l, rfl⟩ : ∃ (r : Fin 1) (l : Fin 1024), j = ix2 r l := ⟨j 0, j 1, eq_ix2 j⟩
  obtain rfl : r = 0 := Subsingleton.elim _ _
  refine Eq.trans ?_ (congrArg (Cert.MlpRefIdeal.Read.val_main_v155 (F := Ideal) (A0 m c) (A1 m c) (A2 m c) (A3 m c) (A4 m c) (A5 m c) (A6 m c) (A8 m c)) (emb17 t 0 l)).symm
  refine Eq.trans ?_ (g2_eq (args m c h) 0 l).symm
  exact acc_sum _ (fun t => (dats m 0 c).flushed 17 t (ix2 (0 : Fin 1) l : S1x1024.Idx)) (first17 m c h l) (fun t h0 p => next17 m c h l t h0 p) t ((flush0_17 t).mp hf)

/-- Every element of the array is in the last point's block. -/
theorem cover17 (i : S1x1024.Idx) : ∃ t : Fin cfg0.N, (cfg0.win 17).flush t = true ∧ i ∈ ((cfg0.win 17).blk t).view.set := by
  obtain ⟨r, l, rfl⟩ : ∃ (r : Fin 1) (l : Fin 1024), i = ix2 r l := ⟨i 0, i 1, eq_ix2 i⟩
  have h := ((cfg0.win 17).blk (⟨7, by decide⟩ : Fin cfg0.N)).view.emb_mem_set (ix2 r l)
  rw [emb17] at h
  exact ⟨_, (flush0_17 _).mpr rfl, h⟩

/-- The array of the gradient of the second layer norm's scale after the run is the reference's. -/
theorem final17 (c : Dev nD) (h : Reals m c) : (dats m 0 c).arrAt 17 cfg0.N = Cert.MlpRefIdeal.Read.val_main_v155 (F := Ideal) (A0 m c) (A1 m c) (A2 m c) (A3 m c) (A4 m c) (A5 m c) (A6 m c) (A8 m c) :=
  (dats m 0 c).arrAt_eq_of_cover 17 _ (fun t hf => flushed17_eq m c h t hf) cover17

/-- Where an element of the block of the gradient of the second layer norm's shift lies. -/
theorem emb18 (t : Fin cfg0.N) (r : Fin 1) (l : Fin 1024) :
    ((cfg0.win 18).blk t).view.emb (ix2 r l) = (ix2 r l : S1x1024.Idx) := by
  obtain ⟨-, -, -, -, -, -, -, -, -, -, -, -, -, -, -, -, -, -, -, -, -, -, -, -, -, -, -, -, -, -, -, -, -, -, -, -, e0, e1, -⟩ := idx t
  funext a; apply Fin.ext
  match a with
  | ⟨0, _⟩ => show win0_18.index t (0 : Fin 2) * 1 + 1 * r.val = r.val; omega
  | ⟨1, _⟩ => show win0_18.index t (1 : Fin 2) * 1024 + 1 * l.val = l.val; omega

/-- The block is written back whole. -/
theorem cut18 (t : Fin cfg0.N) (X : Vec Ideal S1x1024 .f32) (j : S1x1024.Idx) : (cfg0.win 18).cut (grid0.coords t) X j = X j := rfl

/-- The running sum starts from zero. -/
theorem zero18 (l : Fin 1024) : k0_pay5 (F := Ideal) (ix2 0 l) = 0 := by
  unfold k0_pay5
  pointwise

/-- The first point leaves its own rows' sum. -/
theorem first18 (c : Dev nD) (h : Reals m c) (l : Fin 1024) (t : Fin cfg0.N) (h0 : t.val % 8 = 0) :
    (dats m 0 c).flushed 18 t (ix2 (0 : Fin 1) l : S1x1024.Idx) = (∑ k : Fin 256, (fun k : Fin 2048 => A8 m c (ix2 k l)) (row t k) : EReal) := by
  obtain ⟨X, hX⟩ : ∃ X : EReal, X = (∑ k : Fin 256, (fun k : Fin 2048 => A8 m c (ix2 k l)) (row t k) : EReal) := ⟨_, rfl⟩
  rw [← hX, flushed18_A m c t h0]
  frame_out
  rw [hX]
  refine (cut18 t _ _).trans ?_
  have e := pay10_eq (blk m c h t) (k0_pay5 (F := Ideal)) 0 l
  dsimp only [blk, dguP, ldg, ldu, whole] at e
  refine Eq.trans e ?_
  rw [zero18, zero_add]
  rfl

/-- Every later point adds its rows' sum. -/
theorem next18 (c : Dev nD) (h : Reals m c) (l : Fin 1024) (t : Fin cfg0.N) (h0 : ¬t.val % 8 = 0) (p : t.val - 1 < cfg0.N) :
    (dats m 0 c).flushed 18 t (ix2 (0 : Fin 1) l : S1x1024.Idx)
      = HAdd.hAdd (α := EReal) (β := EReal) (γ := EReal) ((dats m 0 c).flushed 18 ⟨t.val - 1, p⟩ (ix2 (0 : Fin 1) l : S1x1024.Idx)) (∑ k : Fin 256, (fun k : Fin 2048 => A8 m c (ix2 k l)) (row t k) : EReal) := by
  have e := congrFun (flushed18 m c ⟨t.val - 1, p⟩) (ix2 (0 : Fin 1) l : S1x1024.Idx)
  rw [e]
  obtain ⟨X, hX⟩ : ∃ X : EReal, X = HAdd.hAdd (α := EReal) (β := EReal) (γ := EReal) ((cfg0.win 18).cut (grid0.coords ⟨t.val - 1, p⟩) ((outsAt0 m c (t.val - 1) p).2.2.2.2.2.2.2.1) (ix2 (0 : Fin 1) l : S1x1024.Idx)) (∑ k : Fin 256, (fun k : Fin 2048 => A8 m c (ix2 k l)) (row t k) : EReal) := ⟨_, rfl⟩
  refine Eq.trans ?_ hX
  rw [flushed18_B m c t h0]
  frame_out
  rw [hX]
  refine (cut18 t _ _).trans ?_
  have e := pay10_eq (blk m c h t) ((outsAt0 m c (t.val - 1) p).2.2.2.2.2.2.2.1) 0 l
  dsimp only [blk, dguP, ldg, ldu, whole] at e
  refine Eq.trans e ?_
  rfl

/-- What is written back of the gradient of the second layer norm's shift is the reference's array. -/
theorem flushed18_eq (c : Dev nD) (h : Reals m c) (t : Fin cfg0.N) (hf : (cfg0.win 18).flush t = true) :
    (dats m 0 c).flushed 18 t = ((cfg0.win 18).blk t).view.read (Elt Ideal) (Cert.MlpRefIdeal.Read.val_main_v156 (F := Ideal) (A8 m c)) := by
  funext j
  obtain ⟨r, l, rfl⟩ : ∃ (r : Fin 1) (l : Fin 1024), j = ix2 r l := ⟨j 0, j 1, eq_ix2 j⟩
  obtain rfl : r = 0 := Subsingleton.elim _ _
  refine Eq.trans ?_ (congrArg (Cert.MlpRefIdeal.Read.val_main_v156 (F := Ideal) (A8 m c)) (emb18 t 0 l)).symm
  refine Eq.trans ?_ (b2_eq (args m c h) 0 l).symm
  exact acc_sum _ (fun t => (dats m 0 c).flushed 18 t (ix2 (0 : Fin 1) l : S1x1024.Idx)) (first18 m c h l) (fun t h0 p => next18 m c h l t h0 p) t ((flush0_18 t).mp hf)

/-- Every element of the array is in the last point's block. -/
theorem cover18 (i : S1x1024.Idx) : ∃ t : Fin cfg0.N, (cfg0.win 18).flush t = true ∧ i ∈ ((cfg0.win 18).blk t).view.set := by
  obtain ⟨r, l, rfl⟩ : ∃ (r : Fin 1) (l : Fin 1024), i = ix2 r l := ⟨i 0, i 1, eq_ix2 i⟩
  have h := ((cfg0.win 18).blk (⟨7, by decide⟩ : Fin cfg0.N)).view.emb_mem_set (ix2 r l)
  rw [emb18] at h
  exact ⟨_, (flush0_18 _).mpr rfl, h⟩

/-- The array of the gradient of the second layer norm's shift after the run is the reference's. -/
theorem final18 (c : Dev nD) (h : Reals m c) : (dats m 0 c).arrAt 18 cfg0.N = Cert.MlpRefIdeal.Read.val_main_v156 (F := Ideal) (A8 m c) :=
  (dats m 0 c).arrAt_eq_of_cover 18 _ (fun t hf => flushed18_eq m c h t hf) cover18

/-- Where an element of the block of the gradient of the first layer norm's scale lies. -/
theorem emb19 (t : Fin cfg0.N) (r : Fin 1) (l : Fin 1024) :
    ((cfg0.win 19).blk t).view.emb (ix2 r l) = (ix2 r l : S1x1024.Idx) := by
  obtain ⟨-, -, -, -, -, -, -, -, -, -, -, -, -, -, -, -, -, -, -, -, -, -, -, -, -, -, -, -, -, -, -, -, -, -, -, -, -, -, e0, e1, -⟩ := idx t
  funext a; apply Fin.ext
  match a with
  | ⟨0, _⟩ => show win0_19.index t (0 : Fin 2) * 1 + 1 * r.val = r.val; omega
  | ⟨1, _⟩ => show win0_19.index t (1 : Fin 2) * 1024 + 1 * l.val = l.val; omega

/-- The block is written back whole. -/
theorem cut19 (t : Fin cfg0.N) (X : Vec Ideal S1x1024 .f32) (j : S1x1024.Idx) : (cfg0.win 19).cut (grid0.coords t) X j = X j := rfl

/-- The running sum starts from zero. -/
theorem zero19 (l : Fin 1024) : k0_pay6 (F := Ideal) (ix2 0 l) = 0 := by
  unfold k0_pay6
  pointwise

/-- The first point leaves its own rows' sum. -/
theorem first19 (c : Dev nD) (h : Reals m c) (l : Fin 1024) (t : Fin cfg0.N) (h0 : t.val % 8 = 0) :
    (dats m 0 c).flushed 19 t (ix2 (0 : Fin 1) l : S1x1024.Idx) = (∑ k : Fin 256, (fun k : Fin 2048 => HMul.hMul (α := EReal) (β := EReal) (γ := EReal) (dh (args m c h) (ix2 k l)) (n1 (args m c h) (ix2 k l))) (row t k) : EReal) := by
  obtain ⟨X, hX⟩ : ∃ X : EReal, X = (∑ k : Fin 256, (fun k : Fin 2048 => HMul.hMul (α := EReal) (β := EReal) (γ := EReal) (dh (args m c h) (ix2 k l)) (n1 (args m c h) (ix2 k l))) (row t k) : EReal) := ⟨_, rfl⟩
  rw [← hX, flushed19_A m c t h0]
  frame_out
  rw [hX]
  refine (cut19 t _ _).trans ?_
  have e := pay28_eq (blk m c h t) _ (whole m c h t) (pay25_eq (blk m c h t)) (fun r l => (readBack _ _ _ r l).trans (dguB_eq (blk m c h t) r l)) (k0_pay6 (F := Ideal)) 0 l
  dsimp only [blk, dguP, ldg, ldu, whole] at e
  refine Eq.trans e ?_
  rw [zero19, zero_add]

/-- Every later point adds its rows' sum. -/
theorem next19 (c : Dev nD) (h : Reals m c) (l : Fin 1024) (t : Fin cfg0.N) (h0 : ¬t.val % 8 = 0) (p : t.val - 1 < cfg0.N) :
    (dats m 0 c).flushed 19 t (ix2 (0 : Fin 1) l : S1x1024.Idx)
      = HAdd.hAdd (α := EReal) (β := EReal) (γ := EReal) ((dats m 0 c).flushed 19 ⟨t.val - 1, p⟩ (ix2 (0 : Fin 1) l : S1x1024.Idx)) (∑ k : Fin 256, (fun k : Fin 2048 => HMul.hMul (α := EReal) (β := EReal) (γ := EReal) (dh (args m c h) (ix2 k l)) (n1 (args m c h) (ix2 k l))) (row t k) : EReal) := by
  have e := congrFun (flushed19 m c ⟨t.val - 1, p⟩) (ix2 (0 : Fin 1) l : S1x1024.Idx)
  rw [e]
  obtain ⟨X, hX⟩ : ∃ X : EReal, X = HAdd.hAdd (α := EReal) (β := EReal) (γ := EReal) ((cfg0.win 19).cut (grid0.coords ⟨t.val - 1, p⟩) ((outsAt0 m c (t.val - 1) p).2.2.2.2.2.2.2.2.1) (ix2 (0 : Fin 1) l : S1x1024.Idx)) (∑ k : Fin 256, (fun k : Fin 2048 => HMul.hMul (α := EReal) (β := EReal) (γ := EReal) (dh (args m c h) (ix2 k l)) (n1 (args m c h) (ix2 k l))) (row t k) : EReal) := ⟨_, rfl⟩
  refine Eq.trans ?_ hX
  rw [flushed19_B m c t h0]
  frame_out
  rw [hX]
  refine (cut19 t _ _).trans ?_
  have e := pay28_eq (blk m c h t) _ (whole m c h t) (pay25_eq (blk m c h t)) (fun r l => (readBack _ _ _ r l).trans (dguB_eq (blk m c h t) r l)) ((outsAt0 m c (t.val - 1) p).2.2.2.2.2.2.2.2.1) 0 l
  dsimp only [blk, dguP, ldg, ldu, whole] at e
  refine Eq.trans e ?_
  rfl

/-- What is written back of the gradient of the first layer norm's scale is the reference's array. -/
theorem flushed19_eq (c : Dev nD) (h : Reals m c) (t : Fin cfg0.N) (hf : (cfg0.win 19).flush t = true) :
    (dats m 0 c).flushed 19 t = ((cfg0.win 19).blk t).view.read (Elt Ideal) (Cert.MlpRefIdeal.Read.val_main_v157 (F := Ideal) (A0 m c) (A1 m c) (A2 m c) (A3 m c) (A4 m c) (A5 m c) (A6 m c) (A7 m c) (A8 m c)) := by
  funext j
  obtain ⟨r, l, rfl⟩ : ∃ (r : Fin 1) (l : Fin 1024), j = ix2 r l := ⟨j 0, j 1, eq_ix2 j⟩
  obtain rfl : r = 0 := Subsingleton.elim _ _
  refine Eq.trans ?_ (congrArg (Cert.MlpRefIdeal.Read.val_main_v157 (F := Ideal) (A0 m c) (A1 m c) (A2 m c) (A3 m c) (A4 m c) (A5 m c) (A6 m c) (A7 m c) (A8 m c)) (emb19 t 0 l)).symm
  refine Eq.trans ?_ (g1_eq (args m c h) 0 l).symm
  exact acc_sum _ (fun t => (dats m 0 c).flushed 19 t (ix2 (0 : Fin 1) l : S1x1024.Idx)) (first19 m c h l) (fun t h0 p => next19 m c h l t h0 p) t ((flush0_19 t).mp hf)

/-- Every element of the array is in the last point's block. -/
theorem cover19 (i : S1x1024.Idx) : ∃ t : Fin cfg0.N, (cfg0.win 19).flush t = true ∧ i ∈ ((cfg0.win 19).blk t).view.set := by
  obtain ⟨r, l, rfl⟩ : ∃ (r : Fin 1) (l : Fin 1024), i = ix2 r l := ⟨i 0, i 1, eq_ix2 i⟩
  have h := ((cfg0.win 19).blk (⟨7, by decide⟩ : Fin cfg0.N)).view.emb_mem_set (ix2 r l)
  rw [emb19] at h
  exact ⟨_, (flush0_19 _).mpr rfl, h⟩

/-- The array of the gradient of the first layer norm's scale after the run is the reference's. -/
theorem final19 (c : Dev nD) (h : Reals m c) : (dats m 0 c).arrAt 19 cfg0.N = Cert.MlpRefIdeal.Read.val_main_v157 (F := Ideal) (A0 m c) (A1 m c) (A2 m c) (A3 m c) (A4 m c) (A5 m c) (A6 m c) (A7 m c) (A8 m c) :=
  (dats m 0 c).arrAt_eq_of_cover 19 _ (fun t hf => flushed19_eq m c h t hf) cover19

/-- Where an element of the block of the gradient of the first layer norm's shift lies. -/
theorem emb20 (t : Fin cfg0.N) (r : Fin 1) (l : Fin 1024) :
    ((cfg0.win 20).blk t).view.emb (ix2 r l) = (ix2 r l : S1x1024.Idx) := by
  obtain ⟨-, -, -, -, -, -, -, -, -, -, -, -, -, -, -, -, -, -, -, -, -, -, -, -, -, -, -, -, -, -, -, -, -, -, -, -, -, -, -, -, e0, e1, -⟩ := idx t
  funext a; apply Fin.ext
  match a with
  | ⟨0, _⟩ => show win0_20.index t (0 : Fin 2) * 1 + 1 * r.val = r.val; omega
  | ⟨1, _⟩ => show win0_20.index t (1 : Fin 2) * 1024 + 1 * l.val = l.val; omega

/-- The block is written back whole. -/
theorem cut20 (t : Fin cfg0.N) (X : Vec Ideal S1x1024 .f32) (j : S1x1024.Idx) : (cfg0.win 20).cut (grid0.coords t) X j = X j := rfl

/-- The running sum starts from zero. -/
theorem zero20 (l : Fin 1024) : k0_pay7 (F := Ideal) (ix2 0 l) = 0 := by
  unfold k0_pay7
  pointwise

/-- The first point leaves its own rows' sum. -/
theorem first20 (c : Dev nD) (h : Reals m c) (l : Fin 1024) (t : Fin cfg0.N) (h0 : t.val % 8 = 0) :
    (dats m 0 c).flushed 20 t (ix2 (0 : Fin 1) l : S1x1024.Idx) = (∑ k : Fin 256, (fun k : Fin 2048 => dh (args m c h) (ix2 k l)) (row t k) : EReal) := by
  obtain ⟨X, hX⟩ : ∃ X : EReal, X = (∑ k : Fin 256, (fun k : Fin 2048 => dh (args m c h) (ix2 k l)) (row t k) : EReal) := ⟨_, rfl⟩
  rw [← hX, flushed20_A m c t h0]
  frame_out
  rw [hX]
  refine (cut20 t _ _).trans ?_
  have e := pay29_eq (blk m c h t) _ (whole m c h t) (pay25_eq (blk m c h t)) (fun r l => (readBack _ _ _ r l).trans (dguB_eq (blk m c h t) r l)) (k0_pay7 (F := Ideal)) 0 l
  dsimp only [blk, dguP, ldg, ldu, whole] at e
  refine Eq.trans e ?_
  rw [zero20, zero_add]

/-- Every later point adds its rows' sum. -/
theorem next20 (c : Dev nD) (h : Reals m c) (l : Fin 1024) (t : Fin cfg0.N) (h0 : ¬t.val % 8 = 0) (p : t.val - 1 < cfg0.N) :
    (dats m 0 c).flushed 20 t (ix2 (0 : Fin 1) l : S1x1024.Idx)
      = HAdd.hAdd (α := EReal) (β := EReal) (γ := EReal) ((dats m 0 c).flushed 20 ⟨t.val - 1, p⟩ (ix2 (0 : Fin 1) l : S1x1024.Idx)) (∑ k : Fin 256, (fun k : Fin 2048 => dh (args m c h) (ix2 k l)) (row t k) : EReal) := by
  have e := congrFun (flushed20 m c ⟨t.val - 1, p⟩) (ix2 (0 : Fin 1) l : S1x1024.Idx)
  rw [e]
  obtain ⟨X, hX⟩ : ∃ X : EReal, X = HAdd.hAdd (α := EReal) (β := EReal) (γ := EReal) ((cfg0.win 20).cut (grid0.coords ⟨t.val - 1, p⟩) ((outsAt0 m c (t.val - 1) p).2.2.2.2.2.2.2.2.2) (ix2 (0 : Fin 1) l : S1x1024.Idx)) (∑ k : Fin 256, (fun k : Fin 2048 => dh (args m c h) (ix2 k l)) (row t k) : EReal) := ⟨_, rfl⟩
  refine Eq.trans ?_ hX
  rw [flushed20_B m c t h0]
  frame_out
  rw [hX]
  refine (cut20 t _ _).trans ?_
  have e := pay29_eq (blk m c h t) _ (whole m c h t) (pay25_eq (blk m c h t)) (fun r l => (readBack _ _ _ r l).trans (dguB_eq (blk m c h t) r l)) ((outsAt0 m c (t.val - 1) p).2.2.2.2.2.2.2.2.2) 0 l
  dsimp only [blk, dguP, ldg, ldu, whole] at e
  refine Eq.trans e ?_
  rfl

/-- What is written back of the gradient of the first layer norm's shift is the reference's array. -/
theorem flushed20_eq (c : Dev nD) (h : Reals m c) (t : Fin cfg0.N) (hf : (cfg0.win 20).flush t = true) :
    (dats m 0 c).flushed 20 t = ((cfg0.win 20).blk t).view.read (Elt Ideal) (Cert.MlpRefIdeal.Read.val_main_v158 (F := Ideal) (A0 m c) (A1 m c) (A2 m c) (A3 m c) (A4 m c) (A5 m c) (A6 m c) (A7 m c) (A8 m c)) := by
  funext j
  obtain ⟨r, l, rfl⟩ : ∃ (r : Fin 1) (l : Fin 1024), j = ix2 r l := ⟨j 0, j 1, eq_ix2 j⟩
  obtain rfl : r = 0 := Subsingleton.elim _ _
  refine Eq.trans ?_ (congrArg (Cert.MlpRefIdeal.Read.val_main_v158 (F := Ideal) (A0 m c) (A1 m c) (A2 m c) (A3 m c) (A4 m c) (A5 m c) (A6 m c) (A7 m c) (A8 m c)) (emb20 t 0 l)).symm
  refine Eq.trans ?_ (b1_eq (args m c h) 0 l).symm
  exact acc_sum _ (fun t => (dats m 0 c).flushed 20 t (ix2 (0 : Fin 1) l : S1x1024.Idx)) (first20 m c h l) (fun t h0 p => next20 m c h l t h0 p) t ((flush0_20 t).mp hf)

/-- Every element of the array is in the last point's block. -/
theorem cover20 (i : S1x1024.Idx) : ∃ t : Fin cfg0.N, (cfg0.win 20).flush t = true ∧ i ∈ ((cfg0.win 20).blk t).view.set := by
  obtain ⟨r, l, rfl⟩ : ∃ (r : Fin 1) (l : Fin 1024), i = ix2 r l := ⟨i 0, i 1, eq_ix2 i⟩
  have h := ((cfg0.win 20).blk (⟨7, by decide⟩ : Fin cfg0.N)).view.emb_mem_set (ix2 r l)
  rw [emb20] at h
  exact ⟨_, (flush0_20 _).mpr rfl, h⟩

/-- The array of the gradient of the first layer norm's shift after the run is the reference's. -/
theorem final20 (c : Dev nD) (h : Reals m c) : (dats m 0 c).arrAt 20 cfg0.N = Cert.MlpRefIdeal.Read.val_main_v158 (F := Ideal) (A0 m c) (A1 m c) (A2 m c) (A3 m c) (A4 m c) (A5 m c) (A6 m c) (A7 m c) (A8 m c) :=
  (dats m 0 c).arrAt_eq_of_cover 20 _ (fun t hf => flushed20_eq m c h t hf) cover20

end Cert.Proof.Mlp
end
-- ==== Proof.MlpPre.lean ====
module

public import proofs.«01_k».proof.Proof.Gen.Pre_real_inputs
public import proofs.«01_k».proof.Proof.MlpBlk
public import Idealize.ShloMosaic.Lib.ReduceAll
public import Idealize.ShloMosaic.Lib.Pointwise

@[expose] public section

set_option maxRecDepth 16384

noncomputable section

namespace Cert.Proof.Mlp

open Idealize.ShloMosaic Idealize.ShloMosaic.TcCoe
open Cert.Proof.RealMath

/-- The word of positive infinity reads as the largest extended real. -/
theorem ofBits_inf : Ideal.ofBits .f32 0x7F800000#32 = (⊤ : EReal) := by
  simp [Ideal.ofBits, Ideal.ieee]

/-- A number whose absolute value is less than infinity is real. -/
theorem isR_of_abs_lt (x : EReal) (h : Ideal.cmp .olt (max x (-x)) (Ideal.ofBits .f32 0x7F800000#32) = 1#1) : IsR x := by
  rw [ofBits_inf] at h
  have h' : max x (-x) < (⊤ : EReal) := by
    by_contra hc
    have : Ideal.cmp .olt (max x (-x)) (⊤ : EReal) = 0#1 := by
      simp only [Ideal.cmp, hc, decide_false]; rfl
    rw [this] at h
    exact absurd h (by decide)
  obtain ⟨h1, h2⟩ := max_lt_iff.1 h'
  refine isR_of_ne h1.ne ?_
  rintro rfl
  exact h2.ne EReal.neg_bot

/-- Where the conjunction of all "is less than infinity in absolute value" holds, every element is real. -/
theorem isR_of_all {s t u : Shape} [Subsingleton t.Idx] {axes : List (Fin s.rank)} (x : FVec Ideal s .f32) (b : FVec Ideal s .f32)
    (hb : ∀ i, b i = Ideal.ofBits .f32 0x7F800000#32) (init : u.Idx → BitVec 1) (hr : s.ReducesTo axes t) (hu : 0 < u.numel) (j : t.Idx)
    (e : Host.reduce IntOp.andi (cmpf .olt (Host.absf x) b) init hr hu j = 1#1) (i : s.Idx) : IsR (x i) := by
  have h : Ideal.cmp .olt (max (x i) (-(x i))) (b i) = 1#1 := Host.reduce_andi_all _ init hr hu j e i
  rw [hb] at h
  exact isR_of_abs_lt (x i) h

/-- A conjunction of two one-bit arrays is 1 where both are. -/
theorem andi_one {s : Shape} (a b : s.Idx → BitVec 1) (i : s.Idx) (h : andi a b i = 1#1) : a i = 1#1 ∧ b i = 1#1 :=
  IntOp.andi_eq_one.1 h

open Cert.Pre_real_inputs in
/-- What the precondition says of the arrays: the nine that the gradients depend on hold real numbers. -/
theorem reals_of_fn (x0 : FVec Ideal S2048x1024 .f32) (x1 : FVec Ideal S2048x1024 .f32) (x2 : FVec Ideal S1024x1024 .f32) (x3 : FVec Ideal S1024 .f32) (x4 : FVec Ideal S1024 .f32) (x5 : FVec Ideal S1024x5632 .f32) (x6 : FVec Ideal S2816x1024 .f32) (x7 : FVec Ideal S1024 .f32) (x8 : FVec Ideal S2048x1024 .f32) (x9 : FVec Ideal S1x1024 .f32)
    (h : Cert.Pre_real_inputs.fn (F := Ideal) x0 x1 x2 x3 x4 x5 x6 x7 x8 x9 = (fun _ => 1#1)) :
    (∀ i, IsR (x0 i)) ∧ (∀ i, IsR (x1 i)) ∧ (∀ i, IsR (x2 i)) ∧ (∀ i, IsR (x3 i)) ∧ (∀ i, IsR (x4 i)) ∧ (∀ i, IsR (x5 i)) ∧ (∀ i, IsR (x6 i)) ∧ (∀ i, IsR (x7 i)) ∧ (∀ i, IsR (x8 i)) := by
  haveI : Subsingleton S_.Idx := ⟨fun a b => funext fun d => d.elim0⟩
  have e := congrFun h (fun d => d.elim0 : S_.Idx)
  unfold Cert.Pre_real_inputs.fn Cert.Pre_real_inputs.fn_part1 Cert.Pre_real_inputs.fn_part2 at e
  dsimp only at e
  obtain ⟨e, e8⟩ := andi_one _ _ _ e
  obtain ⟨e, e7⟩ := andi_one _ _ _ e
  obtain ⟨e, e6⟩ := andi_one _ _ _ e
  obtain ⟨e, e5⟩ := andi_one _ _ _ e
  obtain ⟨e, e4⟩ := andi_one _ _ _ e
  obtain ⟨e, e3⟩ := andi_one _ _ _ e
  obtain ⟨e, e2⟩ := andi_one _ _ _ e
  obtain ⟨e0, e1⟩ := andi_one _ _ _ e
  exact ⟨isR_of_all x0 _ (fun _ => rfl) _ _ _ _ e0, isR_of_all x1 _ (fun _ => rfl) _ _ _ _ e1, isR_of_all x2 _ (fun _ => rfl) _ _ _ _ e2, isR_of_all x3 _ (fun _ => rfl) _ _ _ _ e3, isR_of_all x4 _ (fun _ => rfl) _ _ _ _ e4, isR_of_all x5 _ (fun _ => rfl) _ _ _ _ e5, isR_of_all x6 _ (fun _ => rfl) _ _ _ _ e6, isR_of_all x7 _ (fun _ => rfl) _ _ _ _ e7, isR_of_all x8 _ (fun _ => rfl) _ _ _ _ e8⟩

/-- The precondition gives real arrays on each device. -/
theorem reals_of_pre (m : (ℓ : Loc Cert.MlpBwdIdeal.nD Cert.MlpBwdIdeal.τ Cert.MlpBwdIdeal.sig) → Buf (Elt Ideal) ℓ) (c : Dev Cert.MlpBwdIdeal.nD)
    (h : Cert.Pre_real_inputs.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9)) = (fun _ => 1#1)) : Reals m c := by
  obtain ⟨h0, h1, h2, h3, h4, h5, h6, h7, h8⟩ := reals_of_fn _ _ _ _ _ _ _ _ _ _ h
  exact ⟨h0, h1, h2, h3, h4, h5, h6, h7, h8⟩

end Cert.Proof.Mlp
-- ==== Proof.MlpSame.lean ====
module

public import proofs.«01_k».proof.Proof.Gen.MlpBwd
public import proofs.«01_k».proof.Proof.MlpFrame
public import Idealize.ShloMosaic.Lib.Pipeline.ValueKit

@[expose] public section

set_option maxRecDepth 16384
set_option maxHeartbeats 4000000

noncomputable section

namespace Cert.Proof.MlpSame

open Idealize.ShloMosaic Idealize.ShloMosaic.TcCoe Idealize.SL.Sem

variable {F : FTy → Type} [FloatOps F]

/-- The two programs have the same text, so their kernels' bodies are equal … -/
theorem same_bodies : (@Cert.MlpBwd.defs₀ F _ _) = @Cert.MlpBwdIdeal.defs₀ F _ _ := by
  unfold Cert.MlpBwd.defs₀ Cert.MlpBwdIdeal.defs₀
  congr 1
  funext l x
  match l, x with
  | 0, (t, s) => exact rfl
  | ⟨n + 1, h⟩, _ => exact absurd h (Nat.not_lt.2 (Nat.le_add_left _ _))

/-- … and their tables of functions … -/
theorem same_defs : (@Cert.MlpBwd.defs F _ _) = @Cert.MlpBwdIdeal.defs F _ _ := by
  unfold Cert.MlpBwd.defs Cert.MlpBwdIdeal.defs
  exact congrArg (Idealize.ShloMosaic.Pipeline.defs (Cert.MlpBwdIdeal.pcfgs (F := F))) same_bodies

/-- … and their host programs. -/
theorem same_main : (@Cert.MlpBwd.main F _ _) = @Cert.MlpBwdIdeal.main F _ _ := by
  unfold Cert.MlpBwd.main Cert.MlpBwdIdeal.main
  exact rfl

/-- So the frame of the one is the frame of the other. -/
theorem frame (m : (ℓ : Loc Cert.MlpBwd.nD Cert.MlpBwd.τ Cert.MlpBwd.sig) → Buf (Elt Bits) ℓ) (g : Dev Cert.MlpBwd.nD → PrngReg) :
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4)
      ∧ r.2.mem ((c.tc : Thread Cert.MlpBwd.nD Cert.MlpBwd.τ).loc Cert.MlpBwd.main_arg5) = m ((c.tc : Thread Cert.MlpBwd.nD Cert.MlpBwd.τ).loc Cert.MlpBwd.main_arg5)
      ∧ r.2.mem ((c.tc : Thread Cert.MlpBwd.nD Cert.MlpBwd.τ).loc Cert.MlpBwd.main_arg6) = m ((c.tc : Thread Cert.MlpBwd.nD Cert.MlpBwd.τ).loc Cert.MlpBwd.main_arg6)
      ∧ r.2.mem ((c.tc : Thread Cert.MlpBwd.nD Cert.MlpBwd.τ).loc Cert.MlpBwd.main_arg7) = m ((c.tc : Thread Cert.MlpBwd.nD Cert.MlpBwd.τ).loc Cert.MlpBwd.main_arg7)
      ∧ r.2.mem ((c.tc : Thread Cert.MlpBwd.nD Cert.MlpBwd.τ).loc Cert.MlpBwd.main_arg8) = m ((c.tc : Thread Cert.MlpBwd.nD Cert.MlpBwd.τ).loc Cert.MlpBwd.main_arg8)
      ∧ r.2.mem ((c.tc : Thread Cert.MlpBwd.nD Cert.MlpBwd.τ).loc Cert.MlpBwd.main_arg9) = m ((c.tc : Thread Cert.MlpBwd.nD Cert.MlpBwd.τ).loc Cert.MlpBwd.main_arg9))
      ∧ r.2.sem = fun _ => 0) := by
  rw [same_defs, same_main]
  exact Cert.Proof.MlpRun.frame (F := Bits) m g

end Cert.Proof.MlpSame
-- ==== Proof.Proj.lean ====
module

public import proofs.«01_k».proof.Proof.Gen.ProjFwdIdeal.Value
public import proofs.«01_k».proof.Proof.Gen.ProjRefIdeal.Read
public import Idealize.ShloMosaic.Lib.Pipeline.ValueKit
public import Idealize.ShloMosaic.Lib.Pointwise

@[expose] public section

set_option maxRecDepth 16384

noncomputable section

namespace Cert.Proof.Proj

open Cert.ProjFwdIdeal Cert.ProjFwdIdeal.Gen Cert.ProjFwdIdeal.Value Idealize.ShloMosaic Idealize.ShloMosaic.TcCoe Idealize.SL.Sem
open Idealize.ShloMosaic.Tactic
open Cert.ProjRefIdeal.Read (val_main_v3 val_main_v2 val_main_v1 val_main_v0)

variable (m : (ℓ : Loc nD τ sig) → Buf (Elt Ideal) ℓ) (ρ : Dev nD → PrngReg)
/-- The block that each window works on at a grid point, in blocks along each axis. -/
theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ t.val < 4 :=
  (by decide +kernel : ∀ t : Fin grid0.N, _)

/-- The tokens that the point works on. -/
theorem iblk0_apply (c : Dev nD) (t : Fin cfg0.N) (r : Fin 512) (l : Fin 1024) :
    iblk m c 0 t (ix2 r l) = m ((c : Thread nD τ).loc main_arg0) (ix2 ⟨t.val * 512 + r.val, by have := (idx t).2.2.2.2.2.2.2.2; omega⟩ l) := by
  show V m c main_arg0 (((cfg0.win 0).blk t).view.emb (ix2 r l)) = _
  rw [V_main_arg0]
  obtain ⟨e0, e1, -⟩ := idx t
  congr 1; funext a; apply Fin.ext
  match a with
  | ⟨0, _⟩ => show win0_0.index t (0 : Fin 2) * 512 + 1 * r.val = t.val * 512 + r.val; omega
  | ⟨1, _⟩ => show win0_0.index t (1 : Fin 2) * 1024 + 1 * l.val = l.val; omega

/-- The weight, the same whole array at every point. -/
theorem iblk1_apply (c : Dev nD) (t : Fin cfg0.N) (r : Fin 2176) (l : Fin 1024) :
    iblk m c 1 t (ix2 r l) = m ((c : Thread nD τ).loc main_arg1) (ix2 r l) := by
  show V m c main_arg1 (((cfg0.win 1).blk t).view.emb (ix2 r l)) = _
  rw [V_main_arg1]
  obtain ⟨-, -, e0, e1, -⟩ := idx t
  congr 1; funext a; apply Fin.ext
  match a with
  | ⟨0, _⟩ => show win0_1.index t (0 : Fin 2) * 2176 + 1 * r.val = r.val; omega
  | ⟨1, _⟩ => show win0_1.index t (1 : Fin 2) * 1024 + 1 * l.val = l.val; omega

/-- What a point stores of the tokens: the tokens. -/
theorem pay1_apply (x : Vec Ideal S512x1024 .f32) (r : Fin 512) (l : Fin 1024) :
    k0_pay1 (F := Ideal) x (ix2 r l) = x (ix2 r l) := by
  unfold k0_pay1; pointwise

/-- What a point stores of the product: its tokens times the transposed weight. -/
theorem pay2_apply (x : Vec Ideal S512x1024 .f32) (y : Vec Ideal S2176x1024 .bf16) (r : Fin 512) (l : Fin 2176) :
    k0_pay2 (F := Ideal) x y (ix2 r l) = ∑ k : Fin 1024, (HMul.hMul (α := EReal) (β := EReal) (γ := EReal) (x (ix2 r k)) (y (ix2 l k))) := by
  unfold k0_pay2 k0_pay1; pointwise

/-- The reference's product. -/
theorem ref2_apply (x : Vec Ideal S2048x1024 .f32) (y : Vec Ideal S2176x1024 .bf16) (r : Fin 2048) (l : Fin 2176) :
    val_main_v2 (F := Ideal) x y (ix2 r l) = ∑ k : Fin 1024, (HMul.hMul (α := EReal) (β := EReal) (γ := EReal) (x (ix2 r k)) (y (ix2 l k))) := by
  unfold val_main_v2 val_main_v1 val_main_v0; pointwise

/-- The reference's copy of the tokens. -/
theorem ref3_apply (x : Vec Ideal S2048x1024 .f32) (r : Fin 2048) (l : Fin 1024) :
    val_main_v3 (F := Ideal) x (ix2 r l) = x (ix2 r l) := by
  unfold val_main_v3; pointwise

/-- The arguments. -/
abbrev A0 (c : Dev nD) := m ((c : Thread nD τ).loc main_arg0)
abbrev A1 (c : Dev nD) := m ((c : Thread nD τ).loc main_arg1)

/-- Where an element of a block of the product lies in the array. -/
theorem emb2 (t : Fin cfg0.N) (r : Fin 512) (l : Fin 2176) :
    ((cfg0.win 2).blk t).view.emb (ix2 r l) = (ix2 ⟨t.val * 512 + r.val, by have := (idx t).2.2.2.2.2.2.2.2; omega⟩ l : S2048x2176.Idx) := by
  obtain ⟨-, -, -, -, e0, e1, -⟩ := idx t
  funext a; apply Fin.ext
  match a with
  | ⟨0, _⟩ => show win0_2.index t (0 : Fin 2) * 512 + 1 * r.val = t.val * 512 + r.val; omega
  | ⟨1, _⟩ => show win0_2.index t (1 : Fin 2) * 2176 + 1 * l.val = l.val; omega

/-- No block sticks out of the array: a block is written back whole. -/
theorem cut2 (t : Fin cfg0.N) (X : Vec Ideal S512x2176 .f32) (j : S512x2176.Idx) : (cfg0.win 2).cut (grid0.coords t) X j = X j := rfl

/-- What point `t` writes back of the product is that block of the reference's array. -/
theorem flushed2_eq (c : Dev nD) (t : Fin cfg0.N) :
    (dats m 0 c).flushed 2 t = ((cfg0.win 2).blk t).view.read (Elt Ideal) (val_main_v2 (F := Ideal) (A0 m c) (A1 m c)) := by
  rw [flushed2_A]
  frame_out
  funext j
  obtain ⟨r, l, rfl⟩ : ∃ (r : Fin 512) (l : Fin 2176), j = ix2 r l := ⟨j 0, j 1, eq_ix2 j⟩
  refine Eq.trans ?_ (congrArg (val_main_v2 (F := Ideal) (A0 m c) (A1 m c)) (emb2 t r l)).symm
  refine (cut2 t _ _).trans ?_
  rw [pay2_apply, ref2_apply]
  apply Finset.sum_congr rfl; intro k _
  rw [iblk0_apply, iblk1_apply]

/-- Every element of the array is in some point's block. -/
theorem cover2 (i : S2048x2176.Idx) : ∃ t : Fin cfg0.N, (cfg0.win 2).flush t = true ∧ i ∈ ((cfg0.win 2).blk t).view.set := by
  obtain ⟨r, l, rfl⟩ : ∃ (r : Fin 2048) (l : Fin 2176), i = ix2 r l := ⟨i 0, i 1, eq_ix2 i⟩
  have hv := r.isLt
  refine ⟨(⟨r.val / 512, by show r.val / 512 < 4; omega⟩ : Fin cfg0.N), flush0_2 _, ?_⟩
  have h := ((cfg0.win 2).blk (⟨r.val / 512, by show r.val / 512 < 4; omega⟩ : Fin cfg0.N)).view.emb_mem_set (ix2 ⟨r.val % 512, by omega⟩ l)
  rw [emb2] at h
  have e : ∀ p, (⟨r.val / 512 * 512 + r.val % 512, p⟩ : Fin 2048) = r := fun p => Fin.ext (by show r.val / 512 * 512 + r.val % 512 = r.val; omega)
  simpa only [e] using h

/-- The array of the product after the run is the reference's. -/
theorem final2 (c : Dev nD) : (dats m 0 c).arrAt 2 cfg0.N = val_main_v2 (F := Ideal) (A0 m c) (A1 m c) :=
  (dats m 0 c).arrAt_eq_of_cover 2 _ (fun t _ => flushed2_eq m c t) cover2

/-- Where an element of a block of the copy of the tokens lies in the array. -/
theorem emb3 (t : Fin cfg0.N) (r : Fin 512) (l : Fin 1024) :
    ((cfg0.win 3).blk t).view.emb (ix2 r l) = (ix2 ⟨t.val * 512 + r.val, by have := (idx t).2.2.2.2.2.2.2.2; omega⟩ l : S2048x1024.Idx) := by
  obtain ⟨-, -, -, -, -, -, e0, e1, -⟩ := idx t
  funext a; apply Fin.ext
  match a with
  | ⟨0, _⟩ => show win0_3.index t (0 : Fin 2) * 512 + 1 * r.val = t.val * 512 + r.val; omega
  | ⟨1, _⟩ => show win0_3.index t (1 : Fin 2) * 1024 + 1 * l.val = l.val; omega

/-- No block sticks out of the array: a block is written back whole. -/
theorem cut3 (t : Fin cfg0.N) (X : Vec Ideal S512x1024 .bf16) (j : S512x1024.Idx) : (cfg0.win 3).cut (grid0.coords t) X j = X j := rfl

/-- What point `t` writes back of the copy of the tokens is that block of the reference's array. -/
theorem flushed3_eq (c : Dev nD) (t : Fin cfg0.N) :
    (dats m 0 c).flushed 3 t = ((cfg0.win 3).blk t).view.read (Elt Ideal) (val_main_v3 (F := Ideal) (A0 m c)) := by
  rw [flushed3_A]
  frame_out
  funext j
  obtain ⟨r, l, rfl⟩ : ∃ (r : Fin 512) (l : Fin 1024), j = ix2 r l := ⟨j 0, j 1, eq_ix2 j⟩
  refine Eq.trans ?_ (congrArg (val_main_v3 (F := Ideal) (A0 m c)) (emb3 t r l)).symm
  refine (cut3 t _ _).trans ?_
  rw [pay1_apply, ref3_apply, iblk0_apply]

/-- Every element of the array is in some point's block. -/
theorem cover3 (i : S2048x1024.Idx) : ∃ t : Fin cfg0.N, (cfg0.win 3).flush t = true ∧ i ∈ ((cfg0.win 3).blk t).view.set := by
  obtain ⟨r, l, rfl⟩ : ∃ (r : Fin 2048) (l : Fin 1024), i = ix2 r l := ⟨i 0, i 1, eq_ix2 i⟩
  have hv := r.isLt
  refine ⟨(⟨r.val / 512, by show r.val / 512 < 4; omega⟩ : Fin cfg0.N), flush0_3 _, ?_⟩
  have h := ((cfg0.win 3).blk (⟨r.val / 512, by show r.val / 512 < 4; omega⟩ : Fin cfg0.N)).view.emb_mem_set (ix2 ⟨r.val % 512, by omega⟩ l)
  rw [emb3] at h
  have e : ∀ p, (⟨r.val / 512 * 512 + r.val % 512, p⟩ : Fin 2048) = r := fun p => Fin.ext (by show r.val / 512 * 512 + r.val % 512 = r.val; omega)
  simpa only [e] using h

/-- The array of the copy of the tokens after the run is the reference's. -/
theorem final3 (c : Dev nD) : (dats m 0 c).arrAt 3 cfg0.N = val_main_v3 (F := Ideal) (A0 m c) :=
  (dats m 0 c).arrAt_eq_of_cover 3 _ (fun t _ => flushed3_eq m c t) cover3

end Cert.Proof.Proj
-- ==== Proof.WoLn.lean ====
module

public import proofs.«01_k».proof.Proof.Gen.WoLnFwdIdeal.Value
public import proofs.«01_k».proof.Proof.Gen.WoLnRefIdeal.Read
public import Idealize.ShloMosaic.Lib.Pipeline.ValueKit
public import Idealize.ShloMosaic.Lib.Pointwise

@[expose] public section

set_option maxRecDepth 16384

noncomputable section

namespace Cert.Proof.WoLn

open Cert.WoLnFwdIdeal Cert.WoLnFwdIdeal.Gen Cert.WoLnFwdIdeal.Value Idealize.ShloMosaic Idealize.ShloMosaic.TcCoe Idealize.SL.Sem
open Idealize.ShloMosaic.Tactic
open Cert.WoLnRefIdeal.Read

variable (m : (ℓ : Loc nD τ sig) → Buf (Elt Ideal) ℓ) (ρ : Dev nD → PrngReg)
/-- The block that each window works on at a grid point, in blocks along each axis. -/
theorem idx : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0
    ∧ t.val < 4 :=
  (by decide +kernel : ∀ t : Fin grid0.N, _)

/-- The rows that the point works on. -/
theorem iblk0_apply (c : Dev nD) (t : Fin cfg0.N) (r : Fin 512) (l : Fin 384) :
    iblk m c 0 t (ix2 r l) = m ((c : Thread nD τ).loc main_arg0) (ix2 ⟨t.val * 512 + r.val, by have := (idx t).2.2.2.2.2.2.2.2.2.2.2.2.2.2.2.2.2.2.2.2; omega⟩ l) := by
  show V m c main_arg0 (((cfg0.win 0).blk t).view.emb (ix2 r l)) = _
  rw [V_main_arg0]
  obtain ⟨e0, e1, -⟩ := idx t
  congr 1; funext a; apply Fin.ext
  match a with
  | ⟨0, _⟩ => show win0_0.index t (0 : Fin 2) * 512 + 1 * r.val = t.val * 512 + r.val; omega
  | ⟨1, _⟩ => show win0_0.index t (1 : Fin 2) * 384 + 1 * l.val = l.val; omega

/-- The rows that the point works on. -/
theorem iblk1_apply (c : Dev nD) (t : Fin cfg0.N) (r : Fin 512) (l : Fin 256) :
    iblk m c 1 t (ix2 r l) = m ((c : Thread nD τ).loc main_arg1) (ix2 ⟨t.val * 512 + r.val, by have := (idx t).2.2.2.2.2.2.2.2.2.2.2.2.2.2.2.2.2.2.2.2; omega⟩ l) := by
  show V m c main_arg1 (((cfg0.win 1).blk t).view.emb (ix2 r l)) = _
  rw [V_main_arg1]
  obtain ⟨-, -, e0, e1, -⟩ := idx t
  congr 1; funext a; apply Fin.ext
  match a with
  | ⟨0, _⟩ => show win0_1.index t (0 : Fin 2) * 512 + 1 * r.val = t.val * 512 + r.val; omega
  | ⟨1, _⟩ => show win0_1.index t (1 : Fin 2) * 256 + 1 * l.val = l.val; omega

/-- The rows that the point works on. -/
theorem iblk2_apply (c : Dev nD) (t : Fin cfg0.N) (r : Fin 512) (l : Fin 384) :
    iblk m c 2 t (ix2 r l) = m ((c : Thread nD τ).loc main_arg2) (ix2 ⟨t.val * 512 + r.val, by have := (idx t).2.2.2.2.2.2.2.2.2.2.2.2.2.2.2.2.2.2.2.2; omega⟩ l) := by
  show V m c main_arg2 (((cfg0.win 2).blk t).view.emb (ix2 r l)) = _
  rw [V_main_arg2]
  obtain ⟨-, -, -, -, e0, e1, -⟩ := idx t
  congr 1; funext a; apply Fin.ext
  match a with
  | ⟨0, _⟩ => show win0_2.index t (0 : Fin 2) * 512 + 1 * r.val = t.val * 512 + r.val; omega
  | ⟨1, _⟩ => show win0_2.index t (1 : Fin 2) * 384 + 1 * l.val = l.val; omega

/-- The rows that the point works on. -/
theorem iblk3_apply (c : Dev nD) (t : Fin cfg0.N) (r : Fin 512) (l : Fin 1024) :
    iblk m c 3 t (ix2 r l) = m ((c : Thread nD τ).loc main_arg3) (ix2 ⟨t.val * 512 + r.val, by have := (idx t).2.2.2.2.2.2.2.2.2.2.2.2.2.2.2.2.2.2.2.2; omega⟩ l) := by
  show V m c main_arg3 (((cfg0.win 3).blk t).view.emb (ix2 r l)) = _
  rw [V_main_arg3]
  obtain ⟨-, -, -, -, -, -, e0, e1, -⟩ := idx t
  congr 1; funext a; apply Fin.ext
  match a with
  | ⟨0, _⟩ => show win0_3.index t (0 : Fin 2) * 512 + 1 * r.val = t.val * 512 + r.val; omega
  | ⟨1, _⟩ => show win0_3.index t (1 : Fin 2) * 1024 + 1 * l.val = l.val; omega

/-- The same whole array at every point. -/
theorem iblk4_apply (c : Dev nD) (t : Fin cfg0.N) (r : Fin 1024) (l : Fin 1024) :
    iblk m c 4 t (ix2 r l) = m ((c : Thread nD τ).loc main_arg4) (ix2 r l) := by
  show V m c main_arg4 (((cfg0.win 4).blk t).view.emb (ix2 r l)) = _
  rw [V_main_arg4]
  obtain ⟨-, -, -, -, -, -, -, -, e0, e1, -⟩ := idx t
  congr 1; funext a; apply Fin.ext
  match a with
  | ⟨0, _⟩ => show win0_4.index t (0 : Fin 2) * 1024 + 1 * r.val = r.val; omega
  | ⟨1, _⟩ => show win0_4.index t (1 : Fin 2) * 1024 + 1 * l.val = l.val; omega

/-- The same whole array at every point. -/
theorem iblk5_apply (c : Dev nD) (t : Fin cfg0.N) (r : Fin 1) (l : Fin 1024) :
    iblk m c 5 t (ix2 r l) = m ((c : Thread nD τ).loc main_arg5) (ix2 r l) := by
  show V m c main_arg5 (((cfg0.win 5).blk t).view.emb (ix2 r l)) = _
  rw [V_main_arg5]
  obtain ⟨-, -, -, -, -, -, -, -, -, -, e0, e1, -⟩ := idx t
  congr 1; funext a; apply Fin.ext
  match a with
  | ⟨0, _⟩ => show win0_5.index t (0 : Fin 2) * 1 + 1 * r.val = r.val; omega
  | ⟨1, _⟩ => show win0_5.index t (1 : Fin 2) * 1024 + 1 * l.val = l.val; omega

/-- The same whole array at every point. -/
theorem iblk6_apply (c : Dev nD) (t : Fin cfg0.N) (r : Fin 1) (l : Fin 1024) :
    iblk m c 6 t (ix2 r l) = m ((c : Thread nD τ).loc main_arg6) (ix2 r l) := by
  show V m c main_arg6 (((cfg0.win 6).blk t).view.emb (ix2 r l)) = _
  rw [V_main_arg6]
  obtain ⟨-, -, -, -, -, -, -, -, -, -, -, -, e0, e1, -⟩ := idx t
  congr 1; funext a; apply Fin.ext
  match a with
  | ⟨0, _⟩ => show win0_6.index t (0 : Fin 2) * 1 + 1 * r.val = r.val; omega
  | ⟨1, _⟩ => show win0_6.index t (1 : Fin 2) * 1024 + 1 * l.val = l.val; omega

/-- What the kernel's body reads at one grid point: rows `R` of the arrays of tokens, the weight's rows that belong to
    each mixer, and the scale and shift. -/
structure Blk (x0 : Vec Ideal S2048x384 .bf16) (x1 : Vec Ideal S2048x256 .bf16) (x2 : Vec Ideal S2048x384 .bf16) (x3 : Vec Ideal S2048x1024 .f32)
    (x4 : Vec Ideal S1024x1024 .bf16) (x5 x6 : Vec Ideal S1x1024 .f32) (R : Fin 512 → Fin 2048) where
  v0 : Vec Ideal S512x1024 .f32
  v3 : Vec Ideal S512x384 .bf16
  v4 : Vec Ideal S384x1024 .bf16
  v7 : Vec Ideal S512x256 .bf16
  v8 : Vec Ideal S256x1024 .bf16
  v11 : Vec Ideal S512x384 .bf16
  v12 : Vec Ideal S384x1024 .bf16
  b5 : Vec Ideal S1x1024 .f32
  b6 : Vec Ideal S1x1024 .f32
  e0 : ∀ r l, v0 (ix2 r l) = x3 (ix2 (R r) l)
  e3 : ∀ r l, v3 (ix2 r l) = x0 (ix2 (R r) l)
  e4 : ∀ (k : Fin 384) l, v4 (ix2 k l) = x4 (ix2 ⟨k.val, by omega⟩ l)
  e7 : ∀ r l, v7 (ix2 r l) = x1 (ix2 (R r) l)
  e8 : ∀ (k : Fin 256) l, v8 (ix2 k l) = x4 (ix2 ⟨384 + k.val, by omega⟩ l)
  e11 : ∀ r l, v11 (ix2 r l) = x2 (ix2 (R r) l)
  e12 : ∀ (k : Fin 384) l, v12 (ix2 k l) = x4 (ix2 ⟨640 + k.val, by omega⟩ l)
  e5 : ∀ r l, b5 (ix2 r l) = x5 (ix2 r l)
  e6 : ∀ r l, b6 (ix2 r l) = x6 (ix2 r l)

section Pay

variable {x0 : Vec Ideal S2048x384 .bf16} {x1 : Vec Ideal S2048x256 .bf16} {x2 : Vec Ideal S2048x384 .bf16} {x3 : Vec Ideal S2048x1024 .f32}
  {x4 : Vec Ideal S1024x1024 .bf16} {x5 x6 : Vec Ideal S1x1024 .f32} {R : Fin 512 → Fin 2048} (B : Blk x0 x1 x2 x3 x4 x5 x6 R)

/-- One mixer's part of the product: its row times its rows of the weight. -/
def part {n : ℕ} (x : Fin n → EReal) (y : Fin n → EReal) : EReal := ∑ k : Fin n, x k * y k

/-- A sum over a range of numbers is the sum over its first part and over the rest. -/
theorem sum_cut (a b : ℕ) (f : ℕ → EReal) : ∑ i ∈ Finset.range (a + b), f i = ∑ i : Fin a, f i.val + ∑ i ∈ Finset.range b, f (a + i) := by
  rw [Finset.sum_range_add, Finset.sum_range]

/-- The sum over the 1024 columns, cut where one mixer ends and the next begins. -/
theorem sum_parts (f : Fin 1024 → EReal) : ∑ i, f i =
    ∑ i : Fin 384, f ⟨i.val, by omega⟩ + (∑ i : Fin 256, f ⟨384 + i.val, by omega⟩ + ∑ i : Fin 384, f ⟨640 + i.val, by omega⟩) := by
  have e : ∀ i : Fin 1024, f i = (fun n : ℕ => if h : n < 1024 then f ⟨n, h⟩ else 0) i.val := fun i => by simp only [i.isLt, dif_pos]
  generalize (fun n : ℕ => if h : n < 1024 then f ⟨n, h⟩ else 0) = g at e
  simp only [e]
  rw [← Finset.sum_range, sum_cut 384 640, sum_cut 256 384, Finset.sum_range]
  simp only [← add_assoc, Nat.reduceAdd]

/-- The sum that the norm is taken of: the scaled row and the three mixers' parts. -/
def zf (x : EReal) (a b c : EReal) : EReal := HMul.hMul (α := EReal) (β := EReal) (γ := EReal) (Ideal.ofBits .f32 0x3FD744FD#32) x + a + b + c

/-- The reference's sum, with the product over the 1024 columns cut into the three parts. -/
theorem ref8_eq (r : Fin 2048) (l : Fin 1024) :
    val_main_v8 (F := Ideal) x0 x1 x2 x3 x4 (ix2 r l) = zf (x3 (ix2 r l)) (part (fun k : Fin 384 => x0 (ix2 r k)) (fun k => x4 (ix2 ⟨k.val, by omega⟩ l)))
      (part (fun k : Fin 256 => x1 (ix2 r k)) (fun k => x4 (ix2 ⟨384 + k.val, by omega⟩ l))) (part (fun k : Fin 384 => x2 (ix2 r k)) (fun k => x4 (ix2 ⟨640 + k.val, by omega⟩ l))) := by
  unfold val_main_v8 val_main_v7 val_main_v6 val_main_cst val_main_v5 val_main_v4 val_main_v3 val_main_v2 val_main_v1 val_main_v0; pointwise
  rw [sum_parts]
  simp only [← add_assoc]
  unfold zf part
  refine congrArg₂ (HAdd.hAdd (α := EReal) (β := EReal) (γ := EReal)) (congrArg₂ (HAdd.hAdd (α := EReal) (β := EReal) (γ := EReal)) (congrArg₂ (HAdd.hAdd (α := EReal) (β := EReal) (γ := EReal)) rfl ?_) ?_) ?_
  · apply Finset.sum_congr rfl; intro k _
    have hk := k.isLt
    refine congrArg (fun z : EReal => z * x4 (ix2 ⟨k.val, by omega⟩ l)) ?_
    refine (dif_pos (by omega)).trans ?_; exact congrArg (fun i => x0 (ix2 r i)) (Fin.ext (by first | rfl | (dsimp only; omega)))
  · apply Finset.sum_congr rfl; intro k _
    have hk := k.isLt
    refine congrArg (fun z : EReal => z * x4 (ix2 ⟨384 + k.val, by omega⟩ l)) ?_
    refine (dif_neg (by omega)).trans ?_; refine (dif_pos (by omega)).trans ?_; exact congrArg (fun i => x1 (ix2 r i)) (Fin.ext (by first | rfl | (dsimp only; omega)))
  · apply Finset.sum_congr rfl; intro k _
    have hk := k.isLt
    refine congrArg (fun z : EReal => z * x4 (ix2 ⟨640 + k.val, by omega⟩ l)) ?_
    refine (dif_neg (by omega)).trans ?_; refine (dif_neg (by omega)).trans ?_; exact congrArg (fun i => x2 (ix2 r i)) (Fin.ext (by first | rfl | (dsimp only; omega)))

/-- The deviation of a row `z` from its mean. -/
def dev (z : Fin 1024 → EReal) (l : Fin 1024) : EReal := z l - Ideal.div (∑ j : Fin 1024, z j) (Ideal.ofBits .f32 0x44800000#32)

/-- The reciprocal deviation of a row, from its deviations. -/
def rs (d : Fin 1024 → EReal) : EReal :=
  Ideal.rsqrt (Ideal.div (∑ j : Fin 1024, HMul.hMul (α := EReal) (β := EReal) (γ := EReal) (d j) (d j)) (Ideal.ofBits .f32 0x44800000#32) + Ideal.ofBits .f32 0x3727C5AC#32)

/-- The reference's deviation. -/
theorem ref24_eq (r : Fin 2048) (l : Fin 1024) :
    val_main_v24 (F := Ideal) x0 x1 x2 x3 x4 (ix2 r l) = dev (fun j => val_main_v8 (F := Ideal) x0 x1 x2 x3 x4 (ix2 r j)) l := by
  unfold val_main_v24 val_main_v23 val_main_v12 val_main_v11 val_main_cst_1 val_main_v10 val_main_v9 val_main_cst_0 dev
  pointwise

/-- The reference's reciprocal deviation. -/
theorem ref22_eq (r : Fin 2048) (o : Fin 1) :
    val_main_v22 (F := Ideal) x0 x1 x2 x3 x4 (ix2 r o) = rs (fun j => val_main_v24 (F := Ideal) x0 x1 x2 x3 x4 (ix2 r j)) := by
  have e : ∀ j, val_main_v24 (F := Ideal) x0 x1 x2 x3 x4 (ix2 r j) = val_main_v14 (F := Ideal) x0 x1 x2 x3 x4 (ix2 r j) := fun _ => rfl
  simp only [e]
  unfold val_main_v22 val_main_v21 val_main_v20 val_main_cst_4 val_main_v19 val_main_v18 val_main_cst_3 val_main_v17 val_main_v16 val_main_cst_2 val_main_v15 rs
  pointwise

/-- The reference's normalised row. -/
theorem ref26_eq (r : Fin 2048) (l : Fin 1024) :
    val_main_v26 (F := Ideal) x0 x1 x2 x3 x4 (ix2 r l) = HMul.hMul (α := EReal) (β := EReal) (γ := EReal) (val_main_v24 (F := Ideal) x0 x1 x2 x3 x4 (ix2 r l)) (val_main_v22 (F := Ideal) x0 x1 x2 x3 x4 (ix2 r 0)) := by
  unfold val_main_v26 val_main_v25
  pointwise

/-- The reference's output row. -/
theorem ref31_eq (r : Fin 2048) (l : Fin 1024) :
    val_main_v31 (F := Ideal) x0 x1 x2 x3 x4 x5 x6 (ix2 r l) = HMul.hMul (α := EReal) (β := EReal) (γ := EReal) (val_main_v26 (F := Ideal) x0 x1 x2 x3 x4 (ix2 r l)) (x5 (ix2 0 l)) + x6 (ix2 0 l) := by
  unfold val_main_v31 val_main_v30 val_main_v29 val_main_v28 val_main_v27
  pointwise

/-- A block's deviations, from its rows and the weight's. -/
theorem pay2_dev (v0 : Vec Ideal S512x1024 .f32) (v3 : Vec Ideal S512x384 .bf16) (v4 : Vec Ideal S384x1024 .bf16) (v7 : Vec Ideal S512x256 .bf16) (v8 : Vec Ideal S256x1024 .bf16)
    (v11 : Vec Ideal S512x384 .bf16) (v12 : Vec Ideal S384x1024 .bf16) (r : Fin 512) (l : Fin 1024) :
    k0_pay2 (F := Ideal) v0 v3 v4 v7 v8 v11 v12 (ix2 r l)
      = dev (fun j => zf (v0 (ix2 r j)) (part (fun k => v3 (ix2 r k)) (fun k => v4 (ix2 k j))) (part (fun k => v7 (ix2 r k)) (fun k => v8 (ix2 k j))) (part (fun k => v11 (ix2 r k)) (fun k => v12 (ix2 k j)))) l := by
  unfold k0_pay2 dev zf part
  pointwise

/-- A block's deviations are the reference's. -/
theorem pay2_eq (r : Fin 512) (l : Fin 1024) : k0_pay2 (F := Ideal) B.v0 B.v3 B.v4 B.v7 B.v8 B.v11 B.v12 (ix2 r l) = val_main_v24 (F := Ideal) x0 x1 x2 x3 x4 (ix2 (R r) l) := by
  rw [pay2_dev, ref24_eq]
  simp only [ref8_eq, B.e0, B.e3, B.e4, B.e7, B.e8, B.e11, B.e12]

/-- A block's reciprocal deviations are the reference's. -/
theorem pay3_eq (r : Fin 512) (o : Fin 1) : k0_pay3 (F := Ideal) B.v0 B.v3 B.v4 B.v7 B.v8 B.v11 B.v12 (ix2 r o) = val_main_v22 (F := Ideal) x0 x1 x2 x3 x4 (ix2 (R r) o) := by
  rw [ref22_eq]
  simp only [← pay2_eq B]
  unfold k0_pay3
  generalize k0_pay2 (F := Ideal) B.v0 B.v3 B.v4 B.v7 B.v8 B.v11 B.v12 = d
  unfold rs
  pointwise

/-- A block's normalised rows are the reference's. -/
theorem pay4_eq (r : Fin 512) (l : Fin 1024) : k0_pay4 (F := Ideal) B.v0 B.v3 B.v4 B.v7 B.v8 B.v11 B.v12 (ix2 r l) = val_main_v26 (F := Ideal) x0 x1 x2 x3 x4 (ix2 (R r) l) := by
  rw [ref26_eq, ← pay2_eq B, ← pay3_eq B]
  unfold k0_pay4
  generalize k0_pay2 (F := Ideal) B.v0 B.v3 B.v4 B.v7 B.v8 B.v11 B.v12 = d
  generalize k0_pay3 (F := Ideal) B.v0 B.v3 B.v4 B.v7 B.v8 B.v11 B.v12 = q
  pointwise

/-- A block's output rows are the reference's. -/
theorem pay1_eq (r : Fin 512) (l : Fin 1024) :
    k0_pay1 (F := Ideal) (k0_pay4 (F := Ideal) B.v0 B.v3 B.v4 B.v7 B.v8 B.v11 B.v12) B.b5 B.b6 (ix2 r l) = val_main_v31 (F := Ideal) x0 x1 x2 x3 x4 x5 x6 (ix2 (R r) l) := by
  rw [ref31_eq, ← pay4_eq B, ← B.e5, ← B.e6]
  generalize k0_pay4 (F := Ideal) B.v0 B.v3 B.v4 B.v7 B.v8 B.v11 B.v12 = d
  unfold k0_pay1
  pointwise

end Pay

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)

/-- A load of some rows of the weight, read at an index. -/
theorem ld_rows (n o : ℕ) (ho : o + n ≤ 1024) (inb) (X : Vec Ideal S1024x1024 .bf16) (k : Fin n) (l : Fin 1024) :
    View.ld (Val := Elt Ideal) (e' := .bf16) X (Rect.unit (s := S1024x1024) ![o, 0] ![n, 1024] inb) (ix2 k l) = X (ix2 ⟨o + k.val, by omega⟩ l) :=
  congrArg X (funext fun a => Fin.ext (by
    match a with
    | ⟨0, _⟩ => show o + 1 * k.val = o + k.val; omega
    | ⟨1, _⟩ => show 0 + 1 * l.val = l.val; omega))

/-- What the body reads at grid point `t`. -/
def B (c : Dev nD) (t : Fin cfg0.N) : Blk (A0 m c) (A1 m c) (A2 m c) (A3 m c) (A4 m c) (A5 m c) (A6 m c)
    (fun r => ⟨t.val * 512 + r.val, by have := (idx t).2.2.2.2.2.2.2.2.2.2.2.2.2.2.2.2.2.2.2.2; omega⟩) where
  v0 := iblk m c 3 t
  v3 := iblk m c 0 t
  v4 := View.ld (Val := Elt Ideal) (e' := .bf16) (iblk m c 4 t : Vec Ideal S1024x1024 .bf16) (Rect.unit (s := S1024x1024) ![0, 0] ![384, 1024] inb_S1024x1024_S384x1024_0_0)
  v7 := iblk m c 1 t
  v8 := View.ld (Val := Elt Ideal) (e' := .bf16) (iblk m c 4 t : Vec Ideal S1024x1024 .bf16) (Rect.unit (s := S1024x1024) ![384, 0] ![256, 1024] inb_S1024x1024_S256x1024_384_0)
  v11 := iblk m c 2 t
  v12 := View.ld (Val := Elt Ideal) (e' := .bf16) (iblk m c 4 t : Vec Ideal S1024x1024 .bf16) (Rect.unit (s := S1024x1024) ![640, 0] ![384, 1024] inb_S1024x1024_S384x1024_640_0)
  b5 := iblk m c 5 t
  b6 := iblk m c 6 t
  e0 := iblk3_apply m c t
  e3 := iblk0_apply m c t
  e4 := fun k l => ((ld_rows 384 0 (by decide) _ _ k l).trans (iblk4_apply m c t _ _)).trans (congrArg (fun i => A4 m c (ix2 i l)) (Fin.ext (Nat.zero_add _)))
  e7 := iblk1_apply m c t
  e8 := fun k l => (ld_rows 256 384 (by decide) _ _ k l).trans (iblk4_apply m c t _ _)
  e11 := iblk2_apply m c t
  e12 := fun k l => (ld_rows 384 640 (by decide) _ _ k l).trans (iblk4_apply m c t _ _)
  e5 := iblk5_apply m c t
  e6 := iblk6_apply m c t

/-- Where an element of a block of the normalised rows lies in the array. -/
theorem emb7 (t : Fin cfg0.N) (r : Fin 512) (l : Fin 1024) :
    ((cfg0.win 7).blk t).view.emb (ix2 r l) = (ix2 ⟨t.val * 512 + r.val, by have := (idx t).2.2.2.2.2.2.2.2.2.2.2.2.2.2.2.2.2.2.2.2; omega⟩ l : S2048x1024.Idx) := by
  obtain ⟨-, -, -, -, -, -, -, -, -, -, -, -, -, -, e0, e1, -⟩ := idx t
  funext a; apply Fin.ext
  match a with
  | ⟨0, _⟩ => show win0_7.index t (0 : Fin 2) * 512 + 1 * r.val = t.val * 512 + r.val; omega
  | ⟨1, _⟩ => show win0_7.index t (1 : Fin 2) * 1024 + 1 * l.val = l.val; omega

/-- No block sticks out of the array: a block is written back whole. -/
theorem cut7 (t : Fin cfg0.N) (X : Vec Ideal S512x1024 .f32) (j : S512x1024.Idx) : (cfg0.win 7).cut (grid0.coords t) X j = X j := rfl

/-- What point `t` writes back of the normalised rows is that block of the reference's array. -/
theorem flushed7_eq (c : Dev nD) (t : Fin cfg0.N) :
    (dats m 0 c).flushed 7 t = ((cfg0.win 7).blk t).view.read (Elt Ideal) (val_main_v26 (F := Ideal) (A0 m c) (A1 m c) (A2 m c) (A3 m c) (A4 m c)) := by
  rw [flushed7]
  frame_out
  funext j
  obtain ⟨r, l, rfl⟩ : ∃ (r : Fin 512) (l : Fin 1024), j = ix2 r l := ⟨j 0, j 1, eq_ix2 j⟩
  refine Eq.trans ?_ (congrArg (val_main_v26 (F := Ideal) (A0 m c) (A1 m c) (A2 m c) (A3 m c) (A4 m c)) (emb7 t r l)).symm
  refine (cut7 t _ _).trans ?_
  exact pay4_eq (B m c t) r l

/-- Every element of the array is in some point's block. -/
theorem cover7 (i : S2048x1024.Idx) : ∃ t : Fin cfg0.N, (cfg0.win 7).flush t = true ∧ i ∈ ((cfg0.win 7).blk t).view.set := by
  obtain ⟨r, l, rfl⟩ : ∃ (r : Fin 2048) (l : Fin 1024), i = ix2 r l := ⟨i 0, i 1, eq_ix2 i⟩
  have hv := r.isLt
  refine ⟨(⟨r.val / 512, by show r.val / 512 < 4; omega⟩ : Fin cfg0.N), flush0_7 _, ?_⟩
  have h := ((cfg0.win 7).blk (⟨r.val / 512, by show r.val / 512 < 4; omega⟩ : Fin cfg0.N)).view.emb_mem_set (ix2 ⟨r.val % 512, by omega⟩ l)
  rw [emb7] at h
  have e : ∀ p, (⟨r.val / 512 * 512 + r.val % 512, p⟩ : Fin 2048) = r := fun p => Fin.ext (by show r.val / 512 * 512 + r.val % 512 = r.val; omega)
  simpa only [e] using h

/-- The array of the normalised rows after the run is the reference's. -/
theorem final7 (c : Dev nD) : (dats m 0 c).arrAt 7 cfg0.N = val_main_v26 (F := Ideal) (A0 m c) (A1 m c) (A2 m c) (A3 m c) (A4 m c) :=
  (dats m 0 c).arrAt_eq_of_cover 7 _ (fun t _ => flushed7_eq m c t) cover7

/-- Where an element of a block of the reciprocal deviations lies in the array. -/
theorem emb8 (t : Fin cfg0.N) (r : Fin 512) (l : Fin 1) :
    ((cfg0.win 8).blk t).view.emb (ix2 r l) = (ix2 ⟨t.val * 512 + r.val, by have := (idx t).2.2.2.2.2.2.2.2.2.2.2.2.2.2.2.2.2.2.2.2; omega⟩ l : S2048x1.Idx) := by
  obtain ⟨-, -, -, -, -, -, -, -, -, -, -, -, -, -, -, -, e0, e1, -⟩ := idx t
  funext a; apply Fin.ext
  match a with
  | ⟨0, _⟩ => show win0_8.index t (0 : Fin 2) * 512 + 1 * r.val = t.val * 512 + r.val; omega
  | ⟨1, _⟩ => show win0_8.index t (1 : Fin 2) * 1 + 1 * l.val = l.val; omega

/-- No block sticks out of the array: a block is written back whole. -/
theorem cut8 (t : Fin cfg0.N) (X : Vec Ideal S512x1 .f32) (j : S512x1.Idx) : (cfg0.win 8).cut (grid0.coords t) X j = X j := rfl

/-- What point `t` writes back of the reciprocal deviations is that block of the reference's array. -/
theorem flushed8_eq (c : Dev nD) (t : Fin cfg0.N) :
    (dats m 0 c).flushed 8 t = ((cfg0.win 8).blk t).view.read (Elt Ideal) (val_main_v22 (F := Ideal) (A0 m c) (A1 m c) (A2 m c) (A3 m c) (A4 m c)) := by
  rw [flushed8]
  frame_out
  funext j
  obtain ⟨r, l, rfl⟩ : ∃ (r : Fin 512) (l : Fin 1), j = ix2 r l := ⟨j 0, j 1, eq_ix2 j⟩
  refine Eq.trans ?_ (congrArg (val_main_v22 (F := Ideal) (A0 m c) (A1 m c) (A2 m c) (A3 m c) (A4 m c)) (emb8 t r l)).symm
  refine (cut8 t _ _).trans ?_
  exact pay3_eq (B m c t) r l

/-- Every element of the array is in some point's block. -/
theorem cover8 (i : S2048x1.Idx) : ∃ t : Fin cfg0.N, (cfg0.win 8).flush t = true ∧ i ∈ ((cfg0.win 8).blk t).view.set := by
  obtain ⟨r, l, rfl⟩ : ∃ (r : Fin 2048) (l : Fin 1), i = ix2 r l := ⟨i 0, i 1, eq_ix2 i⟩
  have hv := r.isLt
  refine ⟨(⟨r.val / 512, by show r.val / 512 < 4; omega⟩ : Fin cfg0.N), flush0_8 _, ?_⟩
  have h := ((cfg0.win 8).blk (⟨r.val / 512, by show r.val / 512 < 4; omega⟩ : Fin cfg0.N)).view.emb_mem_set (ix2 ⟨r.val % 512, by omega⟩ l)
  rw [emb8] at h
  have e : ∀ p, (⟨r.val / 512 * 512 + r.val % 512, p⟩ : Fin 2048) = r := fun p => Fin.ext (by show r.val / 512 * 512 + r.val % 512 = r.val; omega)
  simpa only [e] using h

/-- The array of the reciprocal deviations after the run is the reference's. -/
theorem final8 (c : Dev nD) : (dats m 0 c).arrAt 8 cfg0.N = val_main_v22 (F := Ideal) (A0 m c) (A1 m c) (A2 m c) (A3 m c) (A4 m c) :=
  (dats m 0 c).arrAt_eq_of_cover 8 _ (fun t _ => flushed8_eq m c t) cover8

/-- Where an element of a block of the output rows lies in the array. -/
theorem emb9 (t : Fin cfg0.N) (r : Fin 512) (l : Fin 1024) :
    ((cfg0.win 9).blk t).view.emb (ix2 r l) = (ix2 ⟨t.val * 512 + r.val, by have := (idx t).2.2.2.2.2.2.2.2.2.2.2.2.2.2.2.2.2.2.2.2; omega⟩ l : S2048x1024.Idx) := by
  obtain ⟨-, -, -, -, -, -, -, -, -, -, -, -, -, -, -, -, -, -, e0, e1, -⟩ := idx t
  funext a; apply Fin.ext
  match a with
  | ⟨0, _⟩ => show win0_9.index t (0 : Fin 2) * 512 + 1 * r.val = t.val * 512 + r.val; omega
  | ⟨1, _⟩ => show win0_9.index t (1 : Fin 2) * 1024 + 1 * l.val = l.val; omega

/-- No block sticks out of the array: a block is written back whole. -/
theorem cut9 (t : Fin cfg0.N) (X : Vec Ideal S512x1024 .bf16) (j : S512x1024.Idx) : (cfg0.win 9).cut (grid0.coords t) X j = X j := rfl

/-- What point `t` writes back of the output rows is that block of the reference's array. -/
theorem flushed9_eq (c : Dev nD) (t : Fin cfg0.N) :
    (dats m 0 c).flushed 9 t = ((cfg0.win 9).blk t).view.read (Elt Ideal) (val_main_v31 (F := Ideal) (A0 m c) (A1 m c) (A2 m c) (A3 m c) (A4 m c) (A5 m c) (A6 m c)) := by
  rw [flushed9]
  frame_out
  funext j
  obtain ⟨r, l, rfl⟩ : ∃ (r : Fin 512) (l : Fin 1024), j = ix2 r l := ⟨j 0, j 1, eq_ix2 j⟩
  refine Eq.trans ?_ (congrArg (val_main_v31 (F := Ideal) (A0 m c) (A1 m c) (A2 m c) (A3 m c) (A4 m c) (A5 m c) (A6 m c)) (emb9 t r l)).symm
  refine (cut9 t _ _).trans ?_
  exact pay1_eq (B m c t) r l

/-- Every element of the array is in some point's block. -/
theorem cover9 (i : S2048x1024.Idx) : ∃ t : Fin cfg0.N, (cfg0.win 9).flush t = true ∧ i ∈ ((cfg0.win 9).blk t).view.set := by
  obtain ⟨r, l, rfl⟩ : ∃ (r : Fin 2048) (l : Fin 1024), i = ix2 r l := ⟨i 0, i 1, eq_ix2 i⟩
  have hv := r.isLt
  refine ⟨(⟨r.val / 512, by show r.val / 512 < 4; omega⟩ : Fin cfg0.N), flush0_9 _, ?_⟩
  have h := ((cfg0.win 9).blk (⟨r.val / 512, by show r.val / 512 < 4; omega⟩ : Fin cfg0.N)).view.emb_mem_set (ix2 ⟨r.val % 512, by omega⟩ l)
  rw [emb9] at h
  have e : ∀ p, (⟨r.val / 512 * 512 + r.val % 512, p⟩ : Fin 2048) = r := fun p => Fin.ext (by show r.val / 512 * 512 + r.val % 512 = r.val; omega)
  simpa only [e] using h

/-- The array of the output rows after the run is the reference's. -/
theorem final9 (c : Dev nD) : (dats m 0 c).arrAt 9 cfg0.N = val_main_v31 (F := Ideal) (A0 m c) (A1 m c) (A2 m c) (A3 m c) (A4 m c) (A5 m c) (A6 m c) :=
  (dats m 0 c).arrAt_eq_of_cover 9 _ (fun t _ => flushed9_eq m c t) cover9

end Cert.Proof.WoLn
-- ==== Proof.PoolSum.lean ====
module

public import proofs.«01_k».proof.Proof.ConvBlock
public import proofs.«01_k».proof.Proof.RealMath

@[expose] public section

set_option maxRecDepth 16384

noncomputable section

namespace Cert.Proof.PoolSum

open Idealize.ShloMosaic
open Cert.Proof.Conv (down)
open Cert.Proof.RealMath

/-- The sum of the last `k` elements of a column up to row `r`, fewer where the column starts. -/
def win (k : Nat) (f : Fin 2048 → EReal) (r : Fin 2048) : EReal :=
  ∑ i : Fin 2048, if i.val ≤ r.val ∧ r.val < i.val + k then f i else 0

/-- The sum of a column up to row `r`. -/
def cum (f : Fin 2048 → EReal) (r : Fin 2048) : EReal := ∑ i : Fin 2048, if i.val ≤ r.val then f i else 0

/-- The sum of the last one is the element. -/
theorem win_one (f : Fin 2048 → EReal) : win 1 f = f := by
  funext r
  unfold win
  rw [Finset.sum_eq_single r]
  · exact if_pos ⟨le_refl _, by omega⟩
  · intro i _ h
    exact if_neg fun q => h (Fin.ext (by omega))
  · intro h; exact absurd (Finset.mem_univ _) h

/-- A window twice as long is the window plus the one that ends before it. -/
theorem win_double (k : Nat) (f : Fin 2048 → EReal) (r : Fin 2048) : win k f r + down k (win k f) r = win (2 * k) f r := by
  unfold down
  by_cases h : k ≤ r.val
  · rw [if_pos h]
    unfold win
    rw [← Finset.sum_add_distrib]
    refine Finset.sum_congr rfl fun i _ => ?_
    show _ + (if i.val ≤ r.val - k ∧ r.val - k < i.val + k then f i else 0) = _
    by_cases h1 : i.val ≤ r.val ∧ r.val < i.val + k
    · rw [if_pos h1, if_neg (by omega), if_pos (by omega), add_zero]
    · rw [if_neg h1, zero_add]
      exact if_congr (by omega) rfl rfl
  · rw [if_neg h, add_zero]
    unfold win
    exact Finset.sum_congr rfl fun i _ => if_congr (by omega) rfl rfl

/-- A running sum less the running sum `k` rows above is the window's, where the column holds real numbers. -/
theorem cum_sub (k : Nat) (f : Fin 2048 → EReal) (hf : ∀ i, IsR (f i)) (r : Fin 2048) : cum f r - down k (cum f) r = win k f r := by
  have e : cum f r = win k f r + down k (cum f) r := by
    unfold down
    by_cases h : k ≤ r.val
    · rw [if_pos h]
      unfold win cum
      rw [← Finset.sum_add_distrib]
      refine Finset.sum_congr rfl fun i _ => ?_
      show _ = _ + (if i.val ≤ r.val - k then f i else 0)
      by_cases h1 : i.val ≤ r.val ∧ r.val < i.val + k
      · rw [if_pos h1.1, if_pos h1, if_neg (by omega), add_zero]
      · rw [if_neg h1, zero_add]
        exact if_congr (by omega) rfl rfl
    · rw [if_neg h, add_zero]
      unfold win cum
      exact Finset.sum_congr rfl fun i _ => if_congr (by omega) rfl rfl
  have hr : IsR (down k (cum f) r) := by
    unfold down
    split
    · exact isR_sum _ _ fun i => by split <;> [exact hf i; exact isR_coe 0]
    · exact isR_coe 0
  obtain ⟨b, hb⟩ := hr
  rw [e, hb]
  exact EReal.add_sub_cancel_right

/-- The positions of a window of the whole height, padded above, that lie in the column are the rows up to its end. -/
theorem sum_window (f : Fin 2048 → EReal) (r : Fin 2048) :
    (∑ n : Fin 2048, if h : 2047 ≤ r.val + n.val then f ⟨r.val + n.val - 2047, by omega⟩ else 0) = cum f r := by
  unfold cum
  rw [← Finset.sum_filter (fun i : Fin 2048 => i.val ≤ r.val)]
  have e : ∀ n : Fin 2048, (if h : 2047 ≤ r.val + n.val then f ⟨r.val + n.val - 2047, by omega⟩ else 0)
      = if 2047 ≤ r.val + n.val then f ⟨r.val + n.val - 2047, by omega⟩ else 0 := fun n => by split <;> rfl
  rw [Finset.sum_congr rfl fun n _ => e n, ← Finset.sum_filter (fun n : Fin 2048 => 2047 ≤ r.val + n.val)]
  refine Finset.sum_bij' (fun n _ => (⟨r.val + n.val - 2047, by omega⟩ : Fin 2048))
    (fun i hi => (⟨i.val + 2047 - r.val, by have := (Finset.mem_filter.1 hi).2; omega⟩ : Fin 2048)) ?_ ?_ ?_ ?_ ?_
  · intro n hn; have := (Finset.mem_filter.1 hn).2; simp only [Finset.mem_filter, Finset.mem_univ, true_and]; omega
  · intro i hi; have := (Finset.mem_filter.1 hi).2; simp only [Finset.mem_filter, Finset.mem_univ, true_and]; omega
  · intro n hn; have := (Finset.mem_filter.1 hn).2; apply Fin.ext; show r.val + n.val - 2047 + 2047 - r.val = n.val; omega
  · intro i hi; have := (Finset.mem_filter.1 hi).2; apply Fin.ext; show r.val + (i.val + 2047 - r.val) - 2047 = i.val; omega
  · intro n hn; rfl

/-- A left fold of additions over all positions is the sum. -/
theorem foldl_add {n : Nat} (g : Fin n → EReal) : (List.finRange n).foldl (fun s i => s + g i) 0 = ∑ i, g i := by
  rw [← List.sum_ofFn, List.ofFn_eq_map, ← List.foldl_map, List.sum_eq_foldl]

/-- How many rows a window of `W` rows has at row `r`. -/
def cnt (W : Nat) (r : Fin 2048) : EReal := ((min (r.val + 1) W : ℕ) : ℝ)

/-- The count as the words make it. -/
theorem count_word (W : Nat) (r : Fin 2048) (hW : W < 100) :
    FloatOps.sitofp (F := Ideal) .f32 (IntOp.minsi (IntOp.addi (BitVec.ofNat 32 r.val) 1#32) (BitVec.ofNat 32 W)) = cnt W r := by
  have h0 : IntOp.addi (BitVec.ofNat 32 r.val) 1#32 = BitVec.ofNat 32 (r.val + 1) := (BitVec.ofNat_add _ _).symm
  have h1 : (BitVec.ofNat 32 (r.val + 1)).toInt = ((r.val + 1 : Nat) : Int) := by
    have := r.isLt
    rw [BitVec.toInt_ofNat', Int.bmod_def]; omega
  have h2 : (BitVec.ofNat 32 W).toInt = W := by rw [BitVec.toInt_ofNat', Int.bmod_def]; omega
  rw [h0]
  show ((((IntOp.minsi (BitVec.ofNat 32 (r.val + 1)) (BitVec.ofNat 32 W)).toInt : ℤ) : ℝ) : EReal) = (((min (r.val + 1) W : ℕ) : ℝ) : EReal)
  unfold IntOp.minsi BitVec.slt
  rw [h1, h2]
  by_cases h : r.val + 1 < W
  · rw [if_pos (by simpa using (by omega : ((r.val + 1 : Nat) : Int) < W)), h1, min_eq_left h.le]; norm_cast
  · rw [if_neg (by simpa using (by omega : ¬ ((r.val + 1 : Nat) : Int) < W)), h2, min_eq_right (by omega)]; norm_cast

/-- The count as the minimum of two numbers. -/
theorem count_min (W : Nat) (r : Fin 2048) :
    min (FloatOps.sitofp (F := Ideal) .f32 (IntOp.addi 1#32 (BitVec.ofNat 32 r.val)) : EReal) (((W : ℕ) : ℝ) : EReal) = cnt W r := by
  have h0 : IntOp.addi 1#32 (BitVec.ofNat 32 r.val) = BitVec.ofNat 32 (r.val + 1) := by rw [add_comm r.val 1]; exact (BitVec.ofNat_add _ _).symm
  have h1 : (BitVec.ofNat 32 (r.val + 1)).toInt = ((r.val + 1 : Nat) : Int) := by
    have := r.isLt
    rw [BitVec.toInt_ofNat', Int.bmod_def]; omega
  rw [h0]
  show min ((((BitVec.ofNat 32 (r.val + 1)).toInt : ℤ) : ℝ) : EReal) _ = (((min (r.val + 1) W : ℕ) : ℝ) : EReal)
  rw [h1, Nat.cast_min, Int.cast_natCast]
  exact (EReal.coe_strictMono.monotone.map_min).symm

/-- The constant 4. -/
theorem c4 : Ideal.ofBits .f32 0x40800000#32 = (((4 : ℕ) : ℝ) : EReal) := by simp [Ideal.ofBits, Ideal.ieee, -EReal.coe_mul]; norm_num
/-- The constant 8. -/
theorem c8 : Ideal.ofBits .f32 0x41000000#32 = (((8 : ℕ) : ℝ) : EReal) := by simp [Ideal.ofBits, Ideal.ieee, -EReal.coe_mul]; norm_num
/-- The constant 16. -/
theorem c16 : Ideal.ofBits .f32 0x41800000#32 = (((16 : ℕ) : ℝ) : EReal) := by simp [Ideal.ofBits, Ideal.ieee, -EReal.coe_mul]; norm_num

/-- The shape of the groups' columns. -/
abbrev S3 : Shape := ⟨3, ![2048, 4, 64]⟩
/-- The shape of a single number. -/
abbrev S0 : Shape := ⟨0, ![]⟩

/-- The positions of a window of the whole height. -/
def tall : Fin 2048 ≃ (⟨3, ![2048, 1, 1]⟩ : Shape).Idx where
  toFun n := ix3 n (0 : Fin 1) (0 : Fin 1)
  invFun i := i 0
  left_inv _ := rfl
  right_inv i := by
    funext a
    match a with
    | ⟨0, _⟩ => rfl
    | ⟨1, _⟩ => exact Subsingleton.elim (α := Fin 1) _ _
    | ⟨2, _⟩ => exact Subsingleton.elim (α := Fin 1) _ _

/-- A running sum down the rows, as a sum over windows padded above. -/
theorem cumsum_apply (x : FVec Ideal S3 .f32) (v : FVec Ideal S0 .f32) (hv : ∀ i, v i = (0 : EReal))
    (h : S3.ReduceWindows ![2048, 1, 1] ![1, 1, 1] ![2047, 0, 0] ![0, 0, 0] S3) (hu : 0 < S0.numel) (r : Fin 2048) (g : Fin 4) (k : Fin 64) :
    Host.reduceWindowAdd ![2048, 1, 1] ![1, 1, 1] ![2047, 0, 0] ![0, 0, 0] x v h hu (ix3 r g k) = cum (fun s => x (ix3 s g k)) r := by
  rw [← sum_window]
  unfold Host.reduceWindowAdd
  rw [Ideal.hostReduceWindowAdd_def, hv]
  unfold Ideal.hostReduceWindowAdd Host.reduceWindow
  refine (foldl_add _).trans ?_
  have key : ∀ G : (⟨3, ![2048, 1, 1]⟩ : Shape).Idx → EReal,
      (∑ n, G ((⟨3, ![2048, 1, 1]⟩ : Shape).rowMajor.symm n)) = ∑ n, G (tall n) := fun G =>
    (Equiv.sum_comp (⟨3, ![2048, 1, 1]⟩ : Shape).rowMajor.symm G).trans (Equiv.sum_comp tall G).symm
  let p (w : (⟨3, ![2048, 1, 1]⟩ : Shape).Idx) (a : Fin S3.rank) : Nat := (ix3 r g k (a.cast h.1.symm)).val * (![1, 1, 1] : Fin 3 → Nat) a + (w a).val
  refine Eq.trans (Finset.sum_congr rfl fun n _ => dite_congr rfl (fun _ => rfl) (fun _ => rfl)) ((key fun w => if hin : ∀ a : Fin S3.rank, (![2047, 0, 0] : Fin 3 → Nat) a ≤ p w a ∧ p w a - (![2047, 0, 0] : Fin 3 → Nat) a < S3.size a
    then x (fun a => ⟨p w a - (![2047, 0, 0] : Fin 3 → Nat) a, (hin a).2⟩) else 0).trans ?_)
  refine Finset.sum_congr rfl fun n _ => ?_
  by_cases hn : 2047 ≤ r.val + n.val
  · rw [dif_pos hn]
    refine (dif_pos ?_).trans (congrArg x ?_)
    · intro a
      match a with
      | ⟨0, _⟩ => show 2047 ≤ r.val * 1 + n.val ∧ r.val * 1 + n.val - 2047 < 2048; omega
      | ⟨1, _⟩ => show 0 ≤ g.val * 1 + 0 ∧ g.val * 1 + 0 - 0 < 4; omega
      | ⟨2, _⟩ => show 0 ≤ k.val * 1 + 0 ∧ k.val * 1 + 0 - 0 < 64; omega
    · funext a; apply Fin.ext
      match a with
      | ⟨0, _⟩ => show r.val * 1 + n.val - 2047 = r.val + n.val - 2047; omega
      | ⟨1, _⟩ => show g.val * 1 + 0 - 0 = g.val; omega
      | ⟨2, _⟩ => show k.val * 1 + 0 - 0 = k.val; omega
  · rw [dif_neg hn]
    refine dif_neg fun q => hn ?_
    have := q ⟨0, by decide⟩
    change 2047 ≤ r.val * 1 + n.val ∧ _ at this
    omega

end Cert.Proof.PoolSum
-- ==== Proof.PoolF.lean ====
module

public import proofs.«01_k».proof.Proof.Gen.PoolFFwdIdeal.Value
public import proofs.«01_k».proof.Proof.Gen.PoolFFwd.Frame
public import proofs.«01_k».proof.Proof.Gen.PoolFRefIdeal.Read
public import proofs.«01_k».proof.Proof.Gen.Pre_real_pooled
public import proofs.«01_k».proof.Proof.MlpPre
public import proofs.«01_k».proof.Proof.PoolSum
public import Idealize.ShloMosaic.Lib.Pipeline.ValueKit
public import Idealize.ShloMosaic.Lib.Pointwise

@[expose] public section

set_option maxRecDepth 16384

noncomputable section

namespace Cert.Proof.PoolF

open Cert.PoolFFwdIdeal Cert.PoolFFwdIdeal.Gen Cert.PoolFFwdIdeal.Value Idealize.ShloMosaic Idealize.ShloMosaic.TcCoe Idealize.SL.Sem
open Idealize.ShloMosaic.Tactic
open Cert.PoolFRefIdeal.Read
open Cert.Proof.Conv (down select_sge select_slt down_rot down_of down_top toInt_small)
open Cert.Proof.PoolSum Cert.Proof.RealMath

variable (m : (ℓ : Loc nD τ sig) → Buf (Elt Ideal) ℓ) (ρ : Dev nD → PrngReg)

/-- Column `l` of a block. -/
def col (v0 : Vec Ideal S2048x128 .f32) (l : Fin 128) (s : Fin 2048) : EReal := v0 (ix2 s l)

/-- The sums over the last 2, 4, 8 and 16 rows. -/
theorem pay4_apply (v0 : Vec Ideal S2048x128 .f32) (r : Fin 2048) (l : Fin 128) : k0_pay4 (F := Ideal) v0 (ix2 r l) = win 2 (col v0 l) r := by
  rw [show (2 : Nat) = 2 * 1 from rfl, ← win_double, win_one]
  unfold k0_pay4
  pointwise
  rw [select_sge _ 1 r.isLt (by omega), down_rot 1 (fun s => v0 (ix2 s l)) r ⟨_, _⟩ rfl (by omega)]
  rfl
/-- The kernel's sums of four rows. -/
theorem pay5_apply (v0 : Vec Ideal S2048x128 .f32) (r : Fin 2048) (l : Fin 128) : k0_pay5 (F := Ideal) v0 (ix2 r l) = win 4 (col v0 l) r := by
  rw [show (4 : Nat) = 2 * 2 from rfl, ← win_double]
  unfold k0_pay5
  pointwise
  simp only [pay4_apply]
  rw [select_sge _ 2 r.isLt (by omega), down_rot 2 (win 2 (col v0 l)) r ⟨_, _⟩ rfl (by omega)]
/-- The kernel's sums of eight rows. -/
theorem pay6_apply (v0 : Vec Ideal S2048x128 .f32) (r : Fin 2048) (l : Fin 128) : k0_pay6 (F := Ideal) v0 (ix2 r l) = win 8 (col v0 l) r := by
  rw [show (8 : Nat) = 2 * 4 from rfl, ← win_double]
  unfold k0_pay6
  pointwise
  simp only [pay5_apply]
  rw [select_sge _ 4 r.isLt (by omega), down_rot 4 (win 4 (col v0 l)) r ⟨_, _⟩ rfl (by omega)]
/-- The kernel's sums of sixteen rows. -/
theorem pay7_apply (v0 : Vec Ideal S2048x128 .f32) (r : Fin 2048) (l : Fin 128) : k0_pay7 (F := Ideal) v0 (ix2 r l) = win 16 (col v0 l) r := by
  rw [show (16 : Nat) = 2 * 8 from rfl, ← win_double]
  unfold k0_pay7
  pointwise
  simp only [pay6_apply]
  rw [select_sge _ 8 r.isLt (by omega), down_rot 8 (win 8 (col v0 l)) r ⟨_, _⟩ rfl (by omega)]

/-- A product row: the centred means of 64 lanes from lane `o` on, with windows of `W` rows, times a column of weights. -/
def out (W : Nat) (f : Fin 64 → Fin 2048 → EReal) (w : Fin 64 → EReal) (r : Fin 2048) : EReal :=
  ∑ q : Fin 64, (Ideal.div (win W (f q) r) (cnt W r) - f q r) * w q

/-- The lane mask is set in the first head. -/
theorem mask_lo (q : Fin 128) (h : q.val < 64) : k0_pay2 (ix2 0 q) = 1#1 := by
  unfold k0_pay2
  pointwise
  have h1 := toInt_small q.val (by omega)
  simp [IntOp.cmpi, BitVec.slt, h1, h]

/-- The lane mask is clear in the second head. -/
theorem mask_hi (q : Fin 128) (h : 64 ≤ q.val) : k0_pay2 (ix2 0 q) = 0#1 := by
  unfold k0_pay2
  pointwise
  have h1 := toInt_small q.val (by omega)
  have h2 : ¬ ((q.val : Int) < 64) := by omega
  simp [IntOp.cmpi, BitVec.slt, h1, h2]

/-- A choice by a set bit. -/
theorem sel_one (A B : EReal) : Scalar.select 1#1 A B = A := rfl
/-- A choice by a clear bit. -/
theorem sel_zero (A B : EReal) : Scalar.select 0#1 A B = B := rfl

/-- What a point stores in a lane of its first head. -/
theorem pay1_lo (b : BitVec 1) (w9 : IVec S1x128 32) (v38 v39 v40 v0 : Vec Ideal S2048x128 .f32) (x y : Vec Ideal S1x64x64 .f32) (z : Vec Ideal S1x128 .f32) (r : Fin 2048) (l : Fin 128)
    (W : Nat) (hW : W < 100) (hl : l.val < 64) (hw : ∀ q : Fin 128, q.val < 64 → w9 (ix2 0 q) = BitVec.ofNat 32 W)
    (hv : ∀ q : Fin 128, v40 (ix2 r q) = win W (col v0 q) r) :
    k0_pay1 (F := Ideal) v0 k0_pay2 b w9 v38 v39 v40 x y z (ix2 r l)
      = HMul.hMul (α := EReal) (β := EReal) (γ := EReal) (out W (fun q => col v0 ⟨q.val, by omega⟩) (fun q => x (ix3 0 q ⟨l.val, hl⟩)) r) (z (ix2 0 l)) := by
  unfold k0_pay1
  pointwise
  refine congrArg₂ (HMul.hMul (α := EReal) (β := EReal) (γ := EReal)) ((congrArg₂ (HAdd.hAdd (α := EReal) (β := EReal) (γ := EReal))
    (Finset.sum_congr rfl fun q _ => ?_) (Finset.sum_eq_zero fun q _ => (congrArg _ (dif_pos hl)).trans (mul_zero _))).trans (add_zero _)) rfl
  rw [mask_lo _ q.isLt, dif_pos hl, sel_one, hv, hw _ q.isLt, count_word _ _ hW]
  rfl

/-- What a point stores in a lane of its second head. -/
theorem pay1_hi (b : BitVec 1) (w9 : IVec S1x128 32) (v38 v39 v40 v0 : Vec Ideal S2048x128 .f32) (x y : Vec Ideal S1x64x64 .f32) (z : Vec Ideal S1x128 .f32) (r : Fin 2048) (l : Fin 128)
    (W : Nat) (hW : W < 100) (hl : ¬ l.val < 64) (hw : ∀ q : Fin 128, 64 ≤ q.val → w9 (ix2 0 q) = BitVec.ofNat 32 W)
    (hv : ∀ q : Fin 128, Scalar.select b (v38 (ix2 r q) : EReal) (v39 (ix2 r q)) = win W (col v0 q) r) :
    k0_pay1 (F := Ideal) v0 k0_pay2 b w9 v38 v39 v40 x y z (ix2 r l)
      = HMul.hMul (α := EReal) (β := EReal) (γ := EReal) (out W (fun q => col v0 ⟨64 + q.val, by omega⟩) (fun q => y (ix3 0 q ⟨l.val - 64, by omega⟩)) r) (z (ix2 0 l)) := by
  unfold k0_pay1
  pointwise
  refine congrArg₂ (HMul.hMul (α := EReal) (β := EReal) (γ := EReal)) ((congrArg₂ (HAdd.hAdd (α := EReal) (β := EReal) (γ := EReal))
    (Finset.sum_eq_zero fun q _ => (congrArg _ (dif_neg hl)).trans (mul_zero _)) (Finset.sum_congr rfl fun q _ => ?_)).trans (zero_add _)) rfl
  rw [mask_hi _ (by show 64 ≤ 64 + q.val; omega), dif_neg hl, sel_zero, hv, hw _ (by show 64 ≤ 64 + q.val; omega), count_word _ _ hW]
  rfl

/-- A point's windows in its two heads. -/
theorem pay3_lo (i : grid0.Coords) (q : Fin 128) (h : q.val < 64) :
    k0_pay3 i (ix2 0 q) = Scalar.select (Scalar.cmpi .eq (BitVec.ofNat 32 (i 0).val) 0#32) 2#32 8#32 := by
  unfold k0_pay3
  pointwise
  rw [mask_lo _ h]
  rfl
/-- A point's window in its second head. -/
theorem pay3_hi (i : grid0.Coords) (q : Fin 128) (h : 64 ≤ q.val) :
    k0_pay3 i (ix2 0 q) = Scalar.select (Scalar.cmpi .eq (BitVec.ofNat 32 (i 0).val) 0#32) 4#32 16#32 := by
  unfold k0_pay3
  pointwise
  rw [mask_hi _ h]
  rfl

section Reference

variable (x0 : Vec Ideal S2048x2176 .f32) (x1 : Vec Ideal S4x64x64 .f32) (x2 : Vec Ideal S256 .f32)

/-- Lane `k` of head `h` among the columns. -/
def pcol (h : Fin 4) (k : Fin 64) (s : Fin 2048) : EReal := x0 (ix2 s ⟨1152 + (h.val * 64 + k.val), by omega⟩)

/-- The columns by head. -/
theorem v1_apply (s : Fin 2048) (h : Fin 4) (k : Fin 64) : val_main_v1 (F := Ideal) x0 (ix3 s h k) = pcol x0 h k s := by
  unfold val_main_v1 val_main_v0 pcol
  pointwise

/-- The running sums by head. -/
theorem v2_apply (s : Fin 2048) (h : Fin 4) (k : Fin 64) : val_main_v2 (F := Ideal) x0 (ix3 s h k) = cum (pcol x0 h k) s := by
  unfold val_main_v2
  refine (cumsum_apply _ _ (fun _ => by unfold val_main_call0_call0_v0 val_main_call0_call0_cst; pointwise) _ _ s h k).trans ?_
  exact congrArg (fun f => cum f s) (funext fun i => v1_apply x0 i h k)

/-- A head's mean: the difference of running sums over the count is the window's sum over the count. -/
theorem mean_eq (W : Nat) (C : EReal) (hC : C = (((W : ℕ) : ℝ) : EReal)) (f : Fin 2048 → EReal) (hf : ∀ i, IsR (f i)) (r : Fin 2048)
    (A B : EReal) (hA : A = cum f r) (hB : B = down W (cum f) r) :
    Ideal.div (A - B) (min (FloatOps.sitofp (F := Ideal) .f32 (IntOp.addi 1#32 (BitVec.ofNat 32 r.val)) : EReal) C) = Ideal.div (win W f r) (cnt W r) := by
  rw [hC, count_min, hA, hB, cum_sub W f hf r]

/-- The constant 2. -/
theorem c2n : Ideal.ofBits .f32 0x40000000#32 = (((2 : ℕ) : ℝ) : EReal) := c2
/-- The constant 4. -/
theorem c4n : Ideal.ofBits .f32 0x40800000#32 = (((4 : ℕ) : ℝ) : EReal) := c4
/-- The constant 8. -/
theorem c8n : Ideal.ofBits .f32 0x41000000#32 = (((8 : ℕ) : ℝ) : EReal) := c8
/-- The constant 16. -/
theorem c16n : Ideal.ofBits .f32 0x41800000#32 = (((16 : ℕ) : ℝ) : EReal) := c16

/-- The running sums behind 2 rows of zeros. -/
theorem v10_apply (i : Fin 2050) (k : Fin 64) : val_main_v10 (F := Ideal) x0 (ix2 i k)
    = if h : i.val < 2 then (0 : EReal) else cum (pcol x0 0 k) ⟨i.val - 2, by omega⟩ := by
  unfold val_main_v10 val_main_v8 val_main_v7 val_main_v9 val_main_cst
  pointwise
  exact dite_congr rfl (fun _ => rfl) (fun _ => v2_apply x0 _ 0 k)

/-- The running sums behind 4 rows of zeros. -/
theorem v22_apply (i : Fin 2052) (k : Fin 64) : val_main_v22 (F := Ideal) x0 (ix2 i k)
    = if h : i.val < 4 then (0 : EReal) else cum (pcol x0 1 k) ⟨i.val - 4, by omega⟩ := by
  unfold val_main_v22 val_main_v20 val_main_v19 val_main_v21 val_main_cst_1
  pointwise
  exact dite_congr rfl (fun _ => rfl) (fun _ => v2_apply x0 _ 1 k)

/-- The running sums behind 8 rows of zeros. -/
theorem v34_apply (i : Fin 2056) (k : Fin 64) : val_main_v34 (F := Ideal) x0 (ix2 i k)
    = if h : i.val < 8 then (0 : EReal) else cum (pcol x0 2 k) ⟨i.val - 8, by omega⟩ := by
  unfold val_main_v34 val_main_v32 val_main_v31 val_main_v33 val_main_cst_3
  pointwise
  exact dite_congr rfl (fun _ => rfl) (fun _ => v2_apply x0 _ 2 k)

/-- The running sums behind 16 rows of zeros. -/
theorem v46_apply (i : Fin 2064) (k : Fin 64) : val_main_v46 (F := Ideal) x0 (ix2 i k)
    = if h : i.val < 16 then (0 : EReal) else cum (pcol x0 3 k) ⟨i.val - 16, by omega⟩ := by
  unfold val_main_v46 val_main_v44 val_main_v43 val_main_v45 val_main_cst_5
  pointwise
  exact dite_congr rfl (fun _ => rfl) (fun _ => v2_apply x0 _ 3 k)

variable (hx : ∀ h k s, IsR (pcol x0 h k s))
include hx

/-- The four heads' means. -/
theorem v18_apply (r : Fin 2048) (k : Fin 64) :
    val_main_v18 (F := Ideal) x0 (ix2 r k) = Ideal.div (win 2 (pcol x0 0 k) r) (cnt 2 r) := by
  unfold val_main_v18 val_main_v17 val_main_v16 val_main_v15 val_main_v14 val_main_cst_0 val_main_v6 val_main_v5 val_main_v3 val_main_v4 val_main_c val_main_v13 val_main_v12 val_main_v11
  pointwise
  refine mean_eq 2 _ c2n (pcol x0 0 k) (hx 0 k) r _ _ ?_ ?_
  · refine (v10_apply x0 _ k).trans ((dif_neg (by show ¬ 2 + r.val < 2; omega)).trans (congrArg _ (Fin.ext (by show 2 + r.val - 2 = r.val; omega))))
  · refine (v10_apply x0 _ k).trans ?_
    by_cases h : r.val < 2
    · exact (dif_pos h).trans (down_top 2 _ r h).symm
    · exact (dif_neg h).trans (down_of 2 _ r ⟨r.val - 2, by omega⟩ (by show r.val - 2 + 2 = r.val; omega)).symm
/-- The second head's mean. -/
theorem v30_apply (r : Fin 2048) (k : Fin 64) :
    val_main_v30 (F := Ideal) x0 (ix2 r k) = Ideal.div (win 4 (pcol x0 1 k) r) (cnt 4 r) := by
  unfold val_main_v30 val_main_v29 val_main_v28 val_main_v27 val_main_v26 val_main_cst_2 val_main_v6 val_main_v5 val_main_v3 val_main_v4 val_main_c val_main_v25 val_main_v24 val_main_v23
  pointwise
  refine mean_eq 4 _ c4n (pcol x0 1 k) (hx 1 k) r _ _ ?_ ?_
  · refine (v22_apply x0 _ k).trans ((dif_neg (by show ¬ 4 + r.val < 4; omega)).trans (congrArg _ (Fin.ext (by show 4 + r.val - 4 = r.val; omega))))
  · refine (v22_apply x0 _ k).trans ?_
    by_cases h : r.val < 4
    · exact (dif_pos h).trans (down_top 4 _ r h).symm
    · exact (dif_neg h).trans (down_of 4 _ r ⟨r.val - 4, by omega⟩ (by show r.val - 4 + 4 = r.val; omega)).symm
/-- The third head's mean. -/
theorem v42_apply (r : Fin 2048) (k : Fin 64) :
    val_main_v42 (F := Ideal) x0 (ix2 r k) = Ideal.div (win 8 (pcol x0 2 k) r) (cnt 8 r) := by
  unfold val_main_v42 val_main_v41 val_main_v40 val_main_v39 val_main_v38 val_main_cst_4 val_main_v6 val_main_v5 val_main_v3 val_main_v4 val_main_c val_main_v37 val_main_v36 val_main_v35
  pointwise
  refine mean_eq 8 _ c8n (pcol x0 2 k) (hx 2 k) r _ _ ?_ ?_
  · refine (v34_apply x0 _ k).trans ((dif_neg (by show ¬ 8 + r.val < 8; omega)).trans (congrArg _ (Fin.ext (by show 8 + r.val - 8 = r.val; omega))))
  · refine (v34_apply x0 _ k).trans ?_
    by_cases h : r.val < 8
    · exact (dif_pos h).trans (down_top 8 _ r h).symm
    · exact (dif_neg h).trans (down_of 8 _ r ⟨r.val - 8, by omega⟩ (by show r.val - 8 + 8 = r.val; omega)).symm
/-- The fourth head's mean. -/
theorem v54_apply (r : Fin 2048) (k : Fin 64) :
    val_main_v54 (F := Ideal) x0 (ix2 r k) = Ideal.div (win 16 (pcol x0 3 k) r) (cnt 16 r) := by
  unfold val_main_v54 val_main_v53 val_main_v52 val_main_v51 val_main_v50 val_main_cst_6 val_main_v6 val_main_v5 val_main_v3 val_main_v4 val_main_c val_main_v49 val_main_v48 val_main_v47
  pointwise
  refine mean_eq 16 _ c16n (pcol x0 3 k) (hx 3 k) r _ _ ?_ ?_
  · refine (v46_apply x0 _ k).trans ((dif_neg (by show ¬ 16 + r.val < 16; omega)).trans (congrArg _ (Fin.ext (by show 16 + r.val - 16 = r.val; omega))))
  · refine (v46_apply x0 _ k).trans ?_
    by_cases h : r.val < 16
    · exact (dif_pos h).trans (down_top 16 _ r h).symm
    · exact (dif_neg h).trans (down_of 16 _ r ⟨r.val - 16, by omega⟩ (by show r.val - 16 + 16 = r.val; omega)).symm

/-- The window of each head. -/
def wl (h : Fin 4) : Nat := (![2, 4, 8, 16] : Fin 4 → Nat) h

/-- Mean less row, by head. -/
theorem v60_apply (r : Fin 2048) (h : Fin 4) (k : Fin 64) :
    val_main_v60 (F := Ideal) x0 (ix3 r h k) = HSub.hSub (α := EReal) (β := EReal) (γ := EReal) (Ideal.div (win (wl h) (pcol x0 h k) r) (cnt (wl h) r)) (pcol x0 h k r) := by
  unfold val_main_v60 val_main_v59 val_main_v58 val_main_v57 val_main_v56 val_main_v55
  pointwise
  refine congrArg₂ (HSub.hSub (α := EReal) (β := EReal) (γ := EReal)) ?_ (v1_apply x0 r h k)
  match h with
  | ⟨0, _⟩ => exact (dif_pos (by norm_num)).trans (v18_apply x0 hx r k)
  | ⟨1, _⟩ => exact (dif_neg (by norm_num)).trans ((dif_pos (by norm_num)).trans (v30_apply x0 hx r k))
  | ⟨2, _⟩ => exact (dif_neg (by norm_num)).trans ((dif_neg (by norm_num)).trans ((dif_pos (by norm_num)).trans (v42_apply x0 hx r k)))
  | ⟨3, _⟩ => exact (dif_neg (by norm_num)).trans ((dif_neg (by norm_num)).trans ((dif_neg (by norm_num)).trans (v54_apply x0 hx r k)))

/-- The reference's result. -/
theorem ref_apply (r : Fin 2048) (h : Fin 4) (k : Fin 64) (j : Fin 256) (hj : j.val = h.val * 64 + k.val) : val_main_v67 (F := Ideal) x0 x1 x2 (ix2 r j)
    = HMul.hMul (α := EReal) (β := EReal) (γ := EReal) (out (wl h) (pcol x0 h) (fun q => x1 (ix3 h q k)) r) (x2 (ix1 j)) := by
  rw [show j = (⟨h.val * 64 + k.val, by omega⟩ : Fin 256) from Fin.ext hj]
  unfold val_main_v67 val_main_v66 val_main_v65 val_main_v64 val_main_v63 val_main_v62 val_main_v61
  pointwise
  refine congrArg₂ (HMul.hMul (α := EReal) (β := EReal) (γ := EReal)) (Finset.sum_congr rfl fun q _ => ?_) rfl
  rw [v60_apply x0 hx]
  exact mul_comm _ _

end Reference

/-- The block that each window works on at a grid point, in blocks along each axis; the grid's coordinate. -/
theorem idx : ∀ t : Fin cfg0.N, win0_0.index t (0 : Fin 2) = 0 ∧ win0_0.index t (1 : Fin 2) = 9 + t.val
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = t.val
    ∧ win0_3.index t (0 : Fin 2) = 0 ∧ win0_3.index t (1 : Fin 2) = t.val ∧ t.val < 2 ∧ (grid0.coords t 0).val = t.val :=
  (by decide +kernel : ∀ t : Fin grid0.N, _)

/-- There are two points. -/
theorem two (t : Fin cfg0.N) : t.val < 2 := (idx t).2.2.2.2.2.2.2.2.2.1

/-- The block of the columns. -/
theorem iblk0_apply (c : Dev nD) (t : Fin cfg0.N) (r : Fin 2048) (l : Fin 128) (h : Fin 4) (k : Fin 64) (e : t.val * 128 + l.val = h.val * 64 + k.val) :
    iblk m c 0 t (ix2 r l) = pcol (m ((c : Thread nD τ).loc main_arg0)) h k r := by
  show V m c main_arg0 (((cfg0.win 0).blk t).view.emb (ix2 r l)) = _
  rw [V_main_arg0]
  obtain ⟨e0, e1, -⟩ := idx t
  unfold pcol
  congr 1; funext a; apply Fin.ext
  match a with
  | ⟨0, _⟩ => show win0_0.index t (0 : Fin 2) * 2048 + 1 * r.val = r.val; omega
  | ⟨1, _⟩ => show win0_0.index t (1 : Fin 2) * 128 + 1 * l.val = 1152 + (h.val * 64 + k.val); omega

/-- The block of the heads' weights. -/
theorem iblk1_apply (c : Dev nD) (t : Fin cfg0.N) (a : Fin 2) (q l : Fin 64) :
    iblk m c 1 t (ix3 a q l) = m ((c : Thread nD τ).loc main_arg1) (ix3 ⟨t.val * 2 + a.val, by have := two t; omega⟩ q l) := by
  show V m c main_arg1 (((cfg0.win 1).blk t).view.emb (ix3 a q l)) = _
  rw [V_main_arg1]
  obtain ⟨-, -, e0, e1, e2, -⟩ := idx t
  congr 1; funext b; apply Fin.ext
  match b with
  | ⟨0, _⟩ => show win0_1.index t (0 : Fin 3) * 2 + 1 * a.val = t.val * 2 + a.val; omega
  | ⟨1, _⟩ => show win0_1.index t (1 : Fin 3) * 64 + 1 * q.val = q.val; omega
  | ⟨2, _⟩ => show win0_1.index t (2 : Fin 3) * 64 + 1 * l.val = l.val; omega

/-- The block of the scale. -/
theorem iblk2_apply (c : Dev nD) (t : Fin cfg0.N) (l : Fin 128) :
    iblk m c 2 t (ix2 0 l) = m ((c : Thread nD τ).loc main_arg2) (ix1 ⟨t.val * 128 + l.val, by have := two t; omega⟩) := by
  show V m c main_v0 (((cfg0.win 2).blk t).view.emb (ix2 0 l)) = _
  have hV : V m c main_v0 = broadcastInDim S1x256 ![1] bcast_S256_S1x256_1 (m ((c : Thread nD τ).loc main_arg2)) := by
    show StableHlo.after hostOps0 _ _ = _
    after_results_simp
  rw [hV]
  obtain ⟨-, -, -, -, -, e0, e1, -⟩ := idx t
  have he : ((cfg0.win 2).blk t).view.emb (ix2 0 l) = (ix2 0 ⟨t.val * 128 + l.val, by have := two t; omega⟩ : S1x256.Idx) := by
    funext b; apply Fin.ext
    match b with
    | ⟨0, _⟩ => show win0_2.index t (0 : Fin 2) * 1 + 1 * 0 = 0; omega
    | ⟨1, _⟩ => show win0_2.index t (1 : Fin 2) * 128 + 1 * l.val = t.val * 128 + l.val; omega
  rw [he]
  pointwise

/-- A load of one head's weights. -/
theorem ld_head (o : ℕ) (ho : o < 2) (inb) (X : Vec Ideal S2x64x64 .f32) (k l : Fin 64) :
    View.ld (Val := Elt Ideal) (e' := .f32) X (Rect.unit (s := S2x64x64) ![o, 0, 0] ![1, 64, 64] inb) (ix3 0 k l) = X (ix3 ⟨o, ho⟩ k l) :=
  congrArg X (funext fun a => Fin.ext (by
    match a with
    | ⟨0, _⟩ => show o + 1 * 0 = o; omega
    | ⟨1, _⟩ => show 0 + 1 * k.val = k.val; omega
    | ⟨2, _⟩ => show 0 + 1 * l.val = l.val; omega))

/-- The arguments. -/
abbrev A0 (c : Dev nD) := m ((c : Thread nD τ).loc main_arg0)
/-- The heads' weights. -/
abbrev A1 (c : Dev nD) := m ((c : Thread nD τ).loc main_arg1)
/-- The scale. -/
abbrev A2 (c : Dev nD) := m ((c : Thread nD τ).loc main_arg2)

/-- Where an element of a block of the result lies in the array. -/
theorem emb3 (t : Fin cfg0.N) (r : Fin 2048) (l : Fin 128) :
    ((cfg0.win 3).blk t).view.emb (ix2 r l) = (ix2 r ⟨t.val * 128 + l.val, by have := two t; omega⟩ : S2048x256.Idx) := by
  obtain ⟨-, -, -, -, -, -, -, e0, e1, -⟩ := idx t
  funext a; apply Fin.ext
  match a with
  | ⟨0, _⟩ => show win0_3.index t (0 : Fin 2) * 2048 + 1 * r.val = r.val; omega
  | ⟨1, _⟩ => show win0_3.index t (1 : Fin 2) * 128 + 1 * l.val = t.val * 128 + l.val; omega

/-- No block sticks out of the array: a block is written back whole. -/
theorem cut3 (t : Fin cfg0.N) (X : Vec Ideal S2048x128 .bf16) (j : S2048x128.Idx) : (cfg0.win 3).cut (grid0.coords t) X j = X j := rfl

/-- The test for the first point. -/
theorem first (t : Fin cfg0.N) (h : t.val = 0) : Scalar.cmpi .eq (BitVec.ofNat 32 (grid0.coords t 0).val) 0#32 = 1#1 := by
  rw [(idx t).2.2.2.2.2.2.2.2.2.2, h]; rfl
/-- The test at the second point. -/
theorem second (t : Fin cfg0.N) (h : t.val = 1) : Scalar.cmpi .eq (BitVec.ofNat 32 (grid0.coords t 0).val) 0#32 = 0#1 := by
  rw [(idx t).2.2.2.2.2.2.2.2.2.2, h]; rfl

/-- The first head's window sums at a point, and the second's. -/
theorem sums_lo (t : Fin cfg0.N) (v0 : Vec Ideal S2048x128 .f32) (r : Fin 2048) (q : Fin 128) :
    k0_pay8 (F := Ideal) (grid0.coords t) v0 (ix2 r q) = win (wl ⟨t.val * 2, by have := two t; omega⟩) (col v0 q) r := by
  unfold k0_pay8
  have h2 := two t
  rcases (by omega : t.val = 0 ∨ t.val = 1) with h | h
  · dsimp only; rw [first t h, show (⟨t.val * 2, by omega⟩ : Fin 4) = 0 from Fin.ext (by show t.val * 2 = 0; omega)]
    exact pay4_apply v0 r q
  · dsimp only; rw [second t h, show (⟨t.val * 2, by omega⟩ : Fin 4) = 2 from Fin.ext (by show t.val * 2 = 2; omega)]
    exact pay6_apply v0 r q
/-- The second head's window sums at a point. -/
theorem sums_hi (t : Fin cfg0.N) (v0 : Vec Ideal S2048x128 .f32) (r : Fin 2048) (q : Fin 128) :
    Scalar.select (Scalar.cmpi .eq (BitVec.ofNat 32 (grid0.coords t 0).val) 0#32) (k0_pay5 (F := Ideal) v0 (ix2 r q) : EReal) (k0_pay7 (F := Ideal) v0 (ix2 r q))
      = win (wl ⟨t.val * 2 + 1, by have := two t; omega⟩) (col v0 q) r := by
  have h2 := two t
  rcases (by omega : t.val = 0 ∨ t.val = 1) with h | h
  · rw [first t h, show (⟨t.val * 2 + 1, by omega⟩ : Fin 4) = 1 from Fin.ext (by show t.val * 2 + 1 = 1; omega)]
    exact pay5_apply v0 r q
  · rw [second t h, show (⟨t.val * 2 + 1, by omega⟩ : Fin 4) = 3 from Fin.ext (by show t.val * 2 + 1 = 3; omega)]
    exact pay7_apply v0 r q

/-- The windows' lengths at a point. -/
theorem len_lo (t : Fin cfg0.N) (q : Fin 128) (hq : q.val < 64) : k0_pay3 (grid0.coords t) (ix2 0 q) = BitVec.ofNat 32 (wl ⟨t.val * 2, by have := two t; omega⟩) := by
  have h2 := two t
  rw [pay3_lo _ q hq]
  rcases (by omega : t.val = 0 ∨ t.val = 1) with h | h
  · rw [first t h, show (⟨t.val * 2, by omega⟩ : Fin 4) = 0 from Fin.ext (by show t.val * 2 = 0; omega)]; rfl
  · rw [second t h, show (⟨t.val * 2, by omega⟩ : Fin 4) = 2 from Fin.ext (by show t.val * 2 = 2; omega)]; rfl
/-- The second head's window at a point. -/
theorem len_hi (t : Fin cfg0.N) (q : Fin 128) (hq : 64 ≤ q.val) : k0_pay3 (grid0.coords t) (ix2 0 q) = BitVec.ofNat 32 (wl ⟨t.val * 2 + 1, by have := two t; omega⟩) := by
  have h2 := two t
  rw [pay3_hi _ q hq]
  rcases (by omega : t.val = 0 ∨ t.val = 1) with h | h
  · rw [first t h, show (⟨t.val * 2 + 1, by omega⟩ : Fin 4) = 1 from Fin.ext (by show t.val * 2 + 1 = 1; omega)]; rfl
  · rw [second t h, show (⟨t.val * 2 + 1, by omega⟩ : Fin 4) = 3 from Fin.ext (by show t.val * 2 + 1 = 3; omega)]; rfl

/-- The windows are short. -/
theorem wl_lt (h : Fin 4) : wl h < 100 := by revert h; decide

/-- What point `t` writes back of the result is that block of the reference's array. -/
theorem flushed3_eq (c : Dev nD) (hx : ∀ h k s, IsR (pcol (A0 m c) h k s)) (t : Fin cfg0.N) :
    (dats m 0 c).flushed 3 t = ((cfg0.win 3).blk t).view.read (Elt Ideal) (val_main_v67 (F := Ideal) (A0 m c) (A1 m c) (A2 m c)) := by
  rw [flushed3]
  frame_out
  funext j
  obtain ⟨r, l, rfl⟩ : ∃ (r : Fin 2048) (l : Fin 128), j = ix2 r l := ⟨j 0, j 1, eq_ix2 j⟩
  refine Eq.trans ?_ (congrArg (val_main_v67 (F := Ideal) (A0 m c) (A1 m c) (A2 m c)) (emb3 t r l)).symm
  refine (cut3 t _ _).trans ?_
  have h2 := two t
  by_cases hl : l.val < 64
  · refine (pay1_lo _ _ _ _ _ _ _ _ _ r l _ (wl_lt _) hl (fun q hq => len_lo t q hq) (fun q => sums_lo t _ r q)).trans ?_
    refine Eq.trans ?_ (ref_apply (A0 m c) (A1 m c) (A2 m c) hx r ⟨t.val * 2, by omega⟩ ⟨l.val, hl⟩ _ (by show t.val * 128 + l.val = t.val * 2 * 64 + l.val; omega)).symm
    refine congrArg₂ (HMul.hMul (α := EReal) (β := EReal) (γ := EReal)) ?_ (iblk2_apply m c t l)
    refine congrArg₂ (fun f w => out _ f w r) (funext fun q => funext fun s => ?_) (funext fun q => ?_)
    · exact iblk0_apply m c t s _ _ q (by show t.val * 128 + q.val = t.val * 2 * 64 + q.val; omega)
    · exact (ld_head 0 (by omega) _ _ q _).trans (iblk1_apply m c t 0 q _)
  · refine (pay1_hi _ _ _ _ _ _ _ _ _ r l _ (wl_lt _) hl (fun q hq => len_hi t q hq) (fun q => sums_hi t _ r q)).trans ?_
    refine Eq.trans ?_ (ref_apply (A0 m c) (A1 m c) (A2 m c) hx r ⟨t.val * 2 + 1, by omega⟩ ⟨l.val - 64, by omega⟩ _ (by show t.val * 128 + l.val = (t.val * 2 + 1) * 64 + (l.val - 64); omega)).symm
    refine congrArg₂ (HMul.hMul (α := EReal) (β := EReal) (γ := EReal)) ?_ (iblk2_apply m c t l)
    refine congrArg₂ (fun f w => out _ f w r) (funext fun q => funext fun s => ?_) (funext fun q => ?_)
    · exact iblk0_apply m c t s _ _ q (by show t.val * 128 + (64 + q.val) = (t.val * 2 + 1) * 64 + q.val; omega)
    · exact (ld_head 1 (by omega) _ _ q _).trans (iblk1_apply m c t 1 q _)

/-- Every element of the array is in some point's block. -/
theorem cover3 (i : S2048x256.Idx) : ∃ t : Fin cfg0.N, (cfg0.win 3).flush t = true ∧ i ∈ ((cfg0.win 3).blk t).view.set := by
  obtain ⟨r, l, rfl⟩ : ∃ (r : Fin 2048) (l : Fin 256), i = ix2 r l := ⟨i 0, i 1, eq_ix2 i⟩
  have hv := l.isLt
  refine ⟨(⟨l.val / 128, by show l.val / 128 < 2; omega⟩ : Fin cfg0.N), flush0_3 _, ?_⟩
  have h := ((cfg0.win 3).blk (⟨l.val / 128, by show l.val / 128 < 2; omega⟩ : Fin cfg0.N)).view.emb_mem_set (ix2 r ⟨l.val % 128, by omega⟩)
  rw [emb3] at h
  have e : ∀ p, (⟨l.val / 128 * 128 + l.val % 128, p⟩ : Fin 256) = l := fun p => Fin.ext (by show l.val / 128 * 128 + l.val % 128 = l.val; omega)
  simpa only [e] using h

/-- The array of the result after the run is the reference's. -/
theorem final3 (c : Dev nD) (hx : ∀ h k s, IsR (pcol (A0 m c) h k s)) : (dats m 0 c).arrAt 3 cfg0.N = val_main_v67 (F := Ideal) (A0 m c) (A1 m c) (A2 m c) :=
  (dats m 0 c).arrAt_eq_of_cover 3 _ (fun t _ => flushed3_eq m c hx t) cover3

/-- What the precondition says: the pooled columns hold real numbers. -/
theorem reals_of_pre (x0 : FVec Ideal S2048x2176 .f32) (x1 : FVec Ideal S4x64x64 .f32) (x2 : FVec Ideal S256 .f32)
    (h : Cert.Pre_real_pooled.fn (F := Ideal) x0 x1 x2 = (fun _ => 1#1)) (g : Fin 4) (k : Fin 64) (s : Fin 2048) : IsR (pcol x0 g k s) := by
  haveI : Subsingleton Cert.Pre_real_pooled.S_.Idx := ⟨fun a b => funext fun d => d.elim0⟩
  have e := congrFun h (fun d => d.elim0 : Cert.Pre_real_pooled.S_.Idx)
  unfold Cert.Pre_real_pooled.fn at e
  dsimp only at e
  have hr := Cert.Proof.Mlp.isR_of_all _ _ (fun _ => rfl) _ _ _ _ e (ix2 s ⟨g.val * 64 + k.val, by omega⟩)
  unfold pcol
  revert hr
  pointwise
  exact id

end Cert.Proof.PoolF
-- ==== Proof.PoolUp.lean ====
module

public import proofs.«01_k».proof.Proof.PoolSum

@[expose] public section

set_option maxRecDepth 16384

noncomputable section

namespace Cert.Proof.PoolSum

open Idealize.ShloMosaic
open Cert.Proof.Conv (up)
open Cert.Proof.RealMath

/-- The sum of the next `k` elements of a column from row `r` on, fewer where the column ends. -/
def fwd (k : Nat) (f : Fin 2048 → EReal) (r : Fin 2048) : EReal :=
  ∑ i : Fin 2048, if r.val ≤ i.val ∧ i.val < r.val + k then f i else 0

/-- The sum of a column from row `r` on. -/
def suf (f : Fin 2048 → EReal) (r : Fin 2048) : EReal := ∑ i : Fin 2048, if r.val ≤ i.val then f i else 0

/-- The sum of the next one is the element. -/
theorem fwd_one (f : Fin 2048 → EReal) : fwd 1 f = f := by
  funext r
  unfold fwd
  rw [Finset.sum_eq_single r]
  · exact if_pos ⟨le_refl _, by omega⟩
  · intro i _ h
    exact if_neg fun q => h (Fin.ext (by omega))
  · intro h; exact absurd (Finset.mem_univ _) h

/-- A window twice as long is the window plus the one that starts after it. -/
theorem fwd_double (k : Nat) (f : Fin 2048 → EReal) (r : Fin 2048) : fwd k f r + up k (fwd k f) r = fwd (2 * k) f r := by
  unfold up
  by_cases h : r.val + k < 2048
  · rw [dif_pos h]
    unfold fwd
    rw [← Finset.sum_add_distrib]
    refine Finset.sum_congr rfl fun i _ => ?_
    show _ + (if r.val + k ≤ i.val ∧ i.val < r.val + k + k then f i else 0) = _
    by_cases h1 : r.val ≤ i.val ∧ i.val < r.val + k
    · rw [if_pos h1, if_neg (by omega), if_pos (by omega), add_zero]
    · rw [if_neg h1, zero_add]
      exact if_congr (by omega) rfl rfl
  · rw [dif_neg h, add_zero]
    unfold fwd
    exact Finset.sum_congr rfl fun i _ => if_congr (by omega) rfl rfl

/-- A sum over the rows `k` below those from row `a` on. -/
theorem sum_shift (k a : Nat) (f : Fin 2048 → EReal) :
    (∑ i : Fin 2048, if a ≤ i.val then (if h : i.val + k < 2048 then f ⟨i.val + k, h⟩ else 0) else 0) = ∑ j : Fin 2048, if a + k ≤ j.val then f j else 0 := by
  have e : ∀ i : Fin 2048, (if a ≤ i.val then (if h : i.val + k < 2048 then f ⟨i.val + k, h⟩ else 0) else 0)
      = ∑ j : Fin 2048, if a ≤ i.val ∧ j.val = i.val + k then f j else 0 := by
    intro i
    by_cases h1 : a ≤ i.val ∧ i.val + k < 2048
    · rw [if_pos h1.1, dif_pos h1.2, Finset.sum_eq_single (⟨i.val + k, h1.2⟩ : Fin 2048)]
      · exact (if_pos ⟨h1.1, rfl⟩).symm
      · intro j _ hj; exact if_neg fun q => hj (Fin.ext q.2)
      · intro h; exact absurd (Finset.mem_univ _) h
    · rw [Finset.sum_eq_zero fun j _ => if_neg (by omega)]
      by_cases h2 : a ≤ i.val
      · rw [if_pos h2, dif_neg (by omega)]
      · rw [if_neg h2]
  rw [Finset.sum_congr rfl fun i _ => e i, Finset.sum_comm]
  refine Finset.sum_congr rfl fun j _ => ?_
  by_cases h : a + k ≤ j.val
  · rw [if_pos h, Finset.sum_eq_single (⟨j.val - k, by omega⟩ : Fin 2048)]
    · exact if_pos ⟨by show a ≤ j.val - k; omega, by show j.val = j.val - k + k; omega⟩
    · intro i _ hi; exact if_neg fun q => hi (Fin.ext (by show i.val = j.val - k; omega))
    · intro h; exact absurd (Finset.mem_univ _) h
  · rw [if_neg h]
    exact Finset.sum_eq_zero fun i _ => if_neg (by omega)

/-- The sum from row `r` on of a column less itself moved up by `k` rows is the sum of the next `k` rows, where the column holds real numbers. -/
theorem suf_sub (k : Nat) (f : Fin 2048 → EReal) (hf : ∀ i, IsR (f i)) (r : Fin 2048) :
    suf (fun s => (if h : s.val + k < 2048 then -(f ⟨s.val + k, h⟩) else 0) + f s) r = fwd k f r := by
  have e : suf (fun s => (if h : s.val + k < 2048 then -(f ⟨s.val + k, h⟩) else 0) + f s) r
      = (∑ i : Fin 2048, if r.val ≤ i.val then (if h : i.val + k < 2048 then (fun j => -(f j)) ⟨i.val + k, h⟩ else 0) else 0) + ∑ i : Fin 2048, if r.val ≤ i.val then f i else 0 := by
    unfold suf
    rw [← Finset.sum_add_distrib]
    refine Finset.sum_congr rfl fun i _ => ?_
    by_cases h : r.val ≤ i.val
    · rw [if_pos h, if_pos h, if_pos h]
    · rw [if_neg h, if_neg h, if_neg h, add_zero]
  refine (e.trans (congrArg (fun z : EReal => z + _) (sum_shift k r.val fun j => -(f j)))).trans ?_
  rw [← Finset.sum_add_distrib]
  unfold fwd
  refine Finset.sum_congr rfl fun j _ => ?_
  by_cases h1 : r.val + k ≤ j.val
  · rw [if_pos h1, if_pos (by omega), if_neg (by omega)]
    obtain ⟨x, hx⟩ := hf j
    show -(f j) + f j = 0
    rw [hx, ← EReal.coe_neg, ← EReal.coe_add, neg_add_cancel, EReal.coe_zero]
  · rw [if_neg h1, zero_add]
    exact if_congr (by omega) rfl rfl

/-- A running sum up the rows, as a sum over windows padded below. -/
theorem sufsum_apply (x : FVec Ideal S3 .f32) (v : FVec Ideal S0 .f32) (hv : ∀ i, v i = (0 : EReal))
    (h : S3.ReduceWindows ![2048, 1, 1] ![1, 1, 1] ![0, 0, 0] ![2047, 0, 0] S3) (hu : 0 < S0.numel) (r : Fin 2048) (g : Fin 4) (k : Fin 64) :
    Host.reduceWindowAdd ![2048, 1, 1] ![1, 1, 1] ![0, 0, 0] ![2047, 0, 0] x v h hu (ix3 r g k) = suf (fun s => x (ix3 s g k)) r := by
  have e0 := sum_shift r.val 0 (fun s => x (ix3 s g k))
  simp only [Nat.zero_le, if_true, Nat.zero_add] at e0
  unfold suf
  rw [← e0]
  unfold Host.reduceWindowAdd
  rw [Ideal.hostReduceWindowAdd_def, hv]
  unfold Ideal.hostReduceWindowAdd Host.reduceWindow
  refine (foldl_add _).trans ?_
  have key : ∀ G : (⟨3, ![2048, 1, 1]⟩ : Shape).Idx → EReal,
      (∑ n, G ((⟨3, ![2048, 1, 1]⟩ : Shape).rowMajor.symm n)) = ∑ n, G (tall n) := fun G =>
    (Equiv.sum_comp (⟨3, ![2048, 1, 1]⟩ : Shape).rowMajor.symm G).trans (Equiv.sum_comp tall G).symm
  let p (w : (⟨3, ![2048, 1, 1]⟩ : Shape).Idx) (a : Fin S3.rank) : Nat := (ix3 r g k (a.cast h.1.symm)).val * (![1, 1, 1] : Fin 3 → Nat) a + (w a).val
  refine Eq.trans (Finset.sum_congr rfl fun n _ => dite_congr rfl (fun _ => rfl) (fun _ => rfl)) ((key fun w => if hin : ∀ a : Fin S3.rank, (![0, 0, 0] : Fin 3 → Nat) a ≤ p w a ∧ p w a - (![0, 0, 0] : Fin 3 → Nat) a < S3.size a
    then x (fun a => ⟨p w a - (![0, 0, 0] : Fin 3 → Nat) a, (hin a).2⟩) else 0).trans ?_)
  refine Finset.sum_congr rfl fun n _ => ?_
  by_cases hn : n.val + r.val < 2048
  · rw [dif_pos hn]
    refine (dif_pos ?_).trans (congrArg x ?_)
    · intro a
      match a with
      | ⟨0, _⟩ => show 0 ≤ r.val * 1 + n.val ∧ r.val * 1 + n.val - 0 < 2048; omega
      | ⟨1, _⟩ => show 0 ≤ g.val * 1 + 0 ∧ g.val * 1 + 0 - 0 < 4; omega
      | ⟨2, _⟩ => show 0 ≤ k.val * 1 + 0 ∧ k.val * 1 + 0 - 0 < 64; omega
    · funext a; apply Fin.ext
      match a with
      | ⟨0, _⟩ => show r.val * 1 + n.val - 0 = n.val + r.val; omega
      | ⟨1, _⟩ => show g.val * 1 + 0 - 0 = g.val; omega
      | ⟨2, _⟩ => show k.val * 1 + 0 - 0 = k.val; omega
  · rw [dif_neg hn]
    refine dif_neg fun q => hn ?_
    have := q ⟨0, by decide⟩
    change 0 ≤ r.val * 1 + n.val ∧ r.val * 1 + n.val - 0 < 2048 at this
    omega

end Cert.Proof.PoolSum
-- ==== Proof.PoolBRef.lean ====
module

public import proofs.«01_k».proof.Proof.Gen.PoolRefIdeal.Read
public import proofs.«01_k».proof.Proof.PoolUp
public import proofs.«01_k».proof.Proof.PoolF
public import Idealize.ShloMosaic.Lib.Pointwise

@[expose] public section

set_option maxRecDepth 16384

noncomputable section

namespace Cert.Proof.PoolB

open Cert.PoolRefIdeal Idealize.ShloMosaic
open Idealize.ShloMosaic.Tactic
open Cert.PoolRefIdeal.Read
open Cert.Proof.PoolSum Cert.Proof.RealMath
open Cert.Proof.PoolF (wl wl_lt pcol c2n c4n c8n c16n)

variable (x0 : Vec Ideal S2048x2176 .f32) (x1 : Vec Ideal S2048x1024 .f32) (x2 : Vec Ideal S4x64x64 .f32) (x3 : Vec Ideal S256 .f32)

/-- A mean less its row. -/
def dcol (W : Nat) (f : Fin 2048 → EReal) (r : Fin 2048) : EReal := Ideal.div (win W f r) (cnt W r) - f r

/-- Lane `l` of head `h` of the given gradient. -/
def dyc (h : Fin 4) (l : Fin 64) (s : Fin 2048) : EReal := x1 (ix2 s ⟨384 + (h.val * 64 + l.val), by omega⟩)
/-- The gradient at a head's products, before the weights. -/
def dpre (h : Fin 4) (l : Fin 64) (s : Fin 2048) : EReal := dyc x1 h l s * x3 (ix1 ⟨h.val * 64 + l.val, by omega⟩)
/-- The gradient at a head's means less rows. -/
def dd (h : Fin 4) (k : Fin 64) (s : Fin 2048) : EReal := ∑ l : Fin 64, dpre x1 x3 h l s * x2 (ix3 h k l)
/-- That gradient over the counts. -/
def ec (h : Fin 4) (k : Fin 64) (s : Fin 2048) : EReal := Ideal.div (dd x1 x2 x3 h k s) (cnt (wl h) s)

/-- The means less rows, by head. -/
theorem v64_apply (hx : ∀ h k s, IsR (pcol x0 h k s)) (r : Fin 2048) (h : Fin 4) (k : Fin 64) :
    val_main_v64 (F := Ideal) x0 (ix3 r h k) = dcol (wl h) (pcol x0 h k) r :=
  (congrFun (show val_main_v64 (F := Ideal) x0 = Cert.PoolFRefIdeal.Read.val_main_v60 (F := Ideal) x0 from rfl) _).trans (Cert.Proof.PoolF.v60_apply x0 hx r h k)

/-- The gradient at the products, by head. -/
theorem v79_apply (h : Fin 4) (l : Fin 64) (r : Fin 2048) : val_main_v79 (F := Ideal) x1 x3 (ix3 h l r) = dpre x1 x3 h l r := by
  unfold val_main_v79 val_main_v78 val_main_v76 val_main_v75 val_main_v71 val_main_v68 dpre dyc
  pointwise

/-- The gradient at the means less rows, by head. -/
theorem v81_apply (r : Fin 2048) (h : Fin 4) (k : Fin 64) : val_main_v81 (F := Ideal) x1 x2 x3 (ix3 r h k) = dd x1 x2 x3 h k r := by
  unfold val_main_v81 val_main_v80 dd
  pointwise
  exact Finset.sum_congr rfl fun l _ => congrArg (fun z : EReal => z * _) (v79_apply x1 x3 h l r)

/-- The weights' gradient. -/
theorem v83_apply (hx : ∀ h k s, IsR (pcol x0 h k s)) (h : Fin 4) (a b : Fin 64) :
    val_main_v83 (F := Ideal) x0 x1 x3 (ix3 h a b) = ∑ r : Fin 2048, dcol (wl h) (pcol x0 h a) r * dpre x1 x3 h b r := by
  unfold val_main_v83 val_main_v82
  pointwise
  refine Finset.sum_congr rfl fun r _ => ?_
  rw [v79_apply, v64_apply x0 hx]
  exact mul_comm _ _

/-- The scale's gradient. -/
theorem v140_apply (hx : ∀ h k s, IsR (pcol x0 h k s)) (h : Fin 4) (l : Fin 64) (j : Fin 256) (hj : j.val = h.val * 64 + l.val) :
    val_main_v140 (F := Ideal) x0 x1 x2 (ix2 0 j) = ∑ r : Fin 2048, dyc x1 h l r * ∑ k : Fin 64, dcol (wl h) (pcol x0 h k) r * x2 (ix3 h k l) := by
  rw [show j = (⟨h.val * 64 + l.val, by omega⟩ : Fin 256) from Fin.ext hj]
  unfold val_main_v140 val_main_v77 val_main_v74 val_main_v73 val_main_v72 val_main_v71 val_main_v67 val_main_v66 val_main_v65 val_main_cst_11 val_main_cst_12
  pointwise
  refine (Fintype.sum_unique _).trans (Finset.sum_congr rfl fun r _ => (mul_comm _ _).trans ?_)
  refine congrArg (fun z : EReal => _ * z) (Finset.sum_congr rfl fun k _ => ?_)
  rw [v64_apply x0 hx]
  exact mul_comm _ _

/-- The counts. -/
theorem v17_apply (r : Fin 2048) : val_main_v17 (F := Ideal) (ix2 r 0) = cnt 2 r := by
  rw [← count_min, ← c2n]
  unfold val_main_v17 val_main_v16 val_main_v15 val_main_cst_1 val_main_v6 val_main_v5 val_main_v3 val_main_v4 val_main_c
  pointwise
/-- The counts of four rows. -/
theorem v30_apply (r : Fin 2048) : val_main_v30 (F := Ideal) (ix2 r 0) = cnt 4 r := by
  rw [← count_min, ← c4n]
  unfold val_main_v30 val_main_v29 val_main_v28 val_main_cst_4 val_main_v6 val_main_v5 val_main_v3 val_main_v4 val_main_c
  pointwise
/-- The counts of eight rows. -/
theorem v43_apply (r : Fin 2048) : val_main_v43 (F := Ideal) (ix2 r 0) = cnt 8 r := by
  rw [← count_min, ← c8n]
  unfold val_main_v43 val_main_v42 val_main_v41 val_main_cst_7 val_main_v6 val_main_v5 val_main_v3 val_main_v4 val_main_c
  pointwise
/-- The counts of sixteen rows. -/
theorem v56_apply (r : Fin 2048) : val_main_v56 (F := Ideal) (ix2 r 0) = cnt 16 r := by
  rw [← count_min, ← c16n]
  unfold val_main_v56 val_main_v55 val_main_v54 val_main_cst_10 val_main_v6 val_main_v5 val_main_v3 val_main_v4 val_main_c
  pointwise

/-- The heads' gradients over the counts. -/
theorem v126_apply (r : Fin 2048) (k : Fin 64) : val_main_v126 (F := Ideal) x1 x2 x3 (ix2 r k) = ec x1 x2 x3 0 k r := by
  unfold val_main_v126 val_main_v86 val_main_v85 val_main_v125 ec
  pointwise
  rw [v81_apply, v17_apply]; rfl
/-- The second head's. -/
theorem v115_apply (r : Fin 2048) (k : Fin 64) : val_main_v115 (F := Ideal) x1 x2 x3 (ix2 r k) = ec x1 x2 x3 1 k r := by
  unfold val_main_v115 val_main_v88 val_main_v87 val_main_v114 ec
  pointwise
  rw [v81_apply, v30_apply]; rfl
/-- The third head's. -/
theorem v104_apply (r : Fin 2048) (k : Fin 64) : val_main_v104 (F := Ideal) x1 x2 x3 (ix2 r k) = ec x1 x2 x3 2 k r := by
  unfold val_main_v104 val_main_v90 val_main_v89 val_main_v103 ec
  pointwise
  rw [v81_apply, v43_apply]; rfl
/-- The fourth head's. -/
theorem v94_apply (r : Fin 2048) (k : Fin 64) : val_main_v94 (F := Ideal) x1 x2 x3 (ix2 r k) = ec x1 x2 x3 3 k r := by
  unfold val_main_v94 val_main_v92 val_main_v91 val_main_v93 ec
  pointwise
  rw [v81_apply, v56_apply]; rfl

/-- A column less itself moved up. -/
def diff (W : Nat) (f : Fin 2048 → EReal) (s : Fin 2048) : EReal := (if h : s.val + W < 2048 then -(f ⟨s.val + W, h⟩) else 0) + f s

/-- The first head's difference. -/
theorem v132_apply (r : Fin 2048) (k : Fin 64) : val_main_v132 (F := Ideal) x1 x2 x3 (ix2 r k) = diff 2 (ec x1 x2 x3 0 k) r := by
  unfold val_main_v132 val_main_v130 val_main_v129 val_main_v128 val_main_v127 val_main_cst_22 val_main_cst_23 diff
  pointwise
  simp only [v126_apply, Nat.add_comm 2]
/-- The second head's difference. -/
theorem v121_apply (r : Fin 2048) (k : Fin 64) : val_main_v121 (F := Ideal) x1 x2 x3 (ix2 r k) = diff 4 (ec x1 x2 x3 1 k) r := by
  unfold val_main_v121 val_main_v119 val_main_v118 val_main_v117 val_main_v116 val_main_cst_19 val_main_cst_20 diff
  pointwise
  simp only [v115_apply, Nat.add_comm 4]
/-- The third head's difference. -/
theorem v110_apply (r : Fin 2048) (k : Fin 64) : val_main_v110 (F := Ideal) x1 x2 x3 (ix2 r k) = diff 8 (ec x1 x2 x3 2 k) r := by
  unfold val_main_v110 val_main_v108 val_main_v107 val_main_v106 val_main_v105 val_main_cst_16 val_main_cst_17 diff
  pointwise
  simp only [v104_apply, Nat.add_comm 8]
/-- The fourth head's difference. -/
theorem v100_apply (r : Fin 2048) (k : Fin 64) : val_main_v100 (F := Ideal) x1 x2 x3 (ix2 r k) = diff 16 (ec x1 x2 x3 3 k) r := by
  unfold val_main_v100 val_main_v98 val_main_v97 val_main_v96 val_main_v95 val_main_cst_13 val_main_cst_14 diff
  pointwise
  simp only [v94_apply, Nat.add_comm 16]

/-- The heads' differences, each placed at its head. -/
theorem v135_apply (r : Fin 2048) (h : Fin 4) (k : Fin 64) : val_main_v135 (F := Ideal) x1 x2 x3 (ix3 r h k) = diff (wl h) (ec x1 x2 x3 h k) r := by
  unfold val_main_v135 val_main_v134 val_main_v133 val_main_v124 val_main_v123 val_main_v122 val_main_v113 val_main_v112 val_main_v111 val_main_v102 val_main_v101
    val_main_cst_15 val_main_cst_18 val_main_cst_21 val_main_cst_24
  pointwise
  simp only [v132_apply, v121_apply, v110_apply, v100_apply]
  match h with
  | ⟨0, _⟩ => exact (congrArg₂ (HAdd.hAdd (α := EReal) (β := EReal) (γ := EReal)) (congrArg₂ (HAdd.hAdd (α := EReal) (β := EReal) (γ := EReal)) (congrArg₂ (HAdd.hAdd (α := EReal) (β := EReal) (γ := EReal)) (dif_neg (by norm_num)) (dif_neg (by norm_num))) (dif_neg (by norm_num))) (dif_pos (by norm_num))).trans (by simp only [zero_add, add_zero]; rfl)
  | ⟨1, _⟩ => exact (congrArg₂ (HAdd.hAdd (α := EReal) (β := EReal) (γ := EReal)) (congrArg₂ (HAdd.hAdd (α := EReal) (β := EReal) (γ := EReal)) (congrArg₂ (HAdd.hAdd (α := EReal) (β := EReal) (γ := EReal)) (dif_neg (by norm_num)) (dif_neg (by norm_num))) (dif_pos (by norm_num))) (dif_neg (by norm_num))).trans (by simp only [zero_add, add_zero]; rfl)
  | ⟨2, _⟩ => exact (congrArg₂ (HAdd.hAdd (α := EReal) (β := EReal) (γ := EReal)) (congrArg₂ (HAdd.hAdd (α := EReal) (β := EReal) (γ := EReal)) (congrArg₂ (HAdd.hAdd (α := EReal) (β := EReal) (γ := EReal)) (dif_neg (by norm_num)) (dif_pos (by norm_num))) (dif_neg (by norm_num))) (dif_neg (by norm_num))).trans (by simp only [zero_add, add_zero]; rfl)
  | ⟨3, _⟩ => exact (congrArg₂ (HAdd.hAdd (α := EReal) (β := EReal) (γ := EReal)) (congrArg₂ (HAdd.hAdd (α := EReal) (β := EReal) (γ := EReal)) (congrArg₂ (HAdd.hAdd (α := EReal) (β := EReal) (γ := EReal)) (dif_pos (by norm_num)) (dif_neg (by norm_num))) (dif_neg (by norm_num))) (dif_neg (by norm_num))).trans (by simp only [zero_add, add_zero]; rfl)

/-- No window is empty. -/
theorem wl_pos (h : Fin 4) : 0 < wl h := by revert h; decide

section Reals

variable (hd : ∀ h l s, IsR (dyc x1 h l s)) (hw : ∀ i, IsR (x2 i)) (hs : ∀ i, IsR (x3 i))
include hd hw hs

/-- The gradients over the counts are real numbers. -/
theorem ec_real (h : Fin 4) (k : Fin 64) (s : Fin 2048) : IsR (ec x1 x2 x3 h k s) := by
  obtain ⟨a, ha⟩ : IsR (dd x1 x2 x3 h k s) := isR_sum _ _ fun l => ((hd h l s).mul (hs _)).mul (hw _)
  unfold ec cnt
  rw [ha]
  refine ⟨_, div_coe_coe _ _ ?_⟩
  have : 0 < wl h := wl_pos h
  exact Nat.cast_ne_zero.2 (by omega)

/-- The gradient at the columns. -/
theorem v139_apply (r : Fin 2048) (h : Fin 4) (k : Fin 64) (j : Fin 256) (hj : j.val = h.val * 64 + k.val) :
    val_main_v139 (F := Ideal) x1 x2 x3 (ix2 r j) = HSub.hSub (α := EReal) (β := EReal) (γ := EReal) (fwd (wl h) (ec x1 x2 x3 h k) r) (dd x1 x2 x3 h k r) := by
  rw [show j = (⟨h.val * 64 + k.val, by omega⟩ : Fin 256) from Fin.ext hj]
  unfold val_main_v139 val_main_v138 val_main_v137 val_main_v136 val_main_v84
  pointwise
  refine Eq.trans (congrArg₂ (HAdd.hAdd (α := EReal) (β := EReal) (γ := EReal)) (congrArg (fun z : EReal => -z) (v81_apply x1 x2 x3 r h k))
    ((sufsum_apply _ _ (fun _ => by unfold val_main_call1_call0_v0 val_main_call1_call0_cst; pointwise) _ _ r h k).trans ?_)) ((add_comm _ _).trans (sub_eq_add_neg _ _).symm)
  refine (congrArg (fun f => suf f r) (funext fun s => v135_apply x1 x2 x3 s h k)).trans ?_
  exact suf_sub (wl h) (ec x1 x2 x3 h k) (ec_real x1 x2 x3 hd hw hs h k) r

end Reals

end Cert.Proof.PoolB
-- ==== Proof.PoolB.lean ====
module

public import proofs.«01_k».proof.Proof.Gen.PoolBwdIdeal.Value
public import proofs.«01_k».proof.Proof.Gen.PoolBwd.Frame
public import proofs.«01_k».proof.Proof.Gen.Pre_real_pooled_back
public import proofs.«01_k».proof.Proof.MlpPre
public import proofs.«01_k».proof.Proof.PoolBRef
public import Idealize.ShloMosaic.Lib.Pipeline.ValueKit
public import Idealize.ShloMosaic.Lib.Pointwise

@[expose] public section

set_option maxRecDepth 16384

noncomputable section

namespace Cert.Proof.PoolB

open Cert.PoolBwdIdeal Cert.PoolBwdIdeal.Gen Cert.PoolBwdIdeal.Value Idealize.ShloMosaic Idealize.ShloMosaic.TcCoe Idealize.SL.Sem
open Idealize.ShloMosaic.Tactic
open Cert.PoolRefIdeal.Read
open Cert.Proof.Conv (up select_slt up_rot)
open Cert.Proof.PoolSum Cert.Proof.RealMath
open Cert.Proof.PoolF (col wl wl_lt pcol sel_one sel_zero)

variable (m : (ℓ : Loc nD τ sig) → Buf (Elt Ideal) ℓ) (ρ : Dev nD → PrngReg)

/-- Lane `k` of a block's head `p`. -/
def lane (p : Fin 2) (k : Fin 64) : Fin 128 := ⟨p.val * 64 + k.val, by omega⟩

/-- The first head's lanes come first. -/
theorem lane_lo (k : Fin 64) : (lane 0 k).val < 64 := by show 0 * 64 + k.val < 64; omega
/-- The second head's lanes follow. -/
theorem lane_hi (k : Fin 64) : ¬ (lane 1 k).val < 64 := by show ¬ 1 * 64 + k.val < 64; omega

/-- Every lane lies in a head. -/
theorem lane_surj (q : Fin 128) : ∃ p k, q = lane p k :=
  ⟨⟨q.val / 64, by omega⟩, ⟨q.val % 64, by omega⟩, Fin.ext (by show q.val = q.val / 64 * 64 + q.val % 64; omega)⟩

/-- A sum over the lanes, head by head. -/
theorem sum_lane (G : Fin 128 → EReal) : ∑ q, G q = ∑ k, G (lane 0 k) + ∑ k, G (lane 1 k) := by
  refine (Fin.sum_univ_add (M := EReal) (a := 64) (b := 64) G).trans ?_
  exact congrArg₂ (fun a b : EReal => a + b) (Finset.sum_congr rfl fun k _ => congrArg G (Fin.ext (by show k.val = 0 * 64 + k.val; omega)))
    (Finset.sum_congr rfl fun k _ => congrArg G (Fin.ext (by show 64 + k.val = 1 * 64 + k.val; omega)))

/-- The lane mask tells the heads apart. -/
theorem mask (p : Fin 2) (k : Fin 64) : k0_pay2 (ix2 0 (lane p k)) = if p = 0 then 1#1 else 0#1 := by
  match p with
  | 0 => exact Cert.Proof.PoolF.mask_lo (lane 0 k) (by show 0 * 64 + k.val < 64; omega)
  | 1 => exact Cert.Proof.PoolF.mask_hi (lane 1 k) (by show 64 ≤ 1 * 64 + k.val; omega)
/-- The second copy of the mask. -/
theorem mask' (p : Fin 2) (k : Fin 64) : k0_pay23 (ix2 0 (lane p k)) = if p = 0 then 1#1 else 0#1 := by
  refine Eq.trans ?_ (mask p k)
  unfold k0_pay23 k0_pay2
  pointwise

/-- The block of the two heads' weights. -/
theorem pay10_apply (v52 v55 : Vec Ideal S1x64x64 .f32) (p p' : Fin 2) (a b : Fin 64) : k0_pay10 (F := Ideal) v52 v55 (ix2 (lane p a) (lane p' b))
    = if p = p' then (if p = 0 then v52 (ix3 0 a b) else v55 (ix3 0 a b)) else (0 : EReal) := by
  unfold k0_pay10
  pointwise
  match p, p' with
  | 0, 0 => exact (dif_pos (lane_lo a)).trans ((dif_pos (lane_lo b)).trans (congrArg₂ (fun x y => v52 (ix3 0 x y)) (Fin.ext (by show 0 * 64 + a.val = a.val; omega)) (Fin.ext (by show 0 * 64 + b.val = b.val; omega))))
  | 0, 1 => exact (dif_pos (lane_lo a)).trans (dif_neg (lane_hi b))
  | 1, 0 => exact (dif_neg (lane_hi a)).trans (dif_pos (lane_lo b))
  | 1, 1 => exact (dif_neg (lane_hi a)).trans ((dif_neg (lane_hi b)).trans (congrArg₂ (fun x y => v55 (ix3 0 x y)) (Fin.ext (by show 1 * 64 + a.val - 64 = a.val; omega)) (Fin.ext (by show 1 * 64 + b.val - 64 = b.val; omega))))

/-- The gradient at a block's means less rows. -/
theorem pay17_apply (v59 : FVec Ideal S128x128 .bf16) (v71 : FVec Ideal S2048x128 .bf16) (r : Fin 2048) (q : Fin 128) :
    k0_pay17 v59 v71 (ix2 r q) = ∑ l : Fin 128, HMul.hMul (α := EReal) (β := EReal) (γ := EReal) (v71 (ix2 r l)) (v59 (ix2 q l)) := by
  unfold k0_pay17
  pointwise

/-- That gradient over the counts. -/
def ecol (v48 : FVec Ideal S2048x128 .f32) (v59 : FVec Ideal S128x128 .bf16) (v71 : FVec Ideal S2048x128 .bf16) (l : Fin 128) (s : Fin 2048) : EReal :=
  Ideal.div (k0_pay17 v59 v71 (ix2 s l)) (v48 (ix2 s l))

/-- The kernel's sums of the next two rows. -/
theorem pay18_apply (v48 : FVec Ideal S2048x128 .f32) (v59 : FVec Ideal S128x128 .bf16) (v71 : FVec Ideal S2048x128 .bf16) (r : Fin 2048) (l : Fin 128) :
    k0_pay18 v48 v59 v71 (ix2 r l) = fwd 2 (ecol v48 v59 v71 l) r := by
  rw [show (2 : Nat) = 2 * 1 from rfl, ← fwd_double, fwd_one]
  unfold k0_pay18
  pointwise
  rw [select_slt _ 2047 r.isLt (by omega)]
  exact congrArg (fun z : EReal => _ + z) (up_rot 1 (ecol v48 v59 v71 l) r ⟨_, _⟩ (by show (r.val + 2048 - 2047) % 2048 = _; omega) (by omega))
/-- The kernel's sums of the next four rows. -/
theorem pay19_apply (v48 : FVec Ideal S2048x128 .f32) (v59 : FVec Ideal S128x128 .bf16) (v71 : FVec Ideal S2048x128 .bf16) (r : Fin 2048) (l : Fin 128) :
    k0_pay19 v48 v59 v71 (ix2 r l) = fwd 4 (ecol v48 v59 v71 l) r := by
  rw [show (4 : Nat) = 2 * 2 from rfl, ← fwd_double]
  unfold k0_pay19
  pointwise
  simp only [pay18_apply]
  rw [select_slt _ 2046 r.isLt (by omega)]
  exact congrArg (fun z : EReal => _ + z) (up_rot 2 (fwd 2 (ecol v48 v59 v71 l)) r ⟨_, _⟩ (by show (r.val + 2048 - 2046) % 2048 = _; omega) (by omega))
/-- The kernel's sums of the next eight rows. -/
theorem pay20_apply (v48 : FVec Ideal S2048x128 .f32) (v59 : FVec Ideal S128x128 .bf16) (v71 : FVec Ideal S2048x128 .bf16) (r : Fin 2048) (l : Fin 128) :
    k0_pay20 v48 v59 v71 (ix2 r l) = fwd 8 (ecol v48 v59 v71 l) r := by
  rw [show (8 : Nat) = 2 * 4 from rfl, ← fwd_double]
  unfold k0_pay20
  pointwise
  simp only [pay19_apply]
  rw [select_slt _ 2044 r.isLt (by omega)]
  exact congrArg (fun z : EReal => _ + z) (up_rot 4 (fwd 4 (ecol v48 v59 v71 l)) r ⟨_, _⟩ (by show (r.val + 2048 - 2044) % 2048 = _; omega) (by omega))
/-- The test for the first point fails at the second. -/
theorem ne_first (w : BitVec 32) (h : ¬ w = 0#32) : Scalar.cmpi .eq w 0#32 = 0#1 := by
  show BitVec.ofBool (w == 0#32) = 0#1
  rw [beq_eq_false_iff_ne.2 h]; rfl
/-- The first head's sums: of two rows at the first point, of eight at the second. -/
theorem pay21_apply (w : BitVec 32) (v48 : FVec Ideal S2048x128 .f32) (v59 : FVec Ideal S128x128 .bf16) (v71 : FVec Ideal S2048x128 .bf16) (r : Fin 2048) (l : Fin 128) :
    k0_pay21 w v48 v59 v71 (ix2 r l) = fwd (if w = 0#32 then 2 else 8) (ecol v48 v59 v71 l) r := by
  unfold k0_pay21
  by_cases h : w = 0#32
  · subst h; exact pay18_apply v48 v59 v71 r l
  · rw [if_neg h, ne_first w h]; exact pay20_apply v48 v59 v71 r l
/-- The second head's sums: of four rows at the first point, of sixteen at the second. -/
theorem pay22_apply (w : BitVec 32) (v48 : FVec Ideal S2048x128 .f32) (v59 : FVec Ideal S128x128 .bf16) (v71 : FVec Ideal S2048x128 .bf16) (r : Fin 2048) (l : Fin 128) :
    k0_pay22 w v48 v59 v71 (ix2 r l) = fwd (if w = 0#32 then 4 else 16) (ecol v48 v59 v71 l) r := by
  unfold k0_pay22
  by_cases h : w = 0#32
  · subst h; exact pay19_apply v48 v59 v71 r l
  · rw [if_neg h, ne_first w h, show (16 : Nat) = 2 * 8 from rfl, ← fwd_double]
    show addf _ _ (ix2 r l) = _
    pointwise
    simp only [pay20_apply]
    rw [select_slt _ 2040 r.isLt (by omega)]
    exact congrArg (fun z : EReal => _ + z) (up_rot 8 (fwd 8 (ecol v48 v59 v71 l)) r ⟨_, _⟩ (by show (r.val + 2048 - 2040) % 2048 = _; omega) (by omega))

/-- What a point stores of the gradient at the columns. -/
theorem pay1_apply (v81 v115 v116 : FVec Ideal S2048x128 .f32) (r : Fin 2048) (p : Fin 2) (k : Fin 64) :
    k0_pay1 v81 v115 v116 k0_pay23 (ix2 r (lane p k)) = HSub.hSub (α := EReal) (β := EReal) (γ := EReal) (if p = 0 then v115 (ix2 r (lane p k)) else v116 (ix2 r (lane p k))) (v81 (ix2 r (lane p k))) := by
  unfold k0_pay1
  pointwise
  rw [mask']
  match p with
  | 0 => rfl
  | 1 => rfl

/-- The counts of a block. -/
theorem pay9_apply (v9 : IVec S1x128 32) (r : Fin 2048) (q : Fin 128) (W : Nat) (hW : W < 100) (hw : v9 (ix2 0 q) = BitVec.ofNat 32 W) :
    k0_pay9 (F := Ideal) v9 (ix2 r q) = cnt W r := by
  unfold k0_pay9
  pointwise
  rw [hw, count_word _ _ hW]

/-- The means less rows of a block. -/
theorem pay11_apply (v0 : Vec Ideal S2048x128 .f32) (b : BitVec 1) (v9 : IVec S1x128 32) (v23 v37 v38 : FVec Ideal S2048x128 .f32) (r : Fin 2048) (p : Fin 2) (k : Fin 64)
    (W : Nat) (hW : W < 100) (hw : v9 (ix2 0 (lane p k)) = BitVec.ofNat 32 W)
    (hv : (if p = 0 then v38 (ix2 r (lane p k)) else Scalar.select b (v23 (ix2 r (lane p k))) (v37 (ix2 r (lane p k))) : EReal) = win W (col v0 (lane p k)) r) :
    k0_pay11 v0 k0_pay2 b v9 v23 v37 v38 (ix2 r (lane p k)) = dcol W (col v0 (lane p k)) r := by
  unfold k0_pay11 dcol
  rw [← hv]
  pointwise
  rw [pay9_apply v9 r _ W hW hw, mask]
  match p with
  | 0 => rfl
  | 1 => rfl

/-- The gradient at a block of products, before the weights. -/
theorem pay13_apply (v61 : Vec Ideal S2048x128 .f32) (v67 : Vec Ideal S1x128 .f32) (r : Fin 2048) (l : Fin 128) :
    k0_pay13 (F := Ideal) v61 v67 (ix2 r l) = HMul.hMul (α := EReal) (β := EReal) (γ := EReal) (v61 (ix2 r l)) (v67 (ix2 0 l)) := by
  unfold k0_pay13
  pointwise

/-- The weights' gradient of a block. -/
theorem pay14_apply (v0 : Vec Ideal S2048x128 .f32) (v3 : IVec S1x128 1) (v4 : BitVec 1) (v9 : IVec S1x128 32) (v23 v37 v38 : FVec Ideal S2048x128 .f32)
    (v61 : Vec Ideal S2048x128 .f32) (v67 : Vec Ideal S1x128 .f32) (a b : Fin 128) :
    k0_pay14 v0 v3 v4 v9 v23 v37 v38 v61 v67 (ix2 a b) = ∑ r : Fin 2048, HMul.hMul (α := EReal) (β := EReal) (γ := EReal) (k0_pay11 v0 v3 v4 v9 v23 v37 v38 (ix2 r a)) (k0_pay13 v61 v67 (ix2 r b)) := by
  unfold k0_pay14
  pointwise
/-- Its two stores. -/
theorem pay15_apply (v0 : Vec Ideal S2048x128 .f32) (v3 : IVec S1x128 1) (v4 : BitVec 1) (v9 : IVec S1x128 32) (v23 v37 v38 : FVec Ideal S2048x128 .f32)
    (v61 : Vec Ideal S2048x128 .f32) (v67 : Vec Ideal S1x128 .f32) (a b : Fin 64) :
    k0_pay15 v0 v3 v4 v9 v23 v37 v38 v61 v67 (ix3 0 a b) = k0_pay14 v0 v3 v4 v9 v23 v37 v38 v61 v67 (ix2 (lane 0 a) (lane 0 b)) := by
  unfold k0_pay15
  pointwise
  exact congrArg₂ (fun x y => k0_pay14 v0 v3 v4 v9 v23 v37 v38 v61 v67 (ix2 x y)) (Fin.ext (by show a.val = 0 * 64 + a.val; omega)) (Fin.ext (by show b.val = 0 * 64 + b.val; omega))
/-- The second head's store. -/
theorem pay16_apply (v72 : FVec Ideal S128x128 .f32) (a b : Fin 64) : k0_pay16 v72 (ix3 0 a b) = v72 (ix2 (lane 1 a) (lane 1 b)) := by
  unfold k0_pay16
  pointwise
  exact congrArg₂ (fun x y => v72 (ix2 x y)) (Fin.ext (by show 64 + a.val = 1 * 64 + a.val; omega)) (Fin.ext (by show 64 + b.val = 1 * 64 + b.val; omega))

/-- The scale's gradient of a block. -/
theorem pay12_apply (v0 : Vec Ideal S2048x128 .f32) (v3 : IVec S1x128 1) (v4 : BitVec 1) (v9 : IVec S1x128 32) (v23 v37 v38 : FVec Ideal S2048x128 .f32)
    (v52 v55 : Vec Ideal S1x64x64 .f32) (v61 : Vec Ideal S2048x128 .f32) (l : Fin 128) :
    k0_pay12 v0 v3 v4 v9 v23 v37 v38 v52 v55 v61 (ix2 0 l) = ∑ r : Fin 2048, HMul.hMul (α := EReal) (β := EReal) (γ := EReal) (v61 (ix2 r l))
      (∑ q : Fin 128, HMul.hMul (α := EReal) (β := EReal) (γ := EReal) (k0_pay11 v0 v3 v4 v9 v23 v37 v38 (ix2 r q)) (k0_pay10 v52 v55 (ix2 q l))) := by
  unfold k0_pay12
  pointwise

/-- The block that each window works on at a grid point, in blocks along each axis; the grid's coordinate. -/
theorem idx : ∀ t : Fin cfg0.N, (win0_0.index t (0 : Fin 2) = 0 ∧ win0_0.index t (1 : Fin 2) = 9 + t.val)
    ∧ (win0_1.index t (0 : Fin 2) = 0 ∧ win0_1.index t (1 : Fin 2) = 3 + t.val)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 3) = t.val ∧ win0_5.index t (1 : Fin 3) = 0 ∧ win0_5.index t (2 : Fin 3) = 0)
    ∧ (win0_6.index t (0 : Fin 2) = 0 ∧ win0_6.index t (1 : Fin 2) = t.val) ∧ t.val < 2 ∧ (grid0.coords t 0).val = t.val :=
  (by decide +kernel : ∀ t : Fin grid0.N, _)

/-- There are two points. -/
theorem two (t : Fin cfg0.N) : t.val < 2 := (idx t).2.2.2.2.2.2.2.1

/-- Head `p` of a point's two. -/
def hd (t : Fin cfg0.N) (p : Fin 2) : Fin 4 := ⟨t.val * 2 + p.val, by have := two t; omega⟩

/-- The arguments: the projection. -/
abbrev A0 (c : Dev nD) := m ((c : Thread nD τ).loc main_arg0)
/-- The given gradient. -/
abbrev A1 (c : Dev nD) := m ((c : Thread nD τ).loc main_arg1)
/-- The heads' weights. -/
abbrev A2 (c : Dev nD) := m ((c : Thread nD τ).loc main_arg2)
/-- The scale. -/
abbrev A3 (c : Dev nD) := m ((c : Thread nD τ).loc main_arg3)

/-- The block of the columns. -/
theorem iblk0_apply (c : Dev nD) (t : Fin cfg0.N) (r : Fin 2048) (p : Fin 2) (k : Fin 64) :
    iblk m c 0 t (ix2 r (lane p k)) = pcol (A0 m c) (hd t p) k r := by
  show V m c main_arg0 (((cfg0.win 0).blk t).view.emb (ix2 r (lane p k))) = _
  rw [V_main_arg0]
  obtain ⟨⟨e0, e1⟩, -⟩ := idx t
  unfold pcol
  congr 1; funext a; apply Fin.ext
  match a with
  | ⟨0, _⟩ => show win0_0.index t (0 : Fin 2) * 2048 + 1 * r.val = r.val; omega
  | ⟨1, _⟩ => show win0_0.index t (1 : Fin 2) * 128 + 1 * (p.val * 64 + k.val) = 1152 + ((t.val * 2 + p.val) * 64 + k.val); omega
/-- The block of the given gradient. -/
theorem iblk1_apply (c : Dev nD) (t : Fin cfg0.N) (r : Fin 2048) (p : Fin 2) (k : Fin 64) :
    iblk m c 1 t (ix2 r (lane p k)) = dyc (A1 m c) (hd t p) k r := by
  show V m c main_arg1 (((cfg0.win 1).blk t).view.emb (ix2 r (lane p k))) = _
  rw [V_main_arg1]
  obtain ⟨-, ⟨e0, e1⟩, -⟩ := idx t
  unfold dyc
  congr 1; funext a; apply Fin.ext
  match a with
  | ⟨0, _⟩ => show win0_1.index t (0 : Fin 2) * 2048 + 1 * r.val = r.val; omega
  | ⟨1, _⟩ => show win0_1.index t (1 : Fin 2) * 128 + 1 * (p.val * 64 + k.val) = 384 + ((t.val * 2 + p.val) * 64 + k.val); omega
/-- The block of the heads' weights. -/
theorem iblk2_apply (c : Dev nD) (t : Fin cfg0.N) (a : Fin 2) (q l : Fin 64) :
    iblk m c 2 t (ix3 a q l) = A2 m c (ix3 (hd t a) q l) := by
  show V m c main_arg2 (((cfg0.win 2).blk t).view.emb (ix3 a q l)) = _
  rw [V_main_arg2]
  obtain ⟨-, -, ⟨e0, e1, e2⟩, -⟩ := idx t
  congr 1; funext b; apply Fin.ext
  match b with
  | ⟨0, _⟩ => show win0_2.index t (0 : Fin 3) * 2 + 1 * a.val = t.val * 2 + a.val; omega
  | ⟨1, _⟩ => show win0_2.index t (1 : Fin 3) * 64 + 1 * q.val = q.val; omega
  | ⟨2, _⟩ => show win0_2.index t (2 : Fin 3) * 64 + 1 * l.val = l.val; omega
/-- The block of the scale. -/
theorem iblk3_apply (c : Dev nD) (t : Fin cfg0.N) (p : Fin 2) (k : Fin 64) :
    iblk m c 3 t (ix2 0 (lane p k)) = A3 m c (ix1 ⟨(hd t p).val * 64 + k.val, by omega⟩) := by
  show V m c main_v0 (((cfg0.win 3).blk t).view.emb (ix2 0 (lane p k))) = _
  have hV : V m c main_v0 = broadcastInDim S1x256 ![1] bcast_S256_S1x256_1 (m ((c : Thread nD τ).loc main_arg3)) := by
    show StableHlo.after hostOps0 _ _ = _
    after_results_simp
  rw [hV]
  obtain ⟨-, -, -, ⟨e0, e1⟩, -⟩ := idx t
  have he : ((cfg0.win 3).blk t).view.emb (ix2 0 (lane p k)) = (ix2 0 ⟨(hd t p).val * 64 + k.val, by omega⟩ : S1x256.Idx) := by
    funext b; apply Fin.ext
    match b with
    | ⟨0, _⟩ => show win0_3.index t (0 : Fin 2) * 1 + 1 * 0 = 0; omega
    | ⟨1, _⟩ => show win0_3.index t (1 : Fin 2) * 128 + 1 * (p.val * 64 + k.val) = (t.val * 2 + p.val) * 64 + k.val; omega
  rw [he]
  pointwise

/-- The windows' lengths at a point. -/
theorem len (t : Fin cfg0.N) (p : Fin 2) (k : Fin 64) : k0_pay3 (grid0.coords t) (ix2 0 (lane p k)) = BitVec.ofNat 32 (wl (hd t p)) := by
  match p with
  | 0 => exact Cert.Proof.PoolF.len_lo t (lane 0 k) (lane_lo k)
  | 1 => exact Cert.Proof.PoolF.len_hi t (lane 1 k) (by have := lane_hi k; omega)

/-- The windows' sums at a point. -/
theorem sums (t : Fin cfg0.N) (v0 : Vec Ideal S2048x128 .f32) (r : Fin 2048) (p : Fin 2) (k : Fin 64) :
    (if p = 0 then k0_pay8 (F := Ideal) (grid0.coords t) v0 (ix2 r (lane p k)) else
      Scalar.select (Scalar.cmpi .eq (BitVec.ofNat 32 (grid0.coords t 0).val) 0#32) (k0_pay5 (F := Ideal) v0 (ix2 r (lane p k))) (k0_pay7 (F := Ideal) v0 (ix2 r (lane p k))) : EReal)
      = win (wl (hd t p)) (col v0 (lane p k)) r := by
  match p with
  | 0 => exact Cert.Proof.PoolF.sums_lo t v0 r (lane 0 k)
  | 1 => exact Cert.Proof.PoolF.sums_hi t v0 r (lane 1 k)

/-- A point's means less rows. -/
theorem dblk (c : Dev nD) (t : Fin cfg0.N) (r : Fin 2048) (p : Fin 2) (k : Fin 64) :
    k0_pay11 (iblk m c 0 t) k0_pay2 (Scalar.cmpi .eq (BitVec.ofNat 32 (grid0.coords t 0).val) 0#32) (k0_pay3 (grid0.coords t)) (k0_pay5 (iblk m c 0 t)) (k0_pay7 (iblk m c 0 t)) (k0_pay8 (grid0.coords t) (iblk m c 0 t)) (ix2 r (lane p k))
      = dcol (wl (hd t p)) (pcol (A0 m c) (hd t p) k) r := by
  refine (pay11_apply _ _ _ _ _ _ r p k _ (wl_lt _) (len t p k) (sums t _ r p k)).trans ?_
  exact congrArg (fun f => dcol _ f r) (funext fun s => iblk0_apply m c t s p k)

/-- A point's gradient at the products. -/
theorem preblk (c : Dev nD) (t : Fin cfg0.N) (r : Fin 2048) (p : Fin 2) (l : Fin 64) :
    k0_pay13 (iblk m c 1 t) (iblk m c 3 t) (ix2 r (lane p l)) = dpre (A1 m c) (A3 m c) (hd t p) l r :=
  (pay13_apply _ _ r (lane p l)).trans (congrArg₂ (HMul.hMul (α := EReal) (β := EReal) (γ := EReal)) (iblk1_apply m c t r p l) (iblk3_apply m c t p l))

/-- The head's weights in a point's block of weights. -/
theorem wblk (c : Dev nD) (t : Fin cfg0.N) (v52 v55 : Vec Ideal S1x64x64 .f32) (h0 : ∀ a b, v52 (ix3 0 a b) = iblk m c 2 t (ix3 0 a b)) (h1 : ∀ a b, v55 (ix3 0 a b) = iblk m c 2 t (ix3 1 a b))
    (p p' : Fin 2) (a b : Fin 64) : k0_pay10 (F := Ideal) v52 v55 (ix2 (lane p a) (lane p' b)) = if p = p' then A2 m c (ix3 (hd t p) a b) else (0 : EReal) := by
  refine (pay10_apply v52 v55 p p' a b).trans ?_
  match p, p' with
  | 0, 0 => exact (h0 a b).trans (iblk2_apply m c t 0 a b)
  | 0, 1 => rfl
  | 1, 0 => rfl
  | 1, 1 => exact (h1 a b).trans (iblk2_apply m c t 1 a b)

/-- A sum over the lanes in which only one head's count. -/
theorem sum_head (p : Fin 2) (G : Fin 128 → EReal) (g : Fin 64 → EReal) (hg : ∀ k, G (lane p k) = g k) (h0 : ∀ p' k, p' ≠ p → G (lane p' k) = 0) : ∑ q, G q = ∑ k, g k := by
  rw [sum_lane]
  match p with
  | 0 => rw [Finset.sum_eq_zero fun k _ => h0 1 k (by decide), add_zero]; exact Finset.sum_congr rfl fun k _ => hg k
  | 1 => rw [Finset.sum_eq_zero fun k _ => h0 0 k (by decide), zero_add]; exact Finset.sum_congr rfl fun k _ => hg k

/-- A point's gradient at the means less rows. -/
theorem ddblk (c : Dev nD) (t : Fin cfg0.N) (v52 v55 : Vec Ideal S1x64x64 .f32) (h0 : ∀ a b, v52 (ix3 0 a b) = iblk m c 2 t (ix3 0 a b)) (h1 : ∀ a b, v55 (ix3 0 a b) = iblk m c 2 t (ix3 1 a b))
    (r : Fin 2048) (p : Fin 2) (k : Fin 64) :
    k0_pay17 (k0_pay10 v52 v55) (k0_pay13 (iblk m c 1 t) (iblk m c 3 t)) (ix2 r (lane p k)) = dd (A1 m c) (A2 m c) (A3 m c) (hd t p) k r := by
  refine (pay17_apply _ _ r (lane p k)).trans (sum_head p _ _ (fun l => ?_) fun p' l hp => ?_)
  · refine congrArg₂ (HMul.hMul (α := EReal) (β := EReal) (γ := EReal)) (preblk m c t r p l) ((wblk m c t v52 v55 h0 h1 p p k l).trans (if_pos rfl))
  · exact (congrArg (fun z : EReal => _ * z) ((wblk m c t v52 v55 h0 h1 p p' k l).trans (if_neg hp.symm))).trans (mul_zero _)

/-- A point's gradient over the counts. -/
theorem eblk (c : Dev nD) (t : Fin cfg0.N) (v52 v55 : Vec Ideal S1x64x64 .f32) (h0 : ∀ a b, v52 (ix3 0 a b) = iblk m c 2 t (ix3 0 a b)) (h1 : ∀ a b, v55 (ix3 0 a b) = iblk m c 2 t (ix3 1 a b))
    (p : Fin 2) (k : Fin 64) :
    ecol (k0_pay9 (k0_pay3 (grid0.coords t))) (k0_pay10 v52 v55) (k0_pay13 (iblk m c 1 t) (iblk m c 3 t)) (lane p k) = ec (A1 m c) (A2 m c) (A3 m c) (hd t p) k :=
  funext fun s => congrArg₂ Ideal.div (ddblk m c t v52 v55 h0 h1 s p k) (pay9_apply _ s _ _ (wl_lt _) (len t p k))

/-- Where an element of a block of the columns' gradient lies in the array. -/
theorem emb4 (t : Fin cfg0.N) (r : Fin 2048) (p : Fin 2) (k : Fin 64) :
    ((cfg0.win 4).blk t).view.emb (ix2 r (lane p k)) = (ix2 r ⟨(hd t p).val * 64 + k.val, by omega⟩ : S2048x256.Idx) := by
  obtain ⟨-, -, -, -, ⟨e0, e1⟩, -⟩ := idx t
  funext a; apply Fin.ext
  match a with
  | ⟨0, _⟩ => show win0_4.index t (0 : Fin 2) * 2048 + 1 * r.val = r.val; omega
  | ⟨1, _⟩ => show win0_4.index t (1 : Fin 2) * 128 + 1 * (p.val * 64 + k.val) = (t.val * 2 + p.val) * 64 + k.val; omega
/-- Where an element of a block of the weights' gradient lies in the array. -/
theorem emb5 (t : Fin cfg0.N) (p : Fin 2) (a b : Fin 64) : ((cfg0.win 5).blk t).view.emb (ix3 p a b) = (ix3 (hd t p) a b : S4x64x64.Idx) := by
  obtain ⟨-, -, -, -, -, ⟨e0, e1, e2⟩, -⟩ := idx t
  funext x; apply Fin.ext
  match x with
  | ⟨0, _⟩ => show win0_5.index t (0 : Fin 3) * 2 + 1 * p.val = t.val * 2 + p.val; omega
  | ⟨1, _⟩ => show win0_5.index t (1 : Fin 3) * 64 + 1 * a.val = a.val; omega
  | ⟨2, _⟩ => show win0_5.index t (2 : Fin 3) * 64 + 1 * b.val = b.val; omega
/-- Where an element of a block of the scale's gradient lies in the array. -/
theorem emb6 (t : Fin cfg0.N) (p : Fin 2) (k : Fin 64) :
    ((cfg0.win 6).blk t).view.emb (ix2 0 (lane p k)) = (ix2 0 ⟨(hd t p).val * 64 + k.val, by omega⟩ : S1x256.Idx) := by
  obtain ⟨-, -, -, -, -, -, ⟨e0, e1⟩, -⟩ := idx t
  funext a; apply Fin.ext
  match a with
  | ⟨0, _⟩ => show win0_6.index t (0 : Fin 2) * 1 + 1 * 0 = 0; omega
  | ⟨1, _⟩ => show win0_6.index t (1 : Fin 2) * 128 + 1 * (p.val * 64 + k.val) = (t.val * 2 + p.val) * 64 + k.val; omega

/-- No block sticks out of its array: blocks are written back whole. -/
theorem cut4 (t : Fin cfg0.N) (X : Vec Ideal S2048x128 .bf16) (j : S2048x128.Idx) : (cfg0.win 4).cut (grid0.coords t) X j = X j := rfl
/-- The weights' gradient's blocks too. -/
theorem cut5 (t : Fin cfg0.N) (X : Vec Ideal S2x64x64 .f32) (j : S2x64x64.Idx) : (cfg0.win 5).cut (grid0.coords t) X j = X j := rfl
/-- The scale's gradient's blocks too. -/
theorem cut6 (t : Fin cfg0.N) (X : Vec Ideal S1x128 .f32) (j : S1x128.Idx) : (cfg0.win 6).cut (grid0.coords t) X j = X j := rfl

/-- The windows at a point, as the kernel picks them. -/
theorem pick (t : Fin cfg0.N) (p : Fin 2) : wl (hd t p) = if p = 0 then (if BitVec.ofNat 32 (grid0.coords t 0).val = 0#32 then 2 else 8) else if BitVec.ofNat 32 (grid0.coords t 0).val = 0#32 then 4 else 16 := by
  have h2 := two t
  rw [(idx t).2.2.2.2.2.2.2.2]
  rcases (by omega : t.val = 0 ∨ t.val = 1) with h | h
  · rw [h, show hd t p = ⟨p.val, by omega⟩ from Fin.ext (by show t.val * 2 + p.val = p.val; omega)]
    match p with
    | 0 => rfl
    | 1 => rfl
  · rw [h, show hd t p = ⟨2 + p.val, by omega⟩ from Fin.ext (by show t.val * 2 + p.val = 2 + p.val; omega)]
    match p with
    | 0 => rfl
    | 1 => rfl

/-- A load of the first head's weights. -/
theorem ld_head0 (X : Vec Ideal S2x64x64 .f32) (k l : Fin 64) : View.ld (Val := Elt Ideal) (e' := .f32) X r0_1 (ix3 0 k l) = X (ix3 0 k l) :=
  Cert.Proof.PoolF.ld_head 0 (by omega) _ X k l
/-- A load of the second head's weights. -/
theorem ld_head1 (X : Vec Ideal S2x64x64 .f32) (k l : Fin 64) : View.ld (Val := Elt Ideal) (e' := .f32) X r0_2 (ix3 0 k l) = X (ix3 1 k l) :=
  Cert.Proof.PoolF.ld_head 1 (by omega) _ X k l
/-- A load of a whole block. -/
theorem ld_all (X : Vec Ideal S2048x128 .f32) : View.ld (Val := Elt Ideal) (e' := .f32) X r0_0 = X := by
  funext j
  refine congrArg X (funext fun a => Fin.ext ?_)
  match a with
  | ⟨0, _⟩ => show 0 + 1 * (j 0).val = (j 0).val; omega
  | ⟨1, _⟩ => show 0 + 1 * (j 1).val = (j 1).val; omega
/-- A load of a whole row. -/
theorem ld_row (X : Vec Ideal S1x128 .f32) : View.ld (Val := Elt Ideal) (e' := .f32) X r0_3 = X := by
  funext j
  refine congrArg X (funext fun a => Fin.ext ?_)
  match a with
  | ⟨0, _⟩ => show 0 + 1 * (j 0).val = (j 0).val; omega
  | ⟨1, _⟩ => show 0 + 1 * (j 1).val = (j 1).val; omega
/-- The block of gradients that a point's stores share. -/
theorem name31 (i : grid0.Coords) (X0 X1 : Vec Ideal S2048x128 .f32) (X2 : Vec Ideal S2x64x64 .f32) (X3 : Vec Ideal S1x128 .f32) :
    k0_pay31 (F := Ideal) i X0 X1 X2 X3 = k0_pay13 X1 X3 := by
  unfold k0_pay31
  rw [ld_all, ld_row]
/-- The window sums that they share. -/
theorem name26 (i : grid0.Coords) (X0 X1 : Vec Ideal S2048x128 .f32) (X2 : Vec Ideal S2x64x64 .f32) (X3 : Vec Ideal S1x128 .f32) :
    k0_pay26 (F := Ideal) i X0 X1 X2 X3 = k0_pay5 X0 ∧ k0_pay27 (F := Ideal) i X0 X1 X2 X3 = k0_pay7 X0 ∧ k0_pay28 (F := Ideal) i X0 X1 X2 X3 = k0_pay8 i X0 := by
  unfold k0_pay26 k0_pay27 k0_pay28
  rw [ld_all]
  exact ⟨rfl, rfl, rfl⟩

section Run

variable (c : Dev nD)

/-- A point's means less rows, as its stores name them. -/
abbrev dN (t : Fin cfg0.N) : FVec Ideal S2048x128 .bf16 :=
  k0_pay11 (iblk m c 0 t) (k0_pay24 (grid0.coords t) (iblk m c 0 t) (iblk m c 1 t) (iblk m c 2 t) (iblk m c 3 t)) (Scalar.cmpi .eq (BitVec.ofNat 32 (grid0.coords t 0).val) 0#32)
    (k0_pay25 (grid0.coords t) (iblk m c 0 t) (iblk m c 1 t) (iblk m c 2 t) (iblk m c 3 t)) (k0_pay26 (grid0.coords t) (iblk m c 0 t) (iblk m c 1 t) (iblk m c 2 t) (iblk m c 3 t))
    (k0_pay27 (grid0.coords t) (iblk m c 0 t) (iblk m c 1 t) (iblk m c 2 t) (iblk m c 3 t)) (k0_pay28 (grid0.coords t) (iblk m c 0 t) (iblk m c 1 t) (iblk m c 2 t) (iblk m c 3 t))

/-- They are the reference's. -/
theorem dN_apply (t : Fin cfg0.N) (r : Fin 2048) (p : Fin 2) (k : Fin 64) : dN m c t (ix2 r (lane p k)) = dcol (wl (hd t p)) (pcol (A0 m c) (hd t p) k) r := by
  obtain ⟨n0, n1, n2⟩ := name26 (grid0.coords t) (iblk m c 0 t) (iblk m c 1 t) (iblk m c 2 t) (iblk m c 3 t)
  unfold dN
  rw [n0, n1, n2]
  exact dblk m c t r p k

/-- A head's weights' gradient at a point. -/
theorem gblk (t : Fin cfg0.N) (p : Fin 2) (a b : Fin 64) :
    ∑ r : Fin 2048, HMul.hMul (α := EReal) (β := EReal) (γ := EReal) (dN m c t (ix2 r (lane p a))) (k0_pay13 (iblk m c 1 t) (iblk m c 3 t) (ix2 r (lane p b)))
      = ∑ r : Fin 2048, dcol (wl (hd t p)) (pcol (A0 m c) (hd t p) a) r * dpre (A1 m c) (A3 m c) (hd t p) b r :=
  Finset.sum_congr rfl fun r _ => congrArg₂ (HMul.hMul (α := EReal) (β := EReal) (γ := EReal)) (dN_apply m c t r p a) (preblk m c t r p b)

/-- What point `t` writes back of the columns' gradient is that block of the reference's array. -/
theorem flushed4_eq (hd' : ∀ h l s, IsR (dyc (A1 m c) h l s)) (hw : ∀ i, IsR (A2 m c i)) (hs : ∀ i, IsR (A3 m c i)) (t : Fin cfg0.N) :
    (dats m 0 c).flushed 4 t = ((cfg0.win 4).blk t).view.read (Elt Ideal) (val_main_v139 (F := Ideal) (A1 m c) (A2 m c) (A3 m c)) := by
  rw [flushed4]
  frame_out
  funext j
  obtain ⟨r, q, rfl⟩ : ∃ (r : Fin 2048) (q : Fin 128), j = ix2 r q := ⟨j 0, j 1, eq_ix2 j⟩
  obtain ⟨p, k, rfl⟩ := lane_surj q
  refine Eq.trans ?_ ((congrArg (val_main_v139 (F := Ideal) (A1 m c) (A2 m c) (A3 m c)) (emb4 t r p k)).trans (v139_apply _ _ _ hd' hw hs r (hd t p) k _ rfl)).symm
  refine (cut4 t _ _).trans ?_
  refine (pay1_apply _ _ _ r p k).trans ?_
  rw [name31, show k0_pay29 (F := Ideal) (grid0.coords t) (iblk m c 0 t) (iblk m c 1 t) (iblk m c 2 t) (iblk m c 3 t) = k0_pay9 (k0_pay3 (grid0.coords t)) from rfl,
    show k0_pay30 (F := Ideal) (grid0.coords t) (iblk m c 0 t) (iblk m c 1 t) (iblk m c 2 t) (iblk m c 3 t) = k0_pay10 (View.ld (iblk m c 2 t) r0_1) (View.ld (iblk m c 2 t) r0_2) from rfl]
  refine congrArg₂ (HSub.hSub (α := EReal) (β := EReal) (γ := EReal)) ?_ (ddblk m c t _ _ (ld_head0 _) (ld_head1 _) r p k)
  match p with
  | 0 => exact (pay21_apply _ _ _ _ r (lane 0 k)).trans (congrArg₂ (fun W f => fwd W f r) (pick t 0).symm (eblk m c t _ _ (ld_head0 _) (ld_head1 _) 0 k))
  | 1 => exact (pay22_apply _ _ _ _ r (lane 1 k)).trans (congrArg₂ (fun W f => fwd W f r) (pick t 1).symm (eblk m c t _ _ (ld_head0 _) (ld_head1 _) 1 k))

/-- What point `t` writes back of the weights' gradient is that block of the reference's array. -/
theorem flushed5_eq (hx : ∀ h k s, IsR (pcol (A0 m c) h k s)) (t : Fin cfg0.N) :
    (dats m 0 c).flushed 5 t = ((cfg0.win 5).blk t).view.read (Elt Ideal) (val_main_v83 (F := Ideal) (A0 m c) (A1 m c) (A3 m c)) := by
  rw [flushed5]
  frame_out
  funext j
  obtain ⟨p, a, b, rfl⟩ : ∃ (p : Fin 2) (a b : Fin 64), j = ix3 p a b := ⟨j 0, j 1, j 2, eq_ix3 j⟩
  refine Eq.trans ?_ ((congrArg (val_main_v83 (F := Ideal) (A0 m c) (A1 m c) (A3 m c)) (emb5 t p a b)).trans (v83_apply _ _ _ hx (hd t p) a b)).symm
  refine (cut5 t _ _).trans ?_
  refine View.canon_eq_of_allAt _ (ix3 p a b) _ (View.cover_of_tiled_head _ _ _ rfl _) ?_
  refine View.allAt_cons_unit _ _ _ _ _ (fun x hx => ?_) (View.allAt_cons_unit _ _ _ _ _ (fun x hx => ?_) (View.allAt_nil _ _))
  · have h0 : p.val = 1 + (x 0).val := hx 0
    have h1 : a.val = 0 + (x 1).val := hx 1
    have h2 : b.val = 0 + (x 2).val := hx 2
    obtain rfl : p = 1 := Fin.ext (by show p.val = 1; omega)
    have hx0 : (x 0).val < 1 := (x 0).isLt
    rw [show x = (ix3 0 a b : S1x64x64.Idx) from funext fun d => Fin.ext (by match d with | ⟨0, _⟩ => show (x 0).val = 0; omega | ⟨1, _⟩ => show (x 1).val = a.val; omega | ⟨2, _⟩ => show (x 2).val = b.val; omega)]
    exact (pay16_apply _ a b).trans ((pay14_apply _ _ _ _ _ _ _ _ _ _ _).trans (gblk m c t 1 a b))
  · have h0 : p.val = 0 + (x 0).val := hx 0
    have h1 : a.val = 0 + (x 1).val := hx 1
    have h2 : b.val = 0 + (x 2).val := hx 2
    have hx0 : (x 0).val < 1 := (x 0).isLt
    obtain rfl : p = 0 := Fin.ext (by show p.val = 0; omega)
    rw [show x = (ix3 0 a b : S1x64x64.Idx) from funext fun d => Fin.ext (by match d with | ⟨0, _⟩ => show (x 0).val = 0; omega | ⟨1, _⟩ => show (x 1).val = a.val; omega | ⟨2, _⟩ => show (x 2).val = b.val; omega)]
    exact (pay15_apply _ _ _ _ _ _ _ _ _ a b).trans ((pay14_apply _ _ _ _ _ _ _ _ _ _ _).trans (gblk m c t 0 a b))

/-- What point `t` writes back of the scale's gradient is that block of the reference's array. -/
theorem flushed6_eq (hx : ∀ h k s, IsR (pcol (A0 m c) h k s)) (t : Fin cfg0.N) :
    (dats m 0 c).flushed 6 t = ((cfg0.win 6).blk t).view.read (Elt Ideal) (val_main_v140 (F := Ideal) (A0 m c) (A1 m c) (A2 m c)) := by
  rw [flushed6]
  frame_out
  funext j
  obtain ⟨u, q, rfl⟩ : ∃ (u : Fin 1) (q : Fin 128), j = ix2 u q := ⟨j 0, j 1, eq_ix2 j⟩
  obtain ⟨p, l, rfl⟩ := lane_surj q
  obtain rfl : u = 0 := Subsingleton.elim _ _
  refine Eq.trans ?_ ((congrArg (val_main_v140 (F := Ideal) (A0 m c) (A1 m c) (A2 m c)) (emb6 t p l)).trans (v140_apply _ _ _ hx (hd t p) l _ rfl)).symm
  refine (cut6 t _ _).trans ?_
  refine (pay12_apply _ _ _ _ _ _ _ _ _ _ (lane p l)).trans ?_
  refine Finset.sum_congr rfl fun r _ => congrArg₂ (HMul.hMul (α := EReal) (β := EReal) (γ := EReal)) (iblk1_apply m c t r p l) (sum_head p _ _ (fun k => ?_) fun p' k hp => ?_)
  · refine congrArg₂ (HMul.hMul (α := EReal) (β := EReal) (γ := EReal)) ?_ ((wblk m c t _ _ (ld_head0 _) (ld_head1 _) p p k l).trans (if_pos rfl))
    exact dN_apply m c t r p k
  · exact (congrArg (fun z : EReal => _ * z) ((wblk m c t _ _ (ld_head0 _) (ld_head1 _) p' p k l).trans (if_neg hp))).trans (mul_zero _)

end Run

/-- Every element of the columns' gradient is in some point's block. -/
theorem cover4 (i : S2048x256.Idx) : ∃ t : Fin cfg0.N, (cfg0.win 4).flush t = true ∧ i ∈ ((cfg0.win 4).blk t).view.set := by
  obtain ⟨r, l, rfl⟩ : ∃ (r : Fin 2048) (l : Fin 256), i = ix2 r l := ⟨i 0, i 1, eq_ix2 i⟩
  refine ⟨(⟨l.val / 128, by show l.val / 128 < 2; omega⟩ : Fin cfg0.N), flush0_4 _, ?_⟩
  have h := ((cfg0.win 4).blk (⟨l.val / 128, by show l.val / 128 < 2; omega⟩ : Fin cfg0.N)).view.emb_mem_set (ix2 r (lane ⟨l.val % 128 / 64, by omega⟩ ⟨l.val % 64, by omega⟩))
  rw [emb4] at h
  have e : (⟨(hd (⟨l.val / 128, by show l.val / 128 < 2; omega⟩ : Fin cfg0.N) ⟨l.val % 128 / 64, by omega⟩).val * 64 + l.val % 64, by omega⟩ : Fin 256) = l :=
    Fin.ext (by show (l.val / 128 * 2 + l.val % 128 / 64) * 64 + l.val % 64 = l.val; omega)
  rwa [e] at h
/-- Every element of the weights' gradient is in some point's block. -/
theorem cover5 (i : S4x64x64.Idx) : ∃ t : Fin cfg0.N, (cfg0.win 5).flush t = true ∧ i ∈ ((cfg0.win 5).blk t).view.set := by
  obtain ⟨h, a, b, rfl⟩ : ∃ (h : Fin 4) (a b : Fin 64), i = ix3 h a b := ⟨i 0, i 1, i 2, eq_ix3 i⟩
  refine ⟨(⟨h.val / 2, by show h.val / 2 < 2; omega⟩ : Fin cfg0.N), flush0_5 _, ?_⟩
  have q := ((cfg0.win 5).blk (⟨h.val / 2, by show h.val / 2 < 2; omega⟩ : Fin cfg0.N)).view.emb_mem_set (ix3 ⟨h.val % 2, by omega⟩ a b)
  rwa [emb5, show hd (⟨h.val / 2, by show h.val / 2 < 2; omega⟩ : Fin cfg0.N) ⟨h.val % 2, by omega⟩ = h from Fin.ext (by show h.val / 2 * 2 + h.val % 2 = h.val; omega)] at q
/-- Every element of the scale's gradient is in some point's block. -/
theorem cover6 (i : S1x256.Idx) : ∃ t : Fin cfg0.N, (cfg0.win 6).flush t = true ∧ i ∈ ((cfg0.win 6).blk t).view.set := by
  obtain ⟨r, l, rfl⟩ : ∃ (r : Fin 1) (l : Fin 256), i = ix2 r l := ⟨i 0, i 1, eq_ix2 i⟩
  obtain rfl : r = 0 := Subsingleton.elim _ _
  refine ⟨(⟨l.val / 128, by show l.val / 128 < 2; omega⟩ : Fin cfg0.N), flush0_6 _, ?_⟩
  have h := ((cfg0.win 6).blk (⟨l.val / 128, by show l.val / 128 < 2; omega⟩ : Fin cfg0.N)).view.emb_mem_set (ix2 0 (lane ⟨l.val % 128 / 64, by omega⟩ ⟨l.val % 64, by omega⟩))
  rw [emb6] at h
  have e : (⟨(hd (⟨l.val / 128, by show l.val / 128 < 2; omega⟩ : Fin cfg0.N) ⟨l.val % 128 / 64, by omega⟩).val * 64 + l.val % 64, by omega⟩ : Fin 256) = l :=
    Fin.ext (by show (l.val / 128 * 2 + l.val % 128 / 64) * 64 + l.val % 64 = l.val; omega)
  rwa [e] at h

/-- The array of the columns' gradient after the run is the reference's. -/
theorem final4 (c : Dev nD) (hd' : ∀ h l s, IsR (dyc (A1 m c) h l s)) (hw : ∀ i, IsR (A2 m c i)) (hs : ∀ i, IsR (A3 m c i)) :
    (dats m 0 c).arrAt 4 cfg0.N = val_main_v139 (F := Ideal) (A1 m c) (A2 m c) (A3 m c) :=
  (dats m 0 c).arrAt_eq_of_cover 4 _ (fun t _ => flushed4_eq m c hd' hw hs t) cover4
/-- The array of the weights' gradient after the run is the reference's. -/
theorem final5 (c : Dev nD) (hx : ∀ h k s, IsR (pcol (A0 m c) h k s)) : (dats m 0 c).arrAt 5 cfg0.N = val_main_v83 (F := Ideal) (A0 m c) (A1 m c) (A3 m c) :=
  (dats m 0 c).arrAt_eq_of_cover 5 _ (fun t _ => flushed5_eq m c hx t) cover5
/-- The array of the scale's gradient after the run is the reference's. -/
theorem final6 (c : Dev nD) (hx : ∀ h k s, IsR (pcol (A0 m c) h k s)) : (dats m 0 c).arrAt 6 cfg0.N = val_main_v140 (F := Ideal) (A0 m c) (A1 m c) (A2 m c) :=
  (dats m 0 c).arrAt_eq_of_cover 6 _ (fun t _ => flushed6_eq m c hx t) cover6

/-- What the precondition says: the pooled columns, the given gradient there, the weights and the scale hold real numbers. -/
theorem reals_of_pre (x0 : FVec Ideal S2048x2176 .f32) (x1 : FVec Ideal S2048x1024 .f32) (x2 : FVec Ideal S4x64x64 .f32) (x3 : FVec Ideal S256 .f32)
    (h : Cert.Pre_real_pooled_back.fn (F := Ideal) x0 x1 x2 x3 = (fun _ => 1#1)) :
    (∀ g k s, IsR (pcol x0 g k s)) ∧ (∀ g l s, IsR (dyc x1 g l s)) ∧ (∀ i, IsR (x2 i)) ∧ ∀ i, IsR (x3 i) := by
  haveI : Subsingleton Cert.Pre_real_pooled_back.S_.Idx := ⟨fun a b => funext fun d => d.elim0⟩
  have e := congrFun h (fun d => d.elim0 : Cert.Pre_real_pooled_back.S_.Idx)
  unfold Cert.Pre_real_pooled_back.fn Cert.Pre_real_pooled_back.fn_part1 at e
  dsimp only at e
  obtain ⟨e1, e4⟩ := Cert.Proof.Mlp.andi_one _ _ _ e
  obtain ⟨e2, e3⟩ := Cert.Proof.Mlp.andi_one _ _ _ e1
  obtain ⟨ea, eb⟩ := Cert.Proof.Mlp.andi_one _ _ _ e2
  refine ⟨fun g k s => ?_, fun g l s => ?_, fun i => Cert.Proof.Mlp.isR_of_all _ _ (fun _ => rfl) _ _ _ _ e3 i, fun i => Cert.Proof.Mlp.isR_of_all _ _ (fun _ => rfl) _ _ _ _ e4 i⟩
  · have hr := Cert.Proof.Mlp.isR_of_all _ _ (fun _ => rfl) _ _ _ _ ea (ix2 s ⟨g.val * 64 + k.val, by omega⟩)
    unfold pcol
    revert hr
    pointwise
    exact id
  · have hr := Cert.Proof.Mlp.isR_of_all _ _ (fun _ => rfl) _ _ _ _ eb (ix2 s ⟨g.val * 64 + l.val, by omega⟩)
    unfold dyc
    revert hr
    pointwise
    exact id

end Cert.Proof.PoolB
-- ==== Proof.MlpF.lean ====
module

public import proofs.«01_k».proof.Proof.Gen.MlpFFwdIdeal.Value
public import proofs.«01_k».proof.Proof.Gen.MlpFRefIdeal.Read
public import Idealize.ShloMosaic.Lib.Pipeline.ValueKit
public import Idealize.ShloMosaic.Lib.Pointwise

@[expose] public section

set_option maxRecDepth 16384

noncomputable section

namespace Cert.Proof.MlpF

open Cert.MlpFFwdIdeal Cert.MlpFFwdIdeal.Gen Cert.MlpFFwdIdeal.Value Idealize.ShloMosaic Idealize.ShloMosaic.TcCoe Idealize.SL.Sem
open Idealize.ShloMosaic.Tactic
open Cert.MlpFRefIdeal.Read

variable (m : (ℓ : Loc nD τ sig) → Buf (Elt Ideal) ℓ) (ρ : Dev nD → PrngReg)
/-- The block that each window works on at a grid point, in blocks along each axis. -/
theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0
    ∧ win0_10.index t (0 : Fin 2) = t.val
    ∧ win0_10.index t (1 : Fin 2) = 0
    ∧ t.val < 8 :=
  (by decide +kernel : ∀ t : Fin grid0.N, _)

/-- The normalised rows that the point works on. -/
theorem iblk0_apply (c : Dev nD) (t : Fin cfg0.N) (r : Fin 256) (l : Fin 1024) :
    iblk m c 0 t (ix2 r l) = m ((c : Thread nD τ).loc main_arg0) (ix2 ⟨t.val * 256 + r.val, by have := (idx t).2.2.2.2.2.2.2.2.2.2.2.2.2.2.2.2.2.2.2.2.2.2; omega⟩ l) := by
  show V m c main_arg0 (((cfg0.win 0).blk t).view.emb (ix2 r l)) = _
  rw [V_main_arg0]
  obtain ⟨e0, e1, -⟩ := idx t
  congr 1; funext a; apply Fin.ext
  match a with
  | ⟨0, _⟩ => show win0_0.index t (0 : Fin 2) * 256 + 1 * r.val = t.val * 256 + r.val; omega
  | ⟨1, _⟩ => show win0_0.index t (1 : Fin 2) * 1024 + 1 * l.val = l.val; omega

/-- The same whole array at every point. -/
theorem iblk1_apply (c : Dev nD) (t : Fin cfg0.N) (r : Fin 1) (l : Fin 1024) :
    iblk m c 1 t (ix2 r l) = m ((c : Thread nD τ).loc main_arg1) (ix2 r l) := by
  show V m c main_arg1 (((cfg0.win 1).blk t).view.emb (ix2 r l)) = _
  rw [V_main_arg1]
  obtain ⟨-, -, e0, e1, -⟩ := idx t
  congr 1; funext a; apply Fin.ext
  match a with
  | ⟨0, _⟩ => show win0_1.index t (0 : Fin 2) * 1 + 1 * r.val = r.val; omega
  | ⟨1, _⟩ => show win0_1.index t (1 : Fin 2) * 1024 + 1 * l.val = l.val; omega

/-- The same whole array at every point. -/
theorem iblk2_apply (c : Dev nD) (t : Fin cfg0.N) (r : Fin 1) (l : Fin 1024) :
    iblk m c 2 t (ix2 r l) = m ((c : Thread nD τ).loc main_arg2) (ix2 r l) := by
  show V m c main_arg2 (((cfg0.win 2).blk t).view.emb (ix2 r l)) = _
  rw [V_main_arg2]
  obtain ⟨-, -, -, -, e0, e1, -⟩ := idx t
  congr 1; funext a; apply Fin.ext
  match a with
  | ⟨0, _⟩ => show win0_2.index t (0 : Fin 2) * 1 + 1 * r.val = r.val; omega
  | ⟨1, _⟩ => show win0_2.index t (1 : Fin 2) * 1024 + 1 * l.val = l.val; omega

/-- The same whole array at every point. -/
theorem iblk3_apply (c : Dev nD) (t : Fin cfg0.N) (r : Fin 1024) (l : Fin 5632) :
    iblk m c 3 t (ix2 r l) = m ((c : Thread nD τ).loc main_arg3) (ix2 r l) := by
  show V m c main_arg3 (((cfg0.win 3).blk t).view.emb (ix2 r l)) = _
  rw [V_main_arg3]
  obtain ⟨-, -, -, -, -, -, e0, e1, -⟩ := idx t
  congr 1; funext a; apply Fin.ext
  match a with
  | ⟨0, _⟩ => show win0_3.index t (0 : Fin 2) * 1024 + 1 * r.val = r.val; omega
  | ⟨1, _⟩ => show win0_3.index t (1 : Fin 2) * 5632 + 1 * l.val = l.val; omega

/-- The same whole array at every point. -/
theorem iblk4_apply (c : Dev nD) (t : Fin cfg0.N) (r : Fin 2816) (l : Fin 1024) :
    iblk m c 4 t (ix2 r l) = m ((c : Thread nD τ).loc main_arg4) (ix2 r l) := by
  show V m c main_arg4 (((cfg0.win 4).blk t).view.emb (ix2 r l)) = _
  rw [V_main_arg4]
  obtain ⟨-, -, -, -, -, -, -, -, e0, e1, -⟩ := idx t
  congr 1; funext a; apply Fin.ext
  match a with
  | ⟨0, _⟩ => show win0_4.index t (0 : Fin 2) * 2816 + 1 * r.val = r.val; omega
  | ⟨1, _⟩ => show win0_4.index t (1 : Fin 2) * 1024 + 1 * l.val = l.val; omega

/-- The same whole array at every point. -/
theorem iblk5_apply (c : Dev nD) (t : Fin cfg0.N) (r : Fin 1) (l : Fin 1024) :
    iblk m c 5 t (ix2 r l) = m ((c : Thread nD τ).loc main_arg5) (ix2 r l) := by
  show V m c main_arg5 (((cfg0.win 5).blk t).view.emb (ix2 r l)) = _
  rw [V_main_arg5]
  obtain ⟨-, -, -, -, -, -, -, -, -, -, e0, e1, -⟩ := idx t
  congr 1; funext a; apply Fin.ext
  match a with
  | ⟨0, _⟩ => show win0_5.index t (0 : Fin 2) * 1 + 1 * r.val = r.val; omega
  | ⟨1, _⟩ => show win0_5.index t (1 : Fin 2) * 1024 + 1 * l.val = l.val; omega

/-- The same whole array at every point. -/
theorem iblk6_apply (c : Dev nD) (t : Fin cfg0.N) (r : Fin 1) (l : Fin 1024) :
    iblk m c 6 t (ix2 r l) = m ((c : Thread nD τ).loc main_arg6) (ix2 r l) := by
  show V m c main_arg6 (((cfg0.win 6).blk t).view.emb (ix2 r l)) = _
  rw [V_main_arg6]
  obtain ⟨-, -, -, -, -, -, -, -, -, -, -, -, e0, e1, -⟩ := idx t
  congr 1; funext a; apply Fin.ext
  match a with
  | ⟨0, _⟩ => show win0_6.index t (0 : Fin 2) * 1 + 1 * r.val = r.val; omega
  | ⟨1, _⟩ => show win0_6.index t (1 : Fin 2) * 1024 + 1 * l.val = l.val; omega

/-- What the kernel's body reads at one grid point: rows `R` of the first array, and the others whole. -/
structure Blk (x0 : Vec Ideal S2048x1024 .f32) (x1 x2 : Vec Ideal S1x1024 .f32) (x3 : Vec Ideal S1024x5632 .bf16) (x4 : Vec Ideal S2816x1024 .bf16)
    (x5 x6 : Vec Ideal S1x1024 .f32) (R : Fin 256 → Fin 2048) where
  b0 : Vec Ideal S256x1024 .f32
  b1 : Vec Ideal S1x1024 .f32
  b2 : Vec Ideal S1x1024 .f32
  b3 : Vec Ideal S1024x5632 .bf16
  b4 : Vec Ideal S2816x1024 .bf16
  b5 : Vec Ideal S1x1024 .f32
  b6 : Vec Ideal S1x1024 .f32
  e0 : ∀ r l, b0 (ix2 r l) = x0 (ix2 (R r) l)
  e1 : ∀ r l, b1 (ix2 r l) = x1 (ix2 r l)
  e2 : ∀ r l, b2 (ix2 r l) = x2 (ix2 r l)
  e3 : ∀ r l, b3 (ix2 r l) = x3 (ix2 r l)
  e4 : ∀ r l, b4 (ix2 r l) = x4 (ix2 r l)
  e5 : ∀ r l, b5 (ix2 r l) = x5 (ix2 r l)
  e6 : ∀ r l, b6 (ix2 r l) = x6 (ix2 r l)

section Pay

variable {x0 : Vec Ideal S2048x1024 .f32} {x1 x2 : Vec Ideal S1x1024 .f32} {x3 : Vec Ideal S1024x5632 .bf16} {x4 : Vec Ideal S2816x1024 .bf16}
  {x5 x6 : Vec Ideal S1x1024 .f32} {R : Fin 256 → Fin 2048} (B : Blk x0 x1 x2 x3 x4 x5 x6 R)

/-- The column of a gate. -/
def lo (l : Fin 2816) : Fin 5632 := ⟨l.val, by omega⟩
/-- The column of a value. -/
def hi (l : Fin 2816) : Fin 5632 := ⟨2816 + l.val, by omega⟩

/-- The scaled and shifted rows are the reference's. -/
theorem pay2_eq (r : Fin 256) (l : Fin 1024) :
    k0_pay2 (F := Ideal) B.b0 B.b1 B.b2 (ix2 r l) = val_main_v3 (F := Ideal) x0 x1 x2 (ix2 (R r) l) := by
  unfold k0_pay2 val_main_v3 val_main_v2 val_main_v1 val_main_v0
  pointwise
  rw [B.e0, B.e1, B.e2]

/-- The gates and values are the reference's. -/
theorem pay3_eq (r : Fin 256) (l : Fin 5632) :
    k0_pay3 (F := Ideal) B.b0 B.b1 B.b2 B.b3 (ix2 r l) = val_main_v5 (F := Ideal) x0 x1 x2 x3 (ix2 (R r) l) := by
  unfold k0_pay3 val_main_v5 val_main_v4
  pointwise
  refine Finset.sum_congr rfl fun k _ => ?_
  exact congrArg₂ (HMul.hMul (α := EReal) (β := EReal) (γ := EReal)) (pay2_eq B r k) (B.e3 _ _)

/-- The gated values from the gates and values `g`. -/
def act (g : Fin 5632 → EReal) (k : Fin 2816) : EReal :=
  HMul.hMul (α := EReal) (β := EReal) (γ := EReal) (HMul.hMul (α := EReal) (β := EReal) (γ := EReal) (g (lo k)) (Ideal.logistic (g (lo k)))) (g (hi k))

/-- The reference's gated values. -/
theorem ref9_eq (r : Fin 2048) (k : Fin 2816) :
    val_main_v9 (F := Ideal) x0 x1 x2 x3 (ix2 r k) = act (fun l => val_main_v5 (F := Ideal) x0 x1 x2 x3 (ix2 r l)) k := by
  unfold val_main_v9 val_main_v8 val_main_call0_v5 val_main_call0_v4 val_main_call0_v3 val_main_call0_v2 val_main_call0_v1 val_main_call0_v0 val_main_call0_cst val_main_call0_cst_0 val_main_v7 val_main_v6
  generalize val_main_v5 (F := Ideal) x0 x1 x2 x3 = g
  pointwise
  rfl

/-- The sum that the norm is taken of, from the scaled row `h`, the gates and values `g` and the weight's column `w`. -/
def zf (h : EReal) (g : Fin 5632 → EReal) (w : Fin 2816 → EReal) : EReal :=
  HMul.hMul (α := EReal) (β := EReal) (γ := EReal) (Ideal.ofBits .f32 0x3FD744FD#32) h + ∑ k : Fin 2816, HMul.hMul (α := EReal) (β := EReal) (γ := EReal) (act g k) (w k)

/-- The reference's sum. -/
theorem ref14_eq (r : Fin 2048) (l : Fin 1024) :
    val_main_v14 (F := Ideal) x0 x1 x2 x3 x4 (ix2 r l) = zf (val_main_v3 (F := Ideal) x0 x1 x2 (ix2 r l)) (fun l => val_main_v5 (F := Ideal) x0 x1 x2 x3 (ix2 r l)) (fun k => x4 (ix2 k l)) := by
  unfold val_main_v14 val_main_v13 val_main_v12 val_main_cst val_main_v11 val_main_v10
  unfold zf
  simp only [← ref9_eq]
  pointwise

/-- The deviation of a row `z` from its mean. -/
def dev (z : Fin 1024 → EReal) (l : Fin 1024) : EReal := z l - Ideal.div (∑ j : Fin 1024, z j) (Ideal.ofBits .f32 0x44800000#32)

/-- The reciprocal deviation of a row, from its deviations. -/
def rs (d : Fin 1024 → EReal) : EReal :=
  Ideal.rsqrt (Ideal.div (∑ j : Fin 1024, HMul.hMul (α := EReal) (β := EReal) (γ := EReal) (d j) (d j)) (Ideal.ofBits .f32 0x44800000#32) + Ideal.ofBits .f32 0x3727C5AC#32)

/-- The reference's deviation. -/
theorem ref30_eq (r : Fin 2048) (l : Fin 1024) :
    val_main_v30 (F := Ideal) x0 x1 x2 x3 x4 (ix2 r l) = dev (fun j => val_main_v14 (F := Ideal) x0 x1 x2 x3 x4 (ix2 r j)) l := by
  unfold val_main_v30 val_main_v29 val_main_v18 val_main_v17 val_main_cst_1 val_main_v16 val_main_v15 val_main_cst_0 dev
  pointwise

/-- The reference's reciprocal deviation. -/
theorem ref28_eq (r : Fin 2048) (o : Fin 1) :
    val_main_v28 (F := Ideal) x0 x1 x2 x3 x4 (ix2 r o) = rs (fun j => val_main_v30 (F := Ideal) x0 x1 x2 x3 x4 (ix2 r j)) := by
  have e : ∀ j, val_main_v30 (F := Ideal) x0 x1 x2 x3 x4 (ix2 r j) = val_main_v20 (F := Ideal) x0 x1 x2 x3 x4 (ix2 r j) := fun _ => rfl
  simp only [e]
  unfold val_main_v28 val_main_v27 val_main_v26 val_main_cst_4 val_main_v25 val_main_v24 val_main_cst_3 val_main_v23 val_main_v22 val_main_cst_2 val_main_v21 rs
  pointwise

/-- The reference's normalised row. -/
theorem ref32_eq (r : Fin 2048) (l : Fin 1024) :
    val_main_v32 (F := Ideal) x0 x1 x2 x3 x4 (ix2 r l) = HMul.hMul (α := EReal) (β := EReal) (γ := EReal) (val_main_v30 (F := Ideal) x0 x1 x2 x3 x4 (ix2 r l)) (val_main_v28 (F := Ideal) x0 x1 x2 x3 x4 (ix2 r 0)) := by
  unfold val_main_v32 val_main_v31
  pointwise

/-- The reference's output row. -/
theorem ref36_eq (r : Fin 2048) (l : Fin 1024) :
    val_main_v36 (F := Ideal) x0 x1 x2 x3 x4 x5 x6 (ix2 r l) = HMul.hMul (α := EReal) (β := EReal) (γ := EReal) (val_main_v32 (F := Ideal) x0 x1 x2 x3 x4 (ix2 r l)) (x5 (ix2 0 l)) + x6 (ix2 0 l) := by
  unfold val_main_v36 val_main_v35 val_main_v34 val_main_v33
  pointwise

/-- A block's deviations, from its scaled rows and its gates and values. -/
theorem pay4_dev (b0 : Vec Ideal S256x1024 .f32) (b1 b2 : Vec Ideal S1x1024 .f32) (b3 : Vec Ideal S1024x5632 .bf16) (b4 : Vec Ideal S2816x1024 .bf16) (r : Fin 256) (l : Fin 1024) :
    k0_pay4 (F := Ideal) b0 b1 b2 b3 b4 (ix2 r l)
      = dev (fun j => zf (k0_pay2 (F := Ideal) b0 b1 b2 (ix2 r j)) (fun l => k0_pay3 (F := Ideal) b0 b1 b2 b3 (ix2 r l)) (fun k => b4 (ix2 k j))) l := by
  unfold k0_pay4
  generalize k0_pay3 (F := Ideal) b0 b1 b2 b3 = g
  generalize k0_pay2 (F := Ideal) b0 b1 b2 = h
  unfold dev zf act
  pointwise
  rfl

/-- A block's deviations are the reference's. -/
theorem pay4_eq (r : Fin 256) (l : Fin 1024) :
    k0_pay4 (F := Ideal) B.b0 B.b1 B.b2 B.b3 B.b4 (ix2 r l) = val_main_v30 (F := Ideal) x0 x1 x2 x3 x4 (ix2 (R r) l) := by
  rw [pay4_dev, ref30_eq]
  simp only [ref14_eq, pay2_eq, pay3_eq, B.e4]

/-- A block's reciprocal deviations are the reference's. -/
theorem pay5_eq (r : Fin 256) (o : Fin 1) :
    k0_pay5 (F := Ideal) B.b0 B.b1 B.b2 B.b3 B.b4 (ix2 r o) = val_main_v28 (F := Ideal) x0 x1 x2 x3 x4 (ix2 (R r) o) := by
  rw [ref28_eq]
  simp only [← pay4_eq B]
  unfold k0_pay5
  generalize k0_pay4 (F := Ideal) B.b0 B.b1 B.b2 B.b3 B.b4 = d
  unfold rs
  pointwise

/-- A block's normalised rows are the reference's. -/
theorem pay6_eq (r : Fin 256) (l : Fin 1024) :
    k0_pay6 (F := Ideal) B.b0 B.b1 B.b2 B.b3 B.b4 (ix2 r l) = val_main_v32 (F := Ideal) x0 x1 x2 x3 x4 (ix2 (R r) l) := by
  rw [ref32_eq, ← pay4_eq B, ← pay5_eq B]
  unfold k0_pay6
  generalize k0_pay4 (F := Ideal) B.b0 B.b1 B.b2 B.b3 B.b4 = d
  generalize k0_pay5 (F := Ideal) B.b0 B.b1 B.b2 B.b3 B.b4 = q
  pointwise

/-- A block's output rows are the reference's. -/
theorem pay1_eq (r : Fin 256) (l : Fin 1024) :
    k0_pay1 (F := Ideal) (k0_pay6 (F := Ideal) B.b0 B.b1 B.b2 B.b3 B.b4) B.b5 B.b6 (ix2 r l) = val_main_v36 (F := Ideal) x0 x1 x2 x3 x4 x5 x6 (ix2 (R r) l) := by
  rw [ref36_eq, ← pay6_eq B, ← B.e5, ← B.e6]
  generalize k0_pay6 (F := Ideal) B.b0 B.b1 B.b2 B.b3 B.b4 = d
  unfold k0_pay1
  pointwise

end Pay

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)

/-- What the body reads at grid point `t`. -/
def B (c : Dev nD) (t : Fin cfg0.N) : Blk (A0 m c) (A1 m c) (A2 m c) (A3 m c) (A4 m c) (A5 m c) (A6 m c)
    (fun r => ⟨t.val * 256 + r.val, by have := (idx t).2.2.2.2.2.2.2.2.2.2.2.2.2.2.2.2.2.2.2.2.2.2; omega⟩) where
  b0 := iblk m c 0 t
  b1 := iblk m c 1 t
  b2 := iblk m c 2 t
  b3 := iblk m c 3 t
  b4 := iblk m c 4 t
  b5 := iblk m c 5 t
  b6 := iblk m c 6 t
  e0 := iblk0_apply m c t
  e1 := iblk1_apply m c t
  e2 := iblk2_apply m c t
  e3 := iblk3_apply m c t
  e4 := iblk4_apply m c t
  e5 := iblk5_apply m c t
  e6 := iblk6_apply m c t

/-- Where an element of a block of the gates and values lies in the array. -/
theorem emb7 (t : Fin cfg0.N) (r : Fin 256) (l : Fin 5632) :
    ((cfg0.win 7).blk t).view.emb (ix2 r l) = (ix2 ⟨t.val * 256 + r.val, by have := (idx t).2.2.2.2.2.2.2.2.2.2.2.2.2.2.2.2.2.2.2.2.2.2; omega⟩ l : S2048x5632.Idx) := by
  obtain ⟨-, -, -, -, -, -, -, -, -, -, -, -, -, -, e0, e1, -⟩ := idx t
  funext a; apply Fin.ext
  match a with
  | ⟨0, _⟩ => show win0_7.index t (0 : Fin 2) * 256 + 1 * r.val = t.val * 256 + r.val; omega
  | ⟨1, _⟩ => show win0_7.index t (1 : Fin 2) * 5632 + 1 * l.val = l.val; omega

/-- No block sticks out of the array: a block is written back whole. -/
theorem cut7 (t : Fin cfg0.N) (X : Vec Ideal S256x5632 .f32) (j : S256x5632.Idx) : (cfg0.win 7).cut (grid0.coords t) X j = X j := rfl

/-- What point `t` writes back of the gates and values is that block of the reference's array. -/
theorem flushed7_eq (c : Dev nD) (t : Fin cfg0.N) :
    (dats m 0 c).flushed 7 t = ((cfg0.win 7).blk t).view.read (Elt Ideal) (val_main_v5 (F := Ideal) (A0 m c) (A1 m c) (A2 m c) (A3 m c)) := by
  rw [flushed7_A]
  frame_out
  funext j
  obtain ⟨r, l, rfl⟩ : ∃ (r : Fin 256) (l : Fin 5632), j = ix2 r l := ⟨j 0, j 1, eq_ix2 j⟩
  refine Eq.trans ?_ (congrArg (val_main_v5 (F := Ideal) (A0 m c) (A1 m c) (A2 m c) (A3 m c)) (emb7 t r l)).symm
  refine (cut7 t _ _).trans ?_
  exact pay3_eq (B m c t) r l

/-- Every element of the array is in some point's block. -/
theorem cover7 (i : S2048x5632.Idx) : ∃ t : Fin cfg0.N, (cfg0.win 7).flush t = true ∧ i ∈ ((cfg0.win 7).blk t).view.set := by
  obtain ⟨r, l, rfl⟩ : ∃ (r : Fin 2048) (l : Fin 5632), i = ix2 r l := ⟨i 0, i 1, eq_ix2 i⟩
  have hv := r.isLt
  refine ⟨(⟨r.val / 256, by show r.val / 256 < 8; omega⟩ : Fin cfg0.N), flush0_7 _, ?_⟩
  have h := ((cfg0.win 7).blk (⟨r.val / 256, by show r.val / 256 < 8; omega⟩ : Fin cfg0.N)).view.emb_mem_set (ix2 ⟨r.val % 256, by omega⟩ l)
  rw [emb7] at h
  have e : ∀ p, (⟨r.val / 256 * 256 + r.val % 256, p⟩ : Fin 2048) = r := fun p => Fin.ext (by show r.val / 256 * 256 + r.val % 256 = r.val; omega)
  simpa only [e] using h

/-- The array of the gates and values after the run is the reference's. -/
theorem final7 (c : Dev nD) : (dats m 0 c).arrAt 7 cfg0.N = val_main_v5 (F := Ideal) (A0 m c) (A1 m c) (A2 m c) (A3 m c) :=
  (dats m 0 c).arrAt_eq_of_cover 7 _ (fun t _ => flushed7_eq m c t) cover7

/-- Where an element of a block of the normalised rows lies in the array. -/
theorem emb8 (t : Fin cfg0.N) (r : Fin 256) (l : Fin 1024) :
    ((cfg0.win 8).blk t).view.emb (ix2 r l) = (ix2 ⟨t.val * 256 + r.val, by have := (idx t).2.2.2.2.2.2.2.2.2.2.2.2.2.2.2.2.2.2.2.2.2.2; omega⟩ l : S2048x1024.Idx) := by
  obtain ⟨-, -, -, -, -, -, -, -, -, -, -, -, -, -, -, -, e0, e1, -⟩ := idx t
  funext a; apply Fin.ext
  match a with
  | ⟨0, _⟩ => show win0_8.index t (0 : Fin 2) * 256 + 1 * r.val = t.val * 256 + r.val; omega
  | ⟨1, _⟩ => show win0_8.index t (1 : Fin 2) * 1024 + 1 * l.val = l.val; omega

/-- No block sticks out of the array: a block is written back whole. -/
theorem cut8 (t : Fin cfg0.N) (X : Vec Ideal S256x1024 .f32) (j : S256x1024.Idx) : (cfg0.win 8).cut (grid0.coords t) X j = X j := rfl

/-- What point `t` writes back of the normalised rows is that block of the reference's array. -/
theorem flushed8_eq (c : Dev nD) (t : Fin cfg0.N) :
    (dats m 0 c).flushed 8 t = ((cfg0.win 8).blk t).view.read (Elt Ideal) (val_main_v32 (F := Ideal) (A0 m c) (A1 m c) (A2 m c) (A3 m c) (A4 m c)) := by
  rw [flushed8_A]
  frame_out
  funext j
  obtain ⟨r, l, rfl⟩ : ∃ (r : Fin 256) (l : Fin 1024), j = ix2 r l := ⟨j 0, j 1, eq_ix2 j⟩
  refine Eq.trans ?_ (congrArg (val_main_v32 (F := Ideal) (A0 m c) (A1 m c) (A2 m c) (A3 m c) (A4 m c)) (emb8 t r l)).symm
  refine (cut8 t _ _).trans ?_
  exact pay6_eq (B m c t) r l

/-- Every element of the array is in some point's block. -/
theorem cover8 (i : S2048x1024.Idx) : ∃ t : Fin cfg0.N, (cfg0.win 8).flush t = true ∧ i ∈ ((cfg0.win 8).blk t).view.set := by
  obtain ⟨r, l, rfl⟩ : ∃ (r : Fin 2048) (l : Fin 1024), i = ix2 r l := ⟨i 0, i 1, eq_ix2 i⟩
  have hv := r.isLt
  refine ⟨(⟨r.val / 256, by show r.val / 256 < 8; omega⟩ : Fin cfg0.N), flush0_8 _, ?_⟩
  have h := ((cfg0.win 8).blk (⟨r.val / 256, by show r.val / 256 < 8; omega⟩ : Fin cfg0.N)).view.emb_mem_set (ix2 ⟨r.val % 256, by omega⟩ l)
  rw [emb8] at h
  have e : ∀ p, (⟨r.val / 256 * 256 + r.val % 256, p⟩ : Fin 2048) = r := fun p => Fin.ext (by show r.val / 256 * 256 + r.val % 256 = r.val; omega)
  simpa only [e] using h

/-- The array of the normalised rows after the run is the reference's. -/
theorem final8 (c : Dev nD) : (dats m 0 c).arrAt 8 cfg0.N = val_main_v32 (F := Ideal) (A0 m c) (A1 m c) (A2 m c) (A3 m c) (A4 m c) :=
  (dats m 0 c).arrAt_eq_of_cover 8 _ (fun t _ => flushed8_eq m c t) cover8

/-- Where an element of a block of the reciprocal deviations lies in the array. -/
theorem emb9 (t : Fin cfg0.N) (r : Fin 256) (l : Fin 1) :
    ((cfg0.win 9).blk t).view.emb (ix2 r l) = (ix2 ⟨t.val * 256 + r.val, by have := (idx t).2.2.2.2.2.2.2.2.2.2.2.2.2.2.2.2.2.2.2.2.2.2; omega⟩ l : S2048x1.Idx) := by
  obtain ⟨-, -, -, -, -, -, -, -, -, -, -, -, -, -, -, -, -, -, e0, e1, -⟩ := idx t
  funext a; apply Fin.ext
  match a with
  | ⟨0, _⟩ => show win0_9.index t (0 : Fin 2) * 256 + 1 * r.val = t.val * 256 + r.val; omega
  | ⟨1, _⟩ => show win0_9.index t (1 : Fin 2) * 1 + 1 * l.val = l.val; omega

/-- No block sticks out of the array: a block is written back whole. -/
theorem cut9 (t : Fin cfg0.N) (X : Vec Ideal S256x1 .f32) (j : S256x1.Idx) : (cfg0.win 9).cut (grid0.coords t) X j = X j := rfl

/-- What point `t` writes back of the reciprocal deviations is that block of the reference's array. -/
theorem flushed9_eq (c : Dev nD) (t : Fin cfg0.N) :
    (dats m 0 c).flushed 9 t = ((cfg0.win 9).blk t).view.read (Elt Ideal) (val_main_v28 (F := Ideal) (A0 m c) (A1 m c) (A2 m c) (A3 m c) (A4 m c)) := by
  rw [flushed9_A]
  frame_out
  funext j
  obtain ⟨r, l, rfl⟩ : ∃ (r : Fin 256) (l : Fin 1), j = ix2 r l := ⟨j 0, j 1, eq_ix2 j⟩
  refine Eq.trans ?_ (congrArg (val_main_v28 (F := Ideal) (A0 m c) (A1 m c) (A2 m c) (A3 m c) (A4 m c)) (emb9 t r l)).symm
  refine (cut9 t _ _).trans ?_
  exact pay5_eq (B m c t) r l

/-- Every element of the array is in some point's block. -/
theorem cover9 (i : S2048x1.Idx) : ∃ t : Fin cfg0.N, (cfg0.win 9).flush t = true ∧ i ∈ ((cfg0.win 9).blk t).view.set := by
  obtain ⟨r, l, rfl⟩ : ∃ (r : Fin 2048) (l : Fin 1), i = ix2 r l := ⟨i 0, i 1, eq_ix2 i⟩
  have hv := r.isLt
  refine ⟨(⟨r.val / 256, by show r.val / 256 < 8; omega⟩ : Fin cfg0.N), flush0_9 _, ?_⟩
  have h := ((cfg0.win 9).blk (⟨r.val / 256, by show r.val / 256 < 8; omega⟩ : Fin cfg0.N)).view.emb_mem_set (ix2 ⟨r.val % 256, by omega⟩ l)
  rw [emb9] at h
  have e : ∀ p, (⟨r.val / 256 * 256 + r.val % 256, p⟩ : Fin 2048) = r := fun p => Fin.ext (by show r.val / 256 * 256 + r.val % 256 = r.val; omega)
  simpa only [e] using h

/-- The array of the reciprocal deviations after the run is the reference's. -/
theorem final9 (c : Dev nD) : (dats m 0 c).arrAt 9 cfg0.N = val_main_v28 (F := Ideal) (A0 m c) (A1 m c) (A2 m c) (A3 m c) (A4 m c) :=
  (dats m 0 c).arrAt_eq_of_cover 9 _ (fun t _ => flushed9_eq m c t) cover9

/-- Where an element of a block of the output rows lies in the array. -/
theorem emb10 (t : Fin cfg0.N) (r : Fin 256) (l : Fin 1024) :
    ((cfg0.win 10).blk t).view.emb (ix2 r l) = (ix2 ⟨t.val * 256 + r.val, by have := (idx t).2.2.2.2.2.2.2.2.2.2.2.2.2.2.2.2.2.2.2.2.2.2; omega⟩ l : S2048x1024.Idx) := by
  obtain ⟨-, -, -, -, -, -, -, -, -, -, -, -, -, -, -, -, -, -, -, -, e0, e1, -⟩ := idx t
  funext a; apply Fin.ext
  match a with
  | ⟨0, _⟩ => show win0_10.index t (0 : Fin 2) * 256 + 1 * r.val = t.val * 256 + r.val; omega
  | ⟨1, _⟩ => show win0_10.index t (1 : Fin 2) * 1024 + 1 * l.val = l.val; omega

/-- No block sticks out of the array: a block is written back whole. -/
theorem cut10 (t : Fin cfg0.N) (X : Vec Ideal S256x1024 .f32) (j : S256x1024.Idx) : (cfg0.win 10).cut (grid0.coords t) X j = X j := rfl

/-- What point `t` writes back of the output rows is that block of the reference's array. -/
theorem flushed10_eq (c : Dev nD) (t : Fin cfg0.N) :
    (dats m 0 c).flushed 10 t = ((cfg0.win 10).blk t).view.read (Elt Ideal) (val_main_v36 (F := Ideal) (A0 m c) (A1 m c) (A2 m c) (A3 m c) (A4 m c) (A5 m c) (A6 m c)) := by
  rw [flushed10_A]
  frame_out
  funext j
  obtain ⟨r, l, rfl⟩ : ∃ (r : Fin 256) (l : Fin 1024), j = ix2 r l := ⟨j 0, j 1, eq_ix2 j⟩
  refine Eq.trans ?_ (congrArg (val_main_v36 (F := Ideal) (A0 m c) (A1 m c) (A2 m c) (A3 m c) (A4 m c) (A5 m c) (A6 m c)) (emb10 t r l)).symm
  refine (cut10 t _ _).trans ?_
  exact pay1_eq (B m c t) r l

/-- Every element of the array is in some point's block. -/
theorem cover10 (i : S2048x1024.Idx) : ∃ t : Fin cfg0.N, (cfg0.win 10).flush t = true ∧ i ∈ ((cfg0.win 10).blk t).view.set := by
  obtain ⟨r, l, rfl⟩ : ∃ (r : Fin 2048) (l : Fin 1024), i = ix2 r l := ⟨i 0, i 1, eq_ix2 i⟩
  have hv := r.isLt
  refine ⟨(⟨r.val / 256, by show r.val / 256 < 8; omega⟩ : Fin cfg0.N), flush0_10 _, ?_⟩
  have h := ((cfg0.win 10).blk (⟨r.val / 256, by show r.val / 256 < 8; omega⟩ : Fin cfg0.N)).view.emb_mem_set (ix2 ⟨r.val % 256, by omega⟩ l)
  rw [emb10] at h
  have e : ∀ p, (⟨r.val / 256 * 256 + r.val % 256, p⟩ : Fin 2048) = r := fun p => Fin.ext (by show r.val / 256 * 256 + r.val % 256 = r.val; omega)
  simpa only [e] using h

/-- The array of the output rows after the run is the reference's. -/
theorem final10 (c : Dev nD) : (dats m 0 c).arrAt 10 cfg0.N = val_main_v36 (F := Ideal) (A0 m c) (A1 m c) (A2 m c) (A3 m c) (A4 m c) (A5 m c) (A6 m c) :=
  (dats m 0 c).arrAt_eq_of_cover 10 _ (fun t _ => flushed10_eq m c t) cover10

end Cert.Proof.MlpF
-- ==== Proof.ConvF.lean ====
module

public import proofs.«01_k».proof.Proof.Gen.ConvFFwdIdeal.Value
public import proofs.«01_k».proof.Proof.Gen.ConvFRefIdeal.Read
public import Idealize.ShloMosaic.Lib.Pipeline.ValueKit
public import Idealize.ShloMosaic.Lib.Pointwise
public import proofs.«01_k».proof.Proof.ConvBlock

@[expose] public section

set_option maxRecDepth 16384

noncomputable section

namespace Cert.Proof.ConvF

open Cert.ConvFFwdIdeal Cert.ConvFFwdIdeal.Gen Cert.ConvFFwdIdeal.Value Idealize.ShloMosaic Idealize.ShloMosaic.TcCoe Idealize.SL.Sem
open Idealize.ShloMosaic.Tactic
open Cert.ConvFRefIdeal.Read
open Cert.Proof.Conv (conv down select_sge down_rot down_of down_top mul_down)

variable (m : (ℓ : Loc nD τ sig) → Buf (Elt Ideal) ℓ) (ρ : Dev nD → PrngReg)

/-- The block that each window works on at a grid point, in blocks along each axis. -/
theorem idx : ∀ t : Fin cfg0.N, win0_0.index t (0 : Fin 2) = 0 ∧ win0_0.index t (1 : Fin 2) = t.val
    ∧ win0_1.index t (0 : Fin 2) = 0 ∧ win0_1.index t (1 : Fin 2) = 3 + t.val
    ∧ win0_2.index t (0 : Fin 2) = 0 ∧ win0_2.index t (1 : Fin 2) = 6 + t.val
    ∧ win0_3.index t (0 : Fin 2) = 0 ∧ win0_3.index t (1 : Fin 2) = t.val
    ∧ win0_4.index t (0 : Fin 2) = 0 ∧ win0_4.index t (1 : Fin 2) = t.val ∧ t.val < 3 :=
  (by decide +kernel : ∀ t : Fin grid0.N, _)

/-- Lane `l` of point `t`'s block among the mixer's lanes. -/
def lane (t : Fin cfg0.N) (l : Fin 128) : Fin 384 := ⟨t.val * 128 + l.val, by have := (idx t).2.2.2.2.2.2.2.2.2.2; omega⟩

/-- The block of the input. -/
theorem iblk0_apply (c : Dev nD) (t : Fin cfg0.N) (r : Fin 2048) (l : Fin 128) :
    iblk m c 0 t (ix2 r l) = m ((c : Thread nD τ).loc main_arg0) (ix2 r ⟨0 + (lane t l).val, by have := (lane t l).isLt; omega⟩) := by
  show V m c main_arg0 (((cfg0.win 0).blk t).view.emb (ix2 r l)) = _
  rw [V_main_arg0]
  obtain ⟨e0, e1, -⟩ := idx t
  congr 1; funext a; apply Fin.ext
  match a with
  | ⟨0, _⟩ => show win0_0.index t (0 : Fin 2) * 2048 + 1 * r.val = r.val; omega
  | ⟨1, _⟩ => show win0_0.index t (1 : Fin 2) * 128 + 1 * l.val = 0 + (t.val * 128 + l.val); omega

/-- The block of the gate. -/
theorem iblk1_apply (c : Dev nD) (t : Fin cfg0.N) (r : Fin 2048) (l : Fin 128) :
    iblk m c 1 t (ix2 r l) = m ((c : Thread nD τ).loc main_arg0) (ix2 r ⟨384 + (lane t l).val, by have := (lane t l).isLt; omega⟩) := by
  show V m c main_arg0 (((cfg0.win 1).blk t).view.emb (ix2 r l)) = _
  rw [V_main_arg0]
  obtain ⟨-, -, e0, e1, -⟩ := idx t
  congr 1; funext a; apply Fin.ext
  match a with
  | ⟨0, _⟩ => show win0_1.index t (0 : Fin 2) * 2048 + 1 * r.val = r.val; omega
  | ⟨1, _⟩ => show win0_1.index t (1 : Fin 2) * 128 + 1 * l.val = 384 + (t.val * 128 + l.val); omega

/-- The block of the second factor. -/
theorem iblk2_apply (c : Dev nD) (t : Fin cfg0.N) (r : Fin 2048) (l : Fin 128) :
    iblk m c 2 t (ix2 r l) = m ((c : Thread nD τ).loc main_arg0) (ix2 r ⟨768 + (lane t l).val, by have := (lane t l).isLt; omega⟩) := by
  show V m c main_arg0 (((cfg0.win 2).blk t).view.emb (ix2 r l)) = _
  rw [V_main_arg0]
  obtain ⟨-, -, -, -, e0, e1, -⟩ := idx t
  congr 1; funext a; apply Fin.ext
  match a with
  | ⟨0, _⟩ => show win0_2.index t (0 : Fin 2) * 2048 + 1 * r.val = r.val; omega
  | ⟨1, _⟩ => show win0_2.index t (1 : Fin 2) * 128 + 1 * l.val = 768 + (t.val * 128 + l.val); omega

/-- The block of the taps. -/
theorem iblk3_apply (c : Dev nD) (t : Fin cfg0.N) (r : Fin 3) (l : Fin 128) :
    iblk m c 3 t (ix2 r l) = m ((c : Thread nD τ).loc main_arg1) (ix2 r (lane t l)) := by
  show V m c main_arg1 (((cfg0.win 3).blk t).view.emb (ix2 r l)) = _
  rw [V_main_arg1]
  obtain ⟨-, -, -, -, -, -, e0, e1, -⟩ := idx t
  congr 1; funext a; apply Fin.ext
  match a with
  | ⟨0, _⟩ => show win0_3.index t (0 : Fin 2) * 3 + 1 * r.val = r.val; omega
  | ⟨1, _⟩ => show win0_3.index t (1 : Fin 2) * 128 + 1 * l.val = t.val * 128 + l.val; omega

/-- What a point stores: the gate times the convolution of the gated input. -/
theorem pay1_apply (v0 v1 v3 : Vec Ideal S2048x128 .f32) (v4 : Vec Ideal S3x128 .f32) (r : Fin 2048) (l : Fin 128) :
    k0_pay1 (F := Ideal) v0 v1 v3 v4 (ix2 r l)
      = HMul.hMul (α := EReal) (β := EReal) (γ := EReal) (v3 (ix2 r l)) (conv (fun k => v4 (ix2 k l)) (fun s => HMul.hMul (α := EReal) (β := EReal) (γ := EReal) (v0 (ix2 s l)) (v1 (ix2 s l))) r) := by
  unfold k0_pay1 conv
  pointwise
  rw [select_sge _ 1 r.isLt (by omega), select_sge _ 2 r.isLt (by omega),
    down_rot 2 (fun s => HMul.hMul (α := EReal) (β := EReal) (γ := EReal) (v4 (ix2 0 l)) (HMul.hMul (α := EReal) (β := EReal) (γ := EReal) (v0 (ix2 s l)) (v1 (ix2 s l)))) r ⟨_, _⟩ rfl (by omega),
    down_rot 1 (fun s => HMul.hMul (α := EReal) (β := EReal) (γ := EReal) (v4 (ix2 1 l)) (HMul.hMul (α := EReal) (β := EReal) (γ := EReal) (v0 (ix2 s l)) (v1 (ix2 s l)))) r ⟨_, _⟩ rfl (by omega)]

section Reference

variable (x0 : Vec Ideal S2048x2176 .f32) (x1 : Vec Ideal S3x384 .f32)

/-- Column `l` of the convolution's input. -/
def zcol (l : Fin 384) (s : Fin 2048) : EReal := x0 (ix2 s ⟨768 + l.val, by omega⟩) * x0 (ix2 s ⟨0 + l.val, by omega⟩)

/-- The padded input read from its top: the input two rows above. -/
theorem v8_apply (r : Fin 2048) (l : Fin 384) : val_main_v8 (F := Ideal) x0 (ix2 r l) = down 2 (zcol x0 l) r := by
  unfold val_main_v8 val_main_v5 val_main_v4 val_main_v3 val_main_v2 val_main_v0 val_main_cst
  pointwise
  by_cases h : r.val < 2
  · exact (dif_pos h).trans (down_top 2 _ r (by omega)).symm
  · exact (dif_neg h).trans ((congrArg (fun i => HMul.hMul (α := EReal) (β := EReal) (γ := EReal) _ (x0 (ix2 _ i))) (Fin.ext (by simp))).trans (down_of 2 (zcol x0 l) r ⟨r.val - 2, by omega⟩ (by show r.val - 2 + 2 = _; omega)).symm)

/-- Read from its second row: the input one row above. -/
theorem v14_apply (r : Fin 2048) (l : Fin 384) : val_main_v14 (F := Ideal) x0 (ix2 r l) = down 1 (zcol x0 l) r := by
  unfold val_main_v14 val_main_v5 val_main_v4 val_main_v3 val_main_v2 val_main_v0 val_main_cst
  pointwise
  by_cases h : 1 + r.val < 2
  · exact (dif_pos h).trans (down_top 1 _ r (by omega)).symm
  · exact (dif_neg h).trans ((congrArg (fun i => HMul.hMul (α := EReal) (β := EReal) (γ := EReal) _ (x0 (ix2 _ i))) (Fin.ext (by simp))).trans (down_of 1 (zcol x0 l) r ⟨1 + r.val - 2, by omega⟩ (by show 1 + r.val - 2 + 1 = _; omega)).symm)

/-- Read from its third row: the input itself. -/
theorem v21_apply (r : Fin 2048) (l : Fin 384) : val_main_v21 (F := Ideal) x0 (ix2 r l) = zcol x0 l r := by
  unfold val_main_v21 val_main_v5 val_main_v4 val_main_v3 val_main_v2 val_main_v0 val_main_cst zcol
  pointwise

/-- The reference's result. -/
theorem ref_apply (r : Fin 2048) (l : Fin 384) : val_main_v27 (F := Ideal) x0 x1 (ix2 r l)
    = HMul.hMul (α := EReal) (β := EReal) (γ := EReal) (x0 (ix2 r ⟨384 + l.val, by omega⟩)) (conv (fun k => x1 (ix2 k l)) (zcol x0 l) r) := by
  unfold val_main_v27 val_main_v26 val_main_v25 val_main_v24 val_main_v23 val_main_v22 val_main_v20 val_main_v19 val_main_v18 val_main_v17 val_main_v16 val_main_v15 val_main_v13 val_main_v12 val_main_v11 val_main_v10 val_main_v9 val_main_v7 val_main_v6 val_main_v1
  pointwise
  rw [v8_apply, v14_apply, v21_apply, mul_down, mul_down]
  rfl

end Reference

/-- The arguments. -/
abbrev A0 (c : Dev nD) := m ((c : Thread nD τ).loc main_arg0)
abbrev A1 (c : Dev nD) := m ((c : Thread nD τ).loc main_arg1)

/-- Column `l` of the gated input that point `t` works on. -/
theorem zcol_eq (c : Dev nD) (t : Fin cfg0.N) (l : Fin 128) :
    (fun s : Fin 2048 => HMul.hMul (α := EReal) (β := EReal) (γ := EReal) (iblk m c 2 t (ix2 s l)) (iblk m c 0 t (ix2 s l))) = zcol (A0 m c) (lane t l) := by
  funext s; rw [iblk2_apply, iblk0_apply]; rfl

/-- Where an element of a block of the result lies in the array. -/
theorem emb4 (t : Fin cfg0.N) (r : Fin 2048) (l : Fin 128) :
    ((cfg0.win 4).blk t).view.emb (ix2 r l) = (ix2 r ⟨t.val * 128 + l.val, by have := (idx t).2.2.2.2.2.2.2.2.2.2; omega⟩ : S2048x384.Idx) := by
  obtain ⟨-, -, -, -, -, -, -, -, e0, e1, -⟩ := idx t
  funext a; apply Fin.ext
  match a with
  | ⟨0, _⟩ => show win0_4.index t (0 : Fin 2) * 2048 + 1 * r.val = r.val; omega
  | ⟨1, _⟩ => show win0_4.index t (1 : Fin 2) * 128 + 1 * l.val = t.val * 128 + l.val; omega

/-- No block sticks out of the array: a block is written back whole. -/
theorem cut4 (t : Fin cfg0.N) (X : Vec Ideal S2048x128 .bf16) (j : S2048x128.Idx) : (cfg0.win 4).cut (grid0.coords t) X j = X j := rfl

/-- What point `t` writes back of the result is that block of the reference's array. -/
theorem flushed4_eq (c : Dev nD) (t : Fin cfg0.N) :
    (dats m 0 c).flushed 4 t = ((cfg0.win 4).blk t).view.read (Elt Ideal) (val_main_v27 (F := Ideal) (A0 m c) (A1 m c)) := by
  rw [flushed4]
  frame_out
  funext j
  obtain ⟨r, l, rfl⟩ : ∃ (r : Fin 2048) (l : Fin 128), j = ix2 r l := ⟨j 0, j 1, eq_ix2 j⟩
  refine Eq.trans ?_ (congrArg (val_main_v27 (F := Ideal) (A0 m c) (A1 m c)) (emb4 t r l)).symm
  refine (cut4 t _ _).trans ?_
  refine (pay1_apply _ _ _ _ r l).trans ?_
  rw [zcol_eq m c t l]
  refine Eq.trans ?_ (ref_apply (A0 m c) (A1 m c) r (lane t l)).symm
  rw [iblk1_apply, show (fun k => iblk m c 3 t (ix2 k l)) = fun k => A1 m c (ix2 k (lane t l)) from funext fun k => iblk3_apply m c t k l]

/-- Every element of the array is in some point's block. -/
theorem cover4 (i : S2048x384.Idx) : ∃ t : Fin cfg0.N, (cfg0.win 4).flush t = true ∧ i ∈ ((cfg0.win 4).blk t).view.set := by
  obtain ⟨r, l, rfl⟩ : ∃ (r : Fin 2048) (l : Fin 384), i = ix2 r l := ⟨i 0, i 1, eq_ix2 i⟩
  have hv := l.isLt
  refine ⟨(⟨l.val / 128, by show l.val / 128 < 3; omega⟩ : Fin cfg0.N), flush0_4 _, ?_⟩
  have h := ((cfg0.win 4).blk (⟨l.val / 128, by show l.val / 128 < 3; omega⟩ : Fin cfg0.N)).view.emb_mem_set (ix2 r ⟨l.val % 128, by omega⟩)
  rw [emb4] at h
  have e : ∀ p, (⟨l.val / 128 * 128 + l.val % 128, p⟩ : Fin 384) = l := fun p => Fin.ext (by show l.val / 128 * 128 + l.val % 128 = l.val; omega)
  simpa only [e] using h

/-- The array of the result after the run is the reference's. -/
theorem final4 (c : Dev nD) : (dats m 0 c).arrAt 4 cfg0.N = val_main_v27 (F := Ideal) (A0 m c) (A1 m c) :=
  (dats m 0 c).arrAt_eq_of_cover 4 _ (fun t _ => flushed4_eq m c t) cover4

end Cert.Proof.ConvF
-- ==== Proof.Loss.lean ====
module

public import proofs.«01_k».proof.Proof.Gen.LossFwdIdeal.Value
public import proofs.«01_k».proof.Proof.Gen.LossRefIdeal.Read
public import Idealize.ShloMosaic.Lib.Pipeline.ValueKit
public import Idealize.ShloMosaic.Lib.Pointwise
public import proofs.«01_k».proof.Proof.RealMath

@[expose] public section

set_option maxRecDepth 16384

noncomputable section

namespace Cert.Proof.Loss

open Cert.LossFwdIdeal Cert.LossFwdIdeal.Gen Cert.LossFwdIdeal.Value Idealize.ShloMosaic Idealize.ShloMosaic.TcCoe Idealize.SL.Sem
open Idealize.ShloMosaic.Tactic
open Cert.LossRefIdeal.Read

variable (m : (ℓ : Loc nD τ sig) → Buf (Elt Ideal) ℓ) (ρ : Dev nD → PrngReg)
/-- The block that each window works on at a grid point, in blocks along each axis. -/
theorem idx : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ t.val < 4 :=
  (by decide +kernel : ∀ t : Fin grid0.N, _)

/-- The block of the output. -/
theorem iblk0_apply (c : Dev nD) (t : Fin cfg0.N) (r : Fin 512) (l : Fin 1024) :
    iblk m c 0 t (ix2 r l) = m ((c : Thread nD τ).loc main_arg0) (ix2 ⟨t.val * 512 + r.val, by have := (idx t).2.2.2.2.2.2.2.2; omega⟩ l) := by
  show V m c main_arg0 (((cfg0.win 0).blk t).view.emb (ix2 r l)) = _
  rw [V_main_arg0]
  obtain ⟨e0, e1, -⟩ := idx t
  congr 1; funext a; apply Fin.ext
  match a with
  | ⟨0, _⟩ => show win0_0.index t (0 : Fin 2) * 512 + 1 * r.val = t.val * 512 + r.val; omega
  | ⟨1, _⟩ => show win0_0.index t (1 : Fin 2) * 1024 + 1 * l.val = l.val; omega

/-- The block of the target. -/
theorem iblk1_apply (c : Dev nD) (t : Fin cfg0.N) (r : Fin 512) (l : Fin 1024) :
    iblk m c 1 t (ix2 r l) = m ((c : Thread nD τ).loc main_arg1) (ix2 ⟨t.val * 512 + r.val, by have := (idx t).2.2.2.2.2.2.2.2; omega⟩ l) := by
  show V m c main_arg1 (((cfg0.win 1).blk t).view.emb (ix2 r l)) = _
  rw [V_main_arg1]
  obtain ⟨-, -, e0, e1, -⟩ := idx t
  congr 1; funext a; apply Fin.ext
  match a with
  | ⟨0, _⟩ => show win0_1.index t (0 : Fin 2) * 512 + 1 * r.val = t.val * 512 + r.val; omega
  | ⟨1, _⟩ => show win0_1.index t (1 : Fin 2) * 1024 + 1 * l.val = l.val; omega

/-- The arguments. -/
abbrev A0 (c : Dev nD) := m ((c : Thread nD τ).loc main_arg0)
abbrev A1 (c : Dev nD) := m ((c : Thread nD τ).loc main_arg1)

/-- The squared difference. -/
def d2 (y t : EReal) : EReal := (y - t) * (y - t)

/-- What a point stores of the gradient: the difference over 1024. -/
theorem pay3_apply (y t : Vec Ideal S512x1024 .f32) (r : Fin 512) (l : Fin 1024) :
    k0_pay3 (F := Ideal) y t (ix2 r l) = ((y (ix2 r l) - t (ix2 r l)) * Ideal.ofBits .f32 0x3A800000#32 : EReal) := by
  unfold k0_pay3 k0_pay2; pointwise

/-- What a point stores of the column sums: what was there and its own rows' squares. -/
theorem pay4_apply (y t : Vec Ideal S512x1024 .f32) (v : Vec Ideal S1x1024 .f32) (l : Fin 1024) :
    k0_pay4 (F := Ideal) y t v (ix2 0 l) = (v (ix2 0 l) + ∑ k : Fin 512, d2 (y (ix2 k l)) (t (ix2 k l)) : EReal) := by
  unfold k0_pay4 k0_pay2 d2; pointwise

/-- The column sums start from zero. -/
theorem zero_apply (l : Fin 1024) : k0_pay1 (F := Ideal) (ix2 0 l) = 0 := by unfold k0_pay1; pointwise

/-- The constants one half and 1/1024. -/
theorem chalf : Ideal.ofBits .f32 0x3F000000#32 = ((1 / 2 : ℝ) : EReal) := by
  simp [Ideal.ofBits, Ideal.ieee, -EReal.coe_mul, -EReal.coe_neg]; norm_num
theorem cinv : Ideal.ofBits .f32 0x3A800000#32 = ((1 / 1024 : ℝ) : EReal) := by
  simp [Ideal.ofBits, Ideal.ieee, -EReal.coe_mul, -EReal.coe_neg]; norm_num

/-- The reference's gradient: the difference over 1024. -/
theorem ref14_apply (y t : Vec Ideal S2048x1024 .f32) (r : Fin 2048) (l : Fin 1024) :
    val_main_v14 (F := Ideal) y t (ix2 r l) = ((y (ix2 r l) - t (ix2 r l)) * Ideal.ofBits .f32 0x3A800000#32 : EReal) := by
  unfold val_main_v14 val_main_v13 val_main_v12 val_main_v11 val_main_v10 val_main_v9 val_main_v3 val_main_v2 val_main_v0 val_main_cst val_main_cst_4 val_main_cst_5 val_main_cst_6
  pointwise
  rw [cinv, chalf, Cert.Proof.RealMath.c1024, Cert.Proof.RealMath.c2, Cert.Proof.RealMath.div_coe_coe _ _ (by norm_num), ← mul_assoc, ← EReal.coe_mul, mul_comm]
  norm_num

/-- The reference's column sums. -/
theorem ref18_apply (y t : Vec Ideal S2048x1024 .f32) (l : Fin 1024) :
    val_main_v18 (F := Ideal) y t (ix2 0 l) = (∑ k : Fin 2048, d2 (y (ix2 k l)) (t (ix2 k l)) : EReal) := by
  unfold val_main_v18 val_main_v17 val_main_v16 val_main_v15 val_main_cst_7 d2
  pointwise

/-- Where an element of a block of the output's gradient lies in the array. -/
theorem emb2 (t : Fin cfg0.N) (r : Fin 512) (l : Fin 1024) :
    ((cfg0.win 2).blk t).view.emb (ix2 r l) = (ix2 ⟨t.val * 512 + r.val, by have := (idx t).2.2.2.2.2.2.2.2; omega⟩ l : S2048x1024.Idx) := by
  obtain ⟨-, -, -, -, e0, e1, -⟩ := idx t
  funext a; apply Fin.ext
  match a with
  | ⟨0, _⟩ => show win0_2.index t (0 : Fin 2) * 512 + 1 * r.val = t.val * 512 + r.val; omega
  | ⟨1, _⟩ => show win0_2.index t (1 : Fin 2) * 1024 + 1 * l.val = l.val; omega

/-- No block sticks out of the array: a block is written back whole. -/
theorem cut2 (t : Fin cfg0.N) (X : Vec Ideal S512x1024 .f32) (j : S512x1024.Idx) : (cfg0.win 2).cut (grid0.coords t) X j = X j := rfl

/-- What point `t` writes back of the output's gradient is that block of the reference's array. -/
theorem flushed2_eq (c : Dev nD) (t : Fin cfg0.N) :
    (dats m 0 c).flushed 2 t = ((cfg0.win 2).blk t).view.read (Elt Ideal) (val_main_v14 (F := Ideal) (A0 m c) (A1 m c)) := by
  by_cases h0 : t.val % 4 = 0
  · rw [flushed2_A m c t h0]
    frame_out
    funext j
    obtain ⟨r, l, rfl⟩ : ∃ (r : Fin 512) (l : Fin 1024), j = ix2 r l := ⟨j 0, j 1, eq_ix2 j⟩
    refine Eq.trans ?_ (congrArg (val_main_v14 (F := Ideal) (A0 m c) (A1 m c)) (emb2 t r l)).symm
    refine (cut2 t _ _).trans ?_
    refine (pay3_apply _ _ r l).trans ?_
    rw [ref14_apply, iblk0_apply, iblk1_apply]
  · rw [flushed2_B m c t h0]
    frame_out
    funext j
    obtain ⟨r, l, rfl⟩ : ∃ (r : Fin 512) (l : Fin 1024), j = ix2 r l := ⟨j 0, j 1, eq_ix2 j⟩
    refine Eq.trans ?_ (congrArg (val_main_v14 (F := Ideal) (A0 m c) (A1 m c)) (emb2 t r l)).symm
    refine (cut2 t _ _).trans ?_
    refine (pay3_apply _ _ r l).trans ?_
    rw [ref14_apply, iblk0_apply, iblk1_apply]

/-- Every element of the array is in some point's block. -/
theorem cover2 (i : S2048x1024.Idx) : ∃ t : Fin cfg0.N, (cfg0.win 2).flush t = true ∧ i ∈ ((cfg0.win 2).blk t).view.set := by
  obtain ⟨r, l, rfl⟩ : ∃ (r : Fin 2048) (l : Fin 1024), i = ix2 r l := ⟨i 0, i 1, eq_ix2 i⟩
  have hv := r.isLt
  refine ⟨(⟨r.val / 512, by show r.val / 512 < 4; omega⟩ : Fin cfg0.N), flush0_2 _, ?_⟩
  have h := ((cfg0.win 2).blk (⟨r.val / 512, by show r.val / 512 < 4; omega⟩ : Fin cfg0.N)).view.emb_mem_set (ix2 ⟨r.val % 512, by omega⟩ l)
  rw [emb2] at h
  have e : ∀ p, (⟨r.val / 512 * 512 + r.val % 512, p⟩ : Fin 2048) = r := fun p => Fin.ext (by show r.val / 512 * 512 + r.val % 512 = r.val; omega)
  simpa only [e] using h

/-- The array of the output's gradient after the run is the reference's. -/
theorem final2 (c : Dev nD) : (dats m 0 c).arrAt 2 cfg0.N = val_main_v14 (F := Ideal) (A0 m c) (A1 m c) :=
  (dats m 0 c).arrAt_eq_of_cover 2 _ (fun t _ => flushed2_eq m c t) cover2

/-- Row `k` of point `t`'s block. -/
def row (t : Fin cfg0.N) (k : Fin 512) : Fin 2048 := ⟨t.val * 512 + k.val, by have := (idx t).2.2.2.2.2.2.2.2; omega⟩

/-- The squared error of row `k` in column `l`. -/
def sq (c : Dev nD) (l : Fin 1024) (k : Fin 2048) : EReal := d2 (A0 m c (ix2 k l)) (A1 m c (ix2 k l))

/-- A value that starts as one block's sum and gains a block's sum at every later point ends as the sum over all rows. -/
theorem acc_sum (f : Fin 2048 → EReal) (z : Fin cfg0.N → EReal)
    (h0 : ∀ t : Fin cfg0.N, t.val % 4 = 0 → z t = ∑ k : Fin 512, f (row t k))
    (h1 : ∀ t : Fin cfg0.N, ¬t.val % 4 = 0 → ∀ p, z t = z ⟨t.val - 1, p⟩ + ∑ k : Fin 512, f (row t k))
    (t : Fin cfg0.N) (ht : t.val % 4 = 3) : z t = ∑ i, f i := by
  have key : ∀ n : ℕ, ∀ hn : n < cfg0.N, z ⟨n, hn⟩ = ∑ j ∈ Finset.range (n + 1), (if h : j < cfg0.N then ∑ k : Fin 512, f (row ⟨j, h⟩ k) else 0) := by
    intro n
    induction n with
    | zero => intro hn; rw [Finset.sum_range_one, dif_pos hn, h0 _ rfl]
    | succ n ih =>
      intro hn
      have h8 : n + 1 < 4 := hn
      rw [Finset.sum_range_succ, dif_pos hn, ← ih (Nat.lt_of_succ_lt hn), h1 ⟨n + 1, hn⟩ (by show ¬(n + 1) % 4 = 0; omega) (Nat.lt_of_succ_lt hn)]
      rfl
  have h8 := (idx t).2.2.2.2.2.2.2.2
  have e : t = ⟨3, by decide⟩ := Fin.ext (by show t.val = 3; omega)
  rw [e, key 3, Finset.sum_range]
  rw [← Equiv.sum_comp (finProdFinEquiv (m := 4) (n := 512)) f, Fintype.sum_prod_type]
  refine Finset.sum_congr rfl fun j _ => ?_
  have hj : j.val < cfg0.N := j.isLt
  rw [dif_pos hj]
  refine Finset.sum_congr rfl fun k _ => congrArg f (Fin.ext ?_)
  show j.val * 512 + k.val = k.val + 512 * j.val
  omega

/-- Where an element of the block of column sums lies. -/
theorem emb3 (t : Fin cfg0.N) (l : Fin 1024) : ((cfg0.win 3).blk t).view.emb (ix2 0 l) = (ix2 0 l : S1x1024.Idx) := by
  obtain ⟨-, -, -, -, -, -, e0, e1, -⟩ := idx t
  funext a; apply Fin.ext
  match a with
  | ⟨0, _⟩ => show win0_3.index t (0 : Fin 2) * 1 + 1 * 0 = 0; omega
  | ⟨1, _⟩ => show win0_3.index t (1 : Fin 2) * 1024 + 1 * l.val = l.val; omega

theorem cut3 (t : Fin cfg0.N) (X : Vec Ideal S1x1024 .f32) (j : S1x1024.Idx) : (cfg0.win 3).cut (grid0.coords t) X j = X j := rfl

/-- The squares of the rows of point `t`'s block. -/
theorem sq_eq (c : Dev nD) (l : Fin 1024) (t : Fin cfg0.N) :
    (∑ k : Fin 512, d2 (iblk m c 0 t (ix2 k l)) (iblk m c 1 t (ix2 k l)) : EReal) = (∑ k : Fin 512, sq m c l (row t k) : EReal) := by
  refine Finset.sum_congr rfl fun k _ => ?_
  rw [iblk0_apply, iblk1_apply]
  rfl

/-- The first point leaves its own rows' sum. -/
theorem first3 (c : Dev nD) (l : Fin 1024) (t : Fin cfg0.N) (h0 : t.val % 4 = 0) :
    (dats m 0 c).flushed 3 t (ix2 0 l : S1x1024.Idx) = (∑ k : Fin 512, sq m c l (row t k) : EReal) := by
  obtain ⟨X, hX⟩ : ∃ X : EReal, X = (∑ k : Fin 512, sq m c l (row t k) : EReal) := ⟨_, rfl⟩
  rw [← hX, flushed3_A m c t h0]
  frame_out
  rw [hX]
  refine (cut3 t _ _).trans ?_
  refine (pay4_apply (iblk m c 0 t) (iblk m c 1 t) (k0_pay1 (F := Ideal)) l).trans ?_
  rw [zero_apply, zero_add]
  exact sq_eq m c l t

/-- Every later point adds its rows' sum. -/
theorem next3 (c : Dev nD) (l : Fin 1024) (t : Fin cfg0.N) (h0 : ¬t.val % 4 = 0) (p : t.val - 1 < cfg0.N) :
    (dats m 0 c).flushed 3 t (ix2 0 l : S1x1024.Idx)
      = HAdd.hAdd (α := EReal) (β := EReal) (γ := EReal) ((dats m 0 c).flushed 3 ⟨t.val - 1, p⟩ (ix2 0 l : S1x1024.Idx)) (∑ k : Fin 512, sq m c l (row t k) : EReal) := by
  have e := congrFun (flushed3 m c ⟨t.val - 1, p⟩) (ix2 0 l : S1x1024.Idx)
  rw [e]
  obtain ⟨X, hX⟩ : ∃ X : EReal, X = HAdd.hAdd (α := EReal) (β := EReal) (γ := EReal) ((cfg0.win 3).cut (grid0.coords ⟨t.val - 1, p⟩) ((outsAt0 m c (t.val - 1) p).2) (ix2 0 l : S1x1024.Idx)) (∑ k : Fin 512, sq m c l (row t k) : EReal) := ⟨_, rfl⟩
  refine Eq.trans ?_ hX
  rw [flushed3_B m c t h0]
  frame_out
  rw [hX]
  refine (cut3 t _ _).trans ?_
  refine (pay4_apply (iblk m c 0 t) (iblk m c 1 t) ((outsAt0 m c (t.val - 1) p).2) l).trans ?_
  rw [sq_eq m c l t]
  rfl

/-- What is written back of the column sums is the reference's row. -/
theorem flushed3_eq (c : Dev nD) (t : Fin cfg0.N) (hf : (cfg0.win 3).flush t = true) :
    (dats m 0 c).flushed 3 t = ((cfg0.win 3).blk t).view.read (Elt Ideal) (val_main_v18 (F := Ideal) (A0 m c) (A1 m c)) := by
  funext j
  obtain ⟨r, l, rfl⟩ : ∃ (r : Fin 1) (l : Fin 1024), j = ix2 r l := ⟨j 0, j 1, eq_ix2 j⟩
  obtain rfl : r = 0 := Subsingleton.elim _ _
  refine Eq.trans ?_ (congrArg (val_main_v18 (F := Ideal) (A0 m c) (A1 m c)) (emb3 t l)).symm
  refine Eq.trans ?_ (ref18_apply (A0 m c) (A1 m c) l).symm
  exact acc_sum (sq m c l) (fun t => (dats m 0 c).flushed 3 t (ix2 0 l : S1x1024.Idx)) (first3 m c l) (fun t h0 p => next3 m c l t h0 p) t ((flush0_3 t).mp hf)

/-- Every element of the row is in the last point's block. -/
theorem cover3 (i : S1x1024.Idx) : ∃ t : Fin cfg0.N, (cfg0.win 3).flush t = true ∧ i ∈ ((cfg0.win 3).blk t).view.set := by
  obtain ⟨r, l, rfl⟩ : ∃ (r : Fin 1) (l : Fin 1024), i = ix2 r l := ⟨i 0, i 1, eq_ix2 i⟩
  obtain rfl : r = 0 := Subsingleton.elim _ _
  have h := ((cfg0.win 3).blk (⟨3, by decide⟩ : Fin cfg0.N)).view.emb_mem_set (ix2 0 l)
  rw [emb3] at h
  exact ⟨_, (flush0_3 _).mpr rfl, h⟩

/-- The row of column sums after the run is the reference's. -/
theorem final3 (c : Dev nD) : (dats m 0 c).arrAt 3 cfg0.N = val_main_v18 (F := Ideal) (A0 m c) (A1 m c) :=
  (dats m 0 c).arrAt_eq_of_cover 3 _ (fun t hf => flushed3_eq m c t hf) cover3

end Cert.Proof.Loss
-- ==== Proof.AdamL.lean ====
module

public import proofs.«01_k».proof.Proof.Gen.AdamLUpdIdeal.Value
public import proofs.«01_k».proof.Proof.Gen.AdamLRefIdeal.Read
public import Idealize.ShloMosaic.Lib.Pipeline.ValueKit
public import Idealize.ShloMosaic.Lib.Pointwise

@[expose] public section

set_option maxRecDepth 16384

noncomputable section

namespace Cert.Proof.AdamL

open Cert.AdamLUpdIdeal Cert.AdamLUpdIdeal.Gen Cert.AdamLUpdIdeal.Value Idealize.ShloMosaic Idealize.ShloMosaic.TcCoe Idealize.SL.Sem
open Idealize.ShloMosaic.Tactic
open Cert.AdamLRefIdeal.Read

variable (m : (ℓ : Loc nD τ sig) → Buf (Elt Ideal) ℓ) (ρ : Dev nD → PrngReg)

/-- The block that each window works on at a grid point: the layer (3, of those with one), then blocks along rows and columns. -/
theorem idx : ∀ t : Fin cfg0.N, win0_0.index t (0 : Fin 3) = 3
    ∧ win0_0.index t (1 : Fin 3) = t.val
    ∧ win0_0.index t (2 : Fin 3) = 0
    ∧ win0_1.index t (0 : Fin 3) = 3
    ∧ win0_1.index t (1 : Fin 3) = t.val
    ∧ win0_1.index t (2 : Fin 3) = 0
    ∧ win0_2.index t (0 : Fin 3) = 3
    ∧ win0_2.index t (1 : Fin 3) = t.val
    ∧ win0_2.index t (2 : Fin 3) = 0
    ∧ win0_3.index t (0 : Fin 2) = t.val
    ∧ win0_3.index t (1 : Fin 2) = 0
    ∧ win0_4.index t (0 : Fin 3) = 3
    ∧ win0_4.index t (1 : Fin 3) = t.val
    ∧ win0_4.index t (2 : Fin 3) = 0
    ∧ win0_5.index t (0 : Fin 3) = 3
    ∧ win0_5.index t (1 : Fin 3) = t.val
    ∧ win0_5.index t (2 : Fin 3) = 0
    ∧ win0_6.index t (0 : Fin 3) = 3
    ∧ win0_6.index t (1 : Fin 3) = t.val
    ∧ win0_6.index t (2 : Fin 3) = 0
    ∧ win0_7.index t (0 : Fin 2) = t.val
    ∧ win0_7.index t (1 : Fin 2) = 0
    ∧ win0_8.index t (0 : Fin 3) = 3
    ∧ win0_8.index t (1 : Fin 3) = t.val
    ∧ win0_8.index t (2 : Fin 3) = 0
    ∧ win0_9.index t (0 : Fin 3) = 3
    ∧ win0_9.index t (1 : Fin 3) = t.val
    ∧ win0_9.index t (2 : Fin 3) = 0
    ∧ win0_10.index t (0 : Fin 3) = 3
    ∧ win0_10.index t (1 : Fin 3) = t.val
    ∧ win0_10.index t (2 : Fin 3) = 0
    ∧ win0_11.index t (0 : Fin 3) = 3
    ∧ win0_11.index t (1 : Fin 3) = t.val
    ∧ win0_11.index t (2 : Fin 3) = 0
    ∧ win0_12.index t (0 : Fin 3) = 3
    ∧ win0_12.index t (1 : Fin 3) = t.val
    ∧ win0_12.index t (2 : Fin 3) = 0
    ∧ win0_13.index t (0 : Fin 3) = 3
    ∧ win0_13.index t (1 : Fin 3) = t.val
    ∧ win0_13.index t (2 : Fin 3) = 0
    ∧ win0_14.index t (0 : Fin 3) = 3
    ∧ win0_14.index t (1 : Fin 3) = t.val
    ∧ win0_14.index t (2 : Fin 3) = 0
    ∧ win0_15.index t (0 : Fin 3) = 3
    ∧ win0_15.index t (1 : Fin 3) = t.val
    ∧ win0_15.index t (2 : Fin 3) = 0
    ∧ t.val < 4 :=
  (by decide +kernel : ∀ t : Fin grid0.N, _)

theorem lt4 (t : Fin cfg0.N) : t.val < 4 := (by decide +kernel : ∀ t : Fin grid0.N, t.val < 4) t

/-- Row `r` of point `t`'s block of the gate and up weights. -/
def rowG (t : Fin cfg0.N) (r : Fin 256) : Fin 1024 := ⟨t.val * 256 + r.val, by have := lt4 t; omega⟩
/-- Row `r` of point `t`'s block of the down weights. -/
def rowD (t : Fin cfg0.N) (r : Fin 176) : Fin 704 := ⟨t.val * 176 + r.val, by have := lt4 t; omega⟩

/-- The new first moment of one weight from its gradient and moment. -/
def nm (g m : EReal) : EReal := Ideal.ofBits .f32 0x3F666666#32 * m + Ideal.ofBits .f32 0x3DCCCCCD#32 * g
/-- The new second moment. -/
def nv (g v : EReal) : EReal := Ideal.ofBits .f32 0x3F7FBE77#32 * v + Ideal.ofBits .f32 0x3A83126F#32 * (g * g)
/-- The step. -/
def step (w g m v : EReal) : EReal := Ideal.ofBits .f32 0xBA83126F#32 *
  (Ideal.div (Ideal.div (nm g m) (Ideal.ofBits .f32 0x3F26BD02#32)) (Ideal.sqrt (Ideal.div (nv g v) (Ideal.ofBits .f32 0x3C231ACC#32)) + Ideal.ofBits .f32 0x322BCC77#32)
    + Ideal.ofBits .f32 0x3C23D70A#32 * w)

/-- Layer 3 of an array over the four layers replaced. -/
def put {n k : Nat} (o : Fin 4 → Fin n → Fin k → EReal) (f : Fin n → Fin k → EReal) (a : Fin 4) (r : Fin n) (l : Fin k) : EReal :=
  if a.val < 3 then o a r l else f r l

/-- What a point stores for window 8: the gradient. -/
theorem pay8_apply (v0 : Vec Ideal S256x1408 .f32) (v1 v3 v5 : Vec Ideal S1x256x1408 .f32) (r : Fin 256) (l : Fin 1408) : k0_pay8 (F := Ideal) v0 (ix3 0 r l) = ((v0 (ix2 r l)) : EReal) := by
  unfold k0_pay8
  pointwise

/-- What a point stores for window 9: the step. -/
theorem pay9_apply (v0 : Vec Ideal S256x1408 .f32) (v1 v3 v5 : Vec Ideal S1x256x1408 .f32) (r : Fin 256) (l : Fin 1408) : k0_pay9 (F := Ideal) (k0_pay7 v0 v1 v3 v5) (ix3 0 r l) = (step (v1 (ix3 0 r l)) (v0 (ix2 r l)) (v3 (ix3 0 r l)) (v5 (ix3 0 r l)) : EReal) := by
  unfold k0_pay9 k0_pay7 k0_pay5 k0_pay6 step nm nv
  pointwise

/-- What a point stores for window 10: the first moment. -/
theorem pay10_apply (v0 : Vec Ideal S256x1408 .f32) (v1 v3 v5 : Vec Ideal S1x256x1408 .f32) (r : Fin 256) (l : Fin 1408) : k0_pay10 (F := Ideal) (k0_pay5 v0 v3) (ix3 0 r l) = (nm (v0 (ix2 r l)) (v3 (ix3 0 r l)) : EReal) := by
  unfold k0_pay10 k0_pay5 nm
  pointwise

/-- What a point stores for window 11: the second moment. -/
theorem pay11_apply (v0 : Vec Ideal S256x1408 .f32) (v1 v3 v5 : Vec Ideal S1x256x1408 .f32) (r : Fin 256) (l : Fin 1408) : k0_pay11 (F := Ideal) (k0_pay6 v0 v5) (ix3 0 r l) = (nv (v0 (ix2 r l)) (v5 (ix3 0 r l)) : EReal) := by
  unfold k0_pay11 k0_pay6 nv
  pointwise

/-- What a point stores for window 12: the gradient. -/
theorem pay12_apply (g : Vec Ideal S176x1024 .f32) (w m v : Vec Ideal S1x176x1024 .f32) (r : Fin 176) (l : Fin 1024) : k0_pay1 (F := Ideal) g (ix3 0 r l) = ((g (ix2 r l)) : EReal) := by
  unfold k0_pay1
  pointwise

/-- What a point stores for window 13: the step. -/
theorem pay13_apply (g : Vec Ideal S176x1024 .f32) (w m v : Vec Ideal S1x176x1024 .f32) (r : Fin 176) (l : Fin 1024) : k0_pay2 (F := Ideal) (k0_pay12 w) (k0_pay15 g m) (k0_pay16 g v) (ix3 0 r l) = (step (w (ix3 0 r l)) (g (ix2 r l)) (m (ix3 0 r l)) (v (ix3 0 r l)) : EReal) := by
  unfold k0_pay2 k0_pay12 k0_pay15 k0_pay16 k0_pay13 k0_pay14 step nm nv
  pointwise

/-- What a point stores for window 14: the first moment. -/
theorem pay14_apply (g : Vec Ideal S176x1024 .f32) (w m v : Vec Ideal S1x176x1024 .f32) (r : Fin 176) (l : Fin 1024) : k0_pay3 (F := Ideal) (k0_pay13 g m) (ix3 0 r l) = (nm (g (ix2 r l)) (m (ix3 0 r l)) : EReal) := by
  unfold k0_pay3 k0_pay13 nm
  pointwise

/-- What a point stores for window 15: the second moment. -/
theorem pay15_apply (g : Vec Ideal S176x1024 .f32) (w m v : Vec Ideal S1x176x1024 .f32) (r : Fin 176) (l : Fin 1024) : k0_pay4 (F := Ideal) (k0_pay14 g v) (ix3 0 r l) = (nv (g (ix2 r l)) (v (ix3 0 r l)) : EReal) := by
  unfold k0_pay4 k0_pay14 nv
  pointwise

/-- The reference's array 0. -/
theorem ref8_apply (x6 : Vec Ideal S1024x1408 .f32) (x8 : Vec Ideal S4x1024x1408 .f32) (a : Fin 4) (r : Fin 1024) (l : Fin 1408) :
    val_main_v62 (F := Ideal) x6 x8 (ix3 a r l) = put (fun a r l => x8 (ix3 a r l)) (fun r l => (x6 (ix2 r l))) a r l := by
  unfold val_main_v62 val_main_v61 val_main_v60 put
  pointwise
  split <;> rfl

/-- The reference's array 1. -/
theorem ref9_apply (x0 : Vec Ideal S4x1024x1408 .f32) (x2 : Vec Ideal S4x1024x1408 .f32) (x4 : Vec Ideal S4x1024x1408 .f32) (x6 : Vec Ideal S1024x1408 .f32) (x9 : Vec Ideal S4x1024x1408 .f32) (a : Fin 4) (r : Fin 1024) (l : Fin 1408) :
    val_main_v65 (F := Ideal) x0 x2 x4 x6 x9 (ix3 a r l) = put (fun a r l => x9 (ix3 a r l)) (fun r l => (step (x0 (ix3 3 r l)) (x6 (ix2 r l)) (x2 (ix3 3 r l)) (x4 (ix3 3 r l)))) a r l := by
  unfold val_main_v65 val_main_v64 val_main_v63 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst_3 val_main_cst_0 val_main_cst val_main_cst_4 val_main_cst_2 val_main_cst_1 val_main_cst_5 val_main_cst_6 val_main_cst_7 put step nm nv
  pointwise
  split <;> rfl

/-- The reference's array 2. -/
theorem ref10_apply (x2 : Vec Ideal S4x1024x1408 .f32) (x6 : Vec Ideal S1024x1408 .f32) (x10 : Vec Ideal S4x1024x1408 .f32) (a : Fin 4) (r : Fin 1024) (l : Fin 1408) :
    val_main_v68 (F := Ideal) x2 x6 x10 (ix3 a r l) = put (fun a r l => x10 (ix3 a r l)) (fun r l => (nm (x6 (ix2 r l)) (x2 (ix3 3 r l)))) a r l := by
  unfold val_main_v68 val_main_v67 val_main_v66 val_main_v10 val_main_v9 val_main_v8 val_main_v7 val_main_v6 val_main_v3 val_main_v2 val_main_cst_0 val_main_cst put nm
  pointwise
  split <;> rfl

/-- The reference's array 3. -/
theorem ref11_apply (x4 : Vec Ideal S4x1024x1408 .f32) (x6 : Vec Ideal S1024x1408 .f32) (x11 : Vec Ideal S4x1024x1408 .f32) (a : Fin 4) (r : Fin 1024) (l : Fin 1408) :
    val_main_v71 (F := Ideal) x4 x6 x11 (ix3 a r l) = put (fun a r l => x11 (ix3 a r l)) (fun r l => (nv (x6 (ix2 r l)) (x4 (ix3 3 r l)))) a r l := by
  unfold val_main_v71 val_main_v70 val_main_v69 val_main_v16 val_main_v15 val_main_v14 val_main_v13 val_main_v12 val_main_v11 val_main_v5 val_main_v4 val_main_cst_2 val_main_cst_1 put nv
  pointwise
  split <;> rfl

/-- The reference's array 4. -/
theorem ref12_apply (x7 : Vec Ideal S704x1024 .f32) (x12 : Vec Ideal S4x704x1024 .f32) (a : Fin 4) (r : Fin 704) (l : Fin 1024) :
    val_main_v74 (F := Ideal) x7 x12 (ix3 a r l) = put (fun a r l => x12 (ix3 a r l)) (fun r l => (x7 (ix2 r l))) a r l := by
  unfold val_main_v74 val_main_v73 val_main_v72 put
  pointwise
  split <;> rfl

/-- The reference's array 5. -/
theorem ref13_apply (x1 : Vec Ideal S4x704x1024 .f32) (x3 : Vec Ideal S4x704x1024 .f32) (x5 : Vec Ideal S4x704x1024 .f32) (x7 : Vec Ideal S704x1024 .f32) (x13 : Vec Ideal S4x704x1024 .f32) (a : Fin 4) (r : Fin 704) (l : Fin 1024) :
    val_main_v77 (F := Ideal) x1 x3 x5 x7 x13 (ix3 a r l) = put (fun a r l => x13 (ix3 a r l)) (fun r l => (step (x1 (ix3 3 r l)) (x7 (ix2 r l)) (x3 (ix3 3 r l)) (x5 (ix3 3 r l)))) a r l := by
  unfold val_main_v77 val_main_v76 val_main_v75 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_cst_12 val_main_cst_9 val_main_cst_8 val_main_cst_14 val_main_cst_11 val_main_cst_10 val_main_cst_13 val_main_cst_15 val_main_cst_16 put step nm nv
  pointwise
  split <;> rfl

/-- The reference's array 6. -/
theorem ref14_apply (x3 : Vec Ideal S4x704x1024 .f32) (x7 : Vec Ideal S704x1024 .f32) (x14 : Vec Ideal S4x704x1024 .f32) (a : Fin 4) (r : Fin 704) (l : Fin 1024) :
    val_main_v80 (F := Ideal) x3 x7 x14 (ix3 a r l) = put (fun a r l => x14 (ix3 a r l)) (fun r l => (nm (x7 (ix2 r l)) (x3 (ix3 3 r l)))) a r l := by
  unfold val_main_v80 val_main_v79 val_main_v78 val_main_v40 val_main_v39 val_main_v38 val_main_v37 val_main_v36 val_main_v33 val_main_v32 val_main_cst_9 val_main_cst_8 put nm
  pointwise
  split <;> rfl

/-- The reference's array 7. -/
theorem ref15_apply (x5 : Vec Ideal S4x704x1024 .f32) (x7 : Vec Ideal S704x1024 .f32) (x15 : Vec Ideal S4x704x1024 .f32) (a : Fin 4) (r : Fin 704) (l : Fin 1024) :
    val_main_v83 (F := Ideal) x5 x7 x15 (ix3 a r l) = put (fun a r l => x15 (ix3 a r l)) (fun r l => (nv (x7 (ix2 r l)) (x5 (ix3 3 r l)))) a r l := by
  unfold val_main_v83 val_main_v82 val_main_v81 val_main_v46 val_main_v45 val_main_v44 val_main_v43 val_main_v42 val_main_v41 val_main_v35 val_main_v34 val_main_cst_11 val_main_cst_10 put nv
  pointwise
  split <;> rfl

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)
abbrev A11 (c : Dev nD) := m ((c : Thread nD τ).loc main_arg11)
abbrev A12 (c : Dev nD) := m ((c : Thread nD τ).loc main_arg12)
abbrev A13 (c : Dev nD) := m ((c : Thread nD τ).loc main_arg13)
abbrev A14 (c : Dev nD) := m ((c : Thread nD τ).loc main_arg14)
abbrev A15 (c : Dev nD) := m ((c : Thread nD τ).loc main_arg15)

theorem iblk0_apply (c : Dev nD) (t : Fin cfg0.N) (r : Fin 256) (l : Fin 1408) : iblk m c 0 t (ix3 0 r l) = A0 m c (ix3 3 (rowG t r) l) := by
  show V m c main_arg0 (((cfg0.win 0).blk t).view.emb (ix3 0 r l)) = _
  rw [V_main_arg0]
  obtain ⟨e0, e1, e2, -⟩ := idx t
  congr 1; funext a; apply Fin.ext
  match a with
  | ⟨0, _⟩ => show win0_0.index t (0 : Fin 3) * 1 + 1 * 0 = 3; omega
  | ⟨1, _⟩ => show win0_0.index t (1 : Fin 3) * 256 + 1 * r.val = t.val * 256 + r.val; omega
  | ⟨2, _⟩ => show win0_0.index t (2 : Fin 3) * 1408 + 1 * l.val = l.val; omega

theorem iblk1_apply (c : Dev nD) (t : Fin cfg0.N) (r : Fin 256) (l : Fin 1408) : iblk m c 1 t (ix3 0 r l) = A2 m c (ix3 3 (rowG t r) l) := by
  show V m c main_arg2 (((cfg0.win 1).blk t).view.emb (ix3 0 r l)) = _
  rw [V_main_arg2]
  obtain ⟨-, -, -, e0, e1, e2, -⟩ := idx t
  congr 1; funext a; apply Fin.ext
  match a with
  | ⟨0, _⟩ => show win0_1.index t (0 : Fin 3) * 1 + 1 * 0 = 3; omega
  | ⟨1, _⟩ => show win0_1.index t (1 : Fin 3) * 256 + 1 * r.val = t.val * 256 + r.val; omega
  | ⟨2, _⟩ => show win0_1.index t (2 : Fin 3) * 1408 + 1 * l.val = l.val; omega

theorem iblk2_apply (c : Dev nD) (t : Fin cfg0.N) (r : Fin 256) (l : Fin 1408) : iblk m c 2 t (ix3 0 r l) = A4 m c (ix3 3 (rowG t r) l) := by
  show V m c main_arg4 (((cfg0.win 2).blk t).view.emb (ix3 0 r l)) = _
  rw [V_main_arg4]
  obtain ⟨-, -, -, -, -, -, e0, e1, e2, -⟩ := idx t
  congr 1; funext a; apply Fin.ext
  match a with
  | ⟨0, _⟩ => show win0_2.index t (0 : Fin 3) * 1 + 1 * 0 = 3; omega
  | ⟨1, _⟩ => show win0_2.index t (1 : Fin 3) * 256 + 1 * r.val = t.val * 256 + r.val; omega
  | ⟨2, _⟩ => show win0_2.index t (2 : Fin 3) * 1408 + 1 * l.val = l.val; omega

theorem iblk3_apply (c : Dev nD) (t : Fin cfg0.N) (r : Fin 256) (l : Fin 1408) : iblk m c 3 t (ix2 r l) = A6 m c (ix2 (rowG t r) l) := by
  show V m c main_arg6 (((cfg0.win 3).blk t).view.emb (ix2 r l)) = _
  rw [V_main_arg6]
  obtain ⟨-, -, -, -, -, -, -, -, -, e1, e2, -⟩ := idx t
  congr 1; funext a; apply Fin.ext
  match a with
  | ⟨0, _⟩ => show win0_3.index t (0 : Fin 2) * 256 + 1 * r.val = t.val * 256 + r.val; omega
  | ⟨1, _⟩ => show win0_3.index t (1 : Fin 2) * 1408 + 1 * l.val = l.val; omega

theorem iblk4_apply (c : Dev nD) (t : Fin cfg0.N) (r : Fin 176) (l : Fin 1024) : iblk m c 4 t (ix3 0 r l) = A1 m c (ix3 3 (rowD t r) l) := by
  show V m c main_arg1 (((cfg0.win 4).blk t).view.emb (ix3 0 r l)) = _
  rw [V_main_arg1]
  obtain ⟨-, -, -, -, -, -, -, -, -, -, -, e0, e1, e2, -⟩ := idx t
  congr 1; funext a; apply Fin.ext
  match a with
  | ⟨0, _⟩ => show win0_4.index t (0 : Fin 3) * 1 + 1 * 0 = 3; omega
  | ⟨1, _⟩ => show win0_4.index t (1 : Fin 3) * 176 + 1 * r.val = t.val * 176 + r.val; omega
  | ⟨2, _⟩ => show win0_4.index t (2 : Fin 3) * 1024 + 1 * l.val = l.val; omega

theorem iblk5_apply (c : Dev nD) (t : Fin cfg0.N) (r : Fin 176) (l : Fin 1024) : iblk m c 5 t (ix3 0 r l) = A3 m c (ix3 3 (rowD t r) l) := by
  show V m c main_arg3 (((cfg0.win 5).blk t).view.emb (ix3 0 r l)) = _
  rw [V_main_arg3]
  obtain ⟨-, -, -, -, -, -, -, -, -, -, -, -, -, -, e0, e1, e2, -⟩ := idx t
  congr 1; funext a; apply Fin.ext
  match a with
  | ⟨0, _⟩ => show win0_5.index t (0 : Fin 3) * 1 + 1 * 0 = 3; omega
  | ⟨1, _⟩ => show win0_5.index t (1 : Fin 3) * 176 + 1 * r.val = t.val * 176 + r.val; omega
  | ⟨2, _⟩ => show win0_5.index t (2 : Fin 3) * 1024 + 1 * l.val = l.val; omega

theorem iblk6_apply (c : Dev nD) (t : Fin cfg0.N) (r : Fin 176) (l : Fin 1024) : iblk m c 6 t (ix3 0 r l) = A5 m c (ix3 3 (rowD t r) l) := by
  show V m c main_arg5 (((cfg0.win 6).blk t).view.emb (ix3 0 r l)) = _
  rw [V_main_arg5]
  obtain ⟨-, -, -, -, -, -, -, -, -, -, -, -, -, -, -, -, -, e0, e1, e2, -⟩ := idx t
  congr 1; funext a; apply Fin.ext
  match a with
  | ⟨0, _⟩ => show win0_6.index t (0 : Fin 3) * 1 + 1 * 0 = 3; omega
  | ⟨1, _⟩ => show win0_6.index t (1 : Fin 3) * 176 + 1 * r.val = t.val * 176 + r.val; omega
  | ⟨2, _⟩ => show win0_6.index t (2 : Fin 3) * 1024 + 1 * l.val = l.val; omega

theorem iblk7_apply (c : Dev nD) (t : Fin cfg0.N) (r : Fin 176) (l : Fin 1024) : iblk m c 7 t (ix2 r l) = A7 m c (ix2 (rowD t r) l) := by
  show V m c main_arg7 (((cfg0.win 7).blk t).view.emb (ix2 r l)) = _
  rw [V_main_arg7]
  obtain ⟨-, -, -, -, -, -, -, -, -, -, -, -, -, -, -, -, -, -, -, -, e1, e2, -⟩ := idx t
  congr 1; funext a; apply Fin.ext
  match a with
  | ⟨0, _⟩ => show win0_7.index t (0 : Fin 2) * 176 + 1 * r.val = t.val * 176 + r.val; omega
  | ⟨1, _⟩ => show win0_7.index t (1 : Fin 2) * 1024 + 1 * l.val = l.val; omega

/-- Where an element of window 8's block lies: in layer 3. -/
theorem emb8 (t : Fin cfg0.N) (r : Fin 256) (l : Fin 1408) :
    ((cfg0.win 8).blk t).view.emb (ix3 0 r l) = (ix3 3 (rowG t r) l : S4x1024x1408.Idx) := by
  obtain ⟨-, -, -, -, -, -, -, -, -, -, -, -, -, -, -, -, -, -, -, -, -, -, e0, e1, e2, -⟩ := idx t
  funext a; apply Fin.ext
  match a with
  | ⟨0, _⟩ => show win0_8.index t (0 : Fin 3) * 1 + 1 * 0 = 3; omega
  | ⟨1, _⟩ => show win0_8.index t (1 : Fin 3) * 256 + 1 * r.val = t.val * 256 + r.val; omega
  | ⟨2, _⟩ => show win0_8.index t (2 : Fin 3) * 1408 + 1 * l.val = l.val; omega

theorem cut8 (t : Fin cfg0.N) (X : Vec Ideal S1x256x1408 .f32) (j : S1x256x1408.Idx) : (cfg0.win 8).cut (grid0.coords t) X j = X j := rfl

/-- The array that the call is given for window 8 is what the array holds before the first point. -/
theorem entryV8 (c : Dev nD) : V m c main_v0_0 = A8 m c := by
  show StableHlo.after hostOps0 _ _ = _
  after_results_simp
  rfl

/-- What a point writes back to window 8. -/
theorem flushed8_apply (c : Dev nD) (t : Fin cfg0.N) (r : Fin 256) (l : Fin 1408) :
    (dats m 0 c).flushed 8 t (ix3 0 r l : S1x256x1408.Idx) = ((A6 m c (ix2 (rowG t r) l)) : EReal) := by
  obtain ⟨X, hX⟩ : ∃ X : EReal, X = (A6 m c (ix2 (rowG t r) l)) := ⟨_, rfl⟩
  rw [← hX, flushed8_A]
  frame_out
  rw [hX]
  refine (cut8 t _ _).trans ?_
  refine (pay8_apply (iblk m c 3 t) (iblk m c 0 t) (iblk m c 1 t) (iblk m c 2 t) r l).trans ?_
  rw [iblk3_apply]

/-- Window 8's array after the run is the reference's: layer 3 from the point that wrote it, the other layers as given. -/
theorem final8 (c : Dev nD) : (dats m 0 c).arrAt 8 cfg0.N = val_main_v62 (F := Ideal) (A6 m c) (A8 m c) := by
  funext i
  obtain ⟨a, r, l, rfl⟩ : ∃ (a : Fin 4) (r : Fin 1024) (l : Fin 1408), i = ix3 a r l := ⟨i 0, i 1, i 2, eq_ix3 i⟩
  refine Eq.trans ?_ (ref8_apply (A6 m c) (A8 m c) a r l).symm
  unfold put
  by_cases h : a.val < 3
  · rw [if_pos h]
    refine (entry8 m c _ fun t _ hm => ?_).trans (congrFun (entryV8 m c) _)
    obtain ⟨j, -, hj⟩ := Finset.mem_map.mp hm
    obtain ⟨z, r', l', rfl⟩ : ∃ (z : Fin 1) (r' : Fin 256) (l' : Fin 1408), j = ix3 z r' l' := ⟨j 0, j 1, j 2, eq_ix3 j⟩
    obtain rfl : z = 0 := Subsingleton.elim _ _
    rw [emb8] at hj
    have h3 : (3 : Nat) = a.val := congrArg (fun i : S4x1024x1408.Idx => (i 0).val) hj
    omega
  · rw [if_neg h]
    obtain rfl : a = 3 := Fin.ext (by show a.val = 3; omega)
    have hv := r.isLt
    have e := congrFun (blocks8 m c (⟨r.val / 256, by show r.val / 256 < 4; omega⟩ : Fin cfg0.N) (flush0_8 _)) (ix3 0 ⟨r.val % 256, by omega⟩ l : S1x256x1408.Idx)
    rw [flushed8_apply] at e
    have er : rowG (⟨r.val / 256, by show r.val / 256 < 4; omega⟩ : Fin cfg0.N) ⟨r.val % 256, by omega⟩ = r := Fin.ext (by show r.val / 256 * 256 + r.val % 256 = r.val; omega)
    have e2 := (congrArg ((dats m 0 c).arrAt 8 cfg0.N) (emb8 (⟨r.val / 256, by show r.val / 256 < 4; omega⟩ : Fin cfg0.N) ⟨r.val % 256, by omega⟩ l)).symm.trans e
    rw [er] at e2
    exact e2

/-- Where an element of window 9's block lies: in layer 3. -/
theorem emb9 (t : Fin cfg0.N) (r : Fin 256) (l : Fin 1408) :
    ((cfg0.win 9).blk t).view.emb (ix3 0 r l) = (ix3 3 (rowG t r) l : S4x1024x1408.Idx) := by
  obtain ⟨-, -, -, -, -, -, -, -, -, -, -, -, -, -, -, -, -, -, -, -, -, -, -, -, -, e0, e1, e2, -⟩ := idx t
  funext a; apply Fin.ext
  match a with
  | ⟨0, _⟩ => show win0_9.index t (0 : Fin 3) * 1 + 1 * 0 = 3; omega
  | ⟨1, _⟩ => show win0_9.index t (1 : Fin 3) * 256 + 1 * r.val = t.val * 256 + r.val; omega
  | ⟨2, _⟩ => show win0_9.index t (2 : Fin 3) * 1408 + 1 * l.val = l.val; omega

theorem cut9 (t : Fin cfg0.N) (X : Vec Ideal S1x256x1408 .f32) (j : S1x256x1408.Idx) : (cfg0.win 9).cut (grid0.coords t) X j = X j := rfl

/-- The array that the call is given for window 9 is what the array holds before the first point. -/
theorem entryV9 (c : Dev nD) : V m c main_v0_1 = A9 m c := by
  show StableHlo.after hostOps0 _ _ = _
  after_results_simp
  rfl

/-- What a point writes back to window 9. -/
theorem flushed9_apply (c : Dev nD) (t : Fin cfg0.N) (r : Fin 256) (l : Fin 1408) :
    (dats m 0 c).flushed 9 t (ix3 0 r l : S1x256x1408.Idx) = ((step (A0 m c (ix3 3 (rowG t r) l)) (A6 m c (ix2 (rowG t r) l)) (A2 m c (ix3 3 (rowG t r) l)) (A4 m c (ix3 3 (rowG t r) l))) : EReal) := by
  obtain ⟨X, hX⟩ : ∃ X : EReal, X = (step (A0 m c (ix3 3 (rowG t r) l)) (A6 m c (ix2 (rowG t r) l)) (A2 m c (ix3 3 (rowG t r) l)) (A4 m c (ix3 3 (rowG t r) l))) := ⟨_, rfl⟩
  rw [← hX, flushed9_A]
  frame_out
  rw [hX]
  refine (cut9 t _ _).trans ?_
  refine (pay9_apply (iblk m c 3 t) (iblk m c 0 t) (iblk m c 1 t) (iblk m c 2 t) r l).trans ?_
  rw [iblk0_apply, iblk3_apply, iblk1_apply, iblk2_apply]

/-- Window 9's array after the run is the reference's: layer 3 from the point that wrote it, the other layers as given. -/
theorem final9 (c : Dev nD) : (dats m 0 c).arrAt 9 cfg0.N = val_main_v65 (F := Ideal) (A0 m c) (A2 m c) (A4 m c) (A6 m c) (A9 m c) := by
  funext i
  obtain ⟨a, r, l, rfl⟩ : ∃ (a : Fin 4) (r : Fin 1024) (l : Fin 1408), i = ix3 a r l := ⟨i 0, i 1, i 2, eq_ix3 i⟩
  refine Eq.trans ?_ (ref9_apply (A0 m c) (A2 m c) (A4 m c) (A6 m c) (A9 m c) a r l).symm
  unfold put
  by_cases h : a.val < 3
  · rw [if_pos h]
    refine (entry9 m c _ fun t _ hm => ?_).trans (congrFun (entryV9 m c) _)
    obtain ⟨j, -, hj⟩ := Finset.mem_map.mp hm
    obtain ⟨z, r', l', rfl⟩ : ∃ (z : Fin 1) (r' : Fin 256) (l' : Fin 1408), j = ix3 z r' l' := ⟨j 0, j 1, j 2, eq_ix3 j⟩
    obtain rfl : z = 0 := Subsingleton.elim _ _
    rw [emb9] at hj
    have h3 : (3 : Nat) = a.val := congrArg (fun i : S4x1024x1408.Idx => (i 0).val) hj
    omega
  · rw [if_neg h]
    obtain rfl : a = 3 := Fin.ext (by show a.val = 3; omega)
    have hv := r.isLt
    have e := congrFun (blocks9 m c (⟨r.val / 256, by show r.val / 256 < 4; omega⟩ : Fin cfg0.N) (flush0_9 _)) (ix3 0 ⟨r.val % 256, by omega⟩ l : S1x256x1408.Idx)
    rw [flushed9_apply] at e
    have er : rowG (⟨r.val / 256, by show r.val / 256 < 4; omega⟩ : Fin cfg0.N) ⟨r.val % 256, by omega⟩ = r := Fin.ext (by show r.val / 256 * 256 + r.val % 256 = r.val; omega)
    have e2 := (congrArg ((dats m 0 c).arrAt 9 cfg0.N) (emb9 (⟨r.val / 256, by show r.val / 256 < 4; omega⟩ : Fin cfg0.N) ⟨r.val % 256, by omega⟩ l)).symm.trans e
    rw [er] at e2
    exact e2

/-- Where an element of window 10's block lies: in layer 3. -/
theorem emb10 (t : Fin cfg0.N) (r : Fin 256) (l : Fin 1408) :
    ((cfg0.win 10).blk t).view.emb (ix3 0 r l) = (ix3 3 (rowG t r) l : S4x1024x1408.Idx) := by
  obtain ⟨-, -, -, -, -, -, -, -, -, -, -, -, -, -, -, -, -, -, -, -, -, -, -, -, -, -, -, -, e0, e1, e2, -⟩ := idx t
  funext a; apply Fin.ext
  match a with
  | ⟨0, _⟩ => show win0_10.index t (0 : Fin 3) * 1 + 1 * 0 = 3; omega
  | ⟨1, _⟩ => show win0_10.index t (1 : Fin 3) * 256 + 1 * r.val = t.val * 256 + r.val; omega
  | ⟨2, _⟩ => show win0_10.index t (2 : Fin 3) * 1408 + 1 * l.val = l.val; omega

theorem cut10 (t : Fin cfg0.N) (X : Vec Ideal S1x256x1408 .f32) (j : S1x256x1408.Idx) : (cfg0.win 10).cut (grid0.coords t) X j = X j := rfl

/-- The array that the call is given for window 10 is what the array holds before the first point. -/
theorem entryV10 (c : Dev nD) : V m c main_v0_2 = A10 m c := by
  show StableHlo.after hostOps0 _ _ = _
  after_results_simp
  rfl

/-- What a point writes back to window 10. -/
theorem flushed10_apply (c : Dev nD) (t : Fin cfg0.N) (r : Fin 256) (l : Fin 1408) :
    (dats m 0 c).flushed 10 t (ix3 0 r l : S1x256x1408.Idx) = ((nm (A6 m c (ix2 (rowG t r) l)) (A2 m c (ix3 3 (rowG t r) l))) : EReal) := by
  obtain ⟨X, hX⟩ : ∃ X : EReal, X = (nm (A6 m c (ix2 (rowG t r) l)) (A2 m c (ix3 3 (rowG t r) l))) := ⟨_, rfl⟩
  rw [← hX, flushed10_A]
  frame_out
  rw [hX]
  refine (cut10 t _ _).trans ?_
  refine (pay10_apply (iblk m c 3 t) (iblk m c 0 t) (iblk m c 1 t) (iblk m c 2 t) r l).trans ?_
  rw [iblk3_apply, iblk1_apply]

/-- Window 10's array after the run is the reference's: layer 3 from the point that wrote it, the other layers as given. -/
theorem final10 (c : Dev nD) : (dats m 0 c).arrAt 10 cfg0.N = val_main_v68 (F := Ideal) (A2 m c) (A6 m c) (A10 m c) := by
  funext i
  obtain ⟨a, r, l, rfl⟩ : ∃ (a : Fin 4) (r : Fin 1024) (l : Fin 1408), i = ix3 a r l := ⟨i 0, i 1, i 2, eq_ix3 i⟩
  refine Eq.trans ?_ (ref10_apply (A2 m c) (A6 m c) (A10 m c) a r l).symm
  unfold put
  by_cases h : a.val < 3
  · rw [if_pos h]
    refine (entry10 m c _ fun t _ hm => ?_).trans (congrFun (entryV10 m c) _)
    obtain ⟨j, -, hj⟩ := Finset.mem_map.mp hm
    obtain ⟨z, r', l', rfl⟩ : ∃ (z : Fin 1) (r' : Fin 256) (l' : Fin 1408), j = ix3 z r' l' := ⟨j 0, j 1, j 2, eq_ix3 j⟩
    obtain rfl : z = 0 := Subsingleton.elim _ _
    rw [emb10] at hj
    have h3 : (3 : Nat) = a.val := congrArg (fun i : S4x1024x1408.Idx => (i 0).val) hj
    omega
  · rw [if_neg h]
    obtain rfl : a = 3 := Fin.ext (by show a.val = 3; omega)
    have hv := r.isLt
    have e := congrFun (blocks10 m c (⟨r.val / 256, by show r.val / 256 < 4; omega⟩ : Fin cfg0.N) (flush0_10 _)) (ix3 0 ⟨r.val % 256, by omega⟩ l : S1x256x1408.Idx)
    rw [flushed10_apply] at e
    have er : rowG (⟨r.val / 256, by show r.val / 256 < 4; omega⟩ : Fin cfg0.N) ⟨r.val % 256, by omega⟩ = r := Fin.ext (by show r.val / 256 * 256 + r.val % 256 = r.val; omega)
    have e2 := (congrArg ((dats m 0 c).arrAt 10 cfg0.N) (emb10 (⟨r.val / 256, by show r.val / 256 < 4; omega⟩ : Fin cfg0.N) ⟨r.val % 256, by omega⟩ l)).symm.trans e
    rw [er] at e2
    exact e2

/-- Where an element of window 11's block lies: in layer 3. -/
theorem emb11 (t : Fin cfg0.N) (r : Fin 256) (l : Fin 1408) :
    ((cfg0.win 11).blk t).view.emb (ix3 0 r l) = (ix3 3 (rowG t r) l : S4x1024x1408.Idx) := by
  obtain ⟨-, -, -, -, -, -, -, -, -, -, -, -, -, -, -, -, -, -, -, -, -, -, -, -, -, -, -, -, -, -, -, e0, e1, e2, -⟩ := idx t
  funext a; apply Fin.ext
  match a with
  | ⟨0, _⟩ => show win0_11.index t (0 : Fin 3) * 1 + 1 * 0 = 3; omega
  | ⟨1, _⟩ => show win0_11.index t (1 : Fin 3) * 256 + 1 * r.val = t.val * 256 + r.val; omega
  | ⟨2, _⟩ => show win0_11.index t (2 : Fin 3) * 1408 + 1 * l.val = l.val; omega

theorem cut11 (t : Fin cfg0.N) (X : Vec Ideal S1x256x1408 .f32) (j : S1x256x1408.Idx) : (cfg0.win 11).cut (grid0.coords t) X j = X j := rfl

/-- The array that the call is given for window 11 is what the array holds before the first point. -/
theorem entryV11 (c : Dev nD) : V m c main_v0_3 = A11 m c := by
  show StableHlo.after hostOps0 _ _ = _
  after_results_simp
  rfl

/-- What a point writes back to window 11. -/
theorem flushed11_apply (c : Dev nD) (t : Fin cfg0.N) (r : Fin 256) (l : Fin 1408) :
    (dats m 0 c).flushed 11 t (ix3 0 r l : S1x256x1408.Idx) = ((nv (A6 m c (ix2 (rowG t r) l)) (A4 m c (ix3 3 (rowG t r) l))) : EReal) := by
  obtain ⟨X, hX⟩ : ∃ X : EReal, X = (nv (A6 m c (ix2 (rowG t r) l)) (A4 m c (ix3 3 (rowG t r) l))) := ⟨_, rfl⟩
  rw [← hX, flushed11_A]
  frame_out
  rw [hX]
  refine (cut11 t _ _).trans ?_
  refine (pay11_apply (iblk m c 3 t) (iblk m c 0 t) (iblk m c 1 t) (iblk m c 2 t) r l).trans ?_
  rw [iblk3_apply, iblk2_apply]

/-- Window 11's array after the run is the reference's: layer 3 from the point that wrote it, the other layers as given. -/
theorem final11 (c : Dev nD) : (dats m 0 c).arrAt 11 cfg0.N = val_main_v71 (F := Ideal) (A4 m c) (A6 m c) (A11 m c) := by
  funext i
  obtain ⟨a, r, l, rfl⟩ : ∃ (a : Fin 4) (r : Fin 1024) (l : Fin 1408), i = ix3 a r l := ⟨i 0, i 1, i 2, eq_ix3 i⟩
  refine Eq.trans ?_ (ref11_apply (A4 m c) (A6 m c) (A11 m c) a r l).symm
  unfold put
  by_cases h : a.val < 3
  · rw [if_pos h]
    refine (entry11 m c _ fun t _ hm => ?_).trans (congrFun (entryV11 m c) _)
    obtain ⟨j, -, hj⟩ := Finset.mem_map.mp hm
    obtain ⟨z, r', l', rfl⟩ : ∃ (z : Fin 1) (r' : Fin 256) (l' : Fin 1408), j = ix3 z r' l' := ⟨j 0, j 1, j 2, eq_ix3 j⟩
    obtain rfl : z = 0 := Subsingleton.elim _ _
    rw [emb11] at hj
    have h3 : (3 : Nat) = a.val := congrArg (fun i : S4x1024x1408.Idx => (i 0).val) hj
    omega
  · rw [if_neg h]
    obtain rfl : a = 3 := Fin.ext (by show a.val = 3; omega)
    have hv := r.isLt
    have e := congrFun (blocks11 m c (⟨r.val / 256, by show r.val / 256 < 4; omega⟩ : Fin cfg0.N) (flush0_11 _)) (ix3 0 ⟨r.val % 256, by omega⟩ l : S1x256x1408.Idx)
    rw [flushed11_apply] at e
    have er : rowG (⟨r.val / 256, by show r.val / 256 < 4; omega⟩ : Fin cfg0.N) ⟨r.val % 256, by omega⟩ = r := Fin.ext (by show r.val / 256 * 256 + r.val % 256 = r.val; omega)
    have e2 := (congrArg ((dats m 0 c).arrAt 11 cfg0.N) (emb11 (⟨r.val / 256, by show r.val / 256 < 4; omega⟩ : Fin cfg0.N) ⟨r.val % 256, by omega⟩ l)).symm.trans e
    rw [er] at e2
    exact e2

/-- Where an element of window 12's block lies: in layer 3. -/
theorem emb12 (t : Fin cfg0.N) (r : Fin 176) (l : Fin 1024) :
    ((cfg0.win 12).blk t).view.emb (ix3 0 r l) = (ix3 3 (rowD t r) l : S4x704x1024.Idx) := by
  obtain ⟨-, -, -, -, -, -, -, -, -, -, -, -, -, -, -, -, -, -, -, -, -, -, -, -, -, -, -, -, -, -, -, -, -, -, e0, e1, e2, -⟩ := idx t
  funext a; apply Fin.ext
  match a with
  | ⟨0, _⟩ => show win0_12.index t (0 : Fin 3) * 1 + 1 * 0 = 3; omega
  | ⟨1, _⟩ => show win0_12.index t (1 : Fin 3) * 176 + 1 * r.val = t.val * 176 + r.val; omega
  | ⟨2, _⟩ => show win0_12.index t (2 : Fin 3) * 1024 + 1 * l.val = l.val; omega

theorem cut12 (t : Fin cfg0.N) (X : Vec Ideal S1x176x1024 .f32) (j : S1x176x1024.Idx) : (cfg0.win 12).cut (grid0.coords t) X j = X j := rfl

/-- The array that the call is given for window 12 is what the array holds before the first point. -/
theorem entryV12 (c : Dev nD) : V m c main_v0_4 = A12 m c := by
  show StableHlo.after hostOps0 _ _ = _
  after_results_simp
  rfl

/-- What a point writes back to window 12. -/
theorem flushed12_apply (c : Dev nD) (t : Fin cfg0.N) (r : Fin 176) (l : Fin 1024) :
    (dats m 0 c).flushed 12 t (ix3 0 r l : S1x176x1024.Idx) = ((A7 m c (ix2 (rowD t r) l)) : EReal) := by
  obtain ⟨X, hX⟩ : ∃ X : EReal, X = (A7 m c (ix2 (rowD t r) l)) := ⟨_, rfl⟩
  rw [← hX, flushed12_A]
  frame_out
  rw [hX]
  refine (cut12 t _ _).trans ?_
  refine (pay12_apply (iblk m c 7 t) (iblk m c 4 t) (iblk m c 5 t) (iblk m c 6 t) r l).trans ?_
  rw [iblk7_apply]

/-- Window 12's array after the run is the reference's: layer 3 from the point that wrote it, the other layers as given. -/
theorem final12 (c : Dev nD) : (dats m 0 c).arrAt 12 cfg0.N = val_main_v74 (F := Ideal) (A7 m c) (A12 m c) := by
  funext i
  obtain ⟨a, r, l, rfl⟩ : ∃ (a : Fin 4) (r : Fin 704) (l : Fin 1024), i = ix3 a r l := ⟨i 0, i 1, i 2, eq_ix3 i⟩
  refine Eq.trans ?_ (ref12_apply (A7 m c) (A12 m c) a r l).symm
  unfold put
  by_cases h : a.val < 3
  · rw [if_pos h]
    refine (entry12 m c _ fun t _ hm => ?_).trans (congrFun (entryV12 m c) _)
    obtain ⟨j, -, hj⟩ := Finset.mem_map.mp hm
    obtain ⟨z, r', l', rfl⟩ : ∃ (z : Fin 1) (r' : Fin 176) (l' : Fin 1024), j = ix3 z r' l' := ⟨j 0, j 1, j 2, eq_ix3 j⟩
    obtain rfl : z = 0 := Subsingleton.elim _ _
    rw [emb12] at hj
    have h3 : (3 : Nat) = a.val := congrArg (fun i : S4x704x1024.Idx => (i 0).val) hj
    omega
  · rw [if_neg h]
    obtain rfl : a = 3 := Fin.ext (by show a.val = 3; omega)
    have hv := r.isLt
    have e := congrFun (blocks12 m c (⟨r.val / 176, by show r.val / 176 < 4; omega⟩ : Fin cfg0.N) (flush0_12 _)) (ix3 0 ⟨r.val % 176, by omega⟩ l : S1x176x1024.Idx)
    rw [flushed12_apply] at e
    have er : rowD (⟨r.val / 176, by show r.val / 176 < 4; omega⟩ : Fin cfg0.N) ⟨r.val % 176, by omega⟩ = r := Fin.ext (by show r.val / 176 * 176 + r.val % 176 = r.val; omega)
    have e2 := (congrArg ((dats m 0 c).arrAt 12 cfg0.N) (emb12 (⟨r.val / 176, by show r.val / 176 < 4; omega⟩ : Fin cfg0.N) ⟨r.val % 176, by omega⟩ l)).symm.trans e
    rw [er] at e2
    exact e2

/-- Where an element of window 13's block lies: in layer 3. -/
theorem emb13 (t : Fin cfg0.N) (r : Fin 176) (l : Fin 1024) :
    ((cfg0.win 13).blk t).view.emb (ix3 0 r l) = (ix3 3 (rowD t r) l : S4x704x1024.Idx) := by
  obtain ⟨-, -, -, -, -, -, -, -, -, -, -, -, -, -, -, -, -, -, -, -, -, -, -, -, -, -, -, -, -, -, -, -, -, -, -, -, -, e0, e1, e2, -⟩ := idx t
  funext a; apply Fin.ext
  match a with
  | ⟨0, _⟩ => show win0_13.index t (0 : Fin 3) * 1 + 1 * 0 = 3; omega
  | ⟨1, _⟩ => show win0_13.index t (1 : Fin 3) * 176 + 1 * r.val = t.val * 176 + r.val; omega
  | ⟨2, _⟩ => show win0_13.index t (2 : Fin 3) * 1024 + 1 * l.val = l.val; omega

theorem cut13 (t : Fin cfg0.N) (X : Vec Ideal S1x176x1024 .f32) (j : S1x176x1024.Idx) : (cfg0.win 13).cut (grid0.coords t) X j = X j := rfl

/-- The array that the call is given for window 13 is what the array holds before the first point. -/
theorem entryV13 (c : Dev nD) : V m c main_v0_5 = A13 m c := by
  show StableHlo.after hostOps0 _ _ = _
  after_results_simp
  rfl

/-- What a point writes back to window 13. -/
theorem flushed13_apply (c : Dev nD) (t : Fin cfg0.N) (r : Fin 176) (l : Fin 1024) :
    (dats m 0 c).flushed 13 t (ix3 0 r l : S1x176x1024.Idx) = ((step (A1 m c (ix3 3 (rowD t r) l)) (A7 m c (ix2 (rowD t r) l)) (A3 m c (ix3 3 (rowD t r) l)) (A5 m c (ix3 3 (rowD t r) l))) : EReal) := by
  obtain ⟨X, hX⟩ : ∃ X : EReal, X = (step (A1 m c (ix3 3 (rowD t r) l)) (A7 m c (ix2 (rowD t r) l)) (A3 m c (ix3 3 (rowD t r) l)) (A5 m c (ix3 3 (rowD t r) l))) := ⟨_, rfl⟩
  rw [← hX, flushed13_A]
  frame_out
  rw [hX]
  refine (cut13 t _ _).trans ?_
  refine (pay13_apply (iblk m c 7 t) (iblk m c 4 t) (iblk m c 5 t) (iblk m c 6 t) r l).trans ?_
  rw [iblk4_apply, iblk7_apply, iblk5_apply, iblk6_apply]

/-- Window 13's array after the run is the reference's: layer 3 from the point that wrote it, the other layers as given. -/
theorem final13 (c : Dev nD) : (dats m 0 c).arrAt 13 cfg0.N = val_main_v77 (F := Ideal) (A1 m c) (A3 m c) (A5 m c) (A7 m c) (A13 m c) := by
  funext i
  obtain ⟨a, r, l, rfl⟩ : ∃ (a : Fin 4) (r : Fin 704) (l : Fin 1024), i = ix3 a r l := ⟨i 0, i 1, i 2, eq_ix3 i⟩
  refine Eq.trans ?_ (ref13_apply (A1 m c) (A3 m c) (A5 m c) (A7 m c) (A13 m c) a r l).symm
  unfold put
  by_cases h : a.val < 3
  · rw [if_pos h]
    refine (entry13 m c _ fun t _ hm => ?_).trans (congrFun (entryV13 m c) _)
    obtain ⟨j, -, hj⟩ := Finset.mem_map.mp hm
    obtain ⟨z, r', l', rfl⟩ : ∃ (z : Fin 1) (r' : Fin 176) (l' : Fin 1024), j = ix3 z r' l' := ⟨j 0, j 1, j 2, eq_ix3 j⟩
    obtain rfl : z = 0 := Subsingleton.elim _ _
    rw [emb13] at hj
    have h3 : (3 : Nat) = a.val := congrArg (fun i : S4x704x1024.Idx => (i 0).val) hj
    omega
  · rw [if_neg h]
    obtain rfl : a = 3 := Fin.ext (by show a.val = 3; omega)
    have hv := r.isLt
    have e := congrFun (blocks13 m c (⟨r.val / 176, by show r.val / 176 < 4; omega⟩ : Fin cfg0.N) (flush0_13 _)) (ix3 0 ⟨r.val % 176, by omega⟩ l : S1x176x1024.Idx)
    rw [flushed13_apply] at e
    have er : rowD (⟨r.val / 176, by show r.val / 176 < 4; omega⟩ : Fin cfg0.N) ⟨r.val % 176, by omega⟩ = r := Fin.ext (by show r.val / 176 * 176 + r.val % 176 = r.val; omega)
    have e2 := (congrArg ((dats m 0 c).arrAt 13 cfg0.N) (emb13 (⟨r.val / 176, by show r.val / 176 < 4; omega⟩ : Fin cfg0.N) ⟨r.val % 176, by omega⟩ l)).symm.trans e
    rw [er] at e2
    exact e2

/-- Where an element of window 14's block lies: in layer 3. -/
theorem emb14 (t : Fin cfg0.N) (r : Fin 176) (l : Fin 1024) :
    ((cfg0.win 14).blk t).view.emb (ix3 0 r l) = (ix3 3 (rowD t r) l : S4x704x1024.Idx) := by
  obtain ⟨-, -, -, -, -, -, -, -, -, -, -, -, -, -, -, -, -, -, -, -, -, -, -, -, -, -, -, -, -, -, -, -, -, -, -, -, -, -, -, -, e0, e1, e2, -⟩ := idx t
  funext a; apply Fin.ext
  match a with
  | ⟨0, _⟩ => show win0_14.index t (0 : Fin 3) * 1 + 1 * 0 = 3; omega
  | ⟨1, _⟩ => show win0_14.index t (1 : Fin 3) * 176 + 1 * r.val = t.val * 176 + r.val; omega
  | ⟨2, _⟩ => show win0_14.index t (2 : Fin 3) * 1024 + 1 * l.val = l.val; omega

theorem cut14 (t : Fin cfg0.N) (X : Vec Ideal S1x176x1024 .f32) (j : S1x176x1024.Idx) : (cfg0.win 14).cut (grid0.coords t) X j = X j := rfl

/-- The array that the call is given for window 14 is what the array holds before the first point. -/
theorem entryV14 (c : Dev nD) : V m c main_v0_6 = A14 m c := by
  show StableHlo.after hostOps0 _ _ = _
  after_results_simp
  rfl

/-- What a point writes back to window 14. -/
theorem flushed14_apply (c : Dev nD) (t : Fin cfg0.N) (r : Fin 176) (l : Fin 1024) :
    (dats m 0 c).flushed 14 t (ix3 0 r l : S1x176x1024.Idx) = ((nm (A7 m c (ix2 (rowD t r) l)) (A3 m c (ix3 3 (rowD t r) l))) : EReal) := by
  obtain ⟨X, hX⟩ : ∃ X : EReal, X = (nm (A7 m c (ix2 (rowD t r) l)) (A3 m c (ix3 3 (rowD t r) l))) := ⟨_, rfl⟩
  rw [← hX, flushed14_A]
  frame_out
  rw [hX]
  refine (cut14 t _ _).trans ?_
  refine (pay14_apply (iblk m c 7 t) (iblk m c 4 t) (iblk m c 5 t) (iblk m c 6 t) r l).trans ?_
  rw [iblk7_apply, iblk5_apply]

/-- Window 14's array after the run is the reference's: layer 3 from the point that wrote it, the other layers as given. -/
theorem final14 (c : Dev nD) : (dats m 0 c).arrAt 14 cfg0.N = val_main_v80 (F := Ideal) (A3 m c) (A7 m c) (A14 m c) := by
  funext i
  obtain ⟨a, r, l, rfl⟩ : ∃ (a : Fin 4) (r : Fin 704) (l : Fin 1024), i = ix3 a r l := ⟨i 0, i 1, i 2, eq_ix3 i⟩
  refine Eq.trans ?_ (ref14_apply (A3 m c) (A7 m c) (A14 m c) a r l).symm
  unfold put
  by_cases h : a.val < 3
  · rw [if_pos h]
    refine (entry14 m c _ fun t _ hm => ?_).trans (congrFun (entryV14 m c) _)
    obtain ⟨j, -, hj⟩ := Finset.mem_map.mp hm
    obtain ⟨z, r', l', rfl⟩ : ∃ (z : Fin 1) (r' : Fin 176) (l' : Fin 1024), j = ix3 z r' l' := ⟨j 0, j 1, j 2, eq_ix3 j⟩
    obtain rfl : z = 0 := Subsingleton.elim _ _
    rw [emb14] at hj
    have h3 : (3 : Nat) = a.val := congrArg (fun i : S4x704x1024.Idx => (i 0).val) hj
    omega
  · rw [if_neg h]
    obtain rfl : a = 3 := Fin.ext (by show a.val = 3; omega)
    have hv := r.isLt
    have e := congrFun (blocks14 m c (⟨r.val / 176, by show r.val / 176 < 4; omega⟩ : Fin cfg0.N) (flush0_14 _)) (ix3 0 ⟨r.val % 176, by omega⟩ l : S1x176x1024.Idx)
    rw [flushed14_apply] at e
    have er : rowD (⟨r.val / 176, by show r.val / 176 < 4; omega⟩ : Fin cfg0.N) ⟨r.val % 176, by omega⟩ = r := Fin.ext (by show r.val / 176 * 176 + r.val % 176 = r.val; omega)
    have e2 := (congrArg ((dats m 0 c).arrAt 14 cfg0.N) (emb14 (⟨r.val / 176, by show r.val / 176 < 4; omega⟩ : Fin cfg0.N) ⟨r.val % 176, by omega⟩ l)).symm.trans e
    rw [er] at e2
    exact e2

/-- Where an element of window 15's block lies: in layer 3. -/
theorem emb15 (t : Fin cfg0.N) (r : Fin 176) (l : Fin 1024) :
    ((cfg0.win 15).blk t).view.emb (ix3 0 r l) = (ix3 3 (rowD t r) l : S4x704x1024.Idx) := by
  obtain ⟨-, -, -, -, -, -, -, -, -, -, -, -, -, -, -, -, -, -, -, -, -, -, -, -, -, -, -, -, -, -, -, -, -, -, -, -, -, -, -, -, -, -, -, e0, e1, e2, -⟩ := idx t
  funext a; apply Fin.ext
  match a with
  | ⟨0, _⟩ => show win0_15.index t (0 : Fin 3) * 1 + 1 * 0 = 3; omega
  | ⟨1, _⟩ => show win0_15.index t (1 : Fin 3) * 176 + 1 * r.val = t.val * 176 + r.val; omega
  | ⟨2, _⟩ => show win0_15.index t (2 : Fin 3) * 1024 + 1 * l.val = l.val; omega

theorem cut15 (t : Fin cfg0.N) (X : Vec Ideal S1x176x1024 .f32) (j : S1x176x1024.Idx) : (cfg0.win 15).cut (grid0.coords t) X j = X j := rfl

/-- The array that the call is given for window 15 is what the array holds before the first point. -/
theorem entryV15 (c : Dev nD) : V m c main_v0_7 = A15 m c := by
  show StableHlo.after hostOps0 _ _ = _
  after_results_simp
  rfl

/-- What a point writes back to window 15. -/
theorem flushed15_apply (c : Dev nD) (t : Fin cfg0.N) (r : Fin 176) (l : Fin 1024) :
    (dats m 0 c).flushed 15 t (ix3 0 r l : S1x176x1024.Idx) = ((nv (A7 m c (ix2 (rowD t r) l)) (A5 m c (ix3 3 (rowD t r) l))) : EReal) := by
  obtain ⟨X, hX⟩ : ∃ X : EReal, X = (nv (A7 m c (ix2 (rowD t r) l)) (A5 m c (ix3 3 (rowD t r) l))) := ⟨_, rfl⟩
  rw [← hX, flushed15_A]
  frame_out
  rw [hX]
  refine (cut15 t _ _).trans ?_
  refine (pay15_apply (iblk m c 7 t) (iblk m c 4 t) (iblk m c 5 t) (iblk m c 6 t) r l).trans ?_
  rw [iblk7_apply, iblk6_apply]

/-- Window 15's array after the run is the reference's: layer 3 from the point that wrote it, the other layers as given. -/
theorem final15 (c : Dev nD) : (dats m 0 c).arrAt 15 cfg0.N = val_main_v83 (F := Ideal) (A5 m c) (A7 m c) (A15 m c) := by
  funext i
  obtain ⟨a, r, l, rfl⟩ : ∃ (a : Fin 4) (r : Fin 704) (l : Fin 1024), i = ix3 a r l := ⟨i 0, i 1, i 2, eq_ix3 i⟩
  refine Eq.trans ?_ (ref15_apply (A5 m c) (A7 m c) (A15 m c) a r l).symm
  unfold put
  by_cases h : a.val < 3
  · rw [if_pos h]
    refine (entry15 m c _ fun t _ hm => ?_).trans (congrFun (entryV15 m c) _)
    obtain ⟨j, -, hj⟩ := Finset.mem_map.mp hm
    obtain ⟨z, r', l', rfl⟩ : ∃ (z : Fin 1) (r' : Fin 176) (l' : Fin 1024), j = ix3 z r' l' := ⟨j 0, j 1, j 2, eq_ix3 j⟩
    obtain rfl : z = 0 := Subsingleton.elim _ _
    rw [emb15] at hj
    have h3 : (3 : Nat) = a.val := congrArg (fun i : S4x704x1024.Idx => (i 0).val) hj
    omega
  · rw [if_neg h]
    obtain rfl : a = 3 := Fin.ext (by show a.val = 3; omega)
    have hv := r.isLt
    have e := congrFun (blocks15 m c (⟨r.val / 176, by show r.val / 176 < 4; omega⟩ : Fin cfg0.N) (flush0_15 _)) (ix3 0 ⟨r.val % 176, by omega⟩ l : S1x176x1024.Idx)
    rw [flushed15_apply] at e
    have er : rowD (⟨r.val / 176, by show r.val / 176 < 4; omega⟩ : Fin cfg0.N) ⟨r.val % 176, by omega⟩ = r := Fin.ext (by show r.val / 176 * 176 + r.val % 176 = r.val; omega)
    have e2 := (congrArg ((dats m 0 c).arrAt 15 cfg0.N) (emb15 (⟨r.val / 176, by show r.val / 176 < 4; omega⟩ : Fin cfg0.N) ⟨r.val % 176, by omega⟩ l)).symm.trans e
    rw [er] at e2
    exact e2

end Cert.Proof.AdamL
-- ==== Proof.lean ====
/- The claims of the certificate, put together: for each call the generated frames, the reference's frame from its
   run, and the equality of the results from the module on that call. -/
module

public import proofs.«01_k».proof.Defs
public import proofs.«01_k».proof.Proof.ConvRun
public import proofs.«01_k».proof.Proof.Gen.ConvBwd.Frame
public import proofs.«01_k».proof.Proof.Gen.ConvBwdIdeal.Value
public import proofs.«01_k».proof.Proof.Gen.ConvRefIdeal.Run
public import proofs.«01_k».proof.Proof.Gen.ConvRefIdeal.Read
public import proofs.«01_k».proof.Proof.WGu
public import proofs.«01_k».proof.Proof.Gen.WGuBwd.Frame
public import proofs.«01_k».proof.Proof.Gen.WGuBwdIdeal.Value
public import proofs.«01_k».proof.Proof.Gen.WGuRefIdeal.Run
public import proofs.«01_k».proof.Proof.Gen.WGuRefIdeal.Read
public import proofs.«01_k».proof.Proof.WDown
public import proofs.«01_k».proof.Proof.Gen.WDownBwd.Frame
public import proofs.«01_k».proof.Proof.Gen.WDownBwdIdeal.Value
public import proofs.«01_k».proof.Proof.Gen.WDownRefIdeal.Run
public import proofs.«01_k».proof.Proof.Gen.WDownRefIdeal.Read
public import proofs.«01_k».proof.Proof.WIn
public import proofs.«01_k».proof.Proof.Gen.WInBwd.Frame
public import proofs.«01_k».proof.Proof.Gen.WInBwdIdeal.Value
public import proofs.«01_k».proof.Proof.Gen.WInRefIdeal.Run
public import proofs.«01_k».proof.Proof.Gen.WInRefIdeal.Read
public import proofs.«01_k».proof.Proof.WO
public import proofs.«01_k».proof.Proof.Gen.WOBwd.Frame
public import proofs.«01_k».proof.Proof.Gen.WOBwdIdeal.Value
public import proofs.«01_k».proof.Proof.Gen.WORefIdeal.Run
public import proofs.«01_k».proof.Proof.Gen.WORefIdeal.Read
public import proofs.«01_k».proof.Proof.Dx
public import proofs.«01_k».proof.Proof.Gen.DxBwd.Frame
public import proofs.«01_k».proof.Proof.Gen.DxBwdIdeal.Value
public import proofs.«01_k».proof.Proof.Gen.DxRefIdeal.Run
public import proofs.«01_k».proof.Proof.Gen.DxRefIdeal.Read
public import proofs.«01_k».proof.Proof.Mlp
public import proofs.«01_k».proof.Proof.Gen.MlpBwd
public import proofs.«01_k».proof.Proof.Gen.MlpBwdIdeal
public import proofs.«01_k».proof.Proof.MlpPre
public import proofs.«01_k».proof.Proof.MlpSame
public import proofs.«01_k».proof.Proof.Gen.MlpRefIdeal.Run
public import proofs.«01_k».proof.Proof.Gen.MlpRefIdeal.Read
public import proofs.«01_k».proof.Proof.Proj
public import proofs.«01_k».proof.Proof.Gen.ProjFwd.Frame
public import proofs.«01_k».proof.Proof.Gen.ProjFwdIdeal.Value
public import proofs.«01_k».proof.Proof.Gen.ProjRefIdeal.Run
public import proofs.«01_k».proof.Proof.Gen.ProjRefIdeal.Read
public import proofs.«01_k».proof.Proof.WoLn
public import proofs.«01_k».proof.Proof.Gen.WoLnFwd.Frame
public import proofs.«01_k».proof.Proof.Gen.WoLnFwdIdeal.Value
public import proofs.«01_k».proof.Proof.Gen.WoLnRefIdeal.Run
public import proofs.«01_k».proof.Proof.Gen.WoLnRefIdeal.Read
public import proofs.«01_k».proof.Proof.PoolF
public import proofs.«01_k».proof.Proof.PoolB
public import proofs.«01_k».proof.Proof.Gen.Pre_real_pooled
public import proofs.«01_k».proof.Proof.Gen.PoolFFwd.Frame
public import proofs.«01_k».proof.Proof.Gen.PoolFFwdIdeal.Value
public import proofs.«01_k».proof.Proof.Gen.PoolFRefIdeal.Run
public import proofs.«01_k».proof.Proof.Gen.PoolFRefIdeal.Read
public import proofs.«01_k».proof.Proof.Gen.Pre_real_pooled_back
public import proofs.«01_k».proof.Proof.Gen.PoolBwd.Frame
public import proofs.«01_k».proof.Proof.Gen.PoolBwdIdeal.Value
public import proofs.«01_k».proof.Proof.Gen.PoolRefIdeal.Run
public import proofs.«01_k».proof.Proof.Gen.PoolRefIdeal.Read
public import proofs.«01_k».proof.Proof.MlpF
public import proofs.«01_k».proof.Proof.Gen.MlpFFwd.Frame
public import proofs.«01_k».proof.Proof.Gen.MlpFFwdIdeal.Value
public import proofs.«01_k».proof.Proof.Gen.MlpFRefIdeal.Run
public import proofs.«01_k».proof.Proof.Gen.MlpFRefIdeal.Read
public import proofs.«01_k».proof.Proof.ConvF
public import proofs.«01_k».proof.Proof.Gen.ConvFFwd.Frame
public import proofs.«01_k».proof.Proof.Gen.ConvFFwdIdeal.Value
public import proofs.«01_k».proof.Proof.Gen.ConvFRefIdeal.Run
public import proofs.«01_k».proof.Proof.Gen.ConvFRefIdeal.Read
public import proofs.«01_k».proof.Proof.Loss
public import proofs.«01_k».proof.Proof.Gen.LossFwd.Frame
public import proofs.«01_k».proof.Proof.Gen.LossFwdIdeal.Value
public import proofs.«01_k».proof.Proof.Gen.LossRefIdeal.Run
public import proofs.«01_k».proof.Proof.Gen.LossRefIdeal.Read
public import proofs.«01_k».proof.Proof.AdamL
public import proofs.«01_k».proof.Proof.Gen.AdamLUpd.Frame
public import proofs.«01_k».proof.Proof.Gen.AdamLUpdIdeal.Value
public import proofs.«01_k».proof.Proof.Gen.AdamLRefIdeal.Run
public import proofs.«01_k».proof.Proof.Gen.AdamLRefIdeal.Read
public import Idealize.ShloMosaic.Adequacy
public import Idealize.ShloMosaic.Init

@[expose] public section

noncomputable section

open Idealize.ShloMosaic Idealize.SL.Sem

/-! ## Call: the short convolution -/

namespace Cert.Proof.Conv

/-- The kernel's frame on the machine's words. -/
theorem frame_p : quiescent_ConvBwd := fun m ρ _ => ConvBwd.Gen.frame m ρ
/-- The kernel's frame over extended reals. -/
theorem frame_pi : quiescent_ConvBwdIdeal := fun m ρ _ => ConvBwdIdeal.Gen.frame m ρ
/-- The reference's frame: its run, read at the arguments; a host program has no semaphore. -/
theorem frame_ri : quiescent_ConvRefIdeal := fun m ρ _ =>
  (θ_run ConvRefIdeal.defs _ _).mono (fun r h => ⟨fun c => (h c).2.2.2.2, sem_eq_zero_of_no_sems (by decide) r.2⟩)
    (ConvRefIdeal.Value.run (F := Ideal) m ρ)

/-- Kernel and reference end with equal results. -/
theorem value : algebraic_ConvBwdIdeal_ConvRefIdeal := by
  intro m ρ m' ρ' _ hag
  refine ⟨fun c => ConvRefIdeal.Read.val_main_v66 (F := Ideal) (A0 m c) (A1 m c) (A2 m c), fun c => ConvRefIdeal.Read.val_main_v67 (F := Ideal) (A0 m c) (A1 m c) (A2 m c), fun c => ConvRefIdeal.Read.val_main_v68 (F := Ideal) (A0 m c) (A1 m c) (A2 m c), fun c => ConvRefIdeal.Read.val_main_v61 (F := Ideal) (A0 m c) (A1 m c),
    (θ_run ConvBwdIdeal.defs _ _).mono (fun _ h c => ?_) (ConvBwdIdeal.Value.run_blocks (F := Ideal) m ρ),
    (θ_run ConvRefIdeal.defs _ _).mono (fun _ h c => ?_) (ConvRefIdeal.Value.run (F := Ideal) m' ρ')⟩
  · obtain ⟨h0, h1, h2, h3, ha⟩ := h c
    exact ⟨h0.trans (final5 m c), h1.trans (final6 m c), h2.trans (final7 m c), h3.trans (final8 m c), ha⟩
  · obtain ⟨h0, h1, h2, h3, ha⟩ := h c
    obtain ⟨g0, g1, g2, g3⟩ := hag c
    exact ⟨(h0.trans (ConvRefIdeal.Read.val_main_v66_eq _ _ _ )).trans (by rw [g0, g1, g2]), (h1.trans (ConvRefIdeal.Read.val_main_v67_eq _ _ _ )).trans (by rw [g0, g1, g2]), (h2.trans (ConvRefIdeal.Read.val_main_v68_eq _ _ _ )).trans (by rw [g0, g1, g2]), (h3.trans (ConvRefIdeal.Read.val_main_v61_eq _ _ )).trans (by rw [g0, g1]), ha⟩

end Cert.Proof.Conv

/-! ## Call: the gate and up weights' gradient -/

namespace Cert.Proof.WGu

/-- The kernel's frame on the machine's words. -/
theorem frame_p : quiescent_WGuBwd := fun m ρ _ => WGuBwd.Gen.frame m ρ
/-- The kernel's frame over extended reals. -/
theorem frame_pi : quiescent_WGuBwdIdeal := fun m ρ _ => WGuBwdIdeal.Gen.frame m ρ
/-- The reference's frame: its run, read at the arguments; a host program has no semaphore. -/
theorem frame_ri : quiescent_WGuRefIdeal := fun m ρ _ =>
  (θ_run WGuRefIdeal.defs _ _).mono (fun r h => ⟨fun c => (h c).2, sem_eq_zero_of_no_sems (by decide) r.2⟩)
    (WGuRefIdeal.Value.run (F := Ideal) m ρ)

/-- Kernel and reference end with equal results. -/
theorem value : algebraic_WGuBwdIdeal_WGuRefIdeal := by
  intro m ρ m' ρ' _ hag
  refine ⟨fun c => WGuRefIdeal.Read.val_main_v6 (F := Ideal) (A0 m c) (A1 m c),
    (θ_run WGuBwdIdeal.defs _ _).mono (fun _ h c => ?_) (WGuBwdIdeal.Value.run_blocks (F := Ideal) m ρ),
    (θ_run WGuRefIdeal.defs _ _).mono (fun _ h c => ?_) (WGuRefIdeal.Value.run (F := Ideal) m' ρ')⟩
  · obtain ⟨h0, ha⟩ := h c
    exact ⟨h0.trans (final2 m c), ha⟩
  · obtain ⟨h0, ha⟩ := h c
    obtain ⟨g0, g1, g2⟩ := hag c
    exact ⟨(h0.trans (WGuRefIdeal.Read.val_main_v6_eq _ _ )).trans (by rw [g0, g1]), ha⟩

end Cert.Proof.WGu

/-! ## Call: the down weights' gradient -/

namespace Cert.Proof.WDown

/-- The kernel's frame on the machine's words. -/
theorem frame_p : quiescent_WDownBwd := fun m ρ _ => WDownBwd.Gen.frame m ρ
/-- The kernel's frame over extended reals. -/
theorem frame_pi : quiescent_WDownBwdIdeal := fun m ρ _ => WDownBwdIdeal.Gen.frame m ρ
/-- The reference's frame: its run, read at the arguments; a host program has no semaphore. -/
theorem frame_ri : quiescent_WDownRefIdeal := fun m ρ _ =>
  (θ_run WDownRefIdeal.defs _ _).mono (fun r h => ⟨fun c => (h c).2, sem_eq_zero_of_no_sems (by decide) r.2⟩)
    (WDownRefIdeal.Value.run (F := Ideal) m ρ)

/-- Kernel and reference end with equal results. -/
theorem value : algebraic_WDownBwdIdeal_WDownRefIdeal := by
  intro m ρ m' ρ' _ hag
  refine ⟨fun c => WDownRefIdeal.Read.val_main_v6 (F := Ideal) (A0 m c) (A1 m c),
    (θ_run WDownBwdIdeal.defs _ _).mono (fun _ h c => ?_) (WDownBwdIdeal.Value.run_blocks (F := Ideal) m ρ),
    (θ_run WDownRefIdeal.defs _ _).mono (fun _ h c => ?_) (WDownRefIdeal.Value.run (F := Ideal) m' ρ')⟩
  · obtain ⟨h0, ha⟩ := h c
    exact ⟨h0.trans (final2 m c), ha⟩
  · obtain ⟨h0, ha⟩ := h c
    obtain ⟨g0, g1, g2⟩ := hag c
    exact ⟨(h0.trans (WDownRefIdeal.Read.val_main_v6_eq _ _ )).trans (by rw [g0, g1]), ha⟩

end Cert.Proof.WDown

/-! ## Call: the mixers' input weights' gradient -/

namespace Cert.Proof.WIn

/-- The kernel's frame on the machine's words. -/
theorem frame_p : quiescent_WInBwd := fun m ρ _ => WInBwd.Gen.frame m ρ
/-- The kernel's frame over extended reals. -/
theorem frame_pi : quiescent_WInBwdIdeal := fun m ρ _ => WInBwdIdeal.Gen.frame m ρ
/-- The reference's frame: its run, read at the arguments; a host program has no semaphore. -/
theorem frame_ri : quiescent_WInRefIdeal := fun m ρ _ =>
  (θ_run WInRefIdeal.defs _ _).mono (fun r h => ⟨fun c => (h c).2, sem_eq_zero_of_no_sems (by decide) r.2⟩)
    (WInRefIdeal.Value.run (F := Ideal) m ρ)

/-- Kernel and reference end with equal results. -/
theorem value : algebraic_WInBwdIdeal_WInRefIdeal := by
  intro m ρ m' ρ' _ hag
  refine ⟨fun c => WInRefIdeal.Read.val_main_v14 (F := Ideal) (A0 m c) (A1 m c) (A2 m c) (A3 m c) (A4 m c) (A5 m c) (A6 m c),
    (θ_run WInBwdIdeal.defs _ _).mono (fun _ h c => ?_) (WInBwdIdeal.Value.run_blocks (F := Ideal) m ρ),
    (θ_run WInRefIdeal.defs _ _).mono (fun _ h c => ?_) (WInRefIdeal.Value.run (F := Ideal) m' ρ')⟩
  · obtain ⟨h0, ha⟩ := h c
    exact ⟨h0.trans (final7 m c), ha⟩
  · obtain ⟨h0, ha⟩ := h c
    obtain ⟨g0, g1, g2, g3, g4, g5, g6⟩ := hag c
    exact ⟨(h0.trans (WInRefIdeal.Read.val_main_v14_eq _ _ _ _ _ _ _ )).trans (by rw [g0, g1, g2, g3, g4, g5, g6]), ha⟩

end Cert.Proof.WIn

/-! ## Call: the output weights' gradient -/

namespace Cert.Proof.WO

/-- The kernel's frame on the machine's words. -/
theorem frame_p : quiescent_WOBwd := fun m ρ _ => WOBwd.Gen.frame m ρ
/-- The kernel's frame over extended reals. -/
theorem frame_pi : quiescent_WOBwdIdeal := fun m ρ _ => WOBwdIdeal.Gen.frame m ρ
/-- The reference's frame: its run, read at the arguments; a host program has no semaphore. -/
theorem frame_ri : quiescent_WORefIdeal := fun m ρ _ =>
  (θ_run WORefIdeal.defs _ _).mono (fun r h => ⟨fun c => (h c).2, sem_eq_zero_of_no_sems (by decide) r.2⟩)
    (WORefIdeal.Value.run (F := Ideal) m ρ)

/-- Kernel and reference end with equal results. -/
theorem value : algebraic_WOBwdIdeal_WORefIdeal := by
  intro m ρ m' ρ' _ hag
  refine ⟨fun c => WORefIdeal.Read.val_main_v9 (F := Ideal) (A0 m c) (A1 m c) (A2 m c) (A3 m c),
    (θ_run WOBwdIdeal.defs _ _).mono (fun _ h c => ?_) (WOBwdIdeal.Value.run_blocks (F := Ideal) m ρ),
    (θ_run WORefIdeal.defs _ _).mono (fun _ h c => ?_) (WORefIdeal.Value.run (F := Ideal) m' ρ')⟩
  · obtain ⟨h0, ha⟩ := h c
    exact ⟨h0.trans (final4 m c), ha⟩
  · obtain ⟨h0, ha⟩ := h c
    obtain ⟨g0, g1, g2, g3⟩ := hag c
    exact ⟨(h0.trans (WORefIdeal.Read.val_main_v9_eq _ _ _ _ )).trans (by rw [g0, g1, g2, g3]), ha⟩

end Cert.Proof.WO

/-! ## Call: the gradient at the block's input -/

namespace Cert.Proof.Dx

/-- The kernel's frame on the machine's words. -/
theorem frame_p : quiescent_DxBwd := fun m ρ _ => DxBwd.Gen.frame m ρ
/-- The kernel's frame over extended reals. -/
theorem frame_pi : quiescent_DxBwdIdeal := fun m ρ _ => DxBwdIdeal.Gen.frame m ρ
/-- The reference's frame: its run, read at the arguments; a host program has no semaphore. -/
theorem frame_ri : quiescent_DxRefIdeal := fun m ρ _ =>
  (θ_run DxRefIdeal.defs _ _).mono (fun r h => ⟨fun c => (h c).2, sem_eq_zero_of_no_sems (by decide) r.2⟩)
    (DxRefIdeal.Value.run (F := Ideal) m ρ)

/-- Kernel and reference end with equal results. -/
theorem value : algebraic_DxBwdIdeal_DxRefIdeal := by
  intro m ρ m' ρ' _ hag
  refine ⟨fun c => DxRefIdeal.Read.val_main_v16 (F := Ideal) (A0 m c) (A1 m c) (A2 m c) (A3 m c) (A4 m c) (A5 m c) (A6 m c) (A7 m c),
    (θ_run DxBwdIdeal.defs _ _).mono (fun _ h c => ?_) (DxBwdIdeal.Value.run_blocks (F := Ideal) m ρ),
    (θ_run DxRefIdeal.defs _ _).mono (fun _ h c => ?_) (DxRefIdeal.Value.run (F := Ideal) m' ρ')⟩
  · obtain ⟨h0, ha⟩ := h c
    exact ⟨h0.trans (final8 m c), ha⟩
  · obtain ⟨h0, ha⟩ := h c
    obtain ⟨g0, g1, g2, g3, g4, g5, g6, g7, g8⟩ := hag c
    exact ⟨(h0.trans (DxRefIdeal.Read.val_main_v16_eq _ _ _ _ _ _ _ _ )).trans (by rw [g0, g1, g2, g3, g4, g5, g6, g7]), ha⟩

end Cert.Proof.Dx

/-! ## Call: the MLP and its norms -/

namespace Cert.Proof.Mlp

open Cert.MlpRefIdeal.Read

/-- The kernel's frame on the machine's words. -/
theorem frame_p : quiescent_MlpBwd := fun m ρ _ => Cert.Proof.MlpSame.frame m ρ
/-- The kernel's frame over extended reals. -/
theorem frame_pi : quiescent_MlpBwdIdeal := fun m ρ _ => Cert.Proof.MlpRun.frame m ρ
/-- The reference's frame: its run, read at the arguments; a host program has no semaphore. -/
theorem frame_ri : quiescent_MlpRefIdeal := fun m ρ _ =>
  (θ_run MlpRefIdeal.defs _ _).mono (fun r h => ⟨fun c => (h c).2.2.2.2.2.2.2.2.2.2, sem_eq_zero_of_no_sems (by decide) r.2⟩)
    (MlpRefIdeal.Value.run (F := Ideal) m ρ)

set_option maxHeartbeats 4000000 in
/-- Kernel and reference end with equal results. -/
theorem value : algebraic_MlpBwdIdeal_MlpRefIdeal_pre_real_inputs := by
  intro m ρ m' ρ' hpre hag
  refine ⟨fun c => val_main_v151 (F := Ideal) (Cert.Proof.MlpHost.A0 m c) (Cert.Proof.MlpHost.A1 m c) (Cert.Proof.MlpHost.A2 m c) (Cert.Proof.MlpHost.A3 m c) (Cert.Proof.MlpHost.A4 m c) (Cert.Proof.MlpHost.A5 m c) (Cert.Proof.MlpHost.A6 m c) (Cert.Proof.MlpHost.A7 m c) (Cert.Proof.MlpHost.A8 m c), fun c => val_main_v152 (F := Ideal) (Cert.Proof.MlpHost.A0 m c) (Cert.Proof.MlpHost.A1 m c) (Cert.Proof.MlpHost.A2 m c) (Cert.Proof.MlpHost.A3 m c) (Cert.Proof.MlpHost.A4 m c) (Cert.Proof.MlpHost.A5 m c), fun c => val_main_v153 (F := Ideal) (Cert.Proof.MlpHost.A0 m c) (Cert.Proof.MlpHost.A1 m c) (Cert.Proof.MlpHost.A2 m c) (Cert.Proof.MlpHost.A3 m c) (Cert.Proof.MlpHost.A4 m c) (Cert.Proof.MlpHost.A5 m c) (Cert.Proof.MlpHost.A6 m c) (Cert.Proof.MlpHost.A7 m c) (Cert.Proof.MlpHost.A8 m c), fun c => val_main_v149 (F := Ideal) (Cert.Proof.MlpHost.A0 m c) (Cert.Proof.MlpHost.A1 m c) (Cert.Proof.MlpHost.A2 m c) (Cert.Proof.MlpHost.A3 m c) (Cert.Proof.MlpHost.A4 m c) (Cert.Proof.MlpHost.A5 m c) (Cert.Proof.MlpHost.A6 m c) (Cert.Proof.MlpHost.A7 m c) (Cert.Proof.MlpHost.A8 m c), fun c => val_main_v154 (F := Ideal) (Cert.Proof.MlpHost.A0 m c) (Cert.Proof.MlpHost.A1 m c) (Cert.Proof.MlpHost.A2 m c) (Cert.Proof.MlpHost.A3 m c) (Cert.Proof.MlpHost.A4 m c) (Cert.Proof.MlpHost.A5 m c) (Cert.Proof.MlpHost.A6 m c) (Cert.Proof.MlpHost.A7 m c) (Cert.Proof.MlpHost.A8 m c), fun c => val_main_v150 (F := Ideal) (Cert.Proof.MlpHost.A0 m c) (Cert.Proof.MlpHost.A1 m c) (Cert.Proof.MlpHost.A2 m c) (Cert.Proof.MlpHost.A3 m c) (Cert.Proof.MlpHost.A4 m c) (Cert.Proof.MlpHost.A5 m c) (Cert.Proof.MlpHost.A6 m c) (Cert.Proof.MlpHost.A7 m c) (Cert.Proof.MlpHost.A8 m c), fun c => val_main_v155 (F := Ideal) (Cert.Proof.MlpHost.A0 m c) (Cert.Proof.MlpHost.A1 m c) (Cert.Proof.MlpHost.A2 m c) (Cert.Proof.MlpHost.A3 m c) (Cert.Proof.MlpHost.A4 m c) (Cert.Proof.MlpHost.A5 m c) (Cert.Proof.MlpHost.A6 m c) (Cert.Proof.MlpHost.A8 m c), fun c => val_main_v156 (F := Ideal) (Cert.Proof.MlpHost.A8 m c), fun c => val_main_v157 (F := Ideal) (Cert.Proof.MlpHost.A0 m c) (Cert.Proof.MlpHost.A1 m c) (Cert.Proof.MlpHost.A2 m c) (Cert.Proof.MlpHost.A3 m c) (Cert.Proof.MlpHost.A4 m c) (Cert.Proof.MlpHost.A5 m c) (Cert.Proof.MlpHost.A6 m c) (Cert.Proof.MlpHost.A7 m c) (Cert.Proof.MlpHost.A8 m c), fun c => val_main_v158 (F := Ideal) (Cert.Proof.MlpHost.A0 m c) (Cert.Proof.MlpHost.A1 m c) (Cert.Proof.MlpHost.A2 m c) (Cert.Proof.MlpHost.A3 m c) (Cert.Proof.MlpHost.A4 m c) (Cert.Proof.MlpHost.A5 m c) (Cert.Proof.MlpHost.A6 m c) (Cert.Proof.MlpHost.A7 m c) (Cert.Proof.MlpHost.A8 m c),
    (θ_run MlpBwdIdeal.defs _ _).mono (fun _ h c => ?_) (Cert.Proof.MlpRun.run_blocks (F := Ideal) m ρ),
    (θ_run MlpRefIdeal.defs _ _).mono (fun _ h c => ?_) (MlpRefIdeal.Value.run (F := Ideal) m' ρ')⟩
  · obtain ⟨h0, h1, h2, h3, h4, h5, h6, h7, h8, h9, ha⟩ := h c
    exact ⟨h0.trans (final11 m c (reals_of_pre m c (hpre c))), h1.trans (final12 m c (reals_of_pre m c (hpre c))), h2.trans (final13 m c (reals_of_pre m c (hpre c))), h3.trans (final14 m c (reals_of_pre m c (hpre c))), h4.trans (final15 m c (reals_of_pre m c (hpre c))), h5.trans (final16 m c (reals_of_pre m c (hpre c))), h6.trans (final17 m c (reals_of_pre m c (hpre c))), h7.trans (final18 m c (reals_of_pre m c (hpre c))), h8.trans (final19 m c (reals_of_pre m c (hpre c))), h9.trans (final20 m c (reals_of_pre m c (hpre c))), ha⟩
  · obtain ⟨h0, h1, h2, h3, h4, h5, h6, h7, h8, h9, ha⟩ := h c
    obtain ⟨g0, g1, g2, g3, g4, g5, g6, g7, g8, g9⟩ := hag c
    have k0 : m' ((c.tc : Thread MlpRefIdeal.nD MlpRefIdeal.τ).loc MlpRefIdeal.main_arg0) = Cert.Proof.MlpHost.A0 m c := g0
    have k1 : m' ((c.tc : Thread MlpRefIdeal.nD MlpRefIdeal.τ).loc MlpRefIdeal.main_arg1) = Cert.Proof.MlpHost.A1 m c := g1
    have k2 : m' ((c.tc : Thread MlpRefIdeal.nD MlpRefIdeal.τ).loc MlpRefIdeal.main_arg2) = Cert.Proof.MlpHost.A2 m c := g2
    have k3 : m' ((c.tc : Thread MlpRefIdeal.nD MlpRefIdeal.τ).loc MlpRefIdeal.main_arg3) = Cert.Proof.MlpHost.A3 m c := g3
    have k4 : m' ((c.tc : Thread MlpRefIdeal.nD MlpRefIdeal.τ).loc MlpRefIdeal.main_arg4) = Cert.Proof.MlpHost.A4 m c := g4
    have k5 : m' ((c.tc : Thread MlpRefIdeal.nD MlpRefIdeal.τ).loc MlpRefIdeal.main_arg5) = Cert.Proof.MlpHost.A5 m c := g5
    have k6 : m' ((c.tc : Thread MlpRefIdeal.nD MlpRefIdeal.τ).loc MlpRefIdeal.main_arg6) = Cert.Proof.MlpHost.A6 m c := g6
    have k7 : m' ((c.tc : Thread MlpRefIdeal.nD MlpRefIdeal.τ).loc MlpRefIdeal.main_arg7) = Cert.Proof.MlpHost.A7 m c := g7
    have k8 : m' ((c.tc : Thread MlpRefIdeal.nD MlpRefIdeal.τ).loc MlpRefIdeal.main_arg8) = Cert.Proof.MlpHost.A8 m c := g8
    beta_reduce
    rw [← k0, ← k1, ← k2, ← k3, ← k4, ← k5, ← k6, ← k7, ← k8]
    exact ⟨h0.trans (val_main_v151_eq _), h1.trans (val_main_v152_eq _), h2.trans (val_main_v153_eq _), h3.trans (val_main_v149_eq _), h4.trans (val_main_v154_eq _), h5.trans (val_main_v150_eq _), h6.trans (val_main_v155_eq _), h7.trans (val_main_v156_eq _), h8.trans (val_main_v157_eq _), h9.trans (val_main_v158_eq _), ha⟩

end Cert.Proof.Mlp

/-! ## Call: the product with the input weights -/

namespace Cert.Proof.Proj

/-- The kernel's frame on the machine's words. -/
theorem frame_p : quiescent_ProjFwd := fun m ρ _ => ProjFwd.Gen.frame m ρ
/-- The kernel's frame over extended reals. -/
theorem frame_pi : quiescent_ProjFwdIdeal := fun m ρ _ => ProjFwdIdeal.Gen.frame m ρ
/-- The reference's frame: its run, read at the arguments; a host program has no semaphore. -/
theorem frame_ri : quiescent_ProjRefIdeal := fun m ρ _ =>
  (θ_run ProjRefIdeal.defs _ _).mono (fun r h => ⟨fun c => (h c).2.2, sem_eq_zero_of_no_sems (by decide) r.2⟩)
    (ProjRefIdeal.Value.run (F := Ideal) m ρ)

/-- Kernel and reference end with equal results. -/
theorem value : algebraic_ProjFwdIdeal_ProjRefIdeal := by
  intro m ρ m' ρ' _ hag
  refine ⟨fun c => ProjRefIdeal.Read.val_main_v2 (F := Ideal) (A0 m c) (A1 m c), fun c => ProjRefIdeal.Read.val_main_v3 (F := Ideal) (A0 m c),
    (θ_run ProjFwdIdeal.defs _ _).mono (fun _ h c => ?_) (ProjFwdIdeal.Value.run_blocks (F := Ideal) m ρ),
    (θ_run ProjRefIdeal.defs _ _).mono (fun _ h c => ?_) (ProjRefIdeal.Value.run (F := Ideal) m' ρ')⟩
  · obtain ⟨h0, h1, ha⟩ := h c
    exact ⟨h0.trans (final2 m c), h1.trans (final3 m c), ha⟩
  · obtain ⟨h0, h1, ha⟩ := h c
    obtain ⟨g0, g1, g2⟩ := hag c
    exact ⟨(h0.trans (ProjRefIdeal.Read.val_main_v2_eq _ _ )).trans (by rw [g0, g1]), (h1.trans (ProjRefIdeal.Read.val_main_v3_eq _ )).trans (by rw [g0]), ha⟩

end Cert.Proof.Proj

/-! ## Call: the output product and the first norm -/

namespace Cert.Proof.WoLn

/-- The kernel's frame on the machine's words. -/
theorem frame_p : quiescent_WoLnFwd := fun m ρ _ => WoLnFwd.Gen.frame m ρ
/-- The kernel's frame over extended reals. -/
theorem frame_pi : quiescent_WoLnFwdIdeal := fun m ρ _ => WoLnFwdIdeal.Gen.frame m ρ
/-- The reference's frame: its run, read at the arguments; a host program has no semaphore. -/
theorem frame_ri : quiescent_WoLnRefIdeal := fun m ρ _ =>
  (θ_run WoLnRefIdeal.defs _ _).mono (fun r h => ⟨fun c => (h c).2.2.2, sem_eq_zero_of_no_sems (by decide) r.2⟩)
    (WoLnRefIdeal.Value.run (F := Ideal) m ρ)

/-- Kernel and reference end with equal results. -/
theorem value : algebraic_WoLnFwdIdeal_WoLnRefIdeal := by
  intro m ρ m' ρ' _ hag
  refine ⟨fun c => WoLnRefIdeal.Read.val_main_v26 (F := Ideal) (A0 m c) (A1 m c) (A2 m c) (A3 m c) (A4 m c), fun c => WoLnRefIdeal.Read.val_main_v22 (F := Ideal) (A0 m c) (A1 m c) (A2 m c) (A3 m c) (A4 m c), fun c => WoLnRefIdeal.Read.val_main_v31 (F := Ideal) (A0 m c) (A1 m c) (A2 m c) (A3 m c) (A4 m c) (A5 m c) (A6 m c),
    (θ_run WoLnFwdIdeal.defs _ _).mono (fun _ h c => ?_) (WoLnFwdIdeal.Value.run_blocks (F := Ideal) m ρ),
    (θ_run WoLnRefIdeal.defs _ _).mono (fun _ h c => ?_) (WoLnRefIdeal.Value.run (F := Ideal) m' ρ')⟩
  · obtain ⟨h0, h1, h2, ha⟩ := h c
    exact ⟨h0.trans (final7 m c), h1.trans (final8 m c), h2.trans (final9 m c), ha⟩
  · obtain ⟨h0, h1, h2, ha⟩ := h c
    obtain ⟨g0, g1, g2, g3, g4, g5, g6⟩ := hag c
    exact ⟨(h0.trans (WoLnRefIdeal.Read.val_main_v26_eq _ _ )).trans (by rw [g0, g1, g2, g3, g4]), (h1.trans (WoLnRefIdeal.Read.val_main_v22_eq _ _ )).trans (by rw [g0, g1, g2, g3, g4]), (h2.trans (WoLnRefIdeal.Read.val_main_v31_eq _ _ )).trans (by rw [g0, g1, g2, g3, g4, g5, g6]), ha⟩

end Cert.Proof.WoLn

/-! ## Call: the MLP's forward pass -/

namespace Cert.Proof.MlpF

open Cert.MlpFRefIdeal.Read

/-- The kernel's frame on the machine's words. -/
theorem frame_p : quiescent_MlpFFwd := fun m ρ _ => MlpFFwd.Gen.frame m ρ
/-- The kernel's frame over extended reals. -/
theorem frame_pi : quiescent_MlpFFwdIdeal := fun m ρ _ => MlpFFwdIdeal.Gen.frame m ρ
/-- The reference's frame: its run, read at the arguments; a host program has no semaphore. -/
theorem frame_ri : quiescent_MlpFRefIdeal := fun m ρ _ =>
  (θ_run MlpFRefIdeal.defs _ _).mono (fun r h => ⟨fun c => (h c).2.2.2.2, sem_eq_zero_of_no_sems (by decide) r.2⟩)
    (MlpFRefIdeal.Value.run (F := Ideal) m ρ)

/-- Kernel and reference end with equal results. -/
theorem value : algebraic_MlpFFwdIdeal_MlpFRefIdeal := by
  intro m ρ m' ρ' _ hag
  refine ⟨fun c => val_main_v5 (F := Ideal) (A0 m c) (A1 m c) (A2 m c) (A3 m c), fun c => val_main_v32 (F := Ideal) (A0 m c) (A1 m c) (A2 m c) (A3 m c) (A4 m c), fun c => val_main_v28 (F := Ideal) (A0 m c) (A1 m c) (A2 m c) (A3 m c) (A4 m c), fun c => val_main_v36 (F := Ideal) (A0 m c) (A1 m c) (A2 m c) (A3 m c) (A4 m c) (A5 m c) (A6 m c),
    (θ_run MlpFFwdIdeal.defs _ _).mono (fun _ h c => ?_) (MlpFFwdIdeal.Value.run_blocks (F := Ideal) m ρ),
    (θ_run MlpFRefIdeal.defs _ _).mono (fun _ h c => ?_) (MlpFRefIdeal.Value.run (F := Ideal) m' ρ')⟩
  · obtain ⟨h0, h1, h2, h3, ha⟩ := h c
    exact ⟨h0.trans (final7 m c), h1.trans (final8 m c), h2.trans (final9 m c), h3.trans (final10 m c), ha⟩
  · obtain ⟨h0, h1, h2, h3, ha⟩ := h c
    obtain ⟨g0, g1, g2, g3, g4, g5, g6, g7⟩ := hag c
    exact ⟨(h0.trans (val_main_v5_eq _ _ _ _ )).trans (by rw [g0, g1, g2, g3]), (h1.trans (val_main_v32_eq _ _ )).trans (by rw [g0, g1, g2, g3, g4]), (h2.trans (val_main_v28_eq _ _ )).trans (by rw [g0, g1, g2, g3, g4]), (h3.trans (val_main_v36_eq _ _ )).trans (by rw [g0, g1, g2, g3, g4, g5, g6]), ha⟩

end Cert.Proof.MlpF

/-! ## Call: the short convolution's forward pass -/

namespace Cert.Proof.ConvF

/-- The kernel's frame on the machine's words. -/
theorem frame_p : quiescent_ConvFFwd := fun m ρ _ => ConvFFwd.Gen.frame m ρ
/-- The kernel's frame over extended reals. -/
theorem frame_pi : quiescent_ConvFFwdIdeal := fun m ρ _ => ConvFFwdIdeal.Gen.frame m ρ
/-- The reference's frame: its run, read at the arguments; a host program has no semaphore. -/
theorem frame_ri : quiescent_ConvFRefIdeal := fun m ρ _ =>
  (θ_run ConvFRefIdeal.defs _ _).mono (fun r h => ⟨fun c => (h c).2, sem_eq_zero_of_no_sems (by decide) r.2⟩)
    (ConvFRefIdeal.Value.run (F := Ideal) m ρ)

/-- Kernel and reference end with equal results. -/
theorem value : algebraic_ConvFFwdIdeal_ConvFRefIdeal := by
  intro m ρ m' ρ' _ hag
  refine ⟨fun c => ConvFRefIdeal.Read.val_main_v27 (F := Ideal) (A0 m c) (A1 m c),
    (θ_run ConvFFwdIdeal.defs _ _).mono (fun _ h c => ?_) (ConvFFwdIdeal.Value.run_blocks (F := Ideal) m ρ),
    (θ_run ConvFRefIdeal.defs _ _).mono (fun _ h c => ?_) (ConvFRefIdeal.Value.run (F := Ideal) m' ρ')⟩
  · obtain ⟨h0, ha⟩ := h c
    exact ⟨h0.trans (final4 m c), ha⟩
  · obtain ⟨h0, ha⟩ := h c
    obtain ⟨g0, g1⟩ := hag c
    exact ⟨(h0.trans (ConvFRefIdeal.Read.val_main_v27_eq _ _ )).trans (by rw [g0, g1]), ha⟩

end Cert.Proof.ConvF

/-! ## Call: the loss -/

namespace Cert.Proof.Loss

/-- The kernel's frame on the machine's words. -/
theorem frame_p : quiescent_LossFwd := fun m ρ _ => LossFwd.Gen.frame m ρ
/-- The kernel's frame over extended reals. -/
theorem frame_pi : quiescent_LossFwdIdeal := fun m ρ _ => LossFwdIdeal.Gen.frame m ρ
/-- The reference's frame: its run, read at the arguments; a host program has no semaphore. -/
theorem frame_ri : quiescent_LossRefIdeal := fun m ρ _ =>
  (θ_run LossRefIdeal.defs _ _).mono (fun r h => ⟨fun c => (h c).2.2, sem_eq_zero_of_no_sems (by decide) r.2⟩)
    (LossRefIdeal.Value.run (F := Ideal) m ρ)

/-- Kernel and reference end with equal results. -/
theorem value : algebraic_LossFwdIdeal_LossRefIdeal := by
  intro m ρ m' ρ' _ hag
  refine ⟨fun c => LossRefIdeal.Read.val_main_v14 (F := Ideal) (A0 m c) (A1 m c), fun c => LossRefIdeal.Read.val_main_v18 (F := Ideal) (A0 m c) (A1 m c),
    (θ_run LossFwdIdeal.defs _ _).mono (fun _ h c => ?_) (LossFwdIdeal.Value.run_blocks (F := Ideal) m ρ),
    (θ_run LossRefIdeal.defs _ _).mono (fun _ h c => ?_) (LossRefIdeal.Value.run (F := Ideal) m' ρ')⟩
  · obtain ⟨h0, h1, ha⟩ := h c
    exact ⟨h0.trans (final2 m c), h1.trans (final3 m c), ha⟩
  · obtain ⟨h0, h1, ha⟩ := h c
    obtain ⟨g0, g1⟩ := hag c
    exact ⟨(h0.trans (LossRefIdeal.Read.val_main_v14_eq _ _ )).trans (by rw [g0, g1]), (h1.trans (LossRefIdeal.Read.val_main_v18_eq _ _ )).trans (by rw [g0, g1]), ha⟩

end Cert.Proof.Loss

/-! ## Call: AdamW of one layer's MLP weights -/

namespace Cert.Proof.AdamL

open Cert.AdamLRefIdeal.Read

/-- The kernel's frame on the machine's words. -/
theorem frame_p : quiescent_AdamLUpd := fun m ρ _ => AdamLUpd.Gen.frame m ρ
/-- The kernel's frame over extended reals. -/
theorem frame_pi : quiescent_AdamLUpdIdeal := fun m ρ _ => AdamLUpdIdeal.Gen.frame m ρ
/-- The reference's frame: its run, read at the arguments; a host program has no semaphore. -/
theorem frame_ri : quiescent_AdamLRefIdeal := fun m ρ _ =>
  (θ_run AdamLRefIdeal.defs _ _).mono (fun r h => ⟨fun c => (h c).2.2.2.2.2.2.2.2, sem_eq_zero_of_no_sems (by decide) r.2⟩)
    (AdamLRefIdeal.Value.run (F := Ideal) m ρ)

set_option maxHeartbeats 4000000 in
/-- Kernel and reference end with equal results. -/
theorem value : algebraic_AdamLUpdIdeal_AdamLRefIdeal := by
  intro m ρ m' ρ' _ hag
  refine ⟨fun c => val_main_v62 (F := Ideal) (A6 m c) (A8 m c), fun c => val_main_v65 (F := Ideal) (A0 m c) (A2 m c) (A4 m c) (A6 m c) (A9 m c), fun c => val_main_v68 (F := Ideal) (A2 m c) (A6 m c) (A10 m c), fun c => val_main_v71 (F := Ideal) (A4 m c) (A6 m c) (A11 m c), fun c => val_main_v74 (F := Ideal) (A7 m c) (A12 m c), fun c => val_main_v77 (F := Ideal) (A1 m c) (A3 m c) (A5 m c) (A7 m c) (A13 m c), fun c => val_main_v80 (F := Ideal) (A3 m c) (A7 m c) (A14 m c), fun c => val_main_v83 (F := Ideal) (A5 m c) (A7 m c) (A15 m c),
    (θ_run AdamLUpdIdeal.defs _ _).mono (fun _ h c => ?_) (AdamLUpdIdeal.Value.run_blocks (F := Ideal) m ρ),
    (θ_run AdamLRefIdeal.defs _ _).mono (fun _ h c => ?_) (AdamLRefIdeal.Value.run (F := Ideal) m' ρ')⟩
  · obtain ⟨h0, h1, h2, h3, h4, h5, h6, h7, ha⟩ := h c
    exact ⟨h0.trans (final8 m c), h1.trans (final9 m c), h2.trans (final10 m c), h3.trans (final11 m c), h4.trans (final12 m c), h5.trans (final13 m c), h6.trans (final14 m c), h7.trans (final15 m c), ha⟩
  · obtain ⟨h0, h1, h2, h3, h4, h5, h6, h7, ha⟩ := h c
    obtain ⟨g0, g1, g2, g3, g4, g5, g6, g7, g8, g9, g10, g11, g12, g13, g14, g15, g16⟩ := hag c
    exact ⟨(h0.trans (val_main_v62_eq _ _ )).trans (by rw [g6, g8]), (h1.trans (val_main_v65_eq _ _ _ _ _ )).trans (by rw [g0, g2, g4, g6, g9]), (h2.trans (val_main_v68_eq _ _ _ )).trans (by rw [g2, g6, g10]), (h3.trans (val_main_v71_eq _ _ _ )).trans (by rw [g4, g6, g11]), (h4.trans (val_main_v74_eq _ _ )).trans (by rw [g7, g12]), (h5.trans (val_main_v77_eq _ _ _ _ _ )).trans (by rw [g1, g3, g5, g7, g13]), (h6.trans (val_main_v80_eq _ _ _ )).trans (by rw [g3, g7, g14]), (h7.trans (val_main_v83_eq _ _ _ )).trans (by rw [g5, g7, g15]), ha⟩

end Cert.Proof.AdamL

/-! ## Call: the pooling mixer's forward pass -/

namespace Cert.Proof.PoolF

/-- The kernel's frame on the machine's words. -/
theorem frame_p : quiescent_PoolFFwd := fun m ρ _ => PoolFFwd.Gen.frame m ρ
/-- The kernel's frame over extended reals. -/
theorem frame_pi : quiescent_PoolFFwdIdeal := fun m ρ _ => PoolFFwdIdeal.Gen.frame m ρ
/-- The reference's frame: its run, read at the arguments; a host program has no semaphore. -/
theorem frame_ri : quiescent_PoolFRefIdeal := fun m ρ _ =>
  (θ_run PoolFRefIdeal.defs _ _).mono (fun r h => ⟨fun c => (h c).2, sem_eq_zero_of_no_sems (by decide) r.2⟩)
    (PoolFRefIdeal.Value.run (F := Ideal) m ρ)

/-- Kernel and reference end with equal results. -/
theorem value : algebraic_PoolFFwdIdeal_PoolFRefIdeal_pre_real_pooled := by
  intro m ρ m' ρ' hpre hag
  refine ⟨fun c => PoolFRefIdeal.Read.val_main_v67 (F := Ideal) (A0 m c) (A1 m c) (A2 m c),
    (θ_run PoolFFwdIdeal.defs _ _).mono (fun _ h c => ?_) (PoolFFwdIdeal.Value.run_blocks (F := Ideal) m ρ),
    (θ_run PoolFRefIdeal.defs _ _).mono (fun _ h c => ?_) (PoolFRefIdeal.Value.run (F := Ideal) m' ρ')⟩
  · obtain ⟨h0, ha⟩ := h c
    exact ⟨h0.trans (final3 m c (reals_of_pre _ _ _ (hpre c))), ha⟩
  · obtain ⟨h0, ha⟩ := h c
    obtain ⟨g0, g1, g2⟩ := hag c
    exact ⟨(h0.trans (PoolFRefIdeal.Read.val_main_v67_eq _ _)).trans (by rw [g0, g1, g2]), ha⟩

end Cert.Proof.PoolF

/-! ## Call: the pooling mixer's backward pass -/

namespace Cert.Proof.PoolB

/-- The kernel's frame on the machine's words. -/
theorem frame_p : quiescent_PoolBwd := fun m ρ _ => PoolBwd.Gen.frame m ρ
/-- The kernel's frame over extended reals. -/
theorem frame_pi : quiescent_PoolBwdIdeal := fun m ρ _ => PoolBwdIdeal.Gen.frame m ρ
/-- The reference's frame: its run, read at the arguments; a host program has no semaphore. -/
theorem frame_ri : quiescent_PoolRefIdeal := fun m ρ _ =>
  (θ_run PoolRefIdeal.defs _ _).mono (fun r h => ⟨fun c => (h c).2.2.2, sem_eq_zero_of_no_sems (by decide) r.2⟩)
    (PoolRefIdeal.Value.run (F := Ideal) m ρ)

open Cert.PoolRefIdeal.Read in
/-- Kernel and reference end with equal results. -/
theorem value : algebraic_PoolBwdIdeal_PoolRefIdeal_pre_real_pooled_back := by
  intro m ρ m' ρ' hpre hag
  refine ⟨fun c => val_main_v139 (F := Ideal) (A1 m c) (A2 m c) (A3 m c), fun c => val_main_v83 (F := Ideal) (A0 m c) (A1 m c) (A3 m c), fun c => val_main_v140 (F := Ideal) (A0 m c) (A1 m c) (A2 m c),
    (θ_run PoolBwdIdeal.defs _ _).mono (fun _ h c => ?_) (PoolBwdIdeal.Value.run_blocks (F := Ideal) m ρ),
    (θ_run PoolRefIdeal.defs _ _).mono (fun _ h c => ?_) (PoolRefIdeal.Value.run (F := Ideal) m' ρ')⟩
  · obtain ⟨h0, h1, h2, ha⟩ := h c
    obtain ⟨q0, q1, q2, q3⟩ := reals_of_pre _ _ _ _ (hpre c)
    exact ⟨h0.trans (final4 m c q1 q2 q3), h1.trans (final5 m c q0), h2.trans (final6 m c q0), ha⟩
  · obtain ⟨h0, h1, h2, ha⟩ := h c
    obtain ⟨g0, g1, g2, g3⟩ := hag c
    exact ⟨(h0.trans (val_main_v139_eq _ _)).trans (by rw [g1, g2, g3]), (h1.trans (val_main_v83_eq _ _)).trans (by rw [g0, g1, g3]), (h2.trans (val_main_v140_eq _ _)).trans (by rw [g0, g1, g2]), ha⟩

end Cert.Proof.PoolB

namespace Cert.Proof

/-- Every claim of the certificate. -/
theorem claim : Claim :=
  ⟨ConvBwd.Gen.facts, ConvBwdIdeal.Gen.facts, ConvRefIdeal.Gen.facts, WGuBwd.Gen.facts, WGuBwdIdeal.Gen.facts, WGuRefIdeal.Gen.facts, WDownBwd.Gen.facts, WDownBwdIdeal.Gen.facts, WDownRefIdeal.Gen.facts, WInBwd.Gen.facts, WInBwdIdeal.Gen.facts, WInRefIdeal.Gen.facts, WOBwd.Gen.facts, WOBwdIdeal.Gen.facts, WORefIdeal.Gen.facts, DxBwd.Gen.facts, DxBwdIdeal.Gen.facts, DxRefIdeal.Gen.facts, MlpBwd.Gen.facts, MlpBwdIdeal.Gen.facts, MlpRefIdeal.Gen.facts, ProjFwd.Gen.facts, ProjFwdIdeal.Gen.facts, ProjRefIdeal.Gen.facts, WoLnFwd.Gen.facts, WoLnFwdIdeal.Gen.facts, WoLnRefIdeal.Gen.facts, MlpFFwd.Gen.facts, MlpFFwdIdeal.Gen.facts, MlpFRefIdeal.Gen.facts, ConvFFwd.Gen.facts, ConvFFwdIdeal.Gen.facts, ConvFRefIdeal.Gen.facts, LossFwd.Gen.facts, LossFwdIdeal.Gen.facts, LossRefIdeal.Gen.facts, AdamLUpd.Gen.facts, AdamLUpdIdeal.Gen.facts, AdamLRefIdeal.Gen.facts, PoolFFwd.Gen.facts, PoolFFwdIdeal.Gen.facts, PoolFRefIdeal.Gen.facts, PoolBwd.Gen.facts, PoolBwdIdeal.Gen.facts, PoolRefIdeal.Gen.facts, Pre_real_inputs.Gen.facts, Pre_real_pooled.Gen.facts, Pre_real_pooled_back.Gen.facts,
   Conv.frame_p, Conv.frame_pi, Conv.frame_ri, WGu.frame_p, WGu.frame_pi, WGu.frame_ri, WDown.frame_p, WDown.frame_pi, WDown.frame_ri, WIn.frame_p, WIn.frame_pi, WIn.frame_ri, WO.frame_p, WO.frame_pi, WO.frame_ri, Dx.frame_p, Dx.frame_pi, Dx.frame_ri, Mlp.frame_p, Mlp.frame_pi, fun m g _ => Mlp.frame_pi m g trivial, Mlp.frame_ri, fun m g _ => Mlp.frame_ri m g trivial, Proj.frame_p, Proj.frame_pi, Proj.frame_ri, WoLn.frame_p, WoLn.frame_pi, WoLn.frame_ri, MlpF.frame_p, MlpF.frame_pi, MlpF.frame_ri, ConvF.frame_p, ConvF.frame_pi, ConvF.frame_ri, Loss.frame_p, Loss.frame_pi, Loss.frame_ri, AdamL.frame_p, AdamL.frame_pi, AdamL.frame_ri, PoolF.frame_p, PoolF.frame_pi, fun m g _ => PoolF.frame_pi m g trivial, PoolF.frame_ri, fun m g _ => PoolF.frame_ri m g trivial, PoolB.frame_p, PoolB.frame_pi, fun m g _ => PoolB.frame_pi m g trivial, PoolB.frame_ri, fun m g _ => PoolB.frame_ri m g trivial,
   trivial, Conv.value, trivial, WGu.value, trivial, WDown.value, trivial, WIn.value, trivial, WO.value, trivial, Dx.value, trivial, Mlp.value, trivial, Proj.value, trivial, WoLn.value, trivial, MlpF.value, trivial, ConvF.value, trivial, Loss.value, trivial, AdamL.value, trivial, PoolF.value, trivial, PoolB.value⟩

end Cert.Proof

end
